-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.2.2 = (fun _ => 1#1)

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2Ideal_norm2_finite [hPre_norm2_finite : Cert.Pre_norm2_finite.Facts] (m : (ℓ : Loc Cert.Norm2Ideal.nD Cert.Norm2Ideal.τ Cert.Norm2Ideal.sig) → Buf (Elt Ideal) ℓ) : Prop :=
  ∀ c : Dev Cert.Norm2Ideal.nD,
    (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4))).1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4))).2.1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4))).2.2.1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4))).2.2.2 = (fun _ => 1#1)

def Pre_Norm2RefIdeal (m : (ℓ : Loc Cert.Norm2RefIdeal.nD Cert.Norm2RefIdeal.τ Cert.Norm2RefIdeal.sig) → Buf (Elt Ideal) ℓ) : Prop :=
  True

def Pre_Norm2RefIdeal_norm2_finite [hPre_norm2_finite : Cert.Pre_norm2_finite.Facts] (m : (ℓ : Loc Cert.Norm2RefIdeal.nD Cert.Norm2RefIdeal.τ Cert.Norm2RefIdeal.sig) → Buf (Elt Ideal) ℓ) : Prop :=
  ∀ c : Dev Cert.Norm2RefIdeal.nD,
    (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4))).1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4))).2.1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4))).2.2.1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4))).2.2.2 = (fun _ => 1#1)

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1Ideal_norm1_finite [hPre_norm1_finite : Cert.Pre_norm1_finite.Facts] (m : (ℓ : Loc Cert.Norm1Ideal.nD Cert.Norm1Ideal.τ Cert.Norm1Ideal.sig) → Buf (Elt Ideal) ℓ) : Prop :=
  ∀ c : Dev Cert.Norm1Ideal.nD,
    (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4))).1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4))).2.1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4))).2.2.1 = (fun _ => 1#1)
    ∧ (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4))).2.2.2 = (fun _ => 1#1)

def Pre_Norm1RefIdeal (m : (ℓ : Loc Cert.Norm1RefIdeal.nD Cert.Norm1RefIdeal.τ Cert.Norm1RefIdeal.sig) → Buf (Elt Ideal) ℓ) : Prop :=
  True

def Pre_Norm1RefIdeal_norm1_finite [hPre_norm1_finite : Cert.Pre_norm1_finite.Facts] (m : (ℓ : Loc Cert.Norm1RefIdeal.nD Cert.Norm1RefIdeal.τ Cert.Norm1RefIdeal.sig) → Buf (Elt Ideal) ℓ) : Prop :=
  ∀ c : Dev Cert.Norm1RefIdeal.nD,
    (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4))).1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4))).2.1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4))).2.2.1 = (fun _ => 1#1)
    ∧ (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4))).2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatIdeal_lat_finite [hPre_lat_finite : Cert.Pre_lat_finite.Facts] (m : (ℓ : Loc Cert.LatIdeal.nD Cert.LatIdeal.τ Cert.LatIdeal.sig) → Buf (Elt Ideal) ℓ) : Prop :=
  ∀ c : Dev Cert.LatIdeal.nD,
    (Cert.Pre_lat_finite.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4)) (m ((c.tc : Thread Cert.LatIdeal.nD Cert.LatIdeal.τ).loc Cert.LatIdeal.main_arg5)) (m ((c.tc : Thread Cert.LatIdeal.nD Cert.LatIdeal.τ).loc Cert.LatIdeal.main_arg6)) (m ((c.tc : Thread Cert.LatIdeal.nD Cert.LatIdeal.τ).loc Cert.LatIdeal.main_arg7)) (m ((c.tc : Thread Cert.LatIdeal.nD Cert.LatIdeal.τ).loc Cert.LatIdeal.main_arg8)) (m ((c.tc : Thread Cert.LatIdeal.nD Cert.LatIdeal.τ).loc Cert.LatIdeal.main_arg9))).1 = (fun _ => 1#1)
    ∧ (Cert.Pre_lat_finite.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4)) (m ((c.tc : Thread Cert.LatIdeal.nD Cert.LatIdeal.τ).loc Cert.LatIdeal.main_arg5)) (m ((c.tc : Thread Cert.LatIdeal.nD Cert.LatIdeal.τ).loc Cert.LatIdeal.main_arg6)) (m ((c.tc : Thread Cert.LatIdeal.nD Cert.LatIdeal.τ).loc Cert.LatIdeal.main_arg7)) (m ((c.tc : Thread Cert.LatIdeal.nD Cert.LatIdeal.τ).loc Cert.LatIdeal.main_arg8)) (m ((c.tc : Thread Cert.LatIdeal.nD Cert.LatIdeal.τ).loc Cert.LatIdeal.main_arg9))).2.1 = (fun _ => 1#1)
    ∧ (Cert.Pre_lat_finite.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4)) (m ((c.tc : Thread Cert.LatIdeal.nD Cert.LatIdeal.τ).loc Cert.LatIdeal.main_arg5)) (m ((c.tc : Thread Cert.LatIdeal.nD Cert.LatIdeal.τ).loc Cert.LatIdeal.main_arg6)) (m ((c.tc : Thread Cert.LatIdeal.nD Cert.LatIdeal.τ).loc Cert.LatIdeal.main_arg7)) (m ((c.tc : Thread Cert.LatIdeal.nD Cert.LatIdeal.τ).loc Cert.LatIdeal.main_arg8)) (m ((c.tc : Thread Cert.LatIdeal.nD Cert.LatIdeal.τ).loc Cert.LatIdeal.main_arg9))).2.2.1 = (fun _ => 1#1)
    ∧ (Cert.Pre_lat_finite.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4)) (m ((c.tc : Thread Cert.LatIdeal.nD Cert.LatIdeal.τ).loc Cert.LatIdeal.main_arg5)) (m ((c.tc : Thread Cert.LatIdeal.nD Cert.LatIdeal.τ).loc Cert.LatIdeal.main_arg6)) (m ((c.tc : Thread Cert.LatIdeal.nD Cert.LatIdeal.τ).loc Cert.LatIdeal.main_arg7)) (m ((c.tc : Thread Cert.LatIdeal.nD Cert.LatIdeal.τ).loc Cert.LatIdeal.main_arg8)) (m ((c.tc : Thread Cert.LatIdeal.nD Cert.LatIdeal.τ).loc Cert.LatIdeal.main_arg9))).2.2.2.1 = (fun _ => 1#1)
    ∧ (Cert.Pre_lat_finite.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4)) (m ((c.tc : Thread Cert.LatIdeal.nD Cert.LatIdeal.τ).loc Cert.LatIdeal.main_arg5)) (m ((c.tc : Thread Cert.LatIdeal.nD Cert.LatIdeal.τ).loc Cert.LatIdeal.main_arg6)) (m ((c.tc : Thread Cert.LatIdeal.nD Cert.LatIdeal.τ).loc Cert.LatIdeal.main_arg7)) (m ((c.tc : Thread Cert.LatIdeal.nD Cert.LatIdeal.τ).loc Cert.LatIdeal.main_arg8)) (m ((c.tc : Thread Cert.LatIdeal.nD Cert.LatIdeal.τ).loc Cert.LatIdeal.main_arg9))).2.2.2.2 = (fun _ => 1#1)

def Pre_LatRefIdeal (m : (ℓ : Loc Cert.LatRefIdeal.nD Cert.LatRefIdeal.τ Cert.LatRefIdeal.sig) → Buf (Elt Ideal) ℓ) : Prop :=
  True

def Pre_LatRefIdeal_lat_finite [hPre_lat_finite : Cert.Pre_lat_finite.Facts] (m : (ℓ : Loc Cert.LatRefIdeal.nD Cert.LatRefIdeal.τ Cert.LatRefIdeal.sig) → Buf (Elt Ideal) ℓ) : Prop :=
  ∀ c : Dev Cert.LatRefIdeal.nD,
    (Cert.Pre_lat_finite.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4)) (m ((c.tc : Thread Cert.LatRefIdeal.nD Cert.LatRefIdeal.τ).loc Cert.LatRefIdeal.main_arg5)) (m ((c.tc : Thread Cert.LatRefIdeal.nD Cert.LatRefIdeal.τ).loc Cert.LatRefIdeal.main_arg6)) (m ((c.tc : Thread Cert.LatRefIdeal.nD Cert.LatRefIdeal.τ).loc Cert.LatRefIdeal.main_arg7)) (m ((c.tc : Thread Cert.LatRefIdeal.nD Cert.LatRefIdeal.τ).loc Cert.LatRefIdeal.main_arg8)) (m ((c.tc : Thread Cert.LatRefIdeal.nD Cert.LatRefIdeal.τ).loc Cert.LatRefIdeal.main_arg9))).1 = (fun _ => 1#1)
    ∧ (Cert.Pre_lat_finite.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4)) (m ((c.tc : Thread Cert.LatRefIdeal.nD Cert.LatRefIdeal.τ).loc Cert.LatRefIdeal.main_arg5)) (m ((c.tc : Thread Cert.LatRefIdeal.nD Cert.LatRefIdeal.τ).loc Cert.LatRefIdeal.main_arg6)) (m ((c.tc : Thread Cert.LatRefIdeal.nD Cert.LatRefIdeal.τ).loc Cert.LatRefIdeal.main_arg7)) (m ((c.tc : Thread Cert.LatRefIdeal.nD Cert.LatRefIdeal.τ).loc Cert.LatRefIdeal.main_arg8)) (m ((c.tc : Thread Cert.LatRefIdeal.nD Cert.LatRefIdeal.τ).loc Cert.LatRefIdeal.main_arg9))).2.1 = (fun _ => 1#1)
    ∧ (Cert.Pre_lat_finite.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4)) (m ((c.tc : Thread Cert.LatRefIdeal.nD Cert.LatRefIdeal.τ).loc Cert.LatRefIdeal.main_arg5)) (m ((c.tc : Thread Cert.LatRefIdeal.nD Cert.LatRefIdeal.τ).loc Cert.LatRefIdeal.main_arg6)) (m ((c.tc : Thread Cert.LatRefIdeal.nD Cert.LatRefIdeal.τ).loc Cert.LatRefIdeal.main_arg7)) (m ((c.tc : Thread Cert.LatRefIdeal.nD Cert.LatRefIdeal.τ).loc Cert.LatRefIdeal.main_arg8)) (m ((c.tc : Thread Cert.LatRefIdeal.nD Cert.LatRefIdeal.τ).loc Cert.LatRefIdeal.main_arg9))).2.2.1 = (fun _ => 1#1)
    ∧ (Cert.Pre_lat_finite.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4)) (m ((c.tc : Thread Cert.LatRefIdeal.nD Cert.LatRefIdeal.τ).loc Cert.LatRefIdeal.main_arg5)) (m ((c.tc : Thread Cert.LatRefIdeal.nD Cert.LatRefIdeal.τ).loc Cert.LatRefIdeal.main_arg6)) (m ((c.tc : Thread Cert.LatRefIdeal.nD Cert.LatRefIdeal.τ).loc Cert.LatRefIdeal.main_arg7)) (m ((c.tc : Thread Cert.LatRefIdeal.nD Cert.LatRefIdeal.τ).loc Cert.LatRefIdeal.main_arg8)) (m ((c.tc : Thread Cert.LatRefIdeal.nD Cert.LatRefIdeal.τ).loc Cert.LatRefIdeal.main_arg9))).2.2.2.1 = (fun _ => 1#1)
    ∧ (Cert.Pre_lat_finite.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4)) (m ((c.tc : Thread Cert.LatRefIdeal.nD Cert.LatRefIdeal.τ).loc Cert.LatRefIdeal.main_arg5)) (m ((c.tc : Thread Cert.LatRefIdeal.nD Cert.LatRefIdeal.τ).loc Cert.LatRefIdeal.main_arg6)) (m ((c.tc : Thread Cert.LatRefIdeal.nD Cert.LatRefIdeal.τ).loc Cert.LatRefIdeal.main_arg7)) (m ((c.tc : Thread Cert.LatRefIdeal.nD Cert.LatRefIdeal.τ).loc Cert.LatRefIdeal.main_arg8)) (m ((c.tc : Thread Cert.LatRefIdeal.nD Cert.LatRefIdeal.τ).loc Cert.LatRefIdeal.main_arg9))).2.2.2.2 = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_MlaFwd (m : (ℓ : Loc Cert.MlaFwd.nD Cert.MlaFwd.τ Cert.MlaFwd.sig) → Buf (Elt Bits) ℓ) : Prop :=
  True

def Pre_MlaFwdIdeal (m : (ℓ : Loc Cert.MlaFwdIdeal.nD Cert.MlaFwdIdeal.τ Cert.MlaFwdIdeal.sig) → Buf (Elt Ideal) ℓ) : Prop :=
  True

def Pre_MlaFwdIdeal_mlaf_finite [hPre_mlaf_finite : Cert.Pre_mlaf_finite.Facts] (m : (ℓ : Loc Cert.MlaFwdIdeal.nD Cert.MlaFwdIdeal.τ Cert.MlaFwdIdeal.sig) → Buf (Elt Ideal) ℓ) : Prop :=
  ∀ c : Dev Cert.MlaFwdIdeal.nD,
    (Cert.Pre_mlaf_finite.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3))).1 = (fun _ => 1#1)
    ∧ (Cert.Pre_mlaf_finite.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3))).2.1 = (fun _ => 1#1)
    ∧ (Cert.Pre_mlaf_finite.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3))).2.2 = (fun _ => 1#1)

def Pre_MlaFwdRefIdeal (m : (ℓ : Loc Cert.MlaFwdRefIdeal.nD Cert.MlaFwdRefIdeal.τ Cert.MlaFwdRefIdeal.sig) → Buf (Elt Ideal) ℓ) : Prop :=
  True

def Pre_MlaFwdRefIdeal_mlaf_finite [hPre_mlaf_finite : Cert.Pre_mlaf_finite.Facts] (m : (ℓ : Loc Cert.MlaFwdRefIdeal.nD Cert.MlaFwdRefIdeal.τ Cert.MlaFwdRefIdeal.sig) → Buf (Elt Ideal) ℓ) : Prop :=
  ∀ c : Dev Cert.MlaFwdRefIdeal.nD,
    (Cert.Pre_mlaf_finite.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3))).1 = (fun _ => 1#1)
    ∧ (Cert.Pre_mlaf_finite.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3))).2.1 = (fun _ => 1#1)
    ∧ (Cert.Pre_mlaf_finite.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3))).2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_LatFwd (m : (ℓ : Loc Cert.LatFwd.nD Cert.LatFwd.τ Cert.LatFwd.sig) → Buf (Elt Bits) ℓ) : Prop :=
  True

def Pre_LatFwdIdeal (m : (ℓ : Loc Cert.LatFwdIdeal.nD Cert.LatFwdIdeal.τ Cert.LatFwdIdeal.sig) → Buf (Elt Ideal) ℓ) : Prop :=
  True

def Pre_LatFwdRefIdeal (m : (ℓ : Loc Cert.LatFwdRefIdeal.nD Cert.LatFwdRefIdeal.τ Cert.LatFwdRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_Prod (m : (ℓ : Loc Cert.Prod.nD Cert.Prod.τ Cert.Prod.sig) → Buf (Elt Bits) ℓ) : Prop :=
  True

def Pre_ProdIdeal (m : (ℓ : Loc Cert.ProdIdeal.nD Cert.ProdIdeal.τ Cert.ProdIdeal.sig) → Buf (Elt Ideal) ℓ) : Prop :=
  True

def Pre_ProdRefIdeal (m : (ℓ : Loc Cert.ProdRefIdeal.nD Cert.ProdRefIdeal.τ Cert.ProdRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4))
      ∧ r.2.sem = fun _ => 0)

def quiescent_Norm2Ideal_pre_norm2_finite [hNorm2Ideal : Cert.Norm2Ideal.Facts] [hPre_norm2_finite : Cert.Pre_norm2_finite.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal_norm2_finite m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4))
      ∧ r.2.sem = fun _ => 0)

def quiescent_Norm2RefIdeal_pre_norm2_finite [hNorm2RefIdeal : Cert.Norm2RefIdeal.Facts] [hPre_norm2_finite : Cert.Pre_norm2_finite.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal_norm2_finite m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3)
      ∧ r.2.mem ((c.tc : Thread Cert.Norm1.nD Cert.Norm1.τ).loc Cert.Norm1.main_arg4) = m ((c.tc : Thread Cert.Norm1.nD Cert.Norm1.τ).loc Cert.Norm1.main_arg4))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4))
      ∧ r.2.sem = fun _ => 0)

def quiescent_Norm1Ideal_pre_norm1_finite [hNorm1Ideal : Cert.Norm1Ideal.Facts] [hPre_norm1_finite : Cert.Pre_norm1_finite.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal_norm1_finite m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4))
      ∧ r.2.sem = fun _ => 0)

def quiescent_Norm1RefIdeal_pre_norm1_finite [hNorm1RefIdeal : Cert.Norm1RefIdeal.Facts] [hPre_norm1_finite : Cert.Pre_norm1_finite.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal_norm1_finite m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4)
      ∧ r.2.mem ((c.tc : Thread Cert.Lat.nD Cert.Lat.τ).loc Cert.Lat.main_arg5) = m ((c.tc : Thread Cert.Lat.nD Cert.Lat.τ).loc Cert.Lat.main_arg5)
      ∧ r.2.mem ((c.tc : Thread Cert.Lat.nD Cert.Lat.τ).loc Cert.Lat.main_arg6) = m ((c.tc : Thread Cert.Lat.nD Cert.Lat.τ).loc Cert.Lat.main_arg6)
      ∧ r.2.mem ((c.tc : Thread Cert.Lat.nD Cert.Lat.τ).loc Cert.Lat.main_arg7) = m ((c.tc : Thread Cert.Lat.nD Cert.Lat.τ).loc Cert.Lat.main_arg7)
      ∧ r.2.mem ((c.tc : Thread Cert.Lat.nD Cert.Lat.τ).loc Cert.Lat.main_arg8) = m ((c.tc : Thread Cert.Lat.nD Cert.Lat.τ).loc Cert.Lat.main_arg8)
      ∧ r.2.mem ((c.tc : Thread Cert.Lat.nD Cert.Lat.τ).loc Cert.Lat.main_arg9) = m ((c.tc : Thread Cert.Lat.nD Cert.Lat.τ).loc Cert.Lat.main_arg9))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
      ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
      ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
      ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
      ∧ r.2.mem ((c.tc : Thread Cert.LatIdeal.nD Cert.LatIdeal.τ).loc Cert.LatIdeal.main_arg8) = m ((c.tc : Thread Cert.LatIdeal.nD Cert.LatIdeal.τ).loc Cert.LatIdeal.main_arg8)
      ∧ r.2.mem ((c.tc : Thread Cert.LatIdeal.nD Cert.LatIdeal.τ).loc Cert.LatIdeal.main_arg9) = m ((c.tc : Thread Cert.LatIdeal.nD Cert.LatIdeal.τ).loc Cert.LatIdeal.main_arg9))
      ∧ r.2.sem = fun _ => 0)

def quiescent_LatIdeal_pre_lat_finite [hLatIdeal : Cert.LatIdeal.Facts] [hPre_lat_finite : Cert.Pre_lat_finite.Facts] : Prop :=
  ∀ (m : (ℓ : Loc Cert.LatIdeal.nD Cert.LatIdeal.τ Cert.LatIdeal.sig) → Buf (Elt Ideal) ℓ) (g : Dev Cert.LatIdeal.nD → PrngReg), Pre_LatIdeal_lat_finite m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
      ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
      ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
      ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
      ∧ r.2.mem ((c.tc : Thread Cert.LatIdeal.nD Cert.LatIdeal.τ).loc Cert.LatIdeal.main_arg8) = m ((c.tc : Thread Cert.LatIdeal.nD Cert.LatIdeal.τ).loc Cert.LatIdeal.main_arg8)
      ∧ r.2.mem ((c.tc : Thread Cert.LatIdeal.nD Cert.LatIdeal.τ).loc Cert.LatIdeal.main_arg9) = m ((c.tc : Thread Cert.LatIdeal.nD Cert.LatIdeal.τ).loc Cert.LatIdeal.main_arg9))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m ((c.tc : Thread Cert.LatRefIdeal.nD Cert.LatRefIdeal.τ).loc Cert.LatRefIdeal.main_arg6)
      ∧ r.2.mem ((c.tc : Thread Cert.LatRefIdeal.nD Cert.LatRefIdeal.τ).loc Cert.LatRefIdeal.main_arg7) = m ((c.tc : Thread Cert.LatRefIdeal.nD Cert.LatRefIdeal.τ).loc Cert.LatRefIdeal.main_arg7)
      ∧ r.2.mem ((c.tc : Thread Cert.LatRefIdeal.nD Cert.LatRefIdeal.τ).loc Cert.LatRefIdeal.main_arg8) = m ((c.tc : Thread Cert.LatRefIdeal.nD Cert.LatRefIdeal.τ).loc Cert.LatRefIdeal.main_arg8)
      ∧ r.2.mem ((c.tc : Thread Cert.LatRefIdeal.nD Cert.LatRefIdeal.τ).loc Cert.LatRefIdeal.main_arg9) = m ((c.tc : Thread Cert.LatRefIdeal.nD Cert.LatRefIdeal.τ).loc Cert.LatRefIdeal.main_arg9))
      ∧ r.2.sem = fun _ => 0)

def quiescent_LatRefIdeal_pre_lat_finite [hLatRefIdeal : Cert.LatRefIdeal.Facts] [hPre_lat_finite : Cert.Pre_lat_finite.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal_lat_finite m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m ((c.tc : Thread Cert.LatRefIdeal.nD Cert.LatRefIdeal.τ).loc Cert.LatRefIdeal.main_arg6)
      ∧ r.2.mem ((c.tc : Thread Cert.LatRefIdeal.nD Cert.LatRefIdeal.τ).loc Cert.LatRefIdeal.main_arg7) = m ((c.tc : Thread Cert.LatRefIdeal.nD Cert.LatRefIdeal.τ).loc Cert.LatRefIdeal.main_arg7)
      ∧ r.2.mem ((c.tc : Thread Cert.LatRefIdeal.nD Cert.LatRefIdeal.τ).loc Cert.LatRefIdeal.main_arg8) = m ((c.tc : Thread Cert.LatRefIdeal.nD Cert.LatRefIdeal.τ).loc Cert.LatRefIdeal.main_arg8)
      ∧ r.2.mem ((c.tc : Thread Cert.LatRefIdeal.nD Cert.LatRefIdeal.τ).loc Cert.LatRefIdeal.main_arg9) = m ((c.tc : Thread Cert.LatRefIdeal.nD Cert.LatRefIdeal.τ).loc Cert.LatRefIdeal.main_arg9))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_MlaFwd [hMlaFwd : Cert.MlaFwd.Facts] : Prop :=
  ∀ (m : (ℓ : Loc Cert.MlaFwd.nD Cert.MlaFwd.τ Cert.MlaFwd.sig) → Buf (Elt Bits) ℓ) (g : Dev Cert.MlaFwd.nD → PrngReg), Pre_MlaFwd m →
    θ_run (Cert.MlaFwd.defs (F := Bits)) (onTc (τ := Cert.MlaFwd.τ) (Cert.MlaFwd.main (F := Bits))) ⟨m, fun _ => 0, g⟩ (fun r => (∀ c : Dev Cert.MlaFwd.nD,
      r.2.mem ((c.tc : Thread Cert.MlaFwd.nD Cert.MlaFwd.τ).loc Cert.MlaFwd.main_arg0) = m ((c.tc : Thread Cert.MlaFwd.nD Cert.MlaFwd.τ).loc Cert.MlaFwd.main_arg0)
      ∧ r.2.mem ((c.tc : Thread Cert.MlaFwd.nD Cert.MlaFwd.τ).loc Cert.MlaFwd.main_arg1) = m ((c.tc : Thread Cert.MlaFwd.nD Cert.MlaFwd.τ).loc Cert.MlaFwd.main_arg1)
      ∧ r.2.mem ((c.tc : Thread Cert.MlaFwd.nD Cert.MlaFwd.τ).loc Cert.MlaFwd.main_arg2) = m ((c.tc : Thread Cert.MlaFwd.nD Cert.MlaFwd.τ).loc Cert.MlaFwd.main_arg2)
      ∧ r.2.mem ((c.tc : Thread Cert.MlaFwd.nD Cert.MlaFwd.τ).loc Cert.MlaFwd.main_arg3) = m ((c.tc : Thread Cert.MlaFwd.nD Cert.MlaFwd.τ).loc Cert.MlaFwd.main_arg3))
      ∧ r.2.sem = fun _ => 0)

def quiescent_MlaFwdIdeal [hMlaFwdIdeal : Cert.MlaFwdIdeal.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
      ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3))
      ∧ r.2.sem = fun _ => 0)

def quiescent_MlaFwdIdeal_pre_mlaf_finite [hMlaFwdIdeal : Cert.MlaFwdIdeal.Facts] [hPre_mlaf_finite : Cert.Pre_mlaf_finite.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal_mlaf_finite m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
      ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3))
      ∧ r.2.sem = fun _ => 0)

def quiescent_MlaFwdRefIdeal [hMlaFwdRefIdeal : Cert.MlaFwdRefIdeal.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2)
      ∧ r.2.mem ((c.tc : Thread Cert.MlaFwdRefIdeal.nD Cert.MlaFwdRefIdeal.τ).loc Cert.MlaFwdRefIdeal.main_arg3) = m ((c.tc : Thread Cert.MlaFwdRefIdeal.nD Cert.MlaFwdRefIdeal.τ).loc Cert.MlaFwdRefIdeal.main_arg3))
      ∧ r.2.sem = fun _ => 0)

def quiescent_MlaFwdRefIdeal_pre_mlaf_finite [hMlaFwdRefIdeal : Cert.MlaFwdRefIdeal.Facts] [hPre_mlaf_finite : Cert.Pre_mlaf_finite.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal_mlaf_finite m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2)
      ∧ r.2.mem ((c.tc : Thread Cert.MlaFwdRefIdeal.nD Cert.MlaFwdRefIdeal.τ).loc Cert.MlaFwdRefIdeal.main_arg3) = m ((c.tc : Thread Cert.MlaFwdRefIdeal.nD Cert.MlaFwdRefIdeal.τ).loc Cert.MlaFwdRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_LatFwd [hLatFwd : Cert.LatFwd.Facts] : Prop :=
  ∀ (m : (ℓ : Loc Cert.LatFwd.nD Cert.LatFwd.τ Cert.LatFwd.sig) → Buf (Elt Bits) ℓ) (g : Dev Cert.LatFwd.nD → PrngReg), Pre_LatFwd m →
    θ_run (Cert.LatFwd.defs (F := Bits)) (onTc (τ := Cert.LatFwd.τ) (Cert.LatFwd.main (F := Bits))) ⟨m, fun _ => 0, g⟩ (fun r => (∀ c : Dev Cert.LatFwd.nD,
      r.2.mem ((c.tc : Thread Cert.LatFwd.nD Cert.LatFwd.τ).loc Cert.LatFwd.main_arg0) = m ((c.tc : Thread Cert.LatFwd.nD Cert.LatFwd.τ).loc Cert.LatFwd.main_arg0)
      ∧ r.2.mem ((c.tc : Thread Cert.LatFwd.nD Cert.LatFwd.τ).loc Cert.LatFwd.main_arg1) = m ((c.tc : Thread Cert.LatFwd.nD Cert.LatFwd.τ).loc Cert.LatFwd.main_arg1)
      ∧ r.2.mem ((c.tc : Thread Cert.LatFwd.nD Cert.LatFwd.τ).loc Cert.LatFwd.main_arg2) = m ((c.tc : Thread Cert.LatFwd.nD Cert.LatFwd.τ).loc Cert.LatFwd.main_arg2)
      ∧ r.2.mem ((c.tc : Thread Cert.LatFwd.nD Cert.LatFwd.τ).loc Cert.LatFwd.main_arg3) = m ((c.tc : Thread Cert.LatFwd.nD Cert.LatFwd.τ).loc Cert.LatFwd.main_arg3))
      ∧ r.2.sem = fun _ => 0)

def quiescent_LatFwdIdeal [hLatFwdIdeal : Cert.LatFwdIdeal.Facts] : Prop :=
  ∀ (m : (ℓ : Loc Cert.LatFwdIdeal.nD Cert.LatFwdIdeal.τ Cert.LatFwdIdeal.sig) → Buf (Elt Ideal) ℓ) (g : Dev Cert.LatFwdIdeal.nD → PrngReg), Pre_LatFwdIdeal m →
    θ_run (Cert.LatFwdIdeal.defs (F := Ideal)) (onTc (τ := Cert.LatFwdIdeal.τ) (Cert.LatFwdIdeal.main (F := Ideal))) ⟨m, fun _ => 0, g⟩ (fun r => (∀ c : Dev Cert.LatFwdIdeal.nD,
      r.2.mem ((c.tc : Thread Cert.LatFwdIdeal.nD Cert.LatFwdIdeal.τ).loc Cert.LatFwdIdeal.main_arg0) = m ((c.tc : Thread Cert.LatFwdIdeal.nD Cert.LatFwdIdeal.τ).loc Cert.LatFwdIdeal.main_arg0)
      ∧ r.2.mem ((c.tc : Thread Cert.LatFwdIdeal.nD Cert.LatFwdIdeal.τ).loc Cert.LatFwdIdeal.main_arg1) = m ((c.tc : Thread Cert.LatFwdIdeal.nD Cert.LatFwdIdeal.τ).loc Cert.LatFwdIdeal.main_arg1)
      ∧ r.2.mem ((c.tc : Thread Cert.LatFwdIdeal.nD Cert.LatFwdIdeal.τ).loc Cert.LatFwdIdeal.main_arg2) = m ((c.tc : Thread Cert.LatFwdIdeal.nD Cert.LatFwdIdeal.τ).loc Cert.LatFwdIdeal.main_arg2)
      ∧ r.2.mem ((c.tc : Thread Cert.LatFwdIdeal.nD Cert.LatFwdIdeal.τ).loc Cert.LatFwdIdeal.main_arg3) = m ((c.tc : Thread Cert.LatFwdIdeal.nD Cert.LatFwdIdeal.τ).loc Cert.LatFwdIdeal.main_arg3))
      ∧ r.2.sem = fun _ => 0)

def quiescent_LatFwdRefIdeal [hLatFwdRefIdeal : Cert.LatFwdRefIdeal.Facts] : Prop :=
  ∀ (m : (ℓ : Loc Cert.LatFwdRefIdeal.nD Cert.LatFwdRefIdeal.τ Cert.LatFwdRefIdeal.sig) → Buf (Elt Ideal) ℓ) (g : Dev Cert.LatFwdRefIdeal.nD → PrngReg), Pre_LatFwdRefIdeal m →
    θ_run (Cert.LatFwdRefIdeal.defs (F := Ideal)) (onTc (τ := Cert.LatFwdRefIdeal.τ) (Cert.LatFwdRefIdeal.main (F := Ideal))) ⟨m, fun _ => 0, g⟩ (fun r => (∀ c : Dev Cert.LatFwdRefIdeal.nD,
      r.2.mem ((c.tc : Thread Cert.LatFwdRefIdeal.nD Cert.LatFwdRefIdeal.τ).loc Cert.LatFwdRefIdeal.main_arg0) = m ((c.tc : Thread Cert.LatFwdRefIdeal.nD Cert.LatFwdRefIdeal.τ).loc Cert.LatFwdRefIdeal.main_arg0)
      ∧ r.2.mem ((c.tc : Thread Cert.LatFwdRefIdeal.nD Cert.LatFwdRefIdeal.τ).loc Cert.LatFwdRefIdeal.main_arg1) = m ((c.tc : Thread Cert.LatFwdRefIdeal.nD Cert.LatFwdRefIdeal.τ).loc Cert.LatFwdRefIdeal.main_arg1)
      ∧ r.2.mem ((c.tc : Thread Cert.LatFwdRefIdeal.nD Cert.LatFwdRefIdeal.τ).loc Cert.LatFwdRefIdeal.main_arg2) = m ((c.tc : Thread Cert.LatFwdRefIdeal.nD Cert.LatFwdRefIdeal.τ).loc Cert.LatFwdRefIdeal.main_arg2)
      ∧ r.2.mem ((c.tc : Thread Cert.LatFwdRefIdeal.nD Cert.LatFwdRefIdeal.τ).loc Cert.LatFwdRefIdeal.main_arg3) = m ((c.tc : Thread Cert.LatFwdRefIdeal.nD Cert.LatFwdRefIdeal.τ).loc Cert.LatFwdRefIdeal.main_arg3))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1)
      ∧ r.2.mem ((c.tc : Thread Cert.QUp.nD Cert.QUp.τ).loc Cert.QUp.main_arg2) = m ((c.tc : Thread Cert.QUp.nD Cert.QUp.τ).loc Cert.QUp.main_arg2))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
      ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1)
      ∧ r.2.mem ((c.tc : Thread Cert.QUpRefIdeal.nD Cert.QUpRefIdeal.τ).loc Cert.QUpRefIdeal.main_arg2) = m ((c.tc : Thread Cert.QUpRefIdeal.nD Cert.QUpRefIdeal.τ).loc Cert.QUpRefIdeal.main_arg2))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1)
      ∧ r.2.mem ((c.tc : Thread Cert.KvUp.nD Cert.KvUp.τ).loc Cert.KvUp.main_arg2) = m ((c.tc : Thread Cert.KvUp.nD Cert.KvUp.τ).loc Cert.KvUp.main_arg2))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
      ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1)
      ∧ r.2.mem ((c.tc : Thread Cert.KvUpRefIdeal.nD Cert.KvUpRefIdeal.τ).loc Cert.KvUpRefIdeal.main_arg2) = m ((c.tc : Thread Cert.KvUpRefIdeal.nD Cert.KvUpRefIdeal.τ).loc Cert.KvUpRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_Prod [hProd : Cert.Prod.Facts] : Prop :=
  ∀ (m : (ℓ : Loc Cert.Prod.nD Cert.Prod.τ Cert.Prod.sig) → Buf (Elt Bits) ℓ) (g : Dev Cert.Prod.nD → PrngReg), Pre_Prod m →
    θ_run (Cert.Prod.defs (F := Bits)) (onTc (τ := Cert.Prod.τ) (Cert.Prod.main (F := Bits))) ⟨m, fun _ => 0, g⟩ (fun r => (∀ c : Dev Cert.Prod.nD,
      r.2.mem ((c.tc : Thread Cert.Prod.nD Cert.Prod.τ).loc Cert.Prod.main_arg0) = m ((c.tc : Thread Cert.Prod.nD Cert.Prod.τ).loc Cert.Prod.main_arg0)
      ∧ r.2.mem ((c.tc : Thread Cert.Prod.nD Cert.Prod.τ).loc Cert.Prod.main_arg1) = m ((c.tc : Thread Cert.Prod.nD Cert.Prod.τ).loc Cert.Prod.main_arg1))
      ∧ r.2.sem = fun _ => 0)

def quiescent_ProdIdeal [hProdIdeal : Cert.ProdIdeal.Facts] : Prop :=
  ∀ (m : (ℓ : Loc Cert.ProdIdeal.nD Cert.ProdIdeal.τ Cert.ProdIdeal.sig) → Buf (Elt Ideal) ℓ) (g : Dev Cert.ProdIdeal.nD → PrngReg), Pre_ProdIdeal m →
    θ_run (Cert.ProdIdeal.defs (F := Ideal)) (onTc (τ := Cert.ProdIdeal.τ) (Cert.ProdIdeal.main (F := Ideal))) ⟨m, fun _ => 0, g⟩ (fun r => (∀ c : Dev Cert.ProdIdeal.nD,
      r.2.mem ((c.tc : Thread Cert.ProdIdeal.nD Cert.ProdIdeal.τ).loc Cert.ProdIdeal.main_arg0) = m ((c.tc : Thread Cert.ProdIdeal.nD Cert.ProdIdeal.τ).loc Cert.ProdIdeal.main_arg0)
      ∧ r.2.mem ((c.tc : Thread Cert.ProdIdeal.nD Cert.ProdIdeal.τ).loc Cert.ProdIdeal.main_arg1) = m ((c.tc : Thread Cert.ProdIdeal.nD Cert.ProdIdeal.τ).loc Cert.ProdIdeal.main_arg1))
      ∧ r.2.sem = fun _ => 0)

def quiescent_ProdRefIdeal [hProdRefIdeal : Cert.ProdRefIdeal.Facts] : Prop :=
  ∀ (m : (ℓ : Loc Cert.ProdRefIdeal.nD Cert.ProdRefIdeal.τ Cert.ProdRefIdeal.sig) → Buf (Elt Ideal) ℓ) (g : Dev Cert.ProdRefIdeal.nD → PrngReg), Pre_ProdRefIdeal m →
    θ_run (Cert.ProdRefIdeal.defs (F := Ideal)) (onTc (τ := Cert.ProdRefIdeal.τ) (Cert.ProdRefIdeal.main (F := Ideal))) ⟨m, fun _ => 0, g⟩ (fun r => (∀ c : Dev Cert.ProdRefIdeal.nD,
      r.2.mem ((c.tc : Thread Cert.ProdRefIdeal.nD Cert.ProdRefIdeal.τ).loc Cert.ProdRefIdeal.main_arg0) = m ((c.tc : Thread Cert.ProdRefIdeal.nD Cert.ProdRefIdeal.τ).loc Cert.ProdRefIdeal.main_arg0)
      ∧ r.2.mem ((c.tc : Thread Cert.ProdRefIdeal.nD Cert.ProdRefIdeal.τ).loc Cert.ProdRefIdeal.main_arg1) = m ((c.tc : Thread Cert.ProdRefIdeal.nD Cert.ProdRefIdeal.τ).loc Cert.ProdRefIdeal.main_arg1))
      ∧ r.2.sem = fun _ => 0)

def preserves_Gate_GateIdeal : Prop :=
  True

def algebraic_GateIdeal_GateRefIdeal_on_gate_written [hGateIdeal : Cert.GateIdeal.Facts] [hGateRefIdeal : Cert.GateRefIdeal.Facts] [hOn_gate_written : Cert.On_gate_written.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v15_0)) (v1 : (c : Dev Cert.GateIdeal.nD) → Buf (Elt Ideal) ((c.tc : Thread Cert.GateIdeal.nD Cert.GateIdeal.τ).loc Cert.GateIdeal.main_v15_1)) (v2 : (c : Dev Cert.GateIdeal.nD) → Buf (Elt Ideal) ((c.tc : Thread Cert.GateIdeal.nD Cert.GateIdeal.τ).loc Cert.GateIdeal.main_v15_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          (∀ i : (⟨2, ![4096, 4096]⟩ : Shape).Idx, (Cert.On_gate_written.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).1 i = 1#1 → r.2.mem ((c.tc : Thread Cert.GateIdeal.nD Cert.GateIdeal.τ).loc Cert.GateIdeal.main_v15_0) i = v0 c i)
          ∧ (∀ i : (⟨2, ![4096, 1024]⟩ : Shape).Idx, (Cert.On_gate_written.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.1 i = 1#1 → r.2.mem ((c.tc : Thread Cert.GateIdeal.nD Cert.GateIdeal.τ).loc Cert.GateIdeal.main_v15_1) i = v1 c i)
          ∧ (∀ i : (⟨2, ![4096, 1024]⟩ : Shape).Idx, (Cert.On_gate_written.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2 i = 1#1 → r.2.mem ((c.tc : Thread Cert.GateIdeal.nD Cert.GateIdeal.τ).loc Cert.GateIdeal.main_v15_2) i = v2 c i)
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          (∀ i : (⟨2, ![4096, 4096]⟩ : Shape).Idx, (Cert.On_gate_written.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).1 i = 1#1 → r.2.mem ((c.tc : Thread Cert.GateRefIdeal.nD Cert.GateRefIdeal.τ).loc Cert.GateRefIdeal.main_v35) i = v0 c i)
          ∧ (∀ i : (⟨2, ![4096, 1024]⟩ : Shape).Idx, (Cert.On_gate_written.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.1 i = 1#1 → r.2.mem ((c.tc : Thread Cert.GateRefIdeal.nD Cert.GateRefIdeal.τ).loc Cert.GateRefIdeal.main_v36) i = v1 c i)
          ∧ (∀ i : (⟨2, ![4096, 1024]⟩ : Shape).Idx, (Cert.On_gate_written.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))).2.2 i = 1#1 → r.2.mem ((c.tc : Thread Cert.GateRefIdeal.nD Cert.GateRefIdeal.τ).loc Cert.GateRefIdeal.main_v37) i = v2 c i)
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Mla_MlaIdeal : Prop :=
  IdealRules.named_const.Statement Cert.MlaIdeal.κ "mla_scale" .f32 0x3D93CD3A#32 (((Real.sqrt 192)⁻¹ : ℝ) : EReal)
  ∧ IdealRules.named_const.Statement Cert.MlaIdeal.κ "ln2" .f32 0x3F317218#32 ((Real.log 2 : ℝ) : EReal)

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v83_0)) (v1 : (c : Dev Cert.MlaIdeal.nD) → Buf (Elt Ideal) ((c.tc : Thread Cert.MlaIdeal.nD Cert.MlaIdeal.τ).loc Cert.MlaIdeal.main_v83_1)) (v2 : (c : Dev Cert.MlaIdeal.nD) → Buf (Elt Ideal) ((c.tc : Thread Cert.MlaIdeal.nD Cert.MlaIdeal.τ).loc Cert.MlaIdeal.main_v83_2)) (v3 : (c : Dev Cert.MlaIdeal.nD) → Buf (Elt Ideal) ((c.tc : Thread Cert.MlaIdeal.nD Cert.MlaIdeal.τ).loc Cert.MlaIdeal.main_v83_3)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v83_0) = v0 c
          ∧ r.2.mem ((c.tc : Thread Cert.MlaIdeal.nD Cert.MlaIdeal.τ).loc Cert.MlaIdeal.main_v83_1) = v1 c
          ∧ r.2.mem ((c.tc : Thread Cert.MlaIdeal.nD Cert.MlaIdeal.τ).loc Cert.MlaIdeal.main_v83_2) = v2 c
          ∧ r.2.mem ((c.tc : Thread Cert.MlaIdeal.nD Cert.MlaIdeal.τ).loc Cert.MlaIdeal.main_v83_3) = v3 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v153) = v0 c
          ∧ r.2.mem ((c.tc : Thread Cert.MlaRefIdeal.nD Cert.MlaRefIdeal.τ).loc Cert.MlaRefIdeal.main_v154) = v1 c
          ∧ r.2.mem ((c.tc : Thread Cert.MlaRefIdeal.nD Cert.MlaRefIdeal.τ).loc Cert.MlaRefIdeal.main_v155) = v2 c
          ∧ r.2.mem ((c.tc : Thread Cert.MlaRefIdeal.nD Cert.MlaRefIdeal.τ).loc Cert.MlaRefIdeal.main_v158) = v3 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_Norm2_Norm2Ideal : Prop :=
  True

def algebraic_Norm2Ideal_Norm2RefIdeal_pre_norm2_finite [hNorm2Ideal : Cert.Norm2Ideal.Facts] [hNorm2RefIdeal : Cert.Norm2RefIdeal.Facts] [hPre_norm2_finite : Cert.Pre_norm2_finite.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal_norm2_finite m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)
      ∧ m' ((c.tc : Thread Cert.Norm2RefIdeal.nD Cert.Norm2RefIdeal.τ).loc Cert.Norm2RefIdeal.main_arg4) = m ((c.tc : Thread Cert.Norm2Ideal.nD Cert.Norm2Ideal.τ).loc Cert.Norm2Ideal.main_arg4)) →
    ∃ (v0 : (c : Dev Cert.Norm2Ideal.nD) → Buf (Elt Ideal) ((c.tc : Thread Cert.Norm2Ideal.nD Cert.Norm2Ideal.τ).loc Cert.Norm2Ideal.main_v6_0)) (v1 : (c : Dev Cert.Norm2Ideal.nD) → Buf (Elt Ideal) ((c.tc : Thread Cert.Norm2Ideal.nD Cert.Norm2Ideal.τ).loc Cert.Norm2Ideal.main_v6_1)) (v2 : (c : Dev Cert.Norm2Ideal.nD) → Buf (Elt Ideal) ((c.tc : Thread Cert.Norm2Ideal.nD Cert.Norm2Ideal.τ).loc Cert.Norm2Ideal.main_v6_2)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v6_0) = v0 c
          ∧ r.2.mem ((c.tc : Thread Cert.Norm2Ideal.nD Cert.Norm2Ideal.τ).loc Cert.Norm2Ideal.main_v6_1) = v1 c
          ∧ r.2.mem ((c.tc : Thread Cert.Norm2Ideal.nD Cert.Norm2Ideal.τ).loc Cert.Norm2Ideal.main_v6_2) = v2 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v38) = v0 c
          ∧ r.2.mem ((c.tc : Thread Cert.Norm2RefIdeal.nD Cert.Norm2RefIdeal.τ).loc Cert.Norm2RefIdeal.main_v39) = v1 c
          ∧ r.2.mem ((c.tc : Thread Cert.Norm2RefIdeal.nD Cert.Norm2RefIdeal.τ).loc Cert.Norm2RefIdeal.main_v21) = v2 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3)
          ∧ r.2.mem ((c.tc : Thread Cert.Norm2RefIdeal.nD Cert.Norm2RefIdeal.τ).loc Cert.Norm2RefIdeal.main_arg4) = m' ((c.tc : Thread Cert.Norm2RefIdeal.nD Cert.Norm2RefIdeal.τ).loc Cert.Norm2RefIdeal.main_arg4))

def preserves_Norm1_Norm1Ideal : Prop :=
  True

def algebraic_Norm1Ideal_Norm1RefIdeal_pre_norm1_finite [hNorm1Ideal : Cert.Norm1Ideal.Facts] [hNorm1RefIdeal : Cert.Norm1RefIdeal.Facts] [hPre_norm1_finite : Cert.Pre_norm1_finite.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal_norm1_finite m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)
      ∧ m' ((c.tc : Thread Cert.Norm1RefIdeal.nD Cert.Norm1RefIdeal.τ).loc Cert.Norm1RefIdeal.main_arg4) = m ((c.tc : Thread Cert.Norm1Ideal.nD Cert.Norm1Ideal.τ).loc Cert.Norm1Ideal.main_arg4)) →
    ∃ (v0 : (c : Dev Cert.Norm1Ideal.nD) → Buf (Elt Ideal) ((c.tc : Thread Cert.Norm1Ideal.nD Cert.Norm1Ideal.τ).loc Cert.Norm1Ideal.main_v23_0)) (v1 : (c : Dev Cert.Norm1Ideal.nD) → Buf (Elt Ideal) ((c.tc : Thread Cert.Norm1Ideal.nD Cert.Norm1Ideal.τ).loc Cert.Norm1Ideal.main_v23_1)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v23_0) = v0 c
          ∧ r.2.mem ((c.tc : Thread Cert.Norm1Ideal.nD Cert.Norm1Ideal.τ).loc Cert.Norm1Ideal.main_v23_1) = v1 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
          ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v38) = v0 c
          ∧ r.2.mem ((c.tc : Thread Cert.Norm1RefIdeal.nD Cert.Norm1RefIdeal.τ).loc Cert.Norm1RefIdeal.main_v21) = v1 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3)
          ∧ r.2.mem ((c.tc : Thread Cert.Norm1RefIdeal.nD Cert.Norm1RefIdeal.τ).loc Cert.Norm1RefIdeal.main_arg4) = m' ((c.tc : Thread Cert.Norm1RefIdeal.nD Cert.Norm1RefIdeal.τ).loc Cert.Norm1RefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)) (v3 : (c : Dev Cert.LossIdeal.nD) → Buf (Elt Ideal) ((c.tc : Thread Cert.LossIdeal.nD Cert.LossIdeal.τ).loc Cert.LossIdeal.main_v3_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_v3_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Lat_LatIdeal : Prop :=
  True

def algebraic_LatIdeal_LatRefIdeal_pre_lat_finite [hLatIdeal : Cert.LatIdeal.Facts] [hLatRefIdeal : Cert.LatRefIdeal.Facts] [hPre_lat_finite : Cert.Pre_lat_finite.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal_lat_finite m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)
      ∧ m' ((c.tc : Thread Cert.LatRefIdeal.nD Cert.LatRefIdeal.τ).loc Cert.LatRefIdeal.main_arg5) = m ((c.tc : Thread Cert.LatIdeal.nD Cert.LatIdeal.τ).loc Cert.LatIdeal.main_arg5)
      ∧ m' ((c.tc : Thread Cert.LatRefIdeal.nD Cert.LatRefIdeal.τ).loc Cert.LatRefIdeal.main_arg6) = m ((c.tc : Thread Cert.LatIdeal.nD Cert.LatIdeal.τ).loc Cert.LatIdeal.main_arg6)
      ∧ m' ((c.tc : Thread Cert.LatRefIdeal.nD Cert.LatRefIdeal.τ).loc Cert.LatRefIdeal.main_arg7) = m ((c.tc : Thread Cert.LatIdeal.nD Cert.LatIdeal.τ).loc Cert.LatIdeal.main_arg7)
      ∧ m' ((c.tc : Thread Cert.LatRefIdeal.nD Cert.LatRefIdeal.τ).loc Cert.LatRefIdeal.main_arg8) = m ((c.tc : Thread Cert.LatIdeal.nD Cert.LatIdeal.τ).loc Cert.LatIdeal.main_arg8)
      ∧ m' ((c.tc : Thread Cert.LatRefIdeal.nD Cert.LatRefIdeal.τ).loc Cert.LatRefIdeal.main_arg9) = m ((c.tc : Thread Cert.LatIdeal.nD Cert.LatIdeal.τ).loc Cert.LatIdeal.main_arg9)) →
    ∃ (v0 : (c : Dev Cert.LatIdeal.nD) → Buf (Elt Ideal) ((c.tc : Thread Cert.LatIdeal.nD Cert.LatIdeal.τ).loc Cert.LatIdeal.main_v26_0)) (v1 : (c : Dev Cert.LatIdeal.nD) → Buf (Elt Ideal) ((c.tc : Thread Cert.LatIdeal.nD Cert.LatIdeal.τ).loc Cert.LatIdeal.main_v26_1)) (v2 : (c : Dev Cert.LatIdeal.nD) → Buf (Elt Ideal) ((c.tc : Thread Cert.LatIdeal.nD Cert.LatIdeal.τ).loc Cert.LatIdeal.main_v26_2)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v26_0) = v0 c
          ∧ r.2.mem ((c.tc : Thread Cert.LatIdeal.nD Cert.LatIdeal.τ).loc Cert.LatIdeal.main_v26_1) = v1 c
          ∧ r.2.mem ((c.tc : Thread Cert.LatIdeal.nD Cert.LatIdeal.τ).loc Cert.LatIdeal.main_v26_2) = v2 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
          ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
          ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
          ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
          ∧ r.2.mem ((c.tc : Thread Cert.LatIdeal.nD Cert.LatIdeal.τ).loc Cert.LatIdeal.main_arg8) = m ((c.tc : Thread Cert.LatIdeal.nD Cert.LatIdeal.τ).loc Cert.LatIdeal.main_arg8)
          ∧ r.2.mem ((c.tc : Thread Cert.LatIdeal.nD Cert.LatIdeal.τ).loc Cert.LatIdeal.main_arg9) = m ((c.tc : Thread Cert.LatIdeal.nD Cert.LatIdeal.τ).loc Cert.LatIdeal.main_arg9))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v140) = v0 c
          ∧ r.2.mem ((c.tc : Thread Cert.LatRefIdeal.nD Cert.LatRefIdeal.τ).loc Cert.LatRefIdeal.main_v103) = v1 c
          ∧ r.2.mem ((c.tc : Thread Cert.LatRefIdeal.nD Cert.LatRefIdeal.τ).loc Cert.LatRefIdeal.main_v84) = v2 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4)
          ∧ r.2.mem ((c.tc : Thread Cert.LatRefIdeal.nD Cert.LatRefIdeal.τ).loc Cert.LatRefIdeal.main_arg5) = m' ((c.tc : Thread Cert.LatRefIdeal.nD Cert.LatRefIdeal.τ).loc Cert.LatRefIdeal.main_arg5)
          ∧ r.2.mem ((c.tc : Thread Cert.LatRefIdeal.nD Cert.LatRefIdeal.τ).loc Cert.LatRefIdeal.main_arg6) = m' ((c.tc : Thread Cert.LatRefIdeal.nD Cert.LatRefIdeal.τ).loc Cert.LatRefIdeal.main_arg6)
          ∧ r.2.mem ((c.tc : Thread Cert.LatRefIdeal.nD Cert.LatRefIdeal.τ).loc Cert.LatRefIdeal.main_arg7) = m' ((c.tc : Thread Cert.LatRefIdeal.nD Cert.LatRefIdeal.τ).loc Cert.LatRefIdeal.main_arg7)
          ∧ r.2.mem ((c.tc : Thread Cert.LatRefIdeal.nD Cert.LatRefIdeal.τ).loc Cert.LatRefIdeal.main_arg8) = m' ((c.tc : Thread Cert.LatRefIdeal.nD Cert.LatRefIdeal.τ).loc Cert.LatRefIdeal.main_arg8)
          ∧ r.2.mem ((c.tc : Thread Cert.LatRefIdeal.nD Cert.LatRefIdeal.τ).loc Cert.LatRefIdeal.main_arg9) = m' ((c.tc : Thread Cert.LatRefIdeal.nD Cert.LatRefIdeal.τ).loc Cert.LatRefIdeal.main_arg9))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v38)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v38) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v46) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def preserves_MlaFwd_MlaFwdIdeal : Prop :=
  IdealRules.named_const.Statement Cert.MlaFwdIdeal.κ "inv_ln2" .f32 0x3FB8AA3B#32 (((Real.log 2)⁻¹ : ℝ) : EReal)

def algebraic_MlaFwdIdeal_MlaFwdRefIdeal_pre_mlaf_finite [hMlaFwdIdeal : Cert.MlaFwdIdeal.Facts] [hMlaFwdRefIdeal : Cert.MlaFwdRefIdeal.Facts] [hPre_mlaf_finite : Cert.Pre_mlaf_finite.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg)
    (m' : (ℓ : Loc Cert.MlaFwdRefIdeal.nD Cert.MlaFwdRefIdeal.τ Cert.MlaFwdRefIdeal.sig) → Buf (Elt Ideal) ℓ) (g' : Dev Cert.MlaFwdRefIdeal.nD → PrngReg), Pre_MlaFwdIdeal_mlaf_finite m →
    (∀ c : Dev Cert.MlaFwdIdeal.nD,
      m' ((c.tc : Thread Cert.MlaFwdRefIdeal.nD Cert.MlaFwdRefIdeal.τ).loc Cert.MlaFwdRefIdeal.main_arg0) = m ((c.tc : Thread Cert.MlaFwdIdeal.nD Cert.MlaFwdIdeal.τ).loc Cert.MlaFwdIdeal.main_arg0)
      ∧ m' ((c.tc : Thread Cert.MlaFwdRefIdeal.nD Cert.MlaFwdRefIdeal.τ).loc Cert.MlaFwdRefIdeal.main_arg1) = m ((c.tc : Thread Cert.MlaFwdIdeal.nD Cert.MlaFwdIdeal.τ).loc Cert.MlaFwdIdeal.main_arg1)
      ∧ m' ((c.tc : Thread Cert.MlaFwdRefIdeal.nD Cert.MlaFwdRefIdeal.τ).loc Cert.MlaFwdRefIdeal.main_arg2) = m ((c.tc : Thread Cert.MlaFwdIdeal.nD Cert.MlaFwdIdeal.τ).loc Cert.MlaFwdIdeal.main_arg2)
      ∧ m' ((c.tc : Thread Cert.MlaFwdRefIdeal.nD Cert.MlaFwdRefIdeal.τ).loc Cert.MlaFwdRefIdeal.main_arg3) = m ((c.tc : Thread Cert.MlaFwdIdeal.nD Cert.MlaFwdIdeal.τ).loc Cert.MlaFwdIdeal.main_arg3)) →
    ∃ (v0 : (c : Dev Cert.MlaFwdIdeal.nD) → Buf (Elt Ideal) ((c.tc : Thread Cert.MlaFwdIdeal.nD Cert.MlaFwdIdeal.τ).loc Cert.MlaFwdIdeal.main_v56_0)) (v1 : (c : Dev Cert.MlaFwdIdeal.nD) → Buf (Elt Ideal) ((c.tc : Thread Cert.MlaFwdIdeal.nD Cert.MlaFwdIdeal.τ).loc Cert.MlaFwdIdeal.main_v56_1)),
      θ_run (Cert.MlaFwdIdeal.defs (F := Ideal)) (onTc (τ := Cert.MlaFwdIdeal.τ) (Cert.MlaFwdIdeal.main (F := Ideal))) ⟨m, fun _ => 0, g⟩ (fun r => ∀ c : Dev Cert.MlaFwdIdeal.nD,
          r.2.mem ((c.tc : Thread Cert.MlaFwdIdeal.nD Cert.MlaFwdIdeal.τ).loc Cert.MlaFwdIdeal.main_v56_0) = v0 c
          ∧ r.2.mem ((c.tc : Thread Cert.MlaFwdIdeal.nD Cert.MlaFwdIdeal.τ).loc Cert.MlaFwdIdeal.main_v56_1) = v1 c
          ∧ r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
          ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
          ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
          ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3))
      ∧ θ_run (Cert.MlaFwdRefIdeal.defs (F := Ideal)) (onTc (τ := Cert.MlaFwdRefIdeal.τ) (Cert.MlaFwdRefIdeal.main (F := Ideal))) ⟨m', fun _ => 0, g'⟩ (fun r => ∀ c : Dev Cert.MlaFwdRefIdeal.nD,
          r.2.mem ((c.tc : Thread Cert.MlaFwdRefIdeal.nD Cert.MlaFwdRefIdeal.τ).loc Cert.MlaFwdRefIdeal.main_v92) = v0 c
          ∧ r.2.mem ((c.tc : Thread Cert.MlaFwdRefIdeal.nD Cert.MlaFwdRefIdeal.τ).loc Cert.MlaFwdRefIdeal.main_v95) = v1 c
          ∧ r.2.mem ((c.tc : Thread Cert.MlaFwdRefIdeal.nD Cert.MlaFwdRefIdeal.τ).loc Cert.MlaFwdRefIdeal.main_arg0) = m' ((c.tc : Thread Cert.MlaFwdRefIdeal.nD Cert.MlaFwdRefIdeal.τ).loc Cert.MlaFwdRefIdeal.main_arg0)
          ∧ r.2.mem ((c.tc : Thread Cert.MlaFwdRefIdeal.nD Cert.MlaFwdRefIdeal.τ).loc Cert.MlaFwdRefIdeal.main_arg1) = m' ((c.tc : Thread Cert.MlaFwdRefIdeal.nD Cert.MlaFwdRefIdeal.τ).loc Cert.MlaFwdRefIdeal.main_arg1)
          ∧ r.2.mem ((c.tc : Thread Cert.MlaFwdRefIdeal.nD Cert.MlaFwdRefIdeal.τ).loc Cert.MlaFwdRefIdeal.main_arg2) = m' ((c.tc : Thread Cert.MlaFwdRefIdeal.nD Cert.MlaFwdRefIdeal.τ).loc Cert.MlaFwdRefIdeal.main_arg2)
          ∧ r.2.mem ((c.tc : Thread Cert.MlaFwdRefIdeal.nD Cert.MlaFwdRefIdeal.τ).loc Cert.MlaFwdRefIdeal.main_arg3) = m' ((c.tc : Thread Cert.MlaFwdRefIdeal.nD Cert.MlaFwdRefIdeal.τ).loc Cert.MlaFwdRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_v14) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_LatFwd_LatFwdIdeal : Prop :=
  True

def algebraic_LatFwdIdeal_LatFwdRefIdeal [hLatFwdIdeal : Cert.LatFwdIdeal.Facts] [hLatFwdRefIdeal : Cert.LatFwdRefIdeal.Facts] : Prop :=
  ∀ (m : (ℓ : Loc Cert.LatFwdIdeal.nD Cert.LatFwdIdeal.τ Cert.LatFwdIdeal.sig) → Buf (Elt Ideal) ℓ) (g : Dev Cert.LatFwdIdeal.nD → PrngReg)
    (m' : (ℓ : Loc Cert.LatFwdRefIdeal.nD Cert.LatFwdRefIdeal.τ Cert.LatFwdRefIdeal.sig) → Buf (Elt Ideal) ℓ) (g' : Dev Cert.LatFwdRefIdeal.nD → PrngReg), Pre_LatFwdIdeal m →
    (∀ c : Dev Cert.LatFwdIdeal.nD,
      m' ((c.tc : Thread Cert.LatFwdRefIdeal.nD Cert.LatFwdRefIdeal.τ).loc Cert.LatFwdRefIdeal.main_arg0) = m ((c.tc : Thread Cert.LatFwdIdeal.nD Cert.LatFwdIdeal.τ).loc Cert.LatFwdIdeal.main_arg0)
      ∧ m' ((c.tc : Thread Cert.LatFwdRefIdeal.nD Cert.LatFwdRefIdeal.τ).loc Cert.LatFwdRefIdeal.main_arg1) = m ((c.tc : Thread Cert.LatFwdIdeal.nD Cert.LatFwdIdeal.τ).loc Cert.LatFwdIdeal.main_arg1)
      ∧ m' ((c.tc : Thread Cert.LatFwdRefIdeal.nD Cert.LatFwdRefIdeal.τ).loc Cert.LatFwdRefIdeal.main_arg2) = m ((c.tc : Thread Cert.LatFwdIdeal.nD Cert.LatFwdIdeal.τ).loc Cert.LatFwdIdeal.main_arg2)
      ∧ m' ((c.tc : Thread Cert.LatFwdRefIdeal.nD Cert.LatFwdRefIdeal.τ).loc Cert.LatFwdRefIdeal.main_arg3) = m ((c.tc : Thread Cert.LatFwdIdeal.nD Cert.LatFwdIdeal.τ).loc Cert.LatFwdIdeal.main_arg3)) →
    ∃ (v0 : (c : Dev Cert.LatFwdIdeal.nD) → Buf (Elt Ideal) ((c.tc : Thread Cert.LatFwdIdeal.nD Cert.LatFwdIdeal.τ).loc Cert.LatFwdIdeal.main_v30_0)) (v1 : (c : Dev Cert.LatFwdIdeal.nD) → Buf (Elt Ideal) ((c.tc : Thread Cert.LatFwdIdeal.nD Cert.LatFwdIdeal.τ).loc Cert.LatFwdIdeal.main_v30_1)) (v2 : (c : Dev Cert.LatFwdIdeal.nD) → Buf (Elt Ideal) ((c.tc : Thread Cert.LatFwdIdeal.nD Cert.LatFwdIdeal.τ).loc Cert.LatFwdIdeal.main_v30_2)),
      θ_run (Cert.LatFwdIdeal.defs (F := Ideal)) (onTc (τ := Cert.LatFwdIdeal.τ) (Cert.LatFwdIdeal.main (F := Ideal))) ⟨m, fun _ => 0, g⟩ (fun r => ∀ c : Dev Cert.LatFwdIdeal.nD,
          r.2.mem ((c.tc : Thread Cert.LatFwdIdeal.nD Cert.LatFwdIdeal.τ).loc Cert.LatFwdIdeal.main_v30_0) = v0 c
          ∧ r.2.mem ((c.tc : Thread Cert.LatFwdIdeal.nD Cert.LatFwdIdeal.τ).loc Cert.LatFwdIdeal.main_v30_1) = v1 c
          ∧ r.2.mem ((c.tc : Thread Cert.LatFwdIdeal.nD Cert.LatFwdIdeal.τ).loc Cert.LatFwdIdeal.main_v30_2) = v2 c
          ∧ r.2.mem ((c.tc : Thread Cert.LatFwdIdeal.nD Cert.LatFwdIdeal.τ).loc Cert.LatFwdIdeal.main_arg0) = m ((c.tc : Thread Cert.LatFwdIdeal.nD Cert.LatFwdIdeal.τ).loc Cert.LatFwdIdeal.main_arg0)
          ∧ r.2.mem ((c.tc : Thread Cert.LatFwdIdeal.nD Cert.LatFwdIdeal.τ).loc Cert.LatFwdIdeal.main_arg1) = m ((c.tc : Thread Cert.LatFwdIdeal.nD Cert.LatFwdIdeal.τ).loc Cert.LatFwdIdeal.main_arg1)
          ∧ r.2.mem ((c.tc : Thread Cert.LatFwdIdeal.nD Cert.LatFwdIdeal.τ).loc Cert.LatFwdIdeal.main_arg2) = m ((c.tc : Thread Cert.LatFwdIdeal.nD Cert.LatFwdIdeal.τ).loc Cert.LatFwdIdeal.main_arg2)
          ∧ r.2.mem ((c.tc : Thread Cert.LatFwdIdeal.nD Cert.LatFwdIdeal.τ).loc Cert.LatFwdIdeal.main_arg3) = m ((c.tc : Thread Cert.LatFwdIdeal.nD Cert.LatFwdIdeal.τ).loc Cert.LatFwdIdeal.main_arg3))
      ∧ θ_run (Cert.LatFwdRefIdeal.defs (F := Ideal)) (onTc (τ := Cert.LatFwdRefIdeal.τ) (Cert.LatFwdRefIdeal.main (F := Ideal))) ⟨m', fun _ => 0, g'⟩ (fun r => ∀ c : Dev Cert.LatFwdRefIdeal.nD,
          r.2.mem ((c.tc : Thread Cert.LatFwdRefIdeal.nD Cert.LatFwdRefIdeal.τ).loc Cert.LatFwdRefIdeal.main_v50) = v0 c
          ∧ r.2.mem ((c.tc : Thread Cert.LatFwdRefIdeal.nD Cert.LatFwdRefIdeal.τ).loc Cert.LatFwdRefIdeal.main_v63) = v1 c
          ∧ r.2.mem ((c.tc : Thread Cert.LatFwdRefIdeal.nD Cert.LatFwdRefIdeal.τ).loc Cert.LatFwdRefIdeal.main_v64) = v2 c
          ∧ r.2.mem ((c.tc : Thread Cert.LatFwdRefIdeal.nD Cert.LatFwdRefIdeal.τ).loc Cert.LatFwdRefIdeal.main_arg0) = m' ((c.tc : Thread Cert.LatFwdRefIdeal.nD Cert.LatFwdRefIdeal.τ).loc Cert.LatFwdRefIdeal.main_arg0)
          ∧ r.2.mem ((c.tc : Thread Cert.LatFwdRefIdeal.nD Cert.LatFwdRefIdeal.τ).loc Cert.LatFwdRefIdeal.main_arg1) = m' ((c.tc : Thread Cert.LatFwdRefIdeal.nD Cert.LatFwdRefIdeal.τ).loc Cert.LatFwdRefIdeal.main_arg1)
          ∧ r.2.mem ((c.tc : Thread Cert.LatFwdRefIdeal.nD Cert.LatFwdRefIdeal.τ).loc Cert.LatFwdRefIdeal.main_arg2) = m' ((c.tc : Thread Cert.LatFwdRefIdeal.nD Cert.LatFwdRefIdeal.τ).loc Cert.LatFwdRefIdeal.main_arg2)
          ∧ r.2.mem ((c.tc : Thread Cert.LatFwdRefIdeal.nD Cert.LatFwdRefIdeal.τ).loc Cert.LatFwdRefIdeal.main_arg3) = m' ((c.tc : Thread Cert.LatFwdRefIdeal.nD Cert.LatFwdRefIdeal.τ).loc Cert.LatFwdRefIdeal.main_arg3))

def preserves_QUp_QUpIdeal : Prop :=
  True

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)
      ∧ m' ((c.tc : Thread Cert.QUpRefIdeal.nD Cert.QUpRefIdeal.τ).loc Cert.QUpRefIdeal.main_arg2) = m ((c.tc : Thread Cert.QUpIdeal.nD Cert.QUpIdeal.τ).loc Cert.QUpIdeal.main_arg2)) →
    ∃ (v0 : (c : Dev Cert.QUpIdeal.nD) → Buf (Elt Ideal) ((c.tc : Thread Cert.QUpIdeal.nD Cert.QUpIdeal.τ).loc Cert.QUpIdeal.main_v29)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v29) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
          ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v38) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1)
          ∧ r.2.mem ((c.tc : Thread Cert.QUpRefIdeal.nD Cert.QUpRefIdeal.τ).loc Cert.QUpRefIdeal.main_arg2) = m' ((c.tc : Thread Cert.QUpRefIdeal.nD Cert.QUpRefIdeal.τ).loc Cert.QUpRefIdeal.main_arg2))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)
      ∧ m' ((c.tc : Thread Cert.KvUpRefIdeal.nD Cert.KvUpRefIdeal.τ).loc Cert.KvUpRefIdeal.main_arg2) = m ((c.tc : Thread Cert.KvUpIdeal.nD Cert.KvUpIdeal.τ).loc Cert.KvUpIdeal.main_arg2)) →
    ∃ (v0 : (c : Dev Cert.KvUpIdeal.nD) → Buf (Elt Ideal) ((c.tc : Thread Cert.KvUpIdeal.nD Cert.KvUpIdeal.τ).loc Cert.KvUpIdeal.main_v5_0)) (v1 : (c : Dev Cert.KvUpIdeal.nD) → Buf (Elt Ideal) ((c.tc : Thread Cert.KvUpIdeal.nD Cert.KvUpIdeal.τ).loc Cert.KvUpIdeal.main_v5_1)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v5_0) = v0 c
          ∧ r.2.mem ((c.tc : Thread Cert.KvUpIdeal.nD Cert.KvUpIdeal.τ).loc Cert.KvUpIdeal.main_v5_1) = v1 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
          ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v7) = v0 c
          ∧ r.2.mem ((c.tc : Thread Cert.KvUpRefIdeal.nD Cert.KvUpRefIdeal.τ).loc Cert.KvUpRefIdeal.main_v9) = v1 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1)
          ∧ r.2.mem ((c.tc : Thread Cert.KvUpRefIdeal.nD Cert.KvUpRefIdeal.τ).loc Cert.KvUpRefIdeal.main_arg2) = m' ((c.tc : Thread Cert.KvUpRefIdeal.nD Cert.KvUpRefIdeal.τ).loc Cert.KvUpRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v30) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_Prod_ProdIdeal : Prop :=
  True

def algebraic_ProdIdeal_ProdRefIdeal [hProdIdeal : Cert.ProdIdeal.Facts] [hProdRefIdeal : Cert.ProdRefIdeal.Facts] : Prop :=
  ∀ (m : (ℓ : Loc Cert.ProdIdeal.nD Cert.ProdIdeal.τ Cert.ProdIdeal.sig) → Buf (Elt Ideal) ℓ) (g : Dev Cert.ProdIdeal.nD → PrngReg)
    (m' : (ℓ : Loc Cert.ProdRefIdeal.nD Cert.ProdRefIdeal.τ Cert.ProdRefIdeal.sig) → Buf (Elt Ideal) ℓ) (g' : Dev Cert.ProdRefIdeal.nD → PrngReg), Pre_ProdIdeal m →
    (∀ c : Dev Cert.ProdIdeal.nD,
      m' ((c.tc : Thread Cert.ProdRefIdeal.nD Cert.ProdRefIdeal.τ).loc Cert.ProdRefIdeal.main_arg0) = m ((c.tc : Thread Cert.ProdIdeal.nD Cert.ProdIdeal.τ).loc Cert.ProdIdeal.main_arg0)
      ∧ m' ((c.tc : Thread Cert.ProdRefIdeal.nD Cert.ProdRefIdeal.τ).loc Cert.ProdRefIdeal.main_arg1) = m ((c.tc : Thread Cert.ProdIdeal.nD Cert.ProdIdeal.τ).loc Cert.ProdIdeal.main_arg1)) →
    ∃ (v0 : (c : Dev Cert.ProdIdeal.nD) → Buf (Elt Ideal) ((c.tc : Thread Cert.ProdIdeal.nD Cert.ProdIdeal.τ).loc Cert.ProdIdeal.main_v3)),
      θ_run (Cert.ProdIdeal.defs (F := Ideal)) (onTc (τ := Cert.ProdIdeal.τ) (Cert.ProdIdeal.main (F := Ideal))) ⟨m, fun _ => 0, g⟩ (fun r => ∀ c : Dev Cert.ProdIdeal.nD,
          r.2.mem ((c.tc : Thread Cert.ProdIdeal.nD Cert.ProdIdeal.τ).loc Cert.ProdIdeal.main_v3) = v0 c
          ∧ r.2.mem ((c.tc : Thread Cert.ProdIdeal.nD Cert.ProdIdeal.τ).loc Cert.ProdIdeal.main_arg0) = m ((c.tc : Thread Cert.ProdIdeal.nD Cert.ProdIdeal.τ).loc Cert.ProdIdeal.main_arg0)
          ∧ r.2.mem ((c.tc : Thread Cert.ProdIdeal.nD Cert.ProdIdeal.τ).loc Cert.ProdIdeal.main_arg1) = m ((c.tc : Thread Cert.ProdIdeal.nD Cert.ProdIdeal.τ).loc Cert.ProdIdeal.main_arg1))
      ∧ θ_run (Cert.ProdRefIdeal.defs (F := Ideal)) (onTc (τ := Cert.ProdRefIdeal.τ) (Cert.ProdRefIdeal.main (F := Ideal))) ⟨m', fun _ => 0, g'⟩ (fun r => ∀ c : Dev Cert.ProdRefIdeal.nD,
          r.2.mem ((c.tc : Thread Cert.ProdRefIdeal.nD Cert.ProdRefIdeal.τ).loc Cert.ProdRefIdeal.main_v1) = v0 c
          ∧ r.2.mem ((c.tc : Thread Cert.ProdRefIdeal.nD Cert.ProdRefIdeal.τ).loc Cert.ProdRefIdeal.main_arg0) = m' ((c.tc : Thread Cert.ProdRefIdeal.nD Cert.ProdRefIdeal.τ).loc Cert.ProdRefIdeal.main_arg0)
          ∧ r.2.mem ((c.tc : Thread Cert.ProdRefIdeal.nD Cert.ProdRefIdeal.τ).loc Cert.ProdRefIdeal.main_arg1) = m' ((c.tc : Thread Cert.ProdRefIdeal.nD Cert.ProdRefIdeal.τ).loc Cert.ProdRefIdeal.main_arg1))

def Claim : Prop :=
  ∃ (hGate : Cert.Gate.Facts) (hGateIdeal : Cert.GateIdeal.Facts) (hGateRefIdeal : Cert.GateRefIdeal.Facts) (hMla : Cert.Mla.Facts) (hMlaIdeal : Cert.MlaIdeal.Facts) (hMlaRefIdeal : Cert.MlaRefIdeal.Facts) (hNorm2 : Cert.Norm2.Facts) (hNorm2Ideal : Cert.Norm2Ideal.Facts) (hNorm2RefIdeal : Cert.Norm2RefIdeal.Facts) (hNorm1 : Cert.Norm1.Facts) (hNorm1Ideal : Cert.Norm1Ideal.Facts) (hNorm1RefIdeal : Cert.Norm1RefIdeal.Facts) (hLoss : Cert.Loss.Facts) (hLossIdeal : Cert.LossIdeal.Facts) (hLossRefIdeal : Cert.LossRefIdeal.Facts) (hLat : Cert.Lat.Facts) (hLatIdeal : Cert.LatIdeal.Facts) (hLatRefIdeal : Cert.LatRefIdeal.Facts) (hBias : Cert.Bias.Facts) (hBiasIdeal : Cert.BiasIdeal.Facts) (hBiasRefIdeal : Cert.BiasRefIdeal.Facts) (hMlaFwd : Cert.MlaFwd.Facts) (hMlaFwdIdeal : Cert.MlaFwdIdeal.Facts) (hMlaFwdRefIdeal : Cert.MlaFwdRefIdeal.Facts) (hOutProj : Cert.OutProj.Facts) (hOutProjIdeal : Cert.OutProjIdeal.Facts) (hOutProjRefIdeal : Cert.OutProjRefIdeal.Facts) (hLatFwd : Cert.LatFwd.Facts) (hLatFwdIdeal : Cert.LatFwdIdeal.Facts) (hLatFwdRefIdeal : Cert.LatFwdRefIdeal.Facts) (hQUp : Cert.QUp.Facts) (hQUpIdeal : Cert.QUpIdeal.Facts) (hQUpRefIdeal : Cert.QUpRefIdeal.Facts) (hKvUp : Cert.KvUp.Facts) (hKvUpIdeal : Cert.KvUpIdeal.Facts) (hKvUpRefIdeal : Cert.KvUpRefIdeal.Facts) (hConvFwd : Cert.ConvFwd.Facts) (hConvFwdIdeal : Cert.ConvFwdIdeal.Facts) (hConvFwdRefIdeal : Cert.ConvFwdRefIdeal.Facts) (hProd : Cert.Prod.Facts) (hProdIdeal : Cert.ProdIdeal.Facts) (hProdRefIdeal : Cert.ProdRefIdeal.Facts) (hPre_mla_finite : Cert.Pre_mla_finite.Facts) (hPre_norm2_finite : Cert.Pre_norm2_finite.Facts) (hPre_norm1_finite : Cert.Pre_norm1_finite.Facts) (hPre_loss_finite : Cert.Pre_loss_finite.Facts) (hPre_lat_finite : Cert.Pre_lat_finite.Facts) (hPre_mlaf_finite : Cert.Pre_mlaf_finite.Facts) (hOn_gate_written : Cert.On_gate_written.Facts),
    quiescent_Gate (hGate := hGate)
    ∧ quiescent_GateIdeal (hGateIdeal := hGateIdeal)
    ∧ quiescent_GateRefIdeal (hGateRefIdeal := hGateRefIdeal)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Norm2 (hNorm2 := hNorm2)
    ∧ quiescent_Norm2Ideal (hNorm2Ideal := hNorm2Ideal)
    ∧ quiescent_Norm2Ideal_pre_norm2_finite (hNorm2Ideal := hNorm2Ideal) (hPre_norm2_finite := hPre_norm2_finite)
    ∧ quiescent_Norm2RefIdeal (hNorm2RefIdeal := hNorm2RefIdeal)
    ∧ quiescent_Norm2RefIdeal_pre_norm2_finite (hNorm2RefIdeal := hNorm2RefIdeal) (hPre_norm2_finite := hPre_norm2_finite)
    ∧ quiescent_Norm1 (hNorm1 := hNorm1)
    ∧ quiescent_Norm1Ideal (hNorm1Ideal := hNorm1Ideal)
    ∧ quiescent_Norm1Ideal_pre_norm1_finite (hNorm1Ideal := hNorm1Ideal) (hPre_norm1_finite := hPre_norm1_finite)
    ∧ quiescent_Norm1RefIdeal (hNorm1RefIdeal := hNorm1RefIdeal)
    ∧ quiescent_Norm1RefIdeal_pre_norm1_finite (hNorm1RefIdeal := hNorm1RefIdeal) (hPre_norm1_finite := hPre_norm1_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Lat (hLat := hLat)
    ∧ quiescent_LatIdeal (hLatIdeal := hLatIdeal)
    ∧ quiescent_LatIdeal_pre_lat_finite (hLatIdeal := hLatIdeal) (hPre_lat_finite := hPre_lat_finite)
    ∧ quiescent_LatRefIdeal (hLatRefIdeal := hLatRefIdeal)
    ∧ quiescent_LatRefIdeal_pre_lat_finite (hLatRefIdeal := hLatRefIdeal) (hPre_lat_finite := hPre_lat_finite)
    ∧ quiescent_Bias (hBias := hBias)
    ∧ quiescent_BiasIdeal (hBiasIdeal := hBiasIdeal)
    ∧ quiescent_BiasRefIdeal (hBiasRefIdeal := hBiasRefIdeal)
    ∧ quiescent_MlaFwd (hMlaFwd := hMlaFwd)
    ∧ quiescent_MlaFwdIdeal (hMlaFwdIdeal := hMlaFwdIdeal)
    ∧ quiescent_MlaFwdIdeal_pre_mlaf_finite (hMlaFwdIdeal := hMlaFwdIdeal) (hPre_mlaf_finite := hPre_mlaf_finite)
    ∧ quiescent_MlaFwdRefIdeal (hMlaFwdRefIdeal := hMlaFwdRefIdeal)
    ∧ quiescent_MlaFwdRefIdeal_pre_mlaf_finite (hMlaFwdRefIdeal := hMlaFwdRefIdeal) (hPre_mlaf_finite := hPre_mlaf_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_LatFwd (hLatFwd := hLatFwd)
    ∧ quiescent_LatFwdIdeal (hLatFwdIdeal := hLatFwdIdeal)
    ∧ quiescent_LatFwdRefIdeal (hLatFwdRefIdeal := hLatFwdRefIdeal)
    ∧ quiescent_QUp (hQUp := hQUp)
    ∧ quiescent_QUpIdeal (hQUpIdeal := hQUpIdeal)
    ∧ quiescent_QUpRefIdeal (hQUpRefIdeal := hQUpRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_Prod (hProd := hProd)
    ∧ quiescent_ProdIdeal (hProdIdeal := hProdIdeal)
    ∧ quiescent_ProdRefIdeal (hProdRefIdeal := hProdRefIdeal)
    ∧ preserves_Gate_GateIdeal
    ∧ algebraic_GateIdeal_GateRefIdeal_on_gate_written (hGateIdeal := hGateIdeal) (hGateRefIdeal := hGateRefIdeal) (hOn_gate_written := hOn_gate_written)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Norm2_Norm2Ideal
    ∧ algebraic_Norm2Ideal_Norm2RefIdeal_pre_norm2_finite (hNorm2Ideal := hNorm2Ideal) (hNorm2RefIdeal := hNorm2RefIdeal) (hPre_norm2_finite := hPre_norm2_finite)
    ∧ preserves_Norm1_Norm1Ideal
    ∧ algebraic_Norm1Ideal_Norm1RefIdeal_pre_norm1_finite (hNorm1Ideal := hNorm1Ideal) (hNorm1RefIdeal := hNorm1RefIdeal) (hPre_norm1_finite := hPre_norm1_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Lat_LatIdeal
    ∧ algebraic_LatIdeal_LatRefIdeal_pre_lat_finite (hLatIdeal := hLatIdeal) (hLatRefIdeal := hLatRefIdeal) (hPre_lat_finite := hPre_lat_finite)
    ∧ preserves_Bias_BiasIdeal
    ∧ algebraic_BiasIdeal_BiasRefIdeal (hBiasIdeal := hBiasIdeal) (hBiasRefIdeal := hBiasRefIdeal)
    ∧ preserves_MlaFwd_MlaFwdIdeal
    ∧ algebraic_MlaFwdIdeal_MlaFwdRefIdeal_pre_mlaf_finite (hMlaFwdIdeal := hMlaFwdIdeal) (hMlaFwdRefIdeal := hMlaFwdRefIdeal) (hPre_mlaf_finite := hPre_mlaf_finite)
    ∧ preserves_OutProj_OutProjIdeal
    ∧ algebraic_OutProjIdeal_OutProjRefIdeal (hOutProjIdeal := hOutProjIdeal) (hOutProjRefIdeal := hOutProjRefIdeal)
    ∧ preserves_LatFwd_LatFwdIdeal
    ∧ algebraic_LatFwdIdeal_LatFwdRefIdeal (hLatFwdIdeal := hLatFwdIdeal) (hLatFwdRefIdeal := hLatFwdRefIdeal)
    ∧ preserves_QUp_QUpIdeal
    ∧ algebraic_QUpIdeal_QUpRefIdeal (hQUpIdeal := hQUpIdeal) (hQUpRefIdeal := hQUpRefIdeal)
    ∧ preserves_KvUp_KvUpIdeal
    ∧ algebraic_KvUpIdeal_KvUpRefIdeal (hKvUpIdeal := hKvUpIdeal) (hKvUpRefIdeal := hKvUpRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_Prod_ProdIdeal
    ∧ algebraic_ProdIdeal_ProdRefIdeal (hProdIdeal := hProdIdeal) (hProdRefIdeal := hProdRefIdeal)
-- ==== On_gate_written.lean ====
abbrev S4096x4032 : Shape := ⟨2, ![4096, 4032]⟩
abbrev S4096x1024 : Shape := ⟨2, ![4096, 1024]⟩
abbrev S1024x1024 : Shape := ⟨2, ![1024, 1024]⟩
abbrev S_ : Shape := ⟨0, ![]⟩
abbrev S4096x4096 : Shape := ⟨2, ![4096, 4096]⟩

class Facts : Prop where
  bcast_S_S4096x1024 : S_.BroadcastsInDim S4096x1024 (![] : Fin 0 → Fin S4096x1024.rank)
  bcast_S_S4096x4096 : S_.BroadcastsInDim S4096x4096 (![] : Fin 0 → Fin S4096x4096.rank)

variable [Facts]

def fn {F : FTy → Type} [FloatOps F] (main_arg0 : FVec F S4096x4032 .f32) (main_arg1 : FVec F S4096x1024 .f32) (main_arg2 : FVec F S4096x1024 .f32) (main_arg3 : FVec F S1024x1024 .f32) (main_arg4 : FVec F S4096x1024 .f32) : IVec S4096x4096 1 × IVec S4096x1024 1 × IVec S4096x1024 1 :=
  let main_v0 : IVec S4096x1024 32 := iotaInDim S4096x1024 32 1
  let main_c : IVec S_ 32 := constantI S_ 32 0#32
  let main_v1 : IVec S4096x1024 32 := broadcastInDim S4096x1024 ![] bcast_S_S4096x1024 main_c
  let main_v2 : IVec S4096x1024 1 := cmpi .sge main_v0 main_v1
  let main_v3 : IVec S4096x4096 32 := iotaInDim S4096x4096 32 1
  let main_c_0 : IVec S_ 32 := constantI S_ 32 2048#32
  let main_v4 : IVec S4096x4096 32 := broadcastInDim S4096x4096 ![] bcast_S_S4096x4096 main_c_0
  let main_v5 : IVec S4096x4096 1 := cmpi .slt main_v3 main_v4
  (main_v5, main_v2, main_v2)
-- ==== Pre_lat_finite.lean ====
abbrev S4096x4032 : Shape := ⟨2, ![4096, 4032]⟩
abbrev S4096 : Shape := ⟨1, ![4096]⟩
abbrev S1x256 : Shape := ⟨2, ![1, 256]⟩
abbrev S1x128 : Shape := ⟨2, ![1, 128]⟩
abbrev S4096x256 : Shape := ⟨2, ![4096, 256]⟩
abbrev S4096x128 : Shape := ⟨2, ![4096, 128]⟩
abbrev S8x4096x64 : Shape := ⟨3, ![8, 4096, 64]⟩
abbrev S4352x256 : Shape := ⟨2, ![4352, 256]⟩
abbrev S4096x4096 : Shape := ⟨2, ![4096, 4096]⟩
abbrev S_ : Shape := ⟨0, ![]⟩

class Facts : Prop where
  bcast_S_S4096x4032 : S_.BroadcastsInDim S4096x4032 (![] : Fin 0 → Fin S4096x4032.rank)
  bcast_S_S1x256 : S_.BroadcastsInDim S1x256 (![] : Fin 0 → Fin S1x256.rank)
  bcast_S_S1x128 : S_.BroadcastsInDim S1x128 (![] : Fin 0 → Fin S1x128.rank)
  bcast_S_S4096x256 : S_.BroadcastsInDim S4096x256 (![] : Fin 0 → Fin S4096x256.rank)
  bcast_S_S4096x128 : S_.BroadcastsInDim S4096x128 (![] : Fin 0 → Fin S4096x128.rank)

variable [Facts]

def fn {F : FTy → Type} [FloatOps F] (main_arg0 : FVec F S4096x4032 .f32) (main_arg1 : IVec S4096 32) (main_arg2 : FVec F S1x256 .f32) (main_arg3 : FVec F S1x128 .f32) (main_arg4 : FVec F S4096x256 .f32) (main_arg5 : FVec F S4096x128 .f32) (main_arg6 : FVec F S8x4096x64 .f32) (main_arg7 : FVec F S4352x256 .f32) (main_arg8 : FVec F S4352x256 .f32) (main_arg9 : FVec F S4096x4096 .bf16) : IVec S4096x4032 1 × IVec S1x256 1 × IVec S1x128 1 × IVec S4096x256 1 × IVec S4096x128 1 :=
  let main_v0 : FVec F S4096x4032 .f32 := Host.absf main_arg0
  let main_cst : FVec F S_ .f32 := constant S_ .f32 0x7F800000#32
  let main_v1 : FVec F S4096x4032 .f32 := broadcastInDim S4096x4032 ![] bcast_S_S4096x4032 main_cst
  let main_v2 : IVec S4096x4032 1 := cmpf .olt main_v0 main_v1
  let main_v3 : FVec F S1x256 .f32 := Host.absf main_arg2
  let main_cst_0 : FVec F S_ .f32 := constant S_ .f32 0x7F800000#32
  let main_v4 : FVec F S1x256 .f32 := broadcastInDim S1x256 ![] bcast_S_S1x256 main_cst_0
  let main_v5 : IVec S1x256 1 := cmpf .olt main_v3 main_v4
  let main_v6 : FVec F S1x128 .f32 := Host.absf main_arg3
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S4096x256 .f32 := Host.absf main_arg4
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_v12 : FVec F S4096x128 .f32 := Host.absf main_arg5
  let main_cst_3 : FVec F S_ .f32 := constant S_ .f32 0x7F800000#32
  let main_v13 : FVec F S4096x128 .f32 := broadcastInDim S4096x128 ![] bcast_S_S4096x128 main_cst_3
  let main_v14 : IVec S4096x128 1 := cmpf .olt main_v12 main_v13
  (main_v2, main_v5, main_v8, main_v11, main_v14)
-- ==== Pre_loss_finite.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x2816 .f32) (main_arg2 : FVec F S2816x1024 .f32) (main_arg3 : FVec F S1024 .f32) (main_arg4 : FVec F S4096x1024 .f32) : IVec S4096x1024 1 × IVec S4096x2816 1 × IVec S2816x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_mla_finite.lean ====
abbrev S4096x1536 : Shape := ⟨2, ![4096, 1536]⟩
abbrev S4096x2048 : Shape := ⟨2, ![4096, 2048]⟩
abbrev S4096x64 : Shape := ⟨2, ![4096, 64]⟩
abbrev S4096 : Shape := ⟨1, ![4096]⟩
abbrev S4096x1024 : Shape := ⟨2, ![4096, 1024]⟩
abbrev S_ : Shape := ⟨0, ![]⟩

class Facts : Prop where
  bcast_S_S4096x1536 : S_.BroadcastsInDim S4096x1536 (![] : Fin 0 → Fin S4096x1536.rank)
  bcast_S_S4096x2048 : S_.BroadcastsInDim S4096x2048 (![] : Fin 0 → Fin S4096x2048.rank)
  bcast_S_S4096x64 : S_.BroadcastsInDim S4096x64 (![] : Fin 0 → Fin S4096x64.rank)
  bcast_S_S4096x1024 : S_.BroadcastsInDim S4096x1024 (![] : Fin 0 → Fin S4096x1024.rank)

variable [Facts]

def fn {F : FTy → Type} [FloatOps F] (main_arg0 : FVec F S4096x1536 .f32) (main_arg1 : FVec F S4096x2048 .f32) (main_arg2 : FVec F S4096x64 .f32) (main_arg3 : IVec S4096 32) (main_arg4 : FVec F S4096x1024 .f32) : IVec S4096x1536 1 × IVec S4096x2048 1 × IVec S4096x64 1 × IVec S4096x1024 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S4096x64 .f32 := Host.absf main_arg2
  let main_cst_1 : FVec F S_ .f32 := constant S_ .f32 0x7F800000#32
  let main_v7 : FVec F S4096x64 .f32 := broadcastInDim S4096x64 ![] bcast_S_S4096x64 main_cst_1
  let main_v8 : IVec S4096x64 1 := cmpf .olt main_v6 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_mlaf_finite.lean ====
abbrev S4096x1536 : Shape := ⟨2, ![4096, 1536]⟩
abbrev S4096x2048 : Shape := ⟨2, ![4096, 2048]⟩
abbrev S4096x64 : Shape := ⟨2, ![4096, 64]⟩
abbrev S4096 : Shape := ⟨1, ![4096]⟩
abbrev S_ : Shape := ⟨0, ![]⟩

class Facts : Prop where
  bcast_S_S4096x1536 : S_.BroadcastsInDim S4096x1536 (![] : Fin 0 → Fin S4096x1536.rank)
  bcast_S_S4096x2048 : S_.BroadcastsInDim S4096x2048 (![] : Fin 0 → Fin S4096x2048.rank)
  bcast_S_S4096x64 : S_.BroadcastsInDim S4096x64 (![] : Fin 0 → Fin S4096x64.rank)

variable [Facts]

def fn {F : FTy → Type} [FloatOps F] (main_arg0 : FVec F S4096x1536 .f32) (main_arg1 : FVec F S4096x2048 .f32) (main_arg2 : FVec F S4096x64 .f32) (main_arg3 : IVec S4096 32) : IVec S4096x1536 1 × IVec S4096x2048 1 × IVec S4096x64 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S4096x64 .f32 := Host.absf main_arg2
  let main_cst_1 : FVec F S_ .f32 := constant S_ .f32 0x7F800000#32
  let main_v7 : FVec F S4096x64 .f32 := broadcastInDim S4096x64 ![] bcast_S_S4096x64 main_cst_1
  let main_v8 : IVec S4096x64 1 := cmpf .olt main_v6 main_v7
  (main_v2, main_v5, main_v8)
-- ==== Pre_norm1_finite.lean ====
abbrev S4096x1024 : Shape := ⟨2, ![4096, 1024]⟩
abbrev S1x1024 : Shape := ⟨2, ![1, 1024]⟩
abbrev S1024x4032 : Shape := ⟨2, ![1024, 4032]⟩
abbrev S4096x4032 : Shape := ⟨2, ![4096, 4032]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x4032 : S_.BroadcastsInDim S1024x4032 (![] : Fin 0 → Fin S1024x4032.rank)
  bcast_S_S4096x4032 : S_.BroadcastsInDim S4096x4032 (![] : Fin 0 → Fin S4096x4032.rank)

variable [Facts]

def fn {F : FTy → Type} [FloatOps F] (main_arg0 : FVec F S4096x1024 .f32) (main_arg1 : FVec F S1x1024 .f32) (main_arg2 : FVec F S1024x4032 .f32) (main_arg3 : FVec F S4096x4032 .f32) (main_arg4 : FVec F S4096x1024 .f32) : IVec S4096x1024 1 × IVec S1x1024 1 × IVec S1024x4032 1 × IVec S4096x4032 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x4032 .f32 := Host.absf main_arg2
  let main_cst_1 : FVec F S_ .f32 := constant S_ .f32 0x7F800000#32
  let main_v7 : FVec F S1024x4032 .f32 := broadcastInDim S1024x4032 ![] bcast_S_S1024x4032 main_cst_1
  let main_v8 : IVec S1024x4032 1 := cmpf .olt main_v6 main_v7
  let main_v9 : FVec F S4096x4032 .f32 := Host.absf main_arg3
  let main_cst_2 : FVec F S_ .f32 := constant S_ .f32 0x7F800000#32
  let main_v10 : FVec F S4096x4032 .f32 := broadcastInDim S4096x4032 ![] bcast_S_S4096x4032 main_cst_2
  let main_v11 : IVec S4096x4032 1 := cmpf .olt main_v9 main_v10
  (main_v2, main_v5, main_v8, main_v11)
-- ==== Pre_norm2_finite.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S4096x5632 : S_.BroadcastsInDim S4096x5632 (![] : Fin 0 → Fin S4096x5632.rank)

variable [Facts]

def fn {F : FTy → Type} [FloatOps F] (main_arg0 : FVec F S4096x1024 .f32) (main_arg1 : FVec F S1x1024 .f32) (main_arg2 : FVec F S1024x5632 .f32) (main_arg3 : FVec F S4096x5632 .f32) (main_arg4 : FVec F S4096x1024 .f32) : IVec S4096x1024 1 × IVec S1x1024 1 × IVec S1024x5632 1 × IVec S4096x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S4096x5632 .f32 := Host.absf main_arg3
  let main_cst_2 : FVec F S_ .f32 := constant S_ .f32 0x7F800000#32
  let main_v10 : FVec F S4096x5632 .f32 := broadcastInDim S4096x5632 ![] bcast_S_S4096x5632 main_cst_2
  let main_v11 : IVec S4096x5632 1 := cmpf .olt main_v9 main_v10
  (main_v2, main_v5, main_v8, main_v11)
-- ==== Gate.lean ====
abbrev S4096x4032 : Shape := ⟨2, ![4096, 4032]⟩
abbrev S4096x1024 : Shape := ⟨2, ![4096, 1024]⟩
abbrev S1024x1024 : Shape := ⟨2, ![1024, 1024]⟩
abbrev S4096x256 : Shape := ⟨2, ![4096, 256]⟩
abbrev S4096x128 : Shape := ⟨2, ![4096, 128]⟩
abbrev S4096x64 : Shape := ⟨2, ![4096, 64]⟩
abbrev S_ : Shape := ⟨0, ![]⟩
abbrev S4096x4096 : Shape := ⟨2, ![4096, 4096]⟩
abbrev S512x1024 : Shape := ⟨2, ![512, 1024]⟩
abbrev S512x2048 : Shape := ⟨2, ![512, 2048]⟩

abbrev nBuf : Space → Nat
  | .hbm => 24
  | .vmem => 17
  | .smem => 0
  | _ => 0

abbrev bufTy : (tb : Table) → Fin (tcTables nBuf tb) → BufTy
  | .hbm, ⟨0, _⟩ => ⟨S4096x4032, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x128, .f32⟩
  | .hbm, ⟨12, _⟩ => ⟨S4096x64, .f32⟩
  | .hbm, ⟨13, _⟩ => ⟨S_, .f32⟩
  | .hbm, ⟨14, _⟩ => ⟨S4096x64, .f32⟩
  | .hbm, ⟨15, _⟩ => ⟨S4096x4096, .f32⟩
  | .hbm, ⟨16, _⟩ => ⟨S4096x4096, .bf16⟩
  | .hbm, ⟨17, _⟩ => ⟨S4096x1024, .bf16⟩
  | .hbm, ⟨18, _⟩ => ⟨S1024x1024, .bf16⟩
  | .hbm, ⟨19, _⟩ => ⟨S4096x1024, .bf16⟩
  | .hbm, ⟨20, _⟩ => ⟨S4096x1024, .bf16⟩
  | .hbm, ⟨21, _⟩ => ⟨S4096x4096, .bf16⟩
  | .hbm, ⟨22, _⟩ => ⟨S4096x1024, .bf16⟩
  | .hbm, ⟨23, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x4032, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GateRefIdeal.lean ====
abbrev S4096x4032 : Shape := ⟨2, ![4096, 4032]⟩
abbrev S4096x1024 : Shape := ⟨2, ![4096, 1024]⟩
abbrev S1024x1024 : Shape := ⟨2, ![1024, 1024]⟩
abbrev S_ : Shape := ⟨0, ![]⟩
abbrev S4096x2048 : Shape := ⟨2, ![4096, 2048]⟩
abbrev S4096x4096 : Shape := ⟨2, ![4096, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x4032, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1024x1024, .f32⟩
  | .hbm, ⟨36, _⟩ => ⟨S1024x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x2048, .f32⟩
  | .hbm, ⟨46, _⟩ => ⟨S4096x4096, .f32⟩
  | .hbm, ⟨47, _⟩ => ⟨S4096x4096, .bf16⟩
  | .hbm, ⟨48, _⟩ => ⟨S4096x1024, .bf16⟩
  | .hbm, ⟨49, _⟩ => ⟨S4096x1024, .bf16⟩
  | _, _ => ⟨S4096x4032, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Mla.lean ====
abbrev S4096x1536 : Shape := ⟨2, ![4096, 1536]⟩
abbrev S4096x2048 : Shape := ⟨2, ![4096, 2048]⟩
abbrev S4096x64 : Shape := ⟨2, ![4096, 64]⟩
abbrev S4096 : Shape := ⟨1, ![4096]⟩
abbrev S4096x1024 : Shape := ⟨2, ![4096, 1024]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x8x192 : Shape := ⟨3, ![4096, 8, 192]⟩
abbrev S4096x8x32 : Shape := ⟨3, ![4096, 8, 32]⟩
abbrev S4096x1x32 : Shape := ⟨3, ![4096, 1, 32]⟩
abbrev S4096x8x64 : Shape := ⟨3, ![4096, 8, 64]⟩
abbrev S4096x8x128 : Shape := ⟨3, ![4096, 8, 128]⟩
abbrev S4096x8x256 : Shape := ⟨3, ![4096, 8, 256]⟩
abbrev S8x4096x256 : Shape := ⟨3, ![8, 4096, 256]⟩
abbrev S4096x1x64 : Shape := ⟨3, ![4096, 1, 64]⟩
abbrev S8x4096x4096 : Shape := ⟨3, ![8, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x64 : Shape := ⟨3, ![8, 4096, 64]⟩
abbrev S1x1024x256 : Shape := ⟨3, ![1, 1024, 256]⟩
abbrev S1x4096x256 : Shape := ⟨3, ![1, 4096, 256]⟩
abbrev S1024x128 : Shape := ⟨2, ![1024, 128]⟩
abbrev S1x1024x1 : Shape := ⟨3, ![1, 1024, 1]⟩
abbrev S4096x256 : Shape := ⟨2, ![4096, 256]⟩
abbrev S1x4096x64 : Shape := ⟨3, ![1, 4096, 64]⟩
abbrev S1x4096x128 : Shape := ⟨3, ![1, 4096, 128]⟩
abbrev S1024x256 : Shape := ⟨2, ![1024, 256]⟩
abbrev S1024x1 : Shape := ⟨2, ![1024, 1]⟩
abbrev S1024 : Shape := ⟨1, ![1024]⟩
abbrev S1024x1024 : Shape := ⟨2, ![1024, 1024]⟩
abbrev S1x1024x128 : Shape := ⟨3, ![1, 1024, 128]⟩

abbrev nBuf : Space → Nat
  | .hbm => 101
  | .vmem => 26
  | .smem => 0
  | _ => 0

abbrev bufTy : (tb : Table) → Fin (tcTables nBuf tb) → BufTy
  | .hbm, ⟨0, _⟩ => ⟨S4096x1536, .f32⟩
  | .hbm, ⟨1, _⟩ => ⟨S4096x2048, .f32⟩
  | .hbm, ⟨2, _⟩ => ⟨S4096x64, .f32⟩
  | .hbm, ⟨3, _⟩ => ⟨S4096, .i32⟩
  | .hbm, ⟨4, _⟩ => ⟨S4096x1024, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S_, .f32⟩
  | .hbm, ⟨22, _⟩ => ⟨S4096x64, .f32⟩
  | .hbm, ⟨23, _⟩ => ⟨S4096x128, .f32⟩
  | .hbm, ⟨24, _⟩ => ⟨S4096x32, .f32⟩
  | .hbm, ⟨25, _⟩ => ⟨S_, .f32⟩
  | .hbm, ⟨26, _⟩ => ⟨S4096x64, .f32⟩
  | .hbm, ⟨27, _⟩ => ⟨S4096x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x1536, .f32⟩
  | .hbm, ⟨34, _⟩ => ⟨S4096x1536, .f32⟩
  | .hbm, ⟨35, _⟩ => ⟨S4096x8x192, .f32⟩
  | .hbm, ⟨36, _⟩ => ⟨S4096x8x32, .f32⟩
  | .hbm, ⟨37, _⟩ => ⟨S4096x8x32, .f32⟩
  | .hbm, ⟨38, _⟩ => ⟨S4096x1x32, .f32⟩
  | .hbm, ⟨39, _⟩ => ⟨S4096x1x32, .f32⟩
  | .hbm, ⟨40, _⟩ => ⟨S_, .f32⟩
  | .hbm, ⟨41, _⟩ => ⟨S4096x8x64, .f32⟩
  | .hbm, ⟨42, _⟩ => ⟨S4096x8x128, .f32⟩
  | .hbm, ⟨43, _⟩ => ⟨S4096x8x32, .f32⟩
  | .hbm, ⟨44, _⟩ => ⟨S4096x8x32, .f32⟩
  | .hbm, ⟨45, _⟩ => ⟨S4096x8x32, .f32⟩
  | .hbm, ⟨46, _⟩ => ⟨S4096x8x32, .f32⟩
  | .hbm, ⟨47, _⟩ => ⟨S4096x8x32, .f32⟩
  | .hbm, ⟨48, _⟩ => ⟨S4096x8x32, .f32⟩
  | .hbm, ⟨49, _⟩ => ⟨S4096x8x32, .f32⟩
  | .hbm, ⟨50, _⟩ => ⟨S4096x8x32, .f32⟩
  | .hbm, ⟨51, _⟩ => ⟨S4096x8x32, .f32⟩
  | .hbm, ⟨52, _⟩ => ⟨S4096x8x32, .f32⟩
  | .hbm, ⟨53, _⟩ => ⟨S4096x8x256, .f32⟩
  | .hbm, ⟨54, _⟩ => ⟨S8x4096x256, .f32⟩
  | .hbm, ⟨55, _⟩ => ⟨S4096x8x256, .f32⟩
  | .hbm, ⟨56, _⟩ => ⟨S4096x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x32, .f32⟩
  | .hbm, ⟨61, _⟩ => ⟨S4096x32, .f32⟩
  | .hbm, ⟨62, _⟩ => ⟨S4096x32, .f32⟩
  | .hbm, ⟨63, _⟩ => ⟨S4096x32, .f32⟩
  | .hbm, ⟨64, _⟩ => ⟨S4096x64, .f32⟩
  | .hbm, ⟨65, _⟩ => ⟨S4096x8x128, .f32⟩
  | .hbm, ⟨66, _⟩ => ⟨S4096x1x64, .f32⟩
  | .hbm, ⟨67, _⟩ => ⟨S4096x8x64, .f32⟩
  | .hbm, ⟨68, _⟩ => ⟨S4096x8x256, .f32⟩
  | .hbm, ⟨69, _⟩ => ⟨S8x4096x256, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096, .f32⟩
  | .hbm, ⟨81, _⟩ => ⟨S8x4096x1, .f32⟩
  | .hbm, ⟨82, _⟩ => ⟨S8x4096x4096, .f32⟩
  | .hbm, ⟨83, _⟩ => ⟨S8x4096x4096, .f32⟩
  | .hbm, ⟨84, _⟩ => ⟨S4096x8x128, .f32⟩
  | .hbm, ⟨85, _⟩ => ⟨S8x128x4096, .f32⟩
  | .hbm, ⟨86, _⟩ => ⟨S4096x8x128, .f32⟩
  | .hbm, ⟨87, _⟩ => ⟨S4096x1024, .f32⟩
  | .hbm, ⟨88, _⟩ => ⟨S8x4096x1, .f32⟩
  | .hbm, ⟨89, _⟩ => ⟨S8x4096x1, .f32⟩
  | .hbm, ⟨90, _⟩ => ⟨S8x4096x1, .f32⟩
  | .hbm, ⟨91, _⟩ => ⟨S8x4096x1, .f32⟩
  | .hbm, ⟨92, _⟩ => ⟨S8x4096x256, .bf16⟩
  | .hbm, ⟨93, _⟩ => ⟨S8x4096x256, .bf16⟩
  | .hbm, ⟨94, _⟩ => ⟨S4096x2048, .bf16⟩
  | .hbm, ⟨95, _⟩ => ⟨S4096x1024, .bf16⟩
  | .hbm, ⟨96, _⟩ => ⟨S4096x1024, .bf16⟩
  | .hbm, ⟨97, _⟩ => ⟨S4096x1024, .bf16⟩
  | .hbm, ⟨98, _⟩ => ⟨S4096x1024, .bf16⟩
  | .hbm, ⟨99, _⟩ => ⟨S4096x2048, .bf16⟩
  | .hbm, ⟨100, _⟩ => ⟨S8x4096x64, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1024x1, .f32⟩
  | .local _ .vmem, ⟨11, _⟩ => ⟨S1x1024x1, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S4096x256, .bf16⟩
  | .local _ .vmem, ⟨21, _⟩ => ⟨S4096x256, .bf16⟩
  | .local _ .vmem, ⟨22, _⟩ => ⟨S1x4096x64, .bf16⟩
  | .local _ .vmem, ⟨23, _⟩ => ⟨S1x4096x64, .bf16⟩
  | .local _ .vmem, ⟨24, _⟩ => ⟨S1x4096x256, .f32⟩
  | .local _ .vmem, ⟨25, _⟩ => ⟨S1x4096x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83_0 : Ref sig .tc := ⟨.hbm, 97, rfl⟩
abbrev main_v83_1 : Ref sig .tc := ⟨.hbm, 98, rfl⟩
abbrev main_v83_2 : Ref sig .tc := ⟨.hbm, 99, rfl⟩
abbrev main_v83_3 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v158 : BitVec 1 := Scalar.cmpi .eq arg1 c3_i32
  let v159 : BitVec 32 := Scalar.extui v158
  let c0_i32_106 : BitVec 32 := 0#32
  let v160 : BitVec 1 := Scalar.cmpi .ne v159 c0_i32_106
  v160

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4096x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== MlaIdeal.lean ====
variable {F : FTy → Type} [FloatOps F] [Named F]
def κ : String → Option EReal := fun
  | "ln2" => some ((Real.log 2 : ℝ) : EReal)
  | "mla_scale" => some (((Real.sqrt 192)⁻¹ : ℝ) : EReal)
  | _ => none
-- ==== MlaRefIdeal.lean ====
abbrev S4096x1536 : Shape := ⟨2, ![4096, 1536]⟩
abbrev S4096x2048 : Shape := ⟨2, ![4096, 2048]⟩
abbrev S4096x64 : Shape := ⟨2, ![4096, 64]⟩
abbrev S4096 : Shape := ⟨1, ![4096]⟩
abbrev S4096x1024 : Shape := ⟨2, ![4096, 1024]⟩
abbrev S4096x8x192 : Shape := ⟨3, ![4096, 8, 192]⟩
abbrev S4096x8x256 : Shape := ⟨3, ![4096, 8, 256]⟩
abbrev S4096x1x64 : Shape := ⟨3, ![4096, 1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x64 : Shape := ⟨3, ![4096, 8, 64]⟩
abbrev S4096x8x128 : Shape := ⟨3, ![4096, 8, 128]⟩
abbrev S4096x8x32 : Shape := ⟨3, ![4096, 8, 32]⟩
abbrev S8x4096x4096 : Shape := ⟨3, ![8, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩
abbrev S8x4096x64 : Shape := ⟨3, ![8, 4096, 64]⟩

abbrev nBuf : Space → Nat
  | .hbm => 187
  | .vmem => 0
  | .smem => 0
  | _ => 0

abbrev hbmTy0_0 (i : Nat) : BufTy := match i % 128 with
  | 0 => ⟨S4096x1536, .f32⟩
  | 1 => ⟨S4096x2048, .f32⟩
  | 2 => ⟨S4096x64, .f32⟩
  | 3 => ⟨S4096, .i32⟩
  | 4 => ⟨S4096x1024, .f32⟩
  | 5 => ⟨S4096x8x192, .f32⟩
  | 6 => ⟨S4096x8x256, .f32⟩
  | 7 => ⟨S4096x1x64, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S4096, .f32⟩
  | 17 => ⟨S4096x1, .f32⟩
  | 18 => ⟨S1x32, .f32⟩
  | 19 => ⟨S4096x32, .f32⟩
  | 20 => ⟨S4096x32, .f32⟩
  | 21 => ⟨S4096x32, .f32⟩
  | 22 => ⟨S4096x32, .f32⟩
  | 23 => ⟨S4096x1x32, .f32⟩
  | 24 => ⟨S4096x32, .f32⟩
  | 25 => ⟨S4096x1x32, .f32⟩
  | 26 => ⟨S4096x1x32, .f32⟩
  | 27 => ⟨S4096x1x32, .f32⟩
  | 28 => ⟨S4096x1x32, .f32⟩
  | 29 => ⟨S4096x1x32, .f32⟩
  | 30 => ⟨S4096x1x32, .f32⟩
  | 31 => ⟨S4096x1x32, .f32⟩
  | 32 => ⟨S4096x1x32, .f32⟩
  | 33 => ⟨S4096x1x32, .f32⟩
  | 34 => ⟨S4096x1x64, .f32⟩
  | 35 => ⟨S4096x8x64, .f32⟩
  | 36 => ⟨S4096x8x128, .f32⟩
  | 37 => ⟨S4096x8x192, .f32⟩
  | 38 => ⟨S4096x8x128, .f32⟩
  | 39 => ⟨S4096x8x128, .f32⟩
  | 40 => ⟨S4096x8x64, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S4096, .f32⟩
  | 50 => ⟨S4096x1, .f32⟩
  | 51 => ⟨S1x32, .f32⟩
  | 52 => ⟨S4096x32, .f32⟩
  | 53 => ⟨S4096x32, .f32⟩
  | 54 => ⟨S4096x32, .f32⟩
  | 55 => ⟨S4096x32, .f32⟩
  | 56 => ⟨S4096x1x32, .f32⟩
  | 57 => ⟨S4096x32, .f32⟩
  | 58 => ⟨S4096x1x32, .f32⟩
  | 59 => ⟨S4096x8x32, .f32⟩
  | 60 => ⟨S4096x8x32, .f32⟩
  | 61 => ⟨S4096x8x32, .f32⟩
  | 62 => ⟨S4096x8x32, .f32⟩
  | 63 => ⟨S4096x8x32, .f32⟩
  | 64 => ⟨S4096x8x32, .f32⟩
  | 65 => ⟨S4096x8x32, .f32⟩
  | 66 => ⟨S4096x8x32, .f32⟩
  | 67 => ⟨S4096x8x32, .f32⟩
  | 68 => ⟨S4096x8x32, .f32⟩
  | 69 => ⟨S4096x8x32, .f32⟩
  | 70 => ⟨S4096x8x32, .f32⟩
  | 71 => ⟨S4096x8x64, .f32⟩
  | 72 => ⟨S4096x8x192, .f32⟩
  | 73 => ⟨S_, .f32⟩
  | 74 => ⟨S_, .f32⟩
  | 75 => ⟨S_, .f32⟩
  | 76 => ⟨S_, .f32⟩
  | 77 => ⟨S8x4096x4096, .f32⟩
  | 78 => ⟨S8x4096x4096, .f32⟩
  | 79 => ⟨S8x4096x4096, .f32⟩
  | 80 => ⟨S_, .f32⟩
  | 81 => ⟨S8x4096, .f32⟩
  | 82 => ⟨S8x4096x1, .f32⟩
  | 83 => ⟨S8x4096x4096, .f32⟩
  | 84 => ⟨S8x4096x4096, .i1⟩
  | 85 => ⟨S8x4096x4096, .f32⟩
  | 86 => ⟨S_, .f32⟩
  | 87 => ⟨S8x4096, .f32⟩
  | 88 => ⟨S_, .f32⟩
  | 89 => ⟨S8x4096, .f32⟩
  | 90 => ⟨S8x4096, .f32⟩
  | 91 => ⟨S_, .f32⟩
  | 92 => ⟨S8x4096, .f32⟩
  | 93 => ⟨S8x4096, .i1⟩
  | 94 => ⟨S_, .f32⟩
  | 95 => ⟨S8x4096, .f32⟩
  | 96 => ⟨S8x4096, .i1⟩
  | 97 => ⟨S_, .f32⟩
  | 98 => ⟨S8x4096, .f32⟩
  | 99 => ⟨S_, .f32⟩
  | 100 => ⟨S8x4096, .f32⟩
  | 101 => ⟨S_, .f32⟩
  | 102 => ⟨S8x4096, .f32⟩
  | 103 => ⟨S8x4096, .f32⟩
  | 104 => ⟨S8x4096, .f32⟩
  | 105 => ⟨S8x4096x1, .f32⟩
  | 106 => ⟨S8x4096x4096, .f32⟩
  | 107 => ⟨S8x4096x4096, .f32⟩
  | 108 => ⟨S8x4096x4096, .f32⟩
  | 109 => ⟨S_, .f32⟩
  | 110 => ⟨S8x4096, .f32⟩
  | 111 => ⟨S8x4096x1, .f32⟩
  | 112 => ⟨S8x4096x4096, .f32⟩
  | 113 => ⟨S8x4096x4096, .f32⟩
  | 114 => ⟨S8x4096x1, .f32⟩
  | 115 => ⟨S_, .f32⟩
  | 116 => ⟨S8x4096x1, .f32⟩
  | 117 => ⟨S8x4096x1, .f32⟩
  | 118 => ⟨S8x128x4096, .f32⟩
  | 119 => ⟨S4096x8x128, .f32⟩
  | 120 => ⟨S4096x1024, .f32⟩
  | 121 => ⟨S4096x8x128, .f32⟩
  | 122 => ⟨S8x128x4096, .f32⟩
  | 123 => ⟨S8x4096x4096, .f32⟩
  | 124 => ⟨S8x128x4096, .f32⟩
  | 125 => ⟨S4096x8x128, .f32⟩
  | 126 => ⟨S8x4096x4096, .f32⟩
  | 127 => ⟨S8x4096x4096, .f32⟩
  | _ => ⟨S4096x1536, .f32⟩

abbrev hbmTy0_1 (i : Nat) : BufTy := match i % 128 with
  | 0 => ⟨S8x4096x4096, .f32⟩
  | 1 => ⟨S_, .f32⟩
  | 2 => ⟨S8x4096, .f32⟩
  | 3 => ⟨S8x4096x1, .f32⟩
  | 4 => ⟨S8x4096x1, .f32⟩
  | 5 => ⟨S8x4096x4096, .f32⟩
  | 6 => ⟨S8x4096x4096, .f32⟩
  | 7 => ⟨S_, .f32⟩
  | 8 => ⟨S8x4096, .f32⟩
  | 9 => ⟨S8x4096x4096, .f32⟩
  | 10 => ⟨S8x4096x4096, .f32⟩
  | 11 => ⟨S8x4096x4096, .f32⟩
  | 12 => ⟨S8x4096x4096, .f32⟩
  | 13 => ⟨S8x4096x4096, .f32⟩
  | 14 => ⟨S8x4096x192, .f32⟩
  | 15 => ⟨S4096x8x192, .f32⟩
  | 16 => ⟨S8x4096x192, .f32⟩
  | 17 => ⟨S4096x8x192, .f32⟩
  | 18 => ⟨S4096x8x128, .f32⟩
  | 19 => ⟨S4096x8x64, .f32⟩
  | 20 => ⟨S4096x8x32, .f32⟩
  | 21 => ⟨S4096x8x32, .f32⟩
  | 22 => ⟨S4096x8x32, .f32⟩
  | 23 => ⟨S4096x8x32, .f32⟩
  | 24 => ⟨S4096x8x32, .f32⟩
  | 25 => ⟨S4096x8x32, .f32⟩
  | 26 => ⟨S4096x8x32, .f32⟩
  | 27 => ⟨S4096x8x32, .f32⟩
  | 28 => ⟨S4096x8x32, .f32⟩
  | 29 => ⟨S4096x8x32, .f32⟩
  | 30 => ⟨S4096x8x32, .f32⟩
  | 31 => ⟨S4096x8x32, .f32⟩
  | 32 => ⟨S4096x8x32, .f32⟩
  | 33 => ⟨S_, .f32⟩
  | 34 => ⟨S4096x8x64, .f32⟩
  | 35 => ⟨S_, .f32⟩
  | 36 => ⟨S4096x8x64, .f32⟩
  | 37 => ⟨S4096x8x64, .f32⟩
  | 38 => ⟨S_, .f32⟩
  | 39 => ⟨S4096x8x192, .f32⟩
  | 40 => ⟨S_, .f32⟩
  | 41 => ⟨S4096x8x192, .f32⟩
  | 42 => ⟨S4096x8x192, .f32⟩
  | 43 => ⟨S4096x8x128, .f32⟩
  | 44 => ⟨S4096x1024, .f32⟩
  | 45 => ⟨S4096x8x64, .f32⟩
  | 46 => ⟨S_, .f32⟩
  | 47 => ⟨S4096x8x64, .f32⟩
  | 48 => ⟨S4096x8x128, .f32⟩
  | 49 => ⟨S4096x1024, .f32⟩
  | 50 => ⟨S4096x8x128, .f32⟩
  | 51 => ⟨S4096x8x256, .f32⟩
  | 52 => ⟨S4096x2048, .f32⟩
  | 53 => ⟨S4096x1024, .bf16⟩
  | 54 => ⟨S4096x1024, .bf16⟩
  | 55 => ⟨S4096x2048, .bf16⟩
  | 56 => ⟨S4096x8x64, .f32⟩
  | 57 => ⟨S8x4096x64, .f32⟩
  | 58 => ⟨S8x4096x64, .bf16⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_3 : Ref sig .tc := ⟨.hbm, 73, rfl⟩
abbrev main_v64 : Ref sig .tc := ⟨.hbm, 74, rfl⟩
abbrev main_cst_4 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_5 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_6 : Ref sig .tc := ⟨.hbm, 86, rfl⟩
abbrev main_v74 : Ref sig .tc := ⟨.hbm, 87, rfl⟩
abbrev main_cst_7 : Ref sig .tc := ⟨.hbm, 88, rfl⟩
abbrev main_v75 : Ref sig .tc := ⟨.hbm, 89, rfl⟩
abbrev main_v76 : Ref sig .tc := ⟨.hbm, 90, rfl⟩
abbrev main_cst_8 : Ref sig .tc := ⟨.hbm, 91, rfl⟩
abbrev main_v77 : Ref sig .tc := ⟨.hbm, 92, rfl⟩
abbrev main_v78 : Ref sig .tc := ⟨.hbm, 93, rfl⟩
abbrev main_cst_9 : Ref sig .tc := ⟨.hbm, 94, rfl⟩
abbrev main_v79 : Ref sig .tc := ⟨.hbm, 95, rfl⟩
abbrev main_v80 : Ref sig .tc := ⟨.hbm, 96, rfl⟩
abbrev main_cst_10 : Ref sig .tc := ⟨.hbm, 97, rfl⟩
abbrev main_v81 : Ref sig .tc := ⟨.hbm, 98, rfl⟩
abbrev main_cst_11 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_13 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_14 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_cst_15 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_cst_16 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_cst_17 : Ref sig .tc := ⟨.hbm, 161, rfl⟩
abbrev main_v138 : Ref sig .tc := ⟨.hbm, 162, rfl⟩
abbrev main_cst_18 : Ref sig .tc := ⟨.hbm, 163, rfl⟩
abbrev main_v139 : Ref sig .tc := ⟨.hbm, 164, rfl⟩
abbrev main_v140 : Ref sig .tc := ⟨.hbm, 165, rfl⟩
abbrev main_cst_19 : Ref sig .tc := ⟨.hbm, 166, rfl⟩
abbrev main_v141 : Ref sig .tc := ⟨.hbm, 167, rfl⟩
abbrev main_cst_20 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_cst_21 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩

abbrev nD : Nat := 1
abbrev τ : Topo := Topo.v7x

variable {F : FTy → Type} [FloatOps F]
-- ==== Norm2.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S5632x1024 : Shape := ⟨2, ![5632, 1024]⟩
abbrev S4096x2816 : Shape := ⟨2, ![4096, 2816]⟩
abbrev S256x2816 : Shape := ⟨2, ![256, 2816]⟩
abbrev S256x1024 : Shape := ⟨2, ![256, 1024]⟩
abbrev S2816x1024 : Shape := ⟨2, ![2816, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S5632x1024, .f32⟩
  | .hbm, ⟨6, _⟩ => ⟨S5632x1024, .bf16⟩
  | .hbm, ⟨7, _⟩ => ⟨S4096x2816, .f32⟩
  | .hbm, ⟨8, _⟩ => ⟨S4096x2816, .bf16⟩
  | .hbm, ⟨9, _⟩ => ⟨S4096x2816, .f32⟩
  | .hbm, ⟨10, _⟩ => ⟨S4096x2816, .bf16⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S5632x1024, .bf16⟩
  | .local _ .vmem, ⟨3, _⟩ => ⟨S256x2816, .bf16⟩
  | .local _ .vmem, ⟨4, _⟩ => ⟨S256x2816, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Norm2RefIdeal.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S5632x1024 : Shape := ⟨2, ![5632, 1024]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5632, .f32⟩
  | .hbm, ⟨25, _⟩ => ⟨S5632x1024, .f32⟩
  | .hbm, ⟨26, _⟩ => ⟨S1024x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Norm1.lean ====
abbrev S4096x1024 : Shape := ⟨2, ![4096, 1024]⟩
abbrev S1x1024 : Shape := ⟨2, ![1, 1024]⟩
abbrev S1024x4032 : Shape := ⟨2, ![1024, 4032]⟩
abbrev S4096x4032 : Shape := ⟨2, ![4096, 4032]⟩
abbrev S4032x1024 : Shape := ⟨2, ![4032, 1024]⟩
abbrev S1024x1024 : Shape := ⟨2, ![1024, 1024]⟩
abbrev S256x1024 : Shape := ⟨2, ![256, 1024]⟩
abbrev S128x1024 : Shape := ⟨2, ![128, 1024]⟩
abbrev S64x1024 : Shape := ⟨2, ![64, 1024]⟩
abbrev S_ : Shape := ⟨0, ![]⟩
abbrev S4096x256 : Shape := ⟨2, ![4096, 256]⟩
abbrev S4096x128 : Shape := ⟨2, ![4096, 128]⟩
abbrev S4096x64 : Shape := ⟨2, ![4096, 64]⟩
abbrev S4096x4096 : Shape := ⟨2, ![4096, 4096]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 32
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4032, .f32⟩
  | .hbm, ⟨3, _⟩ => ⟨S4096x4032, .f32⟩
  | .hbm, ⟨4, _⟩ => ⟨S4096x1024, .f32⟩
  | .hbm, ⟨5, _⟩ => ⟨S4032x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S128x1024, .f32⟩
  | .hbm, ⟨13, _⟩ => ⟨S64x1024, .f32⟩
  | .hbm, ⟨14, _⟩ => ⟨S_, .f32⟩
  | .hbm, ⟨15, _⟩ => ⟨S64x1024, .f32⟩
  | .hbm, ⟨16, _⟩ => ⟨S4096x1024, .f32⟩
  | .hbm, ⟨17, _⟩ => ⟨S4096x1024, .bf16⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x128, .f32⟩
  | .hbm, ⟨25, _⟩ => ⟨S4096x64, .f32⟩
  | .hbm, ⟨26, _⟩ => ⟨S_, .f32⟩
  | .hbm, ⟨27, _⟩ => ⟨S4096x64, .f32⟩
  | .hbm, ⟨28, _⟩ => ⟨S4096x4096, .f32⟩
  | .hbm, ⟨29, _⟩ => ⟨S4096x4096, .bf16⟩
  | .hbm, ⟨30, _⟩ => ⟨S4096x1024, .f32⟩
  | .hbm, ⟨31, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Norm1RefIdeal.lean ====
abbrev S4096x1024 : Shape := ⟨2, ![4096, 1024]⟩
abbrev S1x1024 : Shape := ⟨2, ![1, 1024]⟩
abbrev S1024x4032 : Shape := ⟨2, ![1024, 4032]⟩
abbrev S4096x4032 : Shape := ⟨2, ![4096, 4032]⟩
abbrev S_ : Shape := ⟨0, ![]⟩
abbrev S4096 : Shape := ⟨1, ![4096]⟩
abbrev S4096x1 : Shape := ⟨2, ![4096, 1]⟩
abbrev S4032x1024 : Shape := ⟨2, ![4032, 1024]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4032, .f32⟩
  | .hbm, ⟨3, _⟩ => ⟨S4096x4032, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4032, .f32⟩
  | .hbm, ⟨25, _⟩ => ⟨S4032x1024, .f32⟩
  | .hbm, ⟨26, _⟩ => ⟨S1024x4032, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Loss.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1024, .f32⟩
  | .hbm, ⟨4, _⟩ => ⟨S4096x1024, .f32⟩
  | .hbm, ⟨5, _⟩ => ⟨S4096x2816, .bf16⟩
  | .hbm, ⟨6, _⟩ => ⟨S2816x1024, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== LossRefIdeal.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .bf16⟩
  | .hbm, ⟨76, _⟩ => ⟨S1x1024, .f32⟩
  | .hbm, ⟨77, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Lat.lean ====
abbrev S4096x4032 : Shape := ⟨2, ![4096, 4032]⟩
abbrev S4096 : Shape := ⟨1, ![4096]⟩
abbrev S1x256 : Shape := ⟨2, ![1, 256]⟩
abbrev S1x128 : Shape := ⟨2, ![1, 128]⟩
abbrev S4096x256 : Shape := ⟨2, ![4096, 256]⟩
abbrev S4096x128 : Shape := ⟨2, ![4096, 128]⟩
abbrev S8x4096x64 : Shape := ⟨3, ![8, 4096, 64]⟩
abbrev S4352x256 : Shape := ⟨2, ![4352, 256]⟩
abbrev S4096x4096 : Shape := ⟨2, ![4096, 4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1024 : Shape := ⟨2, ![4096, 1024]⟩
abbrev S4096x64 : Shape := ⟨2, ![4096, 64]⟩
abbrev S128x256 : Shape := ⟨2, ![128, 256]⟩
abbrev S128x128 : Shape := ⟨2, ![128, 128]⟩
abbrev S8x128x64 : Shape := ⟨3, ![8, 128, 64]⟩
abbrev S128x32 : Shape := ⟨2, ![128, 32]⟩
abbrev S128x1024 : Shape := ⟨2, ![128, 1024]⟩
abbrev S128 : Shape := ⟨1, ![128]⟩
abbrev S128x1 : Shape := ⟨2, ![128, 1]⟩
abbrev S256 : Shape := ⟨1, ![256]⟩
abbrev S1x128x64 : Shape := ⟨3, ![1, 128, 64]⟩
abbrev S128x64 : Shape := ⟨2, ![128, 64]⟩

abbrev nBuf : Space → Nat
  | .hbm => 42
  | .vmem => 24
  | .smem => 0
  | _ => 0

abbrev bufTy : (tb : Table) → Fin (tcTables nBuf tb) → BufTy
  | .hbm, ⟨0, _⟩ => ⟨S4096x4032, .f32⟩
  | .hbm, ⟨1, _⟩ => ⟨S4096, .i32⟩
  | .hbm, ⟨2, _⟩ => ⟨S1x256, .f32⟩
  | .hbm, ⟨3, _⟩ => ⟨S1x128, .f32⟩
  | .hbm, ⟨4, _⟩ => ⟨S4096x256, .f32⟩
  | .hbm, ⟨5, _⟩ => ⟨S4096x128, .f32⟩
  | .hbm, ⟨6, _⟩ => ⟨S8x4096x64, .f32⟩
  | .hbm, ⟨7, _⟩ => ⟨S4352x256, .f32⟩
  | .hbm, ⟨8, _⟩ => ⟨S4352x256, .f32⟩
  | .hbm, ⟨9, _⟩ => ⟨S4096x4096, .bf16⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096, .f32⟩
  | .hbm, ⟨19, _⟩ => ⟨S4096x1, .f32⟩
  | .hbm, ⟨20, _⟩ => ⟨S1x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S4096x128, .f32⟩
  | .hbm, ⟨33, _⟩ => ⟨S4096x64, .f32⟩
  | .hbm, ⟨34, _⟩ => ⟨S_, .f32⟩
  | .hbm, ⟨35, _⟩ => ⟨S4096x64, .f32⟩
  | .hbm, ⟨36, _⟩ => ⟨S4096x4096, .f32⟩
  | .hbm, ⟨37, _⟩ => ⟨S4096x4096, .bf16⟩
  | .hbm, ⟨38, _⟩ => ⟨S8x4096x64, .bf16⟩
  | .hbm, ⟨39, _⟩ => ⟨S4096x4096, .bf16⟩
  | .hbm, ⟨40, _⟩ => ⟨S1x256, .f32⟩
  | .hbm, ⟨41, _⟩ => ⟨S1x128, .f32⟩
  | .local _ .vmem, ⟨0, _⟩ => ⟨S128x256, .f32⟩
  | .local _ .vmem, ⟨1, _⟩ => ⟨S128x256, .f32⟩
  | .local _ .vmem, ⟨2, _⟩ => ⟨S128x128, .f32⟩
  | .local _ .vmem, ⟨3, _⟩ => ⟨S128x128, .f32⟩
  | .local _ .vmem, ⟨4, _⟩ => ⟨S8x128x64, .bf16⟩
  | .local _ .vmem, ⟨5, _⟩ => ⟨S8x128x64, .bf16⟩
  | .local _ .vmem, ⟨6, _⟩ => ⟨S128x32, .f32⟩
  | .local _ .vmem, ⟨7, _⟩ => ⟨S128x32, .f32⟩
  | .local _ .vmem, ⟨8, _⟩ => ⟨S128x32, .f32⟩
  | .local _ .vmem, ⟨9, _⟩ => ⟨S128x32, .f32⟩
  | .local _ .vmem, ⟨10, _⟩ => ⟨S128x256, .bf16⟩
  | .local _ .vmem, ⟨11, _⟩ => ⟨S128x256, .bf16⟩
  | .local _ .vmem, ⟨12, _⟩ => ⟨S128x128, .bf16⟩
  | .local _ .vmem, ⟨13, _⟩ => ⟨S128x128, .bf16⟩
  | .local _ .vmem, ⟨14, _⟩ => ⟨S1x256, .f32⟩
  | .local _ .vmem, ⟨15, _⟩ => ⟨S1x128, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x1024, .bf16⟩
  | .local _ .vmem, ⟨21, _⟩ => ⟨S128x1024, .bf16⟩
  | .local _ .vmem, ⟨22, _⟩ => ⟨S1x256, .f32⟩
  | .local _ .vmem, ⟨23, _⟩ => ⟨S1x128, .f32⟩
  | _, _ => ⟨S4096x4032, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== LatRefIdeal.lean ====
abbrev S4096x4032 : Shape := ⟨2, ![4096, 4032]⟩
abbrev S4096 : Shape := ⟨1, ![4096]⟩
abbrev S1x256 : Shape := ⟨2, ![1, 256]⟩
abbrev S1x128 : Shape := ⟨2, ![1, 128]⟩
abbrev S4096x256 : Shape := ⟨2, ![4096, 256]⟩
abbrev S4096x128 : Shape := ⟨2, ![4096, 128]⟩
abbrev S8x4096x64 : Shape := ⟨3, ![8, 4096, 64]⟩
abbrev S4352x256 : Shape := ⟨2, ![4352, 256]⟩
abbrev S4096x4096 : Shape := ⟨2, ![4096, 4096]⟩
abbrev S4096x192 : Shape := ⟨2, ![4096, 192]⟩
abbrev S4096x1024 : Shape := ⟨2, ![4096, 1024]⟩
abbrev S4096x64 : Shape := ⟨2, ![4096, 64]⟩
abbrev S4096x1x64 : Shape := ⟨3, ![4096, 1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S128x256 : Shape := ⟨2, ![128, 256]⟩
abbrev S4096x8x64 : Shape := ⟨3, ![4096, 8, 64]⟩
abbrev S128 : Shape := ⟨1, ![128]⟩
abbrev S256 : Shape := ⟨1, ![256]⟩
abbrev S4096x3072 : Shape := ⟨2, ![4096, 3072]⟩

abbrev nBuf : Space → Nat
  | .hbm => 181
  | .vmem => 0
  | .smem => 0
  | _ => 0

abbrev hbmTy0_0 (i : Nat) : BufTy := match i % 128 with
  | 0 => ⟨S4096x4032, .f32⟩
  | 1 => ⟨S4096, .i32⟩
  | 2 => ⟨S1x256, .f32⟩
  | 3 => ⟨S1x128, .f32⟩
  | 4 => ⟨S4096x256, .f32⟩
  | 5 => ⟨S4096x128, .f32⟩
  | 6 => ⟨S8x4096x64, .f32⟩
  | 7 => ⟨S4352x256, .f32⟩
  | 8 => ⟨S4352x256, .f32⟩
  | 9 => ⟨S4096x4096, .bf16⟩
  | 10 => ⟨S4096x256, .f32⟩
  | 11 => ⟨S4096x192, .f32⟩
  | 12 => ⟨S4096x1024, .f32⟩
  | 13 => ⟨S4096x256, .f32⟩
  | 14 => ⟨S4096x256, .f32⟩
  | 15 => ⟨S4096x1024, .f32⟩
  | 16 => ⟨S4096x1024, .f32⟩
  | 17 => ⟨S4096x128, .f32⟩
  | 18 => ⟨S4096x64, .f32⟩
  | 19 => ⟨S4096x1x64, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S4096, .f32⟩
  | 29 => ⟨S4096x1, .f32⟩
  | 30 => ⟨S1x32, .f32⟩
  | 31 => ⟨S4096x32, .f32⟩
  | 32 => ⟨S4096x32, .f32⟩
  | 33 => ⟨S4096x32, .f32⟩
  | 34 => ⟨S4096x32, .f32⟩
  | 35 => ⟨S4096x1x32, .f32⟩
  | 36 => ⟨S4096x32, .f32⟩
  | 37 => ⟨S4096x1x32, .f32⟩
  | 38 => ⟨S4096x1x32, .f32⟩
  | 39 => ⟨S4096x1x32, .f32⟩
  | 40 => ⟨S4096x1x32, .f32⟩
  | 41 => ⟨S4096x1x32, .f32⟩
  | 42 => ⟨S4096x1x32, .f32⟩
  | 43 => ⟨S4096x1x32, .f32⟩
  | 44 => ⟨S4096x1x32, .f32⟩
  | 45 => ⟨S4096x1x32, .f32⟩
  | 46 => ⟨S4096x1x64, .f32⟩
  | 47 => ⟨S_, .f32⟩
  | 48 => ⟨S128x256, .f32⟩
  | 49 => ⟨S4096x256, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x256, .f32⟩
  | 65 => ⟨S4096x256, .f32⟩
  | 66 => ⟨S4096x256, .f32⟩
  | 67 => ⟨S4096x256, .f32⟩
  | 68 => ⟨S4096x128, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x128, .f32⟩
  | 84 => ⟨S4096x128, .f32⟩
  | 85 => ⟨S4096x128, .f32⟩
  | 86 => ⟨S4096x128, .f32⟩
  | 87 => ⟨S4096x8x64, .f32⟩
  | 88 => ⟨S4352x256, .f32⟩
  | 89 => ⟨S_, .f32⟩
  | 90 => ⟨S128x256, .f32⟩
  | 91 => ⟨S_, .f32⟩
  | 92 => ⟨S128x256, .f32⟩
  | 93 => ⟨S4352x256, .f32⟩
  | 94 => ⟨S_, .f32⟩
  | 95 => ⟨S128x256, .f32⟩
  | 96 => ⟨S_, .f32⟩
  | 97 => ⟨S128x256, .f32⟩
  | 98 => ⟨S4096x8x64, .f32⟩
  | 99 => ⟨S128x256, .f32⟩
  | 100 => ⟨S4096x256, .f32⟩
  | 101 => ⟨S128x256, .f32⟩
  | 102 => ⟨S128x256, .f32⟩
  | 103 => ⟨S4096x256, .f32⟩
  | 104 => ⟨S128x256, .f32⟩
  | 105 => ⟨S_, .f32⟩
  | 106 => ⟨S4096x64, .f32⟩
  | 107 => ⟨S4096x1x64, .f32⟩
  | 108 => ⟨S4096x128, .f32⟩
  | 109 => ⟨S_, .f32⟩
  | 110 => ⟨S128, .f32⟩
  | 111 => ⟨S1x128, .f32⟩
  | 112 => ⟨S4096x128, .f32⟩
  | 113 => ⟨S4096x128, .f32⟩
  | 114 => ⟨S4096x128, .f32⟩
  | 115 => ⟨S_, .f32⟩
  | 116 => ⟨S4096, .f32⟩
  | 117 => ⟨S4096x1, .f32⟩
  | 118 => ⟨S4096x128, .f32⟩
  | 119 => ⟨S4096x128, .f32⟩
  | 120 => ⟨S4096x1, .f32⟩
  | 121 => ⟨S_, .f32⟩
  | 122 => ⟨S4096x1, .f32⟩
  | 123 => ⟨S4096x1, .f32⟩
  | 124 => ⟨S_, .f32⟩
  | 125 => ⟨S4096, .f32⟩
  | 126 => ⟨S4096x128, .f32⟩
  | 127 => ⟨S4096x128, .f32⟩
  | _ => ⟨S4096x4032, .f32⟩

abbrev hbmTy0_1 (i : Nat) : BufTy := match i % 128 with
  | 0 => ⟨S4096x128, .f32⟩
  | 1 => ⟨S4096x128, .f32⟩
  | 2 => ⟨S4096x128, .f32⟩
  | 3 => ⟨S4096x256, .f32⟩
  | 4 => ⟨S_, .f32⟩
  | 5 => ⟨S256, .f32⟩
  | 6 => ⟨S1x256, .f32⟩
  | 7 => ⟨S4096x256, .f32⟩
  | 8 => ⟨S4096x256, .f32⟩
  | 9 => ⟨S4096x256, .f32⟩
  | 10 => ⟨S_, .f32⟩
  | 11 => ⟨S4096, .f32⟩
  | 12 => ⟨S4096x1, .f32⟩
  | 13 => ⟨S4096x256, .f32⟩
  | 14 => ⟨S4096x256, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096, .f32⟩
  | 21 => ⟨S4096x256, .f32⟩
  | 22 => ⟨S4096x256, .f32⟩
  | 23 => ⟨S4096x256, .f32⟩
  | 24 => ⟨S4096x256, .f32⟩
  | 25 => ⟨S4096x256, .f32⟩
  | 26 => ⟨S4096x1x32, .f32⟩
  | 27 => ⟨S4096x1x32, .f32⟩
  | 28 => ⟨S4096x1x32, .f32⟩
  | 29 => ⟨S4096x1x32, .f32⟩
  | 30 => ⟨S4096x1x32, .f32⟩
  | 31 => ⟨S4096x1x32, .f32⟩
  | 32 => ⟨S4096x1x32, .f32⟩
  | 33 => ⟨S4096x1x32, .f32⟩
  | 34 => ⟨S4096x1x32, .f32⟩
  | 35 => ⟨S_, .f32⟩
  | 36 => ⟨S4096x1x64, .f32⟩
  | 37 => ⟨S_, .f32⟩
  | 38 => ⟨S4096x1x64, .f32⟩
  | 39 => ⟨S4096x1x64, .f32⟩
  | 40 => ⟨S_, .f32⟩
  | 41 => ⟨S4096x64, .f32⟩
  | 42 => ⟨S_, .f32⟩
  | 43 => ⟨S4096x192, .f32⟩
  | 44 => ⟨S_, .f32⟩
  | 45 => ⟨S4096x192, .f32⟩
  | 46 => ⟨S4096x192, .f32⟩
  | 47 => ⟨S_, .f32⟩
  | 48 => ⟨S4096x64, .f32⟩
  | 49 => ⟨S4096x1024, .f32⟩
  | 50 => ⟨S4096x1024, .bf16⟩
  | 51 => ⟨S4096x3072, .bf16⟩
  | 52 => ⟨S4096x4096, .bf16⟩
  | _ => ⟨S4096x4032, .f32⟩

abbrev hbmTy (i : Nat) : BufTy := match i / 128 with
  | 0 => hbmTy0_0 i
  | 1 => hbmTy0_1 i
  | _ => ⟨S4096x4032, .f32⟩

abbrev bufTy : (tb : Table) → Fin (tcTables nBuf tb) → BufTy
  | .hbm, ⟨i, _⟩ => hbmTy i
  | _, _ => ⟨S4096x4032, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_16 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_17 : Ref sig .tc := ⟨.hbm, 121, rfl⟩
abbrev main_v93 : Ref sig .tc := ⟨.hbm, 122, rfl⟩
abbrev main_v94 : Ref sig .tc := ⟨.hbm, 123, rfl⟩
abbrev main_cst_18 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_19 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_20 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_21 : Ref sig .tc := ⟨.hbm, 144, rfl⟩
abbrev main_v112 : Ref sig .tc := ⟨.hbm, 145, rfl⟩
abbrev main_v113 : Ref sig .tc := ⟨.hbm, 146, rfl⟩
abbrev main_cst_22 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_cst_23 : Ref sig .tc := ⟨.hbm, 163, rfl⟩
abbrev main_v129 : Ref sig .tc := ⟨.hbm, 164, rfl⟩
abbrev main_cst_24 : Ref sig .tc := ⟨.hbm, 165, rfl⟩
abbrev main_v130 : Ref sig .tc := ⟨.hbm, 166, rfl⟩
abbrev main_v131 : Ref sig .tc := ⟨.hbm, 167, rfl⟩
abbrev main_cst_25 : Ref sig .tc := ⟨.hbm, 168, rfl⟩
abbrev main_v132 : Ref sig .tc := ⟨.hbm, 169, rfl⟩
abbrev main_cst_26 : Ref sig .tc := ⟨.hbm, 170, rfl⟩
abbrev main_v133 : Ref sig .tc := ⟨.hbm, 171, rfl⟩
abbrev main_cst_27 : Ref sig .tc := ⟨.hbm, 172, rfl⟩
abbrev main_v134 : Ref sig .tc := ⟨.hbm, 173, rfl⟩
abbrev main_v135 : Ref sig .tc := ⟨.hbm, 174, rfl⟩
abbrev main_cst_28 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩

abbrev nD : Nat := 1
abbrev τ : Topo := Topo.v7x

variable {F : FTy → Type} [FloatOps F]
-- ==== Bias.lean ====
abbrev S16x128x384 : Shape := ⟨3, ![16, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S384x128 : Shape := ⟨2, ![384, 128]⟩
abbrev S1x49152 : Shape := ⟨2, ![1, 49152]⟩
abbrev S16x384x128 : Shape := ⟨3, ![16, 384, 128]⟩
abbrev S16x49152 : Shape := ⟨2, ![16, 49152]⟩
abbrev S16x32 : Shape := ⟨2, ![16, 32]⟩
abbrev S16x8192 : Shape := ⟨2, ![16, 8192]⟩
abbrev S1x8192 : Shape := ⟨2, ![1, 8192]⟩
abbrev S32x8192 : Shape := ⟨2, ![32, 8192]⟩

abbrev nBuf : Space → Nat
  | .hbm => 50
  | .vmem => 5
  | .smem => 0
  | _ => 0

abbrev bufTy : (tb : Table) → Fin (tcTables nBuf tb) → BufTy
  | .hbm, ⟨0, _⟩ => ⟨S16x128x384, .f32⟩
  | .hbm, ⟨1, _⟩ => ⟨S128, .i32⟩
  | .hbm, ⟨2, _⟩ => ⟨S128x1, .i32⟩
  | .hbm, ⟨3, _⟩ => ⟨S384, .i32⟩
  | .hbm, ⟨4, _⟩ => ⟨S1x384, .i32⟩
  | .hbm, ⟨5, _⟩ => ⟨S_, .i32⟩
  | .hbm, ⟨6, _⟩ => ⟨S1x384, .i32⟩
  | .hbm, ⟨7, _⟩ => ⟨S1x384, .i32⟩
  | .hbm, ⟨8, _⟩ => ⟨S128x384, .i32⟩
  | .hbm, ⟨9, _⟩ => ⟨S128x384, .i32⟩
  | .hbm, ⟨10, _⟩ => ⟨S128x384, .i32⟩
  | .hbm, ⟨11, _⟩ => ⟨S384x128, .i32⟩
  | .hbm, ⟨12, _⟩ => ⟨S_, .i32⟩
  | .hbm, ⟨13, _⟩ => ⟨S384x128, .i32⟩
  | .hbm, ⟨14, _⟩ => ⟨S384x128, .i1⟩
  | .hbm, ⟨15, _⟩ => ⟨S384x128, .i32⟩
  | .hbm, ⟨16, _⟩ => ⟨S_, .i32⟩
  | .hbm, ⟨17, _⟩ => ⟨S384x128, .i32⟩
  | .hbm, ⟨18, _⟩ => ⟨S384x128, .i32⟩
  | .hbm, ⟨19, _⟩ => ⟨S384x128, .i32⟩
  | .hbm, ⟨20, _⟩ => ⟨S_, .i32⟩
  | .hbm, ⟨21, _⟩ => ⟨S384x128, .i32⟩
  | .hbm, ⟨22, _⟩ => ⟨S384x128, .i32⟩
  | .hbm, ⟨23, _⟩ => ⟨S384x128, .f32⟩
  | .hbm, ⟨24, _⟩ => ⟨S_, .f32⟩
  | .hbm, ⟨25, _⟩ => ⟨S384x128, .f32⟩
  | .hbm, ⟨26, _⟩ => ⟨S384x128, .f32⟩
  | .hbm, ⟨27, _⟩ => ⟨S384x128, .f32⟩
  | .hbm, ⟨28, _⟩ => ⟨S_, .f32⟩
  | .hbm, ⟨29, _⟩ => ⟨S384x128, .f32⟩
  | .hbm, ⟨30, _⟩ => ⟨S384x128, .f32⟩
  | .hbm, ⟨31, _⟩ => ⟨S_, .f32⟩
  | .hbm, ⟨32, _⟩ => ⟨S384x128, .f32⟩
  | .hbm, ⟨33, _⟩ => ⟨S384x128, .f32⟩
  | .hbm, ⟨34, _⟩ => ⟨S384x128, .i32⟩
  | .hbm, ⟨35, _⟩ => ⟨S_, .i32⟩
  | .hbm, ⟨36, _⟩ => ⟨S384x128, .i32⟩
  | .hbm, ⟨37, _⟩ => ⟨S384x128, .i32⟩
  | .hbm, ⟨38, _⟩ => ⟨S_, .i32⟩
  | .hbm, ⟨39, _⟩ => ⟨S384x128, .i32⟩
  | .hbm, ⟨40, _⟩ => ⟨S384x128, .i32⟩
  | .hbm, ⟨41, _⟩ => ⟨S_, .i32⟩
  | .hbm, ⟨42, _⟩ => ⟨S384x128, .i32⟩
  | .hbm, ⟨43, _⟩ => ⟨S384x128, .i1⟩
  | .hbm, ⟨44, _⟩ => ⟨S384x128, .i32⟩
  | .hbm, ⟨45, _⟩ => ⟨S384x128, .i32⟩
  | .hbm, ⟨46, _⟩ => ⟨S1x49152, .i32⟩
  | .hbm, ⟨47, _⟩ => ⟨S16x384x128, .f32⟩
  | .hbm, ⟨48, _⟩ => ⟨S16x49152, .f32⟩
  | .hbm, ⟨49, _⟩ => ⟨S16x32, .f32⟩
  | .local _ .vmem, ⟨0, _⟩ => ⟨S16x8192, .f32⟩
  | .local _ .vmem, ⟨1, _⟩ => ⟨S16x8192, .f32⟩
  | .local _ .vmem, ⟨2, _⟩ => ⟨S1x8192, .i32⟩
  | .local _ .vmem, ⟨3, _⟩ => ⟨S1x8192, .i32⟩
  | .local _ .vmem, ⟨4, _⟩ => ⟨S16x32, .f32⟩
  | _, _ => ⟨S16x128x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_5 : Ref sig .tc := ⟨.hbm, 35, rfl⟩
abbrev main_v27 : Ref sig .tc := ⟨.hbm, 36, rfl⟩
abbrev main_v28 : Ref sig .tc := ⟨.hbm, 37, rfl⟩
abbrev main_c_6 : Ref sig .tc := ⟨.hbm, 38, rfl⟩
abbrev main_v29 : Ref sig .tc := ⟨.hbm, 39, rfl⟩
abbrev main_v30 : Ref sig .tc := ⟨.hbm, 40, rfl⟩
abbrev main_c_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== BiasRefIdeal.lean ====
abbrev S16x128x384 : Shape := ⟨3, ![16, 128, 384]⟩
abbrev S_ : Shape := ⟨0, ![]⟩
abbrev S32x16 : Shape := ⟨2, ![32, 16]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x16 : Shape := ⟨3, ![128, 384, 16]⟩
abbrev S16x32 : Shape := ⟨2, ![16, 32]⟩

abbrev nBuf : Space → Nat
  | .hbm => 62
  | .vmem => 0
  | .smem => 0
  | _ => 0

abbrev bufTy : (tb : Table) → Fin (tcTables nBuf tb) → BufTy
  | .hbm, ⟨0, _⟩ => ⟨S16x128x384, .f32⟩
  | .hbm, ⟨1, _⟩ => ⟨S_, .f32⟩
  | .hbm, ⟨2, _⟩ => ⟨S32x16, .f32⟩
  | .hbm, ⟨3, _⟩ => ⟨S384, .i32⟩
  | .hbm, ⟨4, _⟩ => ⟨S1x384, .i32⟩
  | .hbm, ⟨5, _⟩ => ⟨S_, .i32⟩
  | .hbm, ⟨6, _⟩ => ⟨S1x384, .i32⟩
  | .hbm, ⟨7, _⟩ => ⟨S1x384, .i32⟩
  | .hbm, ⟨8, _⟩ => ⟨S128, .i32⟩
  | .hbm, ⟨9, _⟩ => ⟨S128x1, .i32⟩
  | .hbm, ⟨10, _⟩ => ⟨S128x384, .i32⟩
  | .hbm, ⟨11, _⟩ => ⟨S128x384, .i32⟩
  | .hbm, ⟨12, _⟩ => ⟨S128x384, .i32⟩
  | .hbm, ⟨13, _⟩ => ⟨S_, .i32⟩
  | .hbm, ⟨14, _⟩ => ⟨S128x384, .i32⟩
  | .hbm, ⟨15, _⟩ => ⟨S128x384, .i1⟩
  | .hbm, ⟨16, _⟩ => ⟨S128x384, .i32⟩
  | .hbm, ⟨17, _⟩ => ⟨S_, .i32⟩
  | .hbm, ⟨18, _⟩ => ⟨S128x384, .i32⟩
  | .hbm, ⟨19, _⟩ => ⟨S128x384, .i32⟩
  | .hbm, ⟨20, _⟩ => ⟨S128x384, .i32⟩
  | .hbm, ⟨21, _⟩ => ⟨S_, .i32⟩
  | .hbm, ⟨22, _⟩ => ⟨S128x384, .i32⟩
  | .hbm, ⟨23, _⟩ => ⟨S128x384, .i32⟩
  | .hbm, ⟨24, _⟩ => ⟨S128x384, .f32⟩
  | .hbm, ⟨25, _⟩ => ⟨S_, .f32⟩
  | .hbm, ⟨26, _⟩ => ⟨S128x384, .f32⟩
  | .hbm, ⟨27, _⟩ => ⟨S128x384, .f32⟩
  | .hbm, ⟨28, _⟩ => ⟨S128x384, .f32⟩
  | .hbm, ⟨29, _⟩ => ⟨S_, .f32⟩
  | .hbm, ⟨30, _⟩ => ⟨S128x384, .f32⟩
  | .hbm, ⟨31, _⟩ => ⟨S128x384, .f32⟩
  | .hbm, ⟨32, _⟩ => ⟨S_, .f32⟩
  | .hbm, ⟨33, _⟩ => ⟨S128x384, .f32⟩
  | .hbm, ⟨34, _⟩ => ⟨S128x384, .f32⟩
  | .hbm, ⟨35, _⟩ => ⟨S128x384, .i32⟩
  | .hbm, ⟨36, _⟩ => ⟨S_, .i32⟩
  | .hbm, ⟨37, _⟩ => ⟨S128x384, .i32⟩
  | .hbm, ⟨38, _⟩ => ⟨S128x384, .i32⟩
  | .hbm, ⟨39, _⟩ => ⟨S_, .i32⟩
  | .hbm, ⟨40, _⟩ => ⟨S128x384, .i32⟩
  | .hbm, ⟨41, _⟩ => ⟨S128x384, .i32⟩
  | .hbm, ⟨42, _⟩ => ⟨S_, .i32⟩
  | .hbm, ⟨43, _⟩ => ⟨S128x384, .i32⟩
  | .hbm, ⟨44, _⟩ => ⟨S128x384, .i1⟩
  | .hbm, ⟨45, _⟩ => ⟨S128x384, .i32⟩
  | .hbm, ⟨46, _⟩ => ⟨S128x384, .i32⟩
  | .hbm, ⟨47, _⟩ => ⟨S_, .i32⟩
  | .hbm, ⟨48, _⟩ => ⟨S128x384, .i32⟩
  | .hbm, ⟨49, _⟩ => ⟨S128x384, .i1⟩
  | .hbm, ⟨50, _⟩ => ⟨S_, .i32⟩
  | .hbm, ⟨51, _⟩ => ⟨S128x384, .i32⟩
  | .hbm, ⟨52, _⟩ => ⟨S128x384, .i32⟩
  | .hbm, ⟨53, _⟩ => ⟨S128x384, .i32⟩
  | .hbm, ⟨54, _⟩ => ⟨S128x384x1, .i32⟩
  | .hbm, ⟨55, _⟩ => ⟨S128x384x16, .f32⟩
  | .hbm, ⟨56, _⟩ => ⟨S16x128x384, .f32⟩
  | .hbm, ⟨57, _⟩ => ⟨S128x384x16, .f32⟩
  | .hbm, ⟨58, _⟩ => ⟨S_, .f32⟩
  | .hbm, ⟨59, _⟩ => ⟨S32x16, .f32⟩
  | .hbm, ⟨60, _⟩ => ⟨S32x16, .f32⟩
  | .hbm, ⟨61, _⟩ => ⟨S16x32, .f32⟩
  | _, _ => ⟨S16x128x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_9 : Ref sig .tc := ⟨.hbm, 47, rfl⟩
abbrev main_v35 : Ref sig .tc := ⟨.hbm, 48, rfl⟩
abbrev main_v36 : Ref sig .tc := ⟨.hbm, 49, rfl⟩
abbrev main_c_10 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_11 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== MlaFwd.lean ====
abbrev S4096x1536 : Shape := ⟨2, ![4096, 1536]⟩
abbrev S4096x2048 : Shape := ⟨2, ![4096, 2048]⟩
abbrev S4096x64 : Shape := ⟨2, ![4096, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x8x192 : Shape := ⟨3, ![4096, 8, 192]⟩
abbrev S4096x8x32 : Shape := ⟨3, ![4096, 8, 32]⟩
abbrev S4096x1x32 : Shape := ⟨3, ![4096, 1, 32]⟩
abbrev S4096x8x64 : Shape := ⟨3, ![4096, 8, 64]⟩
abbrev S4096x8x128 : Shape := ⟨3, ![4096, 8, 128]⟩
abbrev S4096x8x256 : Shape := ⟨3, ![4096, 8, 256]⟩
abbrev S8x4096x256 : Shape := ⟨3, ![8, 4096, 256]⟩
abbrev S4096x1x64 : Shape := ⟨3, ![4096, 1, 64]⟩
abbrev S4096x1024 : Shape := ⟨2, ![4096, 1024]⟩
abbrev S8x4096x1 : Shape := ⟨3, ![8, 4096, 1]⟩
abbrev S1x2048x256 : Shape := ⟨3, ![1, 2048, 256]⟩
abbrev S1x4096x256 : Shape := ⟨3, ![1, 4096, 256]⟩
abbrev S4096x128 : Shape := ⟨2, ![4096, 128]⟩
abbrev S2048x128 : Shape := ⟨2, ![2048, 128]⟩
abbrev S1x2048x1 : Shape := ⟨3, ![1, 2048, 1]⟩
abbrev S2048x256 : Shape := ⟨2, ![2048, 256]⟩
abbrev S2048x1 : Shape := ⟨2, ![2048, 1]⟩
abbrev S1x1024x256 : Shape := ⟨3, ![1, 1024, 256]⟩
abbrev S1024x256 : Shape := ⟨2, ![1024, 256]⟩
abbrev S2048x1024 : Shape := ⟨2, ![2048, 1024]⟩
abbrev S2048 : Shape := ⟨1, ![2048]⟩
abbrev S1024x128 : Shape := ⟨2, ![1024, 128]⟩

abbrev nBuf : Space → Nat
  | .hbm => 67
  | .vmem => 10
  | .smem => 0
  | _ => 0

abbrev bufTy : (tb : Table) → Fin (tcTables nBuf tb) → BufTy
  | .hbm, ⟨0, _⟩ => ⟨S4096x1536, .f32⟩
  | .hbm, ⟨1, _⟩ => ⟨S4096x2048, .f32⟩
  | .hbm, ⟨2, _⟩ => ⟨S4096x64, .f32⟩
  | .hbm, ⟨3, _⟩ => ⟨S4096, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096x1536, .f32⟩
  | .hbm, ⟨26, _⟩ => ⟨S4096x1536, .f32⟩
  | .hbm, ⟨27, _⟩ => ⟨S4096x8x192, .f32⟩
  | .hbm, ⟨28, _⟩ => ⟨S4096x8x32, .f32⟩
  | .hbm, ⟨29, _⟩ => ⟨S4096x8x32, .f32⟩
  | .hbm, ⟨30, _⟩ => ⟨S4096x1x32, .f32⟩
  | .hbm, ⟨31, _⟩ => ⟨S4096x1x32, .f32⟩
  | .hbm, ⟨32, _⟩ => ⟨S_, .f32⟩
  | .hbm, ⟨33, _⟩ => ⟨S4096x8x64, .f32⟩
  | .hbm, ⟨34, _⟩ => ⟨S4096x8x128, .f32⟩
  | .hbm, ⟨35, _⟩ => ⟨S4096x8x32, .f32⟩
  | .hbm, ⟨36, _⟩ => ⟨S4096x8x32, .f32⟩
  | .hbm, ⟨37, _⟩ => ⟨S4096x8x32, .f32⟩
  | .hbm, ⟨38, _⟩ => ⟨S4096x8x32, .f32⟩
  | .hbm, ⟨39, _⟩ => ⟨S4096x8x32, .f32⟩
  | .hbm, ⟨40, _⟩ => ⟨S4096x8x32, .f32⟩
  | .hbm, ⟨41, _⟩ => ⟨S4096x8x32, .f32⟩
  | .hbm, ⟨42, _⟩ => ⟨S4096x8x32, .f32⟩
  | .hbm, ⟨43, _⟩ => ⟨S4096x8x32, .f32⟩
  | .hbm, ⟨44, _⟩ => ⟨S4096x8x32, .f32⟩
  | .hbm, ⟨45, _⟩ => ⟨S4096x8x256, .f32⟩
  | .hbm, ⟨46, _⟩ => ⟨S8x4096x256, .f32⟩
  | .hbm, ⟨47, _⟩ => ⟨S4096x8x256, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S4096x32, .f32⟩
  | .hbm, ⟨56, _⟩ => ⟨S4096x64, .f32⟩
  | .hbm, ⟨57, _⟩ => ⟨S4096x8x128, .f32⟩
  | .hbm, ⟨58, _⟩ => ⟨S4096x1x64, .f32⟩
  | .hbm, ⟨59, _⟩ => ⟨S4096x8x64, .f32⟩
  | .hbm, ⟨60, _⟩ => ⟨S4096x8x256, .f32⟩
  | .hbm, ⟨61, _⟩ => ⟨S8x4096x256, .f32⟩
  | .hbm, ⟨62, _⟩ => ⟨S8x4096x256, .bf16⟩
  | .hbm, ⟨63, _⟩ => ⟨S8x4096x256, .bf16⟩
  | .hbm, ⟨64, _⟩ => ⟨S4096x2048, .bf16⟩
  | .hbm, ⟨65, _⟩ => ⟨S4096x1024, .bf16⟩
  | .hbm, ⟨66, _⟩ => ⟨S8x4096x1, .f32⟩
  | .local _ .vmem, ⟨0, _⟩ => ⟨S1x2048x256, .bf16⟩
  | .local _ .vmem, ⟨1, _⟩ => ⟨S1x2048x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S4096x128, .bf16⟩
  | .local _ .vmem, ⟨5, _⟩ => ⟨S4096x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56_0 : Ref sig .tc := ⟨.hbm, 65, rfl⟩
abbrev main_v56_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlaFwdIdeal.lean ====
variable {F : FTy → Type} [FloatOps F] [Named F]
def κ : String → Option EReal := fun
  | "inv_ln2" => some (((Real.log 2)⁻¹ : ℝ) : EReal)
  | _ => none
-- ==== MlaFwdRefIdeal.lean ====
abbrev S4096x1536 : Shape := ⟨2, ![4096, 1536]⟩
abbrev S4096x2048 : Shape := ⟨2, ![4096, 2048]⟩
abbrev S4096x64 : Shape := ⟨2, ![4096, 64]⟩
abbrev S4096 : Shape := ⟨1, ![4096]⟩
abbrev S4096x8x192 : Shape := ⟨3, ![4096, 8, 192]⟩
abbrev S4096x8x256 : Shape := ⟨3, ![4096, 8, 256]⟩
abbrev S4096x8x128 : Shape := ⟨3, ![4096, 8, 128]⟩
abbrev S4096x8x64 : Shape := ⟨3, ![4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x1x64 : Shape := ⟨3, ![4096, 1, 64]⟩
abbrev S8x4096x4096 : Shape := ⟨3, ![8, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩

abbrev nBuf : Space → Nat
  | .hbm => 112
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x2048, .f32⟩
  | .hbm, ⟨2, _⟩ => ⟨S4096x64, .f32⟩
  | .hbm, ⟨3, _⟩ => ⟨S4096, .i32⟩
  | .hbm, ⟨4, _⟩ => ⟨S4096x8x192, .f32⟩
  | .hbm, ⟨5, _⟩ => ⟨S4096x8x256, .f32⟩
  | .hbm, ⟨6, _⟩ => ⟨S4096x8x128, .f32⟩
  | .hbm, ⟨7, _⟩ => ⟨S4096x8x64, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x1x32, .f32⟩
  | .hbm, ⟨24, _⟩ => ⟨S4096x32, .f32⟩
  | .hbm, ⟨25, _⟩ => ⟨S4096x1x32, .f32⟩
  | .hbm, ⟨26, _⟩ => ⟨S4096x8x32, .f32⟩
  | .hbm, ⟨27, _⟩ => ⟨S4096x8x32, .f32⟩
  | .hbm, ⟨28, _⟩ => ⟨S4096x8x32, .f32⟩
  | .hbm, ⟨29, _⟩ => ⟨S4096x8x32, .f32⟩
  | .hbm, ⟨30, _⟩ => ⟨S4096x8x32, .f32⟩
  | .hbm, ⟨31, _⟩ => ⟨S4096x8x32, .f32⟩
  | .hbm, ⟨32, _⟩ => ⟨S4096x8x32, .f32⟩
  | .hbm, ⟨33, _⟩ => ⟨S4096x8x32, .f32⟩
  | .hbm, ⟨34, _⟩ => ⟨S4096x8x32, .f32⟩
  | .hbm, ⟨35, _⟩ => ⟨S4096x8x32, .f32⟩
  | .hbm, ⟨36, _⟩ => ⟨S4096x8x32, .f32⟩
  | .hbm, ⟨37, _⟩ => ⟨S4096x8x32, .f32⟩
  | .hbm, ⟨38, _⟩ => ⟨S4096x8x64, .f32⟩
  | .hbm, ⟨39, _⟩ => ⟨S4096x8x192, .f32⟩
  | .hbm, ⟨40, _⟩ => ⟨S4096x1x64, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S4096, .f32⟩
  | .hbm, ⟨50, _⟩ => ⟨S4096x1, .f32⟩
  | .hbm, ⟨51, _⟩ => ⟨S1x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S4096x32, .f32⟩
  | .hbm, ⟨56, _⟩ => ⟨S4096x1x32, .f32⟩
  | .hbm, ⟨57, _⟩ => ⟨S4096x32, .f32⟩
  | .hbm, ⟨58, _⟩ => ⟨S4096x1x32, .f32⟩
  | .hbm, ⟨59, _⟩ => ⟨S4096x1x32, .f32⟩
  | .hbm, ⟨60, _⟩ => ⟨S4096x1x32, .f32⟩
  | .hbm, ⟨61, _⟩ => ⟨S4096x1x32, .f32⟩
  | .hbm, ⟨62, _⟩ => ⟨S4096x1x32, .f32⟩
  | .hbm, ⟨63, _⟩ => ⟨S4096x1x32, .f32⟩
  | .hbm, ⟨64, _⟩ => ⟨S4096x1x32, .f32⟩
  | .hbm, ⟨65, _⟩ => ⟨S4096x1x32, .f32⟩
  | .hbm, ⟨66, _⟩ => ⟨S4096x1x32, .f32⟩
  | .hbm, ⟨67, _⟩ => ⟨S4096x1x64, .f32⟩
  | .hbm, ⟨68, _⟩ => ⟨S4096x8x64, .f32⟩
  | .hbm, ⟨69, _⟩ => ⟨S4096x8x128, .f32⟩
  | .hbm, ⟨70, _⟩ => ⟨S4096x8x192, .f32⟩
  | .hbm, ⟨71, _⟩ => ⟨S4096x8x128, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096, .f32⟩
  | .hbm, ⟨81, _⟩ => ⟨S_, .f32⟩
  | .hbm, ⟨82, _⟩ => ⟨S8x4096, .f32⟩
  | .hbm, ⟨83, _⟩ => ⟨S8x4096, .f32⟩
  | .hbm, ⟨84, _⟩ => ⟨S8x4096x1, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096, .f32⟩
  | .hbm, ⟨90, _⟩ => ⟨S8x4096x1, .f32⟩
  | .hbm, ⟨91, _⟩ => ⟨S8x4096x4096, .f32⟩
  | .hbm, ⟨92, _⟩ => ⟨S8x4096x4096, .f32⟩
  | .hbm, ⟨93, _⟩ => ⟨S8x128x4096, .f32⟩
  | .hbm, ⟨94, _⟩ => ⟨S4096x8x128, .f32⟩
  | .hbm, ⟨95, _⟩ => ⟨S4096x1024, .f32⟩
  | .hbm, ⟨96, _⟩ => ⟨S_, .f32⟩
  | .hbm, ⟨97, _⟩ => ⟨S8x4096, .f32⟩
  | .hbm, ⟨98, _⟩ => ⟨S8x4096x1, .f32⟩
  | .hbm, ⟨99, _⟩ => ⟨S8x4096x4096, .f32⟩
  | .hbm, ⟨100, _⟩ => ⟨S8x4096x4096, .f32⟩
  | .hbm, ⟨101, _⟩ => ⟨S8x4096x4096, .f32⟩
  | .hbm, ⟨102, _⟩ => ⟨S_, .f32⟩
  | .hbm, ⟨103, _⟩ => ⟨S8x4096, .f32⟩
  | .hbm, ⟨104, _⟩ => ⟨S8x4096x1, .f32⟩
  | .hbm, ⟨105, _⟩ => ⟨S8x4096x1, .f32⟩
  | .hbm, ⟨106, _⟩ => ⟨S8x4096x1, .f32⟩
  | .hbm, ⟨107, _⟩ => ⟨S4096x1024, .bf16⟩
  | .hbm, ⟨108, _⟩ => ⟨S_, .f32⟩
  | .hbm, ⟨109, _⟩ => ⟨S_, .f32⟩
  | .hbm, ⟨110, _⟩ => ⟨S8x4096x1, .f32⟩
  | .hbm, ⟨111, _⟩ => ⟨S8x4096x1, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_3 : Ref sig .tc := ⟨.hbm, 72, rfl⟩
abbrev main_v64 : Ref sig .tc := ⟨.hbm, 73, rfl⟩
abbrev main_cst_4 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_5 : Ref sig .tc := ⟨.hbm, 79, rfl⟩
abbrev main_v69 : Ref sig .tc := ⟨.hbm, 80, rfl⟩
abbrev main_cst_6 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_7 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_8 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_9 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_10 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OutProjRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== LatFwd.lean ====
abbrev S4096x4032 : Shape := ⟨2, ![4096, 4032]⟩
abbrev S4096 : Shape := ⟨1, ![4096]⟩
abbrev S1x256 : Shape := ⟨2, ![1, 256]⟩
abbrev S1x128 : Shape := ⟨2, ![1, 128]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S4096x1024 : Shape := ⟨2, ![4096, 1024]⟩
abbrev S4096x256 : Shape := ⟨2, ![4096, 256]⟩
abbrev S4096x4096 : Shape := ⟨2, ![4096, 4096]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 42
  | .vmem => 18
  | .smem => 0
  | _ => 0

abbrev bufTy : (tb : Table) → Fin (tcTables nBuf tb) → BufTy
  | .hbm, ⟨0, _⟩ => ⟨S4096x4032, .f32⟩
  | .hbm, ⟨1, _⟩ => ⟨S4096, .i32⟩
  | .hbm, ⟨2, _⟩ => ⟨S1x256, .f32⟩
  | .hbm, ⟨3, _⟩ => ⟨S1x128, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S_, .f32⟩
  | .hbm, ⟨21, _⟩ => ⟨S4096x64, .f32⟩
  | .hbm, ⟨22, _⟩ => ⟨S4096x128, .f32⟩
  | .hbm, ⟨23, _⟩ => ⟨S4096x32, .f32⟩
  | .hbm, ⟨24, _⟩ => ⟨S_, .f32⟩
  | .hbm, ⟨25, _⟩ => ⟨S4096x64, .f32⟩
  | .hbm, ⟨26, _⟩ => ⟨S4096x128, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S4096x128, .f32⟩
  | .hbm, ⟨34, _⟩ => ⟨S4096x64, .f32⟩
  | .hbm, ⟨35, _⟩ => ⟨S_, .f32⟩
  | .hbm, ⟨36, _⟩ => ⟨S4096x64, .f32⟩
  | .hbm, ⟨37, _⟩ => ⟨S4096x4096, .f32⟩
  | .hbm, ⟨38, _⟩ => ⟨S4096x4096, .bf16⟩
  | .hbm, ⟨39, _⟩ => ⟨S4096x256, .bf16⟩
  | .hbm, ⟨40, _⟩ => ⟨S4096x128, .bf16⟩
  | .hbm, ⟨41, _⟩ => ⟨S4096x128, .bf16⟩
  | .local _ .vmem, ⟨0, _⟩ => ⟨S256x256, .bf16⟩
  | .local _ .vmem, ⟨1, _⟩ => ⟨S256x256, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S1x256, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x256, .bf16⟩
  | .local _ .vmem, ⟨13, _⟩ => ⟨S256x256, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | _, _ => ⟨S4096x4032, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_2 (i : grid0.Coords) : Fin 2 → Nat :=
  let arg0 : BitVec 32 := BitVec.ofNat 32 (i 0).val
  let c31_i32 : BitVec 32 := 31#32
  let c0_i32 : BitVec 32 := 0#32
  ![arg0.toNat, c31_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LatFwdRefIdeal.lean ====
abbrev S4096x4032 : Shape := ⟨2, ![4096, 4032]⟩
abbrev S4096 : Shape := ⟨1, ![4096]⟩
abbrev S1x256 : Shape := ⟨2, ![1, 256]⟩
abbrev S1x128 : Shape := ⟨2, ![1, 128]⟩
abbrev S4096x256 : Shape := ⟨2, ![4096, 256]⟩
abbrev S4096x192 : Shape := ⟨2, ![4096, 192]⟩
abbrev S4096x1024 : Shape := ⟨2, ![4096, 1024]⟩
abbrev S4096x128 : Shape := ⟨2, ![4096, 128]⟩
abbrev S4096x64 : Shape := ⟨2, ![4096, 64]⟩
abbrev S4096x1x64 : Shape := ⟨3, ![4096, 1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩

abbrev nBuf : Space → Nat
  | .hbm => 78
  | .vmem => 0
  | .smem => 0
  | _ => 0

abbrev bufTy : (tb : Table) → Fin (tcTables nBuf tb) → BufTy
  | .hbm, ⟨0, _⟩ => ⟨S4096x4032, .f32⟩
  | .hbm, ⟨1, _⟩ => ⟨S4096, .i32⟩
  | .hbm, ⟨2, _⟩ => ⟨S1x256, .f32⟩
  | .hbm, ⟨3, _⟩ => ⟨S1x128, .f32⟩
  | .hbm, ⟨4, _⟩ => ⟨S4096x256, .f32⟩
  | .hbm, ⟨5, _⟩ => ⟨S4096x192, .f32⟩
  | .hbm, ⟨6, _⟩ => ⟨S4096x1024, .f32⟩
  | .hbm, ⟨7, _⟩ => ⟨S4096x256, .f32⟩
  | .hbm, ⟨8, _⟩ => ⟨S4096x256, .f32⟩
  | .hbm, ⟨9, _⟩ => ⟨S4096x1024, .f32⟩
  | .hbm, ⟨10, _⟩ => ⟨S4096x1024, .f32⟩
  | .hbm, ⟨11, _⟩ => ⟨S4096x128, .f32⟩
  | .hbm, ⟨12, _⟩ => ⟨S4096x64, .f32⟩
  | .hbm, ⟨13, _⟩ => ⟨S4096x1x64, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x1x32, .f32⟩
  | .hbm, ⟨30, _⟩ => ⟨S4096x32, .f32⟩
  | .hbm, ⟨31, _⟩ => ⟨S4096x1x32, .f32⟩
  | .hbm, ⟨32, _⟩ => ⟨S4096x1x32, .f32⟩
  | .hbm, ⟨33, _⟩ => ⟨S4096x1x32, .f32⟩
  | .hbm, ⟨34, _⟩ => ⟨S4096x1x32, .f32⟩
  | .hbm, ⟨35, _⟩ => ⟨S4096x1x32, .f32⟩
  | .hbm, ⟨36, _⟩ => ⟨S4096x1x32, .f32⟩
  | .hbm, ⟨37, _⟩ => ⟨S4096x1x32, .f32⟩
  | .hbm, ⟨38, _⟩ => ⟨S4096x1x32, .f32⟩
  | .hbm, ⟨39, _⟩ => ⟨S4096x1x32, .f32⟩
  | .hbm, ⟨40, _⟩ => ⟨S4096x1x64, .f32⟩
  | .hbm, ⟨41, _⟩ => ⟨S4096x64, .f32⟩
  | .hbm, ⟨42, _⟩ => ⟨S_, .f32⟩
  | .hbm, ⟨43, _⟩ => ⟨S4096x64, .f32⟩
  | .hbm, ⟨44, _⟩ => ⟨S4096x128, .f32⟩
  | .hbm, ⟨45, _⟩ => ⟨S4096x256, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S4096x256, .bf16⟩
  | .hbm, ⟨61, _⟩ => ⟨S4096x128, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x128, .f32⟩
  | .hbm, ⟨73, _⟩ => ⟨S4096x128, .f32⟩
  | .hbm, ⟨74, _⟩ => ⟨S4096x128, .f32⟩
  | .hbm, ⟨75, _⟩ => ⟨S4096x128, .f32⟩
  | .hbm, ⟨76, _⟩ => ⟨S4096x128, .bf16⟩
  | .hbm, ⟨77, _⟩ => ⟨S4096x128, .bf16⟩
  | _, _ => ⟨S4096x4032, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_5 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩

abbrev nD : Nat := 1
abbrev τ : Topo := Topo.v7x

variable {F : FTy → Type} [FloatOps F]
-- ==== QUp.lean ====
abbrev S4096x256 : Shape := ⟨2, ![4096, 256]⟩
abbrev S4096 : Shape := ⟨1, ![4096]⟩
abbrev S256x1536 : Shape := ⟨2, ![256, 1536]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1536x256 : Shape := ⟨2, ![1536, 256]⟩
abbrev S8x192x256 : Shape := ⟨3, ![8, 192, 256]⟩
abbrev S8x128x256 : Shape := ⟨3, ![8, 128, 256]⟩
abbrev S1024x256 : Shape := ⟨2, ![1024, 256]⟩
abbrev S8x64x256 : Shape := ⟨3, ![8, 64, 256]⟩
abbrev S2048x256 : Shape := ⟨2, ![2048, 256]⟩
abbrev S8x4096x256 : Shape := ⟨3, ![8, 4096, 256]⟩
abbrev S512x256 : Shape := ⟨2, ![512, 256]⟩
abbrev S512x128 : Shape := ⟨2, ![512, 128]⟩
abbrev S8x512x256 : Shape := ⟨3, ![8, 512, 256]⟩
abbrev S512x2048 : Shape := ⟨2, ![512, 2048]⟩
abbrev S1x512x256 : Shape := ⟨3, ![1, 512, 256]⟩

abbrev nBuf : Space → Nat
  | .hbm => 39
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S256x1536, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S4096, .f32⟩
  | .hbm, ⟨12, _⟩ => ⟨S4096x1, .f32⟩
  | .hbm, ⟨13, _⟩ => ⟨S1x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S_, .f32⟩
  | .hbm, ⟨20, _⟩ => ⟨S4096x64, .f32⟩
  | .hbm, ⟨21, _⟩ => ⟨S4096x128, .f32⟩
  | .hbm, ⟨22, _⟩ => ⟨S4096x32, .f32⟩
  | .hbm, ⟨23, _⟩ => ⟨S_, .f32⟩
  | .hbm, ⟨24, _⟩ => ⟨S4096x64, .f32⟩
  | .hbm, ⟨25, _⟩ => ⟨S4096x128, .f32⟩
  | .hbm, ⟨26, _⟩ => ⟨S1536x256, .f32⟩
  | .hbm, ⟨27, _⟩ => ⟨S1536x256, .bf16⟩
  | .hbm, ⟨28, _⟩ => ⟨S8x192x256, .bf16⟩
  | .hbm, ⟨29, _⟩ => ⟨S8x128x256, .bf16⟩
  | .hbm, ⟨30, _⟩ => ⟨S1024x256, .bf16⟩
  | .hbm, ⟨31, _⟩ => ⟨S8x64x256, .bf16⟩
  | .hbm, ⟨32, _⟩ => ⟨S_, .i32⟩
  | .hbm, ⟨33, _⟩ => ⟨S_, .bf16⟩
  | .hbm, ⟨34, _⟩ => ⟨S8x128x256, .bf16⟩
  | .hbm, ⟨35, _⟩ => ⟨S1024x256, .bf16⟩
  | .hbm, ⟨36, _⟩ => ⟨S2048x256, .bf16⟩
  | .hbm, ⟨37, _⟩ => ⟨S4096x256, .bf16⟩
  | .hbm, ⟨38, _⟩ => ⟨S8x4096x256, .bf16⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S8x512x256, .bf16⟩
  | .local _ .vmem, ⟨8, _⟩ => ⟨S8x512x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== QUpRefIdeal.lean ====
abbrev S4096x256 : Shape := ⟨2, ![4096, 256]⟩
abbrev S4096 : Shape := ⟨1, ![4096]⟩
abbrev S256x1536 : Shape := ⟨2, ![256, 1536]⟩
abbrev S4096x1536 : Shape := ⟨2, ![4096, 1536]⟩
abbrev S_ : Shape := ⟨0, ![]⟩
abbrev S4096x8x192 : Shape := ⟨3, ![4096, 8, 192]⟩
abbrev S4096x8x128 : Shape := ⟨3, ![4096, 8, 128]⟩
abbrev S4096x8x64 : Shape := ⟨3, ![4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S4096x8x256 : Shape := ⟨3, ![4096, 8, 256]⟩
abbrev S8x4096x256 : Shape := ⟨3, ![8, 4096, 256]⟩

abbrev nBuf : Space → Nat
  | .hbm => 46
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S256x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S4096x8x192, .f32⟩
  | .hbm, ⟨8, _⟩ => ⟨S4096x8x128, .f32⟩
  | .hbm, ⟨9, _⟩ => ⟨S4096x8x64, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096, .f32⟩
  | .hbm, ⟨19, _⟩ => ⟨S4096x1, .f32⟩
  | .hbm, ⟨20, _⟩ => ⟨S1x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x1x32, .f32⟩
  | .hbm, ⟨26, _⟩ => ⟨S4096x32, .f32⟩
  | .hbm, ⟨27, _⟩ => ⟨S4096x1x32, .f32⟩
  | .hbm, ⟨28, _⟩ => ⟨S4096x8x32, .f32⟩
  | .hbm, ⟨29, _⟩ => ⟨S4096x8x32, .f32⟩
  | .hbm, ⟨30, _⟩ => ⟨S4096x8x32, .f32⟩
  | .hbm, ⟨31, _⟩ => ⟨S4096x8x32, .f32⟩
  | .hbm, ⟨32, _⟩ => ⟨S4096x8x32, .f32⟩
  | .hbm, ⟨33, _⟩ => ⟨S4096x8x32, .f32⟩
  | .hbm, ⟨34, _⟩ => ⟨S4096x8x32, .f32⟩
  | .hbm, ⟨35, _⟩ => ⟨S4096x8x32, .f32⟩
  | .hbm, ⟨36, _⟩ => ⟨S4096x8x32, .f32⟩
  | .hbm, ⟨37, _⟩ => ⟨S4096x8x32, .f32⟩
  | .hbm, ⟨38, _⟩ => ⟨S4096x8x32, .f32⟩
  | .hbm, ⟨39, _⟩ => ⟨S4096x8x32, .f32⟩
  | .hbm, ⟨40, _⟩ => ⟨S4096x8x64, .f32⟩
  | .hbm, ⟨41, _⟩ => ⟨S_, .f32⟩
  | .hbm, ⟨42, _⟩ => ⟨S4096x8x64, .f32⟩
  | .hbm, ⟨43, _⟩ => ⟨S4096x8x256, .f32⟩
  | .hbm, ⟨44, _⟩ => ⟨S8x4096x256, .f32⟩
  | .hbm, ⟨45, _⟩ => ⟨S8x4096x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== KvUp.lean ====
abbrev S4096x128 : Shape := ⟨2, ![4096, 128]⟩
abbrev S128x2048 : Shape := ⟨2, ![128, 2048]⟩
abbrev S4096x64 : Shape := ⟨2, ![4096, 64]⟩
abbrev S_ : Shape := ⟨0, ![]⟩
abbrev S4096x2048 : Shape := ⟨2, ![4096, 2048]⟩
abbrev S8x4096x256 : Shape := ⟨3, ![8, 4096, 256]⟩
abbrev S512x128 : Shape := ⟨2, ![512, 128]⟩
abbrev S512x2048 : Shape := ⟨2, ![512, 2048]⟩
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 11
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S128x2048, .f32⟩
  | .hbm, ⟨2, _⟩ => ⟨S4096x64, .f32⟩
  | .hbm, ⟨3, _⟩ => ⟨S_, .f32⟩
  | .hbm, ⟨4, _⟩ => ⟨S4096x64, .f32⟩
  | .hbm, ⟨5, _⟩ => ⟨S4096x128, .f32⟩
  | .hbm, ⟨6, _⟩ => ⟨S4096x128, .bf16⟩
  | .hbm, ⟨7, _⟩ => ⟨S4096x128, .bf16⟩
  | .hbm, ⟨8, _⟩ => ⟨S128x2048, .bf16⟩
  | .hbm, ⟨9, _⟩ => ⟨S4096x2048, .bf16⟩
  | .hbm, ⟨10, _⟩ => ⟨S8x4096x256, .bf16⟩
  | .local _ .vmem, ⟨0, _⟩ => ⟨S512x128, .bf16⟩
  | .local _ .vmem, ⟨1, _⟩ => ⟨S512x128, .bf16⟩
  | .local _ .vmem, ⟨2, _⟩ => ⟨S128x2048, .bf16⟩
  | .local _ .vmem, ⟨3, _⟩ => ⟨S512x128, .bf16⟩
  | .local _ .vmem, ⟨4, _⟩ => ⟨S512x128, .bf16⟩
  | .local _ .vmem, ⟨5, _⟩ => ⟨S512x2048, .bf16⟩
  | .local _ .vmem, ⟨6, _⟩ => ⟨S512x2048, .bf16⟩
  | .local _ .vmem, ⟨7, _⟩ => ⟨S8x512x256, .bf16⟩
  | .local _ .vmem, ⟨8, _⟩ => ⟨S8x512x256, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KvUpRefIdeal.lean ====
abbrev S4096x128 : Shape := ⟨2, ![4096, 128]⟩
abbrev S128x2048 : Shape := ⟨2, ![128, 2048]⟩
abbrev S4096x64 : Shape := ⟨2, ![4096, 64]⟩
abbrev S4096x2048 : Shape := ⟨2, ![4096, 2048]⟩
abbrev S4096x8x256 : Shape := ⟨3, ![4096, 8, 256]⟩
abbrev S4096x8x128 : Shape := ⟨3, ![4096, 8, 128]⟩
abbrev S4096x1x64 : Shape := ⟨3, ![4096, 1, 64]⟩
abbrev S4096x8x64 : Shape := ⟨3, ![4096, 8, 64]⟩
abbrev S_ : Shape := ⟨0, ![]⟩
abbrev S8x4096x256 : Shape := ⟨3, ![8, 4096, 256]⟩

abbrev nBuf : Space → Nat
  | .hbm => 14
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x2048, .f32⟩
  | .hbm, ⟨2, _⟩ => ⟨S4096x64, .f32⟩
  | .hbm, ⟨3, _⟩ => ⟨S4096x2048, .f32⟩
  | .hbm, ⟨4, _⟩ => ⟨S4096x8x256, .f32⟩
  | .hbm, ⟨5, _⟩ => ⟨S4096x8x128, .f32⟩
  | .hbm, ⟨6, _⟩ => ⟨S4096x1x64, .f32⟩
  | .hbm, ⟨7, _⟩ => ⟨S4096x8x64, .f32⟩
  | .hbm, ⟨8, _⟩ => ⟨S_, .f32⟩
  | .hbm, ⟨9, _⟩ => ⟨S4096x8x64, .f32⟩
  | .hbm, ⟨10, _⟩ => ⟨S4096x8x256, .f32⟩
  | .hbm, ⟨11, _⟩ => ⟨S4096x2048, .bf16⟩
  | .hbm, ⟨12, _⟩ => ⟨S8x4096x256, .f32⟩
  | .hbm, ⟨13, _⟩ => ⟨S8x4096x256, .bf16⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== ConvFwd.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S4096x128 : Shape := ⟨2, ![4096, 128]⟩
abbrev S3x128 : Shape := ⟨2, ![3, 128]⟩
abbrev S1x128 : Shape := ⟨2, ![1, 128]⟩
abbrev S4112x128 : Shape := ⟨2, ![4112, 128]⟩
abbrev S8x128 : Shape := ⟨2, ![8, 128]⟩
abbrev S128x128 : Shape := ⟨2, ![128, 128]⟩

abbrev nBuf : Space → Nat
  | .hbm => 5
  | .vmem => 16
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x5632, .bf16⟩
  | .hbm, ⟨4, _⟩ => ⟨S4096x2816, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4096x128, .bf16⟩
  | .local _ .vmem, ⟨13, _⟩ => ⟨S4096x128, .bf16⟩
  | .local _ .vmem, ⟨14, _⟩ => ⟨S4112x128, .f32⟩
  | .local _ .vmem, ⟨15, _⟩ => ⟨S4112x128, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

@[reducible] def k0_t1_loop : Scf.Loop 32 :=
  let c0_i32 : BitVec 32 := 0#32
  let c32_i32 : BitVec 32 := 32#32
  let v32 : BitVec 32 := Scalar.addi c0_i32 c32_i32
  let c1_i32 : BitVec 32 := 1#32
  ⟨c0_i32, v32, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v33 : BitVec 32 := Scalar.muli arg10 c128_i32
  v33
def k0_off1 (k0_t1 : Fin k0_t1_loop.trips) (c_m1_i32 : BitVec 32) : Fin 2 → Nat :=
  let c0_i32 : BitVec 32 := 0#32
  let c1_i32 : BitVec 32 := 1#32
  let arg10 : BitVec 32 := Scf.iv c0_i32 c1_i32 k0_t1
  let c128_i32 : BitVec 32 := 128#32
  let v33 : BitVec 32 := Scalar.muli arg10 c128_i32
  let v34 : BitVec 32 := v33
  let c8_i32 : BitVec 32 := 8#32
  let v35 : BitVec 32 := Scalar.addi v34 c8_i32
  let v36 : BitVec 32 := Scalar.addi v35 c_m1_i32
  let v37 : Index := Scalar.indexCast v36
  let c0_25 : Index := 0#32
  ![v37.toNat, 0]
def k0_off1_at (r : Fin 3) : BitVec 32 :=
  if r.val < 1 then
    4294967295#32
  else
    if r.val < 2 then
      0#32
    else
      1#32
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v33 : BitVec 32 := Scalar.muli arg10 c128_i32
  let v34 : BitVec 32 := v33
  let v95 : Index := Scalar.indexCast v34
  let c0_44 : Index := 0#32
  ![v95.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdRefIdeal.lean ====
abbrev S4096x5632 : Shape := ⟨2, ![4096, 5632]⟩
abbrev S3x5632 : Shape := ⟨2, ![3, 5632]⟩
abbrev S1x5632 : Shape := ⟨2, ![1, 5632]⟩
abbrev S_ : Shape := ⟨0, ![]⟩
abbrev S4098x5632 : Shape := ⟨2, ![4098, 5632]⟩
abbrev S5632 : Shape := ⟨1, ![5632]⟩
abbrev S4096x2816 : Shape := ⟨2, ![4096, 2816]⟩

abbrev nBuf : Space → Nat
  | .hbm => 43
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S_, .f32⟩
  | .hbm, ⟨4, _⟩ => ⟨S1x5632, .f32⟩
  | .hbm, ⟨5, _⟩ => ⟨S4098x5632, .f32⟩
  | .hbm, ⟨6, _⟩ => ⟨S4096x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S5632, .f32⟩
  | .hbm, ⟨27, _⟩ => ⟨S1x5632, .f32⟩
  | .hbm, ⟨28, _⟩ => ⟨S4096x5632, .f32⟩
  | .hbm, ⟨29, _⟩ => ⟨S4096x5632, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Prod.lean ====
abbrev S4096x1024 : Shape := ⟨2, ![4096, 1024]⟩
abbrev S1024x5632 : Shape := ⟨2, ![1024, 5632]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S5632x1024, .f32⟩
  | .hbm, ⟨4, _⟩ => ⟨S5632x1024, .bf16⟩
  | .hbm, ⟨5, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProdRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Gate.lean ====
module

public import proofs.«01_k».proof.Defs
public import proofs.«01_k».proof.Proof.Gen.GateIdeal.Value
public import proofs.«01_k».proof.Proof.Gen.On_gate_written
public import proofs.«01_k».proof.Proof.Gen.GateRefIdeal.Run
public import proofs.«01_k».proof.Proof.Gen.GateRefIdeal.Read
public import Idealize.ShloMosaic.Lib.Pipeline.ValueKit

@[expose] public section

set_option maxRecDepth 16384

noncomputable section

namespace Cert.Proof.Gate

open Idealize.ShloMosaic Idealize.ShloMosaic.TcCoe Idealize.SL.Sem
open Cert.GateIdeal Cert.GateIdeal.Gen

variable (m : (ℓ : Loc nD τ sig) → Buf (Elt Ideal) ℓ)

/-- The joined projection as the call reads it: the nine column groups of the forward projection in the call's order. -/
def joined (x : FVec Ideal S4096x4032 .f32) : FVec Ideal S4096x4096 .bf16 :=
  truncf .bf16 (concatenate S4096x4096 1
    [⟨S4096x1024, extractStridedSlice S4096x1024 ![0, 1984] x slices_S4096x4032_S4096x1024_0_1984⟩,
     ⟨S4096x1024, extractStridedSlice S4096x1024 ![0, 3008] x slices_S4096x4032_S4096x1024_0_3008⟩,
     ⟨S4096x1024, extractStridedSlice S4096x1024 ![0, 448] x slices_S4096x4032_S4096x1024_0_448⟩,
     ⟨S4096x256, extractStridedSlice S4096x256 ![0, 0] x slices_S4096x4032_S4096x256_0_0⟩,
     ⟨S4096x256, extractStridedSlice S4096x256 ![0, 1472] x slices_S4096x4032_S4096x256_0_1472⟩,
     ⟨S4096x256, extractStridedSlice S4096x256 ![0, 1728] x slices_S4096x4032_S4096x256_0_1728⟩,
     ⟨S4096x128, extractStridedSlice S4096x128 ![0, 256] x slices_S4096x4032_S4096x128_0_256⟩,
     ⟨S4096x64, extractStridedSlice S4096x64 ![0, 384] x slices_S4096x4032_S4096x64_0_384⟩,
     ⟨S4096x64, broadcastInDim S4096x64 ![] bcast_S_S4096x64 (constant S_ .f32 0x00000000#32)⟩]
    concatenates_S4096x1024_S4096x1024_S4096x1024_S4096x256_S4096x256_S4096x256_S4096x128_S4096x64_S4096x64_S4096x4096_d1)
    bitsLt_bf16_f32

theorem joined_found (c : Dev nD) : V m c main_v10 = joined (m ((c : Thread nD τ).loc main_arg0)) := by
  dsimp only [V, hostOps0]
  after_results_simp <;> (try dsimp only [Matrix.cons_val]) <;> (try after_results_simp) <;> rfl

theorem ct_found (c : Dev nD) : V m c main_v11 = m ((c : Thread nD τ).loc main_arg4) := by
  dsimp only [V, hostOps0]
  after_results_simp <;> rfl

theorem w_found (c : Dev nD) : V m c main_v12 = m ((c : Thread nD τ).loc main_arg3) := by
  dsimp only [V, hostOps0]
  after_results_simp <;> rfl

theorem oa_found (c : Dev nD) : V m c main_v13 = m ((c : Thread nD τ).loc main_arg1) := by
  dsimp only [V, hostOps0]
  after_results_simp <;> rfl

theorem ob_found (c : Dev nD) : V m c main_v14 = m ((c : Thread nD τ).loc main_arg2) := by
  dsimp only [V, hostOps0]
  after_results_simp <;> rfl

theorem joined_a (x : FVec Ideal S4096x4032 .f32) (i : S4096x4096.Idx) (r : Fin 4096) (l : Fin 1024)
    (hr : (i 0).val = r.val) (hl : (i 1).val = l.val) :
    joined x i = x (ix2 r ⟨1984 + l.val, by omega⟩) := by
  rw [show joined x i = joined x (ix2 r ⟨l.val, by omega⟩) from congrArg _ (by idx_ext)]
  pointwise [joined]

theorem joined_b (x : FVec Ideal S4096x4032 .f32) (i : S4096x4096.Idx) (r : Fin 4096) (l : Fin 1024)
    (hr : (i 0).val = r.val) (hl : (i 1).val = 1024 + l.val) :
    joined x i = x (ix2 r ⟨3008 + l.val, by omega⟩) := by
  rw [show joined x i = joined x (ix2 r ⟨1024 + l.val, by omega⟩) from congrArg _ (by idx_ext)]
  pointwise [joined]

/-- The mixed gradient of one row and column: the cotangent's row against the weight's row. -/
def dmix (x3 : FVec Ideal S1024x1024 .f32) (x4 : FVec Ideal S4096x1024 .f32) (r : Fin 4096) (l : Fin 1024) : EReal :=
  ∑ k : Fin 1024, x4 (ix2 r k) * x3 (ix2 l k)

/-- The logistic function of an extended real. -/
def logi (x : EReal) : EReal := Ideal.div 1 (1 + Ideal.exp (-x))

section
open Cert.GateRefIdeal.Read
variable (x0 : FVec Ideal S4096x4032 .f32) (x1 x2 : FVec Ideal S4096x1024 .f32) (x3 : FVec Ideal S1024x1024 .f32)
  (x4 : FVec Ideal S4096x1024 .f32)

/-- The first gate's logistic in the reference, at an index. -/
theorem ref_sa (i : S4096x1024.Idx) :
    val_main_v7 (F := Ideal) x0 i = logi (x0 (ix2 (i 0) ⟨1984 + (i 1).val, by have : (i 1).val < 1024 := (i 1).isLt; omega⟩)) := by
  pointwise [logi, val_main_v7, val_main_v6, val_main_cst_0, val_main_v5, val_main_v4, val_main_cst, val_main_v3, val_main_v2, val_main_v0]

/-- The second gate's logistic in the reference, at an index. -/
theorem ref_sb (i : S4096x1024.Idx) :
    val_main_v17 (F := Ideal) x0 i = logi (x0 (ix2 (i 0) ⟨3008 + (i 1).val, by have : (i 1).val < 1024 := (i 1).isLt; omega⟩)) := by
  pointwise [logi, val_main_v17, val_main_v16, val_main_cst_3, val_main_v15, val_main_v14, val_main_cst_2, val_main_v13, val_main_v12, val_main_v1]

/-- The mixed gradient in the reference, at an index. -/
theorem ref_dmix (i : S4096x1024.Idx) : val_main_v26 (F := Ideal) x3 x4 i = dmix x3 x4 (i 0) (i 1) := by
  pointwise [dmix, val_main_v26]

/-- The gradient of the first branch's output in the reference. -/
theorem ref_do_a (i : S4096x1024.Idx) : val_main_v36 (F := Ideal) x0 x3 x4 i = val_main_v7 (F := Ideal) x0 i * val_main_v26 (F := Ideal) x3 x4 i := by
  pointwise [val_main_v36, val_main_v30]

/-- The gradient of the second branch's output in the reference. -/
theorem ref_do_b (i : S4096x1024.Idx) : val_main_v37 (F := Ideal) x0 x3 x4 i = val_main_v17 (F := Ideal) x0 i * val_main_v26 (F := Ideal) x3 x4 i := by
  pointwise [val_main_v37, val_main_v27]

/-- The reference's joined gradient in the first gate's columns. -/
theorem ref_dga (i : S4096x4096.Idx) (r : Fin 4096) (l : Fin 1024) (hr : (i 0).val = r.val) (hl : (i 1).val = l.val) :
    val_main_v35 (F := Ideal) x0 x1 x2 x3 x4 i = dmix x3 x4 r l * x1 (ix2 r l)
      * logi (x0 (ix2 r ⟨1984 + l.val, by omega⟩)) * (1 - logi (x0 (ix2 r ⟨1984 + l.val, by omega⟩))) := by
  rw [show val_main_v35 (F := Ideal) x0 x1 x2 x3 x4 i = val_main_v35 (F := Ideal) x0 x1 x2 x3 x4 (ix2 r ⟨l.val, by omega⟩) from congrArg _ (by idx_ext)]
  pointwise [val_main_v35, val_main_v34, val_main_v32, val_main_v31, val_main_v10, val_main_v9, val_main_v8, val_main_cst_1]
  rw [ref_sa, ref_dmix, ← mul_assoc]
  rfl

/-- The reference's joined gradient in the second gate's columns. -/
theorem ref_dgb (i : S4096x4096.Idx) (r : Fin 4096) (l : Fin 1024) (hr : (i 0).val = r.val) (hl : (i 1).val = 1024 + l.val) :
    val_main_v35 (F := Ideal) x0 x1 x2 x3 x4 i = dmix x3 x4 r l * x2 (ix2 r l)
      * logi (x0 (ix2 r ⟨3008 + l.val, by omega⟩)) * (1 - logi (x0 (ix2 r ⟨3008 + l.val, by omega⟩))) := by
  rw [show val_main_v35 (F := Ideal) x0 x1 x2 x3 x4 i = val_main_v35 (F := Ideal) x0 x1 x2 x3 x4 (ix2 r ⟨1024 + l.val, by omega⟩) from congrArg _ (by idx_ext)]
  pointwise [val_main_v35, val_main_v34, val_main_v29, val_main_v28, val_main_v20, val_main_v19, val_main_v18, val_main_cst_4]
  rw [ref_sb, ref_dmix, ← mul_assoc]
  rfl
end

/-- Which block each window is at: row block `t`, and the second gate one block of columns on. -/
theorem row_idx : ∀ t : Fin cfg0.N, win0_0.index t = ![t.val, 0] ∧ win0_1.index t = ![0, 0] ∧ win0_2.index t = ![t.val, 0]
    ∧ win0_3.index t = ![t.val, 1] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

section
variable (c : Dev nD) (t : Fin cfg0.N) (y : S512x1024.Idx) (r : Fin 4096) (l : Fin 1024)
  (hr : r.val = t.val * 512 + (y 0).val) (hl : l.val = (y 1).val)
include hr hl

/-- The call's product of its blocks is the mixed gradient. -/
theorem dmix_block : k0_pay4 (iblk m c 0 t) (iblk m c 1 t) y = dmix (m ((c : Thread nD τ).loc main_arg3)) (m ((c : Thread nD τ).loc main_arg4)) r l := by
  obtain ⟨e0, e1, -⟩ := row_idx t
  pointwise [k0_pay4, dmix]
  blk_simp [iblk]
  rw [ct_found, w_found]
  refine Finset.sum_congr rfl fun k _ => ?_
  congr 2 <;> blk_ext [e0, e1]

/-- The first gate's logistic at a row block. -/
theorem sa_block : k0_pay5 (iblk m c 2 t) y = logi (m ((c : Thread nD τ).loc main_arg0) (ix2 r ⟨1984 + l.val, by omega⟩)) := by
  obtain ⟨-, -, e2, -⟩ := row_idx t
  pointwise [k0_pay5, logi]
  blk_simp [iblk]
  rw [joined_found, joined_a _ _ r l (by blk_simp [e2]; omega) (by blk_simp [e2]; omega), zero_sub]

/-- The second gate's logistic at a row block. -/
theorem sb_block : k0_pay6 (iblk m c 3 t) y = logi (m ((c : Thread nD τ).loc main_arg0) (ix2 r ⟨3008 + l.val, by omega⟩)) := by
  obtain ⟨-, -, -, e3, -⟩ := row_idx t
  pointwise [k0_pay6, logi]
  blk_simp [iblk]
  rw [joined_found, joined_b _ _ r l (by blk_simp [e3]; omega) (by blk_simp [e3]; omega), zero_sub]
end

open Cert.GateRefIdeal.Read (val_main_v35 val_main_v36 val_main_v37)

/-- The call's second result is the gradient of the first branch's output. -/
theorem out_do_a (c : Dev nD) : (dats m 0 c).arrAt 7 cfg0.N = val_main_v36 (m ((c : Thread nD τ).loc main_arg0))
    (m ((c : Thread nD τ).loc main_arg3)) (m ((c : Thread nD τ).loc main_arg4)) := by
  refine (dats m 0 c).arrAt_eq_of_covers 7 _ (by decide +kernel) fun t hf y => ?_
  blk_simp
  rw [after0_7]
  obtain ⟨-, -, -, -, -, -, -, e7, -⟩ := row_idx t
  have h0 : (((View.whole main_v15_1).slice (win0_7.rect t)).emb y 0).val = t.val * 512 + (y 0).val := by blk_simp [e7]
  have h1 : (((View.whole main_v15_1).slice (win0_7.rect t)).emb y 1).val = (y 1).val := by blk_simp [e7]
  rw [ref_do_a, ref_sa, ref_dmix]
  frame_out [k0_pay9]
  pointwise [k0_pay2]
  rw [dmix_block m c t y _ _ h0 h1, sa_block m c t y _ _ h0 h1, mul_comm]

/-- The call's third result is the gradient of the second branch's output. -/
theorem out_do_b (c : Dev nD) : (dats m 0 c).arrAt 8 cfg0.N = val_main_v37 (m ((c : Thread nD τ).loc main_arg0))
    (m ((c : Thread nD τ).loc main_arg3)) (m ((c : Thread nD τ).loc main_arg4)) := by
  refine (dats m 0 c).arrAt_eq_of_covers 8 _ (by decide +kernel) fun t hf y => ?_
  blk_simp
  rw [after0_8]
  obtain ⟨-, -, -, -, -, -, -, -, e8⟩ := row_idx t
  have h0 : (((View.whole main_v15_2).slice (win0_8.rect t)).emb y 0).val = t.val * 512 + (y 0).val := by blk_simp [e8]
  have h1 : (((View.whole main_v15_2).slice (win0_8.rect t)).emb y 1).val = (y 1).val := by blk_simp [e8]
  rw [ref_do_b, ref_sb, ref_dmix]
  frame_out [k0_pay9, k0_pay10]
  pointwise [k0_pay3]
  rw [dmix_block m c t y _ _ h0 h1, sb_block m c t y _ _ h0 h1, mul_comm]

/-- A block's branch output is the argument's row and column. -/
theorem oa_block (c : Dev nD) (t : Fin cfg0.N) (y : S512x1024.Idx) (r : Fin 4096) (l : Fin 1024) (hr : r.val = t.val * 512 + (y 0).val)
    (hl : l.val = (y 1).val) : iblk m c 4 t y = m ((c : Thread nD τ).loc main_arg1) (ix2 r l)
      ∧ iblk m c 5 t y = m ((c : Thread nD τ).loc main_arg2) (ix2 r l) := by
  obtain ⟨-, -, -, -, e4, e5, -⟩ := row_idx t
  blk_simp [iblk]
  rw [oa_found, ob_found]
  constructor <;> refine congrArg _ ?_ <;> blk_ext [e4, e5]

/-- The call's joined payload in the first gate's columns. -/
theorem pay_a (v0 v2 v3 v4 v5 : Vec Ideal S512x1024 .bf16) (v1 : Vec Ideal S1024x1024 .bf16) (y : S512x2048.Idx) (p : Fin 512) (l : Fin 1024)
    (hp : (y 0).val = p.val) (hl : (y 1).val = l.val) :
    k0_pay1 (F := Ideal) (k0_pay6 v3) (k0_pay7 v0 v1 v2 v4) (k0_pay8 v0 v1 v3 v5) y
      = k0_pay4 v0 v1 (ix2 p l) * v4 (ix2 p l) * k0_pay5 v2 (ix2 p l) * (1 - k0_pay5 v2 (ix2 p l)) := by
  rw [show y = ix2 p ⟨l.val, by omega⟩ from by idx_ext]
  pointwise [k0_pay1, k0_pay7]

/-- The call's joined payload in the second gate's columns. -/
theorem pay_b (v0 v2 v3 v4 v5 : Vec Ideal S512x1024 .bf16) (v1 : Vec Ideal S1024x1024 .bf16) (y : S512x2048.Idx) (p : Fin 512) (l : Fin 1024)
    (hp : (y 0).val = p.val) (hl : (y 1).val = 1024 + l.val) :
    k0_pay1 (F := Ideal) (k0_pay6 v3) (k0_pay7 v0 v1 v2 v4) (k0_pay8 v0 v1 v3 v5) y
      = k0_pay4 v0 v1 (ix2 p l) * v5 (ix2 p l) * k0_pay6 v3 (ix2 p l) * (1 - k0_pay6 v3 (ix2 p l)) := by
  rw [show y = ix2 p ⟨1024 + l.val, by omega⟩ from by idx_ext]
  pointwise [k0_pay1, k0_pay8]

/-- In the columns it writes, the call's first result is the joined gradient of the two gates. -/
theorem out_dproj (c : Dev nD) (i : S4096x4096.Idx) (hi : (i 1).val < 2048) :
    (dats m 0 c).arrAt 6 cfg0.N i = val_main_v35 (m ((c : Thread nD τ).loc main_arg0)) (m ((c : Thread nD τ).loc main_arg1))
      (m ((c : Thread nD τ).loc main_arg2)) (m ((c : Thread nD τ).loc main_arg3)) (m ((c : Thread nD τ).loc main_arg4)) i := by
  have key := (dats m 0 c).arrAt_eq_of_coversWhere 6 (P := fun j : S4096x4096.Idx => (j 1).val < 2048)
    (val_main_v35 (m ((c : Thread nD τ).loc main_arg0)) (m ((c : Thread nD τ).loc main_arg1))
      (m ((c : Thread nD τ).loc main_arg2)) (m ((c : Thread nD τ).loc main_arg3)) (m ((c : Thread nD τ).loc main_arg4)))
    (fun β => β (1 : Fin 2) < 1) (by decide +kernel) (fun t hf y => ?_) (fun j => by blk_simp [Pipeline.Window.cell_apply]; omega)
  · rw [key]; exact if_pos hi
  blk_simp
  rw [after0_6]
  obtain ⟨-, -, -, -, -, -, e6, -⟩ := row_idx t
  have h0 : (((View.whole main_v15_0).slice (win0_6.rect t)).emb y 0).val = t.val * 512 + (y 0).val := by blk_simp [e6]
  have h1 : (((View.whole main_v15_0).slice (win0_6.rect t)).emb y 1).val = (y 1).val := by blk_simp [e6]
  idx_bounds y
  frame_out [k0_pay9, k0_pay10]
  by_cases hy : (y 1).val < 1024
  · rw [ref_dga _ _ _ _ _ _ (((View.whole main_v15_0).slice (win0_6.rect t)).emb y 0) ⟨(y 1).val, hy⟩ rfl h1]
    rw [pay_a _ _ _ _ _ _ y (y 0) ⟨(y 1).val, hy⟩ rfl rfl, dmix_block m c t _ _ _ h0 rfl, sa_block m c t _ _ _ h0 rfl, (oa_block m c t _ _ _ h0 rfl).1]
    rfl
  · have hy' : (y 1).val - 1024 < 1024 := by omega
    rw [ref_dgb _ _ _ _ _ _ (((View.whole main_v15_0).slice (win0_6.rect t)).emb y 0) ⟨(y 1).val - 1024, hy'⟩ rfl (by rw [h1]; show _ = 1024 + ((y 1).val - 1024); omega),
      pay_b _ _ _ _ _ _ y (y 0) ⟨(y 1).val - 1024, hy'⟩ rfl (by show _ = 1024 + ((y 1).val - 1024); omega),
      dmix_block m c t _ _ _ h0 rfl, sb_block m c t _ _ _ h0 rfl, (oa_block m c t _ _ _ h0 rfl).2]
    rfl

/-- The mask selects only columns the call writes. -/
theorem mask_cols (a0 : FVec Ideal S4096x4032 .f32) (a1 a2 : FVec Ideal S4096x1024 .f32) (a3 : FVec Ideal S1024x1024 .f32) (a4 : FVec Ideal S4096x1024 .f32)
    (i : S4096x4096.Idx) (h : (Cert.On_gate_written.fn (F := Ideal) a0 a1 a2 a3 a4).1 i = 1#1) : (i 1).val < 2048 := by
  by_contra hc
  revert h
  simp only [Cert.On_gate_written.fn]
  pointwise
  intro h
  have hb : (i 1).val < 4096 := (i 1).isLt
  exact hc ((WordCmp.cmpi_slt_ofNat_eq_one_iff (w := 32) (a := (i 1).val) (b := 2048) (by omega) (by omega)).mp h)

/-- The call and the derivative of the reference's gate agree on what the call writes. -/
theorem equal : Cert.algebraic_GateIdeal_GateRefIdeal_on_gate_written := by
  intro m ρ m' ρ' _ hag
  refine ⟨fun c => val_main_v35 (m ((c : Thread nD τ).loc main_arg0)) (m ((c : Thread nD τ).loc main_arg1))
      (m ((c : Thread nD τ).loc main_arg2)) (m ((c : Thread nD τ).loc main_arg3)) (m ((c : Thread nD τ).loc main_arg4)),
    fun c => val_main_v36 (m ((c : Thread nD τ).loc main_arg0)) (m ((c : Thread nD τ).loc main_arg3)) (m ((c : Thread nD τ).loc main_arg4)),
    fun c => val_main_v37 (m ((c : Thread nD τ).loc main_arg0)) (m ((c : Thread nD τ).loc main_arg3)) (m ((c : Thread nD τ).loc main_arg4)), ?_, ?_⟩
  · refine (θ_run _ _ _).mono (fun r h c => ?_) (Cert.GateIdeal.Value.run_blocks m ρ)
    obtain ⟨h0, h1, h2, ha⟩ := h c
    refine ⟨fun i hi => ?_, fun i _ => ?_, fun i _ => ?_, ha⟩
    · rw [h0]; exact out_dproj m c i (mask_cols _ _ _ _ _ i hi)
    · rw [h1, out_do_a]
    · rw [h2, out_do_b]
  · refine (θ_run _ _ _).mono (fun r h c => ?_) (Cert.GateRefIdeal.Value.run m' ρ')
    obtain ⟨h0, h1, h2, ha⟩ := h c
    obtain ⟨g0, g1, g2, g3, g4⟩ := hag c
    refine ⟨fun i _ => ?_, fun i _ => ?_, fun i _ => ?_, ha⟩
    · rw [h0, Cert.GateRefIdeal.Read.val_main_v35_eq, g0, g1, g2, g3, g4]
    · rw [h1, Cert.GateRefIdeal.Read.val_main_v36_eq, g0, g3, g4]
    · rw [h2, Cert.GateRefIdeal.Read.val_main_v37_eq, g0, g3, g4]

end Cert.Proof.Gate
end
-- ==== Proof.MlaPay.lean ====
module

public import proofs.«01_k».proof.Defs
public import proofs.«01_k».proof.Proof.Gen.MlaIdeal.Value
public import Idealize.ShloMosaic.Lib.Pipeline.ValueKit

@[expose] public section

set_option maxRecDepth 16384

noncomputable section

namespace Cert.Proof.Mla

open Idealize.ShloMosaic Idealize.ShloMosaic.TcCoe Idealize.SL.Sem
open Cert.MlaIdeal Cert.MlaIdeal.Gen

/-- The probability of query row `i` and key row `j`, from a tile's queries and its saved row log-sums and a head's keys. -/
def tP (Q : Vec Ideal S1x1024x256 .bf16) (L : Vec Ideal S1x1024x1 .f32) (K : Vec Ideal S1x4096x256 .bf16) (i : Fin 1024) (j : Fin 4096) : EReal :=
  FloatOps.exp2 (F := Ideal) (φ := .f32) (∑ d : Fin 256, Q (ix3 0 i d) * K (ix3 0 j d) - L (ix3 0 i 0))

/-- The gradient of the score of query row `i` and key row `j`: the probability times the difference of `do · v` and the row sum of `do · o`. -/
def tS (Q : Vec Ideal S1x1024x256 .bf16) (D O : Vec Ideal S1024x128 .bf16) (L : Vec Ideal S1x1024x1 .f32) (K : Vec Ideal S1x4096x256 .bf16)
    (V : Vec Ideal S4096x128 .bf16) (i : Fin 1024) (j : Fin 4096) : EReal :=
  tP Q L K i j * (∑ e : Fin 128, D (ix2 i e) * V (ix2 j e) - ∑ e : Fin 128, D (ix2 i e) * O (ix2 i e))

section blocks
variable (Q : Vec Ideal S1x1024x256 .bf16) (D O : Vec Ideal S1024x128 .bf16) (L : Vec Ideal S1x1024x1 .f32)
    (K : Vec Ideal S1x4096x256 .bf16) (V : Vec Ideal S4096x128 .bf16)

/-- The four key chunks' additions to the key gradient, each read at a row `r` of its chunk. -/
theorem dk_chunks (old : Vec Ideal S1x1024x256 .f32) (r : Fin 1024) (l : Fin 256) :
    (k0_pay18 (F := Ideal) (k0_pay10 Q) (k0_pay16 Q D L O
      (View.ld K (Rect.unit ![0, 0, 0] ![1, 1024, 256] inb_S1x4096x256_S1x1024x256_0_0_0))
      (View.ld V (Rect.unit ![0, 0] ![1024, 128] inb_S4096x128_S1024x128_0_0))) old (ix3 0 r l)
        = old (ix3 0 r l) + ∑ i : Fin 1024, tS Q D O L K V i ⟨0 + r.val, by omega⟩ * Q (ix3 0 i l))
    ∧ (k0_pay25 (F := Ideal) (k0_pay24 (k0_pay10 Q) (k0_pay11 D) (k0_pay12 L) (k0_pay13 D O)
      (View.ld K (Rect.unit ![0, 1024, 0] ![1, 1024, 256] inb_S1x4096x256_S1x1024x256_0_1024_0))
      (View.ld V (Rect.unit ![1024, 0] ![1024, 128] inb_S4096x128_S1024x128_1024_0)) old) (ix3 0 r l)
        = old (ix3 0 r l) + ∑ i : Fin 1024, tS Q D O L K V i ⟨1024 + r.val, by omega⟩ * Q (ix3 0 i l))
    ∧ (k0_pay31 (F := Ideal) (k0_pay10 Q) (k0_pay11 D) (k0_pay12 L) (k0_pay13 D O)
      (View.ld K (Rect.unit ![0, 2048, 0] ![1, 1024, 256] inb_S1x4096x256_S1x1024x256_0_2048_0))
      (View.ld V (Rect.unit ![2048, 0] ![1024, 128] inb_S4096x128_S1024x128_2048_0)) old (ix3 0 r l)
        = old (ix3 0 r l) + ∑ i : Fin 1024, tS Q D O L K V i ⟨2048 + r.val, by omega⟩ * Q (ix3 0 i l))
    ∧ (k0_pay37 (F := Ideal) (k0_pay10 Q) (k0_pay11 D) (k0_pay12 L) (k0_pay13 D O)
      (View.ld K (Rect.unit ![0, 3072, 0] ![1, 1024, 256] inb_S1x4096x256_S1x1024x256_0_3072_0))
      (View.ld V (Rect.unit ![3072, 0] ![1024, 128] inb_S4096x128_S1024x128_3072_0)) old (ix3 0 r l)
        = old (ix3 0 r l) + ∑ i : Fin 1024, tS Q D O L K V i ⟨3072 + r.val, by omega⟩ * Q (ix3 0 i l)) := by
  refine ⟨?_, ?_, ?_, ?_⟩ <;>
    pointwise [k0_pay18, k0_pay24, k0_pay25, k0_pay31, k0_pay37, k0_pay16, k0_pay22, k0_pay29, k0_pay35, k0_pay15, k0_pay21, k0_pay28,
      k0_pay34, k0_pay14, k0_pay20, k0_pay27, k0_pay33, k0_pay10, k0_pay11, k0_pay12, k0_pay13, tS, tP]

/-- The four key chunks' additions to the value gradient, each read at a row `r` of its chunk. -/
theorem dv_chunks (old : Vec Ideal S1x1024x128 .f32) (r : Fin 1024) (l : Fin 128) :
    (k0_pay19 (F := Ideal) (k0_pay11 D) (k0_pay15 Q L
      (View.ld K (Rect.unit ![0, 0, 0] ![1, 1024, 256] inb_S1x4096x256_S1x1024x256_0_0_0))) old (ix3 0 r l)
        = old (ix3 0 r l) + ∑ i : Fin 1024, tP Q L K i ⟨0 + r.val, by omega⟩ * D (ix2 i l))
    ∧ (k0_pay26 (F := Ideal) (k0_pay11 D) (k0_pay21 (k0_pay10 Q) (k0_pay12 L)
      (View.ld K (Rect.unit ![0, 1024, 0] ![1, 1024, 256] inb_S1x4096x256_S1x1024x256_0_1024_0))) old (ix3 0 r l)
        = old (ix3 0 r l) + ∑ i : Fin 1024, tP Q L K i ⟨1024 + r.val, by omega⟩ * D (ix2 i l))
    ∧ (k0_pay32 (F := Ideal) (k0_pay11 D) (k0_pay28 (k0_pay10 Q) (k0_pay12 L)
      (View.ld K (Rect.unit ![0, 2048, 0] ![1, 1024, 256] inb_S1x4096x256_S1x1024x256_0_2048_0))) old (ix3 0 r l)
        = old (ix3 0 r l) + ∑ i : Fin 1024, tP Q L K i ⟨2048 + r.val, by omega⟩ * D (ix2 i l))
    ∧ (k0_pay1 (F := Ideal) (k0_pay11 D) (k0_pay38 old) (k0_pay39 (k0_pay10 Q) (k0_pay12 L)
      (View.ld K (Rect.unit ![0, 3072, 0] ![1, 1024, 256] inb_S1x4096x256_S1x1024x256_0_3072_0))) (ix3 0 r l)
        = old (ix3 0 r l) + ∑ i : Fin 1024, tP Q L K i ⟨3072 + r.val, by omega⟩ * D (ix2 i l)) := by
  refine ⟨?_, ?_, ?_, ?_⟩ <;>
    pointwise [k0_pay19, k0_pay26, k0_pay32, k0_pay1, k0_pay38, k0_pay39, k0_pay15, k0_pay21, k0_pay28,
      k0_pay34, k0_pay14, k0_pay20, k0_pay27, k0_pay33, k0_pay10, k0_pay11, k0_pay12, tP]

/-- A sum over all key rows is the sum of the sums over the four chunks. -/
theorem sum_chunks (f : Fin 4096 → EReal) :
    ∑ j : Fin 4096, f j = ∑ s : Fin 1024, f ⟨0 + s.val, by omega⟩ + ∑ s : Fin 1024, f ⟨1024 + s.val, by omega⟩
      + ∑ s : Fin 1024, f ⟨2048 + s.val, by omega⟩ + ∑ s : Fin 1024, f ⟨3072 + s.val, by omega⟩ := by
  rw [← Fin.sum_mul_add_fin 4 1024 f, Fin.sum_univ_four]
  rfl

/-- The query gradient before its scale: the four chunks' products add up to the sum over all key rows. -/
theorem dq_all (r : Fin 1024) (l : Fin 256) :
    k0_pay36 (F := Ideal) (k0_pay10 Q) (k0_pay11 D) (k0_pay12 L) (k0_pay13 D O)
      (k0_pay30 (k0_pay10 Q) (k0_pay11 D) (k0_pay12 L) (k0_pay13 D O)
        (k0_pay23 (k0_pay10 Q) (k0_pay11 D) (k0_pay12 L) (k0_pay13 D O)
          (k0_pay17 Q D L O (View.ld K (Rect.unit ![0, 0, 0] ![1, 1024, 256] inb_S1x4096x256_S1x1024x256_0_0_0))
            (View.ld V (Rect.unit ![0, 0] ![1024, 128] inb_S4096x128_S1024x128_0_0)))
          (View.ld K (Rect.unit ![0, 1024, 0] ![1, 1024, 256] inb_S1x4096x256_S1x1024x256_0_1024_0))
          (View.ld V (Rect.unit ![1024, 0] ![1024, 128] inb_S4096x128_S1024x128_1024_0)))
        (View.ld K (Rect.unit ![0, 2048, 0] ![1, 1024, 256] inb_S1x4096x256_S1x1024x256_0_2048_0))
        (View.ld V (Rect.unit ![2048, 0] ![1024, 128] inb_S4096x128_S1024x128_2048_0)))
      (View.ld K (Rect.unit ![0, 3072, 0] ![1, 1024, 256] inb_S1x4096x256_S1x1024x256_0_3072_0))
      (View.ld V (Rect.unit ![3072, 0] ![1024, 128] inb_S4096x128_S1024x128_3072_0)) (ix2 r l)
      = ∑ j : Fin 4096, tS Q D O L K V r j * K (ix3 0 j l) := by
  rw [sum_chunks]
  pointwise [k0_pay36, k0_pay30, k0_pay23, k0_pay17, k0_pay16, k0_pay22, k0_pay29, k0_pay35, k0_pay15, k0_pay21, k0_pay28,
      k0_pay34, k0_pay14, k0_pay20, k0_pay27, k0_pay33, k0_pay10, k0_pay11, k0_pay12, k0_pay13, tS, tP]
end blocks
end Cert.Proof.Mla
end
-- ==== Proof.MlaStep.lean ====
module

public import proofs.«01_k».proof.Defs
public import proofs.«01_k».proof.Proof.Gen.MlaIdeal.Value
public import Idealize.ShloMosaic.Lib.Pipeline.ValueKit
public import proofs.«01_k».proof.Proof.MlaPay

@[expose] public section

set_option maxRecDepth 16384

noncomputable section

namespace Cert.Proof.Mla

open Idealize.ShloMosaic Idealize.ShloMosaic.TcCoe Idealize.SL.Sem
open Cert.MlaIdeal Cert.MlaIdeal.Gen

section canon
variable {S : Shape} {e : EltTy}

/-- Under the newest piece, a stored buffer holds the piece's payload. -/
theorem canon_here (off size : Fin S.rank → Nat) (inb : ∀ a, off a + size a ≤ S.size a)
    (w : (Rect.unit off size inb).shape.Idx → Elt Ideal e) (R : List (View.Piece (Elt Ideal) S e)) (y : S.Idx) (x : (Rect.unit off size inb).shape.Idx)
    (h : ∀ a, (y a).val = off a + (x a).val) : View.canon (⟨Rect.unit off size inb, w⟩ :: R) y = w x := by
  have hy : y = (Rect.unit off size inb).emb x := by
    funext a
    apply Fin.ext
    rw [h a]
    exact (Rect.idx_unit_val off size inb x a).symm
  rw [hy]
  exact View.canon_cons_emb _ _ _ _

/-- Off the newest piece, a stored buffer holds what the earlier pieces left. -/
theorem canon_past (off size : Fin S.rank → Nat) (inb : ∀ a, off a + size a ≤ S.size a)
    (w : (Rect.unit off size inb).shape.Idx → Elt Ideal e) (R : List (View.Piece (Elt Ideal) S e)) (y : S.Idx) (a : Fin S.rank)
    (h : (y a).val < off a ∨ off a + size a ≤ (y a).val) : View.canon (⟨Rect.unit off size inb, w⟩ :: R) y = View.canon R y :=
  View.canon_cons_of_not_mem _ R fun hm => by
    have := (Rect.mem_set_unit (inb := inb)).mp hm a
    omega
/-- Pieces under a list that already covers an index are not read there. -/
theorem canon_under (R : List (View.Piece (Elt Ideal) S e)) (y : S.Idx) : ∀ P : List (View.Piece (Elt Ideal) S e),
    (∃ p ∈ P, y ∈ p.1.set) → View.canon (P ++ R) y = View.canon P y
  | [], h => by obtain ⟨p, hp, _⟩ := h; cases hp
  | p :: P, h => by
    by_cases hy : y ∈ p.1.set
    · obtain ⟨x, rfl⟩ : ∃ x, p.1.emb x = y := p.1.exists_idx_of_mem hy
      exact (View.canon_cons_emb p.1 p.2 (P ++ R) x).trans (View.canon_cons_emb p.1 p.2 P x).symm
    · refine (View.canon_cons_of_not_mem p (P ++ R) hy).trans (Eq.trans (canon_under R y P ?_) (View.canon_cons_of_not_mem p P hy).symm)
      obtain ⟨q, hq, hyq⟩ := h
      rcases List.mem_cons.mp hq with rfl | hq
      · exact absurd hyq hy
      · exact ⟨q, hq, hyq⟩

/-- A load of a rank-three buffer passes a stored piece whose rows are apart from the load's. -/
theorem load_past {n : Fin 3 → Nat} {sig : RefSig} {κ : Kind} {sp : Space} (v : View sig κ sp ⟨3, n⟩ e) (off size off' size' : Fin 3 → Nat)
    (inb : ∀ a, off a + size a ≤ n a) (inb' : ∀ a, off' a + size' a ≤ n a) (w : (Rect.unit (s := ⟨3, n⟩) off size inb).shape.Idx → Elt Ideal e)
    (R : List (View.Piece (Elt Ideal) ⟨3, n⟩ e)) (h : off 1 + size 1 ≤ off' 1 ∨ off' 1 + size' 1 ≤ off 1) :
    v.readCov (⟨Rect.unit (s := ⟨3, n⟩) off size inb, w⟩ :: R) (Rect.unit (s := ⟨3, n⟩) off' size' inb').toLoadRect
      = v.readCov R (Rect.unit (s := ⟨3, n⟩) off' size' inb').toLoadRect := by
  rw [View.readCov_eq_canon', View.readCov_eq_canon']
  funext j
  refine canon_past off size inb w R _ (1 : Fin 3) ?_
  have e1 := Rect.idx_unit_val (s := ⟨3, n⟩) off' size' inb' j (1 : Fin 3)
  have e2 : (j (1 : Fin 3)).val < size' 1 := (j (1 : Fin 3)).isLt
  have e3 : ((((Rect.unit (s := ⟨3, n⟩) off' size' inb').toLoadRect.idx j) (1 : Fin 3)).val) = off' 1 + (j (1 : Fin 3)).val := e1
  omega

/-- A load of a buffer stored whole reads the stored contents through the load's rectangle. -/
theorem load_whole {sig : RefSig} {κ : Kind} {sp : Space} (v : View sig κ sp S e) (off : Fin S.rank → Nat)
    (inb : ∀ a, off a + S.size a ≤ S.size a) (w : S.Idx → Elt Ideal e) (r : Rect S) :
    v.readCov [(⟨Rect.unit off (no_index S.size) inb, w⟩ : View.Piece (Elt Ideal) S e)] r.toLoadRect = View.ld w r := by
  rw [View.readCov_eq_canon']
  funext j
  refine canon_here off S.size inb w [] _ (r.idx j) fun a => ?_
  have := inb a
  show ((r.idx j) a).val = _
  omega
end canon

section steps
variable (Q : Vec Ideal S1x1024x256 .bf16) (D O : Vec Ideal S1024x128 .bf16) (L : Vec Ideal S1x1024x1 .f32)
    (K : Vec Ideal S1x4096x256 .bf16) (V : Vec Ideal S4096x128 .bf16)

/-- What one tile adds to the key gradient at key row `j`, lane `l`. -/
def addK (y : S1x4096x256.Idx) : EReal := ∑ i : Fin 1024, tS Q D O L K V i (y 1) * Q (ix3 0 i (y 2))

/-- What one tile adds to the value gradient at key row `j`, lane `l`. -/
def addV (y : S1x4096x128.Idx) : EReal := ∑ i : Fin 1024, tP Q L K i (y 1) * D (ix2 i (y 2))

/-- A tile after the first: the four chunk stores leave the old key gradient plus the tile's addition. -/
theorem dk_next (old : Vec Ideal S1x4096x256 .f32) (y : S1x4096x256.Idx) :
    View.canon [
      ⟨Rect.unit ![0, 3072, 0] ![1, 1024, 256] inb_S1x4096x256_S1x1024x256_0_3072_0,
        k0_pay37 (F := Ideal) (k0_pay10 Q) (k0_pay11 D) (k0_pay12 L) (k0_pay13 D O)
          (View.ld K (Rect.unit ![0, 3072, 0] ![1, 1024, 256] inb_S1x4096x256_S1x1024x256_0_3072_0))
          (View.ld V (Rect.unit ![3072, 0] ![1024, 128] inb_S4096x128_S1024x128_3072_0))
          (View.ld old (Rect.unit ![0, 3072, 0] ![1, 1024, 256] inb_S1x4096x256_S1x1024x256_0_3072_0))⟩,
      ⟨Rect.unit ![0, 2048, 0] ![1, 1024, 256] inb_S1x4096x256_S1x1024x256_0_2048_0,
        k0_pay31 (F := Ideal) (k0_pay10 Q) (k0_pay11 D) (k0_pay12 L) (k0_pay13 D O)
          (View.ld K (Rect.unit ![0, 2048, 0] ![1, 1024, 256] inb_S1x4096x256_S1x1024x256_0_2048_0))
          (View.ld V (Rect.unit ![2048, 0] ![1024, 128] inb_S4096x128_S1024x128_2048_0))
          (View.ld old (Rect.unit ![0, 2048, 0] ![1, 1024, 256] inb_S1x4096x256_S1x1024x256_0_2048_0))⟩,
      ⟨Rect.unit ![0, 1024, 0] ![1, 1024, 256] inb_S1x4096x256_S1x1024x256_0_1024_0,
        k0_pay25 (F := Ideal) (k0_pay24 (k0_pay10 Q) (k0_pay11 D) (k0_pay12 L) (k0_pay13 D O)
          (View.ld K (Rect.unit ![0, 1024, 0] ![1, 1024, 256] inb_S1x4096x256_S1x1024x256_0_1024_0))
          (View.ld V (Rect.unit ![1024, 0] ![1024, 128] inb_S4096x128_S1024x128_1024_0))
          (View.ld old (Rect.unit ![0, 1024, 0] ![1, 1024, 256] inb_S1x4096x256_S1x1024x256_0_1024_0)))⟩,
      ⟨Rect.unit ![0, 0, 0] ![1, 1024, 256] inb_S1x4096x256_S1x1024x256_0_0_0,
        k0_pay18 (F := Ideal) (k0_pay10 Q) (k0_pay16 Q D L O
          (View.ld K (Rect.unit ![0, 0, 0] ![1, 1024, 256] inb_S1x4096x256_S1x1024x256_0_0_0))
          (View.ld V (Rect.unit ![0, 0] ![1024, 128] inb_S4096x128_S1024x128_0_0)))
          (View.ld old (Rect.unit ![0, 0, 0] ![1, 1024, 256] inb_S1x4096x256_S1x1024x256_0_0_0))⟩] y
      = (old y : EReal) + addK Q D O L K V y := by
  canon_tiles x h
  case' piece0 => refine Eq.trans (congrArg _ (?_ : x = ix3 0 (x 1) (x 2))) ((dk_chunks Q D O L K V _ _ _).2.2.2.trans ?_)
  case' piece1 => refine Eq.trans (congrArg _ (?_ : x = ix3 0 (x 1) (x 2))) ((dk_chunks Q D O L K V _ _ _).2.2.1.trans ?_)
  case' piece2 => refine Eq.trans (congrArg _ (?_ : x = ix3 0 (x 1) (x 2))) ((dk_chunks Q D O L K V _ _ _).2.1.trans ?_)
  case' piece3 => refine Eq.trans (congrArg _ (?_ : x = ix3 0 (x 1) (x 2))) ((dk_chunks Q D O L K V _ _ _).1.trans ?_)
  all_goals first
    | (idx_ext; done)
    | (unfold addK
       congr 1
       · exact congrArg old (by idx_ext)
       · exact Finset.sum_congr rfl fun i _ => congrArg₂ _ (congrArg _ (Fin.ext (by rw [h1]; try exact (Nat.zero_add _)))) (congrArg Q (by idx_ext)))

/-- A tile after the first: the four chunk stores leave the old value gradient plus the tile's addition. -/
theorem dv_next (old : Vec Ideal S1x4096x128 .f32) (y : S1x4096x128.Idx) :
    View.canon [
      ⟨Rect.unit ![0, 3072, 0] ![1, 1024, 128] inb_S1x4096x128_S1x1024x128_0_3072_0,
        k0_pay1 (F := Ideal) (k0_pay11 D)
          (k0_pay38 (View.ld old (Rect.unit ![0, 3072, 0] ![1, 1024, 128] inb_S1x4096x128_S1x1024x128_0_3072_0)))
          (k0_pay39 (k0_pay10 Q) (k0_pay12 L)
            (View.ld K (Rect.unit ![0, 3072, 0] ![1, 1024, 256] inb_S1x4096x256_S1x1024x256_0_3072_0)))⟩,
      ⟨Rect.unit ![0, 2048, 0] ![1, 1024, 128] inb_S1x4096x128_S1x1024x128_0_2048_0,
        k0_pay32 (F := Ideal) (k0_pay11 D) (k0_pay28 (k0_pay10 Q) (k0_pay12 L)
            (View.ld K (Rect.unit ![0, 2048, 0] ![1, 1024, 256] inb_S1x4096x256_S1x1024x256_0_2048_0)))
          (View.ld old (Rect.unit ![0, 2048, 0] ![1, 1024, 128] inb_S1x4096x128_S1x1024x128_0_2048_0))⟩,
      ⟨Rect.unit ![0, 1024, 0] ![1, 1024, 128] inb_S1x4096x128_S1x1024x128_0_1024_0,
        k0_pay26 (F := Ideal) (k0_pay11 D) (k0_pay21 (k0_pay10 Q) (k0_pay12 L)
            (View.ld K (Rect.unit ![0, 1024, 0] ![1, 1024, 256] inb_S1x4096x256_S1x1024x256_0_1024_0)))
          (View.ld old (Rect.unit ![0, 1024, 0] ![1, 1024, 128] inb_S1x4096x128_S1x1024x128_0_1024_0))⟩,
      ⟨Rect.unit ![0, 0, 0] ![1, 1024, 128] inb_S1x4096x128_S1x1024x128_0_0_0,
        k0_pay19 (F := Ideal) (k0_pay11 D) (k0_pay15 Q L
            (View.ld K (Rect.unit ![0, 0, 0] ![1, 1024, 256] inb_S1x4096x256_S1x1024x256_0_0_0)))
          (View.ld old (Rect.unit ![0, 0, 0] ![1, 1024, 128] inb_S1x4096x128_S1x1024x128_0_0_0))⟩] y
      = (old y : EReal) + addV Q D L K y := by
  canon_tiles x h
  case' piece0 => refine Eq.trans (congrArg _ (?_ : x = ix3 0 (x 1) (x 2))) ((dv_chunks Q D L K _ _ _).2.2.2.trans ?_)
  case' piece1 => refine Eq.trans (congrArg _ (?_ : x = ix3 0 (x 1) (x 2))) ((dv_chunks Q D L K _ _ _).2.2.1.trans ?_)
  case' piece2 => refine Eq.trans (congrArg _ (?_ : x = ix3 0 (x 1) (x 2))) ((dv_chunks Q D L K _ _ _).2.1.trans ?_)
  case' piece3 => refine Eq.trans (congrArg _ (?_ : x = ix3 0 (x 1) (x 2))) ((dv_chunks Q D L K _ _ _).1.trans ?_)
  all_goals first
    | (idx_ext; done)
    | (unfold addV
       congr 1
       · exact congrArg old (by idx_ext)
       · exact Finset.sum_congr rfl fun i _ => congrArg₂ _ (congrArg _ (Fin.ext (by rw [h1]; try exact (Nat.zero_add _)))) (congrArg D (by idx_ext)))
end steps

end Cert.Proof.Mla
end
-- ==== Proof.MlaRun.lean ====
module

public import proofs.«01_k».proof.Defs
public import proofs.«01_k».proof.Proof.Gen.MlaIdeal.Value
public import Idealize.ShloMosaic.Lib.Pipeline.ValueKit
public import Idealize.ShloMosaic.Lib.Pipeline.ReadBack
public import proofs.«01_k».proof.Proof.MlaStep

@[expose] public section

set_option maxRecDepth 16384

noncomputable section

namespace Cert.Proof.Mla

open Idealize.ShloMosaic Idealize.ShloMosaic.TcCoe Idealize.SL.Sem
open Cert.MlaIdeal Cert.MlaIdeal.Gen

section run
variable (m : (ℓ : Loc nD τ sig) → Buf (Elt Ideal) ℓ)

/-- What the tile at grid point `t` adds to its head's key gradient. -/
def stepK (c : Dev nD) (t : Fin cfg0.N) (y : S1x4096x256.Idx) : EReal :=
  addK (iblk m c 0 t) (iblk m c 3 t) (iblk m c 4 t) (iblk m c 5 t) (iblk m c 1 t) (iblk m c 2 t) y

/-- What the tile at grid point `t` adds to its head's value gradient. -/
def stepV (c : Dev nD) (t : Fin cfg0.N) (y : S1x4096x128.Idx) : EReal :=
  addV (iblk m c 0 t) (iblk m c 3 t) (iblk m c 5 t) (iblk m c 1 t) y

/-- The first tile of a head adds to zero: the key gradient. -/
theorem dk_first (c : Dev nD) (t : Fin cfg0.N) (h0 : t.val % 4 = 0) (y : S1x4096x256.Idx) :
    (outsAt0 m c t.val t.isLt).2.2.2.2.1 y = (k0_pay8 (F := Ideal) y : EReal) + stepK m c t y := by
  rw [outsAt0_A m c t h0 (by omega)]
  frame_out
  refine (canon_under [_] y [_, _, _, _] (View.cover_of_tiled_head _ _ _ (by rfl) y)).trans ?_
  simp (disch := decide) only [load_past]
  rw [load_whole, load_whole, load_whole, load_whole]
  generalize k0_pay8 (F := Ideal) = z
  exact dk_next _ _ _ _ _ _ z y

/-- The first tile of a head adds to zero: the value gradient. -/
theorem dv_first (c : Dev nD) (t : Fin cfg0.N) (h0 : t.val % 4 = 0) (y : S1x4096x128.Idx) :
    (outsAt0 m c t.val t.isLt).2.2.2.2.2 y = (k0_pay9 (F := Ideal) y : EReal) + stepV m c t y := by
  rw [outsAt0_A m c t h0 (by omega)]
  frame_out
  refine (canon_under [_] y [_, _, _, _] (View.cover_of_tiled_head _ _ _ (by rfl) y)).trans ?_
  simp (disch := decide) only [load_past]
  rw [load_whole, load_whole, load_whole, load_whole]
  generalize k0_pay9 (F := Ideal) = z
  exact dv_next _ _ _ _ z y

/-- A later tile of a head adds to what the tile before left: the key gradient. -/
theorem dk_later (c : Dev nD) (t : Fin cfg0.N) (h0 : ¬t.val % 4 = 0) (y : S1x4096x256.Idx) :
    (outsAt0 m c t.val t.isLt).2.2.2.2.1 y
      = ((outsAt0 m c (t.val - 1) (lt_of_le_of_lt (Nat.sub_le _ _) t.isLt)).2.2.2.2.1 y : EReal) + stepK m c t y := by
  by_cases h1 : t.val % 4 = 3
  · rw [outsAt0_C m c t h0 h1]
    frame_out
    simp only [read_unread_whole]
    exact dk_next _ _ _ _ _ _ _ y
  · rw [outsAt0_B m c t h0 h1]
    frame_out
    simp only [read_unread_whole]
    exact dk_next _ _ _ _ _ _ _ y

/-- A later tile of a head adds to what the tile before left: the value gradient. -/
theorem dv_later (c : Dev nD) (t : Fin cfg0.N) (h0 : ¬t.val % 4 = 0) (y : S1x4096x128.Idx) :
    (outsAt0 m c t.val t.isLt).2.2.2.2.2 y
      = ((outsAt0 m c (t.val - 1) (lt_of_le_of_lt (Nat.sub_le _ _) t.isLt)).2.2.2.2.2 y : EReal) + stepV m c t y := by
  by_cases h1 : t.val % 4 = 3
  · rw [outsAt0_C m c t h0 h1]
    frame_out
    simp only [read_unread_whole]
    exact dv_next _ _ _ _ _ y
  · rw [outsAt0_B m c t h0 h1]
    frame_out
    simp only [read_unread_whole]
    exact dv_next _ _ _ _ _ y

/-- After a head's last tile the key gradient is the sum of its four tiles' additions. -/
theorem dk_total (c : Dev nD) (t : Fin cfg0.N) (hr : t.val % 4 = 3) (y : S1x4096x256.Idx) :
    (outsAt0 m c t.val t.isLt).2.2.2.2.1 y
      = (k0_pay8 (F := Ideal) y : EReal) + ∑ s : Fin 4, stepK m c ⟨4 * (t.val / 4) + s.val, Pipeline.run_point_lt_of_flush t hr s⟩ y :=
  Pipeline.eq_sum_fin_of_reset_step_apply_of_flush (fun n h => (outsAt0 m c n h).2.2.2.2.1) 4 (k0_pay8 (F := Ideal)) (stepK m c)
    (fun t h y => dk_first m c t h y) (fun t h y => dk_later m c t h y) t hr y

/-- After a head's last tile the value gradient is the sum of its four tiles' additions. -/
theorem dv_total (c : Dev nD) (t : Fin cfg0.N) (hr : t.val % 4 = 3) (y : S1x4096x128.Idx) :
    (outsAt0 m c t.val t.isLt).2.2.2.2.2 y
      = (k0_pay9 (F := Ideal) y : EReal) + ∑ s : Fin 4, stepV m c ⟨4 * (t.val / 4) + s.val, Pipeline.run_point_lt_of_flush t hr s⟩ y :=
  Pipeline.eq_sum_fin_of_reset_step_apply_of_flush (fun n h => (outsAt0 m c n h).2.2.2.2.2) 4 (k0_pay9 (F := Ideal)) (stepV m c)
    (fun t h y => dv_first m c t h y) (fun t h y => dv_later m c t h y) t hr y

/-- A load of a whole rank-three buffer reads it as stored. -/
theorem load_all {n : Fin 3 → Nat} {e : EltTy} {sig : RefSig} {κ : Kind} {sp : Space} (v : View sig κ sp ⟨3, n⟩ e)
    (inb : ∀ a, (![0, 0, 0] : Fin 3 → Nat) a + n a ≤ n a) (R : List (View.Piece (Elt Ideal) ⟨3, n⟩ e)) :
    v.readCov R (Rect.unit (s := ⟨3, n⟩) ![0, 0, 0] (no_index n) inb).toLoadRect = View.canon R := by
  rw [View.readCov_eq_canon']
  refine funext fun x => congrArg _ (funext fun a => Fin.ext ?_)
  refine (Rect.idx_unit_val (s := ⟨3, n⟩) ![0, 0, 0] n inb x a).trans ?_
  rw [show (![0, 0, 0] : Fin 3 → Nat) a = 0 by fin_cases a <;> rfl, Nat.zero_add]

/-- The last tile of a head writes the key and value gradients of what the head has accumulated. -/
theorem out10_last (c : Dev nD) (t : Fin cfg0.N) (h1 : t.val % 4 = 3) :
    (outsAt0 m c t.val t.isLt).2.2.1 = k0_pay6 (outsAt0 m c t.val t.isLt).2.2.2.2.1 (outsAt0 m c t.val t.isLt).2.2.2.2.2 := by
  have h0 : ¬t.val % 4 = 0 := by omega
  rw [outsAt0_C m c t h0 h1]
  frame_out
  rw [load_all, load_all]

/-- The last tile of a head writes the rotary part of the key gradient the head has accumulated. -/
theorem out11_last (c : Dev nD) (t : Fin cfg0.N) (h1 : t.val % 4 = 3) :
    (outsAt0 m c t.val t.isLt).2.2.2.1 = k0_pay7 (outsAt0 m c t.val t.isLt).2.2.2.2.1 := by
  have h0 : ¬t.val % 4 = 0 := by omega
  rw [outsAt0_C m c t h0 h1]
  frame_out
  rw [load_all]

/-- Every tile's sum over the key rows, at query row `r` and lane `l`. -/
def rowQ (c : Dev nD) (t : Fin cfg0.N) (r : Fin 1024) (l : Fin 256) : EReal :=
  ∑ j : Fin 4096, tS (iblk m c 0 t) (iblk m c 3 t) (iblk m c 4 t) (iblk m c 5 t) (iblk m c 1 t) (iblk m c 2 t) r j * iblk m c 1 t (ix3 0 j l)

/-- Every tile writes its query gradient from one array whose entries are the sums over the key rows. -/
theorem outQ (c : Dev nD) (t : Fin cfg0.N) : ∃ X : FVec Ideal S1024x256 .f32, (∀ r l, X (ix2 r l) = rowQ m c t r l)
    ∧ (outsAt0 m c t.val t.isLt).1 = k0_pay3 X ∧ (outsAt0 m c t.val t.isLt).2.1 = k0_pay4 X (iblk m c 6 t) (iblk m c 7 t) := by
  refine ⟨_, fun r l => dq_all (iblk m c 0 t) (iblk m c 3 t) (iblk m c 4 t) (iblk m c 5 t) (iblk m c 1 t) (iblk m c 2 t) r l, ?_⟩
  by_cases h0 : t.val % 4 = 0
  · have h1 : ¬t.val % 4 = 3 := by omega
    rw [outsAt0_A m c t h0 h1]
    constructor
    · frame_out
    · frame_out
  · by_cases h1 : t.val % 4 = 3
    · rw [outsAt0_C m c t h0 h1]
      constructor
      · frame_out
      · frame_out
    · rw [outsAt0_B m c t h0 h1]
      constructor
      · frame_out
      · frame_out
end run
end Cert.Proof.Mla
end
-- ==== Proof.MlaOut.lean ====
module

public import proofs.«01_k».proof.Defs
public import proofs.«01_k».proof.Proof.Gen.MlaIdeal.Value
public import Idealize.ShloMosaic.Lib.Pipeline.ValueKit
public import proofs.«01_k».proof.Proof.MlaRun

@[expose] public section

set_option maxRecDepth 16384

noncomputable section

namespace Cert.Proof.Mla

open Idealize.ShloMosaic Idealize.ShloMosaic.TcCoe Idealize.SL.Sem
open Cert.MlaIdeal Cert.MlaIdeal.Gen

/-- The probability of query row `i` and key row `j` of head `h`, from the whole arrays of queries, row log-sums and keys. -/
def gP (Q : Vec Ideal S8x4096x256 .bf16) (L : Vec Ideal S8x4096x1 .f32) (K : Vec Ideal S8x4096x256 .bf16) (h : Fin 8) (i j : Fin 4096) : EReal :=
  FloatOps.exp2 (F := Ideal) (φ := .f32) (∑ d : Fin 256, Q (ix3 h i d) * K (ix3 h j d) - L (ix3 h i 0))

/-- The gradient of the score of query row `i` and key row `j` of head `h`, from the whole arrays. -/
def gS (Q : Vec Ideal S8x4096x256 .bf16) (D O : Vec Ideal S4096x1024 .bf16) (L : Vec Ideal S8x4096x1 .f32) (K : Vec Ideal S8x4096x256 .bf16)
    (W : Vec Ideal S4096x2048 .bf16) (h : Fin 8) (i j : Fin 4096) : EReal :=
  gP Q L K h i j * (∑ e : Fin 128, D (ix2 i ⟨h.val * 128 + e.val, by omega⟩) * W (ix2 j ⟨h.val * 256 + 128 + e.val, by omega⟩)
    - ∑ e : Fin 128, D (ix2 i ⟨h.val * 128 + e.val, by omega⟩) * O (ix2 i ⟨h.val * 128 + e.val, by omega⟩))

/-- The block of window 0 at every grid point. -/
theorem idx0 : ∀ t : Fin cfg0.N, win0_0.index t = ![t.val / 4, t.val % 4, 0] :=
  (by decide +kernel : ∀ t : Fin grid0.N, _)

/-- The block of window 1 at every grid point. -/
theorem idx1 : ∀ t : Fin cfg0.N, win0_1.index t = ![t.val / 4, 0, 0] :=
  (by decide +kernel : ∀ t : Fin grid0.N, _)

/-- The block of window 2 at every grid point. -/
theorem idx2 : ∀ t : Fin cfg0.N, win0_2.index t = ![0, 2 * (t.val / 4) + 1] :=
  (by decide +kernel : ∀ t : Fin grid0.N, _)

/-- The block of window 3 at every grid point. -/
theorem idx3 : ∀ t : Fin cfg0.N, win0_3.index t = ![t.val % 4, t.val / 4] :=
  (by decide +kernel : ∀ t : Fin grid0.N, _)

/-- The block of window 4 at every grid point. -/
theorem idx4 : ∀ t : Fin cfg0.N, win0_4.index t = ![t.val % 4, t.val / 4] :=
  (by decide +kernel : ∀ t : Fin grid0.N, _)

/-- The block of window 5 at every grid point. -/
theorem idx5 : ∀ t : Fin cfg0.N, win0_5.index t = ![t.val / 4, t.val % 4, 0] :=
  (by decide +kernel : ∀ t : Fin grid0.N, _)

/-- The block of window 6 at every grid point. -/
theorem idx6 : ∀ t : Fin cfg0.N, win0_6.index t = ![t.val % 4, 0] :=
  (by decide +kernel : ∀ t : Fin grid0.N, _)

/-- The block of window 7 at every grid point. -/
theorem idx7 : ∀ t : Fin cfg0.N, win0_7.index t = ![t.val % 4, 0] :=
  (by decide +kernel : ∀ t : Fin grid0.N, _)

/-- The block of window 8 at every grid point. -/
theorem idx8 : ∀ t : Fin cfg0.N, win0_8.index t = ![t.val % 4, t.val / 4] :=
  (by decide +kernel : ∀ t : Fin grid0.N, _)

/-- The block of window 9 at every grid point. -/
theorem idx9 : ∀ t : Fin cfg0.N, win0_9.index t = ![t.val % 4, t.val / 4] :=
  (by decide +kernel : ∀ t : Fin grid0.N, _)

/-- The block of window 10 at every grid point. -/
theorem idx10 : ∀ t : Fin cfg0.N, win0_10.index t = ![0, t.val / 4] :=
  (by decide +kernel : ∀ t : Fin grid0.N, _)

/-- The block of window 11 at every grid point. -/
theorem idx11 : ∀ t : Fin cfg0.N, win0_11.index t = ![t.val / 4, 0, 0] :=
  (by decide +kernel : ∀ t : Fin grid0.N, _)

section out
variable (m : (ℓ : Loc nD τ sig) → Buf (Elt Ideal) ℓ)

/-- A tile's query block is rows of its head. -/
theorem q_blk (c : Dev nD) (t : Fin cfg0.N) (h : Fin 8) (i : Fin 4096) (r : Fin 1024) (d : Fin 256) (hh : h.val = t.val / 4)
    (hi : i.val = t.val % 4 * 1024 + r.val) : iblk m c 0 t (ix3 0 r d) = V m c main_v78 (ix3 h i d) := by
  blk_simp [iblk]
  refine congrArg _ ?_
  blk_ext [idx0 t, hh, hi]

/-- A tile's row log-sums are rows of its head. -/
theorem l_blk (c : Dev nD) (t : Fin cfg0.N) (h : Fin 8) (i : Fin 4096) (r : Fin 1024) (hh : h.val = t.val / 4)
    (hi : i.val = t.val % 4 * 1024 + r.val) : iblk m c 5 t (ix3 0 r 0) = V m c main_v77 (ix3 h i 0) := by
  unfold iblk
  generalize V m c (Pipeline.arrRef spec0 5) = z
  rw [View.read_apply, cast_eq]
  refine congrArg z ?_
  funext a
  apply Fin.ext
  fin_cases a
  · show (((cfg0.win 5).blk t).view.emb (ix3 (0 : Fin 1) r (0 : Fin 1)) 0).val = h.val
    blk_simp [idx5 t]
    omega
  · show (((cfg0.win 5).blk t).view.emb (ix3 (0 : Fin 1) r (0 : Fin 1)) 1).val = i.val
    blk_simp [idx5 t]
    omega
  · show (((cfg0.win 5).blk t).view.emb (ix3 (0 : Fin 1) r (0 : Fin 1)) 2).val = 0
    blk_simp [idx5 t]
    rfl

/-- A tile's keys are its head's. -/
theorem k_blk (c : Dev nD) (t : Fin cfg0.N) (h : Fin 8) (j : Fin 4096) (d : Fin 256) (hh : h.val = t.val / 4) :
    iblk m c 1 t (ix3 0 j d) = V m c main_v79 (ix3 h j d) := by
  blk_simp [iblk]
  refine congrArg _ ?_
  blk_ext [idx1 t, hh]

/-- A tile's values are its head's columns. -/
theorem v_blk (c : Dev nD) (t : Fin cfg0.N) (h : Fin 8) (j : Fin 4096) (e : Fin 128) (hh : h.val = t.val / 4) :
    iblk m c 2 t (ix2 j e) = V m c main_v80 (ix2 j ⟨h.val * 256 + 128 + e.val, by omega⟩) := by
  blk_simp [iblk]
  refine congrArg _ ?_
  blk_ext [idx2 t, hh]

/-- A tile's block of the cotangent and of the forward output. -/
theorem do_blk (c : Dev nD) (t : Fin cfg0.N) (h : Fin 8) (i : Fin 4096) (r : Fin 1024) (e : Fin 128) (hh : h.val = t.val / 4)
    (hi : i.val = t.val % 4 * 1024 + r.val) : iblk m c 3 t (ix2 r e) = V m c main_v81 (ix2 i ⟨h.val * 128 + e.val, by omega⟩)
      ∧ iblk m c 4 t (ix2 r e) = V m c main_v82 (ix2 i ⟨h.val * 128 + e.val, by omega⟩) := by
  blk_simp [iblk]
  constructor <;> refine congrArg _ ?_ <;> blk_ext [idx3 t, idx4 t, hh, hi]

/-- A tile's table rows. -/
theorem cs_blk (c : Dev nD) (t : Fin cfg0.N) (i : Fin 4096) (r : Fin 1024) (l : Fin 128)
    (hi : i.val = t.val % 4 * 1024 + r.val) : iblk m c 6 t (ix2 r l) = V m c main_v15 (ix2 i l)
      ∧ iblk m c 7 t (ix2 r l) = V m c main_v18 (ix2 i l) := by
  blk_simp [iblk]
  constructor <;> refine congrArg _ ?_ <;> blk_ext [idx6 t, idx7 t, hi]

/-- A tile's probability is the head's. -/
theorem tP_blk (c : Dev nD) (t : Fin cfg0.N) (h : Fin 8) (i j : Fin 4096) (r : Fin 1024) (hh : h.val = t.val / 4)
    (hi : i.val = t.val % 4 * 1024 + r.val) : tP (iblk m c 0 t) (iblk m c 5 t) (iblk m c 1 t) r j
      = gP (V m c main_v78) (V m c main_v77) (V m c main_v79) h i j := by
  simp only [tP, gP, q_blk m c t h i _ _ hh hi, l_blk m c t h i _ hh hi, k_blk m c t h _ _ hh]

/-- A tile's score gradient is the head's. -/
theorem tS_blk (c : Dev nD) (t : Fin cfg0.N) (h : Fin 8) (i j : Fin 4096) (r : Fin 1024) (hh : h.val = t.val / 4)
    (hi : i.val = t.val % 4 * 1024 + r.val) : tS (iblk m c 0 t) (iblk m c 3 t) (iblk m c 4 t) (iblk m c 5 t) (iblk m c 1 t) (iblk m c 2 t) r j
      = gS (V m c main_v78) (V m c main_v81) (V m c main_v82) (V m c main_v77) (V m c main_v79) (V m c main_v80) h i j := by
  simp only [tS, gS, tP_blk m c t h i _ _ hh hi, v_blk m c t h _ _ hh, fun e => (do_blk m c t h i _ e hh hi).1, fun e => (do_blk m c t h i _ e hh hi).2]

/-- The scaled score gradients' sum over the key rows: entry `l` of the query gradient of row `i`, before its scale. -/
def sumQ (c : Dev nD) (h : Fin 8) (i : Fin 4096) (l : Fin 256) : EReal :=
  ∑ j : Fin 4096, gS (V m c main_v78) (V m c main_v81) (V m c main_v82) (V m c main_v77) (V m c main_v79) (V m c main_v80) h i j
    * (V m c main_v79 : Vec Ideal S8x4096x256 .bf16) (ix3 h j l)

/-- The score gradients' sum over the query rows: entry `l` of the key gradient of row `j`, before its scale. -/
def sumK (c : Dev nD) (h : Fin 8) (j : Fin 4096) (l : Fin 256) : EReal :=
  ∑ i : Fin 4096, gS (V m c main_v78) (V m c main_v81) (V m c main_v82) (V m c main_v77) (V m c main_v79) (V m c main_v80) h i j
    * (V m c main_v78 : Vec Ideal S8x4096x256 .bf16) (ix3 h i l)

/-- The probabilities' sum over the query rows: entry `l` of the value gradient of row `j`. -/
def sumV (c : Dev nD) (h : Fin 8) (j : Fin 4096) (l : Fin 128) : EReal :=
  ∑ i : Fin 4096, gP (V m c main_v78) (V m c main_v77) (V m c main_v79) h i j
    * (V m c main_v81 : Vec Ideal S4096x1024 .bf16) (ix2 i ⟨h.val * 128 + l.val, by omega⟩)

/-- A tile's rows of the query gradient. -/
theorem rowQ_blk (c : Dev nD) (t : Fin cfg0.N) (h : Fin 8) (i : Fin 4096) (r : Fin 1024) (l : Fin 256) (hh : h.val = t.val / 4)
    (hi : i.val = t.val % 4 * 1024 + r.val) : rowQ m c t r l = sumQ m c h i l := by
  simp only [rowQ, sumQ, tS_blk m c t h i _ _ hh hi, k_blk m c t h _ _ hh]

/-- A sum over four tiles of 1024 rows is the sum over the rows. -/
theorem four_tiles (f : Fin 4096 → EReal) : ∑ s : Fin 4, ∑ r : Fin 1024, f ⟨s.val * 1024 + r.val, by omega⟩ = ∑ i : Fin 4096, f i := by
  rw [← Fintype.sum_prod_type']
  exact Fintype.sum_equiv (finProdFinEquiv (m := 4) (n := 1024)) _ _ fun x => congrArg f (Fin.ext (by
    simp only [finProdFinEquiv_apply_val]; omega))

/-- After a head's last tile the accumulated key gradient is the head's sum. -/
theorem dk_head (c : Dev nD) (t : Fin cfg0.N) (hr : t.val % 4 = 3) (h : Fin 8) (hh : h.val = t.val / 4) (j : Fin 4096) (l : Fin 256) :
    (outsAt0 m c t.val t.isLt).2.2.2.2.1 (ix3 0 j l) = sumK m c h j l := by
  rw [dk_total m c t hr, sumK, ← four_tiles]
  rw [show (k0_pay8 (F := Ideal) (ix3 0 j l) : EReal) = 0 from by pointwise [k0_pay8], zero_add]
  refine Finset.sum_congr rfl fun s _ => ?_
  have hs : 4 * (t.val / 4) + s.val < cfg0.N := Pipeline.run_point_lt_of_flush t hr s
  have e0 : h.val = (⟨4 * (t.val / 4) + s.val, hs⟩ : Fin cfg0.N).val / 4 := by show h.val = (4 * (t.val / 4) + s.val) / 4; omega
  have e1 : ∀ r : Fin 1024, (⟨s.val * 1024 + r.val, by omega⟩ : Fin 4096).val = (⟨4 * (t.val / 4) + s.val, hs⟩ : Fin cfg0.N).val % 4 * 1024 + r.val := fun r => by
    show s.val * 1024 + r.val = (4 * (t.val / 4) + s.val) % 4 * 1024 + r.val; omega
  simp only [stepK, addK]
  refine Finset.sum_congr (by rfl) fun r _ => ?_
  exact congrArg₂ (· * ·) (tS_blk m c ⟨4 * (t.val / 4) + s.val, hs⟩ h ⟨s.val * 1024 + r.val, by omega⟩ j r e0 (e1 r))
    (q_blk m c ⟨4 * (t.val / 4) + s.val, hs⟩ h ⟨s.val * 1024 + r.val, by omega⟩ r l e0 (e1 r))

/-- After a head's last tile the accumulated value gradient is the head's sum. -/
theorem dv_head (c : Dev nD) (t : Fin cfg0.N) (hr : t.val % 4 = 3) (h : Fin 8) (hh : h.val = t.val / 4) (j : Fin 4096) (l : Fin 128) :
    (outsAt0 m c t.val t.isLt).2.2.2.2.2 (ix3 0 j l) = sumV m c h j l := by
  rw [dv_total m c t hr, sumV, ← four_tiles]
  rw [show (k0_pay9 (F := Ideal) (ix3 0 j l) : EReal) = 0 from by pointwise [k0_pay9], zero_add]
  refine Finset.sum_congr rfl fun s _ => ?_
  have hs : 4 * (t.val / 4) + s.val < cfg0.N := Pipeline.run_point_lt_of_flush t hr s
  have e0 : h.val = (⟨4 * (t.val / 4) + s.val, hs⟩ : Fin cfg0.N).val / 4 := by show h.val = (4 * (t.val / 4) + s.val) / 4; omega
  have e1 : ∀ r : Fin 1024, (⟨s.val * 1024 + r.val, by omega⟩ : Fin 4096).val = (⟨4 * (t.val / 4) + s.val, hs⟩ : Fin cfg0.N).val % 4 * 1024 + r.val := fun r => by
    show s.val * 1024 + r.val = (4 * (t.val / 4) + s.val) % 4 * 1024 + r.val; omega
  simp only [stepV, addV]
  refine Finset.sum_congr (by rfl) fun r _ => ?_
  exact congrArg₂ (· * ·) (tP_blk m c ⟨4 * (t.val / 4) + s.val, hs⟩ h ⟨s.val * 1024 + r.val, by omega⟩ j r e0 (e1 r))
    (do_blk m c ⟨4 * (t.val / 4) + s.val, hs⟩ h ⟨s.val * 1024 + r.val, by omega⟩ r l e0 (e1 r)).1
end out
end Cert.Proof.Mla
end
-- ==== Proof.MlaArr.lean ====
module

public import proofs.«01_k».proof.Defs
public import proofs.«01_k».proof.Proof.Gen.MlaIdeal.Value
public import Idealize.ShloMosaic.Lib.Pipeline.ValueKit
public import proofs.«01_k».proof.Proof.MlaOut

@[expose] public section

set_option maxRecDepth 16384

noncomputable section

namespace Cert.Proof.Mla

open Idealize.ShloMosaic Idealize.ShloMosaic.TcCoe Idealize.SL.Sem
open Cert.MlaIdeal Cert.MlaIdeal.Gen

/-- The call's score scale, as it is read: the reciprocal of the root of 192. -/
def scl : EReal := (((Real.sqrt 192)⁻¹ : ℝ) : EReal)

/-- The call's natural logarithm of two, as it is read. -/
def ln2 : EReal := ((Real.log 2 : ℝ) : EReal)

/-- The named score scale. -/
theorem scl_named : (Named.named κ "mla_scale" 0x3D93CD3A#32 : Ideal .f32) = scl :=
  IdealRules.named_const.ideal_named_scalar _ _ _ _ rfl

/-- The named logarithm of two. -/
theorem ln2_named : (Named.named κ "ln2" 0x3F317218#32 : Ideal .f32) = ln2 :=
  IdealRules.named_const.ideal_named_scalar _ _ _ _ rfl

/-- The scaled query gradient, its first 128 lanes. -/
theorem nope_out (X : FVec Ideal S1024x256 .f32) (r : Fin 1024) (l : Fin 128) :
    k0_pay3 (F := Ideal) X (ix2 r l) = X (ix2 r ⟨l.val, by omega⟩) * scl := by
  rw [← scl_named]
  pointwise [k0_pay3, k0_pay2]

/-- The scaled query gradient's last 128 lanes, rotated back by the tables. -/
theorem rope_out (X : FVec Ideal S1024x256 .f32) (C D : Vec Ideal S1024x128 .f32) (r : Fin 1024) (l : Fin 128) :
    k0_pay4 (F := Ideal) X C D (ix2 r l) = X (ix2 r ⟨128 + l.val, by omega⟩) * scl * C (ix2 r l)
      + (if l.val < 32 then X (ix2 r ⟨128 + (l.val + 32) % 128, by omega⟩) * scl else X (ix2 r ⟨128 + (l.val + 96) % 128, by omega⟩) * scl) * D (ix2 r l) := by
  rw [← scl_named]
  pointwise [k0_pay4, k0_pay2]
  have e96 : (⟨128 + (l.val + 128 - 96) % 128, by omega⟩ : Fin 256) = ⟨128 + (l.val + 32) % 128, by omega⟩ := Fin.ext (by simp only [Fin.val_mk]; omega)
  have e32 : (⟨128 + (l.val + 128 - 32) % 128, by omega⟩ : Fin 256) = ⟨128 + (l.val + 96) % 128, by omega⟩ := Fin.ext (by simp only [Fin.val_mk]; omega)
  rw [e96, e32]
  have hw := WordCmp.cmpi_slt_ofNat_eq_one_iff (w := 32) (a := l.val) (b := 32) (by omega) (by omega)
  by_cases hl : l.val < 32
  · rw [if_pos hl, Scalar.select]
    exact congrArg (fun z => _ + z * D (ix2 r l)) (if_pos (hw.2 hl))
  · rw [if_neg hl, Scalar.select]
    exact congrArg (fun z => _ + z * D (ix2 r l)) (if_neg fun e => hl (hw.1 e))

/-- The scaled key gradient's first lanes joined with the value gradient. -/
theorem dkv_out (X : Vec Ideal S1x4096x256 .f32) (Y : Vec Ideal S1x4096x128 .f32) (j : Fin 4096) (l : Fin 128) :
    k0_pay6 (F := Ideal) X Y (ix2 j ⟨l.val, by omega⟩) = X (ix3 0 j ⟨l.val, by omega⟩) * ln2
      ∧ k0_pay6 (F := Ideal) X Y (ix2 j ⟨128 + l.val, by omega⟩) = Y (ix3 0 j l) := by
  rw [← ln2_named]
  constructor <;> pointwise [k0_pay6, k0_pay5]

/-- The scaled key gradient's rotary lanes. -/
theorem dkr_out (X : Vec Ideal S1x4096x256 .f32) (j : Fin 4096) (l : Fin 64) :
    k0_pay7 (F := Ideal) X (ix3 0 j l) = X (ix3 0 j ⟨128 + l.val, by omega⟩) * ln2 := by
  rw [← ln2_named]
  pointwise [k0_pay7, k0_pay5]

section arr
variable (m : (ℓ : Loc nD τ sig) → Buf (Elt Ideal) ℓ)

/-- A tile's row sum at a lane named by its value. -/
theorem rowQ_at (c : Dev nD) (t : Fin cfg0.N) (h : Fin 8) (i : Fin 4096) (r : Fin 1024) (l l' : Fin 256) (hh : h.val = t.val / 4)
    (hi : i.val = t.val % 4 * 1024 + r.val) (hl : l'.val = l.val) : rowQ m c t r l = sumQ m c h i l' := by
  rw [Fin.ext hl]; exact rowQ_blk m c t h i r l hh hi

/-- An array of every head's 128 lanes side by side. -/
def heads (f : Fin 8 → Fin 4096 → Fin 128 → EReal) (j : S4096x1024.Idx) : EReal :=
  f ⟨(j 1).val / 128, by have : (j 1).val < 1024 := (j 1).isLt; omega⟩ (j 0) ⟨(j 1).val % 128, by omega⟩

/-- Such an array at a head's lane. -/
theorem heads_at (f : Fin 8 → Fin 4096 → Fin 128 → EReal) (j : S4096x1024.Idx) (h : Fin 8) (i : Fin 4096) (l : Fin 128) (h0 : (j 0).val = i.val)
    (h1 : (j 1).val = h.val * 128 + l.val) : heads f j = f h i l := by
  have e0 : (⟨(j 1).val / 128, by have : (j 1).val < 1024 := (j 1).isLt; omega⟩ : Fin 8) = h := Fin.ext (by show (j 1).val / 128 = _; rw [h1]; omega)
  have e2 : (⟨(j 1).val % 128, by omega⟩ : Fin 128) = l := Fin.ext (by show (j 1).val % 128 = _; rw [h1]; omega)
  exact congr (congr (congrArg f e0) (Fin.ext h0 : (j 0 : Fin 4096) = i)) e2

/-- An array of every head's 256 lanes side by side. -/
def heads2 (f : Fin 8 → Fin 4096 → Fin 256 → EReal) (j : S4096x2048.Idx) : EReal :=
  f ⟨(j 1).val / 256, by have : (j 1).val < 2048 := (j 1).isLt; omega⟩ (j 0) ⟨(j 1).val % 256, by omega⟩

/-- Such an array at a head's lane. -/
theorem heads2_at (f : Fin 8 → Fin 4096 → Fin 256 → EReal) (j : S4096x2048.Idx) (h : Fin 8) (i : Fin 4096) (l : Fin 256) (h0 : (j 0).val = i.val)
    (h1 : (j 1).val = h.val * 256 + l.val) : heads2 f j = f h i l := by
  have e0 : (⟨(j 1).val / 256, by have : (j 1).val < 2048 := (j 1).isLt; omega⟩ : Fin 8) = h := Fin.ext (by show (j 1).val / 256 = _; rw [h1]; omega)
  have e2 : (⟨(j 1).val % 256, by omega⟩ : Fin 256) = l := Fin.ext (by show (j 1).val % 256 = _; rw [h1]; omega)
  exact congr (congr (congrArg f e0) (Fin.ext h0 : (j 0 : Fin 4096) = i)) e2

/-- The first result: the first lanes of every head's query gradient. -/
def G8 (c : Dev nD) (h : Fin 8) (i : Fin 4096) (l : Fin 128) : EReal := sumQ m c h i ⟨l.val, by omega⟩ * scl

/-- A rotary lane's source lane, in the second half of a head's lanes. -/
def turn (l : Fin 128) : Fin 256 := if l.val < 32 then ⟨128 + (l.val + 32) % 128, by omega⟩ else ⟨128 + (l.val + 96) % 128, by omega⟩

/-- The second result: the last lanes of every head's query gradient, rotated back. -/
def G9 (c : Dev nD) (h : Fin 8) (i : Fin 4096) (l : Fin 128) : EReal :=
  sumQ m c h i ⟨128 + l.val, by omega⟩ * scl * (V m c main_v15 : Vec Ideal S4096x128 .f32) (ix2 i l)
    + sumQ m c h i (turn l) * scl * (V m c main_v18 : Vec Ideal S4096x128 .f32) (ix2 i l)

/-- The call's first result. -/
theorem arr8 (c : Dev nD) : (dats m 0 c).arrAt 8 cfg0.N = heads (G8 m c) := by
  refine (dats m 0 c).arrAt_eq_of_covers 8 _ (by decide +kernel) fun t hf y => ?_
  blk_simp
  rw [after0_8]
  have h0 : (((View.whole main_v83_0).slice (win0_8.rect t)).emb y 0).val = t.val % 4 * 1024 + (y 0).val := by blk_simp [idx8 t]
  have h1 : (((View.whole main_v83_0).slice (win0_8.rect t)).emb y 1).val = t.val / 4 * 128 + (y 1).val := by blk_simp [idx8 t]
  obtain ⟨X, hX, h8, -⟩ := outQ m c t
  idx_bounds y
  have ht : t.val < 32 := t.isLt
  rw [h8]
  have hy : (y : S1024x128.Idx) = ix2 (y 0) (y 1) := by idx_ext
  refine (congrArg (k0_pay3 (F := Ideal) X) hy).trans ((nope_out X _ _).trans (Eq.trans ?_
    (heads_at (G8 m c) _ ⟨t.val / 4, by omega⟩ ⟨t.val % 4 * 1024 + (y 0).val, by omega⟩ (y 1) h0 h1).symm))
  exact congrArg (· * scl) ((hX _ _).trans (rowQ_at m c t _ _ _ _ _ rfl rfl rfl))

/-- The call's second result. -/
theorem arr9 (c : Dev nD) : (dats m 0 c).arrAt 9 cfg0.N = heads (G9 m c) := by
  refine (dats m 0 c).arrAt_eq_of_covers 9 _ (by decide +kernel) fun t hf y => ?_
  blk_simp
  rw [after0_9]
  have h0 : (((View.whole main_v83_1).slice (win0_9.rect t)).emb y 0).val = t.val % 4 * 1024 + (y 0).val := by blk_simp [idx9 t]
  have h1 : (((View.whole main_v83_1).slice (win0_9.rect t)).emb y 1).val = t.val / 4 * 128 + (y 1).val := by blk_simp [idx9 t]
  obtain ⟨X, hX, -, h9⟩ := outQ m c t
  idx_bounds y
  have ht : t.val < 32 := t.isLt
  rw [h9]
  have hy : (y : S1024x128.Idx) = ix2 (y 0) (y 1) := by idx_ext
  refine (congrArg (k0_pay4 (F := Ideal) X (iblk m c 6 t) (iblk m c 7 t)) hy).trans ((rope_out X _ _ _ _).trans (Eq.trans ?_
    (heads_at (G9 m c) _ ⟨t.val / 4, by omega⟩ ⟨t.val % 4 * 1024 + (y 0).val, by omega⟩ (y 1) h0 h1).symm))
  have hs : ∀ l : Fin 256, X (ix2 (y 0) l) = sumQ m c ⟨t.val / 4, by omega⟩ ⟨t.val % 4 * 1024 + (y 0).val, by omega⟩ l :=
    fun l => (hX _ _).trans (rowQ_at m c t _ _ _ _ _ rfl rfl rfl)
  have hc := cs_blk m c t ⟨t.val % 4 * 1024 + (y 0).val, by omega⟩ (y 0) (y 1) rfl
  rw [hs, hs, hs, hc.1, hc.2]
  unfold G9 turn
  by_cases hl : (y 1).val < 32
  · rw [if_pos hl, if_pos hl]
  · rw [if_neg hl, if_neg hl]

/-- The third result: a head's key lanes and then its value lanes. -/
def G10 (c : Dev nD) (h : Fin 8) (j : Fin 4096) (l : Fin 256) : EReal :=
  if hl : l.val < 128 then sumK m c h j l * ln2 else sumV m c h j ⟨l.val - 128, by omega⟩

/-- The call's third result. -/
theorem arr10 (c : Dev nD) : (dats m 0 c).arrAt 10 cfg0.N = heads2 (G10 m c) := by
  refine (dats m 0 c).arrAt_eq_of_covers 10 _ (by decide +kernel) fun t hf y => ?_
  have hr : t.val % 4 = 3 := (flush0_10 t).1 hf
  blk_simp
  rw [after0_10, out10_last m c t hr]
  have h0 : (((View.whole main_v83_2).slice (win0_10.rect t)).emb y 0).val = (y 0).val := by blk_simp [idx10 t]
  have h1 : (((View.whole main_v83_2).slice (win0_10.rect t)).emb y 1).val = t.val / 4 * 256 + (y 1).val := by blk_simp [idx10 t]
  idx_bounds y
  have ht : t.val < 32 := t.isLt
  refine Eq.trans ?_ (heads2_at (G10 m c) _ ⟨t.val / 4, by omega⟩ (y 0) (y 1) h0 h1).symm
  unfold G10
  by_cases hl : (y 1).val < 128
  · rw [dif_pos hl]
    have hy : (y : S4096x256.Idx) = ix2 (y 0) ⟨(⟨(y 1).val, hl⟩ : Fin 128).val, by show (y 1).val < 256; omega⟩ := by idx_ext
    refine (congrArg (k0_pay6 (F := Ideal) _ _) hy).trans ((dkv_out _ _ (y 0) ⟨(y 1).val, hl⟩).1.trans ?_)
    exact congrArg (· * ln2) (dk_head m c t hr ⟨t.val / 4, by omega⟩ rfl (y 0) (y 1))
  · rw [dif_neg hl]
    have hy : (y : S4096x256.Idx) = ix2 (y 0) ⟨128 + (⟨(y 1).val - 128, by omega⟩ : Fin 128).val, by show 128 + ((y 1).val - 128) < 256; omega⟩ := by
      funext a
      fin_cases a
      · rfl
      · exact Fin.ext (by show (y 1).val = 128 + ((y 1).val - 128); omega)
    refine (congrArg (k0_pay6 (F := Ideal) _ _) hy).trans ((dkv_out _ _ (y 0) ⟨(y 1).val - 128, by omega⟩).2.trans ?_)
    exact dv_head m c t hr ⟨t.val / 4, by omega⟩ rfl (y 0) ⟨(y 1).val - 128, by omega⟩

/-- The fourth result: the key gradient's rotary lanes. -/
def G11 (c : Dev nD) (j : S8x4096x64.Idx) : EReal :=
  sumK m c (j 0) (j 1) ⟨128 + (j 2).val, by have : (j 2).val < 64 := (j 2).isLt; omega⟩ * ln2

/-- The call's fourth result. -/
theorem arr11 (c : Dev nD) : (dats m 0 c).arrAt 11 cfg0.N = G11 m c := by
  refine (dats m 0 c).arrAt_eq_of_covers 11 _ (by decide +kernel) fun t hf y => ?_
  have hr : t.val % 4 = 3 := (flush0_11 t).1 hf
  blk_simp
  rw [after0_11, out11_last m c t hr]
  have h0 : (((View.whole main_v83_3).slice (win0_11.rect t)).emb y 0).val = t.val / 4 := by blk_simp [idx11 t]
  have h1 : (((View.whole main_v83_3).slice (win0_11.rect t)).emb y 1).val = (y 1).val := by blk_simp [idx11 t]
  have h2 : (((View.whole main_v83_3).slice (win0_11.rect t)).emb y 2).val = (y 2).val := by blk_simp [idx11 t]
  idx_bounds y
  have ht : t.val < 32 := t.isLt
  have hy : (y : S1x4096x64.Idx) = ix3 0 (y 1) (y 2) := by idx_ext
  refine (congrArg (k0_pay7 (F := Ideal) _) hy).trans ((dkr_out _ (y 1) (y 2)).trans ?_)
  refine congrArg (· * ln2) ((dk_head m c t hr ⟨t.val / 4, by omega⟩ rfl (y 1) _).trans ?_)
  exact congr (congr (congrArg (sumK m c) (Fin.ext h0.symm)) (Fin.ext h1.symm)) (Fin.ext (congrArg (128 + ·) h2.symm))
end arr
end Cert.Proof.Mla
end
-- ==== Proof.MlaHost.lean ====
module

public import proofs.«01_k».proof.Defs
public import proofs.«01_k».proof.Proof.Gen.MlaIdeal.Value
public import Idealize.ShloMosaic.Lib.Pipeline.ValueKit
public import proofs.«01_k».proof.Proof.MlaArr

@[expose] public section

set_option maxRecDepth 16384

noncomputable section

namespace Cert.Proof.Mla

open Idealize.ShloMosaic Idealize.ShloMosaic.TcCoe Idealize.SL.Sem
open Cert.MlaIdeal Cert.MlaIdeal.Gen

/-- The rotary angles: a position times a power of ten thousand. -/
def hAng (p : IVec S4096 32) : FVec Ideal S4096x32 .f32 :=
  mulf (broadcastInDim S4096x32 ![0, 1] bcast_S4096x1_S4096x32_0_1 (broadcastInDim S4096x1 ![0] bcast_S4096_S4096x1_0 (sitofp .f32 p)))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Their cosines. -/
def hCos (p : IVec S4096 32) : FVec Ideal S4096x32 .f32 := Host.cos (hAng p)

/-- Their sines. -/
def hSin (p : IVec S4096 32) : FVec Ideal S4096x32 .f32 := Host.sin (hAng p)

/-- The call's table of cosines, padded with ones. -/
def hCosP (p : IVec S4096 32) : FVec Ideal S4096x128 .f32 :=
  concatenate S4096x128 1 [⟨S4096x32, hCos p⟩, ⟨S4096x32, hCos p⟩, ⟨S4096x64, broadcastInDim S4096x64 ![] bcast_S_S4096x64 (constant S_ .f32 0x3F800000#32)⟩]
    concatenates_S4096x32_S4096x32_S4096x64_S4096x128_d1

/-- The call's table of sines for turning back, padded with zeros. -/
def hSinB (p : IVec S4096 32) : FVec Ideal S4096x128 .f32 :=
  concatenate S4096x128 1 [⟨S4096x32, hSin p⟩, ⟨S4096x32, Host.negf (hSin p)⟩, ⟨S4096x64, broadcastInDim S4096x64 ![] bcast_S_S4096x64 (constant S_ .f32 0x00000000#32)⟩]
    concatenates_S4096x32_S4096x32_S4096x64_S4096x128_d1

/-- The host's logarithm of two. -/
def hLn : FVec Ideal S_ .f32 := Host.log (constant S_ .f32 0x40000000#32)

/-- The queries over the root of 192 and the logarithm of two, by head. -/
def hQ3 (q : FVec Ideal S4096x1536 .f32) : FVec Ideal S4096x8x192 .f32 :=
  shapeCast S4096x8x192 (Host.divf q (broadcastInDim S4096x1536 ![] bcast_S_S4096x1536 (mulf (Host.sqrt (constant S_ .f32 0x43400000#32)) hLn)))
    shapeCasts_S4096x1536_S4096x8x192

/-- A table of 32 lanes at every head. -/
def hWide (x : FVec Ideal S4096x32 .f32) : FVec Ideal S4096x8x32 .f32 :=
  broadcastInDim S4096x8x32 ![0, 1, 2] bcast_S4096x1x32_S4096x8x32_0_1_2 (broadcastInDim S4096x1x32 ![0, 2] bcast_S4096x32_S4096x1x32_0_2 x)

/-- Sixty-four zero lanes at every head. -/
def hZero : FVec Ideal S4096x8x64 .f32 := broadcastInDim S4096x8x64 ![] bcast_S_S4096x8x64 (constant S_ .f32 0x00000000#32)

/-- The rotated and padded queries, head first. -/
def hQr (q : FVec Ideal S4096x1536 .f32) (p : IVec S4096 32) : FVec Ideal S8x4096x256 .f32 :=
  transpose S8x4096x256 [1, 0, 2] (concatenate S4096x8x256 2 [
    ⟨S4096x8x128, extractStridedSlice S4096x8x128 ![0, 0, 0] (hQ3 q) slices_S4096x8x192_S4096x8x128_0_0_0⟩,
    ⟨S4096x8x32, subf (mulf (extractStridedSlice S4096x8x32 ![0, 0, 128] (hQ3 q) slices_S4096x8x192_S4096x8x32_0_0_128) (hWide (hCos p)))
      (mulf (extractStridedSlice S4096x8x32 ![0, 0, 160] (hQ3 q) slices_S4096x8x192_S4096x8x32_0_0_160) (hWide (hSin p)))⟩,
    ⟨S4096x8x32, addf (mulf (extractStridedSlice S4096x8x32 ![0, 0, 160] (hQ3 q) slices_S4096x8x192_S4096x8x32_0_0_160) (hWide (hCos p)))
      (mulf (extractStridedSlice S4096x8x32 ![0, 0, 128] (hQ3 q) slices_S4096x8x192_S4096x8x32_0_0_128) (hWide (hSin p)))⟩,
    ⟨S4096x8x64, hZero⟩] concatenates_S4096x8x128_S4096x8x32_S4096x8x32_S4096x8x64_S4096x8x256_d2) transposes_S4096x8x256_S8x4096x256_1_0_2

/-- The keys and values by head. -/
def hKV (kv : FVec Ideal S4096x2048 .f32) : FVec Ideal S4096x8x256 .f32 := shapeCast S4096x8x256 kv shapeCasts_S4096x2048_S4096x8x256

/-- The rotated shared key lanes. -/
def hRope (kr : FVec Ideal S4096x64 .f32) (p : IVec S4096 32) : FVec Ideal S4096x64 .f32 :=
  concatenate S4096x64 1 [
    ⟨S4096x32, subf (mulf (extractStridedSlice S4096x32 ![0, 0] kr slices_S4096x64_S4096x32_0_0) (hCos p))
      (mulf (extractStridedSlice S4096x32 ![0, 32] kr slices_S4096x64_S4096x32_0_32) (hSin p))⟩,
    ⟨S4096x32, addf (mulf (extractStridedSlice S4096x32 ![0, 32] kr slices_S4096x64_S4096x32_0_32) (hCos p))
      (mulf (extractStridedSlice S4096x32 ![0, 0] kr slices_S4096x64_S4096x32_0_0) (hSin p))⟩] concatenates_S4096x32_S4096x32_S4096x64_d1

/-- The padded keys, head first. -/
def hKr (kv : FVec Ideal S4096x2048 .f32) (kr : FVec Ideal S4096x64 .f32) (p : IVec S4096 32) : FVec Ideal S8x4096x256 .f32 :=
  transpose S8x4096x256 [1, 0, 2] (concatenate S4096x8x256 2 [
    ⟨S4096x8x128, extractStridedSlice S4096x8x128 ![0, 0, 0] (hKV kv) slices_S4096x8x256_S4096x8x128_0_0_0⟩,
    ⟨S4096x8x64, broadcastInDim S4096x8x64 ![0, 1, 2] bcast_S4096x1x64_S4096x8x64_0_1_2 (broadcastInDim S4096x1x64 ![0, 2] bcast_S4096x64_S4096x1x64_0_2 (hRope kr p))⟩,
    ⟨S4096x8x64, hZero⟩] concatenates_S4096x8x128_S4096x8x64_S4096x8x64_S4096x8x256_d2) transposes_S4096x8x256_S8x4096x256_1_0_2

/-- The scores in base two. -/
def hS (Q K : FVec Ideal S8x4096x256 .f32) : FVec Ideal S8x4096x4096 .f32 :=
  Host.dotGeneral dot_S8x4096x256_S8x4096x256_S8x4096x4096_2_2_1_1_0_0 none Q K

/-- A row's largest score. -/
def hM (s : FVec Ideal S8x4096x4096 .f32) : FVec Ideal S8x4096x1 .f32 :=
  broadcastInDim S8x4096x1 ![0, 1] bcast_S8x4096_S8x4096x1_0_1
    (Host.reduce FloatOps.maximumf s (constant S_ .f32 0xFF800000#32) reducesTo_S8x4096x4096_S8x4096_d2 h_S_)

/-- The exponentials of the scores less their row's largest. -/
def hE (s : FVec Ideal S8x4096x4096 .f32) (M : FVec Ideal S8x4096x1 .f32) : FVec Ideal S8x4096x4096 .f32 :=
  Host.exp (mulf (subf s (broadcastInDim S8x4096x4096 ![0, 1, 2] bcast_S8x4096x1_S8x4096x4096_0_1_2 M)) (broadcastInDim S8x4096x4096 ![] bcast_S_S8x4096x4096 hLn))

/-- A row's sum of exponentials. -/
def hZ (e : FVec Ideal S8x4096x4096 .f32) : FVec Ideal S8x4096x1 .f32 :=
  broadcastInDim S8x4096x1 ![0, 1] bcast_S8x4096_S8x4096x1_0_1
    (Host.reduceAdd e (constant S_ .f32 0x00000000#32) reducesTo_S8x4096x4096_S8x4096_d2 h_S_)

/-- A row's log-sum in base two. -/
def hL (M Z : FVec Ideal S8x4096x1 .f32) : FVec Ideal S8x4096x1 .f32 :=
  addf M (Host.divf (Host.log Z) (broadcastInDim S8x4096x1 ![] bcast_S_S8x4096x1 hLn))

/-- The forward output from the values, the exponentials and their sums. -/
def hO (v : FVec Ideal S4096x8x256 .f32) (e : FVec Ideal S8x4096x4096 .f32) (Z : FVec Ideal S8x4096x1 .f32) : FVec Ideal S4096x1024 .f32 :=
  shapeCast S4096x1024 (transpose S4096x8x128 [2, 0, 1] (Host.dotGeneral dot_S4096x8x128_S8x4096x4096_S8x128x4096_0_2_2_1_1_0 none
    (extractStridedSlice S4096x8x128 ![0, 0, 128] v slices_S4096x8x256_S4096x8x128_0_0_128)
    (Host.divf e (broadcastInDim S8x4096x4096 ![0, 1, 2] bcast_S8x4096x1_S8x4096x4096_0_1_2 Z))) transposes_S8x128x4096_S4096x8x128_2_0_1)
    shapeCasts_S4096x8x128_S4096x1024

section found
variable (m : (ℓ : Loc nD τ sig) → Buf (Elt Ideal) ℓ) (c : Dev nD)

/-- The call's arguments at entry. -/
theorem cos_found : V m c main_v15 = hCosP (m ((c : Thread nD τ).loc main_arg3)) := by
  dsimp only [V, hostOps0]
  after_results_simp <;> (try dsimp only [Matrix.cons_val]) <;> (try after_results_simp) <;> rfl

/-- The sines' table at entry. -/
theorem sin_found : V m c main_v18 = hSinB (m ((c : Thread nD τ).loc main_arg3)) := by
  dsimp only [V, hostOps0]
  after_results_simp <;> (try dsimp only [Matrix.cons_val]) <;> (try after_results_simp) <;> rfl

/-- The keys and values at entry. -/
theorem kv_found : (V m c main_v80 : Vec Ideal S4096x2048 .bf16) = m ((c : Thread nD τ).loc main_arg1) := by
  dsimp only [V, hostOps0]
  after_results_simp <;> rfl

/-- The cotangent at entry. -/
theorem ct_found : (V m c main_v81 : Vec Ideal S4096x1024 .bf16) = m ((c : Thread nD τ).loc main_arg4) := by
  dsimp only [V, hostOps0]
  after_results_simp <;> rfl

/-- The padded queries at entry. -/
theorem q_found : (V m c main_v78 : Vec Ideal S8x4096x256 .bf16) = hQr (m ((c : Thread nD τ).loc main_arg0)) (m ((c : Thread nD τ).loc main_arg3)) := by
  dsimp only [V, hostOps0]
  after_results_simp <;> (try dsimp only [Matrix.cons_val]) <;> (try after_results_simp) <;> rfl

/-- The padded keys at entry. -/
theorem k_found : (V m c main_v79 : Vec Ideal S8x4096x256 .bf16)
    = hKr (m ((c : Thread nD τ).loc main_arg1)) (m ((c : Thread nD τ).loc main_arg2)) (m ((c : Thread nD τ).loc main_arg3)) := by
  dsimp only [V, hostOps0]
  after_results_simp <;> (try dsimp only [Matrix.cons_val]) <;> (try after_results_simp) <;> rfl
end found
end Cert.Proof.Mla
end
-- ==== Proof.MlaHost2.lean ====
module

public import proofs.«01_k».proof.Defs
public import proofs.«01_k».proof.Proof.Gen.MlaIdeal.Value
public import Idealize.ShloMosaic.Lib.Pipeline.ValueKit
public import proofs.«01_k».proof.Proof.MlaHost

@[expose] public section

set_option maxRecDepth 16384

noncomputable section

namespace Cert.Proof.Mla

open Idealize.ShloMosaic Idealize.ShloMosaic.TcCoe Idealize.SL.Sem
open Cert.MlaIdeal Cert.MlaIdeal.Gen

section found
variable (m : (ℓ : Loc nD τ sig) → Buf (Elt Ideal) ℓ) (c : Dev nD)

/-- The scores, their row maxima, exponentials and sums, from the program's arguments. -/
def aS (m : (ℓ : Loc nD τ sig) → Buf (Elt Ideal) ℓ) (c : Dev nD) : FVec Ideal S8x4096x4096 .f32 :=
  hS (hQr (m ((c : Thread nD τ).loc main_arg0)) (m ((c : Thread nD τ).loc main_arg3)))
    (hKr (m ((c : Thread nD τ).loc main_arg1)) (m ((c : Thread nD τ).loc main_arg2)) (m ((c : Thread nD τ).loc main_arg3)))

set_option maxHeartbeats 4000000 in
/-- The saved row log-sums at entry. -/
theorem l_found : V m c main_v77 = hL (hM (aS m c)) (hZ (hE (aS m c) (hM (aS m c)))) := by
  dsimp only [V, hostOps0]
  after_results_simp <;> (try dsimp only [Matrix.cons_val]) <;> (try after_results_simp) <;> rfl

set_option maxHeartbeats 4000000 in
/-- The saved output at entry. -/
theorem o_found : (V m c main_v82 : Vec Ideal S4096x1024 .bf16)
    = hO (hKV (m ((c : Thread nD τ).loc main_arg1))) (hE (aS m c) (hM (aS m c))) (hZ (hE (aS m c) (hM (aS m c)))) := by
  dsimp only [V, hostOps0]
  after_results_simp <;> (try dsimp only [Matrix.cons_val]) <;> (try after_results_simp) <;> rfl
end found
end Cert.Proof.Mla
end
-- ==== Proof.Reals.lean ====
module

public import Idealize.ShloMosaic.Lib.Pipeline.ValueKit

@[expose] public section

noncomputable section

namespace Cert.Proof.Reals

open Idealize.ShloMosaic

/-- A finite sum of real numbers is the same in the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of finitely many real numbers, at least one, is real. -/
theorem max_coe {ι : Type} (s : Finset ι) (hs : s.Nonempty) (f : ι → ℝ) :
    ∃ M : ℝ, s.fold max (⊥ : EReal) (fun i => ((f i : ℝ) : EReal)) = (M : EReal) := by
  classical
  induction hs using Finset.Nonempty.cons_induction with
  | singleton a => exact ⟨f a, by simp⟩
  | cons a s ha _ ih =>
    obtain ⟨M, hM⟩ := ih
    refine ⟨max (f a) M, ?_⟩
    rw [Finset.fold_cons, hM]
    rcases le_total (f a) M with h | h
    · rw [max_eq_right (EReal.coe_le_coe_iff.2 h), max_eq_right h]
    · rw [max_eq_left (EReal.coe_le_coe_iff.2 h), max_eq_left h]

/-- The quotient of two reals, the second not zero. -/
theorem div_real (x y : ℝ) (h : y ≠ 0) : Ideal.div (x : EReal) (y : EReal) = ((x / y : ℝ) : EReal) := by
  rw [Ideal.div_coe h, ← EReal.coe_mul]
  congr 1
  field_simp

/-- The exponential of a real. -/
theorem exp_real (x : ℝ) : Ideal.exp (x : EReal) = ((Real.exp x : ℝ) : EReal) := rfl

/-- The power of two of a real. -/
theorem exp2_real (x : ℝ) : Ideal.exp2 (x : EReal) = ((Real.exp (x * Real.log 2) : ℝ) : EReal) := by
  refine Eq.trans (rfl : _ = (((2 : ℝ) ^ x : ℝ) : EReal)) ?_
  rw [Real.rpow_def_of_pos (by norm_num), mul_comm]

/-- The logarithm of a positive real. -/
theorem log_real (x : ℝ) (h : 0 < x) : Ideal.log (x : EReal) = ((Real.log x : ℝ) : EReal) := by
  refine Eq.trans (rfl : _ = if x ≤ 0 then (⊥ : EReal) else ((Real.log x : ℝ) : EReal)) ?_
  rw [if_neg (not_le.2 h)]

/-- The root of a real that is not negative. -/
theorem sqrt_real (x : ℝ) (h : 0 ≤ x) : Ideal.sqrt (x : EReal) = ((Real.sqrt x : ℝ) : EReal) := by
  refine Eq.trans (rfl : _ = if x < 0 then (⊥ : EReal) else ((Real.sqrt x : ℝ) : EReal)) ?_
  rw [if_neg (not_lt.2 h)]

/-- The reciprocal root of a positive real. -/
theorem rsqrt_real (x : ℝ) (h : 0 < x) : Ideal.rsqrt (x : EReal) = (((Real.sqrt x)⁻¹ : ℝ) : EReal) := by
  refine Eq.trans (rfl : _ = if x < 0 then (⊥ : EReal) else if x = 0 then ⊤ else (((Real.sqrt x)⁻¹ : ℝ) : EReal)) ?_
  rw [if_neg (not_lt.2 h.le), if_neg h.ne']

/-- The cosine of a real. -/
theorem cos_real (x : ℝ) : Ideal.cos (x : EReal) = ((Real.cos x : ℝ) : EReal) := rfl

/-- The sine of a real. -/
theorem sin_real (x : ℝ) : Ideal.sin (x : EReal) = ((Real.sin x : ℝ) : EReal) := rfl

/-- A real power of a real. -/
theorem pow_real (x y : ℝ) : Ideal.pow (x : EReal) (y : EReal) = ((Real.rpow x y : ℝ) : EReal) := rfl

/-- The probability of the `j`-th of finitely many scores. -/
def prob {n : ℕ} (s : Fin n → ℝ) (j : Fin n) : ℝ := Real.exp (s j) / ∑ k, Real.exp (s k)

/-- A sum of exponentials is positive. -/
theorem sum_exp_pos {n : ℕ} [NeZero n] (s : Fin n → ℝ) : 0 < ∑ k, Real.exp (s k) :=
  Finset.sum_pos (fun k _ => Real.exp_pos _) ⟨0, Finset.mem_univ _⟩

/-- Taking a number off every score leaves the probabilities. -/
theorem prob_shift {n : ℕ} [NeZero n] (s : Fin n → ℝ) (M : ℝ) (j : Fin n) :
    Real.exp (s j - M) / ∑ k, Real.exp (s k - M) = prob s j := by
  have h : ∀ k, Real.exp (s k - M) = Real.exp (s k) * Real.exp (-M) := fun k => by rw [sub_eq_add_neg, Real.exp_add]
  rw [prob, h, Finset.sum_congr rfl fun k _ => h k, ← Finset.sum_mul, mul_div_mul_right _ _ (Real.exp_pos _).ne']

/-- The probability as the exponential of a score less the log-sum. -/
theorem prob_log {n : ℕ} [NeZero n] (s : Fin n → ℝ) (M : ℝ) (j : Fin n) :
    Real.exp (s j - (M + Real.log (∑ k, Real.exp (s k - M)))) = prob s j := by
  rw [← prob_shift s M, ← sub_sub, Real.exp_sub (s j - M), Real.exp_log (sum_exp_pos _)]

/-- A sum of products of reals. -/
theorem prod_real {n : ℕ} (a b : Fin n → EReal) (f k : Fin n → ℝ) (ha : ∀ i, a i = ((f i : ℝ) : EReal)) (hb : ∀ i, b i = ((k i : ℝ) : EReal)) :
    ∑ i, a i * b i = ((∑ i, f i * k i : ℝ) : EReal) := by
  simp only [ha, hb, ← EReal.coe_mul]
  exact sum_coe _ _

/-- A number whose absolute value is below infinity is real. -/
theorem real_of_lt (x : EReal) (h : max x (-x) < ⊤) : ∃ r : ℝ, x = (r : EReal) := by
  induction x using EReal.rec with
  | bot => simp at h
  | coe r => exact ⟨r, rfl⟩
  | top => simp at h

/-- An array whose absolute values are below infinity is real. -/
theorem arr_real {S : Shape} (a b : FVec Ideal S .f32) (hb : ∀ x, b x = (⊤ : EReal)) (h : cmpf .olt (Host.absf a) b = fun _ => 1#1) :
    ∃ f : S.Idx → ℝ, a = fun x => ((f x : ℝ) : EReal) := by
  have e : ∀ x, ∃ r : ℝ, a x = (r : EReal) := fun x => by
    have h' : BitVec.ofBool (decide (max (a x) (-(a x)) < b x)) = 1#1 := congrFun h x
    rw [hb] at h'
    refine real_of_lt _ ?_
    by_contra hc
    rw [decide_eq_false hc] at h'
    exact absurd h' (by decide)
  choose f hf using e
  exact ⟨f, funext hf⟩

/-- The word of infinity. -/
theorem inf_word : (Ideal.ofBits FTy.f32 2139095040#32 : EReal) = ⊤ := by simp [Ideal.ofBits, Ideal.ieee]

end Cert.Proof.Reals
end
-- ==== Proof.MlaSpec.lean ====
module

public import proofs.«01_k».proof.Defs
public import proofs.«01_k».proof.Proof.Gen.MlaIdeal.Value
public import Idealize.ShloMosaic.Lib.Pipeline.ValueKit
public import proofs.«01_k».proof.Proof.MlaHost2
public import proofs.«01_k».proof.Proof.Reals

@[expose] public section

set_option maxRecDepth 16384

noncomputable section

namespace Cert.Proof.Mla

open Idealize.ShloMosaic Idealize.ShloMosaic.TcCoe Idealize.SL.Sem
open Cert.MlaIdeal Cert.MlaIdeal.Gen
open Cert.Proof.Reals

/-- The angle of a position and a lane, over the reals. -/
theorem ang_real (p : IVec S4096 32) : ∃ a : Fin 4096 → Fin 32 → ℝ, ∀ i l, hAng p (ix2 i l) = ((a i l : ℝ) : EReal) := by
  refine ⟨fun i l => ((p (ix1 i)).toInt : ℝ) * Real.rpow 10000 (-((BitVec.ofNat 32 l.val).toInt : ℝ) / 32), fun i l => ?_⟩
  pointwise [hAng]
  rw [show (Ideal.ofBits FTy.f32 1176256512#32 : EReal) = ((10000 : ℝ) : EReal) from by simp [Ideal.ofBits, Ideal.ieee, -EReal.coe_mul]; norm_num,
    show (Ideal.ofBits FTy.f32 1107296256#32 : EReal) = ((32 : ℝ) : EReal) from by simp [Ideal.ofBits, Ideal.ieee, -EReal.coe_mul]; norm_num]
  rw [show (FloatOps.sitofp FTy.f32 (BitVec.ofNat 32 l.val) : Ideal .f32) = (((BitVec.ofNat 32 l.val).toInt : ℝ) : EReal) from rfl,
    show (FloatOps.sitofp FTy.f32 (p (ix1 i)) : Ideal .f32) = (((p (ix1 i)).toInt : ℝ) : EReal) from rfl]
  rw [← EReal.coe_neg, div_real _ _ (by norm_num), pow_real, ← EReal.coe_mul]

/-- The cosines and the sines are real. -/
theorem turn_real (p : IVec S4096 32) : ∃ C S : Fin 4096 → Fin 32 → ℝ,
    (∀ i l, hCos p (ix2 i l) = ((C i l : ℝ) : EReal)) ∧ ∀ i l, hSin p (ix2 i l) = ((S i l : ℝ) : EReal) := by
  obtain ⟨a, ha⟩ := ang_real p
  refine ⟨fun i l => Real.cos (a i l), fun i l => Real.sin (a i l), fun i l => ?_, fun i l => ?_⟩
  · pointwise [hCos]
    rw [ha, cos_real]
  · pointwise [hSin]
    rw [ha, sin_real]

section spec
variable (q : S4096x1536.Idx → ℝ) (kv : S4096x2048.Idx → ℝ) (kr : S4096x64.Idx → ℝ) (ct : S4096x1024.Idx → ℝ) (C S : Fin 4096 → Fin 32 → ℝ)

/-- The rotated query of head `h` and row `i`, over the reals. -/
def rq (h : Fin 8) (i : Fin 4096) (d : Fin 192) : ℝ :=
  if h0 : d.val < 128 then q (ix2 i ⟨h.val * 192 + d.val, by omega⟩)
  else if h1 : d.val < 160 then q (ix2 i ⟨h.val * 192 + d.val, by omega⟩) * C i ⟨d.val - 128, by omega⟩ - q (ix2 i ⟨h.val * 192 + (d.val + 32), by omega⟩) * S i ⟨d.val - 128, by omega⟩
  else q (ix2 i ⟨h.val * 192 + d.val, by omega⟩) * C i ⟨d.val - 160, by omega⟩ + q (ix2 i ⟨h.val * 192 + (d.val - 32), by omega⟩) * S i ⟨d.val - 160, by omega⟩

/-- The rotated key of head `h` and row `j`, over the reals. -/
def rk (h : Fin 8) (j : Fin 4096) (d : Fin 192) : ℝ :=
  if h0 : d.val < 128 then kv (ix2 j ⟨h.val * 256 + d.val, by omega⟩)
  else if h1 : d.val < 160 then kr (ix2 j ⟨d.val - 128, by omega⟩) * C j ⟨d.val - 128, by omega⟩ - kr (ix2 j ⟨d.val - 128 + 32, by omega⟩) * S j ⟨d.val - 128, by omega⟩
  else kr (ix2 j ⟨d.val - 128, by omega⟩) * C j ⟨d.val - 160, by omega⟩ + kr (ix2 j ⟨d.val - 160, by omega⟩) * S j ⟨d.val - 160, by omega⟩

/-- The score of query row `i` and key row `j`. -/
def rt (h : Fin 8) (i j : Fin 4096) : ℝ := (∑ d, rq q C S h i d * rk kv kr C S h j d) * (Real.sqrt 192)⁻¹

/-- The attention probability. -/
def rp (h : Fin 8) (i j : Fin 4096) : ℝ := prob (rt q kv kr C S h i) j

/-- The cotangent's product with a value row. -/
def rdp (h : Fin 8) (i j : Fin 4096) : ℝ :=
  ∑ e : Fin 128, ct (ix2 i ⟨h.val * 128 + e.val, by omega⟩) * kv (ix2 j ⟨h.val * 256 + 128 + e.val, by omega⟩)

/-- The gradient of the score. -/
def rs (h : Fin 8) (i j : Fin 4096) : ℝ :=
  rp q kv kr C S h i j * (rdp kv ct h i j - ∑ k, rp q kv kr C S h i k * rdp kv ct h i k)

/-- The gradient of the rotated query. -/
def rdq (h : Fin 8) (i : Fin 4096) (d : Fin 192) : ℝ := ∑ j, rs q kv kr ct C S h i j * (Real.sqrt 192)⁻¹ * rk kv kr C S h j d

/-- The gradient of the rotated key. -/
def rdk (h : Fin 8) (j : Fin 4096) (d : Fin 192) : ℝ := ∑ i, rs q kv kr ct C S h i j * (Real.sqrt 192)⁻¹ * rq q C S h i d

/-- The gradient of the value. -/
def rdv (h : Fin 8) (j : Fin 4096) (e : Fin 128) : ℝ := ∑ i, rp q kv kr C S h i j * ct (ix2 i ⟨h.val * 128 + e.val, by omega⟩)

end spec
end Cert.Proof.Mla
end
-- ==== Proof.MlaKer.lean ====
module

public import proofs.«01_k».proof.Defs
public import proofs.«01_k».proof.Proof.Gen.MlaIdeal.Value
public import Idealize.ShloMosaic.Lib.Pipeline.ValueKit
public import proofs.«01_k».proof.Proof.MlaSpec

@[expose] public section

set_option maxRecDepth 16384

noncomputable section

namespace Cert.Proof.Mla

open Idealize.ShloMosaic Idealize.ShloMosaic.TcCoe Idealize.SL.Sem
open Cert.MlaIdeal Cert.MlaIdeal.Gen
open Cert.Proof.Reals

/-- The host's logarithm of two is the logarithm of two. -/
theorem ln_real : hLn ix0 = ((Real.log 2 : ℝ) : EReal) := by
  pointwise [hLn]
  rw [show (Ideal.ofBits FTy.f32 1073741824#32 : EReal) = ((2 : ℝ) : EReal) from by simp [Ideal.ofBits, Ideal.ieee, -EReal.coe_mul]; norm_num]
  exact log_real _ (by norm_num)

/-- The logarithm of two is not zero. -/
theorem ln_ne : Real.log 2 ≠ 0 := (Real.log_pos (by norm_num)).ne'

/-- The root of 192 is not zero. -/
theorem root_ne : Real.sqrt 192 ≠ 0 := (Real.sqrt_pos.2 (by norm_num)).ne'

section real
variable (q : S4096x1536.Idx → ℝ) (kv : S4096x2048.Idx → ℝ) (kr : S4096x64.Idx → ℝ) (ct : S4096x1024.Idx → ℝ) (C S : Fin 4096 → Fin 32 → ℝ)
  (p : IVec S4096 32)

/-- The scaled queries over the reals. -/
theorem q3_real (h : Fin 8) (i : Fin 4096) (d : Fin 192) :
    hQ3 (fun x => ((q x : ℝ) : EReal)) (ix3 i h d) = ((q (ix2 i ⟨h.val * 192 + d.val, by omega⟩) / (Real.sqrt 192 * Real.log 2) : ℝ) : EReal) := by
  have hl := ln_real
  pointwise [hQ3]
  rw [hl, show (Ideal.ofBits FTy.f32 1128267776#32 : EReal) = ((192 : ℝ) : EReal) from by simp [Ideal.ofBits, Ideal.ieee, -EReal.coe_mul]; norm_num,
    sqrt_real _ (by norm_num), ← EReal.coe_mul, div_real _ _ (mul_ne_zero root_ne ln_ne)]

section
variable (hC : ∀ i l, hCos p (ix2 i l) = ((C i l : ℝ) : EReal)) (hS' : ∀ i l, hSin p (ix2 i l) = ((S i l : ℝ) : EReal))
include hC hS'

/-- The rotated and padded queries over the reals. -/
theorem qr_real (h : Fin 8) (i : Fin 4096) (d : Fin 256) : hQr (fun x => ((q x : ℝ) : EReal)) p (ix3 h i d)
    = ((if hd : d.val < 192 then rq q C S h i ⟨d.val, hd⟩ / (Real.sqrt 192 * Real.log 2) else 0 : ℝ) : EReal) := by
  obtain ⟨d, hd⟩ := d
  by_cases h0 : d < 128
  · have e : hQr (fun x => ((q x : ℝ) : EReal)) p (ix3 h i ⟨d, hd⟩) = hQ3 (fun x => ((q x : ℝ) : EReal)) (ix3 i h ⟨d, by omega⟩) := by
      pointwise [hQr]
      rw [dif_pos h0]
    rw [e, q3_real, dif_pos (by show d < 192; omega), rq, dif_pos h0]
  by_cases h1 : d < 160
  · obtain ⟨l, rfl⟩ : ∃ l, d = 128 + l := ⟨d - 128, by omega⟩
    have e : hQr (fun x => ((q x : ℝ) : EReal)) p (ix3 h i ⟨128 + l, hd⟩) = hQ3 (fun x => ((q x : ℝ) : EReal)) (ix3 i h ⟨128 + l, by omega⟩) * hCos p (ix2 i ⟨l, by omega⟩)
        - hQ3 (fun x => ((q x : ℝ) : EReal)) (ix3 i h ⟨160 + l, by omega⟩) * hSin p (ix2 i ⟨l, by omega⟩) := by
      obtain ⟨l, rfl⟩ : ∃ l' : Fin 32, l'.val = l := ⟨⟨l, by omega⟩, rfl⟩
      pointwise [hQr, hWide]
    rw [e, q3_real, q3_real, hC, hS', ← EReal.coe_mul, ← EReal.coe_mul, ← EReal.coe_sub, dif_pos (by show 128 + l < 192; omega), rq,
      dif_neg (by show ¬128 + l < 128; omega), dif_pos (by show 128 + l < 160; omega)]
    simp only [show 128 + l - 128 = l from by omega, show 128 + l + 32 = 160 + l from by omega]
    congr 1
    ring
  by_cases h2 : d < 192
  · obtain ⟨l, rfl⟩ : ∃ l, d = 160 + l := ⟨d - 160, by omega⟩
    have e : hQr (fun x => ((q x : ℝ) : EReal)) p (ix3 h i ⟨160 + l, hd⟩) = hQ3 (fun x => ((q x : ℝ) : EReal)) (ix3 i h ⟨160 + l, by omega⟩) * hCos p (ix2 i ⟨l, by omega⟩)
        + hQ3 (fun x => ((q x : ℝ) : EReal)) (ix3 i h ⟨128 + l, by omega⟩) * hSin p (ix2 i ⟨l, by omega⟩) := by
      obtain ⟨l, rfl⟩ : ∃ l' : Fin 32, l'.val = l := ⟨⟨l, by omega⟩, rfl⟩
      pointwise [hQr, hWide]
      rw [dif_neg h0, dif_neg (by omega), dif_pos (by omega)]
      simp only [show 160 + l.val - 128 - 32 = l.val from by omega]
    rw [e, q3_real, q3_real, hC, hS', ← EReal.coe_mul, ← EReal.coe_mul, ← EReal.coe_add, dif_pos (by show 160 + l < 192; omega), rq,
      dif_neg (by show ¬160 + l < 128; omega), dif_neg (by show ¬160 + l < 160; omega)]
    simp only [show 160 + l - 160 = l from by omega, show 160 + l - 32 = 128 + l from by omega]
    congr 1
    ring
  · have e : hQr (fun x => ((q x : ℝ) : EReal)) p (ix3 h i ⟨d, hd⟩) = 0 := by
      pointwise [hQr, hZero]
      rw [dif_neg h0, dif_neg (by omega), dif_neg (by omega)]
    rw [e, dif_neg h2, EReal.coe_zero]

/-- The rotated shared key lanes over the reals, with the head's own. -/
theorem kr_real (h : Fin 8) (j : Fin 4096) (d : Fin 256) : hKr (fun x => ((kv x : ℝ) : EReal)) (fun x => ((kr x : ℝ) : EReal)) p (ix3 h j d)
    = ((if hd : d.val < 192 then rk kv kr C S h j ⟨d.val, hd⟩ else 0 : ℝ) : EReal) := by
  obtain ⟨d, hd⟩ := d
  by_cases h0 : d < 128
  · have e : hKr (fun x => ((kv x : ℝ) : EReal)) (fun x => ((kr x : ℝ) : EReal)) p (ix3 h j ⟨d, hd⟩) = ((kv (ix2 j ⟨h.val * 256 + d, by omega⟩) : ℝ) : EReal) := by
      pointwise [hKr, hKV]
      rw [dif_pos h0]
    rw [e, dif_pos (by show d < 192; omega), rk, dif_pos h0]
  by_cases h1 : d < 160
  · obtain ⟨l, rfl⟩ : ∃ l, d = 128 + l := ⟨d - 128, by omega⟩
    have e : hKr (fun x => ((kv x : ℝ) : EReal)) (fun x => ((kr x : ℝ) : EReal)) p (ix3 h j ⟨128 + l, hd⟩) = ((kr (ix2 j ⟨l, by omega⟩) : ℝ) : EReal) * hCos p (ix2 j ⟨l, by omega⟩)
        - ((kr (ix2 j ⟨32 + l, by omega⟩) : ℝ) : EReal) * hSin p (ix2 j ⟨l, by omega⟩) := by
      obtain ⟨l, rfl⟩ : ∃ l' : Fin 32, l'.val = l := ⟨⟨l, by omega⟩, rfl⟩
      have e' : hKr (fun x => ((kv x : ℝ) : EReal)) (fun x => ((kr x : ℝ) : EReal)) p (ix3 h j ⟨128 + (⟨l.val, by omega⟩ : Fin 64).val, hd⟩) = hRope (fun x => ((kr x : ℝ) : EReal)) p (ix2 j ⟨l.val, by omega⟩) := by
        pointwise [hKr]
        rw [dif_pos (by omega)]
      refine e'.trans ?_
      pointwise [hRope]
    rw [e, hC, hS', ← EReal.coe_mul, ← EReal.coe_mul, ← EReal.coe_sub, dif_pos (by show 128 + l < 192; omega), rk,
      dif_neg (by show ¬128 + l < 128; omega), dif_pos (by show 128 + l < 160; omega)]
    simp only [show 128 + l - 128 = l from by omega, show 32 + l = l + 32 from by omega]
  by_cases h2 : d < 192
  · obtain ⟨l, rfl⟩ : ∃ l, d = 160 + l := ⟨d - 160, by omega⟩
    have e : hKr (fun x => ((kv x : ℝ) : EReal)) (fun x => ((kr x : ℝ) : EReal)) p (ix3 h j ⟨160 + l, hd⟩) = ((kr (ix2 j ⟨32 + l, by omega⟩) : ℝ) : EReal) * hCos p (ix2 j ⟨l, by omega⟩)
        + ((kr (ix2 j ⟨l, by omega⟩) : ℝ) : EReal) * hSin p (ix2 j ⟨l, by omega⟩) := by
      obtain ⟨l, rfl⟩ : ∃ l' : Fin 32, l'.val = l := ⟨⟨l, by omega⟩, rfl⟩
      have e' : hKr (fun x => ((kv x : ℝ) : EReal)) (fun x => ((kr x : ℝ) : EReal)) p (ix3 h j ⟨128 + (⟨32 + l.val, by omega⟩ : Fin 64).val, by omega⟩) = hRope (fun x => ((kr x : ℝ) : EReal)) p (ix2 j ⟨32 + l.val, by omega⟩) := by
        pointwise [hKr]
        rw [dif_pos (by omega)]
      refine (congrArg _ ?_).trans (e'.trans ?_)
      · exact congrArg (ix3 h j) (Fin.ext (by show 160 + l.val = 128 + (32 + l.val); omega))
      · pointwise [hRope]
    rw [e, hC, hS', ← EReal.coe_mul, ← EReal.coe_mul, ← EReal.coe_add, dif_pos (by show 160 + l < 192; omega), rk,
      dif_neg (by show ¬160 + l < 128; omega), dif_neg (by show ¬160 + l < 160; omega)]
    simp only [show 160 + l - 160 = l from by omega, show 160 + l - 128 = 32 + l from by omega]
  · have e : hKr (fun x => ((kv x : ℝ) : EReal)) (fun x => ((kr x : ℝ) : EReal)) p (ix3 h j ⟨d, hd⟩) = 0 := by
      pointwise [hKr, hZero]
      rw [dif_neg h0, dif_neg (by omega)]
    rw [e, dif_neg h2, EReal.coe_zero]

end
end real
end Cert.Proof.Mla
end
-- ==== Proof.MlaSoft.lean ====
module

public import proofs.«01_k».proof.Defs
public import proofs.«01_k».proof.Proof.Gen.MlaIdeal.Value
public import Idealize.ShloMosaic.Lib.Pipeline.ValueKit
public import proofs.«01_k».proof.Proof.MlaKer

@[expose] public section

set_option maxRecDepth 16384

noncomputable section

namespace Cert.Proof.Mla

open Idealize.ShloMosaic Idealize.ShloMosaic.TcCoe Idealize.SL.Sem
open Cert.MlaIdeal Cert.MlaIdeal.Gen
open Cert.Proof.Reals

/-- A row of padded products is the row of products. -/
theorem sum_pad (f g : Fin 192 → ℝ) :
    ∑ d : Fin 256, (((if hd : d.val < 192 then f ⟨d.val, hd⟩ else 0 : ℝ) : EReal) * ((if hd : d.val < 192 then g ⟨d.val, hd⟩ else 0 : ℝ) : EReal))
      = ((∑ d, f d * g d : ℝ) : EReal) := by
  simp only [← EReal.coe_mul]
  rw [sum_coe]
  congr 1
  refine (Fin.sum_univ_add (a := 192) (b := 64) _).trans ?_
  rw [Finset.sum_eq_zero (s := (Finset.univ : Finset (Fin 64))) fun d _ => ?_, add_zero]
  · refine Finset.sum_congr rfl fun d _ => ?_
    have hd : (Fin.castAdd 64 d : Fin 256).val < 192 := d.isLt
    rw [dif_pos hd, dif_pos hd]
    rfl
  · have hd : ¬ (Fin.natAdd 192 d : Fin 256).val < 192 := by show ¬ (192 + d.val < 192); omega
    rw [dif_neg hd, zero_mul]

/-- A row's log-sum in base two. -/
theorem l_at (A B : FVec Ideal S8x4096x1 .f32) (h : Fin 8) (i : Fin 4096) :
    hL A B (ix3 h i (0 : Fin 1)) = A (ix3 h i (0 : Fin 1)) + Ideal.div (Ideal.log (B (ix3 h i (0 : Fin 1)))) (hLn ix0) := by
  pointwise [hL]

section soft
variable (s : FVec Ideal S8x4096x4096 .f32) (t : Fin 8 → Fin 4096 → Fin 4096 → ℝ)
  (hs : ∀ h i j, s (ix3 h i j) = ((t h i j / Real.log 2 : ℝ) : EReal))
include hs

/-- The row maxima are real. -/
theorem m_real : ∃ M : Fin 8 → Fin 4096 → ℝ, ∀ h i, hM s (ix3 h i (0 : Fin 1)) = ((M h i : ℝ) : EReal) := by
  have e : ∀ h i, ∃ M : ℝ, hM s (ix3 h i (0 : Fin 1)) = (M : EReal) := fun h i => by
    obtain ⟨M, hM'⟩ := max_coe (Finset.univ : Finset (Fin 4096)) ⟨0, Finset.mem_univ _⟩ (fun j => t h i j / Real.log 2)
    refine ⟨M, Eq.trans ?_ hM'⟩
    have b : (Ideal.ofBits FTy.f32 4286578688#32 : EReal) = ⊥ := by simp [Ideal.ofBits, Ideal.ieee]
    pointwise [hM]
    rw [b]
    simp only [hs]
  choose M hM' using e
  exact ⟨M, hM'⟩

variable (M : Fin 8 → Fin 4096 → ℝ) (hM' : ∀ h i, hM s (ix3 h i (0 : Fin 1)) = ((M h i : ℝ) : EReal))
include hM'

/-- The exponentials are real. -/
theorem e_real (h : Fin 8) (i j : Fin 4096) :
    hE s (hM s) (ix3 h i j) = ((Real.exp (t h i j - M h i * Real.log 2) : ℝ) : EReal) := by
  have hl := ln_real
  pointwise [hE]
  rw [hs, hM', hl, ← EReal.coe_sub, ← EReal.coe_mul, exp_real, sub_mul, div_mul_cancel₀ _ ln_ne]

/-- The row sums are real. -/
theorem z_real (h : Fin 8) (i : Fin 4096) :
    hZ (hE s (hM s)) (ix3 h i (0 : Fin 1)) = ((∑ j, Real.exp (t h i j - M h i * Real.log 2) : ℝ) : EReal) := by
  refine Eq.trans (b := ∑ j, hE s (hM s) (ix3 h i j)) (by pointwise [hZ]) ?_
  simp only [e_real s t hs M hM']
  exact sum_coe _ _

/-- The row log-sums in base two are real. -/
theorem l_real (h : Fin 8) (i : Fin 4096) :
    hL (hM s) (hZ (hE s (hM s))) (ix3 h i (0 : Fin 1))
      = ((M h i + Real.log (∑ j, Real.exp (t h i j - M h i * Real.log 2)) / Real.log 2 : ℝ) : EReal) := by
  have hz := z_real s t hs M hM' h i
  rw [l_at, hM', hz, ln_real, log_real _ (sum_exp_pos _), div_real _ _ ln_ne]
  exact (EReal.coe_add _ _).symm

/-- A weight times its row's reciprocal sum is the probability. -/
theorem p_real (h : Fin 8) (i j : Fin 4096) :
    Ideal.div (hE s (hM s) (ix3 h i j)) (hZ (hE s (hM s)) (ix3 h i (0 : Fin 1))) = ((prob (t h i) j : ℝ) : EReal) := by
  rw [e_real s t hs M hM', z_real s t hs M hM', div_real _ _ (sum_exp_pos _).ne', prob_shift]

/-- The attention's output over the reals. -/
theorem o_real (v : FVec Ideal S4096x8x256 .f32) (v' : S4096x8x256.Idx → ℝ) (hv : ∀ x, v x = ((v' x : ℝ) : EReal))
    (h : Fin 8) (i : Fin 4096) (e : Fin 128) :
    hO v (hE s (hM s)) (hZ (hE s (hM s))) (ix2 i ⟨h.val * 128 + e.val, by omega⟩)
      = ((∑ j, v' (ix3 j h ⟨128 + e.val, by omega⟩) * prob (t h i) j : ℝ) : EReal) := by
  refine Eq.trans (b := ∑ j, v (ix3 j h ⟨128 + e.val, by omega⟩) * Ideal.div (hE s (hM s) (ix3 h i j)) (hZ (hE s (hM s)) (ix3 h i (0 : Fin 1)))) (by pointwise [hO]) ?_
  simp only [p_real s t hs M hM', hv, ← EReal.coe_mul]
  exact sum_coe _ _

/-- The power of two of a score less its row's log-sum is the probability. -/
theorem pw_real (h : Fin 8) (i j : Fin 4096) :
    Ideal.exp2 (s (ix3 h i j) - hL (hM s) (hZ (hE s (hM s))) (ix3 h i (0 : Fin 1))) = ((prob (t h i) j : ℝ) : EReal) := by
  rw [hs, l_real s t hs M hM', ← EReal.coe_sub, exp2_real, ← prob_log (t h i) (M h i * Real.log 2) j]
  congr 2
  have := ln_ne
  field_simp

end soft
end Cert.Proof.Mla
end
-- ==== Proof.MlaVal.lean ====
module

public import proofs.«01_k».proof.Defs
public import proofs.«01_k».proof.Proof.Gen.MlaIdeal.Value
public import Idealize.ShloMosaic.Lib.Pipeline.ValueKit
public import proofs.«01_k».proof.Proof.MlaArr
public import proofs.«01_k».proof.Proof.MlaHost2
public import proofs.«01_k».proof.Proof.MlaSoft

@[expose] public section

set_option maxRecDepth 16384

noncomputable section

namespace Cert.Proof.Mla

open Idealize.ShloMosaic Idealize.ShloMosaic.TcCoe Idealize.SL.Sem
open Cert.MlaIdeal Cert.MlaIdeal.Gen
open Cert.Proof.Reals

/-- A row's product of cotangent and output is the mean of the products with the value rows. -/
theorem mean_swap (q : S4096x1536.Idx → ℝ) (kv : S4096x2048.Idx → ℝ) (kr : S4096x64.Idx → ℝ) (ct : S4096x1024.Idx → ℝ)
    (C S : Fin 4096 → Fin 32 → ℝ) (h : Fin 8) (i : Fin 4096) :
    ∑ e : Fin 128, ct (ix2 i ⟨h.val * 128 + e.val, by omega⟩) * ∑ j, kv (ix2 j ⟨h.val * 256 + 128 + e.val, by omega⟩) * rp q kv kr C S h i j
      = ∑ k, rp q kv kr C S h i k * rdp kv ct h i k := by
  simp only [Finset.mul_sum, rdp]
  rw [Finset.sum_comm]
  exact Finset.sum_congr rfl fun k _ => Finset.sum_congr rfl fun e _ => by ring

section values
variable (m : (ℓ : Loc nD τ sig) → Buf (Elt Ideal) ℓ) (c : Dev nD)
variable (q : S4096x1536.Idx → ℝ) (kv : S4096x2048.Idx → ℝ) (kr : S4096x64.Idx → ℝ) (ct : S4096x1024.Idx → ℝ) (C S : Fin 4096 → Fin 32 → ℝ)

/-- The arguments are real, and so are the cosines and the sines. -/
structure Given : Prop where
  q_eq : (m ((c : Thread nD τ).loc main_arg0) : S4096x1536.Idx → EReal) = fun x => ((q x : ℝ) : EReal)
  kv_eq : (m ((c : Thread nD τ).loc main_arg1) : S4096x2048.Idx → EReal) = fun x => ((kv x : ℝ) : EReal)
  kr_eq : (m ((c : Thread nD τ).loc main_arg2) : S4096x64.Idx → EReal) = fun x => ((kr x : ℝ) : EReal)
  ct_eq : (m ((c : Thread nD τ).loc main_arg4) : S4096x1024.Idx → EReal) = fun x => ((ct x : ℝ) : EReal)
  cos_eq : ∀ i l, hCos (m ((c : Thread nD τ).loc main_arg3)) (ix2 i l) = ((C i l : ℝ) : EReal)
  sin_eq : ∀ i l, hSin (m ((c : Thread nD τ).loc main_arg3)) (ix2 i l) = ((S i l : ℝ) : EReal)

variable (g : Given m c q kv kr ct C S)
include g

/-- The padded queries at entry. -/
theorem v78_real (h : Fin 8) (i : Fin 4096) (d : Fin 256) : (V m c main_v78 : Vec Ideal S8x4096x256 .bf16) (ix3 h i d)
    = ((if hd : d.val < 192 then rq q C S h i ⟨d.val, hd⟩ / (Real.sqrt 192 * Real.log 2) else 0 : ℝ) : EReal) := by
  rw [q_found, g.q_eq]
  exact qr_real q C S _ g.cos_eq g.sin_eq h i d

/-- The padded keys at entry. -/
theorem v79_real (h : Fin 8) (j : Fin 4096) (d : Fin 256) : (V m c main_v79 : Vec Ideal S8x4096x256 .bf16) (ix3 h j d)
    = ((if hd : d.val < 192 then rk kv kr C S h j ⟨d.val, hd⟩ else 0 : ℝ) : EReal) := by
  rw [k_found, g.kv_eq, g.kr_eq]
  exact kr_real kv kr C S _ g.cos_eq g.sin_eq h j d

/-- The products of queries and keys are the scores in base two. -/
theorem qk_real (Q K : Vec Ideal S8x4096x256 .bf16) (hQ : V m c main_v78 = Q) (hK : V m c main_v79 = K) (h : Fin 8) (i j : Fin 4096) :
    ∑ d : Fin 256, Q (ix3 h i d) * K (ix3 h j d) = ((rt q kv kr C S h i j / Real.log 2 : ℝ) : EReal) := by
  subst hQ hK
  refine (Finset.sum_congr rfl fun d _ => congrArg₂ (fun x y : EReal => x * y) (v78_real m c q kv kr ct C S g h i d) (v79_real m c q kv kr ct C S g h j d)).trans ?_
  refine (sum_pad (fun d => rq q C S h i d / (Real.sqrt 192 * Real.log 2)) (fun d => rk kv kr C S h j d)).trans ?_
  rw [rt]
  congr 1
  rw [Finset.sum_mul, Finset.sum_div]
  refine Finset.sum_congr rfl fun d _ => ?_
  have := ln_ne
  have := root_ne
  field_simp

/-- The host's scores are the same products. -/
theorem aS_real (h : Fin 8) (i j : Fin 4096) : aS m c (ix3 h i j) = ((rt q kv kr C S h i j / Real.log 2 : ℝ) : EReal) := by
  rw [← qk_real m c q kv kr ct C S g _ _ (q_found m c) (k_found m c) h i j, aS]
  pointwise [hS]

/-- The call's probabilities over the reals. -/
theorem gP_real (h : Fin 8) (i j : Fin 4096) :
    gP (V m c main_v78) (V m c main_v77) (V m c main_v79) h i j = ((rp q kv kr C S h i j : ℝ) : EReal) := by
  obtain ⟨M, hM'⟩ := m_real (aS m c) _ (aS_real m c q kv kr ct C S g)
  rw [gP, qk_real m c q kv kr ct C S g _ _ rfl rfl, l_found, ← aS_real m c q kv kr ct C S g]
  exact pw_real (aS m c) _ (aS_real m c q kv kr ct C S g) M hM' h i j

/-- The cotangent at entry. -/
theorem v81_real (x : S4096x1024.Idx) : (V m c main_v81 : Vec Ideal S4096x1024 .bf16) x = ((ct x : ℝ) : EReal) := by
  rw [ct_found, g.ct_eq]

/-- The keys and values at entry. -/
theorem v80_real (x : S4096x2048.Idx) : (V m c main_v80 : Vec Ideal S4096x2048 .bf16) x = ((kv x : ℝ) : EReal) := by
  rw [kv_found, g.kv_eq]

/-- The saved output at entry. -/
theorem v82_real (h : Fin 8) (i : Fin 4096) (e : Fin 128) :
    (V m c main_v82 : Vec Ideal S4096x1024 .bf16) (ix2 i ⟨h.val * 128 + e.val, by omega⟩)
      = ((∑ j, kv (ix2 j ⟨h.val * 256 + 128 + e.val, by omega⟩) * rp q kv kr C S h i j : ℝ) : EReal) := by
  obtain ⟨M, hM'⟩ := m_real (aS m c) _ (aS_real m c q kv kr ct C S g)
  rw [o_found, g.kv_eq]
  refine (o_real (aS m c) _ (aS_real m c q kv kr ct C S g) M hM' _ (fun x => kv (ix2 (x 0) ⟨(x 1).val * 256 + (x 2).val, by
    have h1 : (x 1).val < 8 := (x 1).isLt; have h2 : (x 2).val < 256 := (x 2).isLt; omega⟩)) (fun x => ?_) h i e).trans ?_
  · obtain ⟨a, b, d, rfl⟩ : ∃ (a : Fin 4096) (b : Fin 8) (d : Fin 256), x = ix3 a b d := ⟨x 0, x 1, x 2, by idx_ext⟩
    pointwise [hKV]
  · refine congrArg _ (Finset.sum_congr rfl fun j _ => ?_)
    refine congrArg₂ (fun x y : ℝ => x * y) (congrArg kv (congrArg (ix2 j) (Fin.ext ?_))) rfl
    exact (Nat.add_assoc _ _ _).symm

/-- The call's score gradients over the reals. -/
theorem gS_real (h : Fin 8) (i j : Fin 4096) :
    gS (V m c main_v78) (V m c main_v81) (V m c main_v82) (V m c main_v77) (V m c main_v79) (V m c main_v80) h i j
      = ((rs q kv kr ct C S h i j : ℝ) : EReal) := by
  rw [gS, gP_real m c q kv kr ct C S g]
  refine (congrArg₂ (fun x y : EReal => ((rp q kv kr C S h i j : ℝ) : EReal) * (x - y))
    (prod_real _ _ _ _ (fun e => v81_real m c q kv kr ct C S g _) (fun e => v80_real m c q kv kr ct C S g _))
    (prod_real _ _ _ _ (fun e => v81_real m c q kv kr ct C S g _) (fun e => v82_real m c q kv kr ct C S g h i e))).trans ?_
  rw [← EReal.coe_sub, ← EReal.coe_mul, mean_swap q kv kr ct C S]
  rfl

/-- The query gradient's sums over the reals. -/
theorem sumQ_real (h : Fin 8) (i : Fin 4096) (l : Fin 256) :
    sumQ m c h i l * scl = ((if hl : l.val < 192 then rdq q kv kr ct C S h i ⟨l.val, hl⟩ else 0 : ℝ) : EReal) := by
  have e : sumQ m c h i l = _ := prod_real _ _ _ _ (fun j => gS_real m c q kv kr ct C S g h i j) (fun j => v79_real m c q kv kr ct C S g h j l)
  rw [e, scl, ← EReal.coe_mul]
  congr 1
  by_cases hl : l.val < 192
  · simp only [dif_pos hl]
    rw [rdq, Finset.sum_mul]
    exact Finset.sum_congr rfl fun j _ => by ring
  · simp only [dif_neg hl, mul_zero, Finset.sum_const_zero, zero_mul]

/-- The key gradient's sums over the reals. -/
theorem sumK_real (h : Fin 8) (j : Fin 4096) (l : Fin 192) :
    sumK m c h j ⟨l.val, by omega⟩ * ln2 = ((rdk q kv kr ct C S h j l : ℝ) : EReal) := by
  have e : sumK m c h j ⟨l.val, by omega⟩ = _ := prod_real _ _ _ _ (fun i => gS_real m c q kv kr ct C S g h i j)
    (fun i => (v78_real m c q kv kr ct C S g h i ⟨l.val, by omega⟩).trans (congrArg _ (dif_pos l.isLt)))
  rw [e, ln2, ← EReal.coe_mul, rdk, Finset.sum_mul]
  congr 1
  have := ln_ne
  have := root_ne
  refine Finset.sum_congr rfl fun j _ => ?_
  field_simp

/-- The value gradient's sums over the reals. -/
theorem sumV_real (h : Fin 8) (j : Fin 4096) (e : Fin 128) : sumV m c h j e = ((rdv q kv kr ct C S h j e : ℝ) : EReal) := by
  exact prod_real _ _ _ _ (fun i => gP_real m c q kv kr ct C S g h i j) (fun i => v81_real m c q kv kr ct C S g _)

end values
end Cert.Proof.Mla
end
-- ==== Proof.MlaRef.lean ====
module

public import proofs.«01_k».proof.Defs
public import proofs.«01_k».proof.Proof.Gen.MlaIdeal.Value
public import Idealize.ShloMosaic.Lib.Pipeline.ValueKit
public import proofs.«01_k».proof.Proof.Gen.MlaRefIdeal.Read
public import proofs.«01_k».proof.Proof.MlaSoft

@[expose] public section

set_option maxRecDepth 16384

noncomputable section

namespace Cert.Proof.Mla

open Idealize.ShloMosaic Idealize.ShloMosaic.TcCoe Idealize.SL.Sem
open Cert.MlaRefIdeal Cert.MlaRefIdeal.Gen Cert.MlaRefIdeal.Read
open Cert.Proof.Reals

section ref
variable (x0 : FVec Ideal S4096x1536 .f32) (x1 : FVec Ideal S4096x2048 .f32) (x2 : FVec Ideal S4096x64 .f32) (x3 : IVec S4096 32) (x4 : FVec Ideal S4096x1024 .f32)

/-- The keys' cosines are the call's. -/
theorem cos_k : val_main_v15 (F := Ideal) x3 = hCos x3 := rfl
/-- The keys' sines are the call's. -/
theorem sin_k : val_main_v17 (F := Ideal) x3 = hSin x3 := rfl
/-- The queries' cosines are the call's. -/
theorem cos_q : val_main_v46 (F := Ideal) x3 = hCos x3 := rfl
/-- The queries' sines are the call's. -/
theorem sin_q : val_main_v48 (F := Ideal) x3 = hSin x3 := rfl

/-- The rotated queries. -/
theorem v63_at (i : Fin 4096) (h : Fin 8) (d : Fin 192) : val_main_v63 (F := Ideal) x0 x3 (ix3 i h d)
    = if h1 : d.val < 128 then x0 (ix2 i ⟨h.val * 192 + d.val, by omega⟩)
      else if h2 : d.val - 128 < 32 then
        x0 (ix2 i ⟨h.val * 192 + (128 + (d.val - 128)), by omega⟩) * hCos x3 (ix2 i ⟨d.val - 128, h2⟩)
          - x0 (ix2 i ⟨h.val * 192 + (128 + (32 + (d.val - 128))), by omega⟩) * hSin x3 (ix2 i ⟨d.val - 128, h2⟩)
      else
        x0 (ix2 i ⟨h.val * 192 + (128 + (32 + (d.val - 128 - 32))), by omega⟩) * hCos x3 (ix2 i ⟨d.val - 128 - 32, by omega⟩)
          + x0 (ix2 i ⟨h.val * 192 + (128 + (d.val - 128 - 32)), by omega⟩) * hSin x3 (ix2 i ⟨d.val - 128 - 32, by omega⟩) := by
  rw [← cos_q, ← sin_q]
  pointwise [val_main_v63, val_main_v62, val_main_v61, val_main_v60, val_main_v59, val_main_v58, val_main_v57, val_main_v56, val_main_v55, val_main_v54, val_main_v53, val_main_v52, val_main_v51, val_main_v50, val_main_v49, val_main_v47, val_main_v33, val_main_v32, val_main_v0]

/-- The rotated keys. -/
theorem v30_at (j : Fin 4096) (h : Fin 8) (d : Fin 192) : val_main_v30 (F := Ideal) x1 x2 x3 (ix3 j h d)
    = if h1 : d.val < 128 then x1 (ix2 j ⟨h.val * 256 + d.val, by omega⟩)
      else if h2 : d.val - 128 < 32 then
        x2 (ix2 j ⟨d.val - 128, by omega⟩) * hCos x3 (ix2 j ⟨d.val - 128, h2⟩)
          - x2 (ix2 j ⟨32 + (d.val - 128), by omega⟩) * hSin x3 (ix2 j ⟨d.val - 128, h2⟩)
      else
        x2 (ix2 j ⟨32 + (d.val - 128 - 32), by omega⟩) * hCos x3 (ix2 j ⟨d.val - 128 - 32, by omega⟩)
          + x2 (ix2 j ⟨d.val - 128 - 32, by omega⟩) * hSin x3 (ix2 j ⟨d.val - 128 - 32, by omega⟩) := by
  rw [← cos_k, ← sin_k]
  pointwise [val_main_v30, val_main_v29, val_main_v28, val_main_v27, val_main_v26, val_main_v25, val_main_v24, val_main_v23, val_main_v22, val_main_v21, val_main_v20, val_main_v19, val_main_v18, val_main_v16, val_main_v1, val_main_v2]

/-- The scores. -/
theorem v68_at (h : Fin 8) (i j : Fin 4096) : val_main_v68 (F := Ideal) x0 x1 x2 x3 (ix3 h i j)
    = (∑ x, val_main_v63 (F := Ideal) x0 x3 (ix3 i h x) * val_main_v30 (F := Ideal) x1 x2 x3 (ix3 j h x))
      * Ideal.div 1 (Ideal.sqrt (Ideal.ofBits FTy.f32 1128267776#32)) := by
  pointwise [val_main_v68, val_main_v67, val_main_v66, val_main_v65, val_main_v64, val_main_cst_3, val_main_cst_4]

/-- The reference's row maxima are the call's. -/
theorem v69_eq (s : FVec Ideal S8x4096x4096 .f32) (h : Fin 8) (i : Fin 4096) :
    hM s (ix3 h i (0 : Fin 1)) = Host.reduce FloatOps.maximumf s (constant S_ .f32 0xFF800000#32) reducesTo_S8x4096x4096_S8x4096_d2 h_S_ (ix2 h i) := by
  unfold hM
  generalize Host.reduce FloatOps.maximumf s (constant S_ .f32 0xFF800000#32) _ _ = y
  pointwise []

/-- A row's largest score. -/
theorem v69_at (h : Fin 8) (i : Fin 4096) : val_main_v69 (F := Ideal) x0 x1 x2 x3 (ix2 h i) = hM (val_main_v68 (F := Ideal) x0 x1 x2 x3) (ix3 h i (0 : Fin 1)) :=
  (v69_eq _ h i).symm

/-- A row's number, spread over the columns. -/
theorem spread_at (y : FVec Ideal S8x4096 .f32) (h : Fin 8) (i j : Fin 4096) :
    broadcastInDim S8x4096x4096 ![0, 1, 2] bcast_S8x4096x1_S8x4096x4096_0_1_2 (broadcastInDim S8x4096x1 ![0, 1] bcast_S8x4096_S8x4096x1_0_1 y) (ix3 h i j) = y (ix2 h i) := by
  pointwise []

/-- The row maxima, spread over the columns. -/
theorem v87_at (h : Fin 8) (i j : Fin 4096) : val_main_v87 (F := Ideal) x0 x1 x2 x3 (ix3 h i j)
    = max (Ideal.ofBits FTy.f32 4286578688#32) (hM (val_main_v68 (F := Ideal) x0 x1 x2 x3) (ix3 h i (0 : Fin 1))) := by
  unfold val_main_v87 val_main_v86
  rw [spread_at, val_main_v76_apply, v69_at, val_main_v75_apply]
  rfl

/-- The row sums of the exponentials. -/
theorem v91_at (h : Fin 8) (i : Fin 4096) : val_main_v91 (F := Ideal) x0 x1 x2 x3 (ix3 h i (0 : Fin 1))
    = ∑ x, val_main_v89 (F := Ideal) x0 x1 x2 x3 (ix3 h i x) := by
  pointwise [val_main_v91, val_main_v90, val_main_cst_13]

/-- The exponentials. -/
theorem v89_at (h : Fin 8) (i j : Fin 4096) : val_main_v89 (F := Ideal) x0 x1 x2 x3 (ix3 h i j)
    = Ideal.exp (val_main_v68 (F := Ideal) x0 x1 x2 x3 (ix3 h i j) - val_main_v87 (F := Ideal) x0 x1 x2 x3 (ix3 h i j)) := by
  pointwise [val_main_v89, val_main_v88]

/-- The probabilities. -/
theorem v93_at (h : Fin 8) (i j : Fin 4096) : val_main_v93 (F := Ideal) x0 x1 x2 x3 (ix3 h i j)
    = Ideal.div (val_main_v89 (F := Ideal) x0 x1 x2 x3 (ix3 h i j)) (val_main_v91 (F := Ideal) x0 x1 x2 x3 (ix3 h i (0 : Fin 1))) := by
  pointwise [val_main_v93, val_main_v92]

/-- The cotangent's products with the value rows. -/
theorem v102_at (h : Fin 8) (i j : Fin 4096) : val_main_v102 (F := Ideal) x1 x4 (ix3 h i j)
    = ∑ x : Fin 128, x4 (ix2 i ⟨h.val * 128 + x.val, by omega⟩) * x1 (ix2 j ⟨h.val * 256 + (128 + x.val), by omega⟩) := by
  pointwise [val_main_v102, val_main_v101, val_main_v100, val_main_v99, val_main_v98, val_main_v97, val_main_v31, val_main_v1]

/-- The score gradients. -/
theorem v118_at (h : Fin 8) (i j : Fin 4096) : val_main_v118 (F := Ideal) x0 x1 x2 x3 x4 (ix3 h i j)
    = (Ideal.div (val_main_v102 (F := Ideal) x1 x4 (ix3 h i j)) (val_main_v91 (F := Ideal) x0 x1 x2 x3 (ix3 h i (0 : Fin 1)))
        + ∑ _u : Fin 1, -∑ x, val_main_v102 (F := Ideal) x1 x4 (ix3 h i x)
          * Ideal.div 1 (val_main_v91 (F := Ideal) x0 x1 x2 x3 (ix3 h i (0 : Fin 1)) * val_main_v91 (F := Ideal) x0 x1 x2 x3 (ix3 h i (0 : Fin 1)))
          * val_main_v89 (F := Ideal) x0 x1 x2 x3 (ix3 h i x))
      * val_main_v89 (F := Ideal) x0 x1 x2 x3 (ix3 h i j) * Ideal.div 1 (Ideal.sqrt (Ideal.ofBits FTy.f32 1128267776#32)) := by
  pointwise [val_main_v118, val_main_v117, val_main_v116, val_main_v115, val_main_v114, val_main_v113, val_main_v112, val_main_v111, val_main_v110, val_main_v109, val_main_v108, val_main_v107, val_main_v106, val_main_v105, val_main_v96, val_main_v95, val_main_v94, val_main_v65, val_main_v64, val_main_cst_3, val_main_cst_4, val_main_cst_14, val_main_cst_15, val_main_cst_16]

/-- The gradient of the rotated keys. -/
theorem v119_at (h : Fin 8) (j : Fin 4096) (d : Fin 192) : val_main_v119 (F := Ideal) x0 x1 x2 x3 x4 (ix3 h j d)
    = ∑ i, val_main_v118 (F := Ideal) x0 x1 x2 x3 x4 (ix3 h i j) * val_main_v63 (F := Ideal) x0 x3 (ix3 i h d) := by
  pointwise [val_main_v119]

/-- The gradient of the rotated queries. -/
theorem v121_at (h : Fin 8) (i : Fin 4096) (d : Fin 192) : val_main_v121 (F := Ideal) x0 x1 x2 x3 x4 (ix3 h i d)
    = ∑ j, val_main_v118 (F := Ideal) x0 x1 x2 x3 x4 (ix3 h i j) * val_main_v30 (F := Ideal) x1 x2 x3 (ix3 j h d) := by
  pointwise [val_main_v121]

/-- The gradient of the values. -/
theorem v103_at (h : Fin 8) (e : Fin 128) (j : Fin 4096) : val_main_v103 (F := Ideal) x0 x1 x2 x3 x4 (ix3 h e j)
    = ∑ i, x4 (ix2 i ⟨h.val * 128 + e.val, by omega⟩) * val_main_v93 (F := Ideal) x0 x1 x2 x3 (ix3 h i j) := by
  pointwise [val_main_v103, val_main_v101, val_main_v100, val_main_v99, val_main_v98, val_main_v97]

/-- The first result. -/
theorem v153_at (i : Fin 4096) (h : Fin 8) (l : Fin 128) :
    (val_main_v153 (F := Ideal) x0 x1 x2 x3 x4 : S4096x1024.Idx → EReal) (ix2 i ⟨h.val * 128 + l.val, by omega⟩)
      = val_main_v121 (F := Ideal) x0 x1 x2 x3 x4 (ix3 h i ⟨l.val, by omega⟩) := by
  pointwise [val_main_v153, val_main_v145, val_main_v144, val_main_v143, val_main_v142, val_main_v141, val_main_cst_17, val_main_cst_18, val_main_cst_19, val_main_cst_20, val_main_v123, val_main_v122]
  rw [dif_neg (fun h => h.1.elim), zero_add]

/-- The second result's first 32 lanes of a head. -/
theorem v154_a (i : Fin 4096) (h : Fin 8) (l : Fin 32) :
    (val_main_v154 (F := Ideal) x0 x1 x2 x3 x4 : S4096x1024.Idx → EReal) (ix2 i ⟨h.val * 128 + (l.val), by omega⟩)
      = val_main_v121 (F := Ideal) x0 x1 x2 x3 x4 (ix3 h i ⟨128 + (32 + l.val), by omega⟩) * hSin x3 (ix2 i l)
        + val_main_v121 (F := Ideal) x0 x1 x2 x3 x4 (ix3 h i ⟨128 + l.val, by omega⟩) * hCos x3 (ix2 i l) := by
  rw [← cos_q, ← sin_q]
  pointwise [val_main_v154, val_main_v47, val_main_v49, val_main_cst_17, val_main_cst_18, val_main_cst_19, val_main_cst_20, val_main_cst_21, val_main_v149, val_main_v148, val_main_v147, val_main_v146, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v122]
  simp only [show (h.val * 128 + l.val) % 128 = l.val from by omega]
  exact (dif_pos (by omega)).trans ((dif_pos (by omega)).trans ((congrArg₂ (fun x y : EReal => x + y) (dif_neg (by omega)) (dif_pos (by omega))).trans (zero_add _)))

/-- The second result's next 32 lanes of a head. -/
theorem v154_b (i : Fin 4096) (h : Fin 8) (l : Fin 32) :
    (val_main_v154 (F := Ideal) x0 x1 x2 x3 x4 : S4096x1024.Idx → EReal) (ix2 i ⟨h.val * 128 + (32 + l.val), by omega⟩)
      = val_main_v121 (F := Ideal) x0 x1 x2 x3 x4 (ix3 h i ⟨128 + (32 + l.val), by omega⟩) * hCos x3 (ix2 i l)
        + -val_main_v121 (F := Ideal) x0 x1 x2 x3 x4 (ix3 h i ⟨128 + l.val, by omega⟩) * hSin x3 (ix2 i l) := by
  rw [← cos_q, ← sin_q]
  pointwise [val_main_v154, val_main_v47, val_main_v49, val_main_cst_17, val_main_cst_18, val_main_cst_19, val_main_cst_20, val_main_cst_21, val_main_v149, val_main_v148, val_main_v147, val_main_v146, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v122]
  simp only [show (h.val * 128 + (32 + l.val)) % 128 = 32 + l.val from by omega, show 32 + l.val - 32 = l.val from by omega]
  exact (dif_pos (by omega)).trans ((dif_pos (by omega)).trans ((congrArg₂ (fun x y : EReal => x + y) (dif_pos (by omega)) (dif_neg (by omega))).trans (add_zero _)))

/-- The second result's last 64 lanes of a head. -/
theorem v154_c (i : Fin 4096) (h : Fin 8) (l : Fin 64) :
    (val_main_v154 (F := Ideal) x0 x1 x2 x3 x4 : S4096x1024.Idx → EReal) (ix2 i ⟨h.val * 128 + (64 + l.val), by omega⟩) = 0 := by
  pointwise [val_main_v154, val_main_v47, val_main_v49, val_main_cst_17, val_main_cst_18, val_main_cst_19, val_main_cst_20, val_main_cst_21, val_main_v149, val_main_v148, val_main_v147, val_main_v146, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v122]
  rw [dif_neg (by omega)]

/-- The third result. -/
theorem v155_at (j : Fin 4096) (h : Fin 8) (l : Fin 256) :
    (val_main_v155 (F := Ideal) x0 x1 x2 x3 x4 : S4096x2048.Idx → EReal) (ix2 j ⟨h.val * 256 + l.val, by omega⟩) = if h1 : l.val < 128 then val_main_v119 (F := Ideal) x0 x1 x2 x3 x4 (ix3 h j ⟨l.val, by omega⟩) else val_main_v103 (F := Ideal) x0 x1 x2 x3 x4 (ix3 h ⟨l.val - 128, by omega⟩ j) := by
  pointwise [val_main_v155, val_main_v152, val_main_v151, val_main_v150, val_main_v120, val_main_v104]

/-- The fourth result. -/
theorem v158_at (h : Fin 8) (j : Fin 4096) (l : Fin 64) :
    (val_main_v158 (F := Ideal) x0 x1 x2 x3 x4 : S8x4096x64.Idx → EReal) (ix3 h j l) = val_main_v119 (F := Ideal) x0 x1 x2 x3 x4 (ix3 h j ⟨128 + l.val, by omega⟩) := by
  pointwise [val_main_v158, val_main_v157, val_main_v156, val_main_v120]
end ref
end Cert.Proof.Mla
end
-- ==== Proof.MlaRef2.lean ====
module

public import proofs.«01_k».proof.Defs
public import proofs.«01_k».proof.Proof.Gen.MlaIdeal.Value
public import Idealize.ShloMosaic.Lib.Pipeline.ValueKit
public import proofs.«01_k».proof.Proof.MlaRef

@[expose] public section

set_option maxRecDepth 16384

noncomputable section

namespace Cert.Proof.Mla

open Idealize.ShloMosaic Idealize.ShloMosaic.TcCoe Idealize.SL.Sem
open Cert.MlaRefIdeal Cert.MlaRefIdeal.Gen Cert.MlaRefIdeal.Read
open Cert.Proof.Reals

/-- The reciprocal of the root of 192. -/
theorem inv_root : Ideal.div 1 (Ideal.sqrt (Ideal.ofBits FTy.f32 1128267776#32)) = (((Real.sqrt 192)⁻¹ : ℝ) : EReal) := by
  rw [show (Ideal.ofBits FTy.f32 1128267776#32 : EReal) = ((192 : ℝ) : EReal) from by simp [Ideal.ofBits, Ideal.ieee, -EReal.coe_mul]; norm_num,
    sqrt_real _ (by norm_num), ← EReal.coe_one, div_real _ _ root_ne, one_div]

/-- A softmax row's gradient, from its exponentials `e`, their sum and the cotangents `d`. -/
theorem row_grad {n : ℕ} (e d : Fin n → ℝ) (L r : ℝ) (hL : L ≠ 0) (j : Fin n) :
    (Ideal.div ((d j : ℝ) : EReal) (L : EReal) + ∑ _u : Fin 1, -∑ x, ((d x : ℝ) : EReal) * Ideal.div 1 ((L : EReal) * (L : EReal)) * ((e x : ℝ) : EReal))
        * ((e j : ℝ) : EReal) * (r : EReal)
      = ((e j / L * (d j - ∑ x, e x / L * d x) * r : ℝ) : EReal) := by
  have h1 : Ideal.div 1 ((L : EReal) * (L : EReal)) = ((1 / (L * L) : ℝ) : EReal) := by
    rw [← EReal.coe_mul, ← EReal.coe_one, div_real _ _ (mul_ne_zero hL hL)]
  rw [h1, div_real _ _ hL, Fin.sum_univ_one]
  simp only [← EReal.coe_mul]
  rw [sum_coe, ← EReal.coe_neg, ← EReal.coe_add, ← EReal.coe_mul, ← EReal.coe_mul]
  congr 1
  have h2 : ∑ x, d x * (1 / (L * L)) * e x = (∑ x, e x / L * d x) / L := by
    rw [Finset.sum_div]
    exact Finset.sum_congr rfl fun x _ => by field_simp
  rw [h2]
  field_simp
  ring

section ref
variable (q : S4096x1536.Idx → ℝ) (kv : S4096x2048.Idx → ℝ) (kr : S4096x64.Idx → ℝ) (ct : S4096x1024.Idx → ℝ) (C S : Fin 4096 → Fin 32 → ℝ)
variable (x0 : FVec Ideal S4096x1536 .f32) (x1 : FVec Ideal S4096x2048 .f32) (x2 : FVec Ideal S4096x64 .f32) (x3 : IVec S4096 32) (x4 : FVec Ideal S4096x1024 .f32)

/-- The reference's arguments are real, and so are the cosines and the sines. -/
structure Known : Prop where
  q_at : ∀ x, x0 x = ((q x : ℝ) : EReal)
  kv_at : ∀ x, x1 x = ((kv x : ℝ) : EReal)
  kr_at : ∀ x, x2 x = ((kr x : ℝ) : EReal)
  ct_at : ∀ x, x4 x = ((ct x : ℝ) : EReal)
  cos_at : ∀ i l, hCos x3 (ix2 i l) = ((C i l : ℝ) : EReal)
  sin_at : ∀ i l, hSin x3 (ix2 i l) = ((S i l : ℝ) : EReal)

variable (g : Known q kv kr ct C S x0 x1 x2 x3 x4)
include g

/-- The rotated queries over the reals. -/
theorem v63_real (i : Fin 4096) (h : Fin 8) (d : Fin 192) : val_main_v63 (F := Ideal) x0 x3 (ix3 i h d) = ((rq q C S h i d : ℝ) : EReal) := by
  rw [v63_at, rq]
  by_cases h1 : d.val < 128
  · rw [dif_pos h1, dif_pos h1, g.q_at]
  by_cases h2 : d.val < 160
  · rw [dif_neg h1, dif_neg h1, dif_pos (by omega), dif_pos h2, g.q_at, g.q_at, g.cos_at, g.sin_at, ← EReal.coe_mul, ← EReal.coe_mul, ← EReal.coe_sub]
    simp only [show 128 + (d.val - 128) = d.val from by omega, show 128 + (32 + (d.val - 128)) = d.val + 32 from by omega]
  · rw [dif_neg h1, dif_neg h1, dif_neg (by omega), dif_neg h2, g.q_at, g.q_at, g.cos_at, g.sin_at, ← EReal.coe_mul, ← EReal.coe_mul, ← EReal.coe_add]
    simp only [show 128 + (32 + (d.val - 160)) = d.val from by omega, show 128 + (d.val - 160) = d.val - 32 from by omega,
      show d.val - 128 - 32 = d.val - 160 from by omega]

/-- The rotated keys over the reals. -/
theorem v30_real (j : Fin 4096) (h : Fin 8) (d : Fin 192) : val_main_v30 (F := Ideal) x1 x2 x3 (ix3 j h d) = ((rk kv kr C S h j d : ℝ) : EReal) := by
  rw [v30_at, rk]
  by_cases h1 : d.val < 128
  · rw [dif_pos h1, dif_pos h1, g.kv_at]
  by_cases h2 : d.val < 160
  · rw [dif_neg h1, dif_neg h1, dif_pos (by omega), dif_pos h2, g.kr_at, g.kr_at, g.cos_at, g.sin_at, ← EReal.coe_mul, ← EReal.coe_mul, ← EReal.coe_sub]
    simp only [show 32 + (d.val - 128) = d.val - 128 + 32 from by omega]
  · rw [dif_neg h1, dif_neg h1, dif_neg (by omega), dif_neg h2, g.kr_at, g.kr_at, g.cos_at, g.sin_at, ← EReal.coe_mul, ← EReal.coe_mul, ← EReal.coe_add]
    simp only [show 32 + (d.val - 160) = d.val - 128 from by omega, show d.val - 128 - 32 = d.val - 160 from by omega]

/-- The scores over the reals. -/
theorem v68_real (h : Fin 8) (i j : Fin 4096) : val_main_v68 (F := Ideal) x0 x1 x2 x3 (ix3 h i j) = ((rt q kv kr C S h i j : ℝ) : EReal) := by
  rw [v68_at, inv_root, prod_real _ _ _ _ (fun d => v63_real q kv kr ct C S x0 x1 x2 x3 x4 g i h d) (fun d => v30_real q kv kr ct C S x0 x1 x2 x3 x4 g j h d),
    ← EReal.coe_mul]
  rfl

/-- The row maxima are real. -/
theorem v87_real : ∃ M : Fin 8 → Fin 4096 → ℝ, ∀ h i j, val_main_v87 (F := Ideal) x0 x1 x2 x3 (ix3 h i j) = ((M h i : ℝ) : EReal) := by
  obtain ⟨M, hM'⟩ := m_real (val_main_v68 (F := Ideal) x0 x1 x2 x3) (fun h i j => rt q kv kr C S h i j * Real.log 2)
    (fun h i j => (v68_real q kv kr ct C S x0 x1 x2 x3 x4 g h i j).trans (congrArg _ (mul_div_cancel_right₀ _ ln_ne).symm))
  refine ⟨M, fun h i j => ?_⟩
  rw [v87_at, hM', show (Ideal.ofBits FTy.f32 4286578688#32 : EReal) = ⊥ from by simp [Ideal.ofBits, Ideal.ieee]]
  exact max_eq_right bot_le

variable (M : Fin 8 → Fin 4096 → ℝ) (hM' : ∀ h i j, val_main_v87 (F := Ideal) x0 x1 x2 x3 (ix3 h i j) = ((M h i : ℝ) : EReal))
include hM'

/-- The exponentials over the reals. -/
theorem v89_real (h : Fin 8) (i j : Fin 4096) : val_main_v89 (F := Ideal) x0 x1 x2 x3 (ix3 h i j) = ((Real.exp (rt q kv kr C S h i j - M h i) : ℝ) : EReal) := by
  rw [v89_at, hM', v68_real q kv kr ct C S x0 x1 x2 x3 x4 g, ← EReal.coe_sub, exp_real]

/-- The row sums over the reals. -/
theorem v91_real (h : Fin 8) (i : Fin 4096) :
    val_main_v91 (F := Ideal) x0 x1 x2 x3 (ix3 h i (0 : Fin 1)) = ((∑ j, Real.exp (rt q kv kr C S h i j - M h i) : ℝ) : EReal) := by
  rw [v91_at]
  exact (Finset.sum_congr rfl fun j _ => v89_real q kv kr ct C S x0 x1 x2 x3 x4 g M hM' h i j).trans (sum_coe _ _)

/-- The probabilities over the reals. -/
theorem v93_real (h : Fin 8) (i j : Fin 4096) : val_main_v93 (F := Ideal) x0 x1 x2 x3 (ix3 h i j) = ((rp q kv kr C S h i j : ℝ) : EReal) := by
  rw [v93_at, v89_real q kv kr ct C S x0 x1 x2 x3 x4 g M hM', v91_real q kv kr ct C S x0 x1 x2 x3 x4 g M hM', div_real _ _ (sum_exp_pos _).ne',
    prob_shift]
  rfl

omit hM' in
/-- The cotangent's products with the value rows over the reals. -/
theorem v102_real (h : Fin 8) (i j : Fin 4096) : val_main_v102 (F := Ideal) x1 x4 (ix3 h i j) = ((rdp kv ct h i j : ℝ) : EReal) := by
  rw [v102_at, prod_real _ _ _ _ (fun e => g.ct_at _) (fun e => g.kv_at _), rdp]
  simp only [← Nat.add_assoc]

/-- The score gradients over the reals. -/
theorem v118_real (h : Fin 8) (i j : Fin 4096) :
    val_main_v118 (F := Ideal) x0 x1 x2 x3 x4 (ix3 h i j) = ((rs q kv kr ct C S h i j * (Real.sqrt 192)⁻¹ : ℝ) : EReal) := by
  rw [v118_at]
  simp only [v89_real q kv kr ct C S x0 x1 x2 x3 x4 g M hM', v91_real q kv kr ct C S x0 x1 x2 x3 x4 g M hM', v102_real q kv kr ct C S x0 x1 x2 x3 x4 g, inv_root]
  refine (row_grad (fun k => Real.exp (rt q kv kr C S h i k - M h i)) (rdp kv ct h i) _ _ (sum_exp_pos _).ne' j).trans ?_
  simp only [prob_shift]
  rfl

/-- The gradient of the rotated keys over the reals. -/
theorem v119_real (h : Fin 8) (j : Fin 4096) (d : Fin 192) :
    val_main_v119 (F := Ideal) x0 x1 x2 x3 x4 (ix3 h j d) = ((rdk q kv kr ct C S h j d : ℝ) : EReal) := by
  rw [v119_at]
  exact prod_real _ _ _ _ (fun i => v118_real q kv kr ct C S x0 x1 x2 x3 x4 g M hM' h i j) (fun i => v63_real q kv kr ct C S x0 x1 x2 x3 x4 g i h d)

/-- The gradient of the rotated queries over the reals. -/
theorem v121_real (h : Fin 8) (i : Fin 4096) (d : Fin 192) :
    val_main_v121 (F := Ideal) x0 x1 x2 x3 x4 (ix3 h i d) = ((rdq q kv kr ct C S h i d : ℝ) : EReal) := by
  rw [v121_at]
  exact prod_real _ _ _ _ (fun j => v118_real q kv kr ct C S x0 x1 x2 x3 x4 g M hM' h i j) (fun j => v30_real q kv kr ct C S x0 x1 x2 x3 x4 g j h d)

/-- The gradient of the values over the reals. -/
theorem v103_real (h : Fin 8) (e : Fin 128) (j : Fin 4096) :
    val_main_v103 (F := Ideal) x0 x1 x2 x3 x4 (ix3 h e j) = ((rdv q kv kr ct C S h j e : ℝ) : EReal) := by
  rw [v103_at, prod_real _ _ _ _ (fun i => g.ct_at _) (fun i => v93_real q kv kr ct C S x0 x1 x2 x3 x4 g M hM' h i j), rdv]
  congr 1
  exact Finset.sum_congr rfl fun i _ => mul_comm _ _

end ref
end Cert.Proof.Mla
end
-- ==== Proof.Mla.lean ====
module

public import proofs.«01_k».proof.Defs
public import proofs.«01_k».proof.Proof.Gen.MlaIdeal.Value
public import Idealize.ShloMosaic.Lib.Pipeline.ValueKit
public import proofs.«01_k».proof.Proof.Gen.Pre_mla_finite
public import proofs.«01_k».proof.Proof.Gen.MlaRefIdeal.Run
public import proofs.«01_k».proof.Proof.MlaVal
public import proofs.«01_k».proof.Proof.MlaRef2

@[expose] public section

set_option maxRecDepth 16384

noncomputable section

namespace Cert.Proof.Mla

open Idealize.ShloMosaic Idealize.ShloMosaic.TcCoe Idealize.SL.Sem
open Cert.MlaIdeal Cert.MlaIdeal.Gen
open Cert.MlaRefIdeal.Read (val_main_v87 val_main_v121 val_main_v153 val_main_v154 val_main_v155 val_main_v158)
open Cert.Proof.Reals

/-- What the precondition says of the call's arguments: they are real. -/
theorem args_real (a0 : FVec Ideal S4096x1536 .f32) (a1 : FVec Ideal S4096x2048 .f32) (a2 : FVec Ideal S4096x64 .f32) (a3 : IVec S4096 32) (a4 : FVec Ideal S4096x1024 .f32)
    (h : (Cert.Pre_mla_finite.fn (F := Ideal) a0 a1 a2 a3 a4).1 = (fun _ => 1#1) ∧ (Cert.Pre_mla_finite.fn (F := Ideal) a0 a1 a2 a3 a4).2.1 = (fun _ => 1#1)
      ∧ (Cert.Pre_mla_finite.fn (F := Ideal) a0 a1 a2 a3 a4).2.2.1 = (fun _ => 1#1) ∧ (Cert.Pre_mla_finite.fn (F := Ideal) a0 a1 a2 a3 a4).2.2.2 = (fun _ => 1#1)) :
    ∃ (q : S4096x1536.Idx → ℝ) (kv : S4096x2048.Idx → ℝ) (kr : S4096x64.Idx → ℝ) (ct : S4096x1024.Idx → ℝ) (C S : Fin 4096 → Fin 32 → ℝ),
      Known q kv kr ct C S a0 a1 a2 a3 a4 := by
  obtain ⟨h0, h1, h2, h3⟩ := h
  obtain ⟨q, hq⟩ := arr_real a0 _ (fun _ => inf_word) h0
  obtain ⟨kv, hkv⟩ := arr_real a1 _ (fun _ => inf_word) h1
  obtain ⟨kr, hkr⟩ := arr_real a2 _ (fun _ => inf_word) h2
  obtain ⟨ct, hct⟩ := arr_real a4 _ (fun _ => inf_word) h3
  obtain ⟨C, S, hC, hS⟩ := turn_real a3
  exact ⟨q, kv, kr, ct, C, S, fun x => congrFun hq x, fun x => congrFun hkv x, fun x => congrFun hkr x, fun x => congrFun hct x, hC, hS⟩

/-- The padded cosines of the first 32 lanes. -/
theorem cosP_a (p : IVec S4096 32) (i : Fin 4096) (l : Fin 32) : hCosP p (ix2 i ⟨l.val, by omega⟩) = hCos p (ix2 i l) := by
  pointwise [hCosP]

/-- The padded cosines of the next 32 lanes. -/
theorem cosP_b (p : IVec S4096 32) (i : Fin 4096) (l : Fin 32) : hCosP p (ix2 i ⟨32 + l.val, by omega⟩) = hCos p (ix2 i l) := by
  pointwise [hCosP]

/-- The padded sines of the first 32 lanes. -/
theorem sinB_a (p : IVec S4096 32) (i : Fin 4096) (l : Fin 32) : hSinB p (ix2 i ⟨l.val, by omega⟩) = hSin p (ix2 i l) := by
  pointwise [hSinB]

/-- The padded sines of the next 32 lanes. -/
theorem sinB_b (p : IVec S4096 32) (i : Fin 4096) (l : Fin 32) : hSinB p (ix2 i ⟨32 + l.val, by omega⟩) = -hSin p (ix2 i l) := by
  pointwise [hSinB]

/-- The padded sines of the last 64 lanes. -/
theorem sinB_c (p : IVec S4096 32) (i : Fin 4096) (l : Fin 64) : hSinB p (ix2 i ⟨64 + l.val, by omega⟩) = 0 := by
  pointwise [hSinB]
  rw [dif_neg (by omega), dif_neg (by omega)]

/-- The source of a lane among the first 32. -/
theorem turn_a (l : Fin 32) : turn ⟨l.val, by omega⟩ = ⟨128 + (32 + l.val), by omega⟩ := by
  rw [turn, if_pos l.isLt]
  exact Fin.ext (by show 128 + (l.val + 32) % 128 = 128 + (32 + l.val); omega)

/-- The source of a lane among the next 32. -/
theorem turn_b (l : Fin 32) : turn ⟨32 + l.val, by omega⟩ = ⟨128 + l.val, by omega⟩ := by
  rw [turn, if_neg (by show ¬ 32 + l.val < 32; omega)]
  exact Fin.ext (by show 128 + (32 + l.val + 96) % 128 = 128 + l.val; omega)

/-- Every lane of a row lies in one head. -/
theorem lane_a (j : S4096x1024.Idx) : ∃ (i : Fin 4096) (h : Fin 8) (l : Fin 128), j = ix2 i ⟨h.val * 128 + l.val, by omega⟩ := by
  have hj : (j 1).val < 1024 := (j 1).isLt
  exact ⟨j 0, ⟨(j 1).val / 128, by omega⟩, ⟨(j 1).val % 128, by omega⟩, by idx_ext <;> first | rfl | omega⟩

/-- Every lane of a row lies in one head. -/
theorem lane_b (j : S4096x2048.Idx) : ∃ (i : Fin 4096) (h : Fin 8) (l : Fin 256), j = ix2 i ⟨h.val * 256 + l.val, by omega⟩ := by
  have hj : (j 1).val < 2048 := (j 1).isLt
  exact ⟨j 0, ⟨(j 1).val / 256, by omega⟩, ⟨(j 1).val % 256, by omega⟩, by idx_ext <;> first | rfl | omega⟩

section both
variable (m : (ℓ : Loc nD τ sig) → Buf (Elt Ideal) ℓ) (c : Dev nD)
variable (q : S4096x1536.Idx → ℝ) (kv : S4096x2048.Idx → ℝ) (kr : S4096x64.Idx → ℝ) (ct : S4096x1024.Idx → ℝ) (C S : Fin 4096 → Fin 32 → ℝ)
variable (x0 : FVec Ideal S4096x1536 .f32) (x1 : FVec Ideal S4096x2048 .f32) (x2 : FVec Ideal S4096x64 .f32) (x3 : IVec S4096 32) (x4 : FVec Ideal S4096x1024 .f32)
variable (k : Known q kv kr ct C S x0 x1 x2 x3 x4) (g : Given m c q kv kr ct C S)
  (M : Fin 8 → Fin 4096 → ℝ) (hM' : ∀ h i j, val_main_v87 (F := Ideal) x0 x1 x2 x3 (ix3 h i j) = ((M h i : ℝ) : EReal))
include k g hM'

/-- The gradients of the queries' own lanes agree. -/
theorem res0 : heads (G8 m c) = (val_main_v153 (F := Ideal) x0 x1 x2 x3 x4 : S4096x1024.Idx → EReal) := by
  funext j
  obtain ⟨i, h, l, rfl⟩ := lane_a j
  refine (heads_at (G8 m c) _ h i l rfl rfl).trans ?_
  refine Eq.trans ?_ ((v153_at x0 x1 x2 x3 x4 i h l).trans (v121_real q kv kr ct C S x0 x1 x2 x3 x4 k M hM' h i ⟨l.val, by omega⟩)).symm
  exact (sumQ_real m c q kv kr ct C S g h i ⟨l.val, by omega⟩).trans (congrArg _ (dif_pos (by show l.val < 192; omega)))

/-- The gradients of the queries' rotary lanes agree. -/
theorem res1 (hx : m ((c : Thread nD τ).loc main_arg3) = x3) : heads (G9 m c) = (val_main_v154 (F := Ideal) x0 x1 x2 x3 x4 : S4096x1024.Idx → EReal) := by
  funext j
  obtain ⟨i, h, l, rfl⟩ := lane_a j
  refine (heads_at (G9 m c) _ h i l rfl rfl).trans ?_
  have hs : ∀ d : Fin 192, sumQ m c h i ⟨d.val, by omega⟩ * scl = val_main_v121 (F := Ideal) x0 x1 x2 x3 x4 (ix3 h i d) := fun d =>
    (sumQ_real m c q kv kr ct C S g h i ⟨d.val, by omega⟩).trans ((congrArg _ (dif_pos d.isLt)).trans
      (v121_real q kv kr ct C S x0 x1 x2 x3 x4 k M hM' h i d).symm)
  unfold G9
  rw [cos_found, sin_found]
  obtain ⟨l, hl⟩ := l
  by_cases h1 : l < 32
  · refine Eq.trans ?_ (v154_a x0 x1 x2 x3 x4 i h ⟨l, h1⟩).symm
    rw [turn_a ⟨l, h1⟩, cosP_a _ _ ⟨l, h1⟩, sinB_a _ _ ⟨l, h1⟩, hs ⟨128 + l, by omega⟩, hs ⟨128 + (32 + l), by omega⟩, hx, add_comm]
  by_cases h2 : l < 64
  · obtain ⟨l, rfl⟩ : ∃ l', l = 32 + l' := ⟨l - 32, by omega⟩
    have h3 : l < 32 := by omega
    refine Eq.trans ?_ (v154_b x0 x1 x2 x3 x4 i h ⟨l, h3⟩).symm
    rw [turn_b ⟨l, h3⟩, cosP_b _ _ ⟨l, h3⟩, sinB_b _ _ ⟨l, h3⟩, hs ⟨128 + l, by omega⟩, hs ⟨128 + (32 + l), by omega⟩, hx, mul_neg, EReal.neg_mul]
  · obtain ⟨l, rfl⟩ : ∃ l', l = 64 + l' := ⟨l - 64, by omega⟩
    have h3 : l < 64 := by omega
    refine Eq.trans ?_ (v154_c x0 x1 x2 x3 x4 i h ⟨l, h3⟩).symm
    have h0 : sumQ m c h i ⟨128 + (64 + l), by omega⟩ * scl = 0 :=
      (sumQ_real m c q kv kr ct C S g h i _).trans ((congrArg _ (dif_neg (by show ¬ 128 + (64 + l) < 192; omega))).trans EReal.coe_zero)
    rw [sinB_c _ _ ⟨l, h3⟩, h0, zero_mul, mul_zero, add_zero]

/-- The gradients of the keys' own lanes and of the values agree. -/
theorem res2 : heads2 (G10 m c) = (val_main_v155 (F := Ideal) x0 x1 x2 x3 x4 : S4096x2048.Idx → EReal) := by
  funext j
  obtain ⟨i, h, l, rfl⟩ := lane_b j
  refine (heads2_at (G10 m c) _ h i l rfl rfl).trans ?_
  refine Eq.trans ?_ (v155_at x0 x1 x2 x3 x4 i h l).symm
  unfold G10
  by_cases hl : l.val < 128
  · rw [dif_pos hl, dif_pos hl, v119_real q kv kr ct C S x0 x1 x2 x3 x4 k M hM']
    exact sumK_real m c q kv kr ct C S g h i ⟨l.val, by omega⟩
  · rw [dif_neg hl, dif_neg hl, v103_real q kv kr ct C S x0 x1 x2 x3 x4 k M hM']
    exact sumV_real m c q kv kr ct C S g h i ⟨l.val - 128, by omega⟩

/-- The gradients of the shared keys, head by head, agree. -/
theorem res3 : G11 m c = (val_main_v158 (F := Ideal) x0 x1 x2 x3 x4 : S8x4096x64.Idx → EReal) := by
  funext j
  obtain ⟨a, b, d, rfl⟩ : ∃ (a : Fin 8) (b : Fin 4096) (d : Fin 64), j = ix3 a b d := ⟨j 0, j 1, j 2, by idx_ext⟩
  refine Eq.trans ?_ ((v158_at x0 x1 x2 x3 x4 a b d).trans (v119_real q kv kr ct C S x0 x1 x2 x3 x4 k M hM' a b ⟨128 + d.val, by omega⟩)).symm
  exact sumK_real m c q kv kr ct C S g a b ⟨128 + d.val, by omega⟩

end both

/-- The call and the derivative of the reference's attention agree. -/
theorem equal : Cert.algebraic_MlaIdeal_MlaRefIdeal_pre_mla_finite := by
  intro m ρ m' ρ' hp hag
  refine ⟨fun c => heads (G8 m c), fun c => heads (G9 m c), fun c => heads2 (G10 m c), fun c => G11 m c, ?_, ?_⟩
  · refine (θ_run _ _ _).mono (fun r h c => ?_) (Cert.MlaIdeal.Value.run_blocks m ρ)
    obtain ⟨h0, h1, h2, h3, ha⟩ := h c
    exact ⟨h0.trans (arr8 m c), h1.trans (arr9 m c), h2.trans (arr10 m c), h3.trans (arr11 m c), ha⟩
  · refine (θ_run _ _ _).mono (fun r h c => ?_) (Cert.MlaRefIdeal.Value.run m' ρ')
    obtain ⟨h0, h1, h2, h3, ha⟩ := h c
    obtain ⟨g0, g1, g2, g3, g4⟩ := hag c
    obtain ⟨q, kv, kr, ct, C, S, k⟩ := args_real _ _ _ _ _ (hp c)
    obtain ⟨M, hM'⟩ := v87_real q kv kr ct C S _ _ _ _ _ k
    have g : Given m c q kv kr ct C S := ⟨funext k.q_at, funext k.kv_at, funext k.kr_at, funext k.ct_at, k.cos_at, k.sin_at⟩
    refine ⟨?_, ?_, ?_, ?_, ha⟩
    · exact (h0.trans (Cert.MlaRefIdeal.Read.val_main_v153_eq _)).trans ((congr (congr (congr (congr (congrArg (val_main_v153 (F := Ideal)) g0) g1) g2) g3) g4).trans
        (res0 m c q kv kr ct C S _ _ _ _ _ k g M hM').symm)
    · exact (h1.trans (Cert.MlaRefIdeal.Read.val_main_v154_eq _)).trans ((congr (congr (congr (congr (congrArg (val_main_v154 (F := Ideal)) g0) g1) g2) g3) g4).trans
        (res1 m c q kv kr ct C S _ _ _ _ _ k g M hM' rfl).symm)
    · exact (h2.trans (Cert.MlaRefIdeal.Read.val_main_v155_eq _)).trans ((congr (congr (congr (congr (congrArg (val_main_v155 (F := Ideal)) g0) g1) g2) g3) g4).trans
        (res2 m c q kv kr ct C S _ _ _ _ _ k g M hM').symm)
    · exact (h3.trans (Cert.MlaRefIdeal.Read.val_main_v158_eq _)).trans ((congr (congr (congr (congr (congrArg (val_main_v158 (F := Ideal)) g0) g1) g2) g3) g4).trans
        (res3 m c q kv kr ct C S _ _ _ _ _ k g M hM').symm)

end Cert.Proof.Mla
end
-- ==== Proof.Rms.lean ====
module

public import Idealize.ShloMosaic.Lib.Pipeline.ValueKit
public import proofs.«01_k».proof.Proof.Reals

@[expose] public section

noncomputable section

namespace Cert.Proof.Rms

open Idealize.ShloMosaic Cert.Proof.Reals

/-- The mean square of a row plus the small constant. -/
def msq {n : ℕ} (X : Fin n → EReal) (w e : EReal) : EReal := Ideal.div (∑ k, X k * X k) w + e

/-- The factor a row is normalised with. -/
def inv {n : ℕ} (X : Fin n → EReal) (w e : EReal) : EReal := Ideal.rsqrt (msq X w e)

/-- The gradient of a normalised row as it is written by hand: the row's own component is taken off. -/
def byHand {n : ℕ} (X G D : Fin n → EReal) (w e : EReal) (j : Fin n) : EReal :=
  inv X w e * (D j * G j - X j * inv X w e * Ideal.div (∑ k, D k * G k * (X k * inv X w e)) w)

/-- What differentiating the factor gives a row: half of the change of each square. -/
def factor {n : ℕ} (X G D : Fin n → EReal) (w e h : EReal) : EReal :=
  Ideal.div ((∑ k, X k * (D k * G k)) * (h * Ideal.div (inv X w e) (msq X w e))) w

/-- The mean square of a real row is a positive real number, and the factor is the inverse of its root. -/
theorem inv_real {n : ℕ} (hn : 0 < n) (x : Fin n → ℝ) (w e : EReal) (ε : ℝ) (hε : 0 < ε) (hw : w = ((n : ℝ) : EReal)) (he : e = (ε : EReal)) :
    ∃ M R : ℝ, 0 < M ∧ msq (fun k => (x k : EReal)) w e = (M : EReal) ∧ inv (fun k => (x k : EReal)) w e = (R : EReal) ∧ R * R = M⁻¹ := by
  have np : (0 : ℝ) < n := by exact_mod_cast hn
  obtain ⟨M, hM⟩ : ∃ M : ℝ, M = (∑ k, x k * x k) / n + ε := ⟨_, rfl⟩
  have M0 : 0 < M := by
    rw [hM]
    have : 0 ≤ (∑ k, x k * x k) / (n : ℝ) := div_nonneg (Finset.sum_nonneg fun k _ => mul_self_nonneg _) np.le
    linarith
  have em : msq (fun k => (x k : EReal)) w e = (M : EReal) := by
    unfold msq
    simp only [← EReal.coe_mul]
    rw [sum_coe, hw, he, div_real _ _ np.ne', ← EReal.coe_add, hM]
  refine ⟨M, (Real.sqrt M)⁻¹, M0, em, ?_, ?_⟩
  · unfold inv
    rw [em, rsqrt_real _ M0]
  · rw [← mul_inv, Real.mul_self_sqrt M0.le]

/-- Both ways to write the gradient of a normalised row agree on real rows. -/
theorem byHand_add {n : ℕ} (hn : 0 < n) (x g d : Fin n → ℝ) (w e h res : EReal) (ε : ℝ) (hε : 0 < ε)
    (hw : w = ((n : ℝ) : EReal)) (he : e = (ε : EReal)) (hh : h = ((-(1 / 2) : ℝ) : EReal)) (X G D : Fin n → EReal)
    (hX : ∀ k, X k = (x k : EReal)) (hG : ∀ k, G k = (g k : EReal)) (hD : ∀ k, D k = (d k : EReal)) (j : Fin n) :
    byHand X G D w e j + res = res + D j * G j * inv X w e + X j * factor X G D w e h + X j * factor X G D w e h := by
  obtain rfl : X = fun k => (x k : EReal) := funext hX
  obtain rfl : G = fun k => (g k : EReal) := funext hG
  obtain rfl : D = fun k => (d k : EReal) := funext hD
  have n0 : (n : ℝ) ≠ 0 := by exact_mod_cast hn.ne'
  obtain ⟨M, R, M0, em, ei, RR⟩ := inv_real hn x w e ε hε hw he
  have e1 : (∑ k, d k * g k * (x k * R)) = (∑ k, x k * (d k * g k)) * R := by
    rw [Finset.sum_mul]
    exact Finset.sum_congr rfl fun k _ => by ring
  have eh : byHand (fun k => (x k : EReal)) (fun k => (g k : EReal)) (fun k => (d k : EReal)) w e j
      = ((R * (d j * g j - x j * R * (((∑ k, x k * (d k * g k)) * R) / n)) : ℝ) : EReal) := by
    unfold byHand
    simp only [ei, ← EReal.coe_mul]
    rw [sum_coe, hw, div_real _ _ n0, e1, ← EReal.coe_mul, ← EReal.coe_sub, ← EReal.coe_mul]
  have ef : factor (fun k => (x k : EReal)) (fun k => (g k : EReal)) (fun k => (d k : EReal)) w e h
      = (((∑ k, x k * (d k * g k)) * (-(1 / 2) * (R / M)) / n : ℝ) : EReal) := by
    unfold factor
    simp only [ei, em, hh, ← EReal.coe_mul]
    rw [sum_coe, hw, div_real _ _ M0.ne', ← EReal.coe_mul, ← EReal.coe_mul, div_real _ _ n0]
  rw [eh, ef, ei, add_comm, add_assoc, add_assoc]
  refine congrArg (fun z : EReal => res + z) ?_
  simp only [← EReal.coe_mul, ← EReal.coe_add]
  congr 1
  rw [div_eq_mul_inv R M, ← RR]
  field_simp
  ring

/-- The literal one thousand and twenty-four. -/
theorem lit_1024 : (Ideal.ofBits FTy.f32 0x44800000#32 : EReal) = ((1024 : ℕ) : ℝ) := by
  simp [Ideal.ofBits, Ideal.ieee, -EReal.coe_mul]; norm_num

/-- The literal one half, negated. -/
theorem lit_half : (Ideal.ofBits FTy.f32 0xBF000000#32 : EReal) = ((-(1 / 2) : ℝ) : EReal) := by
  simp [Ideal.ofBits, Ideal.ieee, -EReal.coe_mul]; norm_num

/-- The small constant is positive. -/
theorem lit_eps : ∃ ε : ℝ, 0 < ε ∧ (Ideal.ofBits FTy.f32 0x358637BD#32 : EReal) = (ε : EReal) := by
  refine ⟨8796093 * 2 ^ (-43 : ℤ), by positivity, ?_⟩
  simp [Ideal.ofBits, Ideal.ieee, -EReal.coe_mul]

/-- A sum over all rows is the sum over the blocks of rows. -/
theorem sum_blocks {M : Type} [AddCommMonoid M] (a b : ℕ) {n : ℕ} [NeZero n] (f : Fin n → M) (h : n = a * b := by decide) :
    ∑ s : Fin a, ∑ r : Fin b, f ⟨s.val * b + r.val, h ▸ by
      have := s.isLt; have := r.isLt
      calc s.val * b + r.val < s.val * b + b := by omega
        _ = (s.val + 1) * b := by ring
        _ ≤ a * b := Nat.mul_le_mul_right _ (by omega)⟩ = ∑ i, f i := by
  subst h
  rw [← Fintype.sum_prod_type', ← finProdFinEquiv.sum_comp]
  refine Finset.sum_congr rfl fun p _ => congrArg f (Fin.ext ?_)
  simp [finProdFinEquiv]
  ring

end Cert.Proof.Rms
end
-- ==== Proof.Norm2.lean ====
module

public import proofs.«01_k».proof.Defs
public import proofs.«01_k».proof.Proof.Gen.Norm2Ideal.Value
public import proofs.«01_k».proof.Proof.Gen.Norm2RefIdeal.Run
public import proofs.«01_k».proof.Proof.Gen.Norm2RefIdeal.Read
public import Idealize.ShloMosaic.Lib.Pipeline.ValueKit
public import Idealize.ShloMosaic.Lib.Pipeline.ReadBack
public import proofs.«01_k».proof.Proof.Rms

@[expose] public section

set_option maxRecDepth 16384

noncomputable section

namespace Cert.Proof.Norm2

open Idealize.ShloMosaic Idealize.ShloMosaic.TcCoe Idealize.SL.Sem
open Cert.Norm2Ideal Cert.Norm2Ideal.Gen Cert.Proof.Rms

/-- The block's own matrix product, one entry. -/
theorem prod_at (v0 : Vec Ideal S256x2816 .bf16) (v2 : Vec Ideal S2816x1024 .bf16) (v5 : Vec Ideal S256x2816 .bf16) (v7 : Vec Ideal S2816x1024 .bf16)
    (i : Fin 256) (j : Fin 1024) : k0_pay5 (F := Ideal) v0 v2 v5 v7 (ix2 i j)
      = ∑ k : Fin 2816, v0 (ix2 i k) * v2 (ix2 k j) + ∑ k : Fin 2816, v5 (ix2 i k) * v7 (ix2 k j) := by
  pointwise [k0_pay5]

/-- The factor of a row of a block. -/
theorem inv_at (v11 : Vec Ideal S256x1024 .f32) (i : Fin 256) (z : Fin 1) :
    k0_pay6 (F := Ideal) v11 (ix2 i z) = Rms.inv (fun k : Fin 1024 => v11 (ix2 i k)) (Ideal.ofBits FTy.f32 0x44800000#32) (Ideal.ofBits FTy.f32 0x358637BD#32) := by
  unfold Rms.inv msq
  pointwise [k0_pay6]

/-- The normalised row without its gain. -/
theorem hat_at (v11 : Vec Ideal S256x1024 .f32) (i : Fin 256) (j : Fin 1024) :
    k0_pay7 (F := Ideal) v11 (ix2 i j) = v11 (ix2 i j) * k0_pay6 (F := Ideal) v11 (ix2 i 0) := by
  pointwise [k0_pay7]

/-- The block's gradient row before the sum of the branches. -/
theorem dx_at (v0 : Vec Ideal S256x2816 .bf16) (v2 : Vec Ideal S2816x1024 .bf16) (v5 : Vec Ideal S256x2816 .bf16) (v7 : Vec Ideal S2816x1024 .bf16)
    (v11 : Vec Ideal S256x1024 .f32) (v12 : Vec Ideal S1x1024 .f32) (i : Fin 256) (j : Fin 1024) :
    k0_pay8 (F := Ideal) v0 v2 v5 v7 v11 v12 (ix2 i j)
      = byHand (fun k : Fin 1024 => v11 (ix2 i k)) (fun k : Fin 1024 => v12 (ix2 0 k)) (fun k : Fin 1024 => k0_pay5 (F := Ideal) v0 v2 v5 v7 (ix2 i k))
        (Ideal.ofBits FTy.f32 0x44800000#32) (Ideal.ofBits FTy.f32 0x358637BD#32) j := by
  unfold byHand
  simp only [← inv_at v11 i 0]
  pointwise [k0_pay8, k0_pay7]

/-- The whole array of gradients with respect to the normalised rows. -/
def gD (A : Vec Ideal S4096x5632 .f32) (W : Vec Ideal S1024x5632 .f32) (i : Fin 4096) (k : Fin 1024) : EReal :=
  ∑ l : Fin 2816, A (ix2 i ⟨l.val, by omega⟩) * W (ix2 k ⟨l.val, by omega⟩)
    + ∑ l : Fin 2816, A (ix2 i ⟨2816 + l.val, by omega⟩) * W (ix2 k ⟨2816 + l.val, by omega⟩)

section run
variable (m : (ℓ : Loc nD τ sig) → Buf (Elt Ideal) ℓ)

/-- The rows that enter the norm. -/
abbrev aX (c : Dev nD) : Vec Ideal S4096x1024 .f32 := m ((c : Thread nD τ).loc main_arg0)
/-- The gain. -/
abbrev aG (c : Dev nD) : Vec Ideal S1x1024 .f32 := m ((c : Thread nD τ).loc main_arg1)
/-- The projection's weights. -/
abbrev aW (c : Dev nD) : Vec Ideal S1024x5632 .f32 := m ((c : Thread nD τ).loc main_arg2)
/-- The gradient of the projection's result. -/
abbrev aU (c : Dev nD) : Vec Ideal S4096x5632 .f32 := m ((c : Thread nD τ).loc main_arg3)
/-- The gradient that reaches the rows past the norm. -/
abbrev aR (c : Dev nD) : Vec Ideal S4096x1024 .f32 := m ((c : Thread nD τ).loc main_arg4)

/-- The weights as the region finds them. -/
theorem w_at (c : Dev nD) (l : Fin 5632) (k : Fin 1024) : (V m c main_v1 : Vec Ideal S5632x1024 .bf16) (ix2 l k) = aW m c (ix2 k l) := by
  dsimp only [V, hostOps0]
  after_results_simp
  pointwise []

/-- The first half of the gradient as the region finds it. -/
theorem u1_at (c : Dev nD) (i : Fin 4096) (l : Fin 2816) : (V m c main_v3 : Vec Ideal S4096x2816 .bf16) (ix2 i l) = aU m c (ix2 i ⟨l.val, by omega⟩) := by
  dsimp only [V, hostOps0]
  after_results_simp
  pointwise []

/-- The second half of the gradient as the region finds it. -/
theorem u2_at (c : Dev nD) (i : Fin 4096) (l : Fin 2816) : (V m c main_v5 : Vec Ideal S4096x2816 .bf16) (ix2 i l) = aU m c (ix2 i ⟨2816 + l.val, by omega⟩) := by
  dsimp only [V, hostOps0]
  after_results_simp
  pointwise []

/-- The row windows move with the grid point. -/
theorem idx0 : ∀ t : Fin cfg0.N, win0_0.index t = ![t.val, 0] ∧ win0_2.index t = ![t.val, 0] ∧ win0_3.index t = ![t.val, 0]
    ∧ win0_5.index t = ![t.val, 0] ∧ win0_6.index t = ![t.val, 0] ∧ win0_7.index t = ![t.val, 0] :=
  (by decide +kernel : ∀ t : Fin grid0.N, _)

/-- The other windows stay. -/
theorem idx1 : ∀ t : Fin cfg0.N, win0_1.index t = ![0, 0] ∧ win0_4.index t = ![0, 0] ∧ win0_8.index t = ![0, 0] :=
  (by decide +kernel : ∀ t : Fin grid0.N, _)

/-- The block's gradient from its windows. -/
def blkD (c : Dev nD) (t : Fin cfg0.N) : FVec Ideal S256x1024 .f32 := k0_pay5 (F := Ideal) (iblk m c 0 t)
  (View.ld (iblk m c 1 t) (Rect.unit ![0, 0] ![2816, 1024] inb_S5632x1024_S2816x1024_0_0)) (iblk m c 2 t)
  (View.ld (iblk m c 1 t) (Rect.unit ![2816, 0] ![2816, 1024] inb_S5632x1024_S2816x1024_2816_0))

/-- The block of the gradient's first half. -/
theorem u1_blk (c : Dev nD) (t : Fin cfg0.N) (i : Fin 4096) (r : Fin 256) (l : Fin 2816) (hi : i.val = t.val * 256 + r.val) :
    iblk m c 0 t (ix2 r l) = V m c main_v3 (ix2 i l) := by
  blk_simp [iblk]
  refine congrArg _ ?_
  blk_ext [(idx0 t).1, hi]

/-- The block of the gradient's second half. -/
theorem u2_blk (c : Dev nD) (t : Fin cfg0.N) (i : Fin 4096) (r : Fin 256) (l : Fin 2816) (hi : i.val = t.val * 256 + r.val) :
    iblk m c 2 t (ix2 r l) = V m c main_v5 (ix2 i l) := by
  blk_simp [iblk]
  refine congrArg _ ?_
  blk_ext [(idx0 t).2.1, hi]

/-- The block of the rows. -/
theorem x_blk (c : Dev nD) (t : Fin cfg0.N) (i : Fin 4096) (r : Fin 256) (k : Fin 1024) (hi : i.val = t.val * 256 + r.val) :
    iblk m c 3 t (ix2 r k) = aX m c (ix2 i k) := by
  refine Eq.trans ?_ (congrFun (V_main_arg0 m c) (ix2 i k))
  blk_simp [iblk]
  refine congrArg _ ?_
  blk_ext [(idx0 t).2.2.1, hi]

/-- The block of the gradient past the norm. -/
theorem r_blk (c : Dev nD) (t : Fin cfg0.N) (i : Fin 4096) (r : Fin 256) (k : Fin 1024) (hi : i.val = t.val * 256 + r.val) :
    iblk m c 5 t (ix2 r k) = aR m c (ix2 i k) := by
  refine Eq.trans ?_ (congrFun (V_main_arg4 m c) (ix2 i k))
  blk_simp [iblk]
  refine congrArg _ ?_
  blk_ext [(idx0 t).2.2.2.1, hi]

/-- The block of the gain. -/
theorem g_blk (c : Dev nD) (t : Fin cfg0.N) (k : Fin 1024) : iblk m c 4 t (ix2 0 k) = aG m c (ix2 0 k) := by
  refine Eq.trans ?_ (congrFun (V_main_arg1 m c) (ix2 0 k))
  blk_simp [iblk]
  refine congrArg _ ?_
  blk_ext [(idx1 t).2.1]

/-- The block of the weights. -/
theorem w_blk (c : Dev nD) (t : Fin cfg0.N) (l : Fin 5632) (k : Fin 1024) : iblk m c 1 t (ix2 l k) = V m c main_v1 (ix2 l k) := by
  blk_simp [iblk]
  refine congrArg _ ?_
  blk_ext [(idx1 t).1]

/-- The block's gradient is rows of the whole one. -/
theorem blkD_at (c : Dev nD) (t : Fin cfg0.N) (i : Fin 4096) (r : Fin 256) (k : Fin 1024) (hi : i.val = t.val * 256 + r.val) :
    blkD m c t (ix2 r k) = gD (aU m c) (aW m c) i k := by
  refine (prod_at _ _ _ _ r k).trans ?_
  unfold gD
  refine congrArg₂ (fun a b : EReal => a + b) (Finset.sum_congr rfl fun l _ => ?_) (Finset.sum_congr rfl fun l _ => ?_)
  · refine congrArg₂ (fun a b : EReal => a * b) ((u1_blk m c t i r l hi).trans (u1_at m c i l)) ?_
    refine Eq.trans (congrArg (iblk m c 1 t) ?_) ((w_blk m c t ⟨l.val, by omega⟩ k).trans (w_at m c _ k))
    funext a
    fin_cases a <;> exact Fin.ext (by simp [Rect.unit, LoadRect.idx])
  · refine congrArg₂ (fun a b : EReal => a * b) ((u2_blk m c t i r l hi).trans (u2_at m c i l)) ?_
    refine Eq.trans (congrArg (iblk m c 1 t) ?_) ((w_blk m c t ⟨2816 + l.val, by omega⟩ k).trans (w_at m c _ k))
    funext a
    fin_cases a <;> exact Fin.ext (by simp [Rect.unit, LoadRect.idx])

/-- What the sum of the branches adds to a block's gradient row. -/
theorem sum_at (a b : FVec Ideal S256x1024 .f32) (i : Fin 256) (j : Fin 1024) :
    k0_pay1 (F := Ideal) a b (ix2 i j) = b (ix2 i j) + a (ix2 i j) ∧ k0_pay2 (F := Ideal) a b (ix2 i j) = b (ix2 i j) + a (ix2 i j) := by
  constructor
  · pointwise [k0_pay1]
  · pointwise [k0_pay2, k0_pay1]

/-- The gradient of the rows that enter the norm. -/
def gX (c : Dev nD) (i : Fin 4096) (j : Fin 1024) : EReal :=
  byHand (fun k : Fin 1024 => aX m c (ix2 i k)) (fun k : Fin 1024 => aG m c (ix2 0 k)) (fun k : Fin 1024 => gD (aU m c) (aW m c) i k)
    (Ideal.ofBits FTy.f32 0x44800000#32) (Ideal.ofBits FTy.f32 0x358637BD#32) j + aR m c (ix2 i j)

/-- The same as an array. -/
def arrX (c : Dev nD) (y : S4096x1024.Idx) : EReal := gX m c (y 0) (y 1)

/-- One entry of that array. -/
theorem arrX_at (c : Dev nD) (y : S4096x1024.Idx) (i : Fin 4096) (j : Fin 1024) (h0 : (y 0).val = i.val) (h1 : (y 1).val = j.val) :
    arrX m c y = gX m c i j := congrArg₂ (gX m c) (Fin.ext h0) (Fin.ext h1)

/-- What a grid point leaves in the two row outputs. -/
theorem rows (c : Dev nD) (t : Fin cfg0.N) (i : Fin 4096) (r : Fin 256) (j : Fin 1024) (hi : i.val = t.val * 256 + r.val) :
    (outsAt0 m c t.val t.isLt).1 (ix2 r j) = gX m c i j ∧ (outsAt0 m c t.val t.isLt).2.1 (ix2 r j) = gX m c i j := by
  have e : k0_pay8 (F := Ideal) (iblk m c 0 t) (View.ld (iblk m c 1 t) (Rect.unit ![0, 0] ![2816, 1024] inb_S5632x1024_S2816x1024_0_0))
      (iblk m c 2 t) (View.ld (iblk m c 1 t) (Rect.unit ![2816, 0] ![2816, 1024] inb_S5632x1024_S2816x1024_2816_0))
      (iblk m c 3 t) (iblk m c 4 t) (ix2 r j) + (iblk m c 5 t (ix2 r j) : EReal) = gX m c i j := by
    refine congrArg₂ (fun a b : EReal => a + b) ((dx_at _ _ _ _ _ _ r j).trans ?_) (r_blk m c t i r j hi)
    rw [show (fun k : Fin 1024 => iblk m c 3 t (ix2 r k)) = fun k => aX m c (ix2 i k) from funext fun k => x_blk m c t i r k hi,
      show (fun k : Fin 1024 => iblk m c 4 t (ix2 0 k)) = fun k => aG m c (ix2 0 k) from funext fun k => g_blk m c t k]
    exact congrArg (fun z => byHand _ _ z _ _ j) (funext fun k => blkD_at m c t i r k hi)
  constructor
  · by_cases h0 : t.val % 16 = 0
    · rw [outsAt0_A m c t h0]
      frame_out
      exact (sum_at _ _ r j).1.trans e
    · rw [outsAt0_B m c t h0]
      frame_out
      exact (sum_at _ _ r j).1.trans e
  · by_cases h0 : t.val % 16 = 0
    · rw [outsAt0_A m c t h0]
      frame_out
      exact (sum_at _ _ r j).2.trans e
    · rw [outsAt0_B m c t h0]
      frame_out
      exact (sum_at _ _ r j).2.trans e

/-- The first row output after the run. -/
theorem arr6 (c : Dev nD) : (dats m 0 c).arrAt 6 cfg0.N = arrX m c := by
  refine (dats m 0 c).arrAt_eq_of_covers 6 _ (by decide +kernel) fun t hf y => ?_
  blk_simp
  rw [after0_6]
  have h0 : (((View.whole main_v6_0).slice (win0_6.rect t)).emb y 0).val = t.val * 256 + (y 0).val := by blk_simp [(idx0 t).2.2.2.2.1]
  have h1 : (((View.whole main_v6_0).slice (win0_6.rect t)).emb y 1).val = (y 1).val := by blk_simp [(idx0 t).2.2.2.2.1]
  idx_bounds y
  have ht : t.val < 16 := t.isLt
  have hy : (y : S256x1024.Idx) = ix2 (y 0) (y 1) := by idx_ext
  exact (congrArg (outsAt0 m c t.val t.isLt).1 hy).trans ((rows m c t ⟨t.val * 256 + (y 0).val, by omega⟩ _ _ rfl).1.trans
    (arrX_at m c _ _ (y 1) h0 h1).symm)

/-- The second row output after the run. -/
theorem arr7 (c : Dev nD) : (dats m 0 c).arrAt 7 cfg0.N = arrX m c := by
  refine (dats m 0 c).arrAt_eq_of_covers 7 _ (by decide +kernel) fun t hf y => ?_
  blk_simp
  rw [after0_7]
  have h0 : (((View.whole main_v6_1).slice (win0_7.rect t)).emb y 0).val = t.val * 256 + (y 0).val := by blk_simp [(idx0 t).2.2.2.2.2]
  have h1 : (((View.whole main_v6_1).slice (win0_7.rect t)).emb y 1).val = (y 1).val := by blk_simp [(idx0 t).2.2.2.2.2]
  idx_bounds y
  have ht : t.val < 16 := t.isLt
  have hy : (y : S256x1024.Idx) = ix2 (y 0) (y 1) := by idx_ext
  exact (congrArg (outsAt0 m c t.val t.isLt).2.1 hy).trans ((rows m c t ⟨t.val * 256 + (y 0).val, by omega⟩ _ _ rfl).2.trans
    (arrX_at m c _ _ (y 1) h0 h1).symm)

/-- What one row adds to the gain's gradient. -/
def gRow (c : Dev nD) (i : Fin 4096) (j : Fin 1024) : EReal :=
  gD (aU m c) (aW m c) i j * (aX m c (ix2 i j)
    * Rms.inv (fun k : Fin 1024 => aX m c (ix2 i k)) (Ideal.ofBits FTy.f32 0x44800000#32) (Ideal.ofBits FTy.f32 0x358637BD#32))

/-- What a grid point adds to the gain's gradient. -/
def stepG (c : Dev nD) (t : Fin cfg0.N) (y : S1x1024.Idx) : EReal :=
  ∑ r : Fin 256, gRow m c ⟨t.val * 256 + r.val, by have : t.val < 16 := t.isLt; omega⟩ (y 1)

/-- The sum of a block's rows joins what was there. -/
theorem add_at (a : FVec Ideal S256x1024 .f32) (b : Vec Ideal S1x1024 .f32) (z : Fin 1) (j : Fin 1024) :
    k0_pay4 (F := Ideal) a b (ix2 z j) = b (ix2 z j) + ∑ r : Fin 256, a (ix2 r j) := by
  pointwise [k0_pay4]

/-- The rows a block sums. -/
theorem term_at (v0 : Vec Ideal S256x2816 .bf16) (v2 : Vec Ideal S2816x1024 .bf16) (v5 : Vec Ideal S256x2816 .bf16) (v7 : Vec Ideal S2816x1024 .bf16)
    (v11 : Vec Ideal S256x1024 .f32) (r : Fin 256) (j : Fin 1024) :
    k0_pay9 (F := Ideal) v0 v2 v5 v7 v11 (ix2 r j) = k0_pay5 (F := Ideal) v0 v2 v5 v7 (ix2 r j) * (v11 (ix2 r j) * k0_pay6 (F := Ideal) v11 (ix2 r 0)) := by
  pointwise [k0_pay9, k0_pay7]

/-- A grid point adds its rows to what was there. -/
theorem step (c : Dev nD) (t : Fin cfg0.N) (b : Vec Ideal S1x1024 .f32) (y : S1x1024.Idx) :
    k0_pay4 (F := Ideal) (k0_pay9 (F := Ideal) (iblk m c 0 t) (View.ld (iblk m c 1 t) (Rect.unit ![0, 0] ![2816, 1024] inb_S5632x1024_S2816x1024_0_0))
        (iblk m c 2 t) (View.ld (iblk m c 1 t) (Rect.unit ![2816, 0] ![2816, 1024] inb_S5632x1024_S2816x1024_2816_0)) (iblk m c 3 t)) b y
      = (b y : EReal) + stepG m c t y := by
  obtain ⟨z, j, rfl⟩ : ∃ (z : Fin 1) (j : Fin 1024), y = ix2 z j := ⟨y 0, y 1, by idx_ext⟩
  have ht : t.val < 16 := t.isLt
  refine (add_at _ b z j).trans (congrArg (fun x : EReal => b (ix2 z j) + x) (Finset.sum_congr rfl fun r _ => (term_at _ _ _ _ _ r j).trans ?_))
  unfold gRow
  have hi : (⟨t.val * 256 + r.val, by omega⟩ : Fin 4096).val = t.val * 256 + r.val := rfl
  refine congrArg₂ (fun a b : EReal => a * b) (blkD_at m c t _ r j hi) (congrArg₂ (fun a b : EReal => a * b) (x_blk m c t _ r j hi) ((inv_at _ r 0).trans ?_))
  exact congrArg (fun X => Rms.inv X _ _) (funext fun k => x_blk m c t _ r k hi)

/-- The gain's gradient after the last grid point. -/
theorem total (c : Dev nD) (t : Fin cfg0.N) (hr : t.val % 16 = 15) (y : S1x1024.Idx) :
    (outsAt0 m c t.val t.isLt).2.2 y
      = (k0_pay3 (F := Ideal) y : EReal) + ∑ s : Fin 16, stepG m c ⟨16 * (t.val / 16) + s.val, Pipeline.run_point_lt_of_flush t hr s⟩ y :=
  Pipeline.eq_sum_fin_of_reset_step_apply_of_flush (fun n h => (outsAt0 m c n h).2.2) 16 (k0_pay3 (F := Ideal)) (stepG m c)
    (fun t h y => by
      rw [outsAt0_A m c t h]
      frame_out
      exact step m c t _ y)
    (fun t h y => by
      rw [outsAt0_B m c t h]
      frame_out
      exact step m c t _ y) t hr y

/-- The gain's gradient. -/
def gG (c : Dev nD) (j : Fin 1024) : EReal := ∑ i : Fin 4096, gRow m c i j

/-- The grid points' additions are the sum over all rows. -/
theorem all_blocks (c : Dev nD) (t : Fin cfg0.N) (hr : t.val % 16 = 15) (y : S1x1024.Idx) :
    ∑ s : Fin 16, stepG m c ⟨16 * (t.val / 16) + s.val, Pipeline.run_point_lt_of_flush t hr s⟩ y = gG m c (y 1) := by
  have ht : t.val < 16 := t.isLt
  unfold stepG gG
  refine Eq.trans ?_ (Rms.sum_blocks 16 256 (fun i : Fin 4096 => gRow m c i (y 1)))
  refine Finset.sum_congr rfl fun s _ => Finset.sum_congr rfl fun r _ => congrArg (fun i => gRow m c i (y 1)) (Fin.ext ?_)
  show (16 * (t.val / 16) + s.val) * 256 + r.val = s.val * 256 + r.val
  omega

/-- The same as an array. -/
def arrG (c : Dev nD) (y : S1x1024.Idx) : EReal := gG m c (y 1)

/-- One entry of that array. -/
theorem arrG_at (c : Dev nD) (y : S1x1024.Idx) (j : Fin 1024) (h1 : (y 1).val = j.val) : arrG m c y = gG m c j := congrArg (gG m c) (Fin.ext h1)

/-- The gain output after the run. -/
theorem arr8 (c : Dev nD) : (dats m 0 c).arrAt 8 cfg0.N = arrG m c := by
  refine (dats m 0 c).arrAt_eq_of_covers 8 _ (by decide +kernel) fun t hf y => ?_
  have hr : t.val % 16 = 15 := (flush0_8 t).1 hf
  blk_simp
  rw [after0_8, total m c t hr]
  have h1 : (((View.whole main_v6_2).slice (win0_8.rect t)).emb y 1).val = (y 1).val := by blk_simp [(idx1 t).2.2]
  have ht : t.val < 16 := t.isLt
  refine Eq.trans ?_ (arrG_at m c _ (y 1) h1).symm
  have hz : (k0_pay3 (F := Ideal) y : EReal) = 0 := by
    have : ∀ (a : Fin 1) (b : Fin 1024), k0_pay3 (F := Ideal) (ix2 a b) = 0 := fun a b => by pointwise [k0_pay3]
    have hy : (y : S1x1024.Idx) = ix2 (y 0) (y 1) := by idx_ext
    exact (congrArg (k0_pay3 (F := Ideal)) hy).trans (this _ _)
  rw [hz, zero_add]
  exact all_blocks m c t hr y

end run

end Cert.Proof.Norm2
end
-- ==== Proof.Norm2Ref.lean ====
module

public import proofs.«01_k».proof.Defs
public import proofs.«01_k».proof.Proof.Gen.Norm2RefIdeal.Run
public import proofs.«01_k».proof.Proof.Gen.Norm2RefIdeal.Read
public import Idealize.ShloMosaic.Lib.Pipeline.ValueKit
public import proofs.«01_k».proof.Proof.Rms

@[expose] public section

set_option maxRecDepth 16384

noncomputable section

namespace Cert.Proof.Norm2

open Idealize.ShloMosaic Idealize.ShloMosaic.TcCoe Idealize.SL.Sem
open Cert.Norm2RefIdeal Cert.Proof.Rms
open Cert.Norm2RefIdeal.Read (val_main_v0 val_main_v1 val_main_v2 val_main_v3 val_main_v4 val_main_v5 val_main_v6 val_main_v7 val_main_v8 val_main_v9 val_main_v10
  val_main_v11 val_main_v12 val_main_v13 val_main_v18 val_main_v19 val_main_v20 val_main_v21 val_main_v22 val_main_v23 val_main_v24 val_main_v25 val_main_v26
  val_main_v27 val_main_v28 val_main_v29 val_main_v30 val_main_v31 val_main_v32 val_main_v33 val_main_v34 val_main_v35 val_main_v36 val_main_v37 val_main_v38 val_main_v39
  val_main_cst val_main_cst_0 val_main_cst_1 val_main_cst_2 val_main_cst_3 val_main_cst_4 val_main_cst_5 val_main_cst_6)

section ref
variable (x0 : Vec Ideal S4096x1024 .f32) (x1 : Vec Ideal S1x1024 .f32) (x2 : Vec Ideal S1024x5632 .f32) (x3 : Vec Ideal S4096x5632 .f32)
  (x4 : Vec Ideal S4096x1024 .f32)

/-- The reference's mean square. -/
theorem r_msq (i : Fin 4096) (z : Fin 1) : val_main_v6 (F := Ideal) x0 (ix2 i z)
    = msq (fun k : Fin 1024 => x0 (ix2 i k)) (Ideal.ofBits FTy.f32 0x44800000#32) (Ideal.ofBits FTy.f32 0x358637BD#32) := by
  unfold msq
  pointwise [val_main_v0, val_main_v1, val_main_v2, val_main_v3, val_main_v4, val_main_v5, val_main_v6, val_main_cst, val_main_cst_0, val_main_cst_1]

/-- The reference's factor of a row. -/
theorem r_inv (i : Fin 4096) (z : Fin 1) : val_main_v7 (F := Ideal) x0 (ix2 i z)
    = Rms.inv (fun k : Fin 1024 => x0 (ix2 i k)) (Ideal.ofBits FTy.f32 0x44800000#32) (Ideal.ofBits FTy.f32 0x358637BD#32) := by
  unfold Rms.inv
  rw [← r_msq x0 i z]
  pointwise [val_main_v7]

/-- The reference's gradient of the normalised rows. -/
theorem r_dh (i : Fin 4096) (j : Fin 1024) : val_main_v18 (F := Ideal) x2 x3 (ix2 i j) = ∑ l : Fin 5632, x3 (ix2 i l) * x2 (ix2 j l) := by
  pointwise [val_main_v18]

/-- The reference's change of the factor. -/
theorem r_factor (i : Fin 4096) (j : Fin 1024) : val_main_v34 (F := Ideal) x0 x1 x2 x3 (ix2 i j)
    = factor (fun k : Fin 1024 => x0 (ix2 i k)) (fun k : Fin 1024 => x1 (ix2 0 k)) (fun k : Fin 1024 => val_main_v18 (F := Ideal) x2 x3 (ix2 i k))
      (Ideal.ofBits FTy.f32 0x44800000#32) (Ideal.ofBits FTy.f32 0x358637BD#32) (Ideal.ofBits FTy.f32 0xBF000000#32) := by
  unfold factor
  rw [← r_inv x0 i 0, ← r_msq x0 i 0]
  pointwise [val_main_v34, val_main_v33, val_main_v32, val_main_v31, val_main_v30, val_main_v26, val_main_v25, val_main_v24, val_main_v23, val_main_v22,
    val_main_v10, val_main_v9, val_main_v8, val_main_cst_2, val_main_cst_4, val_main_cst_5, val_main_cst_6]
  exact Fintype.sum_unique _

/-- The reference's gradient of the rows. -/
theorem r_dx (i : Fin 4096) (j : Fin 1024) : val_main_v38 (F := Ideal) x0 x1 x2 x3 x4 (ix2 i j)
    = x4 (ix2 i j) + val_main_v18 (F := Ideal) x2 x3 (ix2 i j) * x1 (ix2 0 j) * val_main_v7 (F := Ideal) x0 (ix2 i 0)
      + x0 (ix2 i j) * val_main_v34 (F := Ideal) x0 x1 x2 x3 (ix2 i j) + x0 (ix2 i j) * val_main_v34 (F := Ideal) x0 x1 x2 x3 (ix2 i j) := by
  refine Eq.trans ?_ (congrArg (fun z : EReal => x4 (ix2 i j) + val_main_v18 (F := Ideal) x2 x3 (ix2 i j) * x1 (ix2 0 j) * val_main_v7 (F := Ideal) x0 (ix2 i 0)
      + x0 (ix2 i j) * val_main_v34 (F := Ideal) x0 x1 x2 x3 (ix2 i j) + z) (mul_comm _ _))
  pointwise [val_main_v38, val_main_v37, val_main_v36, val_main_v35, val_main_v29, val_main_v28, val_main_v27, val_main_v23, val_main_v22]

/-- The reference's gradient of the gain. -/
theorem r_dg (z : Fin 1) (j : Fin 1024) : val_main_v21 (F := Ideal) x0 x2 x3 (ix2 z j)
    = ∑ i : Fin 4096, x0 (ix2 i j) * val_main_v7 (F := Ideal) x0 (ix2 i 0) * val_main_v18 (F := Ideal) x2 x3 (ix2 i j) := by
  pointwise [val_main_v21, val_main_v20, val_main_v19, val_main_v12, val_main_v11, val_main_cst_3]

end ref

end Cert.Proof.Norm2
end
-- ==== Proof.Norm2Eq.lean ====
module

public import proofs.«01_k».proof.Defs
public import proofs.«01_k».proof.Proof.Gen.Pre_norm2_finite
public import proofs.«01_k».proof.Proof.Norm2
public import proofs.«01_k».proof.Proof.Norm2Ref

@[expose] public section

set_option maxRecDepth 16384

noncomputable section

namespace Cert.Proof.Norm2

open Idealize.ShloMosaic Idealize.ShloMosaic.TcCoe Idealize.SL.Sem
open Cert.Norm2Ideal Cert.Norm2Ideal.Gen Cert.Proof.Rms Cert.Proof.Reals
open Cert.Norm2RefIdeal.Read (val_main_v18 val_main_v21 val_main_v38 val_main_v39)

/-- What the precondition says of the call's arguments: they are real. -/
theorem args_real (a0 : FVec Ideal S4096x1024 .f32) (a1 : FVec Ideal S1x1024 .f32) (a2 : FVec Ideal S1024x5632 .f32) (a3 : FVec Ideal S4096x5632 .f32)
    (a4 : FVec Ideal S4096x1024 .f32)
    (h : (Cert.Pre_norm2_finite.fn (F := Ideal) a0 a1 a2 a3 a4).1 = (fun _ => 1#1) ∧ (Cert.Pre_norm2_finite.fn (F := Ideal) a0 a1 a2 a3 a4).2.1 = (fun _ => 1#1)
      ∧ (Cert.Pre_norm2_finite.fn (F := Ideal) a0 a1 a2 a3 a4).2.2.1 = (fun _ => 1#1) ∧ (Cert.Pre_norm2_finite.fn (F := Ideal) a0 a1 a2 a3 a4).2.2.2 = (fun _ => 1#1)) :
    ∃ (x : S4096x1024.Idx → ℝ) (g : S1x1024.Idx → ℝ) (w : S1024x5632.Idx → ℝ) (u : S4096x5632.Idx → ℝ),
      (a0 = fun y => (x y : EReal)) ∧ (a1 = fun y => (g y : EReal)) ∧ (a2 = fun y => (w y : EReal)) ∧ (a3 = fun y => (u y : EReal)) := by
  obtain ⟨h0, h1, h2, h3⟩ := h
  obtain ⟨x, hx⟩ := arr_real a0 _ (fun _ => inf_word) h0
  obtain ⟨g, hg⟩ := arr_real a1 _ (fun _ => inf_word) h1
  obtain ⟨w, hw⟩ := arr_real a2 _ (fun _ => inf_word) h2
  obtain ⟨u, hu⟩ := arr_real a3 _ (fun _ => inf_word) h3
  exact ⟨x, g, w, u, hx, hg, hw, hu⟩

/-- Both programs' products agree: the two halves make the whole sum. -/
theorem dh_eq (A : Vec Ideal S4096x5632 .f32) (W : Vec Ideal S1024x5632 .f32) (i : Fin 4096) (k : Fin 1024) :
    gD A W i k = val_main_v18 (F := Ideal) W A (ix2 i k) := by
  refine Eq.trans ?_ (r_dh W A i k).symm
  refine Eq.trans ?_ (Fin.sum_univ_add (a := 2816) (b := 2816) (fun l : Fin 5632 => (A (ix2 i l) * W (ix2 k l) : EReal))).symm
  rfl

section result
variable (m : (ℓ : Loc nD τ sig) → Buf (Elt Ideal) ℓ)

/-- The rows' gradient is the reference's. -/
theorem rows_eq (c : Dev nD) (x : S4096x1024.Idx → ℝ) (g : S1x1024.Idx → ℝ) (w : S1024x5632.Idx → ℝ) (u : S4096x5632.Idx → ℝ)
    (hx : aX m c = fun y => (x y : EReal)) (hg : aG m c = fun y => (g y : EReal)) (hw : aW m c = fun y => (w y : EReal))
    (hu : aU m c = fun y => (u y : EReal)) : arrX m c = val_main_v38 (F := Ideal) (aX m c) (aG m c) (aW m c) (aU m c) (aR m c) := by
  funext y
  obtain ⟨i, j, rfl⟩ : ∃ (i : Fin 4096) (j : Fin 1024), y = ix2 i j := ⟨y 0, y 1, by idx_ext⟩
  obtain ⟨ε, hε, he⟩ := lit_eps
  refine Eq.trans ?_ (r_dx _ _ _ _ _ i j).symm
  have e := byHand_add (n := 1024) (by norm_num) (fun k => x (ix2 i k)) (fun k => g (ix2 0 k)) (fun k => ∑ l : Fin 5632, u (ix2 i l) * w (ix2 k l))
    _ _ _ (aR m c (ix2 i j)) ε hε lit_1024 he lit_half (fun k : Fin 1024 => aX m c (ix2 i k)) (fun k : Fin 1024 => aG m c (ix2 0 k))
    (fun k : Fin 1024 => gD (aU m c) (aW m c) i k) (fun k => congrFun hx _) (fun k => congrFun hg _)
    (fun k => (dh_eq _ _ i k).trans ((r_dh _ _ i k).trans (prod_real _ _ _ _ (fun l => congrFun hu _) fun l => congrFun hw _))) j
  refine (arrX_at m c _ i j rfl rfl).trans (e.trans ?_)
  rw [r_factor, r_inv]
  simp only [dh_eq]

/-- The gain's gradient is the reference's. -/
theorem gain_eq (c : Dev nD) : arrG m c = val_main_v21 (F := Ideal) (aX m c) (aW m c) (aU m c) := by
  funext y
  obtain ⟨z, j, rfl⟩ : ∃ (z : Fin 1) (j : Fin 1024), y = ix2 z j := ⟨y 0, y 1, by idx_ext⟩
  refine (arrG_at m c _ j rfl).trans (Eq.trans ?_ (r_dg _ _ _ z j).symm)
  unfold gG gRow
  refine Finset.sum_congr rfl fun i _ => ?_
  rw [dh_eq, r_inv, mul_comm]

/-- Every result of the call is the reference's. -/
theorem equal : Cert.algebraic_Norm2Ideal_Norm2RefIdeal_pre_norm2_finite := by
  intro m ρ m' ρ' hp hag
  refine ⟨fun c => arrX m c, fun c => arrX m c, fun c => arrG m c, ?_, ?_⟩
  · refine (θ_run _ _ _).mono (fun r h c => ?_) (Cert.Norm2Ideal.Value.run_blocks m ρ)
    obtain ⟨h0, h1, h2, ha⟩ := h c
    exact ⟨h0.trans (arr6 m c), h1.trans (arr7 m c), h2.trans (arr8 m c), ha⟩
  · refine (θ_run _ _ _).mono (fun r h c => ?_) (Cert.Norm2RefIdeal.Value.run m' ρ')
    obtain ⟨h0, h1, h2, ha⟩ := h c
    obtain ⟨g0, g1, g2, g3, g4⟩ := hag c
    obtain ⟨x, g, w, u, hx, hg, hw, hu⟩ := args_real _ _ _ _ _ (hp c)
    refine ⟨?_, ?_, ?_, ha⟩
    · exact (h0.trans (Cert.Norm2RefIdeal.Read.val_main_v38_eq _ _)).trans ((congr (congr (congr (congr (congrArg (val_main_v38 (F := Ideal)) g0) g1) g2) g3) g4).trans
        (rows_eq m c x g w u hx hg hw hu).symm)
    · exact (h1.trans (Cert.Norm2RefIdeal.Read.val_main_v39_eq _ _)).trans ((congr (congr (congr (congr (congrArg (val_main_v39 (F := Ideal)) g0) g1) g2) g3) g4).trans
        (rows_eq m c x g w u hx hg hw hu).symm)
    · exact (h2.trans (Cert.Norm2RefIdeal.Read.val_main_v21_eq _ _ _)).trans ((congr (congr (congrArg (val_main_v21 (F := Ideal)) g0) g2) g3).trans
        (gain_eq m c).symm)

end result
end Cert.Proof.Norm2
end
-- ==== Proof.Layout.lean ====
module

public import Idealize.ShloMosaic.Lib.Pipeline.ValueKit
public import Idealize.ShloMosaic.Lib.Pipeline.ReadBack

@[expose] public section

set_option maxRecDepth 16384

noncomputable section

/-! The packed order of the projection's columns: segments of the 4032 plain columns in another order, then 64 zero columns. -/
namespace Cert.Proof.Layout

open Idealize.ShloMosaic

/-- The plain column that stands at a packed column; the zero columns keep their own number. -/
def col (l : ℕ) : ℕ :=
  if l < 2048 then l + 1984 else if l < 3072 then l - 1600 else if l < 3328 then l - 3072 else if l < 3840 then l - 1856
    else if l < 4032 then l - 3584 else l

/-- The packed column of a plain one. -/
def back (k : ℕ) : ℕ :=
  if k < 256 then k + 3072 else if k < 448 then k + 3584 else if k < 1472 then k + 1600 else if k < 1984 then k + 1856
    else if k < 4032 then k - 1984 else k

/-- The segments of the packed order. -/
theorem col_cases (l : ℕ) : (l < 2048 ∧ col l = l + 1984) ∨ (2048 ≤ l ∧ l < 3072 ∧ col l = l - 1600) ∨ (3072 ≤ l ∧ l < 3328 ∧ col l = l - 3072)
    ∨ (3328 ≤ l ∧ l < 3840 ∧ col l = l - 1856) ∨ (3840 ≤ l ∧ l < 4032 ∧ col l = l - 3584) ∨ (4032 ≤ l ∧ col l = l) := by
  unfold col
  split_ifs <;> omega

/-- The segments of the plain order. -/
theorem back_cases (k : ℕ) : (k < 256 ∧ back k = k + 3072) ∨ (256 ≤ k ∧ k < 448 ∧ back k = k + 3584) ∨ (448 ≤ k ∧ k < 1472 ∧ back k = k + 1600)
    ∨ (1472 ≤ k ∧ k < 1984 ∧ back k = k + 1856) ∨ (1984 ≤ k ∧ k < 4032 ∧ back k = k - 1984) ∨ (4032 ≤ k ∧ back k = k) := by
  unfold back
  split_ifs <;> omega

/-- Packed and back. -/
theorem back_col (l : ℕ) : back (col l) = l := by
  rcases col_cases l with h | h | h | h | h | h <;> rcases back_cases (col l) with g | g | g | g | g | g <;> omega

/-- Back and packed. -/
theorem col_back (k : ℕ) : col (back k) = k := by
  rcases back_cases k with h | h | h | h | h | h <;> rcases col_cases (back k) with g | g | g | g | g | g <;> omega

/-- The packed order is a permutation of the 4096 columns. -/
def perm : Fin 4096 ≃ Fin 4096 where
  toFun l := ⟨col l.val, by have := l.isLt; rcases col_cases l.val with h | h | h | h | h | h <;> omega⟩
  invFun k := ⟨back k.val, by have := k.isLt; rcases back_cases k.val with h | h | h | h | h | h <;> omega⟩
  left_inv l := Fin.ext (back_col l.val)
  right_inv k := Fin.ext (col_back k.val)

/-- A row of plain columns, in the packed order. -/
def packed (f : Fin 4032 → EReal) (l : Fin 4096) : EReal := if h : col l.val < 4032 then f ⟨col l.val, h⟩ else 0

/-- The segments laid side by side are the packed row. -/
theorem packed_of_segments (f : Fin 4032 → EReal) (l : Fin 4096) :
    (if h : l.val < 1024 then f ⟨1984 + l.val, by omega⟩
    else if h : l.val - 1024 < 1024 then f ⟨3008 + (l.val - 1024), by omega⟩
    else if h : l.val - 1024 - 1024 < 1024 then f ⟨448 + (l.val - 1024 - 1024), by omega⟩
    else if h : l.val - 1024 - 1024 - 1024 < 256 then f ⟨l.val - 1024 - 1024 - 1024, by omega⟩
    else if h : l.val - 1024 - 1024 - 1024 - 256 < 256 then f ⟨1472 + (l.val - 1024 - 1024 - 1024 - 256), by omega⟩
    else if h : l.val - 1024 - 1024 - 1024 - 256 - 256 < 256 then f ⟨1728 + (l.val - 1024 - 1024 - 1024 - 256 - 256), by omega⟩
    else if h : l.val - 1024 - 1024 - 1024 - 256 - 256 - 256 < 128 then f ⟨256 + (l.val - 1024 - 1024 - 1024 - 256 - 256 - 256), by omega⟩
    else if h : l.val - 1024 - 1024 - 1024 - 256 - 256 - 256 - 128 < 64 then
      f ⟨384 + (l.val - 1024 - 1024 - 1024 - 256 - 256 - 256 - 128), by omega⟩
    else 0) = packed f l := by
  have hc := col_cases l.val
  have hl := l.isLt
  unfold packed
  generalize col l.val = c at hc ⊢
  split_ifs <;> first | rfl | exact congrArg f (Fin.ext (by simp only; omega)) | omega

/-- What a plain column adds, as a function of all 4096 columns. -/
def part (f g : Fin 4032 → EReal) (k : Fin 4096) : EReal := if h : k.val < 4032 then f ⟨k.val, h⟩ * g ⟨k.val, h⟩ else 0

/-- A packed column adds what its plain one adds. -/
theorem packed_mul (f g : Fin 4032 → EReal) (l : Fin 4096) : packed f l * packed g l = part f g (perm l) := by
  by_cases h : col l.val < 4032
  · unfold packed part
    have h' : (perm l).val < 4032 := h
    rw [dif_pos h, dif_pos h, dif_pos h']
    rfl
  · unfold packed part
    have h' : ¬ (perm l).val < 4032 := h
    rw [dif_neg h, dif_neg h, dif_neg h', mul_zero]

/-- A sum over the packed columns of a product is the sum over the plain ones. -/
theorem sum_packed (f g : Fin 4032 → EReal) : ∑ l : Fin 4096, packed f l * packed g l = ∑ k : Fin 4032, f k * g k := by
  refine (Finset.sum_congr rfl fun l _ => packed_mul f g l).trans ((Equiv.sum_comp perm (part f g)).trans ?_)
  refine (Fin.sum_univ_add (a := 4032) (b := 64) (part f g)).trans ?_
  refine (congrArg₂ (fun a b : EReal => a + b) (Finset.sum_congr rfl fun k _ => ?_) (Finset.sum_eq_zero fun k _ => ?_)).trans (add_zero _)
  · exact dif_pos k.isLt
  · exact dif_neg (by simp)

end Cert.Proof.Layout
end
-- ==== Proof.Norm1.lean ====
module

public import proofs.«01_k».proof.Defs
public import proofs.«01_k».proof.Proof.Gen.Norm1Ideal.Value
public import proofs.«01_k».proof.Proof.Gen.Norm1RefIdeal.Run
public import proofs.«01_k».proof.Proof.Gen.Norm1RefIdeal.Read
public import Idealize.ShloMosaic.Lib.Pipeline.ValueKit
public import Idealize.ShloMosaic.Lib.Pipeline.ReadBack
public import proofs.«01_k».proof.Proof.Rms
public import proofs.«01_k».proof.Proof.Layout

@[expose] public section

set_option maxRecDepth 16384

noncomputable section

namespace Cert.Proof.Norm1

open Idealize.ShloMosaic Idealize.ShloMosaic.TcCoe Idealize.SL.Sem
open Cert.Norm1Ideal Cert.Norm1Ideal.Gen Cert.Proof.Rms

/-- The block's own matrix product, one entry. -/
theorem prod_at (v0 : Vec Ideal S512x4096 .bf16) (v2 : Vec Ideal S4096x1024 .bf16) (i : Fin 512) (j : Fin 1024) :
    k0_pay3 (F := Ideal) v0 v2 (ix2 i j) = ∑ k : Fin 4096, v0 (ix2 i k) * v2 (ix2 k j) := by
  pointwise [k0_pay3]

/-- The factor of a row of a block. -/
theorem inv_at (v5 : Vec Ideal S512x1024 .f32) (i : Fin 512) (z : Fin 1) :
    k0_pay4 (F := Ideal) v5 (ix2 i z) = Rms.inv (fun k : Fin 1024 => v5 (ix2 i k)) (Ideal.ofBits FTy.f32 0x44800000#32) (Ideal.ofBits FTy.f32 0x358637BD#32) := by
  unfold Rms.inv msq
  pointwise [k0_pay4]

/-- The block's gradient row. -/
theorem dx_at (v0 : Vec Ideal S512x4096 .bf16) (v2 : Vec Ideal S4096x1024 .bf16) (v5 : Vec Ideal S512x1024 .f32) (v6 : Vec Ideal S1x1024 .f32)
    (v7 : Vec Ideal S512x1024 .f32) (i : Fin 512) (j : Fin 1024) :
    k0_pay7 (F := Ideal) v0 v2 v5 v6 v7 (ix2 i j)
      = byHand (fun k : Fin 1024 => v5 (ix2 i k)) (fun k : Fin 1024 => v6 (ix2 0 k)) (fun k : Fin 1024 => k0_pay3 (F := Ideal) v0 v2 (ix2 i k))
        (Ideal.ofBits FTy.f32 0x44800000#32) (Ideal.ofBits FTy.f32 0x358637BD#32) j + v7 (ix2 i j) := by
  unfold byHand
  simp only [← inv_at v5 i 0]
  pointwise [k0_pay7, k0_pay5]

/-- The columns of the packed gradient. -/
def hP (a : Vec Ideal S4096x4032 .f32) : Vec Ideal S4096x4096 .bf16 :=
  truncf (F := Ideal) (φ := FTy.f32) .bf16 (concatenate S4096x4096 1 [⟨S4096x1024, extractStridedSlice S4096x1024 ![0, 1984] a slices_S4096x4032_S4096x1024_0_1984⟩,
    ⟨S4096x1024, extractStridedSlice S4096x1024 ![0, 3008] a slices_S4096x4032_S4096x1024_0_3008⟩,
    ⟨S4096x1024, extractStridedSlice S4096x1024 ![0, 448] a slices_S4096x4032_S4096x1024_0_448⟩,
    ⟨S4096x256, extractStridedSlice S4096x256 ![0, 0] a slices_S4096x4032_S4096x256_0_0⟩,
    ⟨S4096x256, extractStridedSlice S4096x256 ![0, 1472] a slices_S4096x4032_S4096x256_0_1472⟩,
    ⟨S4096x256, extractStridedSlice S4096x256 ![0, 1728] a slices_S4096x4032_S4096x256_0_1728⟩,
    ⟨S4096x128, extractStridedSlice S4096x128 ![0, 256] a slices_S4096x4032_S4096x128_0_256⟩,
    ⟨S4096x64, extractStridedSlice S4096x64 ![0, 384] a slices_S4096x4032_S4096x64_0_384⟩,
    ⟨S4096x64, broadcastInDim S4096x64 ![] bcast_S_S4096x64 (constant (F := Ideal) S_ .f32 0x00000000#32)⟩]
    concatenates_S4096x1024_S4096x1024_S4096x1024_S4096x256_S4096x256_S4096x256_S4096x128_S4096x64_S4096x64_S4096x4096_d1) bitsLt_bf16_f32
/-- The rows of the packed weights. -/
def hW (a : Vec Ideal S1024x4032 .f32) : Vec Ideal S4096x1024 .bf16 :=
  truncf (F := Ideal) (φ := FTy.f32) .bf16 (concatenate S4096x1024 0 [⟨S1024x1024, extractStridedSlice S1024x1024 ![1984, 0] (transpose S4032x1024 [1, 0] a transposes_S1024x4032_S4032x1024_1_0) slices_S4032x1024_S1024x1024_1984_0⟩,
    ⟨S1024x1024, extractStridedSlice S1024x1024 ![3008, 0] (transpose S4032x1024 [1, 0] a transposes_S1024x4032_S4032x1024_1_0) slices_S4032x1024_S1024x1024_3008_0⟩,
    ⟨S1024x1024, extractStridedSlice S1024x1024 ![448, 0] (transpose S4032x1024 [1, 0] a transposes_S1024x4032_S4032x1024_1_0) slices_S4032x1024_S1024x1024_448_0⟩,
    ⟨S256x1024, extractStridedSlice S256x1024 ![0, 0] (transpose S4032x1024 [1, 0] a transposes_S1024x4032_S4032x1024_1_0) slices_S4032x1024_S256x1024_0_0⟩,
    ⟨S256x1024, extractStridedSlice S256x1024 ![1472, 0] (transpose S4032x1024 [1, 0] a transposes_S1024x4032_S4032x1024_1_0) slices_S4032x1024_S256x1024_1472_0⟩,
    ⟨S256x1024, extractStridedSlice S256x1024 ![1728, 0] (transpose S4032x1024 [1, 0] a transposes_S1024x4032_S4032x1024_1_0) slices_S4032x1024_S256x1024_1728_0⟩,
    ⟨S128x1024, extractStridedSlice S128x1024 ![256, 0] (transpose S4032x1024 [1, 0] a transposes_S1024x4032_S4032x1024_1_0) slices_S4032x1024_S128x1024_256_0⟩,
    ⟨S64x1024, extractStridedSlice S64x1024 ![384, 0] (transpose S4032x1024 [1, 0] a transposes_S1024x4032_S4032x1024_1_0) slices_S4032x1024_S64x1024_384_0⟩,
    ⟨S64x1024, broadcastInDim S64x1024 ![] bcast_S_S64x1024 (constant (F := Ideal) S_ .f32 0x00000000#32)⟩]
    concatenates_S1024x1024_S1024x1024_S1024x1024_S256x1024_S256x1024_S256x1024_S128x1024_S64x1024_S64x1024_S4096x1024_d0) bitsLt_bf16_f32

/-- A packed column of the gradient. -/
theorem hP_at (a : Vec Ideal S4096x4032 .f32) (i : Fin 4096) (l : Fin 4096) :
    hP a (ix2 i l) = Layout.packed (fun k : Fin 4032 => a (ix2 i k)) l := by
  pointwise [hP]
  exact Layout.packed_of_segments (fun k : Fin 4032 => a (ix2 i k)) l

/-- A packed row of the weights. -/
theorem hW_at (a : Vec Ideal S1024x4032 .f32) (l : Fin 4096) (k : Fin 1024) :
    hW a (ix2 l k) = Layout.packed (fun q : Fin 4032 => a (ix2 k q)) l := by
  pointwise [hW]
  exact Layout.packed_of_segments (fun q : Fin 4032 => a (ix2 k q)) l

/-- The whole array of gradients with respect to the normalised rows, in the packed order of columns. -/
def gD (A : Vec Ideal S4096x4032 .f32) (W : Vec Ideal S1024x4032 .f32) (i : Fin 4096) (k : Fin 1024) : EReal :=
  ∑ l : Fin 4096, hP A (ix2 i l) * hW W (ix2 l k)

section run
variable (m : (ℓ : Loc nD τ sig) → Buf (Elt Ideal) ℓ)

/-- The rows that enter the norm. -/
abbrev aX (c : Dev nD) : Vec Ideal S4096x1024 .f32 := m ((c : Thread nD τ).loc main_arg0)
/-- The gain. -/
abbrev aG (c : Dev nD) : Vec Ideal S1x1024 .f32 := m ((c : Thread nD τ).loc main_arg1)
/-- The projection's weights. -/
abbrev aW (c : Dev nD) : Vec Ideal S1024x4032 .f32 := m ((c : Thread nD τ).loc main_arg2)
/-- The gradient of the projection's result. -/
abbrev aU (c : Dev nD) : Vec Ideal S4096x4032 .f32 := m ((c : Thread nD τ).loc main_arg3)
/-- The gradient that reaches the rows past the norm. -/
abbrev aR (c : Dev nD) : Vec Ideal S4096x1024 .f32 := m ((c : Thread nD τ).loc main_arg4)

/-- The weights as the region finds them. -/
theorem w_found (c : Dev nD) : (V m c main_v11 : Vec Ideal S4096x1024 .bf16) = hW (aW m c) := by
  dsimp only [V, hostOps0]
  after_results_simp <;> (try dsimp only [Matrix.cons_val]) <;> (try after_results_simp) <;> (try dsimp only [Matrix.cons_val]) <;> (try after_results_simp) <;> rfl

/-- The gradient as the region finds it. -/
theorem u_found (c : Dev nD) : (V m c main_v22 : Vec Ideal S4096x4096 .bf16) = hP (aU m c) := by
  dsimp only [V, hostOps0]
  after_results_simp <;> (try dsimp only [Matrix.cons_val]) <;> (try after_results_simp) <;> (try dsimp only [Matrix.cons_val]) <;> (try after_results_simp) <;> rfl

/-- The row windows move with the grid point. -/
theorem idx0 : ∀ t : Fin cfg0.N, win0_0.index t = ![t.val, 0] ∧ win0_2.index t = ![t.val, 0]
    ∧ win0_4.index t = ![t.val, 0] ∧ win0_5.index t = ![t.val, 0] :=
  (by decide +kernel : ∀ t : Fin grid0.N, _)

/-- The other windows stay. -/
theorem idx1 : ∀ t : Fin cfg0.N, win0_1.index t = ![0, 0] ∧ win0_3.index t = ![0, 0] ∧ win0_6.index t = ![0, 0] :=
  (by decide +kernel : ∀ t : Fin grid0.N, _)

/-- The block's gradient from its windows. -/
def blkD (c : Dev nD) (t : Fin cfg0.N) : FVec Ideal S512x1024 .f32 := k0_pay3 (F := Ideal) (iblk m c 0 t) (iblk m c 1 t)

/-- The block of the packed gradient. -/
theorem u_blk (c : Dev nD) (t : Fin cfg0.N) (i : Fin 4096) (r : Fin 512) (l : Fin 4096) (hi : i.val = t.val * 512 + r.val) :
    iblk m c 0 t (ix2 r l) = V m c main_v22 (ix2 i l) := by
  blk_simp [iblk]
  refine congrArg _ ?_
  blk_ext [(idx0 t).1, hi]

/-- The block of the rows. -/
theorem x_blk (c : Dev nD) (t : Fin cfg0.N) (i : Fin 4096) (r : Fin 512) (k : Fin 1024) (hi : i.val = t.val * 512 + r.val) :
    iblk m c 2 t (ix2 r k) = aX m c (ix2 i k) := by
  refine Eq.trans ?_ (congrFun (V_main_arg0 m c) (ix2 i k))
  blk_simp [iblk]
  refine congrArg _ ?_
  blk_ext [(idx0 t).2.1, hi]

/-- The block of the gradient past the norm. -/
theorem r_blk (c : Dev nD) (t : Fin cfg0.N) (i : Fin 4096) (r : Fin 512) (k : Fin 1024) (hi : i.val = t.val * 512 + r.val) :
    iblk m c 4 t (ix2 r k) = aR m c (ix2 i k) := by
  refine Eq.trans ?_ (congrFun (V_main_arg4 m c) (ix2 i k))
  blk_simp [iblk]
  refine congrArg _ ?_
  blk_ext [(idx0 t).2.2.1, hi]

/-- The block of the gain. -/
theorem g_blk (c : Dev nD) (t : Fin cfg0.N) (k : Fin 1024) : iblk m c 3 t (ix2 0 k) = aG m c (ix2 0 k) := by
  refine Eq.trans ?_ (congrFun (V_main_arg1 m c) (ix2 0 k))
  blk_simp [iblk]
  refine congrArg _ ?_
  blk_ext [(idx1 t).2.1]

/-- The block of the weights. -/
theorem w_blk (c : Dev nD) (t : Fin cfg0.N) (l : Fin 4096) (k : Fin 1024) : iblk m c 1 t (ix2 l k) = V m c main_v11 (ix2 l k) := by
  blk_simp [iblk]
  refine congrArg _ ?_
  blk_ext [(idx1 t).1]

/-- The block's gradient is rows of the whole one. -/
theorem blkD_at (c : Dev nD) (t : Fin cfg0.N) (i : Fin 4096) (r : Fin 512) (k : Fin 1024) (hi : i.val = t.val * 512 + r.val) :
    blkD m c t (ix2 r k) = gD (aU m c) (aW m c) i k := by
  refine (prod_at _ _ r k).trans ?_
  unfold gD
  exact Finset.sum_congr rfl fun l _ => congrArg₂ (fun a b : EReal => a * b) ((u_blk m c t i r l hi).trans (congrFun (u_found m c) _))
    ((w_blk m c t l k).trans (congrFun (w_found m c) _))

/-- The gradient of the rows that enter the norm. -/
def gX (c : Dev nD) (i : Fin 4096) (j : Fin 1024) : EReal :=
  byHand (fun k : Fin 1024 => aX m c (ix2 i k)) (fun k : Fin 1024 => aG m c (ix2 0 k)) (fun k : Fin 1024 => gD (aU m c) (aW m c) i k)
    (Ideal.ofBits FTy.f32 0x44800000#32) (Ideal.ofBits FTy.f32 0x358637BD#32) j + aR m c (ix2 i j)

/-- The same as an array. -/
def arrX (c : Dev nD) (y : S4096x1024.Idx) : EReal := gX m c (y 0) (y 1)

/-- One entry of that array. -/
theorem arrX_at (c : Dev nD) (y : S4096x1024.Idx) (i : Fin 4096) (j : Fin 1024) (h0 : (y 0).val = i.val) (h1 : (y 1).val = j.val) :
    arrX m c y = gX m c i j := congrArg₂ (gX m c) (Fin.ext h0) (Fin.ext h1)

/-- What a grid point leaves in the row output. -/
theorem rows (c : Dev nD) (t : Fin cfg0.N) (i : Fin 4096) (r : Fin 512) (j : Fin 1024) (hi : i.val = t.val * 512 + r.val) :
    (outsAt0 m c t.val t.isLt).1 (ix2 r j) = gX m c i j := by
  have e : k0_pay7 (F := Ideal) (iblk m c 0 t) (iblk m c 1 t) (iblk m c 2 t) (iblk m c 3 t) (iblk m c 4 t) (ix2 r j) = gX m c i j := by
    refine (dx_at _ _ _ _ _ r j).trans (congrArg₂ (fun a b : EReal => a + b) ?_ (r_blk m c t i r j hi))
    rw [show (fun k : Fin 1024 => iblk m c 2 t (ix2 r k)) = fun k => aX m c (ix2 i k) from funext fun k => x_blk m c t i r k hi,
      show (fun k : Fin 1024 => iblk m c 3 t (ix2 0 k)) = fun k => aG m c (ix2 0 k) from funext fun k => g_blk m c t k]
    exact congrArg (fun z => byHand _ _ z _ _ j) (funext fun k => blkD_at m c t i r k hi)
  by_cases h0 : t.val % 8 = 0
  · rw [outsAt0_A m c t h0]
    frame_out
    exact e
  · rw [outsAt0_B m c t h0]
    frame_out
    exact e

/-- The row output after the run. -/
theorem arr5 (c : Dev nD) : (dats m 0 c).arrAt 5 cfg0.N = arrX m c := by
  refine (dats m 0 c).arrAt_eq_of_covers 5 _ (by decide +kernel) fun t hf y => ?_
  blk_simp
  rw [after0_5]
  have h0 : (((View.whole main_v23_0).slice (win0_5.rect t)).emb y 0).val = t.val * 512 + (y 0).val := by blk_simp [(idx0 t).2.2.2]
  have h1 : (((View.whole main_v23_0).slice (win0_5.rect t)).emb y 1).val = (y 1).val := by blk_simp [(idx0 t).2.2.2]
  idx_bounds y
  have ht : t.val < 8 := t.isLt
  have hy : (y : S512x1024.Idx) = ix2 (y 0) (y 1) := by idx_ext
  exact (congrArg (outsAt0 m c t.val t.isLt).1 hy).trans ((rows m c t ⟨t.val * 512 + (y 0).val, by omega⟩ _ _ rfl).trans
    (arrX_at m c _ _ (y 1) h0 h1).symm)

/-- What one row adds to the gain's gradient. -/
def gRow (c : Dev nD) (i : Fin 4096) (j : Fin 1024) : EReal :=
  gD (aU m c) (aW m c) i j * (aX m c (ix2 i j)
    * Rms.inv (fun k : Fin 1024 => aX m c (ix2 i k)) (Ideal.ofBits FTy.f32 0x44800000#32) (Ideal.ofBits FTy.f32 0x358637BD#32))

/-- What a grid point adds to the gain's gradient. -/
def stepG (c : Dev nD) (t : Fin cfg0.N) (y : S1x1024.Idx) : EReal :=
  ∑ r : Fin 512, gRow m c ⟨t.val * 512 + r.val, by have : t.val < 8 := t.isLt; omega⟩ (y 1)

/-- The sum of a block's rows joins what was there. -/
theorem add_at (v0 : Vec Ideal S512x4096 .bf16) (v2 : Vec Ideal S4096x1024 .bf16) (v5 : Vec Ideal S512x1024 .f32) (b : Vec Ideal S1x1024 .f32) (z : Fin 1) (j : Fin 1024) :
    k0_pay2 (F := Ideal) (k0_pay6 (F := Ideal) v0 v2 v5) b (ix2 z j)
      = b (ix2 z j) + ∑ r : Fin 512, k0_pay3 (F := Ideal) v0 v2 (ix2 r j) * (v5 (ix2 r j) * k0_pay4 (F := Ideal) v5 (ix2 r 0)) := by
  pointwise [k0_pay2, k0_pay6, k0_pay5]

/-- A grid point adds its rows to what was there. -/
theorem step (c : Dev nD) (t : Fin cfg0.N) (b : Vec Ideal S1x1024 .f32) (y : S1x1024.Idx) :
    k0_pay2 (F := Ideal) (k0_pay6 (F := Ideal) (iblk m c 0 t) (iblk m c 1 t) (iblk m c 2 t)) b y = (b y : EReal) + stepG m c t y := by
  obtain ⟨z, j, rfl⟩ : ∃ (z : Fin 1) (j : Fin 1024), y = ix2 z j := ⟨y 0, y 1, by idx_ext⟩
  have ht : t.val < 8 := t.isLt
  refine (add_at _ _ _ b z j).trans (congrArg (fun x : EReal => b (ix2 z j) + x) (Finset.sum_congr rfl fun r _ => ?_))
  unfold gRow
  have hi : (⟨t.val * 512 + r.val, by omega⟩ : Fin 4096).val = t.val * 512 + r.val := rfl
  refine congrArg₂ (fun a b : EReal => a * b) (blkD_at m c t _ r j hi) (congrArg₂ (fun a b : EReal => a * b) (x_blk m c t _ r j hi) ((inv_at _ r 0).trans ?_))
  exact congrArg (fun X => Rms.inv X _ _) (funext fun k => x_blk m c t _ r k hi)

/-- The gain's gradient after the last grid point. -/
theorem total (c : Dev nD) (t : Fin cfg0.N) (hr : t.val % 8 = 7) (y : S1x1024.Idx) :
    (outsAt0 m c t.val t.isLt).2 y
      = (k0_pay1 (F := Ideal) y : EReal) + ∑ s : Fin 8, stepG m c ⟨8 * (t.val / 8) + s.val, Pipeline.run_point_lt_of_flush t hr s⟩ y :=
  Pipeline.eq_sum_fin_of_reset_step_apply_of_flush (fun n h => (outsAt0 m c n h).2) 8 (k0_pay1 (F := Ideal)) (stepG m c)
    (fun t h y => by
      rw [outsAt0_A m c t h]
      frame_out
      exact step m c t _ y)
    (fun t h y => by
      rw [outsAt0_B m c t h]
      frame_out
      exact step m c t _ y) t hr y

/-- The gain's gradient. -/
def gG (c : Dev nD) (j : Fin 1024) : EReal := ∑ i : Fin 4096, gRow m c i j

/-- The grid points' additions are the sum over all rows. -/
theorem all_blocks (c : Dev nD) (t : Fin cfg0.N) (hr : t.val % 8 = 7) (y : S1x1024.Idx) :
    ∑ s : Fin 8, stepG m c ⟨8 * (t.val / 8) + s.val, Pipeline.run_point_lt_of_flush t hr s⟩ y = gG m c (y 1) := by
  have ht : t.val < 8 := t.isLt
  unfold stepG gG
  refine Eq.trans ?_ (Rms.sum_blocks 8 512 (fun i : Fin 4096 => gRow m c i (y 1)))
  refine Finset.sum_congr rfl fun s _ => Finset.sum_congr rfl fun r _ => congrArg (fun i => gRow m c i (y 1)) (Fin.ext ?_)
  show (8 * (t.val / 8) + s.val) * 512 + r.val = s.val * 512 + r.val
  omega

/-- The same as an array. -/
def arrG (c : Dev nD) (y : S1x1024.Idx) : EReal := gG m c (y 1)

/-- One entry of that array. -/
theorem arrG_at (c : Dev nD) (y : S1x1024.Idx) (j : Fin 1024) (h1 : (y 1).val = j.val) : arrG m c y = gG m c j := congrArg (gG m c) (Fin.ext h1)

/-- The gain output after the run. -/
theorem arr6 (c : Dev nD) : (dats m 0 c).arrAt 6 cfg0.N = arrG m c := by
  refine (dats m 0 c).arrAt_eq_of_covers 6 _ (by decide +kernel) fun t hf y => ?_
  have hr : t.val % 8 = 7 := (flush0_6 t).1 hf
  blk_simp
  rw [after0_6, total m c t hr]
  have h1 : (((View.whole main_v23_1).slice (win0_6.rect t)).emb y 1).val = (y 1).val := by blk_simp [(idx1 t).2.2]
  have ht : t.val < 8 := t.isLt
  refine Eq.trans ?_ (arrG_at m c _ (y 1) h1).symm
  have hz : (k0_pay1 (F := Ideal) y : EReal) = 0 := by
    have : ∀ (a : Fin 1) (b : Fin 1024), k0_pay1 (F := Ideal) (ix2 a b) = 0 := fun a b => by pointwise [k0_pay1]
    have hy : (y : S1x1024.Idx) = ix2 (y 0) (y 1) := by idx_ext
    exact (congrArg (k0_pay1 (F := Ideal)) hy).trans (this _ _)
  rw [hz, zero_add]
  exact all_blocks m c t hr y

end run

end Cert.Proof.Norm1
end
-- ==== Proof.Norm1Ref.lean ====
module

public import proofs.«01_k».proof.Defs
public import proofs.«01_k».proof.Proof.Gen.Norm1RefIdeal.Run
public import proofs.«01_k».proof.Proof.Gen.Norm1RefIdeal.Read
public import Idealize.ShloMosaic.Lib.Pipeline.ValueKit
public import proofs.«01_k».proof.Proof.Rms

@[expose] public section

set_option maxRecDepth 16384

noncomputable section

namespace Cert.Proof.Norm1

open Idealize.ShloMosaic Idealize.ShloMosaic.TcCoe Idealize.SL.Sem
open Cert.Norm1RefIdeal Cert.Proof.Rms
open Cert.Norm1RefIdeal.Read (val_main_v0 val_main_v1 val_main_v2 val_main_v3 val_main_v4 val_main_v5 val_main_v6 val_main_v7 val_main_v8 val_main_v9 val_main_v10
  val_main_v11 val_main_v12 val_main_v13 val_main_v18 val_main_v19 val_main_v20 val_main_v21 val_main_v22 val_main_v23 val_main_v24 val_main_v25 val_main_v26
  val_main_v27 val_main_v28 val_main_v29 val_main_v30 val_main_v31 val_main_v32 val_main_v33 val_main_v34 val_main_v35 val_main_v36 val_main_v37 val_main_v38
  val_main_cst val_main_cst_0 val_main_cst_1 val_main_cst_2 val_main_cst_3 val_main_cst_4 val_main_cst_5 val_main_cst_6)

section ref
variable (x0 : Vec Ideal S4096x1024 .f32) (x1 : Vec Ideal S1x1024 .f32) (x2 : Vec Ideal S1024x4032 .f32) (x3 : Vec Ideal S4096x4032 .f32)
  (x4 : Vec Ideal S4096x1024 .f32)

/-- The reference's mean square. -/
theorem r_msq (i : Fin 4096) (z : Fin 1) : val_main_v6 (F := Ideal) x0 (ix2 i z)
    = msq (fun k : Fin 1024 => x0 (ix2 i k)) (Ideal.ofBits FTy.f32 0x44800000#32) (Ideal.ofBits FTy.f32 0x358637BD#32) := by
  unfold msq
  pointwise [val_main_v0, val_main_v1, val_main_v2, val_main_v3, val_main_v4, val_main_v5, val_main_v6, val_main_cst, val_main_cst_0, val_main_cst_1]

/-- The reference's factor of a row. -/
theorem r_inv (i : Fin 4096) (z : Fin 1) : val_main_v7 (F := Ideal) x0 (ix2 i z)
    = Rms.inv (fun k : Fin 1024 => x0 (ix2 i k)) (Ideal.ofBits FTy.f32 0x44800000#32) (Ideal.ofBits FTy.f32 0x358637BD#32) := by
  unfold Rms.inv
  rw [← r_msq x0 i z]
  pointwise [val_main_v7]

/-- The reference's gradient of the normalised rows. -/
theorem r_dh (i : Fin 4096) (j : Fin 1024) : val_main_v18 (F := Ideal) x2 x3 (ix2 i j) = ∑ l : Fin 4032, x3 (ix2 i l) * x2 (ix2 j l) := by
  pointwise [val_main_v18]

/-- The reference's change of the factor. -/
theorem r_factor (i : Fin 4096) (j : Fin 1024) : val_main_v34 (F := Ideal) x0 x1 x2 x3 (ix2 i j)
    = factor (fun k : Fin 1024 => x0 (ix2 i k)) (fun k : Fin 1024 => x1 (ix2 0 k)) (fun k : Fin 1024 => val_main_v18 (F := Ideal) x2 x3 (ix2 i k))
      (Ideal.ofBits FTy.f32 0x44800000#32) (Ideal.ofBits FTy.f32 0x358637BD#32) (Ideal.ofBits FTy.f32 0xBF000000#32) := by
  unfold factor
  rw [← r_inv x0 i 0, ← r_msq x0 i 0]
  pointwise [val_main_v34, val_main_v33, val_main_v32, val_main_v31, val_main_v30, val_main_v26, val_main_v25, val_main_v24, val_main_v23, val_main_v22,
    val_main_v10, val_main_v9, val_main_v8, val_main_cst_2, val_main_cst_4, val_main_cst_5, val_main_cst_6]
  exact Fintype.sum_unique _

/-- The reference's gradient of the rows. -/
theorem r_dx (i : Fin 4096) (j : Fin 1024) : val_main_v38 (F := Ideal) x0 x1 x2 x3 x4 (ix2 i j)
    = x4 (ix2 i j) + val_main_v18 (F := Ideal) x2 x3 (ix2 i j) * x1 (ix2 0 j) * val_main_v7 (F := Ideal) x0 (ix2 i 0)
      + x0 (ix2 i j) * val_main_v34 (F := Ideal) x0 x1 x2 x3 (ix2 i j) + x0 (ix2 i j) * val_main_v34 (F := Ideal) x0 x1 x2 x3 (ix2 i j) := by
  refine Eq.trans ?_ (congrArg (fun z : EReal => x4 (ix2 i j) + val_main_v18 (F := Ideal) x2 x3 (ix2 i j) * x1 (ix2 0 j) * val_main_v7 (F := Ideal) x0 (ix2 i 0)
      + x0 (ix2 i j) * val_main_v34 (F := Ideal) x0 x1 x2 x3 (ix2 i j) + z) (mul_comm _ _))
  pointwise [val_main_v38, val_main_v37, val_main_v36, val_main_v35, val_main_v29, val_main_v28, val_main_v27, val_main_v23, val_main_v22]

/-- The reference's gradient of the gain. -/
theorem r_dg (z : Fin 1) (j : Fin 1024) : val_main_v21 (F := Ideal) x0 x2 x3 (ix2 z j)
    = ∑ i : Fin 4096, x0 (ix2 i j) * val_main_v7 (F := Ideal) x0 (ix2 i 0) * val_main_v18 (F := Ideal) x2 x3 (ix2 i j) := by
  pointwise [val_main_v21, val_main_v20, val_main_v19, val_main_v12, val_main_v11, val_main_cst_3]

end ref

end Cert.Proof.Norm1
end
-- ==== Proof.Norm1Eq.lean ====
module

public import proofs.«01_k».proof.Defs
public import proofs.«01_k».proof.Proof.Gen.Pre_norm1_finite
public import proofs.«01_k».proof.Proof.Norm1
public import proofs.«01_k».proof.Proof.Norm1Ref

@[expose] public section

set_option maxRecDepth 16384

noncomputable section

namespace Cert.Proof.Norm1

open Idealize.ShloMosaic Idealize.ShloMosaic.TcCoe Idealize.SL.Sem
open Cert.Norm1Ideal Cert.Norm1Ideal.Gen Cert.Proof.Rms Cert.Proof.Reals
open Cert.Norm1RefIdeal.Read (val_main_v18 val_main_v21 val_main_v38)

/-- What the precondition says of the call's arguments: they are real. -/
theorem args_real (a0 : FVec Ideal S4096x1024 .f32) (a1 : FVec Ideal S1x1024 .f32) (a2 : FVec Ideal S1024x4032 .f32) (a3 : FVec Ideal S4096x4032 .f32)
    (a4 : FVec Ideal S4096x1024 .f32)
    (h : (Cert.Pre_norm1_finite.fn (F := Ideal) a0 a1 a2 a3 a4).1 = (fun _ => 1#1) ∧ (Cert.Pre_norm1_finite.fn (F := Ideal) a0 a1 a2 a3 a4).2.1 = (fun _ => 1#1)
      ∧ (Cert.Pre_norm1_finite.fn (F := Ideal) a0 a1 a2 a3 a4).2.2.1 = (fun _ => 1#1) ∧ (Cert.Pre_norm1_finite.fn (F := Ideal) a0 a1 a2 a3 a4).2.2.2 = (fun _ => 1#1)) :
    ∃ (x : S4096x1024.Idx → ℝ) (g : S1x1024.Idx → ℝ) (w : S1024x4032.Idx → ℝ) (u : S4096x4032.Idx → ℝ),
      (a0 = fun y => (x y : EReal)) ∧ (a1 = fun y => (g y : EReal)) ∧ (a2 = fun y => (w y : EReal)) ∧ (a3 = fun y => (u y : EReal)) := by
  obtain ⟨h0, h1, h2, h3⟩ := h
  obtain ⟨x, hx⟩ := arr_real a0 _ (fun _ => inf_word) h0
  obtain ⟨g, hg⟩ := arr_real a1 _ (fun _ => inf_word) h1
  obtain ⟨w, hw⟩ := arr_real a2 _ (fun _ => inf_word) h2
  obtain ⟨u, hu⟩ := arr_real a3 _ (fun _ => inf_word) h3
  exact ⟨x, g, w, u, hx, hg, hw, hu⟩

/-- Both programs' products agree: the packed columns are the plain ones in another order, and zeros. -/
theorem dh_eq (A : Vec Ideal S4096x4032 .f32) (W : Vec Ideal S1024x4032 .f32) (i : Fin 4096) (k : Fin 1024) :
    gD A W i k = val_main_v18 (F := Ideal) W A (ix2 i k) := by
  refine Eq.trans ?_ (r_dh W A i k).symm
  refine Eq.trans ?_ (Layout.sum_packed (fun l : Fin 4032 => A (ix2 i l)) (fun l : Fin 4032 => W (ix2 k l)))
  exact Finset.sum_congr rfl fun l _ => congrArg₂ (fun a b : EReal => a * b) (hP_at A i l) (hW_at W l k)

section result
variable (m : (ℓ : Loc nD τ sig) → Buf (Elt Ideal) ℓ)

/-- The rows' gradient is the reference's. -/
theorem rows_eq (c : Dev nD) (x : S4096x1024.Idx → ℝ) (g : S1x1024.Idx → ℝ) (w : S1024x4032.Idx → ℝ) (u : S4096x4032.Idx → ℝ)
    (hx : aX m c = fun y => (x y : EReal)) (hg : aG m c = fun y => (g y : EReal)) (hw : aW m c = fun y => (w y : EReal))
    (hu : aU m c = fun y => (u y : EReal)) : arrX m c = val_main_v38 (F := Ideal) (aX m c) (aG m c) (aW m c) (aU m c) (aR m c) := by
  funext y
  obtain ⟨i, j, rfl⟩ : ∃ (i : Fin 4096) (j : Fin 1024), y = ix2 i j := ⟨y 0, y 1, by idx_ext⟩
  obtain ⟨ε, hε, he⟩ := lit_eps
  refine Eq.trans ?_ (r_dx _ _ _ _ _ i j).symm
  have e := byHand_add (n := 1024) (by norm_num) (fun k => x (ix2 i k)) (fun k => g (ix2 0 k)) (fun k => ∑ l : Fin 4032, u (ix2 i l) * w (ix2 k l))
    _ _ _ (aR m c (ix2 i j)) ε hε lit_1024 he lit_half (fun k : Fin 1024 => aX m c (ix2 i k)) (fun k : Fin 1024 => aG m c (ix2 0 k))
    (fun k : Fin 1024 => gD (aU m c) (aW m c) i k) (fun k => congrFun hx _) (fun k => congrFun hg _)
    (fun k => (dh_eq _ _ i k).trans ((r_dh _ _ i k).trans (prod_real _ _ _ _ (fun l => congrFun hu _) fun l => congrFun hw _))) j
  refine (arrX_at m c _ i j rfl rfl).trans (e.trans ?_)
  rw [r_factor, r_inv]
  simp only [dh_eq]

/-- The gain's gradient is the reference's. -/
theorem gain_eq (c : Dev nD) : arrG m c = val_main_v21 (F := Ideal) (aX m c) (aW m c) (aU m c) := by
  funext y
  obtain ⟨z, j, rfl⟩ : ∃ (z : Fin 1) (j : Fin 1024), y = ix2 z j := ⟨y 0, y 1, by idx_ext⟩
  refine (arrG_at m c _ j rfl).trans (Eq.trans ?_ (r_dg _ _ _ z j).symm)
  unfold gG gRow
  refine Finset.sum_congr rfl fun i _ => ?_
  rw [dh_eq, r_inv, mul_comm]

/-- Every result of the call is the reference's. -/
theorem equal : Cert.algebraic_Norm1Ideal_Norm1RefIdeal_pre_norm1_finite := by
  intro m ρ m' ρ' hp hag
  refine ⟨fun c => arrX m c, fun c => arrG m c, ?_, ?_⟩
  · refine (θ_run _ _ _).mono (fun r h c => ?_) (Cert.Norm1Ideal.Value.run_blocks m ρ)
    obtain ⟨h0, h1, ha⟩ := h c
    exact ⟨h0.trans (arr5 m c), h1.trans (arr6 m c), ha⟩
  · refine (θ_run _ _ _).mono (fun r h c => ?_) (Cert.Norm1RefIdeal.Value.run m' ρ')
    obtain ⟨h0, h1, ha⟩ := h c
    obtain ⟨g0, g1, g2, g3, g4⟩ := hag c
    obtain ⟨x, g, w, u, hx, hg, hw, hu⟩ := args_real _ _ _ _ _ (hp c)
    refine ⟨?_, ?_, ha⟩
    · exact (h0.trans (Cert.Norm1RefIdeal.Read.val_main_v38_eq _ _)).trans ((congr (congr (congr (congr (congrArg (val_main_v38 (F := Ideal)) g0) g1) g2) g3) g4).trans
        (rows_eq m c x g w u hx hg hw hu).symm)
    · exact (h1.trans (Cert.Norm1RefIdeal.Read.val_main_v21_eq _ _ _)).trans ((congr (congr (congrArg (val_main_v21 (F := Ideal)) g0) g2) g3).trans
        (gain_eq m c).symm)

end result
end Cert.Proof.Norm1
end
-- ==== Proof.Loss.lean ====
module

public import proofs.«01_k».proof.Defs
public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ValueKit
public import Idealize.ShloMosaic.Lib.Pipeline.ReadBack
public import proofs.«01_k».proof.Proof.Rms

@[expose] public section

set_option maxRecDepth 16384

noncomputable section

namespace Cert.Proof.Loss

open Idealize.ShloMosaic Idealize.ShloMosaic.TcCoe Idealize.SL.Sem
open Cert.LossIdeal Cert.LossIdeal.Gen Cert.Proof.Rms

section payload
variable (v0 : Vec Ideal S512x2816 .bf16) (v2 : Vec Ideal S2816x1024 .bf16) (v5 : Vec Ideal S512x1024 .f32) (v7 : Vec Ideal S1x1024 .f32)
  (v9 : Vec Ideal S512x1024 .f32)

/-- The block's rows after the product and what came past it. -/
theorem x2_at (i : Fin 512) (j : Fin 1024) :
    k0_pay2 (F := Ideal) v0 v2 v5 (ix2 i j) = (∑ k : Fin 2816, v0 (ix2 i k) * v2 (ix2 k j)) + v5 (ix2 i j) := by
  pointwise [k0_pay2]

/-- What a normalised row misses its target by. -/
def miss (X G T : Fin 1024 → EReal) (j : Fin 1024) : EReal := X j * Rms.inv X (Ideal.ofBits FTy.f32 0x44800000#32) (Ideal.ofBits FTy.f32 0x358637BD#32) * G j - T j

/-- The block's error. -/
theorem miss_at (i : Fin 512) (j : Fin 1024) :
    k0_pay4 (F := Ideal) v0 v2 v5 v7 v9 (ix2 i j)
      = miss (fun k : Fin 1024 => k0_pay2 (F := Ideal) v0 v2 v5 (ix2 i k)) (fun k : Fin 1024 => v7 (ix2 0 k)) (fun k : Fin 1024 => v9 (ix2 i k)) j := by
  unfold miss Rms.inv msq
  pointwise [k0_pay4, k0_pay3]

/-- The factor of a row of a block. -/
theorem inv_at (i : Fin 512) (z : Fin 1) :
    k0_pay8 (F := Ideal) (k0_pay7 (F := Ideal) v0 v2 v5) (Ideal.ofBits FTy.f32 0x44800000#32) (ix2 i z) = Rms.inv (fun k : Fin 1024 => k0_pay2 (F := Ideal) v0 v2 v5 (ix2 i k)) (Ideal.ofBits FTy.f32 0x44800000#32) (Ideal.ofBits FTy.f32 0x358637BD#32) := by
  unfold Rms.inv msq
  pointwise [k0_pay8, k0_pay7]

/-- The gradient that enters the norm. -/
theorem d_at (i : Fin 512) (j : Fin 1024) :
    k0_pay6 (F := Ideal) v0 v2 v5 v7 v9 (ix2 i j) = k0_pay4 (F := Ideal) v0 v2 v5 v7 v9 (ix2 i j) * (Ideal.ofBits FTy.f32 0x3A800000#32) := by
  pointwise [k0_pay6]

/-- The block's gradient row. -/
theorem dx_at (i : Fin 512) (j : Fin 1024) :
    k0_pay10 (F := Ideal) (k0_pay2 (F := Ideal) v0 v2 v5) (k0_pay3 (F := Ideal) v7) (k0_pay6 (F := Ideal) v0 v2 v5 v7 v9) (k0_pay7 (F := Ideal) v0 v2 v5) (Ideal.ofBits FTy.f32 0x44800000#32) (ix2 i j)
      = byHand (fun k : Fin 1024 => k0_pay2 (F := Ideal) v0 v2 v5 (ix2 i k)) (fun k : Fin 1024 => v7 (ix2 0 k))
        (fun k : Fin 1024 => k0_pay6 (F := Ideal) v0 v2 v5 v7 v9 (ix2 i k)) (Ideal.ofBits FTy.f32 0x44800000#32) (Ideal.ofBits FTy.f32 0x358637BD#32) j := by
  unfold byHand
  simp only [← inv_at v0 v2 v5 i 0]
  pointwise [k0_pay10, k0_pay9, k0_pay3]

/-- The sum of a block's rows joins what was there. -/
theorem add_at (b : Vec Ideal S1x1024 .f32) (z : Fin 1) (j : Fin 1024) :
    k0_pay14 (F := Ideal) (k0_pay2 (F := Ideal) v0 v2 v5) (k0_pay6 (F := Ideal) v0 v2 v5 v7 v9) (k0_pay7 (F := Ideal) v0 v2 v5) (Ideal.ofBits FTy.f32 0x44800000#32) b (ix2 z j)
      = b (ix2 z j) + ∑ r : Fin 512, k0_pay6 (F := Ideal) v0 v2 v5 v7 v9 (ix2 r j)
        * (k0_pay2 (F := Ideal) v0 v2 v5 (ix2 r j) * k0_pay8 (F := Ideal) (k0_pay7 (F := Ideal) v0 v2 v5) (Ideal.ofBits FTy.f32 0x44800000#32) (ix2 r 0)) := by
  pointwise [k0_pay14, k0_pay9]

/-- The block's loss joins what was there. -/
theorem loss_at (b : Vec Ideal S1x128 .f32) (z : Fin 1) (j : Fin 128) :
    k0_pay1 (F := Ideal) (k0_pay11 (F := Ideal) (k0_pay5 (F := Ideal) v0 v2 v5 v7 v9)) b (ix2 z j)
      = b (ix2 z j) + Ideal.ofBits FTy.f32 0x3F000000#32 * ∑ r : Fin 512, Ideal.div (∑ k : Fin 1024, k0_pay4 (F := Ideal) v0 v2 v5 v7 v9 (ix2 r k) * k0_pay4 (F := Ideal) v0 v2 v5 v7 v9 (ix2 r k)) (Ideal.ofBits FTy.f32 0x44800000#32) := by
  pointwise [k0_pay1, k0_pay11, k0_pay5]

end payload

section run
variable (m : (ℓ : Loc nD τ sig) → Buf (Elt Ideal) ℓ)

/-- The rows past the product. -/
abbrev aX (c : Dev nD) : Vec Ideal S4096x1024 .f32 := m ((c : Thread nD τ).loc main_arg0)
/-- The activations. -/
abbrev aU (c : Dev nD) : Vec Ideal S4096x2816 .f32 := m ((c : Thread nD τ).loc main_arg1)
/-- The weights. -/
abbrev aW (c : Dev nD) : Vec Ideal S2816x1024 .f32 := m ((c : Thread nD τ).loc main_arg2)
/-- The gain. -/
abbrev aG (c : Dev nD) : Vec Ideal S1024 .f32 := m ((c : Thread nD τ).loc main_arg3)
/-- The target. -/
abbrev aT (c : Dev nD) : Vec Ideal S4096x1024 .f32 := m ((c : Thread nD τ).loc main_arg4)

/-- The activations as the region finds them. -/
theorem u_found (c : Dev nD) (y : S4096x2816.Idx) : (V m c main_v0 : Vec Ideal S4096x2816 .bf16) y = aU m c y := by
  dsimp only [V, hostOps0]
  after_results_simp
  rfl

/-- The weights as the region finds them. -/
theorem w_found (c : Dev nD) (y : S2816x1024.Idx) : (V m c main_v1 : Vec Ideal S2816x1024 .bf16) y = aW m c y := by
  dsimp only [V, hostOps0]
  after_results_simp
  rfl

/-- The gain as the region finds it. -/
theorem g_found (c : Dev nD) (k : Fin 1024) : (V m c main_v2 : Vec Ideal S1x1024 .f32) (ix2 0 k) = aG m c (ix1 k) := by
  dsimp only [V, hostOps0]
  after_results_simp
  pointwise []

/-- The row windows move with the grid point. -/
theorem idx0 : ∀ t : Fin cfg0.N, win0_0.index t = ![t.val, 0] ∧ win0_2.index t = ![t.val, 0]
    ∧ win0_4.index t = ![t.val, 0] ∧ win0_5.index t = ![t.val, 0] ∧ win0_6.index t = ![t.val, 0] :=
  (by decide +kernel : ∀ t : Fin grid0.N, _)

/-- The other windows stay. -/
theorem idx1 : ∀ t : Fin cfg0.N, win0_1.index t = ![0, 0] ∧ win0_3.index t = ![0, 0] ∧ win0_7.index t = ![0, 0] ∧ win0_8.index t = ![0, 0] :=
  (by decide +kernel : ∀ t : Fin grid0.N, _)

/-- The block of the activations. -/
theorem u_blk (c : Dev nD) (t : Fin cfg0.N) (i : Fin 4096) (r : Fin 512) (l : Fin 2816) (hi : i.val = t.val * 512 + r.val) :
    iblk m c 0 t (ix2 r l) = aU m c (ix2 i l) := by
  refine Eq.trans ?_ (u_found m c (ix2 i l))
  blk_simp [iblk]
  refine congrArg _ ?_
  blk_ext [(idx0 t).1, hi]

/-- The block of the rows. -/
theorem x_blk (c : Dev nD) (t : Fin cfg0.N) (i : Fin 4096) (r : Fin 512) (k : Fin 1024) (hi : i.val = t.val * 512 + r.val) :
    iblk m c 2 t (ix2 r k) = aX m c (ix2 i k) := by
  refine Eq.trans ?_ (congrFun (V_main_arg0 m c) (ix2 i k))
  blk_simp [iblk]
  refine congrArg _ ?_
  blk_ext [(idx0 t).2.1, hi]

/-- The block of the target. -/
theorem t_blk (c : Dev nD) (t : Fin cfg0.N) (i : Fin 4096) (r : Fin 512) (k : Fin 1024) (hi : i.val = t.val * 512 + r.val) :
    iblk m c 4 t (ix2 r k) = aT m c (ix2 i k) := by
  refine Eq.trans ?_ (congrFun (V_main_arg4 m c) (ix2 i k))
  blk_simp [iblk]
  refine congrArg _ ?_
  blk_ext [(idx0 t).2.2.1, hi]

/-- The block of the gain. -/
theorem g_blk (c : Dev nD) (t : Fin cfg0.N) (k : Fin 1024) : iblk m c 3 t (ix2 0 k) = aG m c (ix1 k) := by
  refine Eq.trans ?_ (g_found m c k)
  blk_simp [iblk]
  refine congrArg _ ?_
  blk_ext [(idx1 t).2.1]

/-- The block of the weights. -/
theorem w_blk (c : Dev nD) (t : Fin cfg0.N) (l : Fin 2816) (k : Fin 1024) : iblk m c 1 t (ix2 l k) = aW m c (ix2 l k) := by
  refine Eq.trans ?_ (w_found m c (ix2 l k))
  blk_simp [iblk]
  refine congrArg _ ?_
  blk_ext [(idx1 t).1]

/-- The rows that enter the last norm. -/
def gX2 (c : Dev nD) (i : Fin 4096) (k : Fin 1024) : EReal := (∑ l : Fin 2816, aU m c (ix2 i l) * aW m c (ix2 l k)) + aX m c (ix2 i k)

/-- What the normalised rows miss the target by. -/
def gE (c : Dev nD) (i : Fin 4096) (k : Fin 1024) : EReal :=
  miss (fun k => gX2 m c i k) (fun k : Fin 1024 => aG m c (ix1 k)) (fun k : Fin 1024 => aT m c (ix2 i k)) k

/-- The gradient that enters the norm. -/
def gD (c : Dev nD) (i : Fin 4096) (k : Fin 1024) : EReal := gE m c i k * Ideal.ofBits FTy.f32 0x3A800000#32

/-- The block's rows are rows of the whole. -/
theorem x2_blk (c : Dev nD) (t : Fin cfg0.N) (i : Fin 4096) (r : Fin 512) (k : Fin 1024) (hi : i.val = t.val * 512 + r.val) :
    k0_pay2 (F := Ideal) (iblk m c 0 t) (iblk m c 1 t) (iblk m c 2 t) (ix2 r k) = gX2 m c i k := by
  refine (x2_at _ _ _ r k).trans (congrArg₂ (fun a b : EReal => a + b) ?_ (x_blk m c t i r k hi))
  exact Finset.sum_congr rfl fun l _ => congrArg₂ (fun a b : EReal => a * b) (u_blk m c t i r l hi) (w_blk m c t l k)

/-- The block's errors are errors of the whole. -/
theorem e_blk (c : Dev nD) (t : Fin cfg0.N) (i : Fin 4096) (r : Fin 512) (k : Fin 1024) (hi : i.val = t.val * 512 + r.val) :
    k0_pay4 (F := Ideal) (iblk m c 0 t) (iblk m c 1 t) (iblk m c 2 t) (iblk m c 3 t) (iblk m c 4 t) (ix2 r k) = gE m c i k := by
  refine (miss_at _ _ _ _ _ r k).trans ?_
  rw [show (fun k : Fin 1024 => k0_pay2 (F := Ideal) (iblk m c 0 t) (iblk m c 1 t) (iblk m c 2 t) (ix2 r k)) = fun k => gX2 m c i k from funext fun k => x2_blk m c t i r k hi,
    show (fun k : Fin 1024 => iblk m c 3 t (ix2 0 k)) = fun k => aG m c (ix1 k) from funext fun k => g_blk m c t k,
    show (fun k : Fin 1024 => iblk m c 4 t (ix2 r k)) = fun k => aT m c (ix2 i k) from funext fun k => t_blk m c t i r k hi]
  rfl

/-- The block's gradients are gradients of the whole. -/
theorem d_blk (c : Dev nD) (t : Fin cfg0.N) (i : Fin 4096) (r : Fin 512) (k : Fin 1024) (hi : i.val = t.val * 512 + r.val) :
    k0_pay6 (F := Ideal) (iblk m c 0 t) (iblk m c 1 t) (iblk m c 2 t) (iblk m c 3 t) (iblk m c 4 t) (ix2 r k) = gD m c i k :=
  (d_at _ _ _ _ _ r k).trans (congrArg (fun z : EReal => z * Ideal.ofBits FTy.f32 0x3A800000#32) (e_blk m c t i r k hi))

/-- The gradient of the rows that enter the norm. -/
def gX (c : Dev nD) (i : Fin 4096) (j : Fin 1024) : EReal :=
  byHand (fun k => gX2 m c i k) (fun k : Fin 1024 => aG m c (ix1 k)) (fun k => gD m c i k) (Ideal.ofBits FTy.f32 0x44800000#32) (Ideal.ofBits FTy.f32 0x358637BD#32) j

/-- The same as an array. -/
def arrX (c : Dev nD) (y : S4096x1024.Idx) : EReal := gX m c (y 0) (y 1)

/-- One entry of that array. -/
theorem arrX_at (c : Dev nD) (y : S4096x1024.Idx) (i : Fin 4096) (j : Fin 1024) (h0 : (y 0).val = i.val) (h1 : (y 1).val = j.val) :
    arrX m c y = gX m c i j := congrArg₂ (gX m c) (Fin.ext h0) (Fin.ext h1)

/-- What a grid point leaves in the two row outputs. -/
theorem rows (c : Dev nD) (t : Fin cfg0.N) (i : Fin 4096) (r : Fin 512) (j : Fin 1024) (hi : i.val = t.val * 512 + r.val) :
    (outsAt0 m c t.val t.isLt).1 (ix2 r j) = gX m c i j ∧ (outsAt0 m c t.val t.isLt).2.1 (ix2 r j) = gX m c i j := by
  have e := (dx_at (iblk m c 0 t) (iblk m c 1 t) (iblk m c 2 t) (iblk m c 3 t) (iblk m c 4 t) r j).trans (show _ = gX m c i j by
    rw [show (fun k : Fin 1024 => k0_pay2 (F := Ideal) (iblk m c 0 t) (iblk m c 1 t) (iblk m c 2 t) (ix2 r k)) = fun k => gX2 m c i k from funext fun k => x2_blk m c t i r k hi,
      show (fun k : Fin 1024 => iblk m c 3 t (ix2 0 k)) = fun k => aG m c (ix1 k) from funext fun k => g_blk m c t k,
      show (fun k : Fin 1024 => k0_pay6 (F := Ideal) (iblk m c 0 t) (iblk m c 1 t) (iblk m c 2 t) (iblk m c 3 t) (iblk m c 4 t) (ix2 r k)) = fun k => gD m c i k
        from funext fun k => d_blk m c t i r k hi]
    rfl)
  by_cases h0 : t.val % 8 = 0
  · rw [outsAt0_A m c t h0 h0]
    constructor
    · frame_out
      exact e
    · frame_out
      exact e
  · rw [outsAt0_B m c t h0 h0]
    constructor
    · frame_out
      exact e
    · frame_out
      exact e

/-- The row output after the run. -/
theorem arr5 (c : Dev nD) : (dats m 0 c).arrAt 5 cfg0.N = arrX m c := by
  refine (dats m 0 c).arrAt_eq_of_covers 5 _ (by decide +kernel) fun t hf y => ?_
  blk_simp
  rw [after0_5]
  have h0 : (((View.whole main_v3_0).slice (win0_5.rect t)).emb y 0).val = t.val * 512 + (y 0).val := by blk_simp [(idx0 t).2.2.2.1]
  have h1 : (((View.whole main_v3_0).slice (win0_5.rect t)).emb y 1).val = (y 1).val := by blk_simp [(idx0 t).2.2.2.1]
  idx_bounds y
  have ht : t.val < 8 := t.isLt
  have hy : (y : S512x1024.Idx) = ix2 (y 0) (y 1) := by idx_ext
  exact (congrArg (outsAt0 m c t.val t.isLt).1 hy).trans ((rows m c t ⟨t.val * 512 + (y 0).val, by omega⟩ _ _ rfl).1.trans
    (arrX_at m c _ _ (y 1) h0 h1).symm)

/-- The narrowed row output after the run. -/
theorem arr6 (c : Dev nD) : (dats m 0 c).arrAt 6 cfg0.N = arrX m c := by
  refine (dats m 0 c).arrAt_eq_of_covers 6 _ (by decide +kernel) fun t hf y => ?_
  blk_simp
  rw [after0_6]
  have h0 : (((View.whole main_v3_1).slice (win0_6.rect t)).emb y 0).val = t.val * 512 + (y 0).val := by blk_simp [(idx0 t).2.2.2.2]
  have h1 : (((View.whole main_v3_1).slice (win0_6.rect t)).emb y 1).val = (y 1).val := by blk_simp [(idx0 t).2.2.2.2]
  idx_bounds y
  have ht : t.val < 8 := t.isLt
  have hy : (y : S512x1024.Idx) = ix2 (y 0) (y 1) := by idx_ext
  exact (congrArg (outsAt0 m c t.val t.isLt).2.1 hy).trans ((rows m c t ⟨t.val * 512 + (y 0).val, by omega⟩ _ _ rfl).2.trans
    (arrX_at m c _ _ (y 1) h0 h1).symm)

/-- What one row adds to the gain's gradient. -/
def gRow (c : Dev nD) (i : Fin 4096) (j : Fin 1024) : EReal := gD m c i j * (gX2 m c i j * Rms.inv (fun k => gX2 m c i k) (Ideal.ofBits FTy.f32 0x44800000#32) (Ideal.ofBits FTy.f32 0x358637BD#32))

/-- What a grid point adds to the gain's gradient. -/
def stepG (c : Dev nD) (t : Fin cfg0.N) (y : S1x1024.Idx) : EReal :=
  ∑ r : Fin 512, gRow m c ⟨t.val * 512 + r.val, by have : t.val < 8 := t.isLt; omega⟩ (y 1)

/-- A grid point adds its rows to what was there. -/
theorem stepG_at (c : Dev nD) (t : Fin cfg0.N) (b : Vec Ideal S1x1024 .f32) (y : S1x1024.Idx) :
    k0_pay14 (F := Ideal) (k0_pay2 (F := Ideal) (iblk m c 0 t) (iblk m c 1 t) (iblk m c 2 t))
      (k0_pay6 (F := Ideal) (iblk m c 0 t) (iblk m c 1 t) (iblk m c 2 t) (iblk m c 3 t) (iblk m c 4 t))
      (k0_pay7 (F := Ideal) (iblk m c 0 t) (iblk m c 1 t) (iblk m c 2 t)) (Ideal.ofBits FTy.f32 0x44800000#32) b y = (b y : EReal) + stepG m c t y := by
  obtain ⟨z, j, rfl⟩ : ∃ (z : Fin 1) (j : Fin 1024), y = ix2 z j := ⟨y 0, y 1, by idx_ext⟩
  have ht : t.val < 8 := t.isLt
  refine (add_at _ _ _ _ _ b z j).trans (congrArg (fun x : EReal => b (ix2 z j) + x) (Finset.sum_congr rfl fun r _ => ?_))
  unfold gRow
  have hi : (⟨t.val * 512 + r.val, by omega⟩ : Fin 4096).val = t.val * 512 + r.val := rfl
  refine congrArg₂ (fun a b : EReal => a * b) (d_blk m c t _ r j hi) (congrArg₂ (fun a b : EReal => a * b) (x2_blk m c t _ r j hi) ((inv_at _ _ _ r 0).trans ?_))
  exact congrArg (fun X => Rms.inv X _ _) (funext fun k => x2_blk m c t _ r k hi)

/-- The gain's gradient after the last grid point. -/
theorem totalG (c : Dev nD) (t : Fin cfg0.N) (hr : t.val % 8 = 7) (y : S1x1024.Idx) :
    (outsAt0 m c t.val t.isLt).2.2.1 y
      = (k0_pay13 (F := Ideal) y : EReal) + ∑ s : Fin 8, stepG m c ⟨8 * (t.val / 8) + s.val, Pipeline.run_point_lt_of_flush t hr s⟩ y :=
  Pipeline.eq_sum_fin_of_reset_step_apply_of_flush (fun n h => (outsAt0 m c n h).2.2.1) 8 (k0_pay13 (F := Ideal)) (stepG m c)
    (fun t h y => by
      rw [outsAt0_A m c t h h]
      frame_out
      exact stepG_at m c t _ y)
    (fun t h y => by
      rw [outsAt0_B m c t h h]
      frame_out
      exact stepG_at m c t _ y) t hr y

/-- The gain's gradient. -/
def gG (c : Dev nD) (j : Fin 1024) : EReal := ∑ i : Fin 4096, gRow m c i j

/-- The grid points' additions are the sum over all rows. -/
theorem all_blocks (f : Fin 4096 → EReal) (t : Fin cfg0.N) (hr : t.val % 8 = 7) :
    ∑ s : Fin 8, ∑ r : Fin 512, f ⟨(8 * (t.val / 8) + s.val) * 512 + r.val, by have : t.val < 8 := t.isLt; omega⟩ = ∑ i, f i := by
  have ht : t.val < 8 := t.isLt
  refine Eq.trans ?_ (Rms.sum_blocks 8 512 f)
  refine Finset.sum_congr rfl fun s _ => Finset.sum_congr rfl fun r _ => congrArg f (Fin.ext ?_)
  show (8 * (t.val / 8) + s.val) * 512 + r.val = s.val * 512 + r.val
  omega

/-- The gain's gradient as an array. -/
def arrG (c : Dev nD) (y : S1x1024.Idx) : EReal := gG m c (y 1)

/-- One entry of that array. -/
theorem arrG_at (c : Dev nD) (y : S1x1024.Idx) (j : Fin 1024) (h1 : (y 1).val = j.val) : arrG m c y = gG m c j := congrArg (gG m c) (Fin.ext h1)

/-- The gain output after the run. -/
theorem arr7 (c : Dev nD) : (dats m 0 c).arrAt 7 cfg0.N = arrG m c := by
  refine (dats m 0 c).arrAt_eq_of_covers 7 _ (by decide +kernel) fun t hf y => ?_
  have hr : t.val % 8 = 7 := (flush0_7 t).1 hf
  blk_simp
  rw [after0_7, totalG m c t hr]
  have h1 : (((View.whole main_v3_2).slice (win0_7.rect t)).emb y 1).val = (y 1).val := by blk_simp [(idx1 t).2.2.1]
  refine Eq.trans ?_ (arrG_at m c _ (y 1) h1).symm
  have hz : (k0_pay13 (F := Ideal) y : EReal) = 0 := by
    have : ∀ (a : Fin 1) (b : Fin 1024), k0_pay13 (F := Ideal) (ix2 a b) = 0 := fun a b => by pointwise [k0_pay13]
    have hy : (y : S1x1024.Idx) = ix2 (y 0) (y 1) := by idx_ext
    exact (congrArg (k0_pay13 (F := Ideal)) hy).trans (this _ _)
  rw [hz, zero_add]
  exact all_blocks (fun i => gRow m c i (y 1)) t hr

/-- The mean square of a row's errors. -/
def sq (c : Dev nD) (i : Fin 4096) : EReal := Ideal.div (∑ k : Fin 1024, gE m c i k * gE m c i k) (Ideal.ofBits FTy.f32 0x44800000#32)

/-- What a grid point adds to the loss. -/
def stepL (c : Dev nD) (t : Fin cfg0.N) (_ : S1x128.Idx) : EReal :=
  Ideal.ofBits FTy.f32 0x3F000000#32 * ∑ r : Fin 512, sq m c ⟨t.val * 512 + r.val, by have : t.val < 8 := t.isLt; omega⟩

/-- A grid point adds its rows' loss to what was there. -/
theorem stepL_at (c : Dev nD) (t : Fin cfg0.N) (b : Vec Ideal S1x128 .f32) (y : S1x128.Idx) :
    k0_pay1 (F := Ideal) (k0_pay11 (F := Ideal) (k0_pay5 (F := Ideal) (iblk m c 0 t) (iblk m c 1 t) (iblk m c 2 t) (iblk m c 3 t) (iblk m c 4 t))) b y
      = (b y : EReal) + stepL m c t y := by
  obtain ⟨z, j, rfl⟩ : ∃ (z : Fin 1) (j : Fin 128), y = ix2 z j := ⟨y 0, y 1, by idx_ext⟩
  have ht : t.val < 8 := t.isLt
  refine (loss_at _ _ _ _ _ b z j).trans (congrArg (fun x : EReal => b (ix2 z j) + Ideal.ofBits FTy.f32 0x3F000000#32 * x) (Finset.sum_congr rfl fun r _ => ?_))
  have hi : (⟨t.val * 512 + r.val, by omega⟩ : Fin 4096).val = t.val * 512 + r.val := rfl
  exact congrArg (fun x : EReal => Ideal.div x _) (Finset.sum_congr rfl fun k _ =>
    congrArg₂ (fun a b : EReal => a * b) (e_blk m c t _ r k hi) (e_blk m c t _ r k hi))

/-- The loss after the last grid point. -/
theorem totalL (c : Dev nD) (t : Fin cfg0.N) (hr : t.val % 8 = 7) (y : S1x128.Idx) :
    (outsAt0 m c t.val t.isLt).2.2.2 y
      = (k0_pay15 (F := Ideal) y : EReal) + ∑ s : Fin 8, stepL m c ⟨8 * (t.val / 8) + s.val, Pipeline.run_point_lt_of_flush t hr s⟩ y :=
  Pipeline.eq_sum_fin_of_reset_step_apply_of_flush (fun n h => (outsAt0 m c n h).2.2.2) 8 (k0_pay15 (F := Ideal)) (stepL m c)
    (fun t h y => by
      rw [outsAt0_A m c t h h]
      frame_out
      exact stepL_at m c t _ y)
    (fun t h y => by
      rw [outsAt0_B m c t h h]
      frame_out
      exact stepL_at m c t _ y) t hr y

/-- The loss as the blocks add it. -/
def gL (c : Dev nD) : EReal := ∑ s : Fin 8, Ideal.ofBits FTy.f32 0x3F000000#32 * ∑ r : Fin 512, sq m c ⟨s.val * 512 + r.val, by omega⟩

/-- The grid points' losses. -/
theorem all_losses (c : Dev nD) (t : Fin cfg0.N) (hr : t.val % 8 = 7) (y : S1x128.Idx) :
    ∑ s : Fin 8, stepL m c ⟨8 * (t.val / 8) + s.val, Pipeline.run_point_lt_of_flush t hr s⟩ y = gL m c := by
  have ht : t.val < 8 := t.isLt
  unfold stepL gL
  refine Finset.sum_congr rfl fun s _ => congrArg (fun x : EReal => Ideal.ofBits FTy.f32 0x3F000000#32 * x)
    (Finset.sum_congr rfl fun r _ => congrArg (sq m c) (Fin.ext ?_))
  show (8 * (t.val / 8) + s.val) * 512 + r.val = s.val * 512 + r.val
  omega

/-- The loss row. -/
def arrL (c : Dev nD) (_ : S1x128.Idx) : EReal := gL m c

/-- The loss output after the run. -/
theorem arr8 (c : Dev nD) : (dats m 0 c).arrAt 8 cfg0.N = arrL m c := by
  refine (dats m 0 c).arrAt_eq_of_covers 8 _ (by decide +kernel) fun t hf y => ?_
  have hr : t.val % 8 = 7 := (flush0_8 t).1 hf
  blk_simp
  rw [after0_8, totalL m c t hr]
  refine Eq.trans ?_ (rfl : gL m c = arrL m c _)
  have hz : (k0_pay15 (F := Ideal) y : EReal) = 0 := by
    have : ∀ (a : Fin 1) (b : Fin 128), k0_pay15 (F := Ideal) (ix2 a b) = 0 := fun a b => by pointwise [k0_pay15]
    have hy : (y : S1x128.Idx) = ix2 (y 0) (y 1) := by idx_ext
    exact (congrArg (k0_pay15 (F := Ideal)) hy).trans (this _ _)
  rw [hz, zero_add]
  exact all_losses m c t hr y

end run

end Cert.Proof.Loss
end
-- ==== Proof.LossRef.lean ====
module

public import proofs.«01_k».proof.Defs
public import proofs.«01_k».proof.Proof.Gen.LossRefIdeal.Run
public import proofs.«01_k».proof.Proof.Gen.LossRefIdeal.Read
public import Idealize.ShloMosaic.Lib.Pipeline.ValueKit
public import proofs.«01_k».proof.Proof.Rms

@[expose] public section

set_option maxRecDepth 16384

noncomputable section

namespace Cert.Proof.Loss

open Idealize.ShloMosaic Idealize.ShloMosaic.TcCoe Idealize.SL.Sem
open Cert.LossRefIdeal Cert.LossRefIdeal.Read Cert.Proof.Rms

section ref
variable (x0 : Vec Ideal S4096x1024 .f32) (x1 : Vec Ideal S4096x2816 .f32) (x2 : Vec Ideal S2816x1024 .f32) (x3 : Vec Ideal S1024 .f32)
  (x4 : Vec Ideal S4096x1024 .f32)

/-- The reference's rows that enter the norm. -/
theorem r_x (i : Fin 4096) (k : Fin 1024) : val_main_v1 (F := Ideal) x0 x1 x2 (ix2 i k) = x0 (ix2 i k) + ∑ l : Fin 2816, x1 (ix2 i l) * x2 (ix2 l k) := by
  pointwise [val_main_v1, val_main_v0]

/-- The reference's mean square. -/
theorem r_msq (i : Fin 4096) (z : Fin 1) : val_main_v8 (F := Ideal) x0 x1 x2 (ix2 i z)
    = msq (fun k : Fin 1024 => val_main_v1 (F := Ideal) x0 x1 x2 (ix2 i k)) (Ideal.ofBits FTy.f32 0x44800000#32) (Ideal.ofBits FTy.f32 0x358637BD#32) := by
  unfold msq
  pointwise [val_main_v2, val_main_v3, val_main_v4, val_main_v5, val_main_v6, val_main_v7, val_main_v8, val_main_cst, val_main_cst_0, val_main_cst_1]

/-- The reference's factor of a row. -/
theorem r_inv (i : Fin 4096) (z : Fin 1) : val_main_v9 (F := Ideal) x0 x1 x2 (ix2 i z)
    = Rms.inv (fun k : Fin 1024 => val_main_v1 (F := Ideal) x0 x1 x2 (ix2 i k)) (Ideal.ofBits FTy.f32 0x44800000#32) (Ideal.ofBits FTy.f32 0x358637BD#32) := by
  unfold Rms.inv
  rw [← r_msq x0 x1 x2 i z]
  pointwise [val_main_v9]

/-- What the reference's normalised rows miss the target by. -/
theorem r_miss (i : Fin 4096) (j : Fin 1024) : val_main_v18 (F := Ideal) x0 x1 x2 x3 x4 (ix2 i j)
    = val_main_v1 (F := Ideal) x0 x1 x2 (ix2 i j) * val_main_v9 (F := Ideal) x0 x1 x2 (ix2 i 0) * x3 (ix1 j) - x4 (ix2 i j) := by
  pointwise [val_main_v18, val_main_v17, val_main_v16, val_main_v15, val_main_v14, val_main_v13]

/-- The reference's gradient that enters the norm. -/
theorem r_d (i : Fin 4096) (j : Fin 1024) : val_main_v32 (F := Ideal) x0 x1 x2 x3 x4 (ix2 i j)
    = Ideal.div (Ideal.ofBits FTy.f32 0x3F000000#32 * Ideal.ofBits FTy.f32 0x3F800000#32) (Ideal.ofBits FTy.f32 0x44800000#32)
      * (Ideal.ofBits FTy.f32 0x40000000#32 * val_main_v18 (F := Ideal) x0 x1 x2 x3 x4 (ix2 i j)) := by
  pointwise [val_main_v32, val_main_v31, val_main_v30, val_main_v29, val_main_v28, val_main_v27, val_main_v21, val_main_v20, val_main_cst_3, val_main_cst_8,
    val_main_cst_9, val_main_cst_10]

/-- The reference's change of the factor. -/
theorem r_factor (i : Fin 4096) (j : Fin 1024) : val_main_v48 (F := Ideal) x0 x1 x2 x3 x4 (ix2 i j)
    = factor (fun k : Fin 1024 => val_main_v1 (F := Ideal) x0 x1 x2 (ix2 i k)) (fun k : Fin 1024 => x3 (ix1 k))
      (fun k : Fin 1024 => val_main_v32 (F := Ideal) x0 x1 x2 x3 x4 (ix2 i k)) (Ideal.ofBits FTy.f32 0x44800000#32) (Ideal.ofBits FTy.f32 0x358637BD#32) (Ideal.ofBits FTy.f32 0xBF000000#32) := by
  unfold factor
  rw [← r_inv x0 x1 x2 i 0, ← r_msq x0 x1 x2 i 0]
  pointwise [val_main_v48, val_main_v47, val_main_v46, val_main_v45, val_main_v44, val_main_v41, val_main_v40, val_main_v39, val_main_v37, val_main_v36, val_main_v15,
    val_main_v12, val_main_v11, val_main_v10, val_main_cst_2, val_main_cst_13, val_main_cst_14, val_main_cst_15]
  exact Fintype.sum_unique _

/-- The reference's gradient of the rows. -/
theorem r_dx (i : Fin 4096) (j : Fin 1024) : val_main_v52 (F := Ideal) x0 x1 x2 x3 x4 (ix2 i j)
    = val_main_v32 (F := Ideal) x0 x1 x2 x3 x4 (ix2 i j) * x3 (ix1 j) * val_main_v9 (F := Ideal) x0 x1 x2 (ix2 i 0)
      + val_main_v1 (F := Ideal) x0 x1 x2 (ix2 i j) * val_main_v48 (F := Ideal) x0 x1 x2 x3 x4 (ix2 i j)
      + val_main_v1 (F := Ideal) x0 x1 x2 (ix2 i j) * val_main_v48 (F := Ideal) x0 x1 x2 x3 x4 (ix2 i j) := by
  refine Eq.trans ?_ (congrArg (fun z : EReal => val_main_v32 (F := Ideal) x0 x1 x2 x3 x4 (ix2 i j) * x3 (ix1 j) * val_main_v9 (F := Ideal) x0 x1 x2 (ix2 i 0)
      + val_main_v1 (F := Ideal) x0 x1 x2 (ix2 i j) * val_main_v48 (F := Ideal) x0 x1 x2 x3 x4 (ix2 i j) + z) (mul_comm _ _))
  pointwise [val_main_v52, val_main_v51, val_main_v50, val_main_v49, val_main_v43, val_main_v42, val_main_v37, val_main_v36, val_main_v15]

/-- The reference's gradient of the gain. -/
theorem r_dg (z : Fin 1) (j : Fin 1024) : val_main_v54 (F := Ideal) x0 x1 x2 x3 x4 (ix2 z j)
    = ∑ i : Fin 4096, val_main_v1 (F := Ideal) x0 x1 x2 (ix2 i j) * val_main_v9 (F := Ideal) x0 x1 x2 (ix2 i 0) * val_main_v32 (F := Ideal) x0 x1 x2 x3 x4 (ix2 i j) := by
  pointwise [val_main_v54, val_main_v38, val_main_v35, val_main_v34, val_main_v33, val_main_v14, val_main_v13, val_main_cst_11, val_main_cst_12]
  exact Fintype.sum_unique _

/-- The reference's loss. -/
theorem r_loss (z : Fin 1) (j : Fin 128) : val_main_v55 (F := Ideal) x0 x1 x2 x3 x4 (ix2 z j)
    = Ideal.ofBits FTy.f32 0x3F000000#32 * ∑ i : Fin 4096, Ideal.div (∑ k : Fin 1024, val_main_v18 (F := Ideal) x0 x1 x2 x3 x4 (ix2 i k)
      * val_main_v18 (F := Ideal) x0 x1 x2 x3 x4 (ix2 i k)) (Ideal.ofBits FTy.f32 0x44800000#32) := by
  pointwise [val_main_v55, val_main_v26, val_main_v25, val_main_v24, val_main_v23, val_main_v22, val_main_v19, val_main_cst_4, val_main_cst_5, val_main_cst_6, val_main_cst_7]

end ref

end Cert.Proof.Loss
end
-- ==== Proof.LossEq.lean ====
module

public import proofs.«01_k».proof.Defs
public import proofs.«01_k».proof.Proof.Gen.Pre_loss_finite
public import proofs.«01_k».proof.Proof.Loss
public import proofs.«01_k».proof.Proof.LossRef

@[expose] public section

set_option maxRecDepth 16384

noncomputable section

namespace Cert.Proof.Loss

open Idealize.ShloMosaic Idealize.ShloMosaic.TcCoe Idealize.SL.Sem
open Cert.LossIdeal Cert.LossIdeal.Gen Cert.Proof.Rms Cert.Proof.Reals
open Cert.LossRefIdeal.Read (val_main_v1 val_main_v9 val_main_v18 val_main_v32 val_main_v48 val_main_v52 val_main_v53 val_main_v54 val_main_v55)

/-- The literal one half. -/
theorem lit_plus_half : (Ideal.ofBits FTy.f32 0x3F000000#32 : EReal) = ((1 / 2 : ℝ) : EReal) := by
  simp [Ideal.ofBits, Ideal.ieee, -EReal.coe_mul]; norm_num

/-- The literal one. -/
theorem lit_one : (Ideal.ofBits FTy.f32 0x3F800000#32 : EReal) = ((1 : ℝ) : EReal) := by
  simp [Ideal.ofBits, Ideal.ieee, -EReal.coe_mul]; norm_num

/-- The literal two. -/
theorem lit_two : (Ideal.ofBits FTy.f32 0x40000000#32 : EReal) = ((2 : ℝ) : EReal) := by
  simp [Ideal.ofBits, Ideal.ieee, -EReal.coe_mul]; norm_num

/-- The inverse of one thousand and twenty-four, which is a binary number. -/
theorem lit_inverse : (Ideal.ofBits FTy.f32 0x3A800000#32 : EReal) = ((1 / 1024 : ℝ) : EReal) := by
  simp [Ideal.ofBits, Ideal.ieee, -EReal.coe_mul]; norm_num

section result
variable (m : (ℓ : Loc nD τ sig) → Buf (Elt Ideal) ℓ)

/-- The arguments of the call are real numbers. -/
def Real5 (c : Dev nD) : Prop := ∃ (x : S4096x1024.Idx → ℝ) (u : S4096x2816.Idx → ℝ) (w : S2816x1024.Idx → ℝ) (g : S1024.Idx → ℝ) (t : S4096x1024.Idx → ℝ),
  (aX m c = fun y => (x y : EReal)) ∧ (aU m c = fun y => (u y : EReal)) ∧ (aW m c = fun y => (w y : EReal)) ∧ (aG m c = fun y => (g y : EReal))
    ∧ (aT m c = fun y => (t y : EReal))

/-- What the precondition says of the call's arguments: they are real. -/
theorem args_real (c : Dev nD)
    (h : let r := Cert.Pre_loss_finite.fn (F := Ideal) (aX m c) (aU m c) (aW m c) (aG m c) (aT m c)
      r.1 = (fun _ => 1#1) ∧ r.2.1 = (fun _ => 1#1) ∧ r.2.2.1 = (fun _ => 1#1) ∧ r.2.2.2.1 = (fun _ => 1#1) ∧ r.2.2.2.2 = (fun _ => 1#1)) : Real5 m c := by
  obtain ⟨h0, h1, h2, h3, h4⟩ := h
  obtain ⟨x, hx⟩ := arr_real (aX m c) _ (fun _ => inf_word) h0
  obtain ⟨u, hu⟩ := arr_real (aU m c) _ (fun _ => inf_word) h1
  obtain ⟨w, hw⟩ := arr_real (aW m c) _ (fun _ => inf_word) h2
  obtain ⟨g, hg⟩ := arr_real (aG m c) _ (fun _ => inf_word) h3
  obtain ⟨t, ht⟩ := arr_real (aT m c) _ (fun _ => inf_word) h4
  exact ⟨x, u, w, g, t, hx, hu, hw, hg, ht⟩

/-- Both programs' rows that enter the norm agree. -/
theorem x2_eq (c : Dev nD) (i : Fin 4096) (k : Fin 1024) : gX2 m c i k = val_main_v1 (F := Ideal) (aX m c) (aU m c) (aW m c) (ix2 i k) :=
  (add_comm _ _).trans (r_x _ _ _ i k).symm

/-- Both programs' factors agree. -/
theorem inv_eq (c : Dev nD) (i : Fin 4096) : Rms.inv (fun k => gX2 m c i k) (Ideal.ofBits FTy.f32 0x44800000#32) (Ideal.ofBits FTy.f32 0x358637BD#32) = val_main_v9 (F := Ideal) (aX m c) (aU m c) (aW m c) (ix2 i 0) := by
  rw [r_inv, show (fun k => gX2 m c i k) = fun k : Fin 1024 => val_main_v1 (F := Ideal) (aX m c) (aU m c) (aW m c) (ix2 i k) from funext fun k => x2_eq m c i k]

/-- Both programs' errors agree. -/
theorem e_eq (c : Dev nD) (i : Fin 4096) (k : Fin 1024) : gE m c i k = val_main_v18 (F := Ideal) (aX m c) (aU m c) (aW m c) (aG m c) (aT m c) (ix2 i k) := by
  rw [r_miss, ← inv_eq, ← x2_eq]
  rfl

/-- On real arguments the rows and the errors are real. -/
theorem row_real (c : Dev nD) (h : Real5 m c) : ∃ a e : Fin 4096 → Fin 1024 → ℝ, ∀ i k, gX2 m c i k = (a i k : EReal) ∧ gE m c i k = (e i k : EReal) := by
  obtain ⟨x, u, w, g, t, hx, hu, hw, hg, ht⟩ := h
  obtain ⟨ε, hε, he⟩ := lit_eps
  have hX : ∀ i k, gX2 m c i k = (((∑ l : Fin 2816, u (ix2 i l) * w (ix2 l k)) + x (ix2 i k) : ℝ) : EReal) := fun i k => by
    unfold gX2
    rw [prod_real _ _ _ _ (fun l => congrFun hu _) (fun l => congrFun hw _), hx, EReal.coe_add]
  have hR := fun i : Fin 4096 => inv_real (n := 1024) (by norm_num) (fun k => (∑ l : Fin 2816, u (ix2 i l) * w (ix2 l k)) + x (ix2 i k)) (Ideal.ofBits FTy.f32 0x44800000#32) (Ideal.ofBits FTy.f32 0x358637BD#32) ε hε lit_1024 he
  choose M R hM using hR
  refine ⟨_, fun i k => ((∑ l : Fin 2816, u (ix2 i l) * w (ix2 l k)) + x (ix2 i k)) * R i * g (ix1 k) - t (ix2 i k), fun i k => ⟨hX i k, ?_⟩⟩
  unfold gE miss
  rw [show (fun k => gX2 m c i k) = fun k => (((∑ l : Fin 2816, u (ix2 i l) * w (ix2 l k)) + x (ix2 i k) : ℝ) : EReal) from funext fun k => hX i k, (hM i).2.2.1, hg, ht]
  simp only [← EReal.coe_mul, ← EReal.coe_sub]

/-- Both programs' gradients that enter the norm agree. -/
theorem d_eq (c : Dev nD) (h : Real5 m c) (i : Fin 4096) (k : Fin 1024) : gD m c i k = val_main_v32 (F := Ideal) (aX m c) (aU m c) (aW m c) (aG m c) (aT m c) (ix2 i k) := by
  obtain ⟨a, e, hr⟩ := row_real m c h
  rw [r_d, ← e_eq]
  unfold gD
  rw [(hr i k).2, lit_inverse, lit_plus_half, lit_one, lit_two, lit_1024, ← EReal.coe_mul (1 / 2) 1, div_real _ _ (by norm_num)]
  simp only [← EReal.coe_mul]
  congr 1
  push_cast
  ring

/-- The rows' gradient is the reference's. -/
theorem rows_eq (c : Dev nD) (h : Real5 m c) : arrX m c = val_main_v52 (F := Ideal) (aX m c) (aU m c) (aW m c) (aG m c) (aT m c) := by
  funext y
  obtain ⟨i, j, rfl⟩ : ∃ (i : Fin 4096) (j : Fin 1024), y = ix2 i j := ⟨y 0, y 1, by idx_ext⟩
  obtain ⟨a, e, hr⟩ := row_real m c h
  obtain ⟨x, u, w, g, t, hx, hu, hw, hg, ht⟩ := id h
  obtain ⟨ε, hε, he⟩ := lit_eps
  refine (arrX_at m c _ i j rfl rfl).trans (Eq.trans ?_ (r_dx _ _ _ _ _ i j).symm)
  have q := byHand_add (n := 1024) (by norm_num) (a i) (fun k => g (ix1 k)) (fun k => e i k * (1 / 1024))
    _ _ _ 0 ε hε lit_1024 he lit_half (fun k => gX2 m c i k) (fun k : Fin 1024 => aG m c (ix1 k)) (fun k => gD m c i k) (fun k => (hr i k).1) (fun k => congrFun hg _)
    (fun k => by
      unfold gD
      rw [(hr i k).2, lit_inverse, EReal.coe_mul]) j
  rw [add_zero, zero_add] at q
  refine q.trans ?_
  rw [r_factor, inv_eq]
  simp only [d_eq m c h, x2_eq]

/-- The gain's gradient is the reference's. -/
theorem gain_eq (c : Dev nD) (h : Real5 m c) : arrG m c = val_main_v54 (F := Ideal) (aX m c) (aU m c) (aW m c) (aG m c) (aT m c) := by
  funext y
  obtain ⟨z, j, rfl⟩ : ∃ (z : Fin 1) (j : Fin 1024), y = ix2 z j := ⟨y 0, y 1, by idx_ext⟩
  refine (arrG_at m c _ j rfl).trans (Eq.trans ?_ (r_dg _ _ _ _ _ z j).symm)
  unfold gG gRow
  refine Finset.sum_congr rfl fun i _ => ?_
  rw [d_eq m c h, inv_eq, x2_eq, mul_comm]

/-- The loss is the reference's: a half of a sum of blocks is a half of each block, on real numbers. -/
theorem loss_eq (c : Dev nD) (h : Real5 m c) : arrL m c = val_main_v55 (F := Ideal) (aX m c) (aU m c) (aW m c) (aG m c) (aT m c) := by
  funext y
  obtain ⟨z, j, rfl⟩ : ∃ (z : Fin 1) (j : Fin 128), y = ix2 z j := ⟨y 0, y 1, by idx_ext⟩
  obtain ⟨a, e, hr⟩ := row_real m c h
  refine Eq.trans ?_ (r_loss _ _ _ _ _ z j).symm
  simp only [← e_eq]
  have hs : ∀ i, sq m c i = (((∑ k, e i k * e i k) / 1024 : ℝ) : EReal) := fun i => by
    unfold sq
    rw [prod_real _ _ (e i) (e i) (fun k => (hr i k).2) (fun k => (hr i k).2), lit_1024, div_real _ _ (by norm_num)]
    norm_num
  show gL m c = Ideal.ofBits FTy.f32 0x3F000000#32 * ∑ i : Fin 4096, sq m c i
  unfold gL
  rw [← Rms.sum_blocks 8 512 (fun i => sq m c i)]
  simp only [hs, lit_plus_half, sum_coe, ← EReal.coe_mul]
  rw [Finset.mul_sum]

/-- Every result of the call is the reference's. -/
theorem equal : Cert.algebraic_LossIdeal_LossRefIdeal_pre_loss_finite := by
  intro m ρ m' ρ' hp hag
  refine ⟨fun c => arrX m c, fun c => arrX m c, fun c => arrG m c, fun c => arrL m c, ?_, ?_⟩
  · refine (θ_run _ _ _).mono (fun r h c => ?_) (Cert.LossIdeal.Value.run_blocks m ρ)
    obtain ⟨h0, h1, h2, h3, ha⟩ := h c
    exact ⟨h0.trans (arr5 m c), h1.trans (arr6 m c), h2.trans (arr7 m c), h3.trans (arr8 m c), ha⟩
  · refine (θ_run _ _ _).mono (fun r h c => ?_) (Cert.LossRefIdeal.Value.run m' ρ')
    obtain ⟨h0, h1, h2, h3, ha⟩ := h c
    obtain ⟨g0, g1, g2, g3, g4⟩ := hag c
    have hr : Real5 m c := args_real m c (hp c)
    refine ⟨?_, ?_, ?_, ?_, ha⟩
    · exact (h0.trans (Cert.LossRefIdeal.Read.val_main_v52_eq _ _)).trans ((congr (congr (congr (congr (congrArg (val_main_v52 (F := Ideal)) g0) g1) g2) g3) g4).trans
        (rows_eq m c hr).symm)
    · exact (h1.trans (Cert.LossRefIdeal.Read.val_main_v53_eq _ _)).trans ((congr (congr (congr (congr (congrArg (val_main_v53 (F := Ideal)) g0) g1) g2) g3) g4).trans
        (rows_eq m c hr).symm)
    · exact (h2.trans (Cert.LossRefIdeal.Read.val_main_v54_eq _ _ _ _ _)).trans ((congr (congr (congr (congr (congrArg (val_main_v54 (F := Ideal)) g0) g1) g2) g3) g4).trans
        (gain_eq m c hr).symm)
    · exact (h3.trans (Cert.LossRefIdeal.Read.val_main_v55_eq _ _ _ _ _)).trans ((congr (congr (congr (congr (congrArg (val_main_v55 (F := Ideal)) g0) g1) g2) g3) g4).trans
        (loss_eq m c hr).symm)

end result
end Cert.Proof.Loss
end
-- ==== Proof.Lat.lean ====
module

public import proofs.«01_k».proof.Defs
public import proofs.«01_k».proof.Proof.Gen.LatIdeal.Value
public import proofs.«01_k».proof.Proof.Gen.LatRefIdeal.Run
public import proofs.«01_k».proof.Proof.Gen.LatRefIdeal.Read
public import Idealize.ShloMosaic.Lib.Pipeline.ValueKit
public import Idealize.ShloMosaic.Lib.Pipeline.ReadBack
public import proofs.«01_k».proof.Proof.Rms
public import proofs.«01_k».proof.Proof.Layout

@[expose] public section

set_option maxRecDepth 16384

noncomputable section

namespace Cert.Proof.Lat

open Idealize.ShloMosaic Idealize.ShloMosaic.TcCoe Idealize.SL.Sem
open Cert.LatIdeal Cert.LatIdeal.Gen Cert.Proof.Rms

/-- The number of query columns. -/
abbrev wQ : EReal := Ideal.ofBits FTy.f32 0x43800000#32
/-- The number of key columns. -/
abbrev wC : EReal := Ideal.ofBits FTy.f32 0x43000000#32
/-- The norm's small constant. -/
abbrev wE : EReal := Ideal.ofBits FTy.f32 0x358637BD#32

/-- The factor of a row of a query block. -/
theorem invQ_at (v9 : Vec Ideal S128x256 .bf16) (i : Fin 128) (z : Fin 1) :
    k0_pay11 (F := Ideal) v9 (ix2 i z) = Rms.inv (fun k : Fin 256 => v9 (ix2 i k)) wQ wE := by
  unfold Rms.inv msq
  pointwise [k0_pay11, k0_pay9]

/-- The factor of a row of a key block. -/
theorem invC_at (v12 : Vec Ideal S128x128 .bf16) (i : Fin 128) (z : Fin 1) :
    k0_pay17 (F := Ideal) (k0_pay10 (F := Ideal) v12) (ix2 i z) = Rms.inv (fun k : Fin 128 => v12 (ix2 i k)) wC wE := by
  unfold Rms.inv msq
  pointwise [k0_pay17, k0_pay10]

/-- The query part of a block. -/
def partQ (v0 : Vec Ideal S128x256 .f32) (v9 : Vec Ideal S128x256 .bf16) (v15 : Vec Ideal S1x256 .f32) : FVec Ideal S128x256 .f32 :=
  k0_pay15 (F := Ideal) (k0_pay11 (F := Ideal) v9) (k0_pay12 (F := Ideal) v9) (k0_pay13 (F := Ideal) v0 v15) (k0_pay14 (F := Ideal) v0 v9 v15)

/-- One entry of the query part. -/
theorem partQ_at (v0 : Vec Ideal S128x256 .f32) (v9 : Vec Ideal S128x256 .bf16) (v15 : Vec Ideal S1x256 .f32) (i : Fin 128) (j : Fin 256) :
    partQ v0 v9 v15 (ix2 i j)
      = byHand (fun k : Fin 256 => v9 (ix2 i k)) (fun k : Fin 256 => v15 (ix2 0 k)) (fun k : Fin 256 => v0 (ix2 i k)) wQ wE j := by
  unfold byHand partQ
  simp only [← invQ_at v9 i 0]
  pointwise [k0_pay15, k0_pay14, k0_pay13, k0_pay12, k0_pay9]

/-- The key part of a block. -/
def partC (v1 : Vec Ideal S128x128 .f32) (v12 : Vec Ideal S128x128 .bf16) (v16 : Vec Ideal S1x128 .f32) : FVec Ideal S128x128 .f32 :=
  k0_pay19 (F := Ideal) v1 (k0_pay10 (F := Ideal) v12) v16

/-- One entry of the key part. -/
theorem partC_at (v1 : Vec Ideal S128x128 .f32) (v12 : Vec Ideal S128x128 .bf16) (v16 : Vec Ideal S1x128 .f32) (i : Fin 128) (j : Fin 128) :
    partC v1 v12 v16 (ix2 i j)
      = byHand (fun k : Fin 128 => v12 (ix2 i k)) (fun k : Fin 128 => v16 (ix2 0 k)) (fun k : Fin 128 => v1 (ix2 i k)) wC wE j := by
  unfold byHand partC
  simp only [← invC_at v12 i 0]
  pointwise [k0_pay19, k0_pay18, k0_pay10]

/-- A row of the written columns: two gradients of norms, two copies, the two halves of the turned key, zeros. -/
def row (Q K W : Fin 256 → EReal) (C : Fin 128 → EReal) (R1 R2 : Fin 32 → EReal) (l : Fin 1024) : EReal :=
  if h : l.val < 256 then Q ⟨l.val, h⟩
  else if h : l.val - 256 < 256 then K ⟨l.val - 256, h⟩
  else if h : l.val - 256 - 256 < 256 then W ⟨l.val - 256 - 256, h⟩
  else if h : l.val - 256 - 256 - 256 < 128 then C ⟨l.val - 256 - 256 - 256, h⟩
  else if h : l.val - 256 - 256 - 256 - 128 < 32 then R1 ⟨l.val - 256 - 256 - 256 - 128, h⟩
  else if h : l.val - 256 - 256 - 256 - 128 - 32 < 32 then R2 ⟨l.val - 256 - 256 - 256 - 128 - 32, h⟩
  else 0

/-- The first half of a turned pair, turned back. -/
def back1 (D : Fin 64 → EReal) (cs sn : Fin 32 → EReal) (j : Fin 32) : EReal := D ⟨j.val, by omega⟩ * cs j + D ⟨32 + j.val, by omega⟩ * sn j
/-- The second half of a turned pair, turned back. -/
def back2 (D : Fin 64 → EReal) (cs sn : Fin 32 → EReal) (j : Fin 32) : EReal := D ⟨32 + j.val, by omega⟩ * cs j - D ⟨j.val, by omega⟩ * sn j

/-- What a block writes, one entry. -/
theorem tail_at (v2 : Vec Ideal S8x128x64 .bf16) (v5 v7 : Vec Ideal S128x32 .f32) (v17 v18 : Vec Ideal S128x256 .f32) (v40 : FVec Ideal S128x256 .f32)
    (v65 : FVec Ideal S128x128 .f32) (i : Fin 128) (l : Fin 1024) :
    k0_pay1 (F := Ideal) (k0_pay6 (F := Ideal) v2) (k0_pay7 (F := Ideal) v5) (k0_pay8 (F := Ideal) v7) v17 v18 v40 v65
        (k0_pay21 (F := Ideal) (k0_pay6 (F := Ideal) v2)) (k0_pay22 (F := Ideal) (k0_pay6 (F := Ideal) v2)) (ix2 i l)
      = row (fun k => v40 (ix2 i k)) (fun k => v17 (ix2 i k)) (fun k => v18 (ix2 i k)) (fun k => v65 (ix2 i k))
        (back1 (fun d => ∑ h : Fin 8, v2 (ix3 h i d)) (fun k => v5 (ix2 i k)) (fun k => v7 (ix2 i k)))
        (back2 (fun d => ∑ h : Fin 8, v2 (ix3 h i d)) (fun k => v5 (ix2 i k)) (fun k => v7 (ix2 i k))) l := by
  unfold row back1 back2
  simp only [Fin.sum_univ_eight]
  pointwise [k0_pay1, k0_pay6, k0_pay7, k0_pay8, k0_pay21, k0_pay22]

/-- The projection's columns in the packed order. -/
def hP (a : Vec Ideal S4096x4032 .f32) : Vec Ideal S4096x4096 .bf16 :=
  truncf (F := Ideal) (φ := FTy.f32) .bf16 (concatenate S4096x4096 1 [⟨S4096x1024, extractStridedSlice S4096x1024 ![0, 1984] a slices_S4096x4032_S4096x1024_0_1984⟩,
    ⟨S4096x1024, extractStridedSlice S4096x1024 ![0, 3008] a slices_S4096x4032_S4096x1024_0_3008⟩,
    ⟨S4096x1024, extractStridedSlice S4096x1024 ![0, 448] a slices_S4096x4032_S4096x1024_0_448⟩,
    ⟨S4096x256, extractStridedSlice S4096x256 ![0, 0] a slices_S4096x4032_S4096x256_0_0⟩,
    ⟨S4096x256, extractStridedSlice S4096x256 ![0, 1472] a slices_S4096x4032_S4096x256_0_1472⟩,
    ⟨S4096x256, extractStridedSlice S4096x256 ![0, 1728] a slices_S4096x4032_S4096x256_0_1728⟩,
    ⟨S4096x128, extractStridedSlice S4096x128 ![0, 256] a slices_S4096x4032_S4096x128_0_256⟩,
    ⟨S4096x64, extractStridedSlice S4096x64 ![0, 384] a slices_S4096x4032_S4096x64_0_384⟩,
    ⟨S4096x64, broadcastInDim S4096x64 ![] bcast_S_S4096x64 (constant (F := Ideal) S_ .f32 0x00000000#32)⟩]
    concatenates_S4096x1024_S4096x1024_S4096x1024_S4096x256_S4096x256_S4096x256_S4096x128_S4096x64_S4096x64_S4096x4096_d1) bitsLt_bf16_f32

/-- A packed column is a plain one. -/
theorem hP_at (a : Vec Ideal S4096x4032 .f32) (i : Fin 4096) (l : Fin 4096) :
    hP a (ix2 i l) = Layout.packed (fun k : Fin 4032 => a (ix2 i k)) l := by
  pointwise [hP]
  exact Layout.packed_of_segments (fun k : Fin 4032 => a (ix2 i k)) l

/-- The packed query columns. -/
theorem packed_q (f : Fin 4032 → EReal) (k : Fin 256) (l : Fin 4096) (hl : l.val = 3072 + k.val) : Layout.packed f l = f ⟨k.val, by omega⟩ := by
  have hc : Layout.col l.val = k.val := by
    rcases Layout.col_cases l.val with h | h | h | h | h | h <;> omega
  unfold Layout.packed
  rw [dif_pos (by omega : Layout.col l.val < 4032)]
  exact congrArg f (Fin.ext hc)

/-- The packed key columns. -/
theorem packed_c (f : Fin 4032 → EReal) (k : Fin 128) (l : Fin 4096) (hl : l.val = 3840 + k.val) : Layout.packed f l = f ⟨256 + k.val, by omega⟩ := by
  have hc : Layout.col l.val = 256 + k.val := by
    rcases Layout.col_cases l.val with h | h | h | h | h | h <;> omega
  unfold Layout.packed
  rw [dif_pos (by omega : Layout.col l.val < 4032)]
  exact congrArg f (Fin.ext hc)

/-- The angle of a position and a frequency. -/
def hA (p : Vec Ideal S4096 .i32) : FVec Ideal S4096x32 .f32 :=
  mulf (broadcastInDim S4096x32 ![0, 1] bcast_S4096x1_S4096x32_0_1 (broadcastInDim S4096x1 ![0] bcast_S4096_S4096x1_0 (sitofp (F := Ideal) .f32 p)))
    (broadcastInDim S4096x32 ![0, 1] bcast_S1x32_S4096x32_0_1 (broadcastInDim S1x32 ![1] bcast_S32_S1x32_1
      (Host.powf (broadcastInDim S32 ![] bcast_S_S32 (constant (F := Ideal) S_ .f32 0x461C4000#32))
        (Host.divf (Host.negf (sitofp (F := Ideal) .f32 (iotaInDim S32 32 0))) (broadcastInDim S32 ![] bcast_S_S32 (constant (F := Ideal) S_ .f32 0x42000000#32))))))

section run
variable (m : (ℓ : Loc nD τ sig) → Buf (Elt Ideal) ℓ)

/-- The projection. -/
abbrev aP (c : Dev nD) : Vec Ideal S4096x4032 .f32 := m ((c : Thread nD τ).loc main_arg0)
/-- The positions. -/
abbrev aI (c : Dev nD) : Vec Ideal S4096 .i32 := m ((c : Thread nD τ).loc main_arg1)
/-- The queries' gain. -/
abbrev aGq (c : Dev nD) : Vec Ideal S1x256 .f32 := m ((c : Thread nD τ).loc main_arg2)
/-- The keys' gain. -/
abbrev aGk (c : Dev nD) : Vec Ideal S1x128 .f32 := m ((c : Thread nD τ).loc main_arg3)
/-- The gradient of the normalised queries. -/
abbrev aDq (c : Dev nD) : Vec Ideal S4096x256 .f32 := m ((c : Thread nD τ).loc main_arg4)
/-- The gradient of the normalised keys. -/
abbrev aDc (c : Dev nD) : Vec Ideal S4096x128 .f32 := m ((c : Thread nD τ).loc main_arg5)
/-- The gradient of the shared key, head by head. -/
abbrev aDr (c : Dev nD) : Vec Ideal S8x4096x64 .f32 := m ((c : Thread nD τ).loc main_arg6)
/-- The gradient of the window's keys, with its edges. -/
abbrev aDk (c : Dev nD) : Vec Ideal S4352x256 .f32 := m ((c : Thread nD τ).loc main_arg7)
/-- The gradient of the window's values, with its edges. -/
abbrev aDv (c : Dev nD) : Vec Ideal S4352x256 .f32 := m ((c : Thread nD τ).loc main_arg8)
/-- The projection's gradient as it was before. -/
abbrev aO (c : Dev nD) : Vec Ideal S4096x4096 .bf16 := m ((c : Thread nD τ).loc main_arg9)

/-- The projection as the region finds it. -/
theorem p_found (c : Dev nD) : (V m c main_v24 : Vec Ideal S4096x4096 .bf16) = hP (aP m c) := by
  dsimp only [V, hostOps0]
  after_results_simp <;> (try dsimp only [Matrix.cons_val]) <;> (try after_results_simp) <;> (try dsimp only [Matrix.cons_val]) <;> (try after_results_simp) <;> rfl

/-- The cosines as the region finds them. -/
theorem cos_found (c : Dev nD) : (V m c main_v12 : Vec Ideal S4096x32 .f32) = Host.cos (F := Ideal) (hA (aI m c)) := by
  dsimp only [V, hostOps0]
  after_results_simp
  rfl

/-- The sines as the region finds them. -/
theorem sin_found (c : Dev nD) : (V m c main_v13 : Vec Ideal S4096x32 .f32) = Host.sin (F := Ideal) (hA (aI m c)) := by
  dsimp only [V, hostOps0]
  after_results_simp
  rfl

/-- The shared key's gradient as the region finds it. -/
theorem r_found (c : Dev nD) : (V m c main_v25 : Vec Ideal S8x4096x64 .bf16) = truncf (F := Ideal) (φ := FTy.f32) .bf16 (aDr m c) bitsLt_bf16_f32 := by
  dsimp only [V, hostOps0]
  after_results_simp

/-- What the region finds in the projection's gradient. -/
theorem o_found (c : Dev nD) : (V m c main_v26_0 : Vec Ideal S4096x4096 .bf16) = aO m c := by
  dsimp only [V, hostOps0]
  after_results_simp
  rfl

/-- The row windows move with the grid point. -/
theorem idx0 : ∀ t : Fin cfg0.N, win0_0.index t = ![t.val, 0] ∧ win0_1.index t = ![t.val, 0] ∧ win0_2.index t = ![0, t.val, 0]
    ∧ win0_3.index t = ![t.val, 0] ∧ win0_4.index t = ![t.val, 0] ∧ win0_5.index t = ![t.val, 12] ∧ win0_6.index t = ![t.val, 30]
    ∧ win0_9.index t = ![t.val + 1, 0] ∧ win0_10.index t = ![t.val + 1, 0] ∧ win0_11.index t = ![t.val, 3] :=
  (by decide +kernel : ∀ t : Fin grid0.N, _)

/-- The other windows stay. -/
theorem idx1 : ∀ t : Fin cfg0.N, win0_7.index t = ![0, 0] ∧ win0_8.index t = ![0, 0] ∧ win0_12.index t = ![0, 0] ∧ win0_13.index t = ![0, 0] :=
  (by decide +kernel : ∀ t : Fin grid0.N, _)

/-- The block of the queries' gradient. -/
theorem q_blk (c : Dev nD) (t : Fin cfg0.N) (i : Fin 4096) (r : Fin 128) (k : Fin 256) (hi : i.val = t.val * 128 + r.val) :
    iblk m c 0 t (ix2 r k) = aDq m c (ix2 i k) := by
  refine Eq.trans ?_ (congrFun (V_main_arg4 m c) _)
  blk_simp [iblk]
  refine congrArg _ ?_
  blk_ext [(idx0 t).1, hi]

/-- The block of the keys' gradient. -/
theorem c_blk (c : Dev nD) (t : Fin cfg0.N) (i : Fin 4096) (r : Fin 128) (k : Fin 128) (hi : i.val = t.val * 128 + r.val) :
    iblk m c 1 t (ix2 r k) = aDc m c (ix2 i k) := by
  refine Eq.trans ?_ (congrFun (V_main_arg5 m c) _)
  blk_simp [iblk]
  refine congrArg _ ?_
  blk_ext [(idx0 t).2.1, hi]

/-- The block of the cosines. -/
theorem cos_blk (c : Dev nD) (t : Fin cfg0.N) (i : Fin 4096) (r : Fin 128) (k : Fin 32) (hi : i.val = t.val * 128 + r.val) :
    iblk m c 3 t (ix2 r k) = Host.cos (F := Ideal) (hA (aI m c)) (ix2 i k) := by
  refine Eq.trans ?_ (congrFun (cos_found m c) _)
  blk_simp [iblk]
  refine congrArg _ ?_
  blk_ext [(idx0 t).2.2.2.1, hi]

/-- The block of the sines. -/
theorem sin_blk (c : Dev nD) (t : Fin cfg0.N) (i : Fin 4096) (r : Fin 128) (k : Fin 32) (hi : i.val = t.val * 128 + r.val) :
    iblk m c 4 t (ix2 r k) = Host.sin (F := Ideal) (hA (aI m c)) (ix2 i k) := by
  refine Eq.trans ?_ (congrFun (sin_found m c) _)
  blk_simp [iblk]
  refine congrArg _ ?_
  blk_ext [(idx0 t).2.2.2.2.1, hi]

/-- The block of the shared key's gradient. -/
theorem r_blk (c : Dev nD) (t : Fin cfg0.N) (i : Fin 4096) (h : Fin 8) (r : Fin 128) (k : Fin 64) (hi : i.val = t.val * 128 + r.val) :
    iblk m c 2 t (ix3 h r k) = aDr m c (ix3 h i k) := by
  refine Eq.trans ?_ (congrFun (r_found m c) (ix3 h i k))
  blk_simp [iblk]
  refine congrArg _ ?_
  blk_ext [(idx0 t).2.2.1, hi]

/-- The block of the query columns. -/
theorem pq_blk (c : Dev nD) (t : Fin cfg0.N) (i : Fin 4096) (r : Fin 128) (k : Fin 256) (hi : i.val = t.val * 128 + r.val) :
    iblk m c 5 t (ix2 r k) = aP m c (ix2 i ⟨k.val, by omega⟩) := by
  refine Eq.trans ?_ ((congrFun (p_found m c) (ix2 i ⟨3072 + k.val, by omega⟩)).trans ((hP_at _ _ _).trans (packed_q _ k _ rfl)))
  blk_simp [iblk]
  refine congrArg _ ?_
  blk_ext [(idx0 t).2.2.2.2.2.1, hi]

/-- The block of the key columns. -/
theorem pc_blk (c : Dev nD) (t : Fin cfg0.N) (i : Fin 4096) (r : Fin 128) (k : Fin 128) (hi : i.val = t.val * 128 + r.val) :
    iblk m c 6 t (ix2 r k) = aP m c (ix2 i ⟨256 + k.val, by omega⟩) := by
  refine Eq.trans ?_ ((congrFun (p_found m c) (ix2 i ⟨3840 + k.val, by omega⟩)).trans ((hP_at _ _ _).trans (packed_c _ k _ rfl)))
  blk_simp [iblk]
  refine congrArg _ ?_
  blk_ext [(idx0 t).2.2.2.2.2.2.1, hi]

/-- The block of the window keys' gradient. -/
theorem dk_blk (c : Dev nD) (t : Fin cfg0.N) (i : Fin 4096) (r : Fin 128) (k : Fin 256) (hi : i.val = t.val * 128 + r.val) :
    iblk m c 9 t (ix2 r k) = aDk m c (ix2 ⟨128 + i.val, by omega⟩ k) := by
  refine Eq.trans ?_ (congrFun (V_main_arg7 m c) _)
  blk_simp [iblk]
  refine congrArg _ ?_
  blk_ext [(idx0 t).2.2.2.2.2.2.2.1, hi]

/-- The block of the window values' gradient. -/
theorem dv_blk (c : Dev nD) (t : Fin cfg0.N) (i : Fin 4096) (r : Fin 128) (k : Fin 256) (hi : i.val = t.val * 128 + r.val) :
    iblk m c 10 t (ix2 r k) = aDv m c (ix2 ⟨128 + i.val, by omega⟩ k) := by
  refine Eq.trans ?_ (congrFun (V_main_arg8 m c) _)
  blk_simp [iblk]
  refine congrArg _ ?_
  blk_ext [(idx0 t).2.2.2.2.2.2.2.2.1, hi]

/-- The block of the queries' gain. -/
theorem gq_blk (c : Dev nD) (t : Fin cfg0.N) (k : Fin 256) : iblk m c 7 t (ix2 0 k) = aGq m c (ix2 0 k) := by
  refine Eq.trans ?_ (congrFun (V_main_arg2 m c) (ix2 0 k))
  blk_simp [iblk]
  refine congrArg _ ?_
  blk_ext [(idx1 t).1]

/-- The block of the keys' gain. -/
theorem gk_blk (c : Dev nD) (t : Fin cfg0.N) (k : Fin 128) : iblk m c 8 t (ix2 0 k) = aGk m c (ix2 0 k) := by
  refine Eq.trans ?_ (congrFun (V_main_arg3 m c) (ix2 0 k))
  blk_simp [iblk]
  refine congrArg _ ?_
  blk_ext [(idx1 t).2.1]

/-- The query columns of a row. -/
def xq (c : Dev nD) (i : Fin 4096) (k : Fin 256) : EReal := aP m c (ix2 i ⟨k.val, by omega⟩)
/-- The key columns of a row. -/
def xc (c : Dev nD) (i : Fin 4096) (k : Fin 128) : EReal := aP m c (ix2 i ⟨256 + k.val, by omega⟩)
/-- The shared key's gradient, over all heads. -/
def dr (c : Dev nD) (i : Fin 4096) (d : Fin 64) : EReal := ∑ h : Fin 8, aDr m c (ix3 h i d)

/-- The written columns of a row. -/
def gT (c : Dev nD) (i : Fin 4096) (l : Fin 1024) : EReal :=
  row (byHand (xq m c i) (fun k => aGq m c (ix2 0 k)) (fun k => aDq m c (ix2 i k)) wQ wE)
    (fun k => aDk m c (ix2 ⟨128 + i.val, by omega⟩ k)) (fun k => aDv m c (ix2 ⟨128 + i.val, by omega⟩ k))
    (byHand (xc m c i) (fun k => aGk m c (ix2 0 k)) (fun k => aDc m c (ix2 i k)) wC wE)
    (back1 (dr m c i) (fun k => Host.cos (F := Ideal) (hA (aI m c)) (ix2 i k)) (fun k => Host.sin (F := Ideal) (hA (aI m c)) (ix2 i k)))
    (back2 (dr m c i) (fun k => Host.cos (F := Ideal) (hA (aI m c)) (ix2 i k)) (fun k => Host.sin (F := Ideal) (hA (aI m c)) (ix2 i k))) l

/-- The heads' sum from a block. -/
theorem r_sum (B : Vec Ideal S8x128x64 .bf16) (D : Vec Ideal S8x4096x64 .f32) (r : Fin 128) (i : Fin 4096) (h : ∀ h d, B (ix3 h r d) = D (ix3 h i d)) :
    (fun d : Fin 64 => ∑ h : Fin 8, B (ix3 h r d)) = fun d => ∑ h : Fin 8, D (ix3 h i d) :=
  funext fun d => Finset.sum_congr rfl fun k _ => h k d

/-- What a grid point leaves in the projection's gradient. -/
theorem rows (c : Dev nD) (t : Fin cfg0.N) (i : Fin 4096) (r : Fin 128) (l : Fin 1024) (hi : i.val = t.val * 128 + r.val) :
    (outsAt0 m c t.val t.isLt).1 (ix2 r l) = gT m c i l := by
  have e : k0_pay1 (F := Ideal) (k0_pay6 (F := Ideal) (iblk m c 2 t)) (k0_pay7 (F := Ideal) (iblk m c 3 t)) (k0_pay8 (F := Ideal) (iblk m c 4 t))
      (iblk m c 9 t) (iblk m c 10 t) (partQ (iblk m c 0 t) (iblk m c 5 t) (iblk m c 7 t)) (partC (iblk m c 1 t) (iblk m c 6 t) (iblk m c 8 t))
      (k0_pay21 (F := Ideal) (k0_pay6 (F := Ideal) (iblk m c 2 t))) (k0_pay22 (F := Ideal) (k0_pay6 (F := Ideal) (iblk m c 2 t))) (ix2 r l) = gT m c i l := by
    refine (tail_at _ _ _ _ _ _ _ r l).trans ?_
    unfold gT
    have e1 : (fun k : Fin 256 => partQ (iblk m c 0 t) (iblk m c 5 t) (iblk m c 7 t) (ix2 r k))
        = byHand (xq m c i) (fun k => aGq m c (ix2 0 k)) (fun k => aDq m c (ix2 i k)) wQ wE := by
      funext k
      refine (partQ_at _ _ _ r k).trans ?_
      rw [show (fun k : Fin 256 => iblk m c 5 t (ix2 r k)) = xq m c i from funext fun k => pq_blk m c t i r k hi,
        show (fun k : Fin 256 => iblk m c 7 t (ix2 0 k)) = fun k => aGq m c (ix2 0 k) from funext fun k => gq_blk m c t k,
        show (fun k : Fin 256 => iblk m c 0 t (ix2 r k)) = fun k => aDq m c (ix2 i k) from funext fun k => q_blk m c t i r k hi]
    have e2 : (fun k : Fin 128 => partC (iblk m c 1 t) (iblk m c 6 t) (iblk m c 8 t) (ix2 r k))
        = byHand (xc m c i) (fun k => aGk m c (ix2 0 k)) (fun k => aDc m c (ix2 i k)) wC wE := by
      funext k
      refine (partC_at _ _ _ r k).trans ?_
      rw [show (fun k : Fin 128 => iblk m c 6 t (ix2 r k)) = xc m c i from funext fun k => pc_blk m c t i r k hi,
        show (fun k : Fin 128 => iblk m c 8 t (ix2 0 k)) = fun k => aGk m c (ix2 0 k) from funext fun k => gk_blk m c t k,
        show (fun k : Fin 128 => iblk m c 1 t (ix2 r k)) = fun k => aDc m c (ix2 i k) from funext fun k => c_blk m c t i r k hi]
    rw [e1, e2, r_sum (iblk m c 2 t) (aDr m c) r i (fun h d => r_blk m c t i h r d hi), show (fun k : Fin 256 => iblk m c 9 t (ix2 r k)) = fun k => aDk m c (ix2 ⟨128 + i.val, by omega⟩ k) from funext fun k => dk_blk m c t i r k hi,
      show (fun k : Fin 256 => iblk m c 10 t (ix2 r k)) = fun k => aDv m c (ix2 ⟨128 + i.val, by omega⟩ k) from funext fun k => dv_blk m c t i r k hi,
      show (fun k : Fin 32 => iblk m c 3 t (ix2 r k)) = fun k => Host.cos (F := Ideal) (hA (aI m c)) (ix2 i k) from funext fun k => cos_blk m c t i r k hi,
      show (fun k : Fin 32 => iblk m c 4 t (ix2 r k)) = fun k => Host.sin (F := Ideal) (hA (aI m c)) (ix2 i k) from funext fun k => sin_blk m c t i r k hi]
    rfl
  by_cases h0 : t.val % 32 = 0
  · rw [outsAt0_A m c t h0 h0]
    frame_out
    exact e
  · rw [outsAt0_B m c t h0 h0]
    frame_out
    exact e

/-- The projection's gradient after the run. -/
def gO (c : Dev nD) (i : Fin 4096) (l : Fin 4096) : EReal :=
  if h : l.val < 3072 then aO m c (ix2 i l) else gT m c i ⟨l.val - 3072, by omega⟩

/-- The same as an array. -/
def arrO (c : Dev nD) (y : S4096x4096.Idx) : EReal := gO m c (y 0) (y 1)

/-- One entry of the written part. -/
theorem arrO_at (c : Dev nD) (y : S4096x4096.Idx) (i : Fin 4096) (l : Fin 1024) (h0 : (y 0).val = i.val) (h1 : (y 1).val = 3072 + l.val) :
    arrO m c y = gT m c i l := by
  have e0 : y 0 = i := Fin.ext h0
  unfold arrO gO
  rw [dif_neg (by omega), e0]
  exact congrArg (gT m c i) (Fin.ext (by show (y 1).val - 3072 = l.val; omega))

/-- One entry of the part that stays. -/
theorem arrO_old (c : Dev nD) (y : S4096x4096.Idx) (h1 : (y 1).val < 3072) : arrO m c y = aO m c y := by
  unfold arrO gO
  rw [dif_pos h1]
  exact congrArg (aO m c) (by idx_ext)

/-- The projection's gradient after the run, as the program leaves it. -/
theorem arr11 (c : Dev nD) : (dats m 0 c).arrAt 11 cfg0.N = arrO m c := by
  refine (dats m 0 c).arrAt_eq_of_coversWhere_of_agree 11 _ (fun β => 3 ≤ β (1 : Fin _)) (by decide +kernel) (fun t hf y => ?_) (fun j hj => ?_)
  · blk_simp
    rw [after0_11]
    have h0 : (((View.whole main_v26_0).slice (win0_11.rect t)).emb y 0).val = t.val * 128 + (y 0).val := by blk_simp [(idx0 t).2.2.2.2.2.2.2.2.2]
    have h1 : (((View.whole main_v26_0).slice (win0_11.rect t)).emb y 1).val = 3072 + (y 1).val := by blk_simp [(idx0 t).2.2.2.2.2.2.2.2.2]
    idx_bounds y
    have ht : t.val < 32 := t.isLt
    have hy : (y : S128x1024.Idx) = ix2 (y 0) (y 1) := by idx_ext
    exact (congrArg (outsAt0 m c t.val t.isLt).1 hy).trans ((rows m c t ⟨t.val * 128 + (y 0).val, by omega⟩ _ _ rfl).trans
      (arrO_at m c _ _ (y 1) h0 h1).symm)
  · blk_simp [Pipeline.Window.cell_apply] at hj
    refine (congrFun (A_eq m c 11) _).trans ((congrFun (o_found m c) _).trans (arrO_old m c _ ?_).symm)
    blk_simp
    omega

/-- What one row adds to the queries' gain's gradient. -/
def rowGq (c : Dev nD) (i : Fin 4096) (j : Fin 256) : EReal := aDq m c (ix2 i j) * (xq m c i j * Rms.inv (xq m c i) wQ wE)

/-- What a grid point adds to it. -/
def stepGq (c : Dev nD) (t : Fin cfg0.N) (y : S1x256.Idx) : EReal :=
  ∑ r : Fin 128, rowGq m c ⟨t.val * 128 + r.val, by have : t.val < 32 := t.isLt; omega⟩ (y 1)

/-- The sum of a block's rows joins what was there. -/
theorem addGq_at (v0 : Vec Ideal S128x256 .f32) (v9 : Vec Ideal S128x256 .bf16) (b : Vec Ideal S1x256 .f32) (z : Fin 1) (j : Fin 256) :
    k0_pay3 (F := Ideal) (k0_pay16 (F := Ideal) v0 (k0_pay12 (F := Ideal) v9)) b (ix2 z j)
      = b (ix2 z j) + ∑ r : Fin 128, v0 (ix2 r j) * (v9 (ix2 r j) * Rms.inv (fun k : Fin 256 => v9 (ix2 r k)) wQ wE) := by
  simp only [← invQ_at v9 _ 0]
  pointwise [k0_pay3, k0_pay16, k0_pay12, k0_pay9]

/-- A grid point adds its rows to what was there. -/
theorem nextGq (c : Dev nD) (t : Fin cfg0.N) (b : Vec Ideal S1x256 .f32) (y : S1x256.Idx) :
    k0_pay3 (F := Ideal) (k0_pay16 (F := Ideal) (iblk m c 0 t) (k0_pay12 (F := Ideal) (iblk m c 5 t))) b y = (b y : EReal) + stepGq m c t y := by
  obtain ⟨z, j, rfl⟩ : ∃ (z : Fin 1) (j : Fin 256), y = ix2 z j := ⟨y 0, y 1, by idx_ext⟩
  have ht : t.val < 32 := t.isLt
  refine (addGq_at _ _ b z j).trans (congrArg (fun x : EReal => b (ix2 z j) + x) (Finset.sum_congr rfl fun r _ => ?_))
  unfold rowGq
  have hi : (⟨t.val * 128 + r.val, by omega⟩ : Fin 4096).val = t.val * 128 + r.val := rfl
  refine congrArg₂ (fun a b : EReal => a * b) (q_blk m c t _ r j hi) (congrArg₂ (fun a b : EReal => a * b) (pq_blk m c t _ r j hi) ?_)
  exact congrArg (fun X => Rms.inv X _ _) (funext fun k => pq_blk m c t _ r k hi)

/-- The queries' gain's gradient after the last grid point. -/
theorem totalGq (c : Dev nD) (t : Fin cfg0.N) (hr : t.val % 32 = 31) (y : S1x256.Idx) :
    (outsAt0 m c t.val t.isLt).2.1 y
      = (k0_pay2 (F := Ideal) y : EReal) + ∑ s : Fin 32, stepGq m c ⟨32 * (t.val / 32) + s.val, Pipeline.run_point_lt_of_flush t hr s⟩ y :=
  Pipeline.eq_sum_fin_of_reset_step_apply_of_flush (fun n h => (outsAt0 m c n h).2.1) 32 (k0_pay2 (F := Ideal)) (stepGq m c)
    (fun t h y => by
      rw [outsAt0_A m c t h h]
      frame_out
      exact nextGq m c t _ y)
    (fun t h y => by
      rw [outsAt0_B m c t h h]
      frame_out
      exact nextGq m c t _ y) t hr y

/-- The queries' gain's gradient. -/
def gainGq (c : Dev nD) (j : Fin 256) : EReal := ∑ i : Fin 4096, rowGq m c i j

/-- The grid points' additions are the sum over all rows. -/
theorem allGq (c : Dev nD) (t : Fin cfg0.N) (hr : t.val % 32 = 31) (y : S1x256.Idx) :
    ∑ s : Fin 32, stepGq m c ⟨32 * (t.val / 32) + s.val, Pipeline.run_point_lt_of_flush t hr s⟩ y = gainGq m c (y 1) := by
  have ht : t.val < 32 := t.isLt
  unfold stepGq gainGq
  refine Eq.trans ?_ (Rms.sum_blocks 32 128 (fun i : Fin 4096 => rowGq m c i (y 1)))
  refine Finset.sum_congr rfl fun s _ => Finset.sum_congr rfl fun r _ => congrArg (fun i => rowGq m c i (y 1)) (Fin.ext ?_)
  show (32 * (t.val / 32) + s.val) * 128 + r.val = s.val * 128 + r.val
  omega

/-- The same as an array. -/
def arrGq (c : Dev nD) (y : S1x256.Idx) : EReal := gainGq m c (y 1)

/-- One entry of that array. -/
theorem arrGq_at (c : Dev nD) (y : S1x256.Idx) (j : Fin 256) (h1 : (y 1).val = j.val) : arrGq m c y = gainGq m c j := congrArg (gainGq m c) (Fin.ext h1)

/-- The queries' gain output after the run. -/
theorem arr12 (c : Dev nD) : (dats m 0 c).arrAt 12 cfg0.N = arrGq m c := by
  refine (dats m 0 c).arrAt_eq_of_covers 12 _ (by decide +kernel) fun t hf y => ?_
  have hr : t.val % 32 = 31 := (flush0_12 t).1 hf
  blk_simp
  rw [after0_12, totalGq m c t hr]
  have h1 : (((View.whole main_v26_1).slice (win0_12.rect t)).emb y 1).val = (y 1).val := by blk_simp [(idx1 t).2.2.1]
  have ht : t.val < 32 := t.isLt
  refine Eq.trans ?_ (arrGq_at m c _ (y 1) h1).symm
  have hz : (k0_pay2 (F := Ideal) y : EReal) = 0 := by
    have : ∀ (a : Fin 1) (b : Fin 256), k0_pay2 (F := Ideal) (ix2 a b) = 0 := fun a b => by pointwise [k0_pay2]
    have hy : (y : S1x256.Idx) = ix2 (y 0) (y 1) := by idx_ext
    exact (congrArg (k0_pay2 (F := Ideal)) hy).trans (this _ _)
  rw [hz, zero_add]
  exact allGq m c t hr y

/-- What one row adds to the keys' gain's gradient. -/
def rowGk (c : Dev nD) (i : Fin 4096) (j : Fin 128) : EReal := aDc m c (ix2 i j) * (xc m c i j * Rms.inv (xc m c i) wC wE)

/-- What a grid point adds to it. -/
def stepGk (c : Dev nD) (t : Fin cfg0.N) (y : S1x128.Idx) : EReal :=
  ∑ r : Fin 128, rowGk m c ⟨t.val * 128 + r.val, by have : t.val < 32 := t.isLt; omega⟩ (y 1)

/-- The sum of a block's rows joins what was there. -/
theorem addGk_at (v0 : Vec Ideal S128x128 .f32) (v9 : Vec Ideal S128x128 .bf16) (b : Vec Ideal S1x128 .f32) (z : Fin 1) (j : Fin 128) :
    k0_pay5 (F := Ideal) (k0_pay20 (F := Ideal) v0 (k0_pay10 (F := Ideal) v9)) b (ix2 z j)
      = b (ix2 z j) + ∑ r : Fin 128, v0 (ix2 r j) * (v9 (ix2 r j) * Rms.inv (fun k : Fin 128 => v9 (ix2 r k)) wC wE) := by
  simp only [← invC_at v9 _ 0]
  pointwise [k0_pay5, k0_pay20, k0_pay18, k0_pay10]

/-- A grid point adds its rows to what was there. -/
theorem nextGk (c : Dev nD) (t : Fin cfg0.N) (b : Vec Ideal S1x128 .f32) (y : S1x128.Idx) :
    k0_pay5 (F := Ideal) (k0_pay20 (F := Ideal) (iblk m c 1 t) (k0_pay10 (F := Ideal) (iblk m c 6 t))) b y = (b y : EReal) + stepGk m c t y := by
  obtain ⟨z, j, rfl⟩ : ∃ (z : Fin 1) (j : Fin 128), y = ix2 z j := ⟨y 0, y 1, by idx_ext⟩
  have ht : t.val < 32 := t.isLt
  refine (addGk_at _ _ b z j).trans (congrArg (fun x : EReal => b (ix2 z j) + x) (Finset.sum_congr rfl fun r _ => ?_))
  unfold rowGk
  have hi : (⟨t.val * 128 + r.val, by omega⟩ : Fin 4096).val = t.val * 128 + r.val := rfl
  refine congrArg₂ (fun a b : EReal => a * b) (c_blk m c t _ r j hi) (congrArg₂ (fun a b : EReal => a * b) (pc_blk m c t _ r j hi) ?_)
  exact congrArg (fun X => Rms.inv X _ _) (funext fun k => pc_blk m c t _ r k hi)

/-- The keys' gain's gradient after the last grid point. -/
theorem totalGk (c : Dev nD) (t : Fin cfg0.N) (hr : t.val % 32 = 31) (y : S1x128.Idx) :
    (outsAt0 m c t.val t.isLt).2.2 y
      = (k0_pay4 (F := Ideal) y : EReal) + ∑ s : Fin 32, stepGk m c ⟨32 * (t.val / 32) + s.val, Pipeline.run_point_lt_of_flush t hr s⟩ y :=
  Pipeline.eq_sum_fin_of_reset_step_apply_of_flush (fun n h => (outsAt0 m c n h).2.2) 32 (k0_pay4 (F := Ideal)) (stepGk m c)
    (fun t h y => by
      rw [outsAt0_A m c t h h]
      frame_out
      exact nextGk m c t _ y)
    (fun t h y => by
      rw [outsAt0_B m c t h h]
      frame_out
      exact nextGk m c t _ y) t hr y

/-- The keys' gain's gradient. -/
def gainGk (c : Dev nD) (j : Fin 128) : EReal := ∑ i : Fin 4096, rowGk m c i j

/-- The grid points' additions are the sum over all rows. -/
theorem allGk (c : Dev nD) (t : Fin cfg0.N) (hr : t.val % 32 = 31) (y : S1x128.Idx) :
    ∑ s : Fin 32, stepGk m c ⟨32 * (t.val / 32) + s.val, Pipeline.run_point_lt_of_flush t hr s⟩ y = gainGk m c (y 1) := by
  have ht : t.val < 32 := t.isLt
  unfold stepGk gainGk
  refine Eq.trans ?_ (Rms.sum_blocks 32 128 (fun i : Fin 4096 => rowGk m c i (y 1)))
  refine Finset.sum_congr rfl fun s _ => Finset.sum_congr rfl fun r _ => congrArg (fun i => rowGk m c i (y 1)) (Fin.ext ?_)
  show (32 * (t.val / 32) + s.val) * 128 + r.val = s.val * 128 + r.val
  omega

/-- The same as an array. -/
def arrGk (c : Dev nD) (y : S1x128.Idx) : EReal := gainGk m c (y 1)

/-- One entry of that array. -/
theorem arrGk_at (c : Dev nD) (y : S1x128.Idx) (j : Fin 128) (h1 : (y 1).val = j.val) : arrGk m c y = gainGk m c j := congrArg (gainGk m c) (Fin.ext h1)

/-- The keys' gain output after the run. -/
theorem arr13 (c : Dev nD) : (dats m 0 c).arrAt 13 cfg0.N = arrGk m c := by
  refine (dats m 0 c).arrAt_eq_of_covers 13 _ (by decide +kernel) fun t hf y => ?_
  have hr : t.val % 32 = 31 := (flush0_13 t).1 hf
  blk_simp
  rw [after0_13, totalGk m c t hr]
  have h1 : (((View.whole main_v26_2).slice (win0_13.rect t)).emb y 1).val = (y 1).val := by blk_simp [(idx1 t).2.2.2]
  have ht : t.val < 32 := t.isLt
  refine Eq.trans ?_ (arrGk_at m c _ (y 1) h1).symm
  have hz : (k0_pay4 (F := Ideal) y : EReal) = 0 := by
    have : ∀ (a : Fin 1) (b : Fin 128), k0_pay4 (F := Ideal) (ix2 a b) = 0 := fun a b => by pointwise [k0_pay4]
    have hy : (y : S1x128.Idx) = ix2 (y 0) (y 1) := by idx_ext
    exact (congrArg (k0_pay4 (F := Ideal)) hy).trans (this _ _)
  rw [hz, zero_add]
  exact allGk m c t hr y

end run

end Cert.Proof.Lat
end
-- ==== Proof.LatRef.lean ====
module

public import proofs.«01_k».proof.Defs
public import proofs.«01_k».proof.Proof.Gen.LatRefIdeal.Run
public import proofs.«01_k».proof.Proof.Gen.LatRefIdeal.Read
public import Idealize.ShloMosaic.Lib.Pipeline.ValueKit
public import proofs.«01_k».proof.Proof.Rms
public import proofs.«01_k».proof.Proof.Lat

@[expose] public section

set_option maxRecDepth 16384

noncomputable section

namespace Cert.Proof.Lat

open Idealize.ShloMosaic Idealize.ShloMosaic.TcCoe Idealize.SL.Sem
open Cert.LatRefIdeal Cert.Proof.Rms
open Cert.LatRefIdeal.Read (val_main_cst_14 val_main_cst_15 val_main_cst_16 val_main_cst_17 val_main_cst_18 val_main_cst_19 val_main_cst_2 val_main_cst_20 val_main_cst_21
  val_main_cst_22 val_main_cst_23 val_main_cst_24 val_main_cst_25 val_main_cst_26 val_main_cst_27 val_main_cst_28 val_main_cst_3 val_main_cst_4
  val_main_cst_5 val_main_cst_6 val_main_cst_7 val_main_cst_8 val_main_cst_9 val_main_v0 val_main_v1 val_main_v100 val_main_v101 val_main_v102
  val_main_v103 val_main_v104 val_main_v105 val_main_v106 val_main_v107 val_main_v108 val_main_v109 val_main_v110 val_main_v111 val_main_v112
  val_main_v113 val_main_v114 val_main_v115 val_main_v116 val_main_v117 val_main_v118 val_main_v119 val_main_v120 val_main_v121 val_main_v122
  val_main_v123 val_main_v124 val_main_v125 val_main_v126 val_main_v127 val_main_v128 val_main_v129 val_main_v130 val_main_v131 val_main_v132
  val_main_v133 val_main_v134 val_main_v135 val_main_v136 val_main_v137 val_main_v138 val_main_v139 val_main_v140 val_main_v22 val_main_v23 val_main_v24
  val_main_v25 val_main_v36 val_main_v37 val_main_v38 val_main_v39 val_main_v40 val_main_v41 val_main_v42 val_main_v43 val_main_v44 val_main_v45
  val_main_v46 val_main_v47 val_main_v48 val_main_v51 val_main_v52 val_main_v53 val_main_v54 val_main_v55 val_main_v56 val_main_v57 val_main_v58
  val_main_v59 val_main_v60 val_main_v61 val_main_v62 val_main_v63 val_main_v7 val_main_v73 val_main_v75 val_main_v78 val_main_v80 val_main_v81
  val_main_v82 val_main_v83 val_main_v84 val_main_v85 val_main_v86 val_main_v87 val_main_v88 val_main_v89 val_main_v90 val_main_v91 val_main_v92
  val_main_v93 val_main_v94 val_main_v95 val_main_v96 val_main_v97 val_main_v98 val_main_v99)

section ref
variable (x0 : Vec Ideal S4096x4032 .f32) (x1 : Vec Ideal S4096 .i32) (x2 : Vec Ideal S1x256 .f32) (x3 : Vec Ideal S1x128 .f32) (x4 : Vec Ideal S4096x256 .f32)
  (x5 : Vec Ideal S4096x128 .f32) (x6 : Vec Ideal S8x4096x64 .f32) (x7 x8 : Vec Ideal S4352x256 .f32) (x9 : Vec Ideal S4096x4096 .bf16)

/-- The reference's mean square of a query row. -/
theorem r_msqQ (i : Fin 4096) (z : Fin 1) : val_main_v42 (F := Ideal) x0 (ix2 i z) = msq (fun k : Fin 256 => x0 (ix2 i ⟨k.val, by omega⟩)) wQ wE := by
  unfold msq
  pointwise [val_main_v0, val_main_v36, val_main_v37, val_main_v38, val_main_v39, val_main_v40, val_main_v41, val_main_v42, val_main_cst_2, val_main_cst_3, val_main_cst_4]

/-- The reference's factor of a query row. -/
theorem r_invQ (i : Fin 4096) (z : Fin 1) : val_main_v43 (F := Ideal) x0 (ix2 i z) = Rms.inv (fun k : Fin 256 => x0 (ix2 i ⟨k.val, by omega⟩)) wQ wE := by
  unfold Rms.inv
  rw [← r_msqQ x0 i z]
  pointwise [val_main_v43]

/-- The reference's mean square of a key row. -/
theorem r_msqC (i : Fin 4096) (z : Fin 1) : val_main_v57 (F := Ideal) x0 (ix2 i z) = msq (fun k : Fin 128 => x0 (ix2 i ⟨256 + k.val, by omega⟩)) wC wE := by
  unfold msq
  pointwise [val_main_v1, val_main_v7, val_main_v51, val_main_v52, val_main_v53, val_main_v54, val_main_v55, val_main_v56, val_main_v57, val_main_cst_6, val_main_cst_7, val_main_cst_8]

/-- The reference's factor of a key row. -/
theorem r_invC (i : Fin 4096) (z : Fin 1) : val_main_v58 (F := Ideal) x0 (ix2 i z) = Rms.inv (fun k : Fin 128 => x0 (ix2 i ⟨256 + k.val, by omega⟩)) wC wE := by
  unfold Rms.inv
  rw [← r_msqC x0 i z]
  pointwise [val_main_v58]

/-- The reference's change of the queries' factor. -/
theorem r_factorQ (i : Fin 4096) (j : Fin 256) : val_main_v115 (F := Ideal) x0 x2 x4 (ix2 i j)
    = factor (fun k : Fin 256 => x0 (ix2 i ⟨k.val, by omega⟩)) (fun k : Fin 256 => x2 (ix2 0 k)) (fun k : Fin 256 => x4 (ix2 i k)) wQ wE (Ideal.ofBits FTy.f32 0xBF000000#32) := by
  unfold factor
  rw [← r_invQ x0 i 0, ← r_msqQ x0 i 0]
  pointwise [val_main_v0, val_main_v115, val_main_v114, val_main_v113, val_main_v112, val_main_v111, val_main_v108, val_main_v107, val_main_v106, val_main_v105, val_main_v104,
    val_main_v46, val_main_v45, val_main_v44, val_main_cst_5, val_main_cst_20, val_main_cst_21, val_main_cst_22]
  exact Fintype.sum_unique _

/-- The reference's change of the keys' factor. -/
theorem r_factorC (i : Fin 4096) (j : Fin 128) : val_main_v96 (F := Ideal) x0 x3 x5 (ix2 i j)
    = factor (fun k : Fin 128 => x0 (ix2 i ⟨256 + k.val, by omega⟩)) (fun k : Fin 128 => x3 (ix2 0 k)) (fun k : Fin 128 => x5 (ix2 i k)) wC wE (Ideal.ofBits FTy.f32 0xBF000000#32) := by
  unfold factor
  rw [← r_invC x0 i 0, ← r_msqC x0 i 0]
  pointwise [val_main_v1, val_main_v7, val_main_v96, val_main_v95, val_main_v94, val_main_v93, val_main_v92, val_main_v89, val_main_v88, val_main_v87, val_main_v86, val_main_v85,
    val_main_v61, val_main_v60, val_main_v59, val_main_cst_9, val_main_cst_16, val_main_cst_17, val_main_cst_18]
  exact Fintype.sum_unique _

/-- The reference's gradient of the query columns. -/
theorem r_dxQ (i : Fin 4096) (j : Fin 256) : val_main_v119 (F := Ideal) x0 x2 x4 (ix2 i j)
    = x4 (ix2 i j) * x2 (ix2 0 j) * val_main_v43 (F := Ideal) x0 (ix2 i 0)
      + x0 (ix2 i ⟨j.val, by omega⟩) * val_main_v115 (F := Ideal) x0 x2 x4 (ix2 i j) + x0 (ix2 i ⟨j.val, by omega⟩) * val_main_v115 (F := Ideal) x0 x2 x4 (ix2 i j) := by
  refine Eq.trans ?_ (congrArg (fun z : EReal => x4 (ix2 i j) * x2 (ix2 0 j) * val_main_v43 (F := Ideal) x0 (ix2 i 0)
      + x0 (ix2 i ⟨j.val, by omega⟩) * val_main_v115 (F := Ideal) x0 x2 x4 (ix2 i j) + z) (mul_comm _ _))
  pointwise [val_main_v0, val_main_v119, val_main_v118, val_main_v117, val_main_v116, val_main_v110, val_main_v109, val_main_v105, val_main_v104]

/-- The reference's gradient of the key columns. -/
theorem r_dxC (i : Fin 4096) (j : Fin 128) : val_main_v100 (F := Ideal) x0 x3 x5 (ix2 i j)
    = x5 (ix2 i j) * x3 (ix2 0 j) * val_main_v58 (F := Ideal) x0 (ix2 i 0)
      + x0 (ix2 i ⟨256 + j.val, by omega⟩) * val_main_v96 (F := Ideal) x0 x3 x5 (ix2 i j) + x0 (ix2 i ⟨256 + j.val, by omega⟩) * val_main_v96 (F := Ideal) x0 x3 x5 (ix2 i j) := by
  refine Eq.trans ?_ (congrArg (fun z : EReal => x5 (ix2 i j) * x3 (ix2 0 j) * val_main_v58 (F := Ideal) x0 (ix2 i 0)
      + x0 (ix2 i ⟨256 + j.val, by omega⟩) * val_main_v96 (F := Ideal) x0 x3 x5 (ix2 i j) + z) (mul_comm _ _))
  pointwise [val_main_v1, val_main_v7, val_main_v100, val_main_v99, val_main_v98, val_main_v97, val_main_v91, val_main_v90, val_main_v86, val_main_v85]

/-- The reference's gradient of the queries' gain. -/
theorem r_dgQ (z : Fin 1) (j : Fin 256) : val_main_v103 (F := Ideal) x0 x4 (ix2 z j)
    = ∑ i : Fin 4096, x0 (ix2 i ⟨j.val, by omega⟩) * val_main_v43 (F := Ideal) x0 (ix2 i 0) * x4 (ix2 i j) := by
  pointwise [val_main_v0, val_main_v103, val_main_v102, val_main_v101, val_main_v48, val_main_v47, val_main_cst_19]

/-- The reference's gradient of the keys' gain. -/
theorem r_dgC (z : Fin 1) (j : Fin 128) : val_main_v84 (F := Ideal) x0 x5 (ix2 z j)
    = ∑ i : Fin 4096, x0 (ix2 i ⟨256 + j.val, by omega⟩) * val_main_v58 (F := Ideal) x0 (ix2 i 0) * x5 (ix2 i j) := by
  pointwise [val_main_v1, val_main_v7, val_main_v84, val_main_v83, val_main_v82, val_main_v63, val_main_v62, val_main_cst_15]

/-- The reference's sum over the heads. -/
theorem r_heads (i : Fin 4096) (d : Fin 64) : val_main_v81 (F := Ideal) x6 (ix3 i 0 d) = ∑ h : Fin 8, x6 (ix3 h i d) := by
  pointwise [val_main_v81, val_main_v80, val_main_v73, val_main_cst_14]

/-- The reference's shared key, turned back: its first half. -/
theorem r_back1 (i : Fin 4096) (j : Fin 32) : val_main_v128 (F := Ideal) x1 x6 (ix3 i 0 j)
    = val_main_v81 (F := Ideal) x6 (ix3 i 0 ⟨32 + j.val, by omega⟩) * val_main_v24 (F := Ideal) x1 (ix2 i j) + val_main_v81 (F := Ideal) x6 (ix3 i 0 ⟨j.val, by omega⟩) * val_main_v22 (F := Ideal) x1 (ix2 i j) := by
  pointwise [val_main_v128, val_main_v127, val_main_v122, val_main_v121, val_main_v120, val_main_v25, val_main_v23]

/-- The reference's shared key, turned back: its second half. -/
theorem r_back2 (i : Fin 4096) (j : Fin 32) : val_main_v126 (F := Ideal) x1 x6 (ix3 i 0 j)
    = val_main_v81 (F := Ideal) x6 (ix3 i 0 ⟨32 + j.val, by omega⟩) * val_main_v22 (F := Ideal) x1 (ix2 i j) + -val_main_v81 (F := Ideal) x6 (ix3 i 0 ⟨j.val, by omega⟩) * val_main_v24 (F := Ideal) x1 (ix2 i j) := by
  pointwise [val_main_v126, val_main_v125, val_main_v124, val_main_v123, val_main_v121, val_main_v120, val_main_v25, val_main_v23]

/-- The reference's whole shared key. -/
theorem r_key (i : Fin 4096) (j : Fin 64) : val_main_v132 (F := Ideal) x1 x6 (ix2 i j)
    = if h : j.val < 32 then val_main_v128 (F := Ideal) x1 x6 (ix3 i 0 ⟨j.val, h⟩) else val_main_v126 (F := Ideal) x1 x6 (ix3 i 0 ⟨j.val - 32, by omega⟩) := by
  by_cases h : j.val < 32
  · rw [dif_pos h]
    pointwise [val_main_v132, val_main_v131, val_main_v130, val_main_v129, val_main_cst_23, val_main_cst_24, val_main_cst_25]
    refine (Fintype.sum_unique _).trans ?_
    rw [dif_neg (by omega), dif_pos h, zero_add]
  · rw [dif_neg h]
    pointwise [val_main_v132, val_main_v131, val_main_v130, val_main_v129, val_main_cst_23, val_main_cst_24, val_main_cst_25]
    refine (Fintype.sum_unique _).trans ?_
    rw [dif_pos (by omega), dif_neg h, add_zero]

/-- The reference's key columns: the norm's part, then the turned part. -/
theorem r_kv (i : Fin 4096) (j : Fin 192) : val_main_v135 (F := Ideal) x0 x1 x3 x5 x6 (ix2 i j)
    = if h : j.val < 128 then val_main_v100 (F := Ideal) x0 x3 x5 (ix2 i ⟨j.val, h⟩) else val_main_v132 (F := Ideal) x1 x6 (ix2 i ⟨j.val - 128, by omega⟩) := by
  by_cases h : j.val < 128
  · rw [dif_pos h]
    pointwise [val_main_v135, val_main_v134, val_main_v133, val_main_cst_26, val_main_cst_27]
    rw [dif_neg (by omega), dif_pos h, zero_add]
  · rw [dif_neg h]
    pointwise [val_main_v135, val_main_v134, val_main_v133, val_main_cst_26, val_main_cst_27]
    rw [dif_pos (by omega), dif_neg h, add_zero]

/-- The reference's projection gradient. -/
theorem r_out (i : Fin 4096) (l : Fin 4096) : val_main_v140 (F := Ideal) x0 x1 x2 x3 x4 x5 x6 x7 x8 x9 (ix2 i l)
    = if h : l.val < 3072 then x9 (ix2 i l)
      else if h : l.val - 3072 < 256 then val_main_v119 (F := Ideal) x0 x2 x4 (ix2 i ⟨l.val - 3072, h⟩)
      else if h : l.val - 3072 - 256 < 256 then x7 (ix2 ⟨128 + i.val, by omega⟩ ⟨l.val - 3072 - 256, h⟩)
      else if h : l.val - 3072 - 256 - 256 < 256 then x8 (ix2 ⟨128 + i.val, by omega⟩ ⟨l.val - 3072 - 256 - 256, h⟩)
      else if h : l.val - 3072 - 256 - 256 - 256 < 192 then val_main_v135 (F := Ideal) x0 x1 x3 x5 x6 (ix2 i ⟨l.val - 3072 - 256 - 256 - 256, h⟩)
      else 0 := by
  pointwise [val_main_v140, val_main_v139, val_main_v138, val_main_v137, val_main_v78, val_main_v75, val_main_v136, val_main_cst_28]

end ref

end Cert.Proof.Lat
end
-- ==== Proof.LatEq.lean ====
module

public import proofs.«01_k».proof.Defs
public import proofs.«01_k».proof.Proof.Gen.Pre_lat_finite
public import proofs.«01_k».proof.Proof.Lat
public import proofs.«01_k».proof.Proof.LatRef

@[expose] public section

set_option maxRecDepth 16384

noncomputable section

namespace Cert.Proof.Lat

open Idealize.ShloMosaic Idealize.ShloMosaic.TcCoe Idealize.SL.Sem
open Cert.LatIdeal Cert.LatIdeal.Gen Cert.Proof.Rms Cert.Proof.Reals
open Cert.LatRefIdeal.Read (val_main_v22 val_main_v24 val_main_v81 val_main_v84 val_main_v100 val_main_v103 val_main_v119 val_main_v126 val_main_v128 val_main_v140)

/-- What the precondition says of the call's arguments: they are real. -/
theorem args_real (a0 : FVec Ideal S4096x4032 .f32) (a1 : IVec S4096 32) (a2 : FVec Ideal S1x256 .f32) (a3 : FVec Ideal S1x128 .f32) (a4 : FVec Ideal S4096x256 .f32)
    (a5 : FVec Ideal S4096x128 .f32) (a6 : FVec Ideal S8x4096x64 .f32) (a7 a8 : FVec Ideal S4352x256 .f32) (a9 : FVec Ideal S4096x4096 .bf16)
    (h : (Cert.Pre_lat_finite.fn (F := Ideal) a0 a1 a2 a3 a4 a5 a6 a7 a8 a9).1 = (fun _ => 1#1) ∧ (Cert.Pre_lat_finite.fn (F := Ideal) a0 a1 a2 a3 a4 a5 a6 a7 a8 a9).2.1 = (fun _ => 1#1)
      ∧ (Cert.Pre_lat_finite.fn (F := Ideal) a0 a1 a2 a3 a4 a5 a6 a7 a8 a9).2.2.1 = (fun _ => 1#1) ∧ (Cert.Pre_lat_finite.fn (F := Ideal) a0 a1 a2 a3 a4 a5 a6 a7 a8 a9).2.2.2.1 = (fun _ => 1#1)
      ∧ (Cert.Pre_lat_finite.fn (F := Ideal) a0 a1 a2 a3 a4 a5 a6 a7 a8 a9).2.2.2.2 = (fun _ => 1#1)) :
    ∃ (p : S4096x4032.Idx → ℝ) (g : S1x256.Idx → ℝ) (k : S1x128.Idx → ℝ) (u : S4096x256.Idx → ℝ) (w : S4096x128.Idx → ℝ),
      (a0 = fun y => (p y : EReal)) ∧ (a2 = fun y => (g y : EReal)) ∧ (a3 = fun y => (k y : EReal)) ∧ (a4 = fun y => (u y : EReal)) ∧ (a5 = fun y => (w y : EReal)) := by
  obtain ⟨h0, h1, h2, h3, h4⟩ := h
  obtain ⟨p, hp⟩ := arr_real a0 _ (fun _ => inf_word) h0
  obtain ⟨g, hg⟩ := arr_real a2 _ (fun _ => inf_word) h1
  obtain ⟨k, hk⟩ := arr_real a3 _ (fun _ => inf_word) h2
  obtain ⟨u, hu⟩ := arr_real a4 _ (fun _ => inf_word) h3
  obtain ⟨w, hw⟩ := arr_real a5 _ (fun _ => inf_word) h4
  exact ⟨p, g, k, u, w, hp, hg, hk, hu, hw⟩

/-- The literal two hundred and fifty-six. -/
theorem lit_256 : (wQ : EReal) = ((256 : ℕ) : ℝ) := by
  simp [Ideal.ofBits, Ideal.ieee, -EReal.coe_mul]; norm_num

/-- The literal one hundred and twenty-eight. -/
theorem lit_128 : (wC : EReal) = ((128 : ℕ) : ℝ) := by
  simp [Ideal.ofBits, Ideal.ieee, -EReal.coe_mul]; norm_num

/-- Both ways to write the gradient of a normalised row, nothing added. -/
theorem byHand_eq {n : ℕ} (hn : 0 < n) (x g d : Fin n → ℝ) (w : EReal) (hw : w = ((n : ℝ) : EReal)) (X G D : Fin n → EReal)
    (hX : ∀ k, X k = (x k : EReal)) (hG : ∀ k, G k = (g k : EReal)) (hD : ∀ k, D k = (d k : EReal)) (j : Fin n) :
    byHand X G D w wE j = D j * G j * Rms.inv X w wE + X j * factor X G D w wE (Ideal.ofBits FTy.f32 0xBF000000#32)
      + X j * factor X G D w wE (Ideal.ofBits FTy.f32 0xBF000000#32) := by
  obtain ⟨ε, hε, he⟩ := lit_eps
  have e := byHand_add hn x g d w _ _ 0 ε hε hw he lit_half X G D hX hG hD j
  rw [add_zero, zero_add] at e
  exact e

section result
variable (m : (ℓ : Loc nD τ sig) → Buf (Elt Ideal) ℓ)

/-- The query columns' gradient is the reference's. -/
theorem q_eq (c : Dev nD) (p : S4096x4032.Idx → ℝ) (g : S1x256.Idx → ℝ) (u : S4096x256.Idx → ℝ)
    (hp : aP m c = fun y => (p y : EReal)) (hg : aGq m c = fun y => (g y : EReal)) (hu : aDq m c = fun y => (u y : EReal)) (i : Fin 4096) (j : Fin 256) :
    byHand (xq m c i) (fun k => aGq m c (ix2 0 k)) (fun k => aDq m c (ix2 i k)) wQ wE j = val_main_v119 (F := Ideal) (aP m c) (aGq m c) (aDq m c) (ix2 i j) := by
  refine Eq.trans ?_ (r_dxQ _ _ _ i j).symm
  rw [r_factorQ, r_invQ]
  exact byHand_eq (by norm_num) (fun k => p (ix2 i ⟨k.val, by omega⟩)) (fun k => g (ix2 0 k)) (fun k => u (ix2 i k)) _ lit_256 _ _ _
    (fun k => congrFun hp _) (fun k => congrFun hg _) (fun k => congrFun hu _) j

/-- The key columns' gradient is the reference's. -/
theorem c_eq (c : Dev nD) (p : S4096x4032.Idx → ℝ) (g : S1x128.Idx → ℝ) (u : S4096x128.Idx → ℝ)
    (hp : aP m c = fun y => (p y : EReal)) (hg : aGk m c = fun y => (g y : EReal)) (hu : aDc m c = fun y => (u y : EReal)) (i : Fin 4096) (j : Fin 128) :
    byHand (xc m c i) (fun k => aGk m c (ix2 0 k)) (fun k => aDc m c (ix2 i k)) wC wE j = val_main_v100 (F := Ideal) (aP m c) (aGk m c) (aDc m c) (ix2 i j) := by
  refine Eq.trans ?_ (r_dxC _ _ _ i j).symm
  rw [r_factorC, r_invC]
  exact byHand_eq (by norm_num) (fun k => p (ix2 i ⟨256 + k.val, by omega⟩)) (fun k => g (ix2 0 k)) (fun k => u (ix2 i k)) _ lit_128 _ _ _
    (fun k => congrFun hp _) (fun k => congrFun hg _) (fun k => congrFun hu _) j

/-- The reference's cosines are the kernel's. -/
theorem cos_eq (c : Dev nD) : Host.cos (F := Ideal) (hA (aI m c)) = val_main_v22 (F := Ideal) (aI m c) := rfl
/-- The reference's sines are the kernel's. -/
theorem sin_eq (c : Dev nD) : Host.sin (F := Ideal) (hA (aI m c)) = val_main_v24 (F := Ideal) (aI m c) := rfl

/-- The first half of the turned key. -/
theorem b1_eq (c : Dev nD) (i : Fin 4096) (j : Fin 32) :
    back1 (dr m c i) (fun k => Host.cos (F := Ideal) (hA (aI m c)) (ix2 i k)) (fun k => Host.sin (F := Ideal) (hA (aI m c)) (ix2 i k)) j
      = val_main_v128 (F := Ideal) (aI m c) (aDr m c) (ix3 i 0 j) := by
  rw [r_back1, r_heads, r_heads, cos_eq, sin_eq]
  exact add_comm _ _

/-- The second half of the turned key. -/
theorem b2_eq (c : Dev nD) (i : Fin 4096) (j : Fin 32) :
    back2 (dr m c i) (fun k => Host.cos (F := Ideal) (hA (aI m c)) (ix2 i k)) (fun k => Host.sin (F := Ideal) (hA (aI m c)) (ix2 i k)) j
      = val_main_v126 (F := Ideal) (aI m c) (aDr m c) (ix3 i 0 j) := by
  rw [r_back2, r_heads, r_heads, cos_eq, sin_eq, EReal.neg_mul]
  exact sub_eq_add_neg _ _

/-- The projection's gradient is the reference's. -/
theorem out_eq (c : Dev nD) (p : S4096x4032.Idx → ℝ) (g : S1x256.Idx → ℝ) (k : S1x128.Idx → ℝ) (u : S4096x256.Idx → ℝ) (w : S4096x128.Idx → ℝ)
    (hp : aP m c = fun y => (p y : EReal)) (hg : aGq m c = fun y => (g y : EReal)) (hk : aGk m c = fun y => (k y : EReal))
    (hu : aDq m c = fun y => (u y : EReal)) (hw : aDc m c = fun y => (w y : EReal)) :
    arrO m c = val_main_v140 (F := Ideal) (aP m c) (aI m c) (aGq m c) (aGk m c) (aDq m c) (aDc m c) (aDr m c) (aDk m c) (aDv m c) (aO m c) := by
  funext y
  obtain ⟨i, l, rfl⟩ : ∃ (i : Fin 4096) (l : Fin 4096), y = ix2 i l := ⟨y 0, y 1, by idx_ext⟩
  refine Eq.trans ?_ (r_out _ _ _ _ _ _ _ _ _ _ i l).symm
  show gO m c i l = _
  unfold gO gT row
  simp only [r_kv, r_key, q_eq m c p g u hp hg hu, c_eq m c p k w hp hk hw, b1_eq, b2_eq]
  have hl := l.isLt
  split_ifs <;> first | rfl | omega

/-- The queries' gain. -/
theorem gq_eq (c : Dev nD) : arrGq m c = val_main_v103 (F := Ideal) (aP m c) (aDq m c) := by
  funext y
  obtain ⟨z, j, rfl⟩ : ∃ (z : Fin 1) (j : Fin 256), y = ix2 z j := ⟨y 0, y 1, by idx_ext⟩
  refine (arrGq_at m c _ j rfl).trans (Eq.trans ?_ (r_dgQ _ _ z j).symm)
  unfold gainGq rowGq
  refine Finset.sum_congr rfl fun i _ => ?_
  rw [r_invQ, mul_comm]
  rfl

/-- The keys' gain. -/
theorem gk_eq (c : Dev nD) : arrGk m c = val_main_v84 (F := Ideal) (aP m c) (aDc m c) := by
  funext y
  obtain ⟨z, j, rfl⟩ : ∃ (z : Fin 1) (j : Fin 128), y = ix2 z j := ⟨y 0, y 1, by idx_ext⟩
  refine (arrGk_at m c _ j rfl).trans (Eq.trans ?_ (r_dgC _ _ z j).symm)
  unfold gainGk rowGk
  refine Finset.sum_congr rfl fun i _ => ?_
  rw [r_invC, mul_comm]
  rfl

/-- Every result of the call is the reference's. -/
theorem equal : Cert.algebraic_LatIdeal_LatRefIdeal_pre_lat_finite := by
  intro m ρ m' ρ' hp hag
  refine ⟨fun c => arrO m c, fun c => arrGq m c, fun c => arrGk m c, ?_, ?_⟩
  · refine (θ_run _ _ _).mono (fun r h c => ?_) (Cert.LatIdeal.Value.run_blocks m ρ)
    obtain ⟨h0, h1, h2, ha⟩ := h c
    exact ⟨h0.trans (arr11 m c), h1.trans (arr12 m c), h2.trans (arr13 m c), ha⟩
  · refine (θ_run _ _ _).mono (fun r h c => ?_) (Cert.LatRefIdeal.Value.run m' ρ')
    obtain ⟨h0, h1, h2, ha⟩ := h c
    obtain ⟨g0, g1, g2, g3, g4, g5, g6, g7, g8, g9⟩ := hag c
    obtain ⟨p, g, k, u, w, ep, eg, ek, eu, ew⟩ := args_real _ _ _ _ _ _ _ _ _ _ (hp c)
    refine ⟨?_, ?_, ?_, ha⟩
    · exact (h0.trans (Cert.LatRefIdeal.Read.val_main_v140_eq _ _)).trans ((congr (congr (congr (congr (congr (congr (congr (congr (congr
        (congrArg (val_main_v140 (F := Ideal)) g0) g1) g2) g3) g4) g5) g6) g7) g8) g9).trans (out_eq m c p g k u w ep eg ek eu ew).symm)
    · exact (h1.trans (Cert.LatRefIdeal.Read.val_main_v103_eq _ _)).trans ((congr (congrArg (val_main_v103 (F := Ideal)) g0) g4).trans (gq_eq m c).symm)
    · exact (h2.trans (Cert.LatRefIdeal.Read.val_main_v84_eq _ _)).trans ((congr (congrArg (val_main_v84 (F := Ideal)) g0) g5).trans (gk_eq m c).symm)

end result
end Cert.Proof.Lat
end
-- ==== Proof.BiasRef.lean ====
module

public import proofs.«01_k».proof.Defs
public import proofs.«01_k».proof.Proof.Gen.BiasRefIdeal.Run
public import proofs.«01_k».proof.Proof.Gen.BiasRefIdeal.Read
public import Idealize.ShloMosaic.Lib.Pipeline.ValueKit
public import Idealize.ShloMosaic.Lib.Pipeline.ReadBack
public import Idealize.ShloMosaic.Lib.Routing.OpsPair
public import proofs.«01_k».proof.Proof.Reals

@[expose] public section

set_option maxRecDepth 16384

noncomputable section

namespace Cert.Proof.Bias

open Idealize.ShloMosaic Idealize.ShloMosaic.TcCoe Idealize.SL.Sem
open Cert.BiasRefIdeal Cert.BiasRefIdeal.Read Cert.Proof.Reals

/-- The logarithmic step of a distance. -/
def far (n : BitVec 32) : BitVec 32 :=
  Ideal.fptosi 32 (Ideal.div (Ideal.log (Ideal.div (((IntOp.maxsi n 1#32).toInt : ℝ) : EReal) (Ideal.ofBits FTy.f32 0x41000000#32)))
    (Ideal.ofBits FTy.f32 0x40317218#32) * Ideal.ofBits FTy.f32 0x41000000#32)

/-- The bucket of a relative position. -/
def bucket (r : BitVec 32) : BitVec 32 :=
  IntOp.addi (IntOp.muli (BitVec.setWidth 32 (IntOp.cmpi CmpIPredicate.sgt r 0#32)) 16#32)
    (Scalar.select (IntOp.cmpi CmpIPredicate.slt (IntOp.absi r) 8#32) (IntOp.absi r) (IntOp.minsi (IntOp.addi 8#32 (far (IntOp.absi r))) 15#32))

/-- The position of key `s` relative to query `q`. -/
def rel (q s : ℕ) : BitVec 32 := IntOp.subi (IntOp.subi (BitVec.ofNat 32 s) 128#32) (BitVec.ofNat 32 q)

/-- The distance is small. -/
theorem rel_abs (q : Fin 128) (s : Fin 384) : (IntOp.absi (rel q.val s.val)).toNat < 384 := by
  have hq := q.isLt
  have hs := s.isLt
  unfold IntOp.absi rel IntOp.subi
  rw [BitVec.msb_eq_decide]
  split
  · rename_i h
    simp only [decide_eq_true_eq] at h
    bv_omega
  · rename_i h
    simp only [decide_eq_true_eq] at h
    bv_omega

/-- The logarithmic step of a distance of eight or more is a small natural number. -/
theorem far_nat (n : BitVec 32) (h8 : 8 ≤ n.toNat) (hn : n.toNat < 384) : ∃ z : ℕ, z < 4096 ∧ far n = BitVec.ofNat 32 z := by
  have hi : n.toInt = n.toNat := BitVec.toInt_eq_toNat_of_lt (by omega)
  have hm : IntOp.maxsi n 1#32 = n := by
    unfold IntOp.maxsi
    rw [if_pos]
    rw [BitVec.slt_iff_toInt_lt, hi]
    simp
    omega
  have e8 : Ideal.ofBits FTy.f32 0x41000000#32 = ((8 : ℝ) : EReal) := by
    simp [Ideal.ofBits, Ideal.ieee, -EReal.coe_mul]; norm_num
  have ec : Ideal.ofBits FTy.f32 0x40317218#32 = ((11629080 / 4194304 : ℝ) : EReal) := by
    simp [Ideal.ofBits, Ideal.ieee, -EReal.coe_mul]; norm_num
  have h8r : (8 : ℝ) ≤ (n.toNat : ℝ) := by exact_mod_cast h8
  have hnr : (n.toNat : ℝ) < 384 := by exact_mod_cast hn
  have hx : (1 : ℝ) ≤ (n.toNat : ℝ) / 8 := by linarith
  unfold far
  rw [hm, hi, e8, ec, div_real _ _ (by norm_num), log_real _ (by push_cast; linarith), div_real _ _ (by norm_num), ← EReal.coe_mul]
  simp only [Int.cast_natCast]
  set x : ℝ := Real.log ((n.toNat : ℝ) / 8) / (11629080 / 4194304) * 8 with hxd
  have h0 : 0 ≤ x := by
    have := Real.log_nonneg hx
    rw [hxd]
    positivity
  have h1 : x < 4096 := by
    have := Real.log_le_sub_one_of_pos (show (0 : ℝ) < (n.toNat : ℝ) / 8 by linarith)
    rw [hxd, div_mul_eq_mul_div, div_lt_iff₀ (by norm_num)]
    linarith
  refine ⟨⌊x⌋.toNat, ?_, ?_⟩
  · have : ⌊x⌋ < 4096 := Int.floor_lt.2 (by exact_mod_cast h1)
    omega
  · have hf : (0 : ℤ) ≤ ⌊x⌋ := Int.floor_nonneg.2 h0
    have hf' : ⌊x⌋ < 4096 := Int.floor_lt.2 (by exact_mod_cast h1)
    have : Ideal.toIntClamped (-(2 ^ (32 - 1) : Nat)) ((2 ^ (32 - 1) : Nat) - 1) (x : EReal) = ⌊x⌋ := by
      show max _ (min _ (if 0 ≤ x then ⌊x⌋ else ⌈x⌉)) = _
      rw [if_pos h0]
      omega
    unfold Ideal.fptosi
    rw [this]
    refine Eq.trans ?_ (BitVec.ofInt_natCast 32 _)
    rw [Int.toNat_of_nonneg hf]

/-- Every bucket is one of thirty-two. -/
theorem bucket_nat (q : Fin 128) (s : Fin 384) : ∃ z : ℕ, z < 64 ∧ bucket (rel q.val s.val) = BitVec.ofNat 32 z := by
  have hn := rel_abs q s
  unfold bucket
  generalize rel q.val s.val = r at hn ⊢
  generalize IntOp.absi r = n at hn ⊢
  have hb : ∃ b : ℕ, b < 17 ∧ IntOp.muli (BitVec.setWidth 32 (IntOp.cmpi CmpIPredicate.sgt r 0#32)) 16#32 = BitVec.ofNat 32 b := by
    show ∃ b : ℕ, b < 17 ∧ IntOp.muli (BitVec.setWidth 32 (BitVec.ofBool (BitVec.slt 0#32 r))) 16#32 = BitVec.ofNat 32 b
    generalize BitVec.slt 0#32 r = b
    cases b
    · exact ⟨0, by omega, by decide⟩
    · exact ⟨16, by omega, by decide⟩
  obtain ⟨b, hb, eb⟩ := hb
  have hi : n.toInt = n.toNat := BitVec.toInt_eq_toNat_of_lt (by omega)
  have hs : ∃ z : ℕ, z < 16 ∧ Scalar.select (IntOp.cmpi CmpIPredicate.slt n 8#32) n (IntOp.minsi (IntOp.addi 8#32 (far n)) 15#32) = BitVec.ofNat 32 z := by
    by_cases h8 : n.toNat < 8
    · refine ⟨n.toNat, by omega, ?_⟩
      have : IntOp.cmpi CmpIPredicate.slt n 8#32 = 1#1 := by
        have : n.slt 8#32 = true := by rw [BitVec.slt_iff_toInt_lt, hi]; simp; omega
        show BitVec.ofBool (n.slt 8#32) = _
        rw [this]; rfl
      rw [this]
      simp [Scalar.select]
    · have : IntOp.cmpi CmpIPredicate.slt n 8#32 = 0#1 := by
        have : n.slt 8#32 = false := by
          rw [← Bool.not_eq_true, BitVec.slt_iff_toInt_lt, hi]; simp; omega
        show BitVec.ofBool (n.slt 8#32) = _
        rw [this]; rfl
      rw [this]
      obtain ⟨z, hz, ez⟩ := far_nat n (by omega) hn
      have e : Scalar.select (0#1) n (IntOp.minsi (IntOp.addi 8#32 (far n)) 15#32) = IntOp.minsi (BitVec.ofNat 32 (8 + z)) 15#32 := by
        rw [ez]
        show IntOp.minsi (8#32 + BitVec.ofNat 32 z) 15#32 = _
        rw [← BitVec.ofNat_add]
      rw [e]
      unfold IntOp.minsi
      split
      · rename_i h
        rw [BitVec.slt_iff_toInt_lt, BitVec.toInt_eq_toNat_of_lt (by rw [BitVec.toNat_ofNat]; omega), BitVec.toNat_ofNat] at h
        refine ⟨8 + z, ?_, rfl⟩
        simp at h
        omega
      · exact ⟨15, by omega, rfl⟩
  obtain ⟨z, hz, ez⟩ := hs
  refine ⟨b + z, by omega, ?_⟩
  rw [eb, ez]
  show BitVec.ofNat 32 b + BitVec.ofNat 32 z = _
  rw [← BitVec.ofNat_add]

/-- The reference's relative positions. -/
theorem r_rel (q : Fin 128) (s : Fin 384) : val_main_v9 (F := Ideal) (ix2 q s) = rel q.val s.val := by
  unfold rel
  pointwise [val_main_v9, val_main_v8, val_main_v7, val_main_v6, val_main_v5, val_main_v4, val_main_v3, val_main_v2, val_main_v1, val_main_c]

/-- The reference's buckets. -/
theorem r_bucket (q : Fin 128) (s : Fin 384) : val_main_v34 (F := Ideal) (ix2 q s) = bucket (rel q.val s.val) := by
  unfold bucket far
  rw [← r_rel]
  pointwise [val_main_v34, val_main_v33, val_main_v32, val_main_v30, val_main_v28, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v31, val_main_v29, val_main_v27, val_main_c_0, val_main_c_1, val_main_c_2, val_main_c_6, val_main_c_7, val_main_c_8, val_main_cst_3, val_main_cst_4, val_main_cst_5]
  rfl

/-- The row each update of the reference goes to: no bucket is negative. -/
theorem r_row (q : Fin 128) (s : Fin 384) : val_main_v40 (F := Ideal) (ix3 q s 0) = bucket (rel q.val s.val) := by
  obtain ⟨z, hz, e⟩ := bucket_nat q s
  have h : val_main_v40 (F := Ideal) (ix3 q s 0)
      = Scalar.select (IntOp.cmpi CmpIPredicate.slt (val_main_v34 (F := Ideal) (ix2 q s)) 0#32) (IntOp.addi (val_main_v34 (F := Ideal) (ix2 q s)) 32#32)
          (val_main_v34 (F := Ideal) (ix2 q s)) := by
    pointwise [val_main_v40, val_main_v39, val_main_v38, val_main_v37, val_main_v36, val_main_v35, val_main_c_9, val_main_c_10]
  rw [h, r_bucket]
  have : IntOp.cmpi CmpIPredicate.slt (bucket (rel q.val s.val)) 0#32 = 0#1 := by
    have : (bucket (rel q.val s.val)).slt 0#32 = false := by
      rw [← Bool.not_eq_true, BitVec.slt_iff_toInt_lt, e, BitVec.toInt_eq_toNat_of_lt (by rw [BitVec.toNat_ofNat]; omega)]
      simp
      omega
    show BitVec.ofBool _ = _
    rw [this]; rfl
  rw [this]
  simp [Scalar.select]

/-- Where an update of the table's gradient lands. -/
theorem lands (idx : IVec S128x384x1 32) (q : Fin 128) (s : Fin 384) (g h : Fin 16) (k : Fin 32) :
    scatter_S32x16_S128x384x1_S128x384x16_2_0_0_2.resultIdx? (ix3 q s g) idx = some (ix2 k h)
      ↔ (idx (ix3 q s 0)).toInt = (k.val : ℤ) ∧ g = h := by
  have hs0 : scatter_S32x16_S128x384x1_S128x384x16_2_0_0_2.start (ix3 q s g) idx 0 = (idx (ix3 q s 0)).toInt := by
    unfold ScatterDims.start
    rw [dif_pos (by decide)]
    refine congrArg (fun i => (idx i).toInt) ?_
    funext b
    match b with
    | ⟨0, _⟩ => rfl
    | ⟨1, _⟩ => rfl
    | ⟨2, _⟩ => rfl
  have hs1 : scatter_S32x16_S128x384x1_S128x384x16_2_0_0_2.start (ix3 q s g) idx 1 = 0 := by
    unfold ScatterDims.start
    rw [dif_neg (by decide)]
  have hw0 : scatter_S32x16_S128x384x1_S128x384x16_2_0_0_2.window (ix3 q s g) 0 = 0 := by
    unfold ScatterDims.window
    rw [dif_neg (by decide)]
  have hw1 : scatter_S32x16_S128x384x1_S128x384x16_2_0_0_2.window (ix3 q s g) 1 = g.val := by
    unfold ScatterDims.window
    rw [dif_pos (by decide)]
    rfl
  refine (Routing.resultIdx?_ix2 _ _ _ k h).trans ?_
  rw [hs0, hs1, hw0, hw1, Fin.ext_iff]
  omega

/-- The sum of the entries of a head that share a bucket, over the flattened pairs of key and query. -/
def gO (x0 : Vec Ideal S16x128x384 .f32) (h : Fin 16) (k : Fin 32) : EReal :=
  ∑ p : Fin 49152, if bucket (rel (p.val % 128) (p.val / 128)) = BitVec.ofNat 32 k.val
    then x0 (ix3 h ⟨p.val % 128, by omega⟩ ⟨p.val / 128, by omega⟩) else 0

/-- The word of a bucket read signed is its number. -/
theorem bucket_eq (q : Fin 128) (s : Fin 384) (k : Fin 32) :
    (bucket (rel q.val s.val)).toInt = (k.val : ℤ) ↔ bucket (rel q.val s.val) = BitVec.ofNat 32 k.val := by
  obtain ⟨z, hz, e⟩ := bucket_nat q s
  have hk := k.isLt
  have hk' : (BitVec.ofNat 32 k.val).toInt = (k.val : ℤ) := by
    rw [BitVec.toInt_eq_toNat_of_lt (by rw [BitVec.toNat_ofNat]; omega), BitVec.toNat_ofNat]; omega
  rw [← hk']
  exact ⟨fun h => BitVec.eq_of_toInt_eq h, fun h => by rw [h]⟩

/-- The reference's gradient of the table. -/
theorem r_out (x0 : Vec Ideal S16x128x384 .f32) (h : Fin 16) (k : Fin 32) : val_main_v46 (F := Ideal) x0 (ix2 h k) = gO x0 h k := by
  have e : val_main_v46 (F := Ideal) x0 (ix2 h k)
      = Ideal.hostScatterAdd scatter_S32x16_S128x384x1_S128x384x16_2_0_0_2 (val_main_v44 (F := Ideal)) (val_main_v40 (F := Ideal)) (val_main_v43 (F := Ideal) x0) (ix2 k h) := by
    pointwise [val_main_v46, val_main_v45]
    rfl
  have ez : val_main_v44 (F := Ideal) (ix2 k h) = 0 := by pointwise [val_main_v44, val_main_cst_11]
  have eu : ∀ (q : Fin 128) (s : Fin 384) (g : Fin 16), val_main_v43 (F := Ideal) x0 (ix3 q s g) = x0 (ix3 g q s) := fun q s g => by
    pointwise [val_main_v43]
  rw [e]
  unfold Ideal.hostScatterAdd gO
  rw [ez, zero_add, ← Finset.sum_filter]
  have key : ∀ j : S128x384x16.Idx, scatter_S32x16_S128x384x1_S128x384x16_2_0_0_2.resultIdx? j (val_main_v40 (F := Ideal)) = some (ix2 k h)
      ↔ bucket (rel (j 0).val (j 1).val) = BitVec.ofNat 32 k.val ∧ j 2 = h := fun j => by
    have hj : j = ix3 (j 0) (j 1) (j 2) := by idx_ext
    refine (Iff.of_eq (congrArg (fun i => scatter_S32x16_S128x384x1_S128x384x16_2_0_0_2.resultIdx? i (val_main_v40 (F := Ideal)) = some (ix2 k h)) hj)).trans ?_
    refine (lands _ (j 0) (j 1) (j 2) h k).trans ?_
    exact and_congr ((Iff.of_eq (congrArg (fun w : BitVec 32 => w.toInt = (k.val : ℤ)) (r_row (j 0) (j 1)))).trans (bucket_eq (j 0) (j 1) k)) Iff.rfl
  refine Finset.sum_nbij' (fun j : S128x384x16.Idx => (⟨(j 1).val * 128 + (j 0).val, by
      have h0 : (j 0).val < 128 := (j 0).isLt
      have h1 : (j 1).val < 384 := (j 1).isLt
      omega⟩ : Fin 49152)) (fun p : Fin 49152 => ix3 (⟨p.val % 128, by omega⟩ : Fin 128) (⟨p.val / 128, by omega⟩ : Fin 384) h) ?_ ?_ ?_ ?_ ?_
  · intro j hj
    have h0 : (j 0).val < 128 := (j 0).isLt
    have hm := ((key j).1 (Finset.mem_filter.1 hj).2).1
    refine Finset.mem_filter.2 ⟨Finset.mem_univ _, ?_⟩
    have e0 : ((j 1).val * 128 + (j 0).val) % 128 = (j 0).val := by omega
    have e1 : ((j 1).val * 128 + (j 0).val) / 128 = (j 1).val := by omega
    show bucket (rel (((j 1).val * 128 + (j 0).val) % 128) (((j 1).val * 128 + (j 0).val) / 128)) = _
    rw [e0, e1]
    exact hm
  · intro p hp
    exact Finset.mem_filter.2 ⟨Finset.mem_univ _, (key _).2 ⟨(Finset.mem_filter.1 hp).2, rfl⟩⟩
  · intro j hj
    have h0 : (j 0).val < 128 := (j 0).isLt
    have h2 : j 2 = h := ((key j).1 (Finset.mem_filter.1 hj).2).2
    funext a
    match a with
    | ⟨0, _⟩ => exact Fin.ext (show ((j 1).val * 128 + (j 0).val) % 128 = (j 0).val by omega)
    | ⟨1, _⟩ => exact Fin.ext (show ((j 1).val * 128 + (j 0).val) / 128 = (j 1).val by omega)
    | ⟨2, _⟩ => exact h2.symm
  · intro p hp
    exact Fin.ext (show p.val / 128 * 128 + p.val % 128 = p.val by omega)
  · intro j hj
    have h0 : (j 0).val < 128 := (j 0).isLt
    have h2 : j 2 = h := ((key j).1 (Finset.mem_filter.1 hj).2).2
    have hj' : j = ix3 (j 0) (j 1) (j 2) := by idx_ext
    refine (congrArg (val_main_v43 (F := Ideal) x0) hj').trans ((eu _ _ _).trans (congrArg x0 ?_))
    funext a
    match a with
    | ⟨0, _⟩ => exact h2
    | ⟨1, _⟩ => exact Fin.ext (show (j 0).val = ((j 1).val * 128 + (j 0).val) % 128 by omega)
    | ⟨2, _⟩ => exact Fin.ext (show (j 1).val = ((j 1).val * 128 + (j 0).val) / 128 by omega)

end Cert.Proof.Bias
end
-- ==== Proof.Bias.lean ====
module

public import proofs.«01_k».proof.Defs
public import proofs.«01_k».proof.Proof.Gen.BiasIdeal.Value
public import Idealize.ShloMosaic.Lib.Pipeline.ValueKit
public import Idealize.ShloMosaic.Lib.Pipeline.ReadBack
public import proofs.«01_k».proof.Proof.BiasRef
public import proofs.«01_k».proof.Proof.Rms

@[expose] public section

set_option maxRecDepth 16384

noncomputable section

namespace Cert.Proof.Bias

open Idealize.ShloMosaic Idealize.ShloMosaic.TcCoe Idealize.SL.Sem
open Cert.BiasIdeal Cert.BiasIdeal.Gen

/-- A term counts where the words agree. -/
theorem hot (a : EReal) (x y : BitVec 32) :
    a * ((((BitVec.setWidth 32 (IntOp.cmpi CmpIPredicate.eq x y)).toInt : ℝ) : EReal)) = if x = y then a else 0 := by
  by_cases h : x = y
  · have : IntOp.cmpi CmpIPredicate.eq x y = 1#1 := by
      show BitVec.ofBool (x == y) = _
      rw [beq_iff_eq.2 h]; rfl
    rw [if_pos h, this]
    simp
  · have : IntOp.cmpi CmpIPredicate.eq x y = 0#1 := by
      show BitVec.ofBool (x == y) = _
      rw [beq_eq_false_iff_ne.2 h]; rfl
    rw [if_neg h, this]
    simp

/-- A block's entries join their buckets. -/
theorem add_at (v3 : Vec Ideal S16x32 .f32) (v5 : Vec Ideal S16x8192 .f32) (v7 : Vec Ideal S1x8192 .i32) (h : Fin 16) (k : Fin 32) :
    k0_pay2 (F := Ideal) v3 v5 v7 (ix2 h k)
      = v3 (ix2 h k) + ∑ x : Fin 8192, if v7 (ix2 0 x) = BitVec.ofNat 32 k.val then v5 (ix2 h x) else 0 := by
  simp only [← hot]
  pointwise [k0_pay2]
  rfl

/-- The relative positions, key first. -/
def hR : IVec S384x128 32 :=
  transpose S384x128 [1, 0] (subi (broadcastInDim S128x384 ![0, 1] bcast_S1x384_S128x384_0_1
      (subi (broadcastInDim S1x384 ![1] bcast_S384_S1x384_1 (iotaInDim S384 32 0)) (broadcastInDim S1x384 ![] bcast_S_S1x384 (constantI S_ 32 128#32))))
    (broadcastInDim S128x384 ![0, 1] bcast_S128x1_S128x384_0_1 (broadcastInDim S128x1 ![0] bcast_S128_S128x1_0 (iotaInDim S128 32 0)))) transposes_S128x384_S384x128_1_0

/-- The buckets, key first. -/
def hB : IVec S384x128 32 :=
  addi (muli (extui 32 (cmpi .sgt hR (broadcastInDim S384x128 ![] bcast_S_S384x128 (constantI S_ 32 0#32))) natLt_1_32)
      (broadcastInDim S384x128 ![] bcast_S_S384x128 (constantI S_ 32 16#32)))
    (select (cmpi .slt (absi hR) (broadcastInDim S384x128 ![] bcast_S_S384x128 (constantI S_ 32 8#32))) (absi hR)
      (minsi (addi (broadcastInDim S384x128 ![] bcast_S_S384x128 (constantI S_ 32 8#32))
          (fptosi (F := Ideal) (φ := FTy.f32) 32 (mulf (Host.divf (Host.log (Host.divf
            (sitofp (F := Ideal) .f32 (maxsi (absi hR) (broadcastInDim S384x128 ![] bcast_S_S384x128 (constantI S_ 32 1#32))))
            (broadcastInDim S384x128 ![] bcast_S_S384x128 (constant (F := Ideal) S_ .f32 0x41000000#32))))
            (broadcastInDim S384x128 ![] bcast_S_S384x128 (constant (F := Ideal) S_ .f32 0x40317218#32)))
            (broadcastInDim S384x128 ![] bcast_S_S384x128 (constant (F := Ideal) S_ .f32 0x41000000#32)))))
        (broadcastInDim S384x128 ![] bcast_S_S384x128 (constantI S_ 32 15#32))))

/-- One relative position. -/
theorem hR_at (s : Fin 384) (q : Fin 128) : hR (ix2 s q) = rel q.val s.val := by
  unfold rel
  pointwise [hR]

/-- One bucket. -/
theorem hB_at (s : Fin 384) (q : Fin 128) : hB (ix2 s q) = bucket (rel q.val s.val) := by
  unfold bucket far
  rw [← hR_at]
  pointwise [hB]
  rfl

section run
variable (m : (ℓ : Loc nD τ sig) → Buf (Elt Ideal) ℓ)

/-- The gradient of the bias. -/
abbrev aD (c : Dev nD) : Vec Ideal S16x128x384 .f32 := m ((c : Thread nD τ).loc main_arg0)

/-- What the region finds as the buckets. -/
theorem b_found (c : Dev nD) : V m c main_v35 = shapeCast S1x49152 hB shapeCasts_S384x128_S1x49152 := by
  dsimp only [V, hostOps0, hostOps0_1, hostOps0_2]
  simp only [List.flatten_cons, List.flatten_nil, List.cons_append, List.nil_append, List.append_nil]
  after_results_simp
  rfl

/-- What the region finds as the flattened gradient. -/
theorem d_found (c : Dev nD) : V m c main_v37
    = shapeCast S16x49152 (transpose S16x384x128 [0, 2, 1] (aD m c) transposes_S16x128x384_S16x384x128_0_2_1) shapeCasts_S16x384x128_S16x49152 := by
  dsimp only [V, hostOps0, hostOps0_1, hostOps0_2]
  simp only [List.flatten_cons, List.flatten_nil, List.cons_append, List.nil_append, List.append_nil]
  after_results_simp
  rfl

/-- A flattened bucket. -/
theorem hB_flat (p : Fin 49152) : shapeCast S1x49152 hB shapeCasts_S384x128_S1x49152 (ix2 0 p) = bucket (rel (p.val % 128) (p.val / 128)) := by
  pointwise
  exact hB_at ⟨p.val / 128, by omega⟩ ⟨p.val % 128, by omega⟩

/-- A flattened entry. -/
theorem hD_flat (a : Vec Ideal S16x128x384 .f32) (h : Fin 16) (p : Fin 49152) :
    shapeCast S16x49152 (transpose S16x384x128 [0, 2, 1] a transposes_S16x128x384_S16x384x128_0_2_1) shapeCasts_S16x384x128_S16x49152 (ix2 h p)
      = a (ix3 h ⟨p.val % 128, by omega⟩ ⟨p.val / 128, by omega⟩) := by
  pointwise

/-- The block index of the gradient's window. -/
theorem idx0 : ∀ t : Fin cfg0.N, win0_0.index t = ![0, t.val] := (by decide +kernel : ∀ t : Fin grid0.N, _)

/-- The block index of the buckets' window. -/
theorem idx1 : ∀ t : Fin cfg0.N, win0_1.index t = ![0, t.val] := (by decide +kernel : ∀ t : Fin grid0.N, _)

/-- The block of the flattened gradient. -/
theorem d_blk (c : Dev nD) (t : Fin cfg0.N) (h : Fin 16) (r : Fin 8192) (p : Fin 49152) (hp : p.val = t.val * 8192 + r.val) :
    iblk m c 0 t (ix2 h r) = aD m c (ix3 h ⟨p.val % 128, by omega⟩ ⟨p.val / 128, by omega⟩) := by
  refine Eq.trans ?_ ((congrFun (d_found m c) (ix2 h p)).trans (hD_flat (aD m c) h p))
  blk_simp [iblk]
  refine congrArg _ ?_
  blk_ext [idx0 t, hp]

/-- The block of the flattened buckets. -/
theorem b_blk (c : Dev nD) (t : Fin cfg0.N) (r : Fin 8192) (p : Fin 49152) (hp : p.val = t.val * 8192 + r.val) :
    iblk m c 1 t (ix2 0 r) = bucket (rel (p.val % 128) (p.val / 128)) := by
  refine Eq.trans ?_ ((congrFun (b_found m c) (ix2 0 p)).trans (hB_flat p))
  blk_simp [iblk]
  refine congrArg _ ?_
  blk_ext [idx1 t, hp]

/-- One pair of key and query in the sum. -/
def one (x0 : Vec Ideal S16x128x384 .f32) (h : Fin 16) (k : Fin 32) (p : Fin 49152) : EReal :=
  if bucket (rel (p.val % 128) (p.val / 128)) = BitVec.ofNat 32 k.val then x0 (ix3 h ⟨p.val % 128, by omega⟩ ⟨p.val / 128, by omega⟩) else 0

/-- What a grid point adds. -/
def stepG (c : Dev nD) (t : Fin cfg0.N) (y : S16x32.Idx) : EReal :=
  ∑ r : Fin 8192, one (aD m c) (y 0) (y 1) ⟨t.val * 8192 + r.val, by have : t.val < 6 := t.isLt; omega⟩

/-- A grid point adds its pairs to what was there. -/
theorem step (c : Dev nD) (t : Fin cfg0.N) (b : Vec Ideal S16x32 .f32) (y : S16x32.Idx) :
    k0_pay2 (F := Ideal) b (iblk m c 0 t) (iblk m c 1 t) y = (b y : EReal) + stepG m c t y := by
  obtain ⟨h, k, rfl⟩ : ∃ (h : Fin 16) (k : Fin 32), y = ix2 h k := ⟨y 0, y 1, by idx_ext⟩
  have ht : t.val < 6 := t.isLt
  refine (add_at b _ _ h k).trans (congrArg (fun x : EReal => b (ix2 h k) + x) (Finset.sum_congr rfl fun r _ => ?_))
  have hp : (⟨t.val * 8192 + r.val, by omega⟩ : Fin 49152).val = t.val * 8192 + r.val := rfl
  have e := b_blk m c t r _ hp
  have d := d_blk m c t h r _ hp
  exact (congrArg₂ (fun (w : BitVec 32) (a : EReal) => if w = BitVec.ofNat 32 k.val then a else 0) e d)

/-- The sums after the last grid point. -/
theorem total (c : Dev nD) (t : Fin cfg0.N) (hr : t.val % 6 = 5) (y : S16x32.Idx) :
    outsAt0 m c t.val t.isLt y
      = (k0_pay1 (F := Ideal) y : EReal) + ∑ s : Fin 6, stepG m c ⟨6 * (t.val / 6) + s.val, Pipeline.run_point_lt_of_flush t hr s⟩ y :=
  Pipeline.eq_sum_fin_of_reset_step_apply_of_flush (fun n h => outsAt0 m c n h) 6 (k0_pay1 (F := Ideal)) (stepG m c)
    (fun t h y => by
      rw [outsAt0_A m c t h]
      frame_out
      exact step m c t _ y)
    (fun t h y => by
      rw [outsAt0_B m c t h]
      frame_out
      exact step m c t _ y) t hr y

/-- The grid points' additions are the sum over all pairs. -/
theorem all_blocks (c : Dev nD) (t : Fin cfg0.N) (hr : t.val % 6 = 5) (y : S16x32.Idx) :
    ∑ s : Fin 6, stepG m c ⟨6 * (t.val / 6) + s.val, Pipeline.run_point_lt_of_flush t hr s⟩ y = gO (aD m c) (y 0) (y 1) := by
  have ht : t.val < 6 := t.isLt
  unfold stepG gO
  refine Eq.trans ?_ (Rms.sum_blocks 6 8192 (fun p : Fin 49152 => one (aD m c) (y 0) (y 1) p))
  refine Finset.sum_congr rfl fun s _ => Finset.sum_congr rfl fun r _ => congrArg (one (aD m c) (y 0) (y 1)) (Fin.ext ?_)
  show (6 * (t.val / 6) + s.val) * 8192 + r.val = s.val * 8192 + r.val
  omega

/-- The table's gradient as an array. -/
def arrO (c : Dev nD) (y : S16x32.Idx) : EReal := gO (aD m c) (y 0) (y 1)

/-- The output after the run. -/
theorem arr2 (c : Dev nD) : (dats m 0 c).arrAt 2 cfg0.N = arrO m c := by
  refine (dats m 0 c).arrAt_eq_of_covers 2 _ (by decide +kernel) fun t hf y => ?_
  have hr : t.val % 6 = 5 := (flush0_2 t).1 hf
  blk_simp
  rw [after0_2, total m c t hr]
  have hz : (k0_pay1 (F := Ideal) y : EReal) = 0 := by
    have : ∀ (a : Fin 16) (b : Fin 32), k0_pay1 (F := Ideal) (ix2 a b) = 0 := fun a b => by pointwise [k0_pay1]
    have hy : (y : S16x32.Idx) = ix2 (y 0) (y 1) := by idx_ext
    exact (congrArg (k0_pay1 (F := Ideal)) hy).trans (this _ _)
  rw [hz, zero_add]
  refine (all_blocks m c t hr y).trans ?_
  refine congrArg (arrO m c) (?_ : (y : S16x32.Idx) = _)
  have i0 : win0_2.index t = ![0, 0] := (by decide +kernel : ∀ t : Fin grid0.N, win0_2.index t = ![0, 0]) t
  blk_ext [i0]

end run

/-- The table's gradient is the reference's. -/
theorem equal : Cert.algebraic_BiasIdeal_BiasRefIdeal := by
  intro m ρ m' ρ' _ hag
  refine ⟨fun c => arrO m c, ?_, ?_⟩
  · refine (θ_run _ _ _).mono (fun r h c => ?_) (Cert.BiasIdeal.Value.run_blocks m ρ)
    obtain ⟨h0, ha⟩ := h c
    exact ⟨h0.trans (arr2 m c), ha⟩
  · refine (θ_run _ _ _).mono (fun r h c => ?_) (Cert.BiasRefIdeal.Value.run m' ρ')
    obtain ⟨h0, ha⟩ := h c
    refine ⟨(h0.trans (Cert.BiasRefIdeal.Read.val_main_v46_eq _ _)).trans ((congrArg (Cert.BiasRefIdeal.Read.val_main_v46 (F := Ideal)) (hag c)).trans ?_), ha⟩
    funext y
    obtain ⟨h, k, rfl⟩ : ∃ (h : Fin 16) (k : Fin 32), y = ix2 h k := ⟨y 0, y 1, by idx_ext⟩
    exact r_out _ h k

end Cert.Proof.Bias
end
-- ==== Proof.MlaFwdPay.lean ====
module

public import proofs.«01_k».proof.Defs
public import proofs.«01_k».proof.Proof.Gen.MlaFwdIdeal.Frame
public import Idealize.ShloMosaic.Lib.Pipeline.ValueKit
public import proofs.«01_k».proof.Proof.Reals

@[expose] public section

set_option maxRecDepth 16384

noncomputable section

namespace Cert.Proof.MlaFwd

open Idealize.ShloMosaic Idealize.ShloMosaic.TcCoe Idealize.SL.Sem
open Cert.MlaFwdIdeal Cert.MlaFwdIdeal.Gen
open Cert.Proof.Reals

/-! ## One chunk of the running softmax, over the reals -/

section chunk
variable {n : ℕ} (s v : Fin n → ℝ) (m m' X : ℝ)

/-- Powers of two of a score less a running maximum. -/
theorem pow_shift (a : ℝ) : Ideal.exp2 ((a : EReal) - (m : EReal)) = ((Real.exp (-m * Real.log 2) * Real.exp (a * Real.log 2) : ℝ) : EReal) := by
  rw [← EReal.coe_sub, exp2_real, ← Real.exp_add]
  congr 2
  ring

/-- A running sum, rescaled to a new maximum, takes a chunk in. -/
theorem chunk_sum (p : Fin n → EReal) (hp : ∀ j, p j = Ideal.exp2 ((s j : EReal) - (m' : EReal))) (o : EReal) (ho : o = ((Real.exp (-m * Real.log 2) * X : ℝ) : EReal)) :
    Ideal.exp2 ((m : EReal) - (m' : EReal)) * o + ∑ j, p j
      = ((Real.exp (-m' * Real.log 2) * (X + ∑ j, Real.exp (s j * Real.log 2)) : ℝ) : EReal) := by
  simp only [hp, pow_shift, ho, ← EReal.coe_mul]
  rw [sum_coe, ← EReal.coe_add]
  congr 1
  rw [← Finset.mul_sum, mul_add]
  congr 1
  rw [mul_assoc, ← mul_assoc (Real.exp (m * Real.log 2)), ← Real.exp_add, neg_mul m, add_neg_cancel, Real.exp_zero, one_mul]

/-- A running weighted sum, rescaled to a new maximum, takes a chunk in. -/
theorem chunk_dot (p w : Fin n → EReal) (hp : ∀ j, p j = Ideal.exp2 ((s j : EReal) - (m' : EReal))) (hw : ∀ j, w j = ((v j : ℝ) : EReal))
    (o : EReal) (ho : o = ((Real.exp (-m * Real.log 2) * X : ℝ) : EReal)) :
    Ideal.exp2 ((m : EReal) - (m' : EReal)) * o + ∑ j, p j * w j
      = ((Real.exp (-m' * Real.log 2) * (X + ∑ j, Real.exp (s j * Real.log 2) * v j) : ℝ) : EReal) := by
  simp only [hp, hw, pow_shift, ho, ← EReal.coe_mul]
  rw [sum_coe, ← EReal.coe_add]
  congr 1
  simp only [mul_assoc]
  rw [← Finset.mul_sum, mul_add]
  congr 1
  rw [← mul_assoc (Real.exp (m * Real.log 2)), ← Real.exp_add, neg_mul m, add_neg_cancel, Real.exp_zero, one_mul]

/-- The larger of a real and a chunk's largest score is real. -/
theorem chunk_max [NeZero n] (f : Fin n → EReal) (hf : ∀ j, f j = ((s j : ℝ) : EReal)) :
    ∃ M : ℝ, max (m : EReal) ((Finset.univ : Finset (Fin n)).fold max (⊥ : EReal) f) = (M : EReal) := by
  obtain ⟨N, hN⟩ := max_coe (Finset.univ : Finset (Fin n)) ⟨0, Finset.mem_univ _⟩ s
  have : f = fun j => ((s j : ℝ) : EReal) := funext hf
  rw [this, hN]
  rcases le_total m N with h | h
  · exact ⟨N, max_eq_right (EReal.coe_le_coe_iff.2 h)⟩
  · exact ⟨m, max_eq_left (EReal.coe_le_coe_iff.2 h)⟩
end chunk

/-! ## The body's steps as operations on arrays -/

section ops
variable (s p : FVec Ideal S2048x1024 .f32) (M a l : FVec Ideal S2048x1 .f32) (o : FVec Ideal S2048x128 .f32) (w : Vec Ideal S1024x128 .bf16)

/-- A running maximum takes a chunk's scores in. -/
def opMax : FVec Ideal S2048x1 .f32 :=
  maximumf M (shapeCast S2048x1 (multiReduction .maximumf [1] S2048 s 0xFF800000#32 reduces_S2048x1024_S2048 (.inl rfl) rfl) shapeCasts_S2048_S2048x1)

/-- A chunk's weights. -/
def opExp : FVec Ideal S2048x1024 .f32 := exp2 (subf s (broadcastTo S2048x1024 M broadcasts_S2048x1_S2048x1024))

/-- A running sum takes a chunk's weights in. -/
def opSum : FVec Ideal S2048x1 .f32 :=
  addf (mulf a l) (shapeCast S2048x1 (multiReduction .add [1] S2048 p 0x00000000#32 reduces_S2048x1024_S2048 (.inl rfl) rfl) shapeCasts_S2048_S2048x1)

/-- A running weighted sum takes a chunk's values in. -/
def opDot : FVec Ideal S2048x128 .f32 :=
  addf (mulf (broadcastTo S2048x128 a broadcasts_S2048x1_S2048x128) o)
    (matmul dot_S2048x1024_S1024x128_S2048x128_1_0_0_1_n_n none (truncf .bf16 p bitsLt_bf16_f32 : FVec Ideal S2048x1024 .bf16)
      (shapeCast S1024x128 w shapeCasts_S1024x128_S1024x128 : FVec Ideal S1024x128 .bf16) (constant S2048x128 .f32 0x00000000#32))

/-- The word of minus infinity. -/
theorem neg_inf : (Ideal.ofBits FTy.f32 4286578688#32 : EReal) = ⊥ := by simp [Ideal.ofBits, Ideal.ieee]

variable (r : Fin 2048) (j : Fin 1024) (e : Fin 128)

/-- A row's largest entry. -/
theorem rowMax_at : multiReduction (F := Ideal) (φ := .f32) .maximumf [1] S2048 s 0xFF800000#32 reduces_S2048x1024_S2048 (.inl rfl) rfl (ix1 r)
    = (Finset.univ : Finset (Fin 1024)).fold max ⊥ fun j => s (ix2 r j) := by
  rw [← neg_inf]
  simp only [pointwise]

/-- A vector as a column. -/
theorem col_at (x : FVec Ideal S2048 .f32) : shapeCast S2048x1 x shapeCasts_S2048_S2048x1 (ix2 r 0) = x (ix1 r) := by pointwise

/-- The new maximum of a row. -/
theorem opMax_at : opMax s M (ix2 r 0) = max (M (ix2 r 0)) ((Finset.univ : Finset (Fin 1024)).fold max ⊥ fun j => s (ix2 r j)) :=
  congrArg (max (M (ix2 r 0))) ((col_at r _).trans (rowMax_at s r))

/-- A weight of a row. -/
theorem opExp_at : opExp s M (ix2 r j) = Ideal.exp2 (s (ix2 r j) - M (ix2 r 0)) := by
  refine Eq.trans (b := FloatOps.exp2 (F := Ideal) (φ := .f32) (s (ix2 r j) - M (ix2 r 0))) (by pointwise [opExp]) rfl

/-- The new sum of a row. -/
theorem opSum_at : opSum p a l (ix2 r 0) = a (ix2 r 0) * l (ix2 r 0) + ∑ j : Fin 1024, p (ix2 r j) := by
  pointwise [opSum]

/-- The new weighted sum of a row. -/
theorem opDot_at : opDot p a o w (ix2 r e) = a (ix2 r 0) * o (ix2 r e) + ∑ j : Fin 1024, p (ix2 r j) * w (ix2 j e) := by
  pointwise [opDot]
end ops

/-! ## The body's values are these steps -/

section pays
variable (v0 : Vec Ideal S1x2048x256 .bf16) (v1 : FVec Ideal S2048x256 .bf16) (ka kb kc kd : Vec Ideal S1x1024x256 .bf16) (va vb vc vd : Vec Ideal S1024x128 .bf16)
variable (l m1 m3 a1 a3 : FVec Ideal S2048x1 .f32) (o : FVec Ideal S2048x128 .f32) (p1 s b : FVec Ideal S2048x1024 .f32)

/-- The factor for what was there. -/
def opFac (x y : FVec Ideal S2048x1 .f32) : FVec Ideal S2048x1 .f32 := exp2 (subf x y)

/-- The factor of a row. -/
theorem opFac_at (x y : FVec Ideal S2048x1 .f32) (r : Fin 2048) : opFac x y (ix2 r 0) = Ideal.exp2 (x (ix2 r 0) - y (ix2 r 0)) := rfl

/-- The starting sum. -/
def zero1 : FVec Ideal S2048x1 .f32 := broadcast S2048x1 (Scalar.ofBits .f32 0x00000000#32)

/-- The starting weighted sum. -/
def zero2 : FVec Ideal S2048x128 .f32 := broadcast S2048x128 (Scalar.ofBits .f32 0x00000000#32)

/-- The maximum after the first chunk. -/
theorem pay8_eq : k0_pay8 (F := Ideal) v0 ka = opMax (k0_pay7 v0 ka) k0_pay6 := rfl
/-- The maximum after the second chunk. -/
theorem pay14_eq : k0_pay14 (F := Ideal) v0 ka kb = opMax (k0_pay13 v0 kb) (k0_pay8 v0 ka) := rfl
/-- The maximum after the third chunk. -/
theorem pay18_eq : k0_pay18 (F := Ideal) v1 m1 kc = opMax (k0_pay17 v1 kc) m1 := rfl
/-- The maximum after the fourth chunk. -/
theorem pay24_eq : k0_pay24 (F := Ideal) v1 m1 kc kd = opMax (k0_pay23 v1 kd) (k0_pay18 v1 m1 kc) := rfl
/-- The first chunk's weights. -/
theorem pay10_eq : k0_pay10 (F := Ideal) v0 ka = opExp (k0_pay7 v0 ka) (k0_pay8 v0 ka) := rfl
/-- The second chunk's weights. -/
theorem pay16_eq : k0_pay16 (F := Ideal) v0 ka kb = opExp (k0_pay13 v0 kb) (k0_pay14 v0 ka kb) := rfl
/-- The third chunk's weights. -/
theorem pay20_eq : k0_pay20 (F := Ideal) v1 m1 kc = opExp (k0_pay17 v1 kc) (k0_pay18 v1 m1 kc) := rfl
/-- The fourth chunk's weights. -/
theorem pay1_eq : k0_pay1 (F := Ideal) s (k0_pay26 (F := Ideal) v1 m1 kc kd) = opExp s (k0_pay24 v1 m1 kc kd) := rfl
/-- The first chunk's factor. -/
theorem pay9_eq : k0_pay9 (F := Ideal) v0 ka = opFac k0_pay6 (k0_pay8 v0 ka) := rfl
/-- The second chunk's factor. -/
theorem pay15_eq : k0_pay15 (F := Ideal) v0 ka kb = opFac (k0_pay8 v0 ka) (k0_pay14 v0 ka kb) := rfl
/-- The third chunk's factor. -/
theorem pay19_eq : k0_pay19 (F := Ideal) v1 m1 kc = opFac m1 (k0_pay18 v1 m1 kc) := rfl
/-- The fourth chunk's factor. -/
theorem pay25_eq : k0_pay25 (F := Ideal) v1 m1 kc kd = opFac (k0_pay18 v1 m1 kc) (k0_pay24 v1 m1 kc kd) := rfl
/-- The sum after the first chunk. -/
theorem pay11_eq : k0_pay11 (F := Ideal) v0 ka = opSum (k0_pay10 v0 ka) (k0_pay9 v0 ka) zero1 := rfl
/-- The weighted sum after the first chunk. -/
theorem pay12_eq : k0_pay12 (F := Ideal) v0 ka va = opDot (k0_pay10 v0 ka) (k0_pay9 v0 ka) zero2 va := rfl
/-- The sum after the third chunk. -/
theorem pay21_eq : k0_pay21 (F := Ideal) v1 l m1 a1 p1 kc = opSum (k0_pay20 v1 m1 kc) (k0_pay19 v1 m1 kc) (opSum p1 a1 l) := rfl
/-- The weighted sum after the third chunk. -/
theorem pay22_eq : k0_pay22 (F := Ideal) v1 o m1 a1 p1 vb kc vc = opDot (k0_pay20 v1 m1 kc) (k0_pay19 v1 m1 kc) (opDot p1 a1 o vb) vc := rfl
/-- The sum after the fourth chunk. -/
theorem pay2_eq : k0_pay2 (F := Ideal) l s a3 b = opSum (k0_pay1 s b) a3 l := rfl

variable (r : Fin 2048) (j : Fin 1024) (e : Fin 128)

/-- The starting sum of a row. -/
theorem zero1_at : zero1 (ix2 r 0) = 0 := by pointwise [zero1]
/-- The starting weighted sum of a row. -/
theorem zero2_at : zero2 (ix2 r e) = 0 := by pointwise [zero2]
/-- The starting maximum. -/
theorem pay6_at : k0_pay6 (F := Ideal) (ix2 r 0) = Ideal.ofBits FTy.f32 0xF149F2CA#32 := by pointwise [k0_pay6]
/-- The queries without their leading axis. -/
theorem pay5_at (d : Fin 256) : k0_pay5 (F := Ideal) v0 (ix2 r d) = v0 (ix3 0 r d) := by pointwise [k0_pay5]
/-- The first chunk's scores. -/
theorem pay7_at : k0_pay7 (F := Ideal) v0 ka (ix2 r j) = ∑ d : Fin 256, v0 (ix3 0 r d) * ka (ix3 0 j d) := by pointwise [k0_pay7, k0_pay5]
/-- The second chunk's scores. -/
theorem pay13_at : k0_pay13 (F := Ideal) v0 kb (ix2 r j) = ∑ d : Fin 256, v0 (ix3 0 r d) * kb (ix3 0 j d) := by pointwise [k0_pay13, k0_pay5]
/-- The third chunk's scores. -/
theorem pay17_at : k0_pay17 (F := Ideal) v1 kc (ix2 r j) = ∑ d : Fin 256, v1 (ix2 r d) * kc (ix3 0 j d) := by pointwise [k0_pay17]
/-- The fourth chunk's scores. -/
theorem pay23_at : k0_pay23 (F := Ideal) v1 kd (ix2 r j) = ∑ d : Fin 256, v1 (ix2 r d) * kd (ix3 0 j d) := by pointwise [k0_pay23]

/-- The quotient of the two running sums, spread over the lanes. -/
def opQuo (L : FVec Ideal S2048x1 .f32) : FVec Ideal S2048x128 .bf16 :=
  truncf .bf16 (divf o (broadcastTo S2048x128 L broadcasts_S2048x1_S2048x128)) bitsLt_bf16_f32

/-- A quotient of a row. -/
theorem opQuo_at (L : FVec Ideal S2048x1 .f32) : opQuo o L (ix2 r e) = Ideal.div (o (ix2 r e)) (L (ix2 r 0)) := by pointwise [opQuo]

/-- The output. -/
theorem pay3_eq : k0_pay3 (F := Ideal) l o s a3 b vd = opQuo (opDot (k0_pay1 s b) a3 o vd) (k0_pay2 l s a3 b) := rfl

/-- The named reciprocal of the logarithm of two. -/
theorem inv_named : (Named.named κ "inv_ln2" 0x3FB8AA3B#32 : Ideal .f32) = (((Real.log 2)⁻¹ : ℝ) : EReal) :=
  IdealRules.named_const.ideal_named_scalar _ _ _ _ rfl

/-- A row log-sum in base two. -/
def opLog (L : FVec Ideal S2048x1 .f32) : FVec Ideal S1x2048x1 .f32 :=
  shapeCast S1x2048x1 (addf m3 (mulf (log L) (broadcast S2048x1 (Named.named κ "inv_ln2" 0x3FB8AA3B#32 : Ideal .f32)))) shapeCasts_S2048x1_S1x2048x1

/-- The log-sum of a row. -/
theorem opLog_at (L : FVec Ideal S2048x1 .f32) : opLog m3 L (ix3 0 r 0) = m3 (ix2 r 0) + Ideal.log (L (ix2 r 0)) * (((Real.log 2)⁻¹ : ℝ) : EReal) := by
  rw [← inv_named]
  pointwise [opLog]

/-- The saved row log-sums. -/
theorem pay4_eq : k0_pay4 (F := Ideal) l s m3 a3 b = opLog m3 (k0_pay2 l s a3 b) := rfl
end pays
end Cert.Proof.MlaFwd
end
-- ==== Proof.MlaFwdRow.lean ====
module

public import proofs.«01_k».proof.Defs
public import proofs.«01_k».proof.Proof.Gen.MlaFwdIdeal.Value
public import Idealize.ShloMosaic.Lib.Pipeline.ValueKit
public import proofs.«01_k».proof.Proof.MlaFwdPay
public import proofs.«01_k».proof.Proof.Rms

@[expose] public section

set_option maxRecDepth 16384

noncomputable section

namespace Cert.Proof.MlaFwd

open Idealize.ShloMosaic Idealize.ShloMosaic.TcCoe Idealize.SL.Sem
open Cert.MlaFwdIdeal Cert.MlaFwdIdeal.Gen
open Cert.Proof.Reals

/-- The logarithm of two is not zero. -/
theorem ln2_ne : Real.log 2 ≠ 0 := (Real.log_pos (by norm_num)).ne'

section step
variable (S : FVec Ideal S2048x1024 .f32) (M l : FVec Ideal S2048x1 .f32) (o : FVec Ideal S2048x128 .f32) (w : Vec Ideal S1024x128 .bf16)

/-- The running sum after a chunk. -/
def nL : FVec Ideal S2048x1 .f32 := opSum (opExp S (opMax S M)) (opFac M (opMax S M)) l

/-- The running weighted sum after a chunk. -/
def nO : FVec Ideal S2048x128 .f32 := opDot (opExp S (opMax S M)) (opFac M (opMax S M)) o w

variable (r : Fin 2048) (e : Fin 128)

/-- A row's running maximum is real, and its sums are the plain sums `X` and `Y` scaled by it. -/
def St (X Y : ℝ) : Prop :=
  ∃ m : ℝ, M (ix2 r 0) = (m : EReal) ∧ l (ix2 r 0) = ((Real.exp (-m * Real.log 2) * X : ℝ) : EReal)
    ∧ o (ix2 r e) = ((Real.exp (-m * Real.log 2) * Y : ℝ) : EReal)

/-- A chunk adds its exponentials to the plain sums. -/
theorem St_next (X Y : ℝ) (h : St M l o r e X Y) (s v : Fin 1024 → ℝ) (hs : ∀ j, S (ix2 r j) = ((s j : ℝ) : EReal)) (hw : ∀ j, w (ix2 j e) = ((v j : ℝ) : EReal)) :
    St (opMax S M) (nL S M l) (nO S M o w) r e (X + ∑ j, Real.exp (s j * Real.log 2)) (Y + ∑ j, Real.exp (s j * Real.log 2) * v j) := by
  obtain ⟨m, hm, hl, ho⟩ := h
  obtain ⟨m', hm'⟩ := chunk_max s m (fun j => S (ix2 r j)) hs
  have e1 : opMax S M (ix2 r 0) = (m' : EReal) := by rw [opMax_at, hm, hm']
  have e2 : ∀ j, opExp S (opMax S M) (ix2 r j) = Ideal.exp2 ((s j : EReal) - (m' : EReal)) := fun j => by rw [opExp_at, hs, e1]
  have e3 : opFac M (opMax S M) (ix2 r 0) = Ideal.exp2 ((m : EReal) - (m' : EReal)) := by rw [opFac_at, hm, e1]
  refine ⟨m', e1, ?_, ?_⟩
  · rw [nL, opSum_at, e3]
    exact chunk_sum s m m' X _ e2 _ hl
  · rw [nO, opDot_at, e3]
    exact chunk_dot s v m m' Y _ _ e2 hw _ ho

/-- The quotient of the two sums. -/
theorem St_quo (X Y : ℝ) (h : St M l o r e X Y) (hX : 0 < X) : opQuo o l (ix2 r e) = ((Y / X : ℝ) : EReal) := by
  obtain ⟨m, hm, hl, ho⟩ := h
  rw [opQuo_at, hl, ho, div_real _ _ (mul_pos (Real.exp_pos _) hX).ne', mul_div_mul_left _ _ (Real.exp_pos _).ne']

/-- The log-sum in base two. -/
theorem St_log (X Y : ℝ) (h : St M l o r e X Y) (hX : 0 < X) : opLog M l (ix3 0 r 0) = ((Real.log X / Real.log 2 : ℝ) : EReal) := by
  obtain ⟨m, hm, hl, ho⟩ := h
  rw [opLog_at, hm, hl, log_real _ (mul_pos (Real.exp_pos _) hX), ← EReal.coe_mul, ← EReal.coe_add, Real.log_mul (Real.exp_pos _).ne' hX.ne', Real.log_exp]
  congr 1
  have := ln2_ne
  field_simp
  ring

/-- The start. -/
theorem St_first : St (k0_pay6 (F := Ideal)) zero1 zero2 r e 0 0 := by
  have hn : ∃ m : ℝ, (Ideal.ofBits FTy.f32 0xF149F2CA#32 : EReal) = (m : EReal) :=
    ⟨-(13234890 * 2 ^ 76), by simp [Ideal.ofBits, Ideal.ieee, -EReal.coe_mul]⟩
  obtain ⟨m, hm⟩ := hn
  exact ⟨m, (pay6_at r).trans hm, (zero1_at r).trans (by simp), (zero2_at r e).trans (by simp)⟩
end step

section row
variable (x0 : Vec Ideal S1x2048x256 .bf16) (x1 : Vec Ideal S1x4096x256 .bf16) (x2 : Vec Ideal S4096x128 .bf16)

/-- The four chunks' scores. -/
def sA : FVec Ideal S2048x1024 .f32 := k0_pay7 x0 (View.ld x1 r0_1)
/-- The second chunk's scores. -/
def sB : FVec Ideal S2048x1024 .f32 := k0_pay13 x0 (View.ld x1 r0_3)
/-- The third chunk's scores. -/
def sC : FVec Ideal S2048x1024 .f32 := k0_pay17 (k0_pay5 x0) (View.ld x1 r0_5)
/-- The fourth chunk's scores. -/
def sD : FVec Ideal S2048x1024 .f32 := k0_pay23 (k0_pay5 x0) (View.ld x1 r0_7)

/-- The maxima after each chunk. -/
def mA : FVec Ideal S2048x1 .f32 := opMax (sA x0 x1) k0_pay6
/-- The maximum after the second chunk. -/
def mB : FVec Ideal S2048x1 .f32 := opMax (sB x0 x1) (mA x0 x1)
/-- The maximum after the third chunk. -/
def mC : FVec Ideal S2048x1 .f32 := opMax (sC x0 x1) (mB x0 x1)
/-- The maximum after the fourth chunk. -/
def mD : FVec Ideal S2048x1 .f32 := opMax (sD x0 x1) (mC x0 x1)

/-- The sum after the fourth chunk. -/
def lD : FVec Ideal S2048x1 .f32 :=
  nL (sD x0 x1) (mC x0 x1) (nL (sC x0 x1) (mB x0 x1) (nL (sB x0 x1) (mA x0 x1) (nL (sA x0 x1) k0_pay6 zero1)))

/-- The weighted sum after the fourth chunk. -/
def oD : FVec Ideal S2048x128 .f32 :=
  nO (sD x0 x1) (mC x0 x1) (nO (sC x0 x1) (mB x0 x1) (nO (sB x0 x1) (mA x0 x1) (nO (sA x0 x1) k0_pay6 zero2 (View.ld x2 r0_2)) (View.ld x2 r0_4)) (View.ld x2 r0_6))
    (View.ld x2 r0_8)

variable (r : Fin 2048) (j : Fin 1024) (e : Fin 128)

/-- A whole block read is the block. -/
theorem ld0 : View.ld x0 r0_0 = x0 := by
  funext y
  obtain ⟨a, b, d, rfl⟩ : ∃ (a : Fin 1) (b : Fin 2048) (d : Fin 256), y = ix3 a b d := ⟨y 0, y 1, y 2, by idx_ext⟩
  rw [Subsingleton.elim a 0]
  pointwise

/-- The body's shared values, as steps. -/
theorem p27 : k0_pay27 x0 x1 x2 = k0_pay5 x0 := congrArg (k0_pay5 (F := Ideal)) (ld0 x0)
/-- The second maximum. -/
theorem p28 : k0_pay28 x0 x1 x2 = mB x0 x1 := by
  unfold k0_pay28; rw [ld0, pay14_eq, pay8_eq]; rfl
/-- The second factor. -/
theorem p29 : k0_pay29 x0 x1 x2 = opFac (mA x0 x1) (mB x0 x1) := by
  unfold k0_pay29; rw [ld0, pay15_eq, pay14_eq, pay8_eq]; rfl
/-- The second weights. -/
theorem p30 : k0_pay30 x0 x1 x2 = opExp (sB x0 x1) (mB x0 x1) := by
  unfold k0_pay30; rw [ld0, pay16_eq, pay14_eq, pay8_eq]; rfl
/-- The third sum. -/
theorem p31 : k0_pay31 x0 x1 x2 = nL (sC x0 x1) (mB x0 x1) (nL (sB x0 x1) (mA x0 x1) (nL (sA x0 x1) k0_pay6 zero1)) := by
  unfold k0_pay31; rw [ld0, p27, p28, p29, p30, pay21_eq, pay20_eq, pay19_eq, pay18_eq, pay11_eq, pay10_eq, pay9_eq, pay8_eq]; rfl
/-- The fourth scores. -/
theorem p32 : k0_pay32 x0 x1 x2 = sD x0 x1 := by
  unfold k0_pay32; rw [p27]; rfl
/-- The fourth maximum. -/
theorem p24 : k0_pay24 (k0_pay5 x0) (mB x0 x1) (View.ld x1 r0_5) (View.ld x1 r0_7) = mD x0 x1 := by
  rw [pay24_eq, pay18_eq]; rfl
/-- The fourth factor. -/
theorem p33 : k0_pay33 x0 x1 x2 = opFac (mC x0 x1) (mD x0 x1) := by
  unfold k0_pay33; rw [p27, p28, pay25_eq, p24, pay18_eq]; rfl
/-- The fourth weights. -/
theorem p1 : k0_pay1 (k0_pay32 x0 x1 x2) (k0_pay34 x0 x1 x2) = opExp (sD x0 x1) (mD x0 x1) := by
  unfold k0_pay34; rw [p27, p28, pay1_eq, p24, p32]
/-- The fourth sum. -/
theorem p2 : k0_pay2 (k0_pay31 x0 x1 x2) (k0_pay32 x0 x1 x2) (k0_pay33 x0 x1 x2) (k0_pay34 x0 x1 x2) = lD x0 x1 := by
  rw [pay2_eq, p1, p31, p33]; rfl

/-- The body's output at an index. -/
theorem out3_at : out0_3 x0 x1 x2 (ix2 r e) = opQuo (oD x0 x1 x2) (lD x0 x1) (ix2 r e) := by
  frame_out
  rw [pay3_eq, p1, p2, p33, p27, p28, p29, p30, pay22_eq, pay20_eq, pay19_eq, pay18_eq, pay12_eq, pay10_eq, pay9_eq, pay8_eq]
  rfl

/-- The body's row log-sums at an index. -/
theorem out4_at : out0_4 x0 x1 x2 (ix3 0 r 0) = opLog (mD x0 x1) (lD x0 x1) (ix3 0 r 0) := by
  frame_out
  rw [pay4_eq, p2, p27, p28, p24]

/-- The product of a query row and a key row. -/
def dotQK (j : Fin 4096) : EReal := ∑ d : Fin 256, x0 (ix3 0 r d) * x1 (ix3 0 j d)

/-- The first chunk's scores. -/
theorem sA_at : sA x0 x1 (ix2 r j) = dotQK x0 x1 r ⟨0 * 1024 + j.val, by omega⟩ := by
  unfold sA dotQK
  rw [pay7_at]
  pointwise
/-- The second chunk's scores. -/
theorem sB_at : sB x0 x1 (ix2 r j) = dotQK x0 x1 r ⟨1 * 1024 + j.val, by omega⟩ := by
  unfold sB dotQK
  rw [pay13_at]
  pointwise
/-- The third chunk's scores. -/
theorem sC_at : sC x0 x1 (ix2 r j) = dotQK x0 x1 r ⟨2 * 1024 + j.val, by omega⟩ := by
  unfold sC dotQK
  rw [pay17_at]
  simp only [pay5_at]
  pointwise
/-- The fourth chunk's scores. -/
theorem sD_at : sD x0 x1 (ix2 r j) = dotQK x0 x1 r ⟨3 * 1024 + j.val, by omega⟩ := by
  unfold sD dotQK
  rw [pay23_at]
  simp only [pay5_at]
  pointwise

/-- The chunks' values. -/
theorem vA_at : View.ld x2 r0_2 (ix2 j e) = x2 (ix2 ⟨0 * 1024 + j.val, by omega⟩ e) := by pointwise
/-- The second chunk's values. -/
theorem vB_at : View.ld x2 r0_4 (ix2 j e) = x2 (ix2 ⟨1 * 1024 + j.val, by omega⟩ e) := by pointwise
/-- The third chunk's values. -/
theorem vC_at : View.ld x2 r0_6 (ix2 j e) = x2 (ix2 ⟨2 * 1024 + j.val, by omega⟩ e) := by pointwise
/-- The fourth chunk's values. -/
theorem vD_at : View.ld x2 r0_8 (ix2 j e) = x2 (ix2 ⟨3 * 1024 + j.val, by omega⟩ e) := by pointwise

/-- A plain sum over all keys is the sum over the four chunks. -/
theorem four (f : Fin 4096 → ℝ) :
    0 + ∑ j : Fin 1024, f ⟨0 * 1024 + j.val, by omega⟩ + ∑ j : Fin 1024, f ⟨1 * 1024 + j.val, by omega⟩ + ∑ j : Fin 1024, f ⟨2 * 1024 + j.val, by omega⟩
      + ∑ j : Fin 1024, f ⟨3 * 1024 + j.val, by omega⟩ = ∑ j, f j := by
  rw [← Rms.sum_blocks 4 1024 f, Fin.sum_univ_four, zero_add]
  rfl

variable (t : Fin 4096 → ℝ) (v : Fin 4096 → ℝ) (hs : ∀ j, dotQK x0 x1 r j = ((t j / Real.log 2 : ℝ) : EReal)) (hv : ∀ j, x2 (ix2 j e) = ((v j : ℝ) : EReal))
include hs hv

/-- After the four chunks a row's plain sums are those over all keys. -/
theorem St_last : St (mD x0 x1) (lD x0 x1) (oD x0 x1 x2) r e (∑ j, Real.exp (t j)) (∑ j, Real.exp (t j) * v j) := by
  have h := St_next (sD x0 x1) _ _ _ (View.ld x2 r0_8) r e _ _
    (St_next (sC x0 x1) _ _ _ (View.ld x2 r0_6) r e _ _
      (St_next (sB x0 x1) _ _ _ (View.ld x2 r0_4) r e _ _
        (St_next (sA x0 x1) _ _ _ (View.ld x2 r0_2) r e _ _ (St_first r e) _ _ (fun j => (sA_at x0 x1 r j).trans (hs _)) (fun j => (vA_at x2 j e).trans (hv _)))
        _ _ (fun j => (sB_at x0 x1 r j).trans (hs _)) (fun j => (vB_at x2 j e).trans (hv _)))
      _ _ (fun j => (sC_at x0 x1 r j).trans (hs _)) (fun j => (vC_at x2 j e).trans (hv _)))
    _ _ (fun j => (sD_at x0 x1 r j).trans (hs _)) (fun j => (vD_at x2 j e).trans (hv _))
  simp only [div_mul_cancel₀ _ ln2_ne] at h
  rw [← four (fun j => Real.exp (t j)), ← four (fun j => Real.exp (t j) * v j)]
  exact h

/-- The attention's output of a row. -/
theorem out3_real : out0_3 x0 x1 x2 (ix2 r e) = ((∑ j, v j * prob t j : ℝ) : EReal) := by
  rw [out3_at, St_quo _ _ _ r e _ _ (St_last x0 x1 x2 r e t v hs hv) (sum_exp_pos t), Finset.sum_div]
  congr 1
  exact Finset.sum_congr rfl fun j _ => by rw [prob, mul_comm, mul_div_assoc]

/-- The log-sum of a row. -/
theorem out4_real : out0_4 x0 x1 x2 (ix3 0 r 0) = ((Real.log (∑ j, Real.exp (t j)) / Real.log 2 : ℝ) : EReal) := by
  rw [out4_at, St_log _ _ _ r e _ _ (St_last x0 x1 x2 r e t v hs hv) (sum_exp_pos t)]
end row
end Cert.Proof.MlaFwd
end
-- ==== Proof.MlaFwdArr.lean ====
module

public import proofs.«01_k».proof.Defs
public import proofs.«01_k».proof.Proof.Gen.MlaFwdIdeal.Value
public import Idealize.ShloMosaic.Lib.Pipeline.ValueKit
public import proofs.«01_k».proof.Proof.MlaFwdRow
public import proofs.«01_k».proof.Proof.MlaArr

@[expose] public section

set_option maxRecDepth 16384

noncomputable section

namespace Cert.Proof.MlaFwd

open Idealize.ShloMosaic Idealize.ShloMosaic.TcCoe Idealize.SL.Sem
open Cert.MlaFwdIdeal Cert.MlaFwdIdeal.Gen
open Cert.Proof.Reals
open Cert.Proof.Mla (heads heads_at)

/-- The grid takes each head's two tiles of query rows in turn. -/
theorem idxQ : ∀ t : Fin cfg0.N, win0_0.index t = ![t.val / 2, t.val % 2, 0] ∧ win0_4.index t = ![t.val / 2, t.val % 2, 0] :=
  (by decide +kernel : ∀ t : Fin grid0.N, _)

/-- A head's keys stay for both of its tiles. -/
theorem idxK : ∀ t : Fin cfg0.N, win0_1.index t = ![t.val / 2, 0, 0] := (by decide +kernel : ∀ t : Fin grid0.N, _)

/-- A head's values are its second columns of the joint array. -/
theorem idxV : ∀ t : Fin cfg0.N, win0_2.index t = ![0, 2 * (t.val / 2) + 1] := (by decide +kernel : ∀ t : Fin grid0.N, _)

/-- A tile's output is rows of its head's columns. -/
theorem idxO : ∀ t : Fin cfg0.N, win0_3.index t = ![t.val % 2, t.val / 2] := (by decide +kernel : ∀ t : Fin grid0.N, _)

section arr
variable (m : (ℓ : Loc nD τ sig) → Buf (Elt Ideal) ℓ)

/-- The tile's queries are rows of its head's. -/
theorem blkQ (c : Dev nD) (t : Fin cfg0.N) (h : Fin 8) (i : Fin 4096) (r : Fin 2048) (d : Fin 256) (hh : h.val = t.val / 2)
    (hi : i.val = t.val % 2 * 2048 + r.val) : iblk m c 0 t (ix3 0 r d) = V m c main_v53 (ix3 h i d) := by
  blk_simp [iblk]
  refine congrArg _ ?_
  blk_ext [(idxQ t).1, hh, hi]

/-- The tile's keys are all of its head's. -/
theorem blkK (c : Dev nD) (t : Fin cfg0.N) (h : Fin 8) (j : Fin 4096) (d : Fin 256) (hh : h.val = t.val / 2) :
    iblk m c 1 t (ix3 0 j d) = V m c main_v54 (ix3 h j d) := by
  blk_simp [iblk]
  refine congrArg _ ?_
  blk_ext [idxK t, hh]

/-- The tile's values are all of its head's. -/
theorem blkV (c : Dev nD) (t : Fin cfg0.N) (h : Fin 8) (j : Fin 4096) (e : Fin 128) (hh : h.val = t.val / 2) :
    iblk m c 2 t (ix2 j e) = V m c main_v55 (ix2 j ⟨h.val * 256 + 128 + e.val, by omega⟩) := by
  blk_simp [iblk]
  refine congrArg _ ?_
  blk_ext [idxV t, hh]

variable (c : Dev nD) (s : Fin 8 → Fin 4096 → Fin 4096 → ℝ) (v : S4096x2048.Idx → ℝ)
  (hs : ∀ (Q K : Vec Ideal S8x4096x256 .bf16), V m c main_v53 = Q → V m c main_v54 = K →
    ∀ h i j, ∑ d : Fin 256, Q (ix3 h i d) * K (ix3 h j d) = ((s h i j / Real.log 2 : ℝ) : EReal))
  (hv : ∀ x, (V m c main_v55 : Vec Ideal S4096x2048 .bf16) x = ((v x : ℝ) : EReal))

include hs in
/-- The tile's products of queries and keys are its head's scores in base two. -/
theorem dot_blk (t : Fin cfg0.N) (h : Fin 8) (i : Fin 4096) (r : Fin 2048) (hh : h.val = t.val / 2) (hi : i.val = t.val % 2 * 2048 + r.val)
    (j : Fin 4096) : dotQK (iblk m c 0 t) (iblk m c 1 t) r j = ((s h i j / Real.log 2 : ℝ) : EReal) := by
  rw [← hs _ _ rfl rfl h i j]
  exact Finset.sum_congr rfl fun d _ => congrArg₂ (fun x y : EReal => x * y) (blkQ m c t h i r d hh hi) (blkK m c t h j d hh)

/-- The mean of a head's values under a row's probabilities. -/
def mean (h : Fin 8) (i : Fin 4096) (e : Fin 128) : EReal :=
  ((∑ j, v (ix2 j ⟨h.val * 256 + 128 + e.val, by omega⟩) * prob (s h i) j : ℝ) : EReal)

include hs hv in
/-- The call's output. -/
theorem arr3 : (dats m 0 c).arrAt 3 cfg0.N = heads (mean s v) := by
  refine (dats m 0 c).arrAt_eq_of_covers 3 _ (by decide +kernel) fun t hf y => ?_
  blk_simp
  rw [after0_3]
  have h0 : (((View.whole main_v56_0).slice (win0_3.rect t)).emb y 0).val = t.val % 2 * 2048 + (y 0).val := by blk_simp [idxO t]
  have h1 : (((View.whole main_v56_0).slice (win0_3.rect t)).emb y 1).val = t.val / 2 * 128 + (y 1).val := by blk_simp [idxO t]
  idx_bounds y
  have ht : t.val < 16 := t.isLt
  have hy : (y : S2048x128.Idx) = ix2 (y 0) (y 1) := by idx_ext
  refine Eq.trans ?_ (heads_at (mean s v) _ ⟨t.val / 2, by omega⟩ ⟨t.val % 2 * 2048 + (y 0).val, by omega⟩ (y 1) h0 h1).symm
  refine (congrArg (out0_3 (iblk m c 0 t) (iblk m c 1 t) (iblk m c 2 t)) hy).trans ?_
  exact out3_real _ _ _ (y 0) (y 1) _ _ (dot_blk m c s hs t ⟨t.val / 2, by omega⟩ ⟨t.val % 2 * 2048 + (y 0).val, by omega⟩ (y 0) rfl rfl)
    (fun j => (blkV m c t ⟨t.val / 2, by omega⟩ j (y 1) rfl).trans (hv _))

/-- The rows' log-sums in base two. -/
def sums (x : S8x4096x1.Idx) : EReal := ((Real.log (∑ j, Real.exp (s (x 0) (x 1) j)) / Real.log 2 : ℝ) : EReal)

include hs hv in
/-- The call's row log-sums. -/
theorem arr4 : (dats m 0 c).arrAt 4 cfg0.N = sums s := by
  refine (dats m 0 c).arrAt_eq_of_covers 4 _ (by decide +kernel) fun t hf y => ?_
  blk_simp
  rw [after0_4]
  have h0 : (((View.whole main_v56_1).slice (win0_4.rect t)).emb y 0).val = t.val / 2 := by blk_simp [(idxQ t).2]
  have h1 : (((View.whole main_v56_1).slice (win0_4.rect t)).emb y 1).val = t.val % 2 * 2048 + (y 1).val := by blk_simp [(idxQ t).2]
  idx_bounds y
  have ht : t.val < 16 := t.isLt
  have hy : (y : S1x2048x1.Idx) = ix3 0 (y 1) 0 := by idx_ext
  refine (congrArg (out0_4 (iblk m c 0 t) (iblk m c 1 t) (iblk m c 2 t)) hy).trans ?_
  refine (out4_real _ _ _ (y 1) 0 _ _ (dot_blk m c s hs t ⟨t.val / 2, by omega⟩ ⟨t.val % 2 * 2048 + (y 1).val, by omega⟩ (y 1) rfl rfl)
    (fun j => (blkV m c t ⟨t.val / 2, by omega⟩ j 0 rfl).trans (hv _))).trans ?_
  unfold sums
  rw [show ((View.whole main_v56_1).slice (win0_4.rect t)).emb y 0 = (⟨t.val / 2, by omega⟩ : Fin 8) from Fin.ext h0,
    show ((View.whole main_v56_1).slice (win0_4.rect t)).emb y 1 = (⟨t.val % 2 * 2048 + (y 1).val, by omega⟩ : Fin 4096) from Fin.ext h1]

end arr
end Cert.Proof.MlaFwd
end
-- ==== Proof.MlaFwdRef.lean ====
module

public import proofs.«01_k».proof.Defs
public import proofs.«01_k».proof.Proof.Gen.MlaFwdRefIdeal.Read
public import Idealize.ShloMosaic.Lib.Pipeline.ValueKit
public import proofs.«01_k».proof.Proof.MlaRef2

@[expose] public section

set_option maxRecDepth 16384

noncomputable section

namespace Cert.Proof.MlaFwd

open Idealize.ShloMosaic Idealize.ShloMosaic.TcCoe Idealize.SL.Sem
open Cert.MlaFwdRefIdeal Cert.MlaFwdRefIdeal.Gen Cert.MlaFwdRefIdeal.Read
open Cert.Proof.Reals
open Cert.Proof.Mla (Known rt rp ln_ne v87_real v91_real v93_real v69_at v87_at)

section ref
variable (x0 : FVec Ideal S4096x1536 .f32) (x1 : FVec Ideal S4096x2048 .f32) (x2 : FVec Ideal S4096x64 .f32) (x3 : IVec S4096 32) (x4 : FVec Ideal S4096x1024 .f32)

/-- The plain lanes of the queries. -/
theorem same2 : val_main_v2 (F := Ideal) x0 = Cert.MlaRefIdeal.Read.val_main_v32 (F := Ideal) x0 := rfl

/-- The first half of the rotated lanes. -/
theorem same20 : val_main_v20 (F := Ideal) x0 = Cert.MlaRefIdeal.Read.val_main_v50 (F := Ideal) x0 := rfl

/-- The second half of them. -/
theorem same21 : val_main_v21 (F := Ideal) x0 = Cert.MlaRefIdeal.Read.val_main_v51 (F := Ideal) x0 := rfl

/-- The cosines. -/
theorem same16 : val_main_v16 (F := Ideal) x3 = Cert.MlaRefIdeal.Read.val_main_v46 (F := Ideal) x3 := rfl

/-- The sines. -/
theorem same18 : val_main_v18 (F := Ideal) x3 = Cert.MlaRefIdeal.Read.val_main_v48 (F := Ideal) x3 := rfl

/-- The cosines over the heads. -/
theorem same22 : val_main_v22 (F := Ideal) x3 = Cert.MlaRefIdeal.Read.val_main_v52 (F := Ideal) x3 := by
  unfold val_main_v22 val_main_v17 Cert.MlaRefIdeal.Read.val_main_v52 Cert.MlaRefIdeal.Read.val_main_v47
  rw [same16] <;> rfl

/-- The sines over the heads. -/
theorem same24 : val_main_v24 (F := Ideal) x3 = Cert.MlaRefIdeal.Read.val_main_v54 (F := Ideal) x3 := by
  unfold val_main_v24 val_main_v19 Cert.MlaRefIdeal.Read.val_main_v54 Cert.MlaRefIdeal.Read.val_main_v49
  rw [same18] <;> rfl

/-- The cosines once more. -/
theorem same27 : val_main_v27 (F := Ideal) x3 = Cert.MlaRefIdeal.Read.val_main_v57 (F := Ideal) x3 := by
  unfold val_main_v27 val_main_v17 Cert.MlaRefIdeal.Read.val_main_v57 Cert.MlaRefIdeal.Read.val_main_v47
  rw [same16] <;> rfl

/-- The sines once more. -/
theorem same29 : val_main_v29 (F := Ideal) x3 = Cert.MlaRefIdeal.Read.val_main_v59 (F := Ideal) x3 := by
  unfold val_main_v29 val_main_v19 Cert.MlaRefIdeal.Read.val_main_v59 Cert.MlaRefIdeal.Read.val_main_v49
  rw [same18] <;> rfl

/-- The rotated first half. -/
theorem same26 : val_main_v26 (F := Ideal) x0 x3 = Cert.MlaRefIdeal.Read.val_main_v56 (F := Ideal) x0 x3 := by
  unfold val_main_v26 val_main_v23 val_main_v25 Cert.MlaRefIdeal.Read.val_main_v56 Cert.MlaRefIdeal.Read.val_main_v53 Cert.MlaRefIdeal.Read.val_main_v55
  rw [same20, same22, same21, same24] <;> rfl

/-- The rotated second half. -/
theorem same31 : val_main_v31 (F := Ideal) x0 x3 = Cert.MlaRefIdeal.Read.val_main_v61 (F := Ideal) x0 x3 := by
  unfold val_main_v31 val_main_v28 val_main_v30 Cert.MlaRefIdeal.Read.val_main_v61 Cert.MlaRefIdeal.Read.val_main_v58 Cert.MlaRefIdeal.Read.val_main_v60
  rw [same21, same27, same20, same29] <;> rfl

/-- The rotated lanes. -/
theorem same32 : val_main_v32 (F := Ideal) x0 x3 = Cert.MlaRefIdeal.Read.val_main_v62 (F := Ideal) x0 x3 := by
  unfold val_main_v32 Cert.MlaRefIdeal.Read.val_main_v62
  rw [same26, same31] <;> rfl

/-- The rotated queries. -/
theorem same33 : val_main_v33 (F := Ideal) x0 x3 = Cert.MlaRefIdeal.Read.val_main_v63 (F := Ideal) x0 x3 := by
  unfold val_main_v33 Cert.MlaRefIdeal.Read.val_main_v63
  rw [same2, same32] <;> rfl

/-- The cosines for the key. -/
theorem same47 : val_main_v47 (F := Ideal) x3 = Cert.MlaRefIdeal.Read.val_main_v15 (F := Ideal) x3 := rfl

/-- The sines for the key. -/
theorem same49 : val_main_v49 (F := Ideal) x3 = Cert.MlaRefIdeal.Read.val_main_v17 (F := Ideal) x3 := rfl

/-- The first half of the shared key lanes. -/
theorem same51 : val_main_v51 (F := Ideal) x2 = Cert.MlaRefIdeal.Read.val_main_v19 (F := Ideal) x2 := rfl

/-- The second half of them. -/
theorem same52 : val_main_v52 (F := Ideal) x2 = Cert.MlaRefIdeal.Read.val_main_v20 (F := Ideal) x2 := rfl

/-- The cosines with the head axis. -/
theorem same48 : val_main_v48 (F := Ideal) x3 = Cert.MlaRefIdeal.Read.val_main_v16 (F := Ideal) x3 := by
  unfold val_main_v48 Cert.MlaRefIdeal.Read.val_main_v16
  rw [same47] <;> rfl

/-- The sines with the head axis. -/
theorem same50 : val_main_v50 (F := Ideal) x3 = Cert.MlaRefIdeal.Read.val_main_v18 (F := Ideal) x3 := by
  unfold val_main_v50 Cert.MlaRefIdeal.Read.val_main_v18
  rw [same49] <;> rfl

/-- The first half of the rotated key lanes. -/
theorem same55 : val_main_v55 (F := Ideal) x2 x3 = Cert.MlaRefIdeal.Read.val_main_v23 (F := Ideal) x2 x3 := by
  unfold val_main_v55 val_main_v53 val_main_v54 Cert.MlaRefIdeal.Read.val_main_v23 Cert.MlaRefIdeal.Read.val_main_v21 Cert.MlaRefIdeal.Read.val_main_v22
  rw [same51, same48, same52, same50] <;> rfl

/-- The second half of them. -/
theorem same58 : val_main_v58 (F := Ideal) x2 x3 = Cert.MlaRefIdeal.Read.val_main_v26 (F := Ideal) x2 x3 := by
  unfold val_main_v58 val_main_v56 val_main_v57 Cert.MlaRefIdeal.Read.val_main_v26 Cert.MlaRefIdeal.Read.val_main_v24 Cert.MlaRefIdeal.Read.val_main_v25
  rw [same52, same48, same51, same50] <;> rfl

/-- The rotated key lanes. -/
theorem same59 : val_main_v59 (F := Ideal) x2 x3 = Cert.MlaRefIdeal.Read.val_main_v27 (F := Ideal) x2 x3 := by
  unfold val_main_v59 Cert.MlaRefIdeal.Read.val_main_v27
  rw [same55, same58] <;> rfl

/-- The rotated key lanes for every head. -/
theorem same60 : val_main_v60 (F := Ideal) x2 x3 = Cert.MlaRefIdeal.Read.val_main_v28 (F := Ideal) x2 x3 := by
  unfold val_main_v60 Cert.MlaRefIdeal.Read.val_main_v28
  rw [same59] <;> rfl

/-- The plain lanes of the keys. -/
theorem same61 : val_main_v61 (F := Ideal) x1 = Cert.MlaRefIdeal.Read.val_main_v29 (F := Ideal) x1 := rfl

/-- The keys. -/
theorem same62 : val_main_v62 (F := Ideal) x1 x2 x3 = Cert.MlaRefIdeal.Read.val_main_v30 (F := Ideal) x1 x2 x3 := by
  unfold val_main_v62 Cert.MlaRefIdeal.Read.val_main_v30
  rw [same61, same60] <;> rfl

/-- The products. -/
theorem same66 : val_main_v66 (F := Ideal) x0 x1 x2 x3 = Cert.MlaRefIdeal.Read.val_main_v66 (F := Ideal) x0 x1 x2 x3 := by
  unfold val_main_v66 Cert.MlaRefIdeal.Read.val_main_v66
  rw [same33, same62] <;> rfl

/-- The scale. -/
theorem same67 : val_main_v67 (F := Ideal)  = Cert.MlaRefIdeal.Read.val_main_v67 (F := Ideal)  := rfl

/-- The scores are those the reference of the gradient takes. -/
theorem same68 : val_main_v68 (F := Ideal) x0 x1 x2 x3 = Cert.MlaRefIdeal.Read.val_main_v68 (F := Ideal) x0 x1 x2 x3 := by
  unfold val_main_v68 Cert.MlaRefIdeal.Read.val_main_v68
  rw [same66, same67] <;> rfl

/-- Their row maxima. -/
theorem same69 : val_main_v69 (F := Ideal) x0 x1 x2 x3 = Cert.MlaRefIdeal.Read.val_main_v69 (F := Ideal) x0 x1 x2 x3 := by
  unfold val_main_v69 Cert.MlaRefIdeal.Read.val_main_v69
  rw [same68] <;> rfl

/-- The lower bound of the maxima. -/
theorem same70 : val_main_v70 (F := Ideal)  = Cert.MlaRefIdeal.Read.val_main_v75 (F := Ideal)  := rfl

/-- The bounded maxima. -/
theorem same71 : val_main_v71 (F := Ideal) x0 x1 x2 x3 = Cert.MlaRefIdeal.Read.val_main_v76 (F := Ideal) x0 x1 x2 x3 := by
  unfold val_main_v71 Cert.MlaRefIdeal.Read.val_main_v76
  rw [same70, same69] <;> rfl

/-- The maxima over the columns. -/
theorem same73 : val_main_v73 (F := Ideal) x0 x1 x2 x3 = Cert.MlaRefIdeal.Read.val_main_v87 (F := Ideal) x0 x1 x2 x3 := by
  unfold val_main_v73 val_main_v72 Cert.MlaRefIdeal.Read.val_main_v87 Cert.MlaRefIdeal.Read.val_main_v86
  rw [same71] <;> rfl

/-- The exponentials. -/
theorem same75 : val_main_v75 (F := Ideal) x0 x1 x2 x3 = Cert.MlaRefIdeal.Read.val_main_v89 (F := Ideal) x0 x1 x2 x3 := by
  unfold val_main_v75 val_main_v74 Cert.MlaRefIdeal.Read.val_main_v89 Cert.MlaRefIdeal.Read.val_main_v88
  rw [same68, same73] <;> rfl

/-- Their row sums. -/
theorem same77 : val_main_v77 (F := Ideal) x0 x1 x2 x3 = Cert.MlaRefIdeal.Read.val_main_v91 (F := Ideal) x0 x1 x2 x3 := by
  unfold val_main_v77 val_main_v76 Cert.MlaRefIdeal.Read.val_main_v91 Cert.MlaRefIdeal.Read.val_main_v90
  rw [same75] <;> rfl

/-- The probabilities. -/
theorem same79 : val_main_v79 (F := Ideal) x0 x1 x2 x3 = Cert.MlaRefIdeal.Read.val_main_v93 (F := Ideal) x0 x1 x2 x3 := by
  unfold val_main_v79 val_main_v78 Cert.MlaRefIdeal.Read.val_main_v93 Cert.MlaRefIdeal.Read.val_main_v92
  rw [same75, same77] <;> rfl

/-- The output is the values' sum under the probabilities. -/
theorem v92_at (h : Fin 8) (i : Fin 4096) (e : Fin 128) : (val_main_v92 (F := Ideal) x0 x1 x2 x3 : S4096x1024.Idx → EReal) (ix2 i ⟨h.val * 128 + e.val, by omega⟩)
    = ∑ j, x1 (ix2 j ⟨h.val * 256 + (128 + e.val), by omega⟩) * val_main_v79 (F := Ideal) x0 x1 x2 x3 (ix3 h i j) := by
  pointwise [val_main_v92, val_main_v82, val_main_v81, val_main_v80, val_main_v63, val_main_v1]

/-- The logarithm of the rows' sums of exponentials, taken from a number of each row. -/
def lsum (s : FVec Ideal S8x4096x4096 .f32) (T : FVec Ideal S8x4096x1 .f32) : FVec Ideal S8x4096x1 .f32 :=
  addf T (Host.log (broadcastInDim S8x4096x1 ![0, 1] bcast_S8x4096_S8x4096x1_0_1
    (Host.reduceAdd (Host.exp (subf s (broadcastInDim S8x4096x4096 ![0, 1, 2] bcast_S8x4096x1_S8x4096x4096_0_1_2 T))) (constant S_ .f32 0x00000000#32)
      reducesTo_S8x4096x4096_S8x4096_d2 h_S_)))

omit x0 x1 x2 x3 in
/-- One row of it. -/
theorem lsum_at (s : FVec Ideal S8x4096x4096 .f32) (T : FVec Ideal S8x4096x1 .f32) (h : Fin 8) (i : Fin 4096) :
    lsum s T (ix3 h i (0 : Fin 1)) = T (ix3 h i (0 : Fin 1)) + Ideal.log (∑ j, Ideal.exp (s (ix3 h i j) - T (ix3 h i (0 : Fin 1)))) := by
  pointwise [lsum]

/-- The reference's row log-sums are these. -/
theorem v91_eq : val_main_v91 (F := Ideal) x0 x1 x2 x3 = lsum (val_main_v68 (F := Ideal) x0 x1 x2 x3) (val_main_v84 (F := Ideal) x0 x1 x2 x3) := by
  unfold val_main_v91 val_main_v90 val_main_v89 val_main_v88 val_main_v87 val_main_v86 val_main_v85 lsum val_main_cst_9
  rfl

/-- The rows' numbers the log-sums are taken from are the row maxima. -/
theorem v84_eq : val_main_v84 (F := Ideal) x0 x1 x2 x3 = Cert.Proof.Mla.hM (Cert.MlaRefIdeal.Read.val_main_v68 (F := Ideal) x0 x1 x2 x3) := by
  rw [← same68]
  unfold val_main_v84 val_main_v83 Cert.Proof.Mla.hM
  rfl

omit x0 x1 x2 x3 in
/-- The division by the logarithm of two. -/
theorem half_log (y : FVec Ideal S8x4096x1 .f32) (h : Fin 8) (i : Fin 4096) :
    Host.divf y (val_main_v94 (F := Ideal)) (ix3 h i (0 : Fin 1)) = Ideal.div (y (ix3 h i (0 : Fin 1))) (Ideal.log (Ideal.ofBits FTy.f32 1073741824#32)) := by
  pointwise [val_main_v94, val_main_v93, val_main_cst_10]

/-- The row log-sums, from the row's largest score. -/
theorem v95_at (h : Fin 8) (i : Fin 4096) :
    val_main_v95 (F := Ideal) x0 x1 x2 x3 (ix3 h i (0 : Fin 1))
      = Ideal.div (lsum (val_main_v68 (F := Ideal) x0 x1 x2 x3) (val_main_v84 (F := Ideal) x0 x1 x2 x3) (ix3 h i (0 : Fin 1)))
        (Ideal.log (Ideal.ofBits FTy.f32 1073741824#32)) := by
  rw [← v91_eq, ← half_log]
  unfold val_main_v95
  rfl

variable (q : S4096x1536.Idx → ℝ) (kv : S4096x2048.Idx → ℝ) (kr : S4096x64.Idx → ℝ) (ct : S4096x1024.Idx → ℝ) (C S : Fin 4096 → Fin 32 → ℝ)
variable (g : Known q kv kr ct C S x0 x1 x2 x3 x4)
include g

/-- The output over the reals. -/
theorem v92_real (h : Fin 8) (i : Fin 4096) (e : Fin 128) :
    (val_main_v92 (F := Ideal) x0 x1 x2 x3 : S4096x1024.Idx → EReal) (ix2 i ⟨h.val * 128 + e.val, by omega⟩)
      = ((∑ j, kv (ix2 j ⟨h.val * 256 + 128 + e.val, by omega⟩) * prob (rt q kv kr C S h i) j : ℝ) : EReal) := by
  obtain ⟨M, hM⟩ := v87_real q kv kr ct C S x0 x1 x2 x3 x4 g
  rw [v92_at, same79]
  refine (prod_real _ _ _ _ (fun j => g.kv_at _) (fun j => v93_real q kv kr ct C S x0 x1 x2 x3 x4 g M hM h i j)).trans ?_
  simp only [← Nat.add_assoc]
  rfl

/-- The row log-sums over the reals. -/
theorem v95_real (h : Fin 8) (i : Fin 4096) :
    val_main_v95 (F := Ideal) x0 x1 x2 x3 (ix3 h i (0 : Fin 1)) = ((Real.log (∑ j, Real.exp (rt q kv kr C S h i j)) / Real.log 2 : ℝ) : EReal) := by
  obtain ⟨M, hM⟩ := Cert.Proof.Mla.m_real (Cert.MlaRefIdeal.Read.val_main_v68 (F := Ideal) x0 x1 x2 x3) (fun h i j => rt q kv kr C S h i j * Real.log 2)
    (fun h i j => (Cert.Proof.Mla.v68_real q kv kr ct C S x0 x1 x2 x3 x4 g h i j).trans (congrArg _ (mul_div_cancel_right₀ _ ln_ne).symm))
  rw [v95_at, lsum_at, v84_eq, hM, same68]
  simp only [Cert.Proof.Mla.v68_real q kv kr ct C S x0 x1 x2 x3 x4 g, ← EReal.coe_sub, exp_real]
  rw [sum_coe, log_real _ (sum_exp_pos _), ← EReal.coe_add,
    show (Ideal.ofBits FTy.f32 1073741824#32 : EReal) = ((2 : ℝ) : EReal) from by simp [Ideal.ofBits, Ideal.ieee, -EReal.coe_mul]; norm_num,
    log_real _ (by norm_num), div_real _ _ ln_ne]
  congr 2
  simp only [Real.exp_sub, ← Finset.sum_div]
  rw [Real.log_div (sum_exp_pos _).ne' (Real.exp_pos _).ne', Real.log_exp]
  ring

end ref
end Cert.Proof.MlaFwd
end
-- ==== Proof.MlaFwdEq.lean ====
module

public import proofs.«01_k».proof.Defs
public import proofs.«01_k».proof.Proof.Gen.MlaFwdIdeal.Value
public import Idealize.ShloMosaic.Lib.Pipeline.ValueKit
public import proofs.«01_k».proof.Proof.Gen.Pre_mlaf_finite
public import proofs.«01_k».proof.Proof.Gen.MlaFwdRefIdeal.Run
public import proofs.«01_k».proof.Proof.MlaFwdArr
public import proofs.«01_k».proof.Proof.Mla
public import proofs.«01_k».proof.Proof.MlaFwdRef

@[expose] public section

set_option maxRecDepth 16384

noncomputable section

namespace Cert.Proof.MlaFwd

open Idealize.ShloMosaic Idealize.ShloMosaic.TcCoe Idealize.SL.Sem
open Cert.MlaFwdIdeal Cert.MlaFwdIdeal.Gen
open Cert.MlaFwdRefIdeal.Read (val_main_v92 val_main_v95)
open Cert.Proof.Reals
open Cert.Proof.Mla (heads heads_at Known rq rk rt ln_ne root_ne sum_pad qr_real kr_real turn_real hQr hKr)

/-- What the precondition says of the call's arguments: they are real. The cotangent, which the call does not take, is nought. -/
theorem known_of (a0 : FVec Ideal S4096x1536 .f32) (a1 : FVec Ideal S4096x2048 .f32) (a2 : FVec Ideal S4096x64 .f32) (a3 : IVec S4096 32)
    (h : (Cert.Pre_mlaf_finite.fn (F := Ideal) a0 a1 a2 a3).1 = (fun _ => 1#1) ∧ (Cert.Pre_mlaf_finite.fn (F := Ideal) a0 a1 a2 a3).2.1 = (fun _ => 1#1)
      ∧ (Cert.Pre_mlaf_finite.fn (F := Ideal) a0 a1 a2 a3).2.2 = (fun _ => 1#1)) :
    ∃ (q : S4096x1536.Idx → ℝ) (kv : S4096x2048.Idx → ℝ) (kr : S4096x64.Idx → ℝ) (C S : Fin 4096 → Fin 32 → ℝ),
      Known q kv kr (fun _ => 0) C S a0 a1 a2 a3 (fun _ => 0) := by
  obtain ⟨h0, h1, h2⟩ := h
  obtain ⟨q, hq⟩ := arr_real a0 _ (fun _ => inf_word) h0
  obtain ⟨kv, hkv⟩ := arr_real a1 _ (fun _ => inf_word) h1
  obtain ⟨kr, hkr⟩ := arr_real a2 _ (fun _ => inf_word) h2
  obtain ⟨C, S, hC, hS⟩ := turn_real a3
  exact ⟨q, kv, kr, C, S, fun x => congrFun hq x, fun x => congrFun hkv x, fun x => congrFun hkr x, fun _ => EReal.coe_zero.symm, hC, hS⟩

section found
variable (m : (ℓ : Loc nD τ sig) → Buf (Elt Ideal) ℓ) (c : Dev nD)

/-- The values at entry. -/
theorem found_v : (V m c main_v55 : Vec Ideal S4096x2048 .bf16) = m ((c : Thread nD τ).loc main_arg1) := by
  dsimp only [V, hostOps0]
  after_results_simp <;> rfl

/-- The queries at entry are those the gradient call takes. -/
theorem found_q : (V m c main_v53 : Vec Ideal S8x4096x256 .bf16) = hQr (m ((c : Thread nD τ).loc main_arg0)) (m ((c : Thread nD τ).loc main_arg3)) := by
  dsimp only [V, hostOps0]
  after_results_simp <;> (try dsimp only [Matrix.cons_val]) <;> (try after_results_simp) <;> rfl

/-- The keys at entry are those the gradient call takes. -/
theorem found_k : (V m c main_v54 : Vec Ideal S8x4096x256 .bf16)
    = hKr (m ((c : Thread nD τ).loc main_arg1)) (m ((c : Thread nD τ).loc main_arg2)) (m ((c : Thread nD τ).loc main_arg3)) := by
  dsimp only [V, hostOps0]
  after_results_simp <;> (try dsimp only [Matrix.cons_val]) <;> (try after_results_simp) <;> rfl

variable (q : S4096x1536.Idx → ℝ) (kv : S4096x2048.Idx → ℝ) (kr : S4096x64.Idx → ℝ) (ct : S4096x1024.Idx → ℝ) (C S : Fin 4096 → Fin 32 → ℝ)
variable (x4 : FVec Ideal S4096x1024 .f32)
variable (g : Known q kv kr ct C S (m ((c : Thread nD τ).loc main_arg0)) (m ((c : Thread nD τ).loc main_arg1))
  (m ((c : Thread nD τ).loc main_arg2)) (m ((c : Thread nD τ).loc main_arg3)) x4)
include g

/-- The products of the queries and the keys at entry are the scores in base two. -/
theorem score_real (Q K : Vec Ideal S8x4096x256 .bf16) (hQ : V m c main_v53 = Q) (hK : V m c main_v54 = K) (h : Fin 8) (i j : Fin 4096) :
    ∑ d : Fin 256, Q (ix3 h i d) * K (ix3 h j d) = ((rt q kv kr C S h i j / Real.log 2 : ℝ) : EReal) := by
  subst hQ hK
  have eq : ∀ d : Fin 256, (V m c main_v53 : Vec Ideal S8x4096x256 .bf16) (ix3 h i d)
      = ((if hd : d.val < 192 then rq q C S h i ⟨d.val, hd⟩ / (Real.sqrt 192 * Real.log 2) else 0 : ℝ) : EReal) := fun d => by
    rw [found_q, funext g.q_at]
    exact qr_real q C S _ g.cos_at g.sin_at h i d
  have ek : ∀ d : Fin 256, (V m c main_v54 : Vec Ideal S8x4096x256 .bf16) (ix3 h j d)
      = ((if hd : d.val < 192 then rk kv kr C S h j ⟨d.val, hd⟩ else 0 : ℝ) : EReal) := fun d => by
    rw [found_k, funext g.kv_at, funext g.kr_at]
    exact kr_real kv kr C S _ g.cos_at g.sin_at h j d
  refine (Finset.sum_congr rfl fun d _ => congrArg₂ (fun x y : EReal => x * y) (eq d) (ek d)).trans ?_
  refine (sum_pad (fun d => rq q C S h i d / (Real.sqrt 192 * Real.log 2)) (fun d => rk kv kr C S h j d)).trans ?_
  rw [rt]
  congr 1
  rw [Finset.sum_mul, Finset.sum_div]
  refine Finset.sum_congr rfl fun d _ => ?_
  have := ln_ne
  have := root_ne
  field_simp

/-- The outputs agree. -/
theorem out_same : (dats m 0 c).arrAt 3 cfg0.N = (val_main_v92 (F := Ideal) (m ((c : Thread nD τ).loc main_arg0)) (m ((c : Thread nD τ).loc main_arg1))
    (m ((c : Thread nD τ).loc main_arg2)) (m ((c : Thread nD τ).loc main_arg3)) : S4096x1024.Idx → EReal) := by
  refine (arr3 m c (rt q kv kr C S) kv (score_real m c q kv kr ct C S x4 g) (fun x => (congrFun (found_v m c) x).trans (g.kv_at x))).trans ?_
  funext j
  obtain ⟨i, h, l, rfl⟩ := Cert.Proof.Mla.lane_a j
  exact (heads_at _ _ h i l rfl rfl).trans (v92_real _ _ _ _ x4 q kv kr ct C S g h i l).symm

/-- The row log-sums agree. -/
theorem sums_same : (dats m 0 c).arrAt 4 cfg0.N = (val_main_v95 (F := Ideal) (m ((c : Thread nD τ).loc main_arg0)) (m ((c : Thread nD τ).loc main_arg1))
    (m ((c : Thread nD τ).loc main_arg2)) (m ((c : Thread nD τ).loc main_arg3)) : S8x4096x1.Idx → EReal) := by
  refine (arr4 m c (rt q kv kr C S) kv (score_real m c q kv kr ct C S x4 g) (fun x => (congrFun (found_v m c) x).trans (g.kv_at x))).trans ?_
  funext x
  have hx : x = ix3 (x 0) (x 1) (0 : Fin 1) := by
    idx_bounds x
    idx_ext
  exact Eq.trans (v95_real _ _ _ _ x4 q kv kr ct C S g (x 0) (x 1)).symm (congrArg _ hx.symm)

end found

/-- The forward call and the reference's attention agree. -/
theorem equal : Cert.algebraic_MlaFwdIdeal_MlaFwdRefIdeal_pre_mlaf_finite := by
  intro m ρ m' ρ' hp hag
  refine ⟨fun c => (dats m 0 c).arrAt 3 cfg0.N, fun c => (dats m 0 c).arrAt 4 cfg0.N, Cert.MlaFwdIdeal.Value.run_blocks m ρ, ?_⟩
  refine (θ_run _ _ _).mono (fun r h c => ?_) (Cert.MlaFwdRefIdeal.Value.run m' ρ')
  obtain ⟨h0, h1, ha⟩ := h c
  obtain ⟨g0, g1, g2, g3⟩ := hag c
  obtain ⟨q, kv, kr, C, S, k⟩ := known_of _ _ _ _ (hp c)
  refine ⟨?_, ?_, ha⟩
  · exact (h0.trans (Cert.MlaFwdRefIdeal.Read.val_main_v92_eq _ _)).trans ((congr (congr (congr (congrArg (val_main_v92 (F := Ideal)) g0) g1) g2) g3).trans
      (out_same m c q kv kr _ C S _ k).symm)
  · exact (h1.trans (Cert.MlaFwdRefIdeal.Read.val_main_v95_eq _ _)).trans ((congr (congr (congr (congrArg (val_main_v95 (F := Ideal)) g0) g1) g2) g3).trans
      (sums_same m c q kv kr _ C S _ k).symm)

end Cert.Proof.MlaFwd
end
-- ==== Proof.OutProj.lean ====
module

public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pipeline.ReadBack
public import proofs.«01_k».proof.Proof.Rms

@[expose] public section

set_option maxRecDepth 16384

noncomputable section

namespace Cert.Proof.OutProj

open Idealize.ShloMosaic Idealize.ShloMosaic.TcCoe Idealize.SL.Sem
open Cert.OutProjIdeal Cert.OutProjIdeal.Gen Cert.Proof.Rms
open Cert.OutProjRefIdeal.Read (val_main_v0 val_main_v1 val_main_v2 val_main_v3 val_main_v4 val_main_v5 val_main_v6 val_main_v7 val_main_v8 val_main_v9 val_main_v10
  val_main_v11 val_main_v12 val_main_v13 val_main_v14 val_main_cst val_main_cst_0 val_main_cst_1)

/-- A row under its norm and gain. -/
def normed (X G : Fin 1024 → EReal) (j : Fin 1024) : EReal :=
  X j * Rms.inv X (Ideal.ofBits FTy.f32 0x44800000#32) (Ideal.ofBits FTy.f32 0x358637BD#32) * G j

section payload
variable (p : Vec Ideal S512x1024 .bf16) (w : Vec Ideal S1024x1024 .bf16) (x : Vec Ideal S512x1024 .f32) (g : Vec Ideal S1x1024 .f32)

/-- A block's rows after the product. -/
theorem stream_at (i : Fin 512) (j : Fin 1024) :
    k0_pay1 (F := Ideal) p w x (ix2 i j) = (∑ k : Fin 1024, p (ix2 i k) * w (ix2 k j)) + x (ix2 i j) := by
  pointwise [k0_pay1]

/-- A block's normalised rows. -/
theorem normed_at (i : Fin 512) (j : Fin 1024) :
    k0_pay2 (F := Ideal) p w x g (ix2 i j) = normed (fun k : Fin 1024 => k0_pay1 (F := Ideal) p w x (ix2 i k)) (fun k : Fin 1024 => g (ix2 0 k)) j := by
  unfold normed Rms.inv msq
  pointwise [k0_pay2]

end payload

section ref
variable (x0 : Vec Ideal S4096x1024 .f32) (x1 : Vec Ideal S1024x1024 .f32) (x2 : Vec Ideal S4096x1024 .f32) (x3 : Vec Ideal S1x1024 .f32)

/-- The reference's stream. -/
theorem r_stream (i : Fin 4096) (j : Fin 1024) :
    val_main_v1 (F := Ideal) x0 x1 x2 (ix2 i j) = (∑ k : Fin 1024, x0 (ix2 i k) * x1 (ix2 k j)) + x2 (ix2 i j) := by
  rw [add_comm]
  pointwise [val_main_v1, val_main_v0]

/-- The reference's normalised rows. -/
theorem r_normed (i : Fin 4096) (j : Fin 1024) : val_main_v14 (F := Ideal) x0 x1 x2 x3 (ix2 i j)
    = normed (fun k : Fin 1024 => val_main_v1 (F := Ideal) x0 x1 x2 (ix2 i k)) (fun k : Fin 1024 => x3 (ix2 0 k)) j := by
  unfold normed Rms.inv msq
  pointwise [val_main_v2, val_main_v3, val_main_v4, val_main_v5, val_main_v6, val_main_v7, val_main_v8, val_main_v9, val_main_v10, val_main_v11, val_main_v12,
    val_main_v13, val_main_v14, val_main_cst, val_main_cst_0, val_main_cst_1]

end ref

section run
variable (m : (ℓ : Loc nD τ sig) → Buf (Elt Ideal) ℓ) (c : Dev nD)

/-- The mixed branches. -/
abbrev aP : Vec Ideal S4096x1024 .f32 := m ((c : Thread nD τ).loc main_arg0)
/-- The output weights. -/
abbrev aW : Vec Ideal S1024x1024 .f32 := m ((c : Thread nD τ).loc main_arg1)
/-- The stream before. -/
abbrev aX : Vec Ideal S4096x1024 .f32 := m ((c : Thread nD τ).loc main_arg2)
/-- The gain. -/
abbrev aG : Vec Ideal S1x1024 .f32 := m ((c : Thread nD τ).loc main_arg3)

/-- The branches as the region finds them. -/
theorem p_found (y : S4096x1024.Idx) : (V m c main_v0 : Vec Ideal S4096x1024 .bf16) y = aP m c y := by
  dsimp only [V, hostOps0]
  after_results_simp
  rfl

/-- The weights as the region finds them. -/
theorem w_found (y : S1024x1024.Idx) : (V m c main_v1 : Vec Ideal S1024x1024 .bf16) y = aW m c y := by
  dsimp only [V, hostOps0]
  after_results_simp
  rfl

/-- Row windows follow the grid point. -/
theorem moves : ∀ t : Fin cfg0.N, win0_0.index t = ![t.val, 0] ∧ win0_2.index t = ![t.val, 0] ∧ win0_4.index t = ![t.val, 0] ∧ win0_5.index t = ![t.val, 0] :=
  (by decide +kernel : ∀ t : Fin grid0.N, _)

/-- Weights and gain are whole at each point. -/
theorem stays : ∀ t : Fin cfg0.N, win0_1.index t = ![0, 0] ∧ win0_3.index t = ![0, 0] := (by decide +kernel : ∀ t : Fin grid0.N, _)

variable (t : Fin cfg0.N)

/-- A point's weights. -/
theorem w_blk (l k : Fin 1024) : iblk m c 1 t (ix2 l k) = aW m c (ix2 l k) := by
  refine Eq.trans ?_ (w_found m c (ix2 l k))
  blk_simp [iblk]
  refine congrArg _ ?_
  blk_ext [(stays t).1]

/-- A point's gain. -/
theorem g_blk (k : Fin 1024) : iblk m c 3 t (ix2 0 k) = aG m c (ix2 0 k) := by
  refine Eq.trans ?_ (congrFun (V_main_arg3 m c) (ix2 0 k))
  blk_simp [iblk]
  refine congrArg _ ?_
  blk_ext [(stays t).2]

variable (i : Fin 4096) (r : Fin 512) (hi : i.val = t.val * 512 + r.val)
include hi

/-- A point's branches. -/
theorem p_blk (l : Fin 1024) : iblk m c 0 t (ix2 r l) = aP m c (ix2 i l) := by
  refine Eq.trans ?_ (p_found m c (ix2 i l))
  blk_simp [iblk]
  refine congrArg _ ?_
  blk_ext [(moves t).1, hi]

/-- A point's rows of the stream. -/
theorem x_blk (k : Fin 1024) : iblk m c 2 t (ix2 r k) = aX m c (ix2 i k) := by
  refine Eq.trans ?_ (congrFun (V_main_arg2 m c) (ix2 i k))
  blk_simp [iblk]
  refine congrArg _ ?_
  blk_ext [(moves t).2.1, hi]

/-- A point's product rows are rows of the reference's stream. -/
theorem stream_blk (k : Fin 1024) :
    k0_pay1 (F := Ideal) (iblk m c 0 t) (iblk m c 1 t) (iblk m c 2 t) (ix2 r k) = val_main_v1 (F := Ideal) (aP m c) (aW m c) (aX m c) (ix2 i k) := by
  refine (stream_at _ _ _ r k).trans ((congrArg₂ (fun a b : EReal => a + b) ?_ (x_blk m c t i r hi k)).trans (r_stream _ _ _ i k).symm)
  exact Finset.sum_congr rfl fun l _ => congrArg₂ (fun a b : EReal => a * b) (p_blk m c t i r hi l) (w_blk m c t l k)

/-- A point's normalised rows are the reference's. -/
theorem normed_blk (k : Fin 1024) :
    k0_pay2 (F := Ideal) (iblk m c 0 t) (iblk m c 1 t) (iblk m c 2 t) (iblk m c 3 t) (ix2 r k)
      = val_main_v14 (F := Ideal) (aP m c) (aW m c) (aX m c) (aG m c) (ix2 i k) :=
  (normed_at _ _ _ _ r k).trans ((congrArg₂ (fun X G => normed X G k) (funext fun l => stream_blk m c t i r hi l) (funext fun l => g_blk m c t l)).trans
    (r_normed _ _ _ _ i k).symm)

/-- What a point leaves of the stream. -/
theorem stream_out (k : Fin 1024) :
    out0_4 (F := Ideal) (iblk m c 0 t) (iblk m c 1 t) (iblk m c 2 t) (iblk m c 3 t) (ix2 r k) = val_main_v1 (F := Ideal) (aP m c) (aW m c) (aX m c) (ix2 i k) := by
  frame_out
  exact stream_blk m c t i r hi k

/-- What a point leaves of the normalised rows. -/
theorem normed_out (k : Fin 1024) :
    out0_5 (F := Ideal) (iblk m c 0 t) (iblk m c 1 t) (iblk m c 2 t) (iblk m c 3 t) (ix2 r k)
      = val_main_v14 (F := Ideal) (aP m c) (aW m c) (aX m c) (aG m c) (ix2 i k) := by
  frame_out
  exact normed_blk m c t i r hi k

end run

section result
variable (m : (ℓ : Loc nD τ sig) → Buf (Elt Ideal) ℓ)

/-- The stream after the run. -/
theorem out_stream (c : Dev nD) : (dats m 0 c).arrAt 4 cfg0.N = val_main_v1 (F := Ideal) (aP m c) (aW m c) (aX m c) := by
  refine (dats m 0 c).arrAt_eq_of_covers 4 _ (by decide +kernel) fun t hf y => ?_
  blk_simp
  rw [after0_4]
  have h0 : (((View.whole main_v2_0).slice (win0_4.rect t)).emb y 0).val = t.val * 512 + (y 0).val := by blk_simp [(moves t).2.2.1]
  have h1 : (((View.whole main_v2_0).slice (win0_4.rect t)).emb y 1).val = (y 1).val := by blk_simp [(moves t).2.2.1]
  idx_bounds y
  have ht : t.val < 8 := t.isLt
  have hy : (y : S512x1024.Idx) = ix2 (y 0) (y 1) := by idx_ext
  exact (congrArg (out0_4 (F := Ideal) (iblk m c 0 t) (iblk m c 1 t) (iblk m c 2 t) (iblk m c 3 t)) hy).trans
    ((stream_out m c t ⟨t.val * 512 + (y 0).val, by omega⟩ (y 0) rfl (y 1)).trans
      (congrArg (val_main_v1 (F := Ideal) (aP m c) (aW m c) (aX m c)) (funext fun | 0 => Fin.ext h0.symm | 1 => Fin.ext h1.symm)))

/-- The normalised rows after the run. -/
theorem out_normed (c : Dev nD) : (dats m 0 c).arrAt 5 cfg0.N = val_main_v14 (F := Ideal) (aP m c) (aW m c) (aX m c) (aG m c) := by
  refine (dats m 0 c).arrAt_eq_of_covers 5 _ (by decide +kernel) fun t hf y => ?_
  blk_simp
  rw [after0_5]
  have h0 : (((View.whole main_v2_1).slice (win0_5.rect t)).emb y 0).val = t.val * 512 + (y 0).val := by blk_simp [(moves t).2.2.2]
  have h1 : (((View.whole main_v2_1).slice (win0_5.rect t)).emb y 1).val = (y 1).val := by blk_simp [(moves t).2.2.2]
  idx_bounds y
  have ht : t.val < 8 := t.isLt
  have hy : (y : S512x1024.Idx) = ix2 (y 0) (y 1) := by idx_ext
  exact (congrArg (out0_5 (F := Ideal) (iblk m c 0 t) (iblk m c 1 t) (iblk m c 2 t) (iblk m c 3 t)) hy).trans
    ((normed_out m c t ⟨t.val * 512 + (y 0).val, by omega⟩ (y 0) rfl (y 1)).trans
      (congrArg (val_main_v14 (F := Ideal) (aP m c) (aW m c) (aX m c) (aG m c)) (funext fun | 0 => Fin.ext h0.symm | 1 => Fin.ext h1.symm)))

/-- Both results of the call are the reference's. -/
theorem equal : Cert.algebraic_OutProjIdeal_OutProjRefIdeal := by
  intro m ρ m' ρ' _ hag
  refine ⟨fun c => val_main_v1 (F := Ideal) (aP m c) (aW m c) (aX m c), fun c => val_main_v14 (F := Ideal) (aP m c) (aW m c) (aX m c) (aG m c), ?_, ?_⟩
  · refine (θ_run _ _ _).mono (fun r h c => ?_) (Cert.OutProjIdeal.Value.run_blocks m ρ)
    obtain ⟨h0, h1, ha⟩ := h c
    exact ⟨h0.trans (out_stream m c), h1.trans (out_normed m c), ha⟩
  · refine (θ_run _ _ _).mono (fun r h c => ?_) (Cert.OutProjRefIdeal.Value.run m' ρ')
    obtain ⟨h0, h1, ha⟩ := h c
    obtain ⟨g0, g1, g2, g3⟩ := hag c
    exact ⟨(h0.trans (Cert.OutProjRefIdeal.Read.val_main_v1_eq _ _ _)).trans (congr (congr (congrArg (val_main_v1 (F := Ideal)) g0) g1) g2),
      (h1.trans (Cert.OutProjRefIdeal.Read.val_main_v14_eq _ _ _ _)).trans (congr (congr (congr (congrArg (val_main_v14 (F := Ideal)) g0) g1) g2) g3), ha⟩

end result
end Cert.Proof.OutProj
end
-- ==== Proof.LatFwd.lean ====
module

public import proofs.«01_k».proof.Defs
public import proofs.«01_k».proof.Proof.Gen.LatFwdIdeal.Value
public import proofs.«01_k».proof.Proof.Gen.LatFwdRefIdeal.Run
public import proofs.«01_k».proof.Proof.Gen.LatFwdRefIdeal.Read
public import Idealize.ShloMosaic.Lib.Pipeline.ValueKit
public import Idealize.ShloMosaic.Lib.Pipeline.ReadBack
public import proofs.«01_k».proof.Proof.Lat

@[expose] public section

set_option maxRecDepth 16384

noncomputable section

namespace Cert.Proof.LatFwd

open Idealize.ShloMosaic Idealize.ShloMosaic.TcCoe Idealize.SL.Sem
open Cert.LatFwdIdeal Cert.LatFwdIdeal.Gen Cert.Proof.Rms
open Cert.Proof.Lat (wQ wC wE hP hP_at packed_q packed_c hA)

/-- A row under a norm and a gain. -/
def normed {n : ℕ} (w : EReal) (X G : Fin n → EReal) (j : Fin n) : EReal := X j * Rms.inv X w wE * G j

section payload

/-- A block's normalised query rows. -/
theorem nq_at (x : Vec Ideal S256x256 .bf16) (g : Vec Ideal S1x256 .f32) (i j : Fin 256) :
    k0_pay1 (F := Ideal) (k0_pay7 (F := Ideal) x g) (ix2 i j) = normed wQ (fun k : Fin 256 => x (ix2 i k)) (fun k : Fin 256 => g (ix2 0 k)) j := by
  unfold normed Rms.inv msq
  pointwise [k0_pay1, k0_pay7]

/-- A block's normalised key rows. -/
theorem nc_at (x : Vec Ideal S256x128 .bf16) (g : Vec Ideal S1x128 .f32) (i : Fin 256) (j : Fin 128) :
    k0_pay2 (F := Ideal) (k0_pay8 (F := Ideal) x g) (ix2 i j) = normed wC (fun k : Fin 128 => x (ix2 i k)) (fun k : Fin 128 => g (ix2 0 k)) j := by
  unfold normed Rms.inv msq
  pointwise [k0_pay2, k0_pay8]

/-- The lane that a rotated lane is mixed with. -/
def mate (l : Fin 128) : Fin 128 := if l.val < 32 then ⟨(l.val + 32) % 128, by omega⟩ else ⟨(l.val + 96) % 128, by omega⟩

/-- A block's rotated lanes. -/
theorem rot_at (x : Vec Ideal S256x128 .bf16) (C S : Vec Ideal S256x128 .f32) (i : Fin 256) (l : Fin 128) :
    k0_pay3 (F := Ideal) (k0_pay4 (F := Ideal) x) (k0_pay5 (F := Ideal) C) (k0_pay6 (F := Ideal) S) (ix2 i l)
      = x (ix2 i l) * C (ix2 i l) + x (ix2 i (mate l)) * S (ix2 i l) := by
  pointwise [k0_pay3, k0_pay4, k0_pay5, k0_pay6]
  have e96 : (⟨(l.val + 128 - 96) % 128, by omega⟩ : Fin 128) = ⟨(l.val + 32) % 128, by omega⟩ := Fin.ext (by simp only [Fin.val_mk]; omega)
  have e32 : (⟨(l.val + 128 - 32) % 128, by omega⟩ : Fin 128) = ⟨(l.val + 96) % 128, by omega⟩ := Fin.ext (by simp only [Fin.val_mk]; omega)
  rw [e96, e32]
  have hw := WordCmp.cmpi_slt_ofNat_eq_one_iff (w := 32) (a := l.val) (b := 32) (by omega) (by omega)
  unfold mate
  by_cases hl : l.val < 32
  · rw [if_pos hl, Scalar.select]
    exact congrArg (fun z => _ + z * S (ix2 i l)) (if_pos (hw.2 hl))
  · rw [if_neg hl, Scalar.select]
    exact congrArg (fun z => _ + z * S (ix2 i l)) (if_neg fun e => hl (hw.1 e))

end payload

/-- The cosines for all lanes: two copies, then ones. -/
def wide (p : Vec Ideal S4096 .i32) : FVec Ideal S4096x128 .f32 :=
  concatenate S4096x128 1 [⟨S4096x32, Host.cos (F := Ideal) (hA p)⟩, ⟨S4096x32, Host.cos (F := Ideal) (hA p)⟩,
    ⟨S4096x64, broadcastInDim S4096x64 ![] bcast_S_S4096x64 (constant (F := Ideal) S_ .f32 0x3F800000#32)⟩] concatenates_S4096x32_S4096x32_S4096x64_S4096x128_d1

/-- The sines for all lanes: negated, plain, then zeros. -/
def signed (p : Vec Ideal S4096 .i32) : FVec Ideal S4096x128 .f32 :=
  concatenate S4096x128 1 [⟨S4096x32, Host.negf (F := Ideal) (Host.sin (F := Ideal) (hA p))⟩, ⟨S4096x32, Host.sin (F := Ideal) (hA p)⟩,
    ⟨S4096x64, broadcastInDim S4096x64 ![] bcast_S_S4096x64 (constant (F := Ideal) S_ .f32 0x00000000#32)⟩] concatenates_S4096x32_S4096x32_S4096x64_S4096x128_d1

section tables
variable (p : Vec Ideal S4096 .i32) (i : Fin 4096)

/-- The first and second 32 lanes of the cosines. -/
theorem wide_at (l : Fin 32) : wide p (ix2 i ⟨l.val, by omega⟩) = Host.cos (F := Ideal) (hA p) (ix2 i l)
    ∧ wide p (ix2 i ⟨32 + l.val, by omega⟩) = Host.cos (F := Ideal) (hA p) (ix2 i l) := by
  generalize hc : Host.cos (F := Ideal) (hA p) = T
  constructor
  · pointwise [wide, hc]
  · pointwise [wide, hc]

/-- The first 32 lanes of the sines are negated, the next are not, the others are zero. -/
theorem signed_at (l : Fin 32) : signed p (ix2 i ⟨l.val, by omega⟩) = -Host.sin (F := Ideal) (hA p) (ix2 i l)
    ∧ signed p (ix2 i ⟨32 + l.val, by omega⟩) = Host.sin (F := Ideal) (hA p) (ix2 i l) := by
  generalize hc : Host.sin (F := Ideal) (hA p) = T
  constructor
  · pointwise [signed, hc]
  · pointwise [signed, hc]

/-- The last lanes of the sines. -/
theorem signed_tail (l : Fin 64) : signed p (ix2 i ⟨64 + l.val, by omega⟩) = 0 := by
  generalize hc : Host.sin (F := Ideal) (hA p) = T
  pointwise [signed, hc]
  rw [dif_neg (by omega), dif_neg (by omega)]

end tables

/-- The shared key's row: 64 plain lanes, then zeros, with the lanes turned in pairs. -/
def turned (x : Fin 4032 → EReal) (cs sn : Fin 32 → EReal) (l : Fin 128) : EReal :=
  if h : l.val < 64 then
    if h1 : l.val < 32 then x ⟨384 + l.val, by omega⟩ * cs ⟨l.val, h1⟩ - x ⟨416 + l.val, by omega⟩ * sn ⟨l.val, h1⟩
    else x ⟨416 + (l.val - 32), by omega⟩ * cs ⟨l.val - 32, by omega⟩ + x ⟨384 + (l.val - 32), by omega⟩ * sn ⟨l.val - 32, by omega⟩
  else 0

/-- A lane of the shared key in the packed order. -/
def lane (x : Fin 4032 → EReal) (l : Fin 128) : EReal := Layout.packed x ⟨3968 + l.val, by omega⟩

/-- The first 64 of them are plain columns. -/
theorem lane_key (x : Fin 4032 → EReal) (l : Fin 128) (n : Fin 4032) (h : l.val < 64) (hn : n.val = 384 + l.val) : lane x l = x n := by
  have hc : Layout.col (3968 + l.val) = n.val := by
    rcases Layout.col_cases (3968 + l.val) with h | h | h | h | h | h <;> omega
  unfold lane Layout.packed
  have hlt : Layout.col (3968 + l.val) < 4032 := by omega
  rw [dif_pos hlt]
  exact congrArg x (Fin.ext hc)

/-- The others are zero. -/
theorem lane_zero (x : Fin 4032 → EReal) (l : Fin 128) (h : 64 ≤ l.val) : lane x l = 0 := by
  have hc : Layout.col (3968 + l.val) = 3968 + l.val := by
    rcases Layout.col_cases (3968 + l.val) with h | h | h | h | h | h <;> omega
  unfold lane Layout.packed
  have hlt : ¬ Layout.col (3968 + l.val) < 4032 := by omega
  rw [dif_neg hlt]

/-- Turning the packed lanes with the wide tables turns the plain lanes. -/
theorem turned_of_lanes (x : Fin 4032 → EReal) (p : Vec Ideal S4096 .i32) (i : Fin 4096) (l : Fin 128) :
    lane x l * wide p (ix2 i l) + lane x (mate l) * signed p (ix2 i l)
      = turned x (fun k => Host.cos (F := Ideal) (hA p) (ix2 i k)) (fun k => Host.sin (F := Ideal) (hA p) (ix2 i k)) l := by
  unfold turned
  by_cases h1 : l.val < 32
  · have hm : (mate l).val = l.val + 32 := by
      unfold mate
      rw [if_pos h1]
      show (l.val + 32) % 128 = _
      omega
    have hw : wide p (ix2 i l) = Host.cos (F := Ideal) (hA p) (ix2 i ⟨l.val, h1⟩) := (wide_at p i ⟨l.val, h1⟩).1
    have hs : signed p (ix2 i l) = -Host.sin (F := Ideal) (hA p) (ix2 i ⟨l.val, h1⟩) := (signed_at p i ⟨l.val, h1⟩).1
    rw [dif_pos (by omega : l.val < 64), dif_pos h1, hw, hs, lane_key x l ⟨384 + l.val, by omega⟩ (by omega) rfl,
      lane_key x (mate l) ⟨416 + l.val, by omega⟩ (by omega) (by show 416 + l.val = _; omega), mul_neg, ← sub_eq_add_neg]
  by_cases h2 : l.val < 64
  · have hm : (mate l).val = l.val - 32 := by
      unfold mate
      rw [if_neg h1]
      show (l.val + 96) % 128 = _
      omega
    have e : (⟨32 + (l.val - 32), by omega⟩ : Fin 128) = l := Fin.ext (by show 32 + (l.val - 32) = l.val; omega)
    have hw : wide p (ix2 i l) = Host.cos (F := Ideal) (hA p) (ix2 i ⟨l.val - 32, by omega⟩) :=
      (congrArg (fun z => wide p (ix2 i z)) e.symm).trans (wide_at p i ⟨l.val - 32, by omega⟩).2
    have hs : signed p (ix2 i l) = Host.sin (F := Ideal) (hA p) (ix2 i ⟨l.val - 32, by omega⟩) :=
      (congrArg (fun z => signed p (ix2 i z)) e.symm).trans (signed_at p i ⟨l.val - 32, by omega⟩).2
    rw [dif_pos h2, dif_neg h1, hw, hs, lane_key x l ⟨416 + (l.val - 32), by omega⟩ h2 (by show 416 + (l.val - 32) = _; omega),
      lane_key x (mate l) ⟨384 + (l.val - 32), by omega⟩ (by omega) (by show 384 + (l.val - 32) = _; omega)]
  · have e : (⟨64 + (l.val - 64), by omega⟩ : Fin 128) = l := Fin.ext (by show 64 + (l.val - 64) = l.val; omega)
    have hs : signed p (ix2 i l) = 0 := (congrArg (fun z => signed p (ix2 i z)) e.symm).trans (signed_tail p i ⟨l.val - 64, by omega⟩)
    rw [dif_neg h2, hs, lane_zero x l (by omega), zero_mul, mul_zero, add_zero]

section ref
variable (x0 : Vec Ideal S4096x4032 .f32) (x1 : Vec Ideal S4096 .i32) (x2 : Vec Ideal S1x256 .f32) (x3 : Vec Ideal S1x128 .f32)
open Cert.LatFwdRefIdeal.Read

/-- The reference's normalised queries. -/
theorem r_nq (i : Fin 4096) (j : Fin 256) :
    val_main_v50 (F := Ideal) x0 x2 (ix2 i j) = normed wQ (fun k : Fin 256 => x0 (ix2 i ⟨k.val, by omega⟩)) (fun k : Fin 256 => x2 (ix2 0 k)) j := by
  unfold normed Rms.inv msq
  pointwise [val_main_v50, val_main_v49, val_main_v48, val_main_v47, val_main_v46, val_main_v45, val_main_v44, val_main_v43, val_main_v42, val_main_v41,
    val_main_v40, val_main_v39, val_main_v38, val_main_v0, val_main_cst_2, val_main_cst_3, val_main_cst_4]

/-- The reference's normalised keys. -/
theorem r_nc (i : Fin 4096) (j : Fin 128) :
    val_main_v63 (F := Ideal) x0 x3 (ix2 i j) = normed wC (fun k : Fin 128 => x0 (ix2 i ⟨256 + k.val, by omega⟩)) (fun k : Fin 128 => x3 (ix2 0 k)) j := by
  unfold normed Rms.inv msq
  pointwise [val_main_v63, val_main_v62, val_main_v61, val_main_v60, val_main_v59, val_main_v58, val_main_v57, val_main_v56, val_main_v55, val_main_v54,
    val_main_v53, val_main_v52, val_main_v51, val_main_v7, val_main_v1, val_main_cst_5, val_main_cst_6, val_main_cst_7]

/-- The reference's cosines and sines are those of the call. -/
theorem r_tables : val_main_v22 (F := Ideal) x1 = Host.cos (F := Ideal) (hA x1) ∧ val_main_v24 (F := Ideal) x1 = Host.sin (F := Ideal) (hA x1) := ⟨rfl, rfl⟩

/-- The reference's rotated key. -/
theorem r_rot (i : Fin 4096) (l : Fin 128) : val_main_v64 (F := Ideal) x0 x1 (ix2 i l)
    = turned (fun k : Fin 4032 => x0 (ix2 i k)) (fun k => Host.cos (F := Ideal) (hA x1) (ix2 i k)) (fun k => Host.sin (F := Ideal) (hA x1) (ix2 i k)) l := by
  rw [← (r_tables x1).1, ← (r_tables x1).2]
  generalize hc : val_main_v22 (F := Ideal) x1 = C
  generalize hs : val_main_v24 (F := Ideal) x1 = S
  unfold turned
  pointwise [val_main_v64, val_main_v37, val_main_v36, val_main_v35, val_main_v34, val_main_v33, val_main_v32, val_main_v31, val_main_v30, val_main_v29,
    val_main_v28, val_main_v27, val_main_v26, val_main_v25, val_main_v23, val_main_v9, val_main_v8, val_main_v1, val_main_cst_1, hc, hs]
  simp only [← Nat.add_assoc, Nat.reduceAdd]

end ref

section run
variable (m : (ℓ : Loc nD τ sig) → Buf (Elt Ideal) ℓ) (c : Dev nD)
open Cert.LatFwdRefIdeal.Read (val_main_v50 val_main_v63 val_main_v64)

/-- The projection. -/
abbrev aP : Vec Ideal S4096x4032 .f32 := m ((c : Thread nD τ).loc main_arg0)
/-- The positions. -/
abbrev aI : Vec Ideal S4096 .i32 := m ((c : Thread nD τ).loc main_arg1)
/-- The queries' gain. -/
abbrev aQ : Vec Ideal S1x256 .f32 := m ((c : Thread nD τ).loc main_arg2)
/-- The keys' gain. -/
abbrev aC : Vec Ideal S1x128 .f32 := m ((c : Thread nD τ).loc main_arg3)

/-- What the region finds: the packed projection and the two wide tables. -/
theorem found : (V m c main_v29 : Vec Ideal S4096x4096 .bf16) = hP (aP m c) ∧ (V m c main_v15 : Vec Ideal S4096x128 .f32) = wide (aI m c)
    ∧ (V m c main_v18 : Vec Ideal S4096x128 .f32) = signed (aI m c) := by
  refine ⟨?_, ?_, ?_⟩
  · dsimp only [V, hostOps0]
    after_results_simp <;> (try dsimp only [Matrix.cons_val]) <;> (try after_results_simp) <;> (try dsimp only [Matrix.cons_val]) <;> (try after_results_simp) <;> rfl
  · dsimp only [V, hostOps0]
    after_results_simp <;> (try dsimp only [Matrix.cons_val]) <;> (try after_results_simp) <;> (try dsimp only [Matrix.cons_val]) <;> (try after_results_simp) <;> rfl
  · dsimp only [V, hostOps0]
    after_results_simp <;> (try dsimp only [Matrix.cons_val]) <;> (try after_results_simp) <;> (try dsimp only [Matrix.cons_val]) <;> (try after_results_simp) <;> rfl

/-- Row windows follow the grid point, each at its own columns. -/
theorem moves : ∀ t : Fin cfg0.N, win0_0.index t = ![t.val, 12] ∧ win0_1.index t = ![t.val, 30] ∧ win0_2.index t = ![t.val, 31]
    ∧ win0_5.index t = ![t.val, 0] ∧ win0_6.index t = ![t.val, 0] :=
  (by decide +kernel : ∀ t : Fin grid0.N, _)

/-- Gains stay; results follow the grid point. -/
theorem lands : ∀ t : Fin cfg0.N, win0_3.index t = ![0, 0] ∧ win0_4.index t = ![0, 0] ∧ win0_7.index t = ![t.val, 0] ∧ win0_8.index t = ![t.val, 0]
    ∧ win0_9.index t = ![t.val, 0] :=
  (by decide +kernel : ∀ t : Fin grid0.N, _)

variable (t : Fin cfg0.N)

/-- A point's two gains. -/
theorem gains_blk : (∀ k : Fin 256, iblk m c 3 t (ix2 0 k) = aQ m c (ix2 0 k)) ∧ (∀ k : Fin 128, iblk m c 4 t (ix2 0 k) = aC m c (ix2 0 k)) := by
  constructor
  · intro k
    refine Eq.trans ?_ (congrFun (V_main_arg2 m c) (ix2 0 k))
    blk_simp [iblk]
    refine congrArg _ ?_
    blk_ext [(lands t).1]
  · intro k
    refine Eq.trans ?_ (congrFun (V_main_arg3 m c) (ix2 0 k))
    blk_simp [iblk]
    refine congrArg _ ?_
    blk_ext [(lands t).2.1]

variable (i : Fin 4096) (r : Fin 256) (hi : i.val = t.val * 256 + r.val)
include hi

/-- A point's query columns. -/
theorem q_blk (k : Fin 256) : iblk m c 0 t (ix2 r k) = aP m c (ix2 i ⟨k.val, by omega⟩) := by
  refine Eq.trans ?_ ((congrFun (found m c).1 (ix2 i ⟨3072 + k.val, by omega⟩)).trans ((hP_at _ _ _).trans (packed_q _ k _ rfl)))
  blk_simp [iblk]
  refine congrArg _ ?_
  blk_ext [(moves t).1, hi]

/-- A point's key columns. -/
theorem c_blk (k : Fin 128) : iblk m c 1 t (ix2 r k) = aP m c (ix2 i ⟨256 + k.val, by omega⟩) := by
  refine Eq.trans ?_ ((congrFun (found m c).1 (ix2 i ⟨3840 + k.val, by omega⟩)).trans ((hP_at _ _ _).trans (packed_c _ k _ rfl)))
  blk_simp [iblk]
  refine congrArg _ ?_
  blk_ext [(moves t).2.1, hi]

/-- A point's lanes of the shared key. -/
theorem k_blk (k : Fin 128) : iblk m c 2 t (ix2 r k) = lane (fun k : Fin 4032 => aP m c (ix2 i k)) k := by
  refine Eq.trans ?_ ((congrFun (found m c).1 (ix2 i ⟨3968 + k.val, by omega⟩)).trans (hP_at _ _ _))
  blk_simp [iblk]
  refine congrArg _ ?_
  blk_ext [(moves t).2.2.1, hi]

/-- A point's cosines and sines. -/
theorem tables_blk (k : Fin 128) : iblk m c 5 t (ix2 r k) = wide (aI m c) (ix2 i k) ∧ iblk m c 6 t (ix2 r k) = signed (aI m c) (ix2 i k) := by
  constructor
  · refine Eq.trans ?_ (congrFun (found m c).2.1 (ix2 i k))
    blk_simp [iblk]
    refine congrArg _ ?_
    blk_ext [(moves t).2.2.2.1, hi]
  · refine Eq.trans ?_ (congrFun (found m c).2.2 (ix2 i k))
    blk_simp [iblk]
    refine congrArg _ ?_
    blk_ext [(moves t).2.2.2.2, hi]

/-- What a point leaves of the normalised queries. -/
theorem nq_out (k : Fin 256) : out0_7 (F := Ideal) (iblk m c 0 t) (iblk m c 1 t) (iblk m c 2 t) (iblk m c 3 t) (iblk m c 4 t) (iblk m c 5 t) (iblk m c 6 t) (ix2 r k)
    = val_main_v50 (F := Ideal) (aP m c) (aQ m c) (ix2 i k) := by
  frame_out
  exact (nq_at _ _ r k).trans ((congrArg₂ (fun X G => normed wQ X G k) (funext fun l => q_blk m c t i r hi l) (funext fun l => (gains_blk m c t).1 l)).trans
    (r_nq _ _ i k).symm)

/-- What a point leaves of the normalised keys. -/
theorem nc_out (k : Fin 128) : out0_8 (F := Ideal) (iblk m c 0 t) (iblk m c 1 t) (iblk m c 2 t) (iblk m c 3 t) (iblk m c 4 t) (iblk m c 5 t) (iblk m c 6 t) (ix2 r k)
    = val_main_v63 (F := Ideal) (aP m c) (aC m c) (ix2 i k) := by
  frame_out
  exact (nc_at _ _ r k).trans ((congrArg₂ (fun X G => normed wC X G k) (funext fun l => c_blk m c t i r hi l) (funext fun l => (gains_blk m c t).2 l)).trans
    (r_nc _ _ i k).symm)

/-- What a point leaves of the rotated key. -/
theorem rot_out (k : Fin 128) : out0_9 (F := Ideal) (iblk m c 0 t) (iblk m c 1 t) (iblk m c 2 t) (iblk m c 3 t) (iblk m c 4 t) (iblk m c 5 t) (iblk m c 6 t) (ix2 r k)
    = val_main_v64 (F := Ideal) (aP m c) (aI m c) (ix2 i k) := by
  frame_out
  refine (rot_at _ _ _ r k).trans (Eq.trans ?_ ((turned_of_lanes (fun k : Fin 4032 => aP m c (ix2 i k)) (aI m c) i k).trans (r_rot _ _ i k).symm))
  exact congrArg₂ (fun a b : EReal => a + b) (congrArg₂ (fun a b : EReal => a * b) (k_blk m c t i r hi k) (tables_blk m c t i r hi k).1)
    (congrArg₂ (fun a b : EReal => a * b) (k_blk m c t i r hi (mate k)) (tables_blk m c t i r hi k).2)

end run

section result
variable (m : (ℓ : Loc nD τ sig) → Buf (Elt Ideal) ℓ)
open Cert.LatFwdRefIdeal.Read (val_main_v50 val_main_v63 val_main_v64)

/-- The normalised queries after the run. -/
theorem arr_nq (c : Dev nD) : (dats m 0 c).arrAt 7 cfg0.N = val_main_v50 (F := Ideal) (aP m c) (aQ m c) := by
  refine (dats m 0 c).arrAt_eq_of_covers 7 _ (by decide +kernel) fun t hf y => ?_
  blk_simp
  rw [after0_7]
  have h0 : (((View.whole main_v30_0).slice (win0_7.rect t)).emb y 0).val = t.val * 256 + (y 0).val := by blk_simp [(lands t).2.2.1]
  have h1 : (((View.whole main_v30_0).slice (win0_7.rect t)).emb y 1).val = (y 1).val := by blk_simp [(lands t).2.2.1]
  idx_bounds y
  have ht : t.val < 16 := t.isLt
  have hy : (y : S256x256.Idx) = ix2 (y 0) (y 1) := by idx_ext
  exact (congrArg (out0_7 (F := Ideal) (iblk m c 0 t) (iblk m c 1 t) (iblk m c 2 t) (iblk m c 3 t) (iblk m c 4 t) (iblk m c 5 t) (iblk m c 6 t)) hy).trans
    ((nq_out m c t ⟨t.val * 256 + (y 0).val, by omega⟩ (y 0) rfl (y 1)).trans
      (congrArg (val_main_v50 (F := Ideal) (aP m c) (aQ m c)) (funext fun | 0 => Fin.ext h0.symm | 1 => Fin.ext h1.symm)))

/-- The normalised keys after the run. -/
theorem arr_nc (c : Dev nD) : (dats m 0 c).arrAt 8 cfg0.N = val_main_v63 (F := Ideal) (aP m c) (aC m c) := by
  refine (dats m 0 c).arrAt_eq_of_covers 8 _ (by decide +kernel) fun t hf y => ?_
  blk_simp
  rw [after0_8]
  have h0 : (((View.whole main_v30_1).slice (win0_8.rect t)).emb y 0).val = t.val * 256 + (y 0).val := by blk_simp [(lands t).2.2.2.1]
  have h1 : (((View.whole main_v30_1).slice (win0_8.rect t)).emb y 1).val = (y 1).val := by blk_simp [(lands t).2.2.2.1]
  idx_bounds y
  have ht : t.val < 16 := t.isLt
  have hy : (y : S256x128.Idx) = ix2 (y 0) (y 1) := by idx_ext
  exact (congrArg (out0_8 (F := Ideal) (iblk m c 0 t) (iblk m c 1 t) (iblk m c 2 t) (iblk m c 3 t) (iblk m c 4 t) (iblk m c 5 t) (iblk m c 6 t)) hy).trans
    ((nc_out m c t ⟨t.val * 256 + (y 0).val, by omega⟩ (y 0) rfl (y 1)).trans
      (congrArg (val_main_v63 (F := Ideal) (aP m c) (aC m c)) (funext fun | 0 => Fin.ext h0.symm | 1 => Fin.ext h1.symm)))

/-- The rotated key after the run. -/
theorem arr_rot (c : Dev nD) : (dats m 0 c).arrAt 9 cfg0.N = val_main_v64 (F := Ideal) (aP m c) (aI m c) := by
  refine (dats m 0 c).arrAt_eq_of_covers 9 _ (by decide +kernel) fun t hf y => ?_
  blk_simp
  rw [after0_9]
  have h0 : (((View.whole main_v30_2).slice (win0_9.rect t)).emb y 0).val = t.val * 256 + (y 0).val := by blk_simp [(lands t).2.2.2.2]
  have h1 : (((View.whole main_v30_2).slice (win0_9.rect t)).emb y 1).val = (y 1).val := by blk_simp [(lands t).2.2.2.2]
  idx_bounds y
  have ht : t.val < 16 := t.isLt
  have hy : (y : S256x128.Idx) = ix2 (y 0) (y 1) := by idx_ext
  exact (congrArg (out0_9 (F := Ideal) (iblk m c 0 t) (iblk m c 1 t) (iblk m c 2 t) (iblk m c 3 t) (iblk m c 4 t) (iblk m c 5 t) (iblk m c 6 t)) hy).trans
    ((rot_out m c t ⟨t.val * 256 + (y 0).val, by omega⟩ (y 0) rfl (y 1)).trans
      (congrArg (val_main_v64 (F := Ideal) (aP m c) (aI m c)) (funext fun | 0 => Fin.ext h0.symm | 1 => Fin.ext h1.symm)))

/-- All three results of the call are the reference's. -/
theorem equal : Cert.algebraic_LatFwdIdeal_LatFwdRefIdeal := by
  intro m ρ m' ρ' _ hag
  refine ⟨fun c => val_main_v50 (F := Ideal) (aP m c) (aQ m c), fun c => val_main_v63 (F := Ideal) (aP m c) (aC m c),
    fun c => val_main_v64 (F := Ideal) (aP m c) (aI m c), ?_, ?_⟩
  · refine (θ_run _ _ _).mono (fun r h c => ?_) (Cert.LatFwdIdeal.Value.run_blocks m ρ)
    obtain ⟨h0, h1, h2, ha⟩ := h c
    exact ⟨h0.trans (arr_nq m c), h1.trans (arr_nc m c), h2.trans (arr_rot m c), ha⟩
  · refine (θ_run _ _ _).mono (fun r h c => ?_) (Cert.LatFwdRefIdeal.Value.run m' ρ')
    obtain ⟨h0, h1, h2, ha⟩ := h c
    obtain ⟨g0, g1, g2, g3⟩ := hag c
    exact ⟨(h0.trans (Cert.LatFwdRefIdeal.Read.val_main_v50_eq _ _)).trans (congr (congrArg (val_main_v50 (F := Ideal)) g0) g2),
      (h1.trans (Cert.LatFwdRefIdeal.Read.val_main_v63_eq _ _)).trans (congr (congrArg (val_main_v63 (F := Ideal)) g0) g3),
      (h2.trans (Cert.LatFwdRefIdeal.Read.val_main_v64_eq _ _)).trans (congr (congrArg (val_main_v64 (F := Ideal)) g0) g1), ha⟩

end result
end Cert.Proof.LatFwd
end
-- ==== Proof.QUpRows.lean ====
module

public import proofs.«01_k».proof.Defs
public import proofs.«01_k».proof.Proof.Gen.QUpIdeal.Value
public import proofs.«01_k».proof.Proof.Gen.QUpRefIdeal.Run
public import proofs.«01_k».proof.Proof.Gen.QUpRefIdeal.Read
public import Idealize.ShloMosaic.Lib.Pipeline.ValueKit
public import Idealize.ShloMosaic.Lib.Pipeline.ReadBack
public import proofs.«01_k».proof.Proof.LatFwd

@[expose] public section

set_option maxRecDepth 16384

noncomputable section

namespace Cert.Proof.QUp

open Idealize.ShloMosaic Idealize.ShloMosaic.TcCoe Idealize.SL.Sem
open Cert.QUpIdeal Cert.QUpIdeal.Gen
open Cert.Proof.Lat (hA)
open Cert.Proof.LatFwd (mate wide signed lane lane_key lane_zero turned turned_of_lanes)

/-- The scale of the scores, as the call spells it. -/
def scale : EReal := Ideal.ofBits .f32 0x3DD53B95#32

/-- One head of a block: plain lanes beside turned lanes. -/
def head (A : FVec Ideal S512x2048 .f32) (C S : FVec Ideal S512x128 .f32) (p q : ℕ) (hp : S512x2048.Slices ![0, p] S512x128)
    (hq : S512x2048.Slices ![0, q] S512x128) : FVec Ideal S1x512x256 .f32 :=
  shapeCast S1x512x256 (concatenate S512x256 1 [⟨S512x128, extractStridedSlice S512x128 ![0, p] A hp⟩,
    ⟨S512x128, addf (mulf (extractStridedSlice S512x128 ![0, q] A hq) C)
      (mulf (select (cmpi .slt (iota .tc S512x128 32 [1] iota_S512x128_d1_w32) (broadcast S512x128 32#32))
        (dynamicRotate 1 96#32 none (extractStridedSlice S512x128 ![0, q] A hq) rotates_S512x128_d1)
        (dynamicRotate 1 32#32 none (extractStridedSlice S512x128 ![0, q] A hq) rotates_S512x128_d1)) S)⟩]
    concatenates_S512x128_S512x128_S512x256_d1) shapeCasts_S512x256_S1x512x256

/-- Lanes turned by a select of two rotations. -/
theorem turn_at (x C S : FVec Ideal S512x128 .f32) (i : Fin 512) (l : Fin 128) :
    addf (mulf x C) (mulf (select (cmpi .slt (iota .tc S512x128 32 [1] iota_S512x128_d1_w32) (broadcast S512x128 32#32))
        (dynamicRotate 1 96#32 none x rotates_S512x128_d1) (dynamicRotate 1 32#32 none x rotates_S512x128_d1)) S) (ix2 i l)
      = x (ix2 i l) * C (ix2 i l) + x (ix2 i (mate l)) * S (ix2 i l) := by
  pointwise
  have e96 : (⟨(l.val + 128 - 96) % 128, by omega⟩ : Fin 128) = ⟨(l.val + 32) % 128, by omega⟩ := Fin.ext (by simp only [Fin.val_mk]; omega)
  have e32 : (⟨(l.val + 128 - 32) % 128, by omega⟩ : Fin 128) = ⟨(l.val + 96) % 128, by omega⟩ := Fin.ext (by simp only [Fin.val_mk]; omega)
  rw [e96, e32]
  have hw := WordCmp.cmpi_slt_ofNat_eq_one_iff (w := 32) (a := l.val) (b := 32) (by omega) (by omega)
  unfold mate
  by_cases hl : l.val < 32
  · rw [if_pos hl, Scalar.select]
    exact congrArg (fun z => _ + z * S (ix2 i l)) (if_pos (hw.2 hl))
  · rw [if_neg hl, Scalar.select]
    exact congrArg (fun z => _ + z * S (ix2 i l)) (if_neg fun e => hl (hw.1 e))

/-- A head's first 128 lanes and its last 128. -/
theorem head_at (A : FVec Ideal S512x2048 .f32) (C S : FVec Ideal S512x128 .f32) (p q : ℕ) (hp : S512x2048.Slices ![0, p] S512x128)
    (hq : S512x2048.Slices ![0, q] S512x128) (bp : p + 128 ≤ 2048) (bq : q + 128 ≤ 2048) (i : Fin 512) (l : Fin 128) :
    head A C S p q hp hq (ix3 0 i ⟨l.val, by omega⟩) = A (ix2 i ⟨p + l.val, by omega⟩)
    ∧ head A C S p q hp hq (ix3 0 i ⟨128 + l.val, by omega⟩)
      = A (ix2 i ⟨q + l.val, by omega⟩) * C (ix2 i l) + A (ix2 i ⟨q + (mate l).val, by omega⟩) * S (ix2 i l) := by
  have hx : ∀ l : Fin 128, extractStridedSlice S512x128 ![0, q] A hq (ix2 i l) = A (ix2 i ⟨q + l.val, by omega⟩) := by
    intro l
    pointwise
  have ht := turn_at (extractStridedSlice S512x128 ![0, q] A hq) C S i l
  rw [hx, hx] at ht
  constructor
  · pointwise [head]
  · rw [← ht]
    unfold head
    generalize addf (mulf (extractStridedSlice S512x128 ![0, q] A hq) C) _ = T
    pointwise

/-- Eight heads stacked. -/
theorem stack_at (v : Fin 8 → FVec Ideal S1x512x256 .f32) (h : Fin 8) (i : Fin 512) (l : Fin 256) :
    concatenate S8x512x256 0 [⟨S1x512x256, v 0⟩, ⟨S1x512x256, v 1⟩, ⟨S1x512x256, v 2⟩, ⟨S1x512x256, v 3⟩, ⟨S1x512x256, v 4⟩, ⟨S1x512x256, v 5⟩,
      ⟨S1x512x256, v 6⟩, ⟨S1x512x256, v 7⟩] concatenates_S1x512x256_S1x512x256_S1x512x256_S1x512x256_S1x512x256_S1x512x256_S1x512x256_S1x512x256_S8x512x256_d0 (ix3 h i l)
      = v h (ix3 0 i l) := by
  fin_cases h <;> pointwise

/-- The eight heads of a block. -/
def heads (A : FVec Ideal S512x2048 .f32) (C S : FVec Ideal S512x128 .f32) (h : Fin 8) : FVec Ideal S1x512x256 .f32 :=
  head A C S (h.val * 128) (1024 + h.val * 128) ((by decide : ∀ h : Fin 8, S512x2048.Slices ![0, h.val * 128] S512x128) h)
    ((by decide : ∀ h : Fin 8, S512x2048.Slices ![0, 1024 + h.val * 128] S512x128) h)

/-- What a block's body computes is its eight heads. -/
theorem pay_heads (a : Vec Ideal S512x256 .bf16) (b : Vec Ideal S2048x256 .bf16) (C S : Vec Ideal S512x128 .f32) (h : Fin 8) (i : Fin 512) (l : Fin 256) :
    k0_pay1 (F := Ideal) (k0_pay2 C) (k0_pay3 S) (k0_pay4 a b) (k0_pay5 a b C S) (k0_pay6 a b C S)
      (k0_pay10 (k0_pay2 C) (k0_pay3 S) (k0_pay7 a b) (k0_pay8 a b) (iota .tc S512x128 32 [1] iota_S512x128_d1_w32) k0_pay9)
      (k0_pay11 (k0_pay2 C) (k0_pay3 S) (k0_pay4 a b)) (k0_pay12 (k0_pay2 C) (k0_pay3 S) (k0_pay4 a b)) (k0_pay13 (k0_pay2 C) (k0_pay3 S) (k0_pay4 a b))
      (k0_pay14 (k0_pay4 a b)) (ix3 h i l)
      = heads (k0_pay4 (F := Ideal) a b) (k0_pay2 (F := Ideal) C) (k0_pay3 (F := Ideal) S) h (ix3 0 i l) :=
  stack_at (heads (k0_pay4 (F := Ideal) a b) (k0_pay2 (F := Ideal) C) (k0_pay3 (F := Ideal) S)) h i l

/-- The tables of a block are read as they lie. -/
theorem tables_at (C : Vec Ideal S512x128 .f32) (i : Fin 512) (l : Fin 128) :
    k0_pay2 (F := Ideal) C (ix2 i l) = C (ix2 i l) ∧ k0_pay3 (F := Ideal) C (ix2 i l) = C (ix2 i l) := by
  constructor <;> pointwise [k0_pay2, k0_pay3]

/-- The products of a block, scaled. -/
theorem prod_at (a : Vec Ideal S512x256 .bf16) (b : Vec Ideal S2048x256 .bf16) (i : Fin 512) (n : Fin 2048) :
    k0_pay4 (F := Ideal) a b (ix2 i n) = (∑ k : Fin 256, a (ix2 i k) * b (ix2 n k)) * scale := by
  pointwise [k0_pay4]
  rfl

/-- The packed weights: plain columns of all heads, then each head's turned columns with zeros. -/
def hW (w : Vec Ideal S256x1536 .f32) : Vec Ideal S2048x256 .bf16 :=
  concatenate S2048x256 0 [
    ⟨S1024x256, shapeCast S1024x256 (extractStridedSlice S8x128x256 ![0, 0, 0] (shapeCast S8x192x256 (truncf (F := Ideal) .bf16
      (transpose S1536x256 [1, 0] w transposes_S256x1536_S1536x256_1_0) bitsLt_bf16_f32) shapeCasts_S1536x256_S8x192x256) slices_S8x192x256_S8x128x256_0_0_0)
      shapeCasts_S8x128x256_S1024x256⟩,
    ⟨S1024x256, shapeCast S1024x256 (pad S8x128x256 ![0, 0, 0] ![0, 64, 0] ![0, 0, 0] (extractStridedSlice S8x64x256 ![0, 128, 0] (shapeCast S8x192x256
      (truncf (F := Ideal) .bf16 (transpose S1536x256 [1, 0] w transposes_S256x1536_S1536x256_1_0) bitsLt_bf16_f32) shapeCasts_S1536x256_S8x192x256)
      slices_S8x192x256_S8x64x256_0_128_0) (sitofp (F := Ideal) .bf16 (constantI S_ 32 0#32)) pads_S8x64x256_S8x128x256_000_0640_000 h_S_)
      shapeCasts_S8x128x256_S1024x256⟩] concatenates_S1024x256_S1024x256_S2048x256_d0

/-- The word that fills up is the number zero. -/
theorem zero_word : FloatOps.sitofp (F := Ideal) .bf16 (0#32 : BitVec 32) = (0 : EReal) := by
  show (((0#32 : BitVec 32).toInt : ℝ) : EReal) = 0
  simp

section weights
variable (w : Vec Ideal S256x1536 .f32) (h : Fin 8) (k : Fin 256)

/-- A head's plain columns. -/
theorem hW_plain (l : Fin 128) : hW w (ix2 ⟨h.val * 128 + l.val, by omega⟩ k) = w (ix2 k ⟨h.val * 192 + l.val, by omega⟩) := by
  pointwise [hW]
  exact dif_pos (by omega)

/-- A head's turned columns. -/
theorem hW_turned (l : Fin 64) : hW w (ix2 ⟨1024 + h.val * 128 + l.val, by omega⟩ k) = w (ix2 k ⟨h.val * 192 + 128 + l.val, by omega⟩) := by
  pointwise [hW]
  have e0 : 1024 + h.val * 128 + l.val - 1024 = h.val * 128 + l.val := by omega
  have e1 : (h.val * 128 + l.val) / 128 = h.val := by omega
  have e2 : (h.val * 128 + l.val) % 128 = l.val := by omega
  rw [dif_neg (by omega), dif_pos (by omega)]
  exact congrArg (fun n => w (ix2 k n)) (Fin.ext (by simp only [e0, e1, e2]; omega))

/-- The columns that fill a head up are zero. -/
theorem hW_fill (l : Fin 64) : hW w (ix2 ⟨1024 + h.val * 128 + 64 + l.val, by omega⟩ k) = 0 := by
  pointwise [hW]
  rw [dif_neg (by omega), dif_neg (by omega)]
  exact zero_word

end weights

/-- A head's row of the reference. -/
def row (x : Fin 192 → EReal) (cs sn : Fin 32 → EReal) (l : Fin 256) : EReal :=
  if h0 : l.val < 128 then x ⟨l.val, by omega⟩
  else if h1 : l.val < 160 then x ⟨l.val, by omega⟩ * cs ⟨l.val - 128, by omega⟩ - x ⟨l.val + 32, by omega⟩ * sn ⟨l.val - 128, by omega⟩
  else if h2 : l.val < 192 then x ⟨l.val, by omega⟩ * cs ⟨l.val - 160, by omega⟩ + x ⟨l.val - 32, by omega⟩ * sn ⟨l.val - 160, by omega⟩
  else 0

/-- Turning 64 lanes and 64 zeros with the wide tables gives the row's last 128 lanes. -/
theorem lanes_turned (q : Fin 128 → EReal) (x : Fin 192 → EReal) (p : Vec Ideal S4096 .i32) (i : Fin 4096)
    (hq : ∀ (l : Fin 128) (n : Fin 192), n.val = 128 + l.val → q l = x n) (hz : ∀ l : Fin 128, 64 ≤ l.val → q l = 0) (l : Fin 128) :
    q l * wide p (ix2 i l) + q (mate l) * signed p (ix2 i l)
      = row x (fun k => Host.cos (F := Ideal) (hA p) (ix2 i k)) (fun k => Host.sin (F := Ideal) (hA p) (ix2 i k)) ⟨128 + l.val, by omega⟩ := by
  obtain ⟨X, hv⟩ : ∃ X : Fin 4032 → EReal, ∀ (n : Fin 4032) (k : Fin 192), 128 ≤ k.val → n.val = k.val + 256 → X n = x k :=
    ⟨fun n => if h : 384 ≤ n.val ∧ n.val < 448 then x ⟨n.val - 256, by omega⟩ else 0, fun n k h0 h1 =>
      (dif_pos (by omega : 384 ≤ n.val ∧ n.val < 448)).trans (congrArg x (Fin.ext (by show n.val - 256 = k.val; omega)))⟩
  have hX : ∀ l : Fin 128, lane X l = q l := by
    intro l
    by_cases hl : l.val < 64
    · rw [lane_key X l ⟨384 + l.val, by omega⟩ hl rfl, hq l ⟨128 + l.val, by omega⟩ rfl]
      exact hv _ _ (by show 128 ≤ 128 + l.val; omega) (by show 384 + l.val = 128 + l.val + 256; omega)
    · rw [lane_zero X l (by omega), hz l (by omega)]
  rw [← hX l, ← hX (mate l), turned_of_lanes]
  unfold turned row
  dsimp only
  rw [dif_neg (show ¬ 128 + l.val < 128 by omega)]
  by_cases h1 : l.val < 32
  · rw [dif_pos (show l.val < 64 by omega), dif_pos h1, dif_pos (show 128 + l.val < 160 by omega),
      hv _ ⟨128 + l.val, by omega⟩ (by show 128 ≤ 128 + l.val; omega) (by show 384 + l.val = 128 + l.val + 256; omega),
      hv _ ⟨128 + l.val + 32, by omega⟩ (by show 128 ≤ 128 + l.val + 32; omega) (by show 416 + l.val = 128 + l.val + 32 + 256; omega)]
    simp only [Nat.add_sub_cancel_left]
  by_cases h2 : l.val < 64
  · rw [dif_pos h2, dif_neg h1, dif_neg (show ¬ 128 + l.val < 160 by omega), dif_pos (show 128 + l.val < 192 by omega),
      hv _ ⟨128 + l.val, by omega⟩ (by show 128 ≤ 128 + l.val; omega) (by show 416 + (l.val - 32) = 128 + l.val + 256; omega),
      hv _ ⟨128 + l.val - 32, by omega⟩ (by show 128 ≤ 128 + l.val - 32; omega) (by show 384 + (l.val - 32) = 128 + l.val - 32 + 256; omega)]
    have e : 128 + l.val - 160 = l.val - 32 := by omega
    simp only [e]
  · rw [dif_neg h2, dif_neg (show ¬ 128 + l.val < 160 by omega), dif_neg (show ¬ 128 + l.val < 192 by omega)]

/-- The reference lays the same row out in three pieces. -/
theorem row_of_pieces (x : Fin 192 → EReal) (cs sn : Fin 32 → EReal) (l : Fin 256) :
    (if h1 : l.val < 128 then x ⟨l.val, by omega⟩ else if h2 : l.val - 128 < 64 then
      if h3 : l.val - 128 < 32 then x ⟨128 + (l.val - 128), by omega⟩ * cs ⟨l.val - 128, by omega⟩
        - x ⟨128 + (32 + (l.val - 128)), by omega⟩ * sn ⟨l.val - 128, by omega⟩
      else x ⟨128 + (32 + (l.val - 128 - 32)), by omega⟩ * cs ⟨l.val - 128 - 32, by omega⟩
        + x ⟨128 + (l.val - 128 - 32), by omega⟩ * sn ⟨l.val - 128 - 32, by omega⟩
      else 0) = row x cs sn l := by
  unfold row
  by_cases h1 : l.val < 128
  · rw [dif_pos h1, dif_pos h1]
  rw [dif_neg h1, dif_neg h1]
  have e1 : 128 + (l.val - 128) = l.val := by omega
  by_cases h2 : l.val < 160
  · have e2 : 128 + (32 + (l.val - 128)) = l.val + 32 := by omega
    rw [dif_pos (show l.val - 128 < 64 by omega), dif_pos (show l.val - 128 < 32 by omega), dif_pos h2]
    simp only [e1, e2]
  rw [dif_neg h2]
  by_cases h3 : l.val < 192
  · have e0 : l.val - 128 - 32 = l.val - 160 := by omega
    have e2 : 128 + (32 + (l.val - 160)) = l.val := by omega
    have e3 : 128 + (l.val - 160) = l.val - 32 := by omega
    rw [dif_pos (show l.val - 128 < 64 by omega), dif_neg (show ¬ l.val - 128 < 32 by omega), dif_pos h3]
    simp only [e0, e2, e3]
  · rw [dif_neg (show ¬ l.val - 128 < 64 by omega), dif_neg h3]

section ref
variable (x0 : Vec Ideal S4096x256 .f32) (x1 : Vec Ideal S4096 .i32) (x2 : Vec Ideal S256x1536 .f32)
open Cert.QUpRefIdeal.Read

/-- An entry of the scaled product. -/
def entry (i : Fin 4096) (n : Fin 1536) : EReal := (∑ k : Fin 256, x0 (ix2 i k) * x2 (ix2 k n)) * scale

/-- The reference's cosines and sines are those of the call. -/
theorem r_tables : val_main_v18 (F := Ideal) x1 = Host.cos (F := Ideal) (hA x1) ∧ val_main_v20 (F := Ideal) x1 = Host.sin (F := Ideal) (hA x1) := ⟨rfl, rfl⟩

/-- The reference's scaled product by heads. -/
theorem r_prod (i : Fin 4096) (h : Fin 8) (l : Fin 192) : val_main_v3 (F := Ideal) x0 x2 (ix3 i h l) = entry x0 x2 i ⟨h.val * 192 + l.val, by omega⟩ := by
  pointwise [val_main_v3, val_main_v2, val_main_v1, val_main_v0, val_main_cst]
  rfl

/-- The reference's result. -/
theorem r_all (h : Fin 8) (i : Fin 4096) (l : Fin 256) : val_main_v38 (F := Ideal) x0 x1 x2 (ix3 h i l)
    = row (fun n => entry x0 x2 i ⟨h.val * 192 + n.val, by omega⟩) (fun k => Host.cos (F := Ideal) (hA x1) (ix2 i k))
      (fun k => Host.sin (F := Ideal) (hA x1) (ix2 i k)) l := by
  have hq : (fun n : Fin 192 => entry x0 x2 i ⟨h.val * 192 + n.val, by omega⟩) = fun n => val_main_v3 (F := Ideal) x0 x2 (ix3 i h n) :=
    funext fun n => (r_prod x0 x2 i h n).symm
  rw [hq, ← (r_tables x1).1, ← (r_tables x1).2]
  generalize ha : val_main_v3 (F := Ideal) x0 x2 = A
  generalize hc : val_main_v18 (F := Ideal) x1 = C
  generalize hs : val_main_v20 (F := Ideal) x1 = S
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v19, val_main_v5, val_main_v4,
    val_main_cst_2, ha, hc, hs]
  exact row_of_pieces (fun n => A (ix3 i h n)) (fun k => C (ix2 i k)) (fun k => S (ix2 i k)) l

end ref

end Cert.Proof.QUp
end
-- ==== Proof.QUp.lean ====
module

public import proofs.«01_k».proof.Defs
public import proofs.«01_k».proof.Proof.Gen.QUpIdeal.Value
public import proofs.«01_k».proof.Proof.Gen.QUpRefIdeal.Run
public import proofs.«01_k».proof.Proof.Gen.QUpRefIdeal.Read
public import Idealize.ShloMosaic.Lib.Pipeline.ValueKit
public import Idealize.ShloMosaic.Lib.Pipeline.ReadBack
public import proofs.«01_k».proof.Proof.QUpRows

@[expose] public section

set_option maxRecDepth 16384

noncomputable section

namespace Cert.Proof.QUp

open Idealize.ShloMosaic Idealize.ShloMosaic.TcCoe Idealize.SL.Sem
open Cert.QUpIdeal Cert.QUpIdeal.Gen
open Cert.Proof.Lat (hA)
open Cert.Proof.LatFwd (mate wide signed lane lane_key lane_zero turned turned_of_lanes)

section run
variable (m : (ℓ : Loc nD τ sig) → Buf (Elt Ideal) ℓ) (c : Dev nD)
open Cert.QUpRefIdeal.Read (val_main_v38)

/-- The normalised queries. -/
abbrev aX : Vec Ideal S4096x256 .f32 := m ((c : Thread nD τ).loc main_arg0)
/-- The positions. -/
abbrev aI : Vec Ideal S4096 .i32 := m ((c : Thread nD τ).loc main_arg1)
/-- The query weights. -/
abbrev aW : Vec Ideal S256x1536 .f32 := m ((c : Thread nD τ).loc main_arg2)

/-- What the region finds: the packed weights, the queries, and the two wide tables. -/
theorem found : (V m c main_v27 : Vec Ideal S2048x256 .bf16) = hW (aW m c)
    ∧ (V m c main_v28 : Vec Ideal S4096x256 .bf16) = truncf (F := Ideal) .bf16 (aX m c) bitsLt_bf16_f32
    ∧ (V m c main_v15 : Vec Ideal S4096x128 .f32) = wide (aI m c) ∧ (V m c main_v18 : Vec Ideal S4096x128 .f32) = signed (aI m c) := by
  refine ⟨?_, ?_, ?_, ?_⟩ <;> dsimp only [V, hostOps0, hostOps0_1, hostOps0_2] <;>
    simp only [List.flatten_cons, List.flatten_nil, List.cons_append, List.nil_append, List.append_nil] <;> after_results_simp <;>
    (try dsimp only [Matrix.cons_val]) <;> (try after_results_simp) <;> (try dsimp only [Matrix.cons_val]) <;> (try after_results_simp) <;> rfl

/-- Row windows follow the grid point, the weights stay. -/
theorem moves : ∀ t : Fin cfg0.N, win0_0.index t = ![t.val, 0] ∧ win0_1.index t = ![0, 0] ∧ win0_2.index t = ![t.val, 0]
    ∧ win0_3.index t = ![t.val, 0] ∧ win0_4.index t = ![0, t.val, 0] :=
  (by decide +kernel : ∀ t : Fin grid0.N, _)

variable (t : Fin cfg0.N)

/-- A point's weights. -/
theorem w_blk (n : Fin 2048) (k : Fin 256) : iblk m c 1 t (ix2 n k) = hW (aW m c) (ix2 n k) := by
  refine Eq.trans ?_ (congrFun (found m c).1 (ix2 n k))
  blk_simp [iblk]
  refine congrArg _ ?_
  blk_ext [(moves t).2.1]

variable (i : Fin 4096) (r : Fin 512) (hi : i.val = t.val * 512 + r.val)
include hi

/-- A point's queries. -/
theorem x_blk (k : Fin 256) : iblk m c 0 t (ix2 r k) = aX m c (ix2 i k) := by
  refine Eq.trans ?_ (congrFun (found m c).2.1 (ix2 i k))
  blk_simp [iblk]
  refine congrArg _ ?_
  blk_ext [(moves t).1, hi]

/-- A point's cosines and sines. -/
theorem tables_blk (k : Fin 128) : iblk m c 2 t (ix2 r k) = wide (aI m c) (ix2 i k) ∧ iblk m c 3 t (ix2 r k) = signed (aI m c) (ix2 i k) := by
  constructor
  · refine Eq.trans ?_ (congrFun (found m c).2.2.1 (ix2 i k))
    blk_simp [iblk]
    refine congrArg _ ?_
    blk_ext [(moves t).2.2.1, hi]
  · refine Eq.trans ?_ (congrFun (found m c).2.2.2 (ix2 i k))
    blk_simp [iblk]
    refine congrArg _ ?_
    blk_ext [(moves t).2.2.2.1, hi]

/-- A product of a point with a packed row that is a column of the weights. -/
theorem prod_entry (n : Fin 2048) (n' : Fin 1536) (hn : ∀ k : Fin 256, hW (aW m c) (ix2 n k) = aW m c (ix2 k n')) :
    k0_pay4 (F := Ideal) (iblk m c 0 t) (iblk m c 1 t) (ix2 r n) = entry (aX m c) (aW m c) i n' := by
  refine (prod_at _ _ r n).trans (congrArg (fun s : EReal => s * scale) (Finset.sum_congr rfl fun k _ => ?_))
  exact congrArg₂ (fun a b : EReal => a * b) (x_blk m c t i r hi k) ((w_blk m c t n k).trans (hn k))

/-- A product of a point with a packed row of zeros. -/
theorem prod_zero (n : Fin 2048) (hn : ∀ k : Fin 256, hW (aW m c) (ix2 n k) = 0) :
    k0_pay4 (F := Ideal) (iblk m c 0 t) (iblk m c 1 t) (ix2 r n) = 0 := by
  refine (prod_at _ _ r n).trans ?_
  rw [Finset.sum_eq_zero fun k _ => by rw [w_blk m c t n k, hn k, mul_zero], zero_mul]

set_option maxHeartbeats 400000 in
/-- What a point leaves of the heads. -/
theorem q_out (h : Fin 8) (l : Fin 256) : out0_4 (F := Ideal) (iblk m c 0 t) (iblk m c 1 t) (iblk m c 2 t) (iblk m c 3 t) (ix3 h r l)
    = val_main_v38 (F := Ideal) (aX m c) (aI m c) (aW m c) (ix3 h i l) := by
  unfold_out out0_4
  frame_out
  refine (pay_heads _ _ _ _ h r l).trans (Eq.trans ?_ (r_all _ _ _ h i l).symm)
  by_cases hl : l.val < 128
  · refine (head_at _ _ _ _ _ _ _ (by omega) (by omega) r ⟨l.val, hl⟩).1.trans ?_
    unfold row
    rw [dif_pos hl]
    exact prod_entry m c t i r hi _ ⟨h.val * 192 + l.val, by omega⟩ fun k => hW_plain (aW m c) h k ⟨l.val, hl⟩
  · obtain ⟨l0, rfl⟩ : ∃ l0 : Fin 128, l = ⟨128 + l0.val, Nat.add_lt_add_left l0.isLt 128⟩ := ⟨⟨l.val - 128, by omega⟩, Fin.ext (by show l.val = 128 + (l.val - 128); omega)⟩
    refine (head_at _ _ _ _ _ _ _ (by omega) (by omega) r l0).2.trans ?_
    rw [(tables_at _ r l0).1, (tables_at _ r l0).2, (tables_blk m c t i r hi l0).1, (tables_blk m c t i r hi l0).2]
    refine lanes_turned (fun l => k0_pay4 (F := Ideal) (iblk m c 0 t) (iblk m c 1 t) (ix2 r ⟨1024 + h.val * 128 + l.val, by omega⟩)) _ _ _
      (fun l n hn => ?_) (fun l hl => ?_) l0
    · refine prod_entry m c t i r hi _ ⟨h.val * 192 + n.val, by omega⟩ fun k => ?_
      exact (hW_turned (aW m c) h k ⟨l.val, by omega⟩).trans (congrArg (fun z => aW m c (ix2 k z)) (Fin.ext (by show h.val * 192 + 128 + l.val = h.val * 192 + n.val; omega)))
    · refine prod_zero m c t i r hi _ fun k => ?_
      refine Eq.trans (congrArg (fun z => hW (aW m c) (ix2 z k)) (Fin.ext ?_)) (hW_fill (aW m c) h k ⟨l.val - 64, by omega⟩)
      show 1024 + h.val * 128 + l.val = 1024 + h.val * 128 + 64 + (l.val - 64)
      omega

end run

section result
variable (m : (ℓ : Loc nD τ sig) → Buf (Elt Ideal) ℓ)
open Cert.QUpRefIdeal.Read (val_main_v38)

/-- The heads after the run. -/
theorem arr_q (c : Dev nD) : (dats m 0 c).arrAt 4 cfg0.N = val_main_v38 (F := Ideal) (aX m c) (aI m c) (aW m c) := by
  refine (dats m 0 c).arrAt_eq_of_covers 4 _ (by decide +kernel) fun t hf y => ?_
  blk_simp
  rw [after0_4]
  have h0 : (((View.whole main_v29).slice (win0_4.rect t)).emb y 0).val = (y 0).val := by blk_simp [(moves t).2.2.2.2]
  have h1 : (((View.whole main_v29).slice (win0_4.rect t)).emb y 1).val = t.val * 512 + (y 1).val := by blk_simp [(moves t).2.2.2.2]
  have h2 : (((View.whole main_v29).slice (win0_4.rect t)).emb y 2).val = (y 2).val := by blk_simp [(moves t).2.2.2.2]
  idx_bounds y
  have ht : t.val < 8 := t.isLt
  have hy : (y : S8x512x256.Idx) = ix3 (y 0) (y 1) (y 2) := by idx_ext
  exact (congrArg (out0_4 (F := Ideal) (iblk m c 0 t) (iblk m c 1 t) (iblk m c 2 t) (iblk m c 3 t)) hy).trans
    ((q_out m c t ⟨t.val * 512 + (y 1).val, by omega⟩ (y 1) rfl (y 0) (y 2)).trans
      (congrArg (val_main_v38 (F := Ideal) (aX m c) (aI m c) (aW m c)) (funext fun | 0 => Fin.ext h0.symm | 1 => Fin.ext h1.symm | 2 => Fin.ext h2.symm)))

/-- The call's heads are the reference's. -/
theorem equal : Cert.algebraic_QUpIdeal_QUpRefIdeal := by
  intro m ρ m' ρ' _ hag
  refine ⟨fun c => val_main_v38 (F := Ideal) (aX m c) (aI m c) (aW m c), ?_, ?_⟩
  · refine (θ_run _ _ _).mono (fun r h c => ?_) (Cert.QUpIdeal.Value.run_blocks m ρ)
    obtain ⟨h0, ha⟩ := h c
    exact ⟨h0.trans (arr_q m c), ha⟩
  · refine (θ_run _ _ _).mono (fun r h c => ?_) (Cert.QUpRefIdeal.Value.run m' ρ')
    obtain ⟨h0, ha⟩ := h c
    obtain ⟨g0, g1, g2⟩ := hag c
    exact ⟨(h0.trans (Cert.QUpRefIdeal.Read.val_main_v38_eq _ _)).trans (congr (congr (congrArg (val_main_v38 (F := Ideal)) g0) g1) g2), ha⟩

end result
end Cert.Proof.QUp
end
-- ==== Proof.KvUp.lean ====
module

public import proofs.«01_k».proof.Defs
public import proofs.«01_k».proof.Proof.Gen.KvUpIdeal.Value
public import proofs.«01_k».proof.Proof.Gen.KvUpRefIdeal.Run
public import proofs.«01_k».proof.Proof.Gen.KvUpRefIdeal.Read
public import Idealize.ShloMosaic.Lib.Pipeline.ValueKit
public import Idealize.ShloMosaic.Lib.Pipeline.ReadBack
public import proofs.«01_k».proof.Proof.QUpRows

@[expose] public section

set_option maxRecDepth 16384

noncomputable section

namespace Cert.Proof.KvUp

open Idealize.ShloMosaic Idealize.ShloMosaic.TcCoe Idealize.SL.Sem
open Cert.KvUpIdeal Cert.KvUpIdeal.Gen
open Cert.Proof.QUp (stack_at)

section payload
variable (a : Vec Ideal S512x128 .bf16) (b : Vec Ideal S128x2048 .bf16) (s : Vec Ideal S512x128 .bf16)

/-- One head of a block: plain lanes of the product beside the shared key. -/
def beside (A : FVec Ideal S512x2048 .f32) (K : FVec Ideal S512x128 .f32) (h : Fin 8) : FVec Ideal S1x512x256 .f32 :=
  shapeCast S1x512x256 (concatenate S512x256 1 [⟨S512x128, extractStridedSlice S512x128 ![0, h.val * 256] A
    ((by decide : ∀ h : Fin 8, S512x2048.Slices ![0, h.val * 256] S512x128) h)⟩, ⟨S512x128, K⟩] concatenates_S512x128_S512x128_S512x256_d1)
    shapeCasts_S512x256_S1x512x256

/-- A lane of it. -/
theorem beside_at (A : FVec Ideal S512x2048 .f32) (K : FVec Ideal S512x128 .f32) (h : Fin 8) (i : Fin 512) (l : Fin 256) :
    beside A K h (ix3 0 i l) = if hl : l.val < 128 then A (ix2 i ⟨h.val * 256 + l.val, by omega⟩) else K (ix2 i ⟨l.val - 128, by omega⟩) := by
  pointwise [beside]

/-- A block's product. -/
theorem prod_at (i : Fin 512) (n : Fin 2048) : k0_pay1 (F := Ideal) a b (ix2 i n) = ∑ k : Fin 128, a (ix2 i k) * b (ix2 k n) := by
  pointwise [k0_pay1]

/-- The shared key as the heads take it. -/
def shared : FVec Ideal S512x128 .f32 := extf (F := Ideal) .f32 (shapeCast S512x128 s shapeCasts_S512x128_S512x128) bitsLt_bf16_f32

/-- It is read as it lies. -/
theorem shared_at (i : Fin 512) (l : Fin 128) : shared s (ix2 i l) = s (ix2 i l) := by
  pointwise [shared]

/-- What a block's body computes is the heads stacked. -/
theorem pay_heads (h : Fin 8) (i : Fin 512) (l : Fin 256) :
    k0_pay3 (F := Ideal) a b s (ix3 h i l) = beside (k0_pay1 (F := Ideal) a b) (shared s) h (ix3 0 i l) :=
  stack_at (beside (k0_pay1 (F := Ideal) a b) (shared s)) h i l

end payload

/-- The shared key with its zero lanes. -/
def hK (p : Vec Ideal S4096x64 .f32) : Vec Ideal S4096x128 .bf16 :=
  truncf (F := Ideal) .bf16 (concatenate S4096x128 1 [⟨S4096x64, p⟩,
    ⟨S4096x64, broadcastInDim S4096x64 ![] bcast_S_S4096x64 (constant (F := Ideal) S_ .f32 0x00000000#32)⟩] concatenates_S4096x64_S4096x64_S4096x128_d1) bitsLt_bf16_f32

/-- A lane of it. -/
theorem hK_at (p : Vec Ideal S4096x64 .f32) (i : Fin 4096) (l : Fin 128) : hK p (ix2 i l) = if hl : l.val < 64 then p (ix2 i ⟨l.val, hl⟩) else 0 := by
  pointwise [hK]

section ref
variable (x0 : Vec Ideal S4096x128 .f32) (x1 : Vec Ideal S128x2048 .f32) (x2 : Vec Ideal S4096x64 .f32)
open Cert.KvUpRefIdeal.Read

/-- An entry of the product. -/
def entry (i : Fin 4096) (n : Fin 2048) : EReal := ∑ k : Fin 128, x0 (ix2 i k) * x1 (ix2 k n)

/-- The reference's product. -/
theorem r_prod (i : Fin 4096) (n : Fin 2048) : val_main_v7 (F := Ideal) x0 x1 (ix2 i n) = entry x0 x1 i n := by
  pointwise [val_main_v7, val_main_v0]
  rfl

/-- The reference's heads. -/
theorem r_heads (h : Fin 8) (i : Fin 4096) (l : Fin 256) : val_main_v9 (F := Ideal) x0 x1 x2 (ix3 h i l)
    = if hl : l.val < 128 then entry x0 x1 i ⟨h.val * 256 + l.val, by omega⟩ else hK x2 (ix2 i ⟨l.val - 128, by omega⟩) := by
  simp only [hK_at]
  pointwise [val_main_v9, val_main_v8, val_main_v6, val_main_v5, val_main_v4, val_main_v3, val_main_v2, val_main_v1, val_main_v0, val_main_cst]
  rfl

end ref

section run
variable (m : (ℓ : Loc nD τ sig) → Buf (Elt Ideal) ℓ) (c : Dev nD)
open Cert.KvUpRefIdeal.Read (val_main_v7 val_main_v9)

/-- The normalised keys. -/
abbrev aX : Vec Ideal S4096x128 .f32 := m ((c : Thread nD τ).loc main_arg0)
/-- The key-value weights. -/
abbrev aW : Vec Ideal S128x2048 .f32 := m ((c : Thread nD τ).loc main_arg1)
/-- The rotated shared key. -/
abbrev aS : Vec Ideal S4096x64 .f32 := m ((c : Thread nD τ).loc main_arg2)

/-- What the region finds: the keys, the weights, and the shared key with zero lanes. -/
theorem found : (V m c main_v3 : Vec Ideal S4096x128 .bf16) = truncf (F := Ideal) .bf16 (aX m c) bitsLt_bf16_f32
    ∧ (V m c main_v4 : Vec Ideal S128x2048 .bf16) = truncf (F := Ideal) .bf16 (aW m c) bitsLt_bf16_f32
    ∧ (V m c main_v2 : Vec Ideal S4096x128 .bf16) = hK (aS m c) := by
  refine ⟨?_, ?_, ?_⟩ <;> dsimp only [V, hostOps0] <;> after_results_simp <;> rfl

/-- Row windows follow the grid point, the weights stay. -/
theorem moves : ∀ t : Fin cfg0.N, win0_0.index t = ![t.val, 0] ∧ win0_1.index t = ![0, 0] ∧ win0_2.index t = ![t.val, 0]
    ∧ win0_3.index t = ![t.val, 0] ∧ win0_4.index t = ![0, t.val, 0] :=
  (by decide +kernel : ∀ t : Fin grid0.N, _)

variable (t : Fin cfg0.N)

/-- A point's weights. -/
theorem w_blk (k : Fin 128) (n : Fin 2048) : iblk m c 1 t (ix2 k n) = aW m c (ix2 k n) := by
  refine Eq.trans ?_ (congrFun (found m c).2.1 (ix2 k n))
  blk_simp [iblk]
  refine congrArg _ ?_
  blk_ext [(moves t).2.1]

variable (i : Fin 4096) (r : Fin 512) (hi : i.val = t.val * 512 + r.val)
include hi

/-- A point's keys, and its rows of the shared key. -/
theorem rows_blk (k : Fin 128) : iblk m c 0 t (ix2 r k) = aX m c (ix2 i k) ∧ iblk m c 2 t (ix2 r k) = hK (aS m c) (ix2 i k) := by
  constructor
  · refine Eq.trans ?_ (congrFun (found m c).1 (ix2 i k))
    blk_simp [iblk]
    refine congrArg _ ?_
    blk_ext [(moves t).1, hi]
  · refine Eq.trans ?_ (congrFun (found m c).2.2 (ix2 i k))
    blk_simp [iblk]
    refine congrArg _ ?_
    blk_ext [(moves t).2.2.1, hi]

/-- A point's product. -/
theorem prod_entry (n : Fin 2048) : k0_pay1 (F := Ideal) (iblk m c 0 t) (iblk m c 1 t) (ix2 r n) = entry (aX m c) (aW m c) i n :=
  (prod_at _ _ r n).trans (Finset.sum_congr rfl fun k _ =>
    congrArg₂ (fun a b : EReal => a * b) (rows_blk m c t i r hi k).1 (w_blk m c t k n))

/-- What a point leaves of the product. -/
theorem kv_out (n : Fin 2048) : out0_3 (F := Ideal) (iblk m c 0 t) (iblk m c 1 t) (iblk m c 2 t) (ix2 r n)
    = val_main_v7 (F := Ideal) (aX m c) (aW m c) (ix2 i n) := by
  frame_out
  exact (prod_entry m c t i r hi n).trans (r_prod _ _ i n).symm

/-- What a point leaves of the heads. -/
theorem k_out (h : Fin 8) (l : Fin 256) : out0_4 (F := Ideal) (iblk m c 0 t) (iblk m c 1 t) (iblk m c 2 t) (ix3 h r l)
    = val_main_v9 (F := Ideal) (aX m c) (aW m c) (aS m c) (ix3 h i l) := by
  frame_out
  refine (pay_heads _ _ _ h r l).trans ((beside_at _ _ h r l).trans (Eq.trans ?_ (r_heads _ _ _ h i l).symm))
  by_cases hl : l.val < 128
  · rw [dif_pos hl, dif_pos hl]
    exact prod_entry m c t i r hi _
  · rw [dif_neg hl, dif_neg hl]
    exact (shared_at _ r _).trans (rows_blk m c t i r hi _).2

end run

section result
variable (m : (ℓ : Loc nD τ sig) → Buf (Elt Ideal) ℓ)
open Cert.KvUpRefIdeal.Read (val_main_v7 val_main_v9)

/-- The product after the run. -/
theorem arr_kv (c : Dev nD) : (dats m 0 c).arrAt 3 cfg0.N = val_main_v7 (F := Ideal) (aX m c) (aW m c) := by
  refine (dats m 0 c).arrAt_eq_of_covers 3 _ (by decide +kernel) fun t hf y => ?_
  blk_simp
  rw [after0_3]
  have h0 : (((View.whole main_v5_0).slice (win0_3.rect t)).emb y 0).val = t.val * 512 + (y 0).val := by blk_simp [(moves t).2.2.2.1]
  have h1 : (((View.whole main_v5_0).slice (win0_3.rect t)).emb y 1).val = (y 1).val := by blk_simp [(moves t).2.2.2.1]
  idx_bounds y
  have ht : t.val < 8 := t.isLt
  have hy : (y : S512x2048.Idx) = ix2 (y 0) (y 1) := by idx_ext
  exact (congrArg (out0_3 (F := Ideal) (iblk m c 0 t) (iblk m c 1 t) (iblk m c 2 t)) hy).trans
    ((kv_out m c t ⟨t.val * 512 + (y 0).val, by omega⟩ (y 0) rfl (y 1)).trans
      (congrArg (val_main_v7 (F := Ideal) (aX m c) (aW m c)) (funext fun | 0 => Fin.ext h0.symm | 1 => Fin.ext h1.symm)))

/-- The heads after the run. -/
theorem arr_k (c : Dev nD) : (dats m 0 c).arrAt 4 cfg0.N = val_main_v9 (F := Ideal) (aX m c) (aW m c) (aS m c) := by
  refine (dats m 0 c).arrAt_eq_of_covers 4 _ (by decide +kernel) fun t hf y => ?_
  blk_simp
  rw [after0_4]
  have h0 : (((View.whole main_v5_1).slice (win0_4.rect t)).emb y 0).val = (y 0).val := by blk_simp [(moves t).2.2.2.2]
  have h1 : (((View.whole main_v5_1).slice (win0_4.rect t)).emb y 1).val = t.val * 512 + (y 1).val := by blk_simp [(moves t).2.2.2.2]
  have h2 : (((View.whole main_v5_1).slice (win0_4.rect t)).emb y 2).val = (y 2).val := by blk_simp [(moves t).2.2.2.2]
  idx_bounds y
  have ht : t.val < 8 := t.isLt
  have hy : (y : S8x512x256.Idx) = ix3 (y 0) (y 1) (y 2) := by idx_ext
  exact (congrArg (out0_4 (F := Ideal) (iblk m c 0 t) (iblk m c 1 t) (iblk m c 2 t)) hy).trans
    ((k_out m c t ⟨t.val * 512 + (y 1).val, by omega⟩ (y 1) rfl (y 0) (y 2)).trans
      (congrArg (val_main_v9 (F := Ideal) (aX m c) (aW m c) (aS m c)) (funext fun | 0 => Fin.ext h0.symm | 1 => Fin.ext h1.symm | 2 => Fin.ext h2.symm)))

/-- Both results of the call are the reference's. -/
theorem equal : Cert.algebraic_KvUpIdeal_KvUpRefIdeal := by
  intro m ρ m' ρ' _ hag
  refine ⟨fun c => val_main_v7 (F := Ideal) (aX m c) (aW m c), fun c => val_main_v9 (F := Ideal) (aX m c) (aW m c) (aS m c), ?_, ?_⟩
  · refine (θ_run _ _ _).mono (fun r h c => ?_) (Cert.KvUpIdeal.Value.run_blocks m ρ)
    obtain ⟨h0, h1, ha⟩ := h c
    exact ⟨h0.trans (arr_kv m c), h1.trans (arr_k m c), ha⟩
  · refine (θ_run _ _ _).mono (fun r h c => ?_) (Cert.KvUpRefIdeal.Value.run m' ρ')
    obtain ⟨h0, h1, ha⟩ := h c
    obtain ⟨g0, g1, g2⟩ := hag c
    exact ⟨(h0.trans (Cert.KvUpRefIdeal.Read.val_main_v7_eq _ _)).trans (congr (congrArg (val_main_v7 (F := Ideal)) g0) g1),
      (h1.trans (Cert.KvUpRefIdeal.Read.val_main_v9_eq _ _ _)).trans (congr (congr (congrArg (val_main_v9 (F := Ideal)) g0) g1) g2), ha⟩

end result
end Cert.Proof.KvUp
end
-- ==== Proof.ConvFwd.lean ====
module

public import proofs.«01_k».proof.Defs
public import proofs.«01_k».proof.Proof.Gen.ConvFwdIdeal.Value
public import proofs.«01_k».proof.Proof.Gen.ConvFwdRefIdeal.Run
public import proofs.«01_k».proof.Proof.Gen.ConvFwdRefIdeal.Read
public import Idealize.ShloMosaic.Lib.Pipeline.ValueKit
public import Idealize.ShloMosaic.Lib.Pipeline.ReadBack
public import Idealize.ShloMosaic.Lib.VecWindow

@[expose] public section

set_option maxRecDepth 16384

noncomputable section

namespace Cert.Proof.ConvFwd

open Idealize.ShloMosaic Idealize.ShloMosaic.TcCoe Idealize.SL.Sem
open Cert.ConvFwdIdeal Cert.ConvFwdIdeal.Gen

/-- The logistic function of an extended real. -/
def logi (x : EReal) : EReal := Ideal.div 1 (1 + Ideal.exp (-x))

/-- Three taps, their weights and the bias. -/
def taps (a b c u v w d : EReal) : EReal := a * u + b * v + c * w + d

/-- The gate's output: the gate times its logistic times the value. -/
def glu (g v : EReal) : EReal := g * logi g * v

/-- A strip of rows with eight rows of zeros before it and eight after. -/
def pad (x : Vec Ideal S4096x128 .bf16) (i : S4112x128.Idx) : EReal :=
  if h : 8 ≤ (i 0).val ∧ (i 0).val < 4104 then x (ix2 ⟨(i 0).val - 8, by omega⟩ (i 1)) else 0

/-- The mixed strip at a row and lane. -/
def mixed (x : Vec Ideal S4096x128 .bf16) (w : Vec Ideal S3x128 .f32) (b : Vec Ideal S1x128 .f32) (j : S4096x128.Idx) : EReal :=
  have hj : (j 0).val < 4096 := (j 0).isLt
  taps (pad x (ix2 ⟨(j 0).val + 7, by omega⟩ (j 1))) (pad x (ix2 ⟨(j 0).val + 8, by omega⟩ (j 1))) (pad x (ix2 ⟨(j 0).val + 9, by omega⟩ (j 1)))
    (w (ix2 0 (j 1))) (w (ix2 1 (j 1))) (w (ix2 2 (j 1))) (b (ix2 0 (j 1)))

/-- The gate's output at a row and lane of a strip. -/
def gated (x0 x1 : Vec Ideal S4096x128 .bf16) (w0 w1 : Vec Ideal S3x128 .f32) (b0 b1 : Vec Ideal S1x128 .f32) : Vec Ideal S4096x128 .bf16 :=
  fun j => glu (mixed x0 w0 b0 j) (mixed x1 w1 b1 j)

/-- What one trip computes from the taps it loads, at an index. -/
theorem pay_at (v28 v29 : Vec Ideal S3x128 .f32) (v30 v31 : Vec Ideal S1x128 .f32) (a0 a1 a2 b0 b1 b2 : Vec Ideal S128x128 .f32) (p l : Fin 128) :
    k0_pay1 (F := Ideal) v29 v31 (k0_pay2 v28 v30 a0 a1 a2) b0 b1 b2 (k0_pay3 v29) (ix2 p l)
      = glu (taps (a0 (ix2 p l)) (a1 (ix2 p l)) (a2 (ix2 p l)) (v28 (ix2 0 l)) (v28 (ix2 1 l)) (v28 (ix2 2 l)) (v30 (ix2 0 l)))
          (taps (b0 (ix2 p l)) (b1 (ix2 p l)) (b2 (ix2 p l)) (v29 (ix2 0 l)) (v29 (ix2 1 l)) (v29 (ix2 2 l)) (v31 (ix2 0 l))) := by
  pointwise [k0_pay1, k0_pay2, k0_pay3, glu, logi, taps]
  rw [zero_sub]

/-- Where each trip loads and stores: rows `128 k`, seven, eight and nine rows on in the padded strip. -/
theorem offs : ∀ k : Fin k0_t1_loop.trips, k0_off1 k 4294967295#32 = ![128 * k.val + 7, 0] ∧ k0_off1 k 0#32 = ![128 * k.val + 8, 0]
    ∧ k0_off1 k 1#32 = ![128 * k.val + 9, 0] ∧ k0_off2 k = ![128 * k.val, 0] ∧ k.val < 32 := by
  decide +kernel

/-- A load of 128 rows of a strip that reads `pad x`. -/
theorem load_at (v : Memref sig .tc .vmem S4112x128 .f32) (X : BufTy.Contents (Elt Ideal) v.view.ty) (x : Vec Ideal S4096x128 .bf16)
    (hX : ∀ y, v.view.read (Elt Ideal) X y = pad x y) (off : Fin 2 → ℕ) (inb : ∀ a, off a + S128x128.size a ≤ S4112x128.size a) (o : ℕ)
    (ho : off = ![o, 0]) (p l : Fin 128) (r : Fin 4112) (hr : r.val = o + p.val) :
    v.view.readAt (Elt Ideal) (Rect.unit (s := S4112x128) off S128x128.size inb).toLoadRect X (ix2 p l) = pad x (ix2 r l) := by
  subst ho
  refine (hX _).trans (congrArg (pad x) ?_)
  funext a
  refine Fin.ext ?_
  match a with
  | 0 => show o + 1 * p.val = r.val; omega
  | 1 => show 0 + 1 * l.val = l.val; omega

/-- The rows trip `n` stores. -/
theorem store_rows (n : ℕ) (hk : n < k0_t1_loop.trips) (y : S4096x128.Idx) (h : 128 * n ≤ (y 0).val) (hy : (y 0).val < 128 * (n + 1)) :
    y ∈ (Rect.unit (s := S4096x128) (k0_off2 ⟨n, hk⟩) S128x128.size (k0_off2_inb ⟨n, hk⟩)).set := by
  obtain ⟨-, -, -, o3, -⟩ := offs ⟨n, hk⟩
  have hl : (y 1).val < 128 := (y 1).isLt
  refine Rect.mem_set_unit.mpr fun a => ?_
  rw [o3]
  match a with
  | 0 => exact ⟨h, hy⟩
  | 1 => exact ⟨Nat.zero_le _, (Nat.zero_add 128).symm ▸ hl⟩

/-- A strip stored eight rows down, with zeros stored before and after it, reads the padded strip. -/
theorem fill_at (v : Memref sig .tc .vmem S4112x128 .f32) (f : BufTy.Contents (Elt Ideal) v.view.ty) (x : Vec Ideal S4096x128 .bf16)
    (w : Vec Ideal S4096x128 .f32) (z1 z0 : Vec Ideal S8x128 .f32) (hw : ∀ z, w z = x z) (h0 : ∀ z, z0 z = (0 : EReal)) (h1 : ∀ z, z1 z = (0 : EReal))
    (y : S4112x128.Idx) :
    v.view.read (Elt Ideal) (v.view.writes (Elt Ideal) f
      [⟨Rect.unit (s := S4112x128) ![8, 0] S4096x128.size inb_S4112x128_S4096x128_8_0, w⟩,
        ⟨Rect.unit (s := S4112x128) ![4104, 0] S8x128.size inb_S4112x128_S8x128_4104_0, z1⟩,
        ⟨Rect.unit (s := S4112x128) ![0, 0] S8x128.size inb_S4112x128_S8x128_0_0, z0⟩]) y = pad x y := by
  have by0 : (y 0).val < 4112 := (y 0).isLt
  have by1 : (y 1).val < 128 := (y 1).isLt
  by_cases ha : 8 ≤ (y 0).val ∧ (y 0).val < 4104
  · have hy : (Rect.unit (s := S4112x128) ![8, 0] S4096x128.size inb_S4112x128_S4096x128_8_0).emb (ix2 ⟨(y 0).val - 8, by omega⟩ (y 1)) = y :=
      funext fun | 0 => Fin.ext (by show 8 + 1 * ((y 0).val - 8) = (y 0).val; omega) | 1 => Fin.ext (by show 0 + 1 * (y 1).val = (y 1).val; omega)
    refine (View.read_writes_cons_hit v.view f _ _ _ _ y hy).trans ((hw _).trans ?_)
    unfold pad
    rw [dif_pos ha]
  · refine (View.read_writes_cons_miss_of_axis v.view f _ _ y 0 8 4096 rfl rfl rfl (by omega)).trans (Eq.trans ?_ (dif_neg ha).symm)
    by_cases hb : 4104 ≤ (y 0).val
    · have hy : (Rect.unit (s := S4112x128) ![4104, 0] S8x128.size inb_S4112x128_S8x128_4104_0).emb (ix2 ⟨(y 0).val - 4104, by omega⟩ (y 1)) = y :=
        funext fun | 0 => Fin.ext (by show 4104 + 1 * ((y 0).val - 4104) = (y 0).val; omega) | 1 => Fin.ext (by show 0 + 1 * (y 1).val = (y 1).val; omega)
      exact (View.read_writes_cons_hit v.view f _ _ _ _ y hy).trans (h1 _)
    · refine (View.read_writes_cons_miss_of_axis v.view f _ _ y 0 4104 8 rfl rfl rfl (by omega)).trans ?_
      have hy : (Rect.unit (s := S4112x128) ![0, 0] S8x128.size inb_S4112x128_S8x128_0_0).emb (ix2 ⟨(y 0).val, by omega⟩ (y 1)) = y :=
        funext fun | 0 => Fin.ext (by show 0 + 1 * (y 0).val = (y 0).val; omega) | 1 => Fin.ext (by show 0 + 1 * (y 1).val = (y 1).val; omega)
      exact (View.read_writes_cons_hit v.view f _ _ _ _ y hy).trans (h0 _)

section body
variable (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S3x128 .f32) (harg3 : arg3.IsWhole) (arg4 : Memref sig .tc .vmem S3x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4096x128 .bf16) (harg7 : arg7.IsWhole) (arg8 : Memref sig .tc .vmem S4112x128 .f32) (harg8 : arg8.IsWhole) (arg9 : Memref sig .tc .vmem S4112x128 .f32) (harg9 : arg9.IsWhole)

/-- The first strip's scratch, once filled, reads the padded strip. -/
theorem fill_a (x0 : Vec Ideal S4096x128 .bf16) (y : S4112x128.Idx) :
    arg8.view.read (Elt Ideal) (arg8.view.writes (Elt Ideal) arg8.view.junk (kernelRun0_A.sl.HS0_3 (F := Ideal) c arg1 harg1 x0)) y = pad x0 y := by
  unfold kernelRun0_A.sl.HS0_3
  refine fill_at arg8 _ x0 _ _ _ (fun z => ?_) (fun z => ?_) (fun z => ?_) y
  · rw [(View.readAt_full _ _ _).trans (harg1.read_unread x0)]
    pointwise [k0_pay6]
  · pointwise [k0_pay4]
  · pointwise [k0_pay5]

/-- The second strip's scratch, once filled, reads the padded strip. -/
theorem fill_b (x1 : Vec Ideal S4096x128 .bf16) (y : S4112x128.Idx) :
    arg9.view.read (Elt Ideal) (arg9.view.writes (Elt Ideal) arg9.view.junk (kernelRun0_A.sl.HS1_3 (F := Ideal) c arg2 harg2 x1)) y = pad x1 y := by
  unfold kernelRun0_A.sl.HS1_3
  refine fill_at arg9 _ x1 _ _ _ (fun z => ?_) (fun z => ?_) (fun z => ?_) y
  · rw [(View.readAt_full _ _ _).trans (harg2.read_unread x1)]
    pointwise [k0_pay9]
  · pointwise [k0_pay7]
  · pointwise [k0_pay8]

section trips
variable (v28 v29 : Vec Ideal S3x128 .f32) (v30 v31 : Vec Ideal S1x128 .f32) (X8 : BufTy.Contents (Elt Ideal) arg8.view.ty) (X9 : BufTy.Contents (Elt Ideal) arg9.view.ty)
  (x0 x1 : Vec Ideal S4096x128 .bf16) (h8 : ∀ y, arg8.view.read (Elt Ideal) X8 y = pad x0 y) (h9 : ∀ y, arg9.view.read (Elt Ideal) X9 y = pad x1 y)

/-- One trip's store. -/
theorem trip_list (k : Fin k0_t1_loop.trips) :
    tripL_k0_t1 (F := Ideal) Variants.none c none i arg1 harg1 arg2 harg2 arg3 harg3 arg4 harg4 arg5 harg5 arg6 harg6 arg7 harg7 arg8 harg8 arg9 harg9 v28 v29 v30 v31 X8 X9 k
      = [⟨Rect.unit (s := S4096x128) (k0_off2 k) S128x128.size (k0_off2_inb k),
          k0_pay1 v29 v31 (k0_pay2 v28 v30
              (arg8.view.readAt (Elt Ideal) (Rect.unit (s := S4112x128) (k0_off1 k 4294967295#32) S128x128.size (k0_off1_inb k 0)).toLoadRect X8)
              (arg8.view.readAt (Elt Ideal) (Rect.unit (s := S4112x128) (k0_off1 k 0#32) S128x128.size (k0_off1_inb k 1)).toLoadRect X8)
              (arg8.view.readAt (Elt Ideal) (Rect.unit (s := S4112x128) (k0_off1 k 1#32) S128x128.size (k0_off1_inb k 2)).toLoadRect X8))
            (arg9.view.readAt (Elt Ideal) (Rect.unit (s := S4112x128) (k0_off1 k 4294967295#32) S128x128.size (k0_off1_inb k 0)).toLoadRect X9)
            (arg9.view.readAt (Elt Ideal) (Rect.unit (s := S4112x128) (k0_off1 k 0#32) S128x128.size (k0_off1_inb k 1)).toLoadRect X9)
            (arg9.view.readAt (Elt Ideal) (Rect.unit (s := S4112x128) (k0_off1 k 1#32) S128x128.size (k0_off1_inb k 2)).toLoadRect X9)
            (k0_pay3 v29)⟩] := by
  unfold tripL_k0_t1 trip_k0_t1
  rfl

/-- Equal taps give equal sums. -/
theorem taps_congr {a a' b b' c c' : EReal} (u v w d : EReal) (ha : a = a') (hb : b = b') (hc : c = c') : taps a b c u v w d = taps a' b' c' u v w d := by
  rw [ha, hb, hc]

include h8 h9
/-- What one trip stores is the gate's output at the place it is stored. -/
theorem trip_val (k : Fin k0_t1_loop.trips) (z : S128x128.Idx) (j : S4096x128.Idx) (h0 : (j 0).val = 128 * k.val + (z 0).val) (h1 : (j 1).val = (z 1).val) :
    k0_pay1 (F := Ideal) v29 v31 (k0_pay2 v28 v30
              (arg8.view.readAt (Elt Ideal) (Rect.unit (s := S4112x128) (k0_off1 k 4294967295#32) S128x128.size (k0_off1_inb k 0)).toLoadRect X8)
              (arg8.view.readAt (Elt Ideal) (Rect.unit (s := S4112x128) (k0_off1 k 0#32) S128x128.size (k0_off1_inb k 1)).toLoadRect X8)
              (arg8.view.readAt (Elt Ideal) (Rect.unit (s := S4112x128) (k0_off1 k 1#32) S128x128.size (k0_off1_inb k 2)).toLoadRect X8))
            (arg9.view.readAt (Elt Ideal) (Rect.unit (s := S4112x128) (k0_off1 k 4294967295#32) S128x128.size (k0_off1_inb k 0)).toLoadRect X9)
            (arg9.view.readAt (Elt Ideal) (Rect.unit (s := S4112x128) (k0_off1 k 0#32) S128x128.size (k0_off1_inb k 1)).toLoadRect X9)
            (arg9.view.readAt (Elt Ideal) (Rect.unit (s := S4112x128) (k0_off1 k 1#32) S128x128.size (k0_off1_inb k 2)).toLoadRect X9)
            (k0_pay3 v29) z = glu (mixed x0 v28 v30 j) (mixed x1 v29 v31 j) := by
  obtain ⟨o0, o1, o2, -, hk⟩ := offs k
  have hr : ∀ p : Fin 128, 128 * k.val + p.val < 4096 := fun p => by omega
  obtain ⟨p, hp⟩ : ∃ p : Fin 128, p = z 0 := ⟨_, rfl⟩
  obtain ⟨l, hl⟩ : ∃ l : Fin 128, l = z 1 := ⟨_, rfl⟩
  have hz : (z : S128x128.Idx) = ix2 p l := by rw [hp, hl]; idx_ext
  subst hz
  have b0 : p.val < 128 := p.isLt
  have g0 : (j 0).val = 128 * k.val + p.val := h0
  have hj : j = ix2 ⟨128 * k.val + p.val, hr p⟩ l := funext fun | 0 => Fin.ext g0 | 1 => Fin.ext h1
  subst hj
  refine (pay_at _ _ _ _ _ _ _ _ _ _ p l).trans (congr (congrArg glu ?_) ?_)
  · exact taps_congr _ _ _ _ (load_at arg8 X8 x0 h8 _ _ _ o0 p l _ (by show 128 * k.val + p.val + 7 = _; omega))
      (load_at arg8 X8 x0 h8 _ _ _ o1 p l _ (by show 128 * k.val + p.val + 8 = _; omega))
      (load_at arg8 X8 x0 h8 _ _ _ o2 p l _ (by show 128 * k.val + p.val + 9 = _; omega))
  · exact taps_congr _ _ _ _ (load_at arg9 X9 x1 h9 _ _ _ o0 p l _ (by show 128 * k.val + p.val + 7 = _; omega))
      (load_at arg9 X9 x1 h9 _ _ _ o1 p l _ (by show 128 * k.val + p.val + 8 = _; omega))
      (load_at arg9 X9 x1 h9 _ _ _ o2 p l _ (by show 128 * k.val + p.val + 9 = _; omega))

/-- What the trips before `n` store is the gate's output at the place it is stored. -/
theorem trips_val (n : ℕ) (hn : n ≤ 32) : ∀ p ∈ pb_k0_t1 (F := Ideal) Variants.none c none i arg1 harg1 arg2 harg2 arg3 harg3 arg4 harg4 arg5 harg5 arg6 harg6 arg7 harg7 arg8 harg8 arg9 harg9 v28 v29 v30 v31 X8 X9 n,
    ∀ z : p.1.shape.Idx, p.2 z = glu (mixed x0 v28 v30 (p.1.emb z)) (mixed x1 v29 v31 (p.1.emb z)) := by
  induction n with
  | zero => intro p hp; exact absurd hp List.not_mem_nil
  | succ n ih =>
    have hk : n < k0_t1_loop.trips := by have : k0_t1_loop.trips = 32 := by decide +kernel
                                         omega
    have e := pb_k0_t1_succ (F := Ideal) Variants.none c none i arg1 harg1 arg2 harg2 arg3 harg3 arg4 harg4 arg5 harg5 arg6 harg6 arg7 harg7 arg8 harg8 arg9 harg9 v28 v29 v30 v31 X8 X9 ⟨n, hk⟩
    rw [trip_list] at e
    intro p hp
    rw [show pb_k0_t1 (F := Ideal) Variants.none c none i arg1 harg1 arg2 harg2 arg3 harg3 arg4 harg4 arg5 harg5 arg6 harg6 arg7 harg7 arg8 harg8 arg9 harg9 v28 v29 v30 v31 X8 X9 (n + 1) = _ from e] at hp
    rcases List.mem_append.mp hp with hp | hp
    · obtain rfl := List.mem_singleton.mp hp
      intro z
      obtain ⟨-, -, -, o3, -⟩ := offs ⟨n, hk⟩
      refine trip_val arg8 arg9 v28 v29 v30 v31 X8 X9 x0 x1 h8 h9 ⟨n, hk⟩ z _ ?_ ?_
      · exact (congrArg (· + 1 * (z 0).val) (congrFun o3 0)).trans (congrArg (128 * n + ·) (Nat.one_mul _))
      · exact (congrArg (· + 1 * (z 1).val) (congrFun o3 1)).trans ((congrArg (0 + ·) (Nat.one_mul _)).trans (Nat.zero_add _))
    · exact ih (by omega) p hp

omit h8 h9 in
/-- The trips before `n` store every row before `128 n`. -/
theorem trips_cover (n : ℕ) (hn : n ≤ 32) (y : S4096x128.Idx) (hy : (y 0).val < 128 * n) :
    ∃ p ∈ pb_k0_t1 (F := Ideal) Variants.none c none i arg1 harg1 arg2 harg2 arg3 harg3 arg4 harg4 arg5 harg5 arg6 harg6 arg7 harg7 arg8 harg8 arg9 harg9 v28 v29 v30 v31 X8 X9 n, y ∈ p.1.set := by
  induction n with
  | zero => omega
  | succ n ih =>
    have hk : n < k0_t1_loop.trips := by have : k0_t1_loop.trips = 32 := by decide +kernel
                                         omega
    have e := pb_k0_t1_succ (F := Ideal) Variants.none c none i arg1 harg1 arg2 harg2 arg3 harg3 arg4 harg4 arg5 harg5 arg6 harg6 arg7 harg7 arg8 harg8 arg9 harg9 v28 v29 v30 v31 X8 X9 ⟨n, hk⟩
    rw [trip_list] at e
    rw [show pb_k0_t1 (F := Ideal) Variants.none c none i arg1 harg1 arg2 harg2 arg3 harg3 arg4 harg4 arg5 harg5 arg6 harg6 arg7 harg7 arg8 harg8 arg9 harg9 v28 v29 v30 v31 X8 X9 (n + 1) = _ from e]
    by_cases h : (y 0).val < 128 * n
    · obtain ⟨p, hp, hm⟩ := ih (by omega) h
      exact ⟨p, List.mem_append_right _ hp, hm⟩
    · exact ⟨_, List.mem_append_left _ (List.mem_singleton.mpr rfl), store_rows n hk y (Nat.le_of_not_lt h) hy⟩
end trips

/-- What the body leaves in its output block. -/
theorem body_out (x0 x1 : Vec Ideal S4096x128 .bf16) (x2 x3 : Vec Ideal S3x128 .f32) (x4 x5 : Vec Ideal S1x128 .f32) (y : S4096x128.Idx) :
    out0_A_6 (F := Ideal) c i arg1 harg1 arg2 harg2 arg3 harg3 arg4 harg4 arg5 harg5 arg6 harg6 arg7 harg7 arg8 harg8 arg9 harg9 x0 x1 x2 x3 x4 x5 y = glu (mixed x0 x2 x4 y) (mixed x1 x3 x5 y) := by
  have hl : (kernelRun0_A (F := Ideal) c i arg1 harg1 arg2 harg2 arg3 harg3 arg4 harg4 arg5 harg5 arg6 harg6 arg7 harg7 arg8 harg8 arg9 harg9 x0 x1 x2 x3 x4 x5).1
      = pb_k0_t1 (F := Ideal) Variants.none c none i arg1 harg1 arg2 harg2 arg3 harg3 arg4 harg4 arg5 harg5 arg6 harg6 arg7 harg7 arg8 harg8 arg9 harg9 x2 x3 x4 x5
        (arg8.view.writes (Elt Ideal) arg8.view.junk (kernelRun0_A.sl.HS0_3 c arg1 harg1 x0))
        (arg9.view.writes (Elt Ideal) arg9.view.junk (kernelRun0_A.sl.HS1_3 c arg2 harg2 x1)) 32 := by
    have q2 : kernelRun0_A.sl.r (F := Ideal) c arg3 harg3 x2 = x2 := by
      unfold kernelRun0_A.sl.r
      exact (View.readAt_full _ _ _).trans (harg3.read_unread x2)
    have q3 : View.readAt (Elt Ideal) arg4.view (Rect.unit ![0, 0] ![3, 128] inb_S3x128_S3x128_0_0).toLoadRect (harg4.unread x3) = x3 :=
      (View.readAt_full _ _ _).trans (harg4.read_unread x3)
    have q4 : View.readAt (Elt Ideal) arg5.view (Rect.unit ![0, 0] ![1, 128] inb_S1x128_S1x128_0_0).toLoadRect (harg5.unread x4) = x4 :=
      (View.readAt_full _ _ _).trans (harg5.read_unread x4)
    have q5 : View.readAt (Elt Ideal) arg6.view (Rect.unit ![0, 0] ![1, 128] inb_S1x128_S1x128_0_0).toLoadRect (harg6.unread x5) = x5 :=
      (View.readAt_full _ _ _).trans (harg6.read_unread x5)
    have q6 : Scf.trips (0#32) (Scalar.addi 0#32 32#32) 1#32 = 32 := by decide +kernel
    unfold kernelRun0_A
    dsimp only
    rw [q2, q3, q4, q5, q6]
  unfold out0_A_6
  rw [hl]
  refine View.read_writes_apply_of_pieces VO0_6 _ (gated x0 x1 x2 x3 x4 x5) _ ?_ y ?_
  · exact trips_val c i arg1 harg1 arg2 harg2 arg3 harg3 arg4 harg4 arg5 harg5 arg6 harg6 arg7 harg7 arg8 harg8 arg9 harg9 x2 x3 x4 x5 _ _ x0 x1 (fill_a c arg1 harg1 arg8 x0) (fill_b c arg2 harg2 arg9 x1) 32 le_rfl
  · exact trips_cover c i arg1 harg1 arg2 harg2 arg3 harg3 arg4 harg4 arg5 harg5 arg6 harg6 arg7 harg7 arg8 harg8 arg9 harg9 x2 x3 x4 x5 _ _ 32 le_rfl y (y 0).isLt

end body

section ref
open Cert.ConvFwdRefIdeal.Read (val_main_v0 val_main_v1 val_main_v2 val_main_v3 val_main_v4 val_main_v5 val_main_v6 val_main_v7 val_main_v8 val_main_v9
  val_main_v10 val_main_v11 val_main_v12 val_main_v13 val_main_v14 val_main_v15 val_main_v16 val_main_v17 val_main_v18 val_main_v19 val_main_v20
  val_main_v21 val_main_v22 val_main_v23 val_main_v24 val_main_v25 val_main_v26 val_main_v27 val_main_v28 val_main_v29 val_main_v30 val_main_cst
  val_main_call0_v0 val_main_call0_v1 val_main_call0_v2 val_main_call0_v3 val_main_call0_v4 val_main_call0_v5 val_main_call0_cst val_main_call0_cst_0)
variable (u : Vec Ideal S4096x5632 .f32) (w : Vec Ideal S3x5632 .f32) (b : Vec Ideal S1x5632 .f32)

/-- The reference's rows with a row of zeros before and after: the first row. -/
theorem rows_top (q : Fin 5632) : val_main_v1 (F := Ideal) u (ix2 0 q) = (0 : EReal) := by
  pointwise [val_main_v1, val_main_v0, val_main_cst]

/-- The reference's padded rows: the rows of the argument. -/
theorem rows_mid (r : Fin 4096) (q : Fin 5632) : val_main_v1 (F := Ideal) u (ix2 ⟨1 + r.val, by omega⟩ q) = u (ix2 r q) := by
  pointwise [val_main_v1, val_main_v0, val_main_cst]

/-- The reference's padded rows: the last row. -/
theorem rows_bot (q : Fin 5632) : val_main_v1 (F := Ideal) u (ix2 4097 q) = (0 : EReal) := by
  pointwise [val_main_v1, val_main_v0, val_main_cst]

/-- A strip padded by eight rows reads, seven rows on, the reference's padded rows. -/
theorem pad_rows (x : Vec Ideal S4096x128 .bf16) (l : Fin 128) (q : Fin 5632) (hx : ∀ r : Fin 4096, x (ix2 r l) = u (ix2 r q)) (s : ℕ) (hs : s < 4098) :
    pad x (ix2 ⟨s + 7, by omega⟩ l) = val_main_v1 (F := Ideal) u (ix2 ⟨s, hs⟩ q) := by
  unfold pad
  by_cases h : 1 ≤ s ∧ s ≤ 4096
  · refine (dif_pos (show 8 ≤ s + 7 ∧ s + 7 < 4104 by omega)).trans ?_
    obtain ⟨r, rfl⟩ : ∃ r, s = 1 + r := ⟨s - 1, by omega⟩
    refine Eq.trans ?_ ((hx ⟨r, by omega⟩).trans (rows_mid u ⟨r, by omega⟩ q).symm)
    exact congrArg x (funext fun | 0 => Fin.ext (by show 1 + r + 7 - 8 = r; omega) | 1 => rfl)
  · refine (dif_neg (show ¬(8 ≤ s + 7 ∧ s + 7 < 4104) by omega)).trans ?_
    by_cases h0 : s = 0
    · subst h0
      exact (rows_top u q).symm
    · obtain rfl : s = 4097 := by omega
      exact (rows_bot u q).symm

/-- The reference's mixed rows at an index. -/
theorem ref_mixed (r : Fin 4096) (q : Fin 5632) : val_main_v25 (F := Ideal) u w b (ix2 r q)
    = taps (val_main_v1 (F := Ideal) u (ix2 ⟨r.val, by omega⟩ q)) (val_main_v1 (F := Ideal) u (ix2 ⟨r.val + 1, by omega⟩ q))
        (val_main_v1 (F := Ideal) u (ix2 ⟨r.val + 2, by omega⟩ q)) (w (ix2 0 q)) (w (ix2 1 q)) (w (ix2 2 q)) (b (ix2 0 q)) := by
  pointwise [taps, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v6, val_main_v5, val_main_v4, val_main_v3, val_main_v2]
  simp only [Nat.add_comm]

/-- The reference's result at an index. -/
theorem ref_out (r : Fin 4096) (l : Fin 2816) : val_main_v30 (F := Ideal) u w b (ix2 r l)
    = glu (val_main_v25 (F := Ideal) u w b (ix2 r ⟨l.val, by omega⟩)) (val_main_v25 (F := Ideal) u w b (ix2 r ⟨2816 + l.val, by omega⟩)) := by
  pointwise [glu, logi, val_main_v30, val_main_v29, val_main_v28, val_main_v27, val_main_v26, val_main_call0_v5, val_main_call0_v4, val_main_call0_v3,
    val_main_call0_v2, val_main_call0_v1, val_main_call0_v0, val_main_call0_cst, val_main_call0_cst_0]

/-- A strip's mixed rows are the reference's in the strip's columns. -/
theorem mixed_ref (x : Vec Ideal S4096x128 .bf16) (w' : Vec Ideal S3x128 .f32) (b' : Vec Ideal S1x128 .f32) (r : Fin 4096) (l : Fin 128) (q : Fin 5632)
    (hx : ∀ r : Fin 4096, x (ix2 r l) = u (ix2 r q)) (hw : ∀ k : Fin 3, w' (ix2 k l) = w (ix2 k q)) (hb : b' (ix2 0 l) = b (ix2 0 q)) :
    mixed x w' b' (ix2 r l) = val_main_v25 (F := Ideal) u w b (ix2 r q) := by
  rw [ref_mixed]
  refine Eq.trans ?_ (taps_congr _ _ _ _ (pad_rows u x l q hx r.val (by omega)) (pad_rows u x l q hx (r.val + 1) (by omega)) (pad_rows u x l q hx (r.val + 2) (by omega)))
  rw [← hw 0, ← hw 1, ← hw 2, ← hb]
  rfl
end ref

section run
variable (m : (ℓ : Loc nD τ sig) → Buf (Elt Ideal) ℓ) (c : Dev nD)
open Cert.ConvFwdRefIdeal.Read (val_main_v30 val_main_v30_eq)

/-- The rows the call mixes. -/
abbrev aU : Vec Ideal S4096x5632 .f32 := m ((c : Thread nD τ).loc main_arg0)

/-- The taps' weights. -/
abbrev aW : Vec Ideal S3x5632 .f32 := m ((c : Thread nD τ).loc main_arg1)

/-- The bias. -/
abbrev aB : Vec Ideal S1x5632 .f32 := m ((c : Thread nD τ).loc main_arg2)

/-- What the call finds in its first array. -/
theorem found : (V m c main_v0 : Vec Ideal S4096x5632 .bf16) = aU m c := by
  dsimp only [V, hostOps0]
  after_results_simp <;> rfl

/-- Which block each window is at: strip `t`, and 22 strips on for the value. -/
theorem moves : ∀ t : Fin cfg0.N, win0_0.index t = ![0, t.val] ∧ win0_1.index t = ![0, t.val + 22] ∧ win0_2.index t = ![0, t.val]
    ∧ win0_3.index t = ![0, t.val + 22] ∧ win0_4.index t = ![0, t.val] ∧ win0_5.index t = ![0, t.val + 22] ∧ win0_6.index t = ![0, t.val] :=
  (by decide +kernel : ∀ t : Fin grid0.N, _)

variable (t : Fin cfg0.N) (l : Fin 128) (q : Fin 5632)

/-- The gate's strip, its weights and its bias. -/
theorem gate_blk (hq : q.val = t.val * 128 + l.val) : (∀ r : Fin 4096, iblk m c 0 t (ix2 r l) = aU m c (ix2 r q))
    ∧ (∀ k : Fin 3, iblk m c 2 t (ix2 k l) = aW m c (ix2 k q)) ∧ iblk m c 4 t (ix2 (0 : Fin 1) l) = aB m c (ix2 (0 : Fin 1) q) := by
  obtain ⟨e0, -, e2, -, e4, -, -⟩ := moves t
  refine ⟨fun r => ?_, fun k => ?_, ?_⟩
  · blk_simp [iblk]
    rw [found]
    refine congrArg _ ?_
    blk_ext [e0, hq]
  · blk_simp [iblk]
    rw [V_main_arg1]
    refine congrArg _ ?_
    blk_ext [e2, hq]
  · blk_simp [iblk]
    rw [V_main_arg2]
    refine congrArg _ ?_
    blk_ext [e4, hq]

/-- The value's strip, its weights and its bias. -/
theorem value_blk (hq : q.val = (t.val + 22) * 128 + l.val) : (∀ r : Fin 4096, iblk m c 1 t (ix2 r l) = aU m c (ix2 r q))
    ∧ (∀ k : Fin 3, iblk m c 3 t (ix2 k l) = aW m c (ix2 k q)) ∧ iblk m c 5 t (ix2 (0 : Fin 1) l) = aB m c (ix2 (0 : Fin 1) q) := by
  obtain ⟨-, e1, -, e3, -, e5, -⟩ := moves t
  refine ⟨fun r => ?_, fun k => ?_, ?_⟩
  · blk_simp [iblk]
    rw [found]
    refine congrArg _ ?_
    blk_ext [e1, hq]
  · blk_simp [iblk]
    rw [V_main_arg1]
    refine congrArg _ ?_
    blk_ext [e3, hq]
  · blk_simp [iblk]
    rw [V_main_arg2]
    refine congrArg _ ?_
    blk_ext [e5, hq]

/-- The call's result is the reference's. -/
theorem arr_out : (dats m 0 c).arrAt 6 cfg0.N = val_main_v30 (F := Ideal) (aU m c) (aW m c) (aB m c) := by
  refine (dats m 0 c).arrAt_eq_of_covers 6 _ (by decide +kernel) fun t hf y => ?_
  blk_simp
  rw [after0_6]
  have h0 : (((View.whole main_v1).slice (win0_6.rect t)).emb y 0).val = (y 0).val := by blk_simp [(moves t).2.2.2.2.2.2]
  have h1 : (((View.whole main_v1).slice (win0_6.rect t)).emb y 1).val = t.val * 128 + (y 1).val := by blk_simp [(moves t).2.2.2.2.2.2]
  idx_bounds y
  have ht : t.val < 22 := t.isLt
  have hy : (y : S4096x128.Idx) = ix2 (y 0) (y 1) := by idx_ext
  have hv : val_main_v30 (F := Ideal) (aU m c) (aW m c) (aB m c) (((View.whole main_v1).slice (win0_6.rect t)).emb y)
      = val_main_v30 (F := Ideal) (aU m c) (aW m c) (aB m c) (ix2 (y 0) ⟨t.val * 128 + (y 1).val, by omega⟩) :=
    congrArg (val_main_v30 (F := Ideal) (aU m c) (aW m c) (aB m c)) (funext fun | 0 => Fin.ext h0 | 1 => Fin.ext h1)
  obtain ⟨g0, g1, g2⟩ := gate_blk m c t (y 1) ⟨t.val * 128 + (y 1).val, by omega⟩ rfl
  obtain ⟨k0, k1, k2⟩ := value_blk m c t (y 1) ⟨2816 + (t.val * 128 + (y 1).val), by omega⟩ (by show 2816 + (t.val * 128 + (y 1).val) = _; omega)
  refine Eq.trans ?_ hv.symm
  refine Eq.trans ?_ (ref_out _ _ _ (y 0) ⟨t.val * 128 + (y 1).val, by omega⟩).symm
  refine Eq.trans ?_ (congr (congrArg glu (mixed_ref _ _ _ _ _ _ (y 0) (y 1) _ g0 g1 g2)) (mixed_ref _ _ _ _ _ _ (y 0) (y 1) _ k0 k1 k2))
  refine (body_out _ _ _ _ _ _ _ _ _ _ _ _ _ _ _ _ _ _ _ _ _ _ _ _ _ _ y).trans ?_
  exact congr (congrArg glu (congrArg (mixed _ _ _) hy)) (congrArg (mixed _ _ _) hy)
end run

section result
open Cert.ConvFwdRefIdeal.Read (val_main_v30 val_main_v30_eq)

/-- The call's result is the reference's. -/
theorem equal : Cert.algebraic_ConvFwdIdeal_ConvFwdRefIdeal := by
  intro m ρ m' ρ' _ hag
  refine ⟨fun c => val_main_v30 (F := Ideal) (aU m c) (aW m c) (aB m c), ?_, ?_⟩
  · refine (θ_run _ _ _).mono (fun r h c => ?_) (Cert.ConvFwdIdeal.Value.run_blocks m ρ)
    obtain ⟨h0, ha⟩ := h c
    exact ⟨h0.trans (arr_out m c), ha⟩
  · refine (θ_run _ _ _).mono (fun r h c => ?_) (Cert.ConvFwdRefIdeal.Value.run m' ρ')
    obtain ⟨h0, ha⟩ := h c
    obtain ⟨g0, g1, g2⟩ := hag c
    exact ⟨(h0.trans (val_main_v30_eq _ _)).trans (congr (congr (congrArg (val_main_v30 (F := Ideal)) g0) g1) g2), ha⟩
end result

end Cert.Proof.ConvFwd
end
-- ==== Proof.Prod.lean ====
module

public import proofs.«01_k».proof.Defs
public import proofs.«01_k».proof.Proof.Gen.ProdIdeal.Value
public import proofs.«01_k».proof.Proof.Gen.ProdRefIdeal.Run
public import proofs.«01_k».proof.Proof.Gen.ProdRefIdeal.Read
public import Idealize.ShloMosaic.Lib.Pipeline.ValueKit
public import Idealize.ShloMosaic.Lib.Pipeline.ReadBack

@[expose] public section

set_option maxRecDepth 16384

noncomputable section

namespace Cert.Proof.Prod

open Idealize.ShloMosaic Idealize.ShloMosaic.TcCoe Idealize.SL.Sem
open Cert.ProdIdeal Cert.ProdIdeal.Gen
open Cert.ProdRefIdeal.Read (val_main_v0 val_main_v1 val_main_v1_eq)

/-- One entry of the product. -/
def entry (h : Vec Ideal S4096x1024 .f32) (w : Vec Ideal S1024x5632 .f32) (i : Fin 4096) (n : Fin 5632) : EReal :=
  ∑ k : Fin 1024, h (ix2 i k) * w (ix2 k n)

/-- The reference's product at an index. -/
theorem ref_at (h : Vec Ideal S4096x1024 .f32) (w : Vec Ideal S1024x5632 .f32) (i : Fin 4096) (n : Fin 5632) :
    val_main_v1 (F := Ideal) h w (ix2 i n) = entry h w i n := by
  pointwise [entry, val_main_v1, val_main_v0]

/-- The call's product of two blocks at an index. -/
theorem pay_at (a : Vec Ideal S1024x1024 .bf16) (b : Vec Ideal S1408x1024 .bf16) (r : Fin 1024) (n : Fin 1408) :
    k0_pay1 (F := Ideal) a b (ix2 r n) = ∑ k : Fin 1024, a (ix2 r k) * b (ix2 n k) := by
  pointwise [k0_pay1]

/-- The weights with their two axes exchanged. -/
def turned (w : Vec Ideal S1024x5632 .f32) : Vec Ideal S5632x1024 .f32 :=
  (transpose S5632x1024 [1, 0] w transposes_S1024x5632_S5632x1024_1_0 : (⟨S5632x1024, .f32⟩ : BufTy).Contents (Elt Ideal))

/-- The exchanged weights at an index. -/
theorem turned_at (w : Vec Ideal S1024x5632 .f32) (n : Fin 5632) (k : Fin 1024) : turned w (ix2 n k) = w (ix2 k n) := by
  pointwise [turned]

section run
variable (m : (ℓ : Loc nD τ sig) → Buf (Elt Ideal) ℓ) (c : Dev nD)

/-- The rows. -/
abbrev aH : Vec Ideal S4096x1024 .f32 := m ((c : Thread nD τ).loc main_arg0)

/-- The weights. -/
abbrev aW : Vec Ideal S1024x5632 .f32 := m ((c : Thread nD τ).loc main_arg1)

/-- What the call finds in its arrays. -/
theorem found : (V m c main_v0 : Vec Ideal S4096x1024 .bf16) = aH m c ∧ (V m c main_v2 : Vec Ideal S5632x1024 .bf16) = turned (aW m c) := by
  refine ⟨?_, ?_⟩
  · dsimp only [V, hostOps0]
    after_results_simp <;> rfl
  · dsimp only [V, hostOps0]
    after_results_simp <;> rfl

/-- Which block each window is at: row block `t / 4` and column block `t % 4`. -/
theorem moves : ∀ t : Fin cfg0.N, win0_0.index t = ![t.val / 4, 0] ∧ win0_1.index t = ![t.val % 4, 0] ∧ win0_2.index t = ![t.val / 4, t.val % 4] :=
  (by decide +kernel : ∀ t : Fin grid0.N, _)

variable (t : Fin cfg0.N)

/-- A point's rows. -/
theorem h_blk (r : Fin 1024) (k : Fin 1024) (i : Fin 4096) (hi : i.val = t.val / 4 * 1024 + r.val) : iblk m c 0 t (ix2 r k) = aH m c (ix2 i k) := by
  refine Eq.trans ?_ (congrFun (found m c).1 (ix2 i k))
  blk_simp [iblk]
  refine congrArg _ ?_
  blk_ext [(moves t).1, hi]

/-- A point's weights. -/
theorem w_blk (n : Fin 1408) (k : Fin 1024) (q : Fin 5632) (hq : q.val = t.val % 4 * 1408 + n.val) : iblk m c 1 t (ix2 n k) = aW m c (ix2 k q) := by
  refine Eq.trans ?_ ((congrFun (found m c).2 (ix2 q k)).trans (turned_at _ _ _))
  blk_simp [iblk]
  refine congrArg _ ?_
  blk_ext [(moves t).2.1, hq]

/-- What a point leaves of the product. -/
theorem out_at (r : Fin 1024) (n : Fin 1408) (i : Fin 4096) (q : Fin 5632) (hi : i.val = t.val / 4 * 1024 + r.val) (hq : q.val = t.val % 4 * 1408 + n.val) :
    out0_2 (F := Ideal) (iblk m c 0 t) (iblk m c 1 t) (ix2 r n) = val_main_v1 (F := Ideal) (aH m c) (aW m c) (ix2 i q) := by
  frame_out
  refine (pay_at _ _ r n).trans (Eq.trans ?_ (ref_at _ _ i q).symm)
  exact Finset.sum_congr rfl fun k _ => congrArg₂ (fun a b : EReal => a * b) (h_blk m c t r k i hi) (w_blk m c t n k q hq)

/-- The product after the run. -/
theorem arr_out : (dats m 0 c).arrAt 2 cfg0.N = val_main_v1 (F := Ideal) (aH m c) (aW m c) := by
  refine (dats m 0 c).arrAt_eq_of_covers 2 _ (by decide +kernel) fun t hf y => ?_
  blk_simp
  rw [after0_2]
  have h0 : (((View.whole main_v3).slice (win0_2.rect t)).emb y 0).val = t.val / 4 * 1024 + (y 0).val := by blk_simp [(moves t).2.2]
  have h1 : (((View.whole main_v3).slice (win0_2.rect t)).emb y 1).val = t.val % 4 * 1408 + (y 1).val := by blk_simp [(moves t).2.2]
  idx_bounds y
  have ht : t.val < 16 := t.isLt
  have hy : (y : S1024x1408.Idx) = ix2 (y 0) (y 1) := by idx_ext
  exact (congrArg (out0_2 (F := Ideal) (iblk m c 0 t) (iblk m c 1 t)) hy).trans
    ((out_at m c t (y 0) (y 1) ⟨t.val / 4 * 1024 + (y 0).val, by omega⟩ ⟨t.val % 4 * 1408 + (y 1).val, by omega⟩ rfl rfl).trans
      (congrArg (val_main_v1 (F := Ideal) (aH m c) (aW m c)) (funext fun | 0 => Fin.ext h0.symm | 1 => Fin.ext h1.symm)))
end run

/-- The product of the call is the reference's. -/
theorem equal : Cert.algebraic_ProdIdeal_ProdRefIdeal := by
  intro m ρ m' ρ' _ hag
  refine ⟨fun c => val_main_v1 (F := Ideal) (aH m c) (aW m c), ?_, ?_⟩
  · refine (θ_run _ _ _).mono (fun r h c => ?_) (Cert.ProdIdeal.Value.run_blocks m ρ)
    obtain ⟨h0, ha⟩ := h c
    exact ⟨h0.trans (arr_out m c), ha⟩
  · refine (θ_run _ _ _).mono (fun r h c => ?_) (Cert.ProdRefIdeal.Value.run m' ρ')
    obtain ⟨h0, ha⟩ := h c
    obtain ⟨g0, g1⟩ := hag c
    exact ⟨(h0.trans (val_main_v1_eq _ _)).trans (congr (congrArg (val_main_v1 (F := Ideal)) g0) g1), ha⟩

end Cert.Proof.Prod
end
-- ==== Proof.lean ====
/- The proof of the certificate: the witnesses of every program's stated facts, then the claims in their order. -/
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaIdeal.Value
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.Norm2
public import proofs.«01_k».proof.Proof.Gen.Norm2.Skeleton
public import proofs.«01_k».proof.Proof.Gen.Norm2.Launch
public import proofs.«01_k».proof.Proof.Gen.Norm2.Points
public import proofs.«01_k».proof.Proof.Gen.Norm2.Frame
public import proofs.«01_k».proof.Proof.Gen.Norm2Ideal
public import proofs.«01_k».proof.Proof.Gen.Norm2Ideal.Skeleton
public import proofs.«01_k».proof.Proof.Gen.Norm2Ideal.Launch
public import proofs.«01_k».proof.Proof.Gen.Norm2Ideal.Points
public import proofs.«01_k».proof.Proof.Gen.Norm2Ideal.Frame
public import proofs.«01_k».proof.Proof.Gen.Norm2Ideal.Value
public import proofs.«01_k».proof.Proof.Gen.Norm2RefIdeal
public import proofs.«01_k».proof.Proof.Gen.Norm2RefIdeal.Run
public import proofs.«01_k».proof.Proof.Gen.Norm2RefIdeal.Read
public import proofs.«01_k».proof.Proof.Gen.Norm1
public import proofs.«01_k».proof.Proof.Gen.Norm1.Skeleton
public import proofs.«01_k».proof.Proof.Gen.Norm1.Launch
public import proofs.«01_k».proof.Proof.Gen.Norm1.Points
public import proofs.«01_k».proof.Proof.Gen.Norm1.Frame
public import proofs.«01_k».proof.Proof.Gen.Norm1Ideal
public import proofs.«01_k».proof.Proof.Gen.Norm1Ideal.Skeleton
public import proofs.«01_k».proof.Proof.Gen.Norm1Ideal.Launch
public import proofs.«01_k».proof.Proof.Gen.Norm1Ideal.Points
public import proofs.«01_k».proof.Proof.Gen.Norm1Ideal.Frame
public import proofs.«01_k».proof.Proof.Gen.Norm1Ideal.Value
public import proofs.«01_k».proof.Proof.Gen.Norm1RefIdeal
public import proofs.«01_k».proof.Proof.Gen.Norm1RefIdeal.Run
public import proofs.«01_k».proof.Proof.Gen.Norm1RefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Lat
public import proofs.«01_k».proof.Proof.Gen.Lat.Skeleton
public import proofs.«01_k».proof.Proof.Gen.Lat.Launch
public import proofs.«01_k».proof.Proof.Gen.Lat.Points
public import proofs.«01_k».proof.Proof.Gen.Lat.Frame
public import proofs.«01_k».proof.Proof.Gen.LatIdeal
public import proofs.«01_k».proof.Proof.Gen.LatIdeal.Skeleton
public import proofs.«01_k».proof.Proof.Gen.LatIdeal.Launch
public import proofs.«01_k».proof.Proof.Gen.LatIdeal.Points
public import proofs.«01_k».proof.Proof.Gen.LatIdeal.Frame
public import proofs.«01_k».proof.Proof.Gen.LatIdeal.Value
public import proofs.«01_k».proof.Proof.Gen.LatRefIdeal
public import proofs.«01_k».proof.Proof.Gen.LatRefIdeal.Run
public import proofs.«01_k».proof.Proof.Gen.LatRefIdeal.Read
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasIdeal.Value
public import proofs.«01_k».proof.Proof.Gen.BiasRefIdeal
public import proofs.«01_k».proof.Proof.Gen.BiasRefIdeal.Run
public import proofs.«01_k».proof.Proof.Gen.BiasRefIdeal.Read
public import proofs.«01_k».proof.Proof.Gen.MlaFwd
public import proofs.«01_k».proof.Proof.Gen.MlaFwd.Skeleton
public import proofs.«01_k».proof.Proof.Gen.MlaFwd.Launch
public import proofs.«01_k».proof.Proof.Gen.MlaFwd.Points
public import proofs.«01_k».proof.Proof.Gen.MlaFwd.Frame
public import proofs.«01_k».proof.Proof.Gen.MlaFwdIdeal
public import proofs.«01_k».proof.Proof.Gen.MlaFwdIdeal.Skeleton
public import proofs.«01_k».proof.Proof.Gen.MlaFwdIdeal.Launch
public import proofs.«01_k».proof.Proof.Gen.MlaFwdIdeal.Points
public import proofs.«01_k».proof.Proof.Gen.MlaFwdIdeal.Frame
public import proofs.«01_k».proof.Proof.Gen.MlaFwdIdeal.Value
public import proofs.«01_k».proof.Proof.Gen.MlaFwdRefIdeal
public import proofs.«01_k».proof.Proof.Gen.MlaFwdRefIdeal.Run
public import proofs.«01_k».proof.Proof.Gen.MlaFwdRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.LatFwd
public import proofs.«01_k».proof.Proof.Gen.LatFwd.Skeleton
public import proofs.«01_k».proof.Proof.Gen.LatFwd.Launch
public import proofs.«01_k».proof.Proof.Gen.LatFwd.Points
public import proofs.«01_k».proof.Proof.Gen.LatFwd.Frame
public import proofs.«01_k».proof.Proof.Gen.LatFwdIdeal
public import proofs.«01_k».proof.Proof.Gen.LatFwdIdeal.Skeleton
public import proofs.«01_k».proof.Proof.Gen.LatFwdIdeal.Launch
public import proofs.«01_k».proof.Proof.Gen.LatFwdIdeal.Points
public import proofs.«01_k».proof.Proof.Gen.LatFwdIdeal.Frame
public import proofs.«01_k».proof.Proof.Gen.LatFwdIdeal.Value
public import proofs.«01_k».proof.Proof.Gen.LatFwdRefIdeal
public import proofs.«01_k».proof.Proof.Gen.LatFwdRefIdeal.Run
public import proofs.«01_k».proof.Proof.Gen.LatFwdRefIdeal.Read
public import proofs.«01_k».proof.Proof.Gen.QUp
public import proofs.«01_k».proof.Proof.Gen.QUp.Skeleton
public import proofs.«01_k».proof.Proof.Gen.QUp.Launch
public import proofs.«01_k».proof.Proof.Gen.QUp.Points
public import proofs.«01_k».proof.Proof.Gen.QUp.Frame
public import proofs.«01_k».proof.Proof.Gen.QUpIdeal
public import proofs.«01_k».proof.Proof.Gen.QUpIdeal.Skeleton
public import proofs.«01_k».proof.Proof.Gen.QUpIdeal.Launch
public import proofs.«01_k».proof.Proof.Gen.QUpIdeal.Points
public import proofs.«01_k».proof.Proof.Gen.QUpIdeal.Frame
public import proofs.«01_k».proof.Proof.Gen.QUpIdeal.Value
public import proofs.«01_k».proof.Proof.Gen.QUpRefIdeal
public import proofs.«01_k».proof.Proof.Gen.QUpRefIdeal.Run
public import proofs.«01_k».proof.Proof.Gen.QUpRefIdeal.Read
public import proofs.«01_k».proof.Proof.Gen.KvUp
public import proofs.«01_k».proof.Proof.Gen.KvUp.Skeleton
public import proofs.«01_k».proof.Proof.Gen.KvUp.Launch
public import proofs.«01_k».proof.Proof.Gen.KvUp.Points
public import proofs.«01_k».proof.Proof.Gen.KvUp.Frame
public import proofs.«01_k».proof.Proof.Gen.KvUpIdeal
public import proofs.«01_k».proof.Proof.Gen.KvUpIdeal.Skeleton
public import proofs.«01_k».proof.Proof.Gen.KvUpIdeal.Launch
public import proofs.«01_k».proof.Proof.Gen.KvUpIdeal.Points
public import proofs.«01_k».proof.Proof.Gen.KvUpIdeal.Frame
public import proofs.«01_k».proof.Proof.Gen.KvUpIdeal.Value
public import proofs.«01_k».proof.Proof.Gen.KvUpRefIdeal
public import proofs.«01_k».proof.Proof.Gen.KvUpRefIdeal.Run
public import proofs.«01_k».proof.Proof.Gen.KvUpRefIdeal.Read
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.Prod
public import proofs.«01_k».proof.Proof.Gen.Prod.Skeleton
public import proofs.«01_k».proof.Proof.Gen.Prod.Launch
public import proofs.«01_k».proof.Proof.Gen.Prod.Points
public import proofs.«01_k».proof.Proof.Gen.Prod.Frame
public import proofs.«01_k».proof.Proof.Gen.ProdIdeal
public import proofs.«01_k».proof.Proof.Gen.ProdIdeal.Skeleton
public import proofs.«01_k».proof.Proof.Gen.ProdIdeal.Launch
public import proofs.«01_k».proof.Proof.Gen.ProdIdeal.Points
public import proofs.«01_k».proof.Proof.Gen.ProdIdeal.Frame
public import proofs.«01_k».proof.Proof.Gen.ProdIdeal.Value
public import proofs.«01_k».proof.Proof.Gen.ProdRefIdeal
public import proofs.«01_k».proof.Proof.Gen.ProdRefIdeal.Run
public import proofs.«01_k».proof.Proof.Gen.ProdRefIdeal.Read
public import proofs.«01_k».proof.Proof.Gen.Pre_mla_finite
public import proofs.«01_k».proof.Proof.Gen.Pre_norm2_finite
public import proofs.«01_k».proof.Proof.Gen.Pre_norm1_finite
public import proofs.«01_k».proof.Proof.Gen.Pre_loss_finite
public import proofs.«01_k».proof.Proof.Gen.Pre_lat_finite
public import proofs.«01_k».proof.Proof.Gen.Pre_mlaf_finite
public import proofs.«01_k».proof.Proof.Gen.On_gate_written
public import proofs.«01_k».proof.Proof.Gate
public import proofs.«01_k».proof.Proof.Mla
public import proofs.«01_k».proof.Proof.Norm2Eq
public import proofs.«01_k».proof.Proof.Norm1Eq
public import proofs.«01_k».proof.Proof.LossEq
public import proofs.«01_k».proof.Proof.LatEq
public import proofs.«01_k».proof.Proof.Bias
public import proofs.«01_k».proof.Proof.MlaFwdEq
public import proofs.«01_k».proof.Proof.OutProj
public import proofs.«01_k».proof.Proof.LatFwd
public import proofs.«01_k».proof.Proof.QUp
public import proofs.«01_k».proof.Proof.KvUp
public import proofs.«01_k».proof.Proof.ConvFwd
public import proofs.«01_k».proof.Proof.Prod
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Gate.Gen.facts, Cert.GateIdeal.Gen.facts, Cert.GateRefIdeal.Gen.facts, Cert.Mla.Gen.facts, Cert.MlaIdeal.Gen.facts, Cert.MlaRefIdeal.Gen.facts, Cert.Norm2.Gen.facts, Cert.Norm2Ideal.Gen.facts, Cert.Norm2RefIdeal.Gen.facts, Cert.Norm1.Gen.facts, Cert.Norm1Ideal.Gen.facts, Cert.Norm1RefIdeal.Gen.facts, Cert.Loss.Gen.facts, Cert.LossIdeal.Gen.facts, Cert.LossRefIdeal.Gen.facts, Cert.Lat.Gen.facts, Cert.LatIdeal.Gen.facts, Cert.LatRefIdeal.Gen.facts, Cert.Bias.Gen.facts, Cert.BiasIdeal.Gen.facts, Cert.BiasRefIdeal.Gen.facts, Cert.MlaFwd.Gen.facts, Cert.MlaFwdIdeal.Gen.facts, Cert.MlaFwdRefIdeal.Gen.facts, Cert.OutProj.Gen.facts, Cert.OutProjIdeal.Gen.facts, Cert.OutProjRefIdeal.Gen.facts, Cert.LatFwd.Gen.facts, Cert.LatFwdIdeal.Gen.facts, Cert.LatFwdRefIdeal.Gen.facts, Cert.QUp.Gen.facts, Cert.QUpIdeal.Gen.facts, Cert.QUpRefIdeal.Gen.facts, Cert.KvUp.Gen.facts, Cert.KvUpIdeal.Gen.facts, Cert.KvUpRefIdeal.Gen.facts, Cert.ConvFwd.Gen.facts, Cert.ConvFwdIdeal.Gen.facts, Cert.ConvFwdRefIdeal.Gen.facts, Cert.Prod.Gen.facts, Cert.ProdIdeal.Gen.facts, Cert.ProdRefIdeal.Gen.facts, Cert.Pre_mla_finite.Gen.facts, Cert.Pre_norm2_finite.Gen.facts, Cert.Pre_norm1_finite.Gen.facts, Cert.Pre_loss_finite.Gen.facts, Cert.Pre_lat_finite.Gen.facts, Cert.Pre_mlaf_finite.Gen.facts, Cert.On_gate_written.Gen.facts,
   fun m ρ _ => Cert.Gate.Gen.frame m ρ,
   fun m ρ _ => Cert.GateIdeal.Gen.frame m ρ,
   fun m ρ _ => (θ_run _ _ _).mono (fun r h => ⟨fun c => (h c).2.2.2, sem_eq_zero_of_no_sems rfl _⟩) (Cert.GateRefIdeal.Value.run m ρ),
   fun m ρ _ => Cert.Mla.Gen.frame m ρ,
   fun m ρ _ => Cert.MlaIdeal.Gen.frame m ρ,
   fun m ρ _ => Cert.MlaIdeal.Gen.frame m ρ,
   fun m ρ _ => (θ_run _ _ _).mono (fun r h => ⟨fun c => (h c).2.2.2.2, sem_eq_zero_of_no_sems rfl _⟩) (Cert.MlaRefIdeal.Value.run m ρ),
   fun m ρ _ => (θ_run _ _ _).mono (fun r h => ⟨fun c => (h c).2.2.2.2, sem_eq_zero_of_no_sems rfl _⟩) (Cert.MlaRefIdeal.Value.run m ρ),
   fun m ρ _ => Cert.Norm2.Gen.frame m ρ,
   fun m ρ _ => Cert.Norm2Ideal.Gen.frame m ρ,
   fun m ρ _ => Cert.Norm2Ideal.Gen.frame m ρ,
   fun m ρ _ => (θ_run _ _ _).mono (fun r h => ⟨fun c => (h c).2.2.2, sem_eq_zero_of_no_sems rfl _⟩) (Cert.Norm2RefIdeal.Value.run m ρ),
   fun m ρ _ => (θ_run _ _ _).mono (fun r h => ⟨fun c => (h c).2.2.2, sem_eq_zero_of_no_sems rfl _⟩) (Cert.Norm2RefIdeal.Value.run m ρ),
   fun m ρ _ => Cert.Norm1.Gen.frame m ρ,
   fun m ρ _ => Cert.Norm1Ideal.Gen.frame m ρ,
   fun m ρ _ => Cert.Norm1Ideal.Gen.frame m ρ,
   fun m ρ _ => (θ_run _ _ _).mono (fun r h => ⟨fun c => (h c).2.2, sem_eq_zero_of_no_sems rfl _⟩) (Cert.Norm1RefIdeal.Value.run m ρ),
   fun m ρ _ => (θ_run _ _ _).mono (fun r h => ⟨fun c => (h c).2.2, sem_eq_zero_of_no_sems rfl _⟩) (Cert.Norm1RefIdeal.Value.run m ρ),
   fun m ρ _ => Cert.Loss.Gen.frame m ρ,
   fun m ρ _ => Cert.LossIdeal.Gen.frame m ρ,
   fun m ρ _ => Cert.LossIdeal.Gen.frame m ρ,
   fun m ρ _ => (θ_run _ _ _).mono (fun r h => ⟨fun c => (h c).2.2.2.2, sem_eq_zero_of_no_sems rfl _⟩) (Cert.LossRefIdeal.Value.run m ρ),
   fun m ρ _ => (θ_run _ _ _).mono (fun r h => ⟨fun c => (h c).2.2.2.2, sem_eq_zero_of_no_sems rfl _⟩) (Cert.LossRefIdeal.Value.run m ρ),
   fun m ρ _ => Cert.Lat.Gen.frame m ρ,
   fun m ρ _ => Cert.LatIdeal.Gen.frame m ρ,
   fun m ρ _ => Cert.LatIdeal.Gen.frame m ρ,
   fun m ρ _ => (θ_run _ _ _).mono (fun r h => ⟨fun c => (h c).2.2.2, sem_eq_zero_of_no_sems rfl _⟩) (Cert.LatRefIdeal.Value.run m ρ),
   fun m ρ _ => (θ_run _ _ _).mono (fun r h => ⟨fun c => (h c).2.2.2, sem_eq_zero_of_no_sems rfl _⟩) (Cert.LatRefIdeal.Value.run m ρ),
   fun m ρ _ => Cert.Bias.Gen.frame m ρ,
   fun m ρ _ => Cert.BiasIdeal.Gen.frame m ρ,
   fun m ρ _ => (θ_run _ _ _).mono (fun r h => ⟨fun c => (h c).2, sem_eq_zero_of_no_sems rfl _⟩) (Cert.BiasRefIdeal.Value.run m ρ),
   fun m ρ _ => Cert.MlaFwd.Gen.frame m ρ,
   fun m ρ _ => Cert.MlaFwdIdeal.Gen.frame m ρ,
   fun m ρ _ => Cert.MlaFwdIdeal.Gen.frame m ρ,
   fun m ρ _ => (θ_run _ _ _).mono (fun r h => ⟨fun c => (h c).2.2, sem_eq_zero_of_no_sems rfl _⟩) (Cert.MlaFwdRefIdeal.Value.run m ρ),
   fun m ρ _ => (θ_run _ _ _).mono (fun r h => ⟨fun c => (h c).2.2, sem_eq_zero_of_no_sems rfl _⟩) (Cert.MlaFwdRefIdeal.Value.run m ρ),
   fun m ρ _ => Cert.OutProj.Gen.frame m ρ,
   fun m ρ _ => Cert.OutProjIdeal.Gen.frame m ρ,
   fun m ρ _ => (θ_run _ _ _).mono (fun r h => ⟨fun c => (h c).2.2, sem_eq_zero_of_no_sems rfl _⟩) (Cert.OutProjRefIdeal.Value.run m ρ),
   fun m ρ _ => Cert.LatFwd.Gen.frame m ρ,
   fun m ρ _ => Cert.LatFwdIdeal.Gen.frame m ρ,
   fun m ρ _ => (θ_run _ _ _).mono (fun r h => ⟨fun c => (h c).2.2.2, sem_eq_zero_of_no_sems rfl _⟩) (Cert.LatFwdRefIdeal.Value.run m ρ),
   fun m ρ _ => Cert.QUp.Gen.frame m ρ,
   fun m ρ _ => Cert.QUpIdeal.Gen.frame m ρ,
   fun m ρ _ => (θ_run _ _ _).mono (fun r h => ⟨fun c => (h c).2, sem_eq_zero_of_no_sems rfl _⟩) (Cert.QUpRefIdeal.Value.run m ρ),
   fun m ρ _ => Cert.KvUp.Gen.frame m ρ,
   fun m ρ _ => Cert.KvUpIdeal.Gen.frame m ρ,
   fun m ρ _ => (θ_run _ _ _).mono (fun r h => ⟨fun c => (h c).2.2, sem_eq_zero_of_no_sems rfl _⟩) (Cert.KvUpRefIdeal.Value.run m ρ),
   fun m ρ _ => Cert.ConvFwd.Gen.frame m ρ,
   fun m ρ _ => Cert.ConvFwdIdeal.Gen.frame m ρ,
   fun m ρ _ => (θ_run _ _ _).mono (fun r h => ⟨fun c => (h c).2, sem_eq_zero_of_no_sems rfl _⟩) (Cert.ConvFwdRefIdeal.Value.run m ρ),
   fun m ρ _ => Cert.Prod.Gen.frame m ρ,
   fun m ρ _ => Cert.ProdIdeal.Gen.frame m ρ,
   fun m ρ _ => (θ_run _ _ _).mono (fun r h => ⟨fun c => (h c).2, sem_eq_zero_of_no_sems rfl _⟩) (Cert.ProdRefIdeal.Value.run m ρ),
   trivial,
   Cert.Proof.Gate.equal,
   ⟨IdealRules.named_const.statement Cert.MlaIdeal.κ "mla_scale" .f32 0x3D93CD3A#32 (((Real.sqrt 192)⁻¹ : ℝ) : EReal) rfl,
    IdealRules.named_const.statement Cert.MlaIdeal.κ "ln2" .f32 0x3F317218#32 ((Real.log 2 : ℝ) : EReal) rfl⟩,
   Cert.Proof.Mla.equal,
   trivial,
   Cert.Proof.Norm2.equal,
   trivial,
   Cert.Proof.Norm1.equal,
   trivial,
   Cert.Proof.Loss.equal,
   trivial,
   Cert.Proof.Lat.equal,
   trivial,
   Cert.Proof.Bias.equal,
   IdealRules.named_const.statement Cert.MlaFwdIdeal.κ "inv_ln2" .f32 0x3FB8AA3B#32 (((Real.log 2)⁻¹ : ℝ) : EReal) rfl,
   Cert.Proof.MlaFwd.equal,
   trivial,
   Cert.Proof.OutProj.equal,
   trivial,
   Cert.Proof.LatFwd.equal,
   trivial,
   Cert.Proof.QUp.equal,
   trivial,
   Cert.Proof.KvUp.equal,
   trivial,
   Cert.Proof.ConvFwd.equal,
   trivial,
   Cert.Proof.Prod.equal⟩

end Cert.Proof

end
